-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_laid [hPre_segments_laid : Cert.Pre_segments_laid.Facts] (m : (ℓ : Loc Cert.KernelIdeal.nD Cert.KernelIdeal.τ Cert.KernelIdeal.sig) → Buf (Elt Ideal) ℓ) : Prop :=
  ∀ c : Dev Cert.KernelIdeal.nD,
    (Cert.Pre_segments_laid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_segments_laid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_laid [hPre_segments_laid : Cert.Pre_segments_laid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_laid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_segments_laid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_segments_laid [hKernelIdeal : Cert.KernelIdeal.Facts] [hPre_segments_laid : Cert.Pre_segments_laid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_laid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_segments_laid [hReferenceIdeal : Cert.ReferenceIdeal.Facts] [hPre_segments_laid : Cert.Pre_segments_laid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_laid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_segments_laid [hKernelIdeal : Cert.KernelIdeal.Facts] [hReferenceIdeal : Cert.ReferenceIdeal.Facts] [hPre_segments_laid : Cert.Pre_segments_laid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_laid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_segments_laid : Cert.Pre_segments_laid.Facts),
    quiescent_Kernel (hKernel := hKernel)
    ∧ quiescent_KernelIdeal (hKernelIdeal := hKernelIdeal)
    ∧ quiescent_KernelIdeal_pre_segments_laid (hKernelIdeal := hKernelIdeal) (hPre_segments_laid := hPre_segments_laid)
    ∧ quiescent_ReferenceIdeal (hReferenceIdeal := hReferenceIdeal)
    ∧ quiescent_ReferenceIdeal_pre_segments_laid (hReferenceIdeal := hReferenceIdeal) (hPre_segments_laid := hPre_segments_laid)
    ∧ preserves_Kernel_KernelIdeal
    ∧ algebraic_KernelIdeal_ReferenceIdeal_pre_segments_laid (hKernelIdeal := hKernelIdeal) (hReferenceIdeal := hReferenceIdeal) (hPre_segments_laid := hPre_segments_laid)
-- ==== Pre_segments_laid.lean ====
abbrev S100000x240 : Shape := ⟨2, ![100000, 240]⟩
abbrev S240 : Shape := ⟨1, ![240]⟩
abbrev S240x1 : Shape := ⟨2, ![240, 1]⟩
abbrev S1x240 : Shape := ⟨2, ![1, 240]⟩
abbrev S240x240 : Shape := ⟨2, ![240, 240]⟩

class Facts : Prop where
  bcast_S240_S240x1_0 : S240.BroadcastsInDim S240x1 (![0] : Fin 1 → Fin S240x1.rank)
  bcast_S240_S1x240_1 : S240.BroadcastsInDim S1x240 (![1] : Fin 1 → Fin S1x240.rank)
  bcast_S240x1_S240x240_0_1 : S240x1.BroadcastsInDim S240x240 (![0, 1] : Fin 2 → Fin S240x240.rank)
  bcast_S1x240_S240x240_0_1 : S1x240.BroadcastsInDim S240x240 (![0, 1] : Fin 2 → Fin S240x240.rank)

variable [Facts]

noncomputable abbrev lit0 : Fin 240 → BitVec 32 := fun
  | 0 => 0#32 | 1 => 0#32 | 2 => 0#32 | 3 => 1#32 | 4 => 1#32 | 5 => 1#32 | 6 => 2#32 | 7 => 2#32
  | 8 => 2#32 | 9 => 3#32 | 10 => 3#32 | 11 => 3#32 | 12 => 4#32 | 13 => 4#32 | 14 => 4#32 | 15 => 5#32
  | 16 => 5#32 | 17 => 5#32 | 18 => 6#32 | 19 => 6#32 | 20 => 6#32 | 21 => 7#32 | 22 => 7#32 | 23 => 7#32
  | 24 => 8#32 | 25 => 8#32 | 26 => 8#32 | 27 => 9#32 | 28 => 9#32 | 29 => 9#32 | 30 => 10#32 | 31 => 10#32
  | 32 => 10#32 | 33 => 11#32 | 34 => 11#32 | 35 => 11#32 | 36 => 12#32 | 37 => 12#32 | 38 => 12#32 | 39 => 13#32
  | 40 => 13#32 | 41 => 13#32 | 42 => 14#32 | 43 => 14#32 | 44 => 14#32 | 45 => 15#32 | 46 => 15#32 | 47 => 15#32
  | 48 => 16#32 | 49 => 16#32 | 50 => 16#32 | 51 => 16#32 | 52 => 16#32 | 53 => 17#32 | 54 => 17#32 | 55 => 17#32
  | 56 => 17#32 | 57 => 17#32 | 58 => 18#32 | 59 => 18#32 | 60 => 18#32 | 61 => 18#32 | 62 => 18#32 | 63 => 19#32
  | 64 => 19#32 | 65 => 19#32 | 66 => 19#32 | 67 => 19#32 | 68 => 20#32 | 69 => 20#32 | 70 => 20#32 | 71 => 20#32
  | 72 => 20#32 | 73 => 21#32 | 74 => 21#32 | 75 => 21#32 | 76 => 21#32 | 77 => 21#32 | 78 => 22#32 | 79 => 22#32
  | 80 => 22#32 | 81 => 22#32 | 82 => 22#32 | 83 => 23#32 | 84 => 23#32 | 85 => 23#32 | 86 => 23#32 | 87 => 23#32
  | 88 => 24#32 | 89 => 24#32 | 90 => 24#32 | 91 => 24#32 | 92 => 24#32 | 93 => 25#32 | 94 => 25#32 | 95 => 25#32
  | 96 => 25#32 | 97 => 25#32 | 98 => 26#32 | 99 => 26#32 | 100 => 26#32 | 101 => 26#32 | 102 => 26#32 | 103 => 27#32
  | 104 => 27#32 | 105 => 27#32 | 106 => 27#32 | 107 => 27#32 | 108 => 28#32 | 109 => 28#32 | 110 => 28#32 | 111 => 28#32
  | 112 => 28#32 | 113 => 29#32 | 114 => 29#32 | 115 => 29#32 | 116 => 29#32 | 117 => 29#32 | 118 => 30#32 | 119 => 30#32
  | 120 => 30#32 | 121 => 30#32 | 122 => 30#32 | 123 => 31#32 | 124 => 31#32 | 125 => 31#32 | 126 => 31#32 | 127 => 31#32
  | 128 => 32#32 | 129 => 32#32 | 130 => 32#32 | 131 => 32#32 | 132 => 32#32 | 133 => 32#32 | 134 => 32#32 | 135 => 33#32
  | 136 => 33#32 | 137 => 33#32 | 138 => 33#32 | 139 => 33#32 | 140 => 33#32 | 141 => 33#32 | 142 => 34#32 | 143 => 34#32
  | 144 => 34#32 | 145 => 34#32 | 146 => 34#32 | 147 => 34#32 | 148 => 34#32 | 149 => 35#32 | 150 => 35#32 | 151 => 35#32
  | 152 => 35#32 | 153 => 35#32 | 154 => 35#32 | 155 => 35#32 | 156 => 36#32 | 157 => 36#32 | 158 => 36#32 | 159 => 36#32
  | 160 => 36#32 | 161 => 36#32 | 162 => 36#32 | 163 => 37#32 | 164 => 37#32 | 165 => 37#32 | 166 => 37#32 | 167 => 37#32
  | 168 => 37#32 | 169 => 37#32 | 170 => 38#32 | 171 => 38#32 | 172 => 38#32 | 173 => 38#32 | 174 => 38#32 | 175 => 38#32
  | 176 => 38#32 | 177 => 39#32 | 178 => 39#32 | 179 => 39#32 | 180 => 39#32 | 181 => 39#32 | 182 => 39#32 | 183 => 39#32
  | 184 => 40#32 | 185 => 40#32 | 186 => 40#32 | 187 => 40#32 | 188 => 40#32 | 189 => 40#32 | 190 => 40#32 | 191 => 41#32
  | 192 => 41#32 | 193 => 41#32 | 194 => 41#32 | 195 => 41#32 | 196 => 41#32 | 197 => 41#32 | 198 => 42#32 | 199 => 42#32
  | 200 => 42#32 | 201 => 42#32 | 202 => 42#32 | 203 => 42#32 | 204 => 42#32 | 205 => 43#32 | 206 => 43#32 | 207 => 43#32
  | 208 => 43#32 | 209 => 43#32 | 210 => 43#32 | 211 => 43#32 | 212 => 44#32 | 213 => 44#32 | 214 => 44#32 | 215 => 44#32
  | 216 => 44#32 | 217 => 44#32 | 218 => 44#32 | 219 => 45#32 | 220 => 45#32 | 221 => 45#32 | 222 => 45#32 | 223 => 45#32
  | 224 => 45#32 | 225 => 45#32 | 226 => 46#32 | 227 => 46#32 | 228 => 46#32 | 229 => 46#32 | 230 => 46#32 | 231 => 46#32
  | 232 => 46#32 | 233 => 47#32 | 234 => 47#32 | 235 => 47#32 | 236 => 47#32 | 237 => 47#32 | 238 => 47#32 | 239 => 47#32
  | _ => 0#32

def fn {F : FTy → Type} [FloatOps F] (main_arg0 : FVec F S100000x240 .f32) (main_arg1 : FVec F S240 .f32) (main_arg2 : IVec S240 32) : IVec S240 1 × IVec S240x240 1 :=
  let main_c : IVec S240 32 := fun i => lit0 (S240.rowMajor i)
  let main_v0 : IVec S240x1 32 := broadcastInDim S240x1 ![0] bcast_S240_S240x1_0 main_arg2
  let main_v1 : IVec S1x240 32 := broadcastInDim S1x240 ![1] bcast_S240_S1x240_1 main_arg2
  let main_v2 : IVec S240x240 32 := broadcastInDim S240x240 ![0, 1] bcast_S240x1_S240x240_0_1 main_v0
  let main_v3 : IVec S240x240 32 := broadcastInDim S240x240 ![0, 1] bcast_S1x240_S240x240_0_1 main_v1
  let main_v4 : IVec S240x240 1 := cmpi .eq main_v2 main_v3
  let main_v5 : FVec F S240x1 .f32 := broadcastInDim S240x1 ![0] bcast_S240_S240x1_0 main_arg1
  let main_v6 : FVec F S1x240 .f32 := broadcastInDim S1x240 ![1] bcast_S240_S1x240_1 main_arg1
  let main_v7 : FVec F S240x240 .f32 := broadcastInDim S240x240 ![0, 1] bcast_S240x1_S240x240_0_1 main_v5
  let main_v8 : FVec F S240x240 .f32 := broadcastInDim S240x240 ![0, 1] bcast_S1x240_S240x240_0_1 main_v6
  let main_v9 : IVec S240x240 1 := cmpf .oeq main_v7 main_v8
  let main_v10 : IVec S240 1 := cmpi .eq main_arg2 main_c
  let main_v11 : IVec S240x240 1 := noti main_v4
  let main_v12 : IVec S240x240 1 := ori main_v11 main_v9
  (main_v10, main_v12)
-- ==== Kernel.lean ====
abbrev S100000x240 : Shape := ⟨2, ![100000, 240]⟩
abbrev S240 : Shape := ⟨1, ![240]⟩
abbrev S48 : Shape := ⟨1, ![48]⟩
abbrev S_ : Shape := ⟨0, ![]⟩
abbrev S48x1 : Shape := ⟨2, ![48, 1]⟩
abbrev S9600x48 : Shape := ⟨2, ![9600, 48]⟩
abbrev S160x240 : Shape := ⟨2, ![160, 240]⟩
abbrev S160x48 : Shape := ⟨2, ![160, 48]⟩
abbrev S16 : Shape := ⟨1, ![16]⟩
abbrev S240x1 : Shape := ⟨2, ![240, 1]⟩
abbrev S1x48 : Shape := ⟨2, ![1, 48]⟩
abbrev S240x48 : Shape := ⟨2, ![240, 48]⟩
abbrev S100000x48 : Shape := ⟨2, ![100000, 48]⟩
abbrev S800x240 : Shape := ⟨2, ![800, 240]⟩
abbrev S800x48 : Shape := ⟨2, ![800, 48]⟩

abbrev nBuf : Table → Nat
  | .hbm => 28
  | .local .tc .vmem => 5
  | .local .scVector .vmem => 4
  | _ => 0

abbrev bufTy : (tb : Table) → Fin (nBuf tb) → BufTy
  | .hbm, ⟨0, _⟩ => ⟨S100000x240, .f32⟩
  | .hbm, ⟨1, _⟩ => ⟨S240, .f32⟩
  | .hbm, ⟨2, _⟩ => ⟨S240, .i32⟩
  | .hbm, ⟨3, _⟩ => ⟨S48, .i32⟩
  | .hbm, ⟨4, _⟩ => ⟨S_, .i32⟩
  | .hbm, ⟨5, _⟩ => ⟨S48, .i32⟩
  | .hbm, ⟨6, _⟩ => ⟨S48, .i1⟩
  | .hbm, ⟨7, _⟩ => ⟨S_, .i32⟩
  | .hbm, ⟨8, _⟩ => ⟨S48, .i32⟩
  | .hbm, ⟨9, _⟩ => ⟨S48, .i32⟩
  | .hbm, ⟨10, _⟩ => ⟨S48, .i32⟩
  | .hbm, ⟨11, _⟩ => ⟨S48x1, .i32⟩
  | .hbm, ⟨12, _⟩ => ⟨S48, .f32⟩
  | .hbm, ⟨13, _⟩ => ⟨S9600x48, .f32⟩
  | .hbm, ⟨14, _⟩ => ⟨S240x1, .i32⟩
  | .hbm, ⟨15, _⟩ => ⟨S48, .i32⟩
  | .hbm, ⟨16, _⟩ => ⟨S1x48, .i32⟩
  | .hbm, ⟨17, _⟩ => ⟨S240x48, .i32⟩
  | .hbm, ⟨18, _⟩ => ⟨S240x48, .i32⟩
  | .hbm, ⟨19, _⟩ => ⟨S240x48, .i1⟩
  | .hbm, ⟨20, _⟩ => ⟨S240x48, .f32⟩
  | .hbm, ⟨21, _⟩ => ⟨S240x1, .f32⟩
  | .hbm, ⟨22, _⟩ => ⟨S240x48, .f32⟩
  | .hbm, ⟨23, _⟩ => ⟨S240x48, .f32⟩
  | .hbm, ⟨24, _⟩ => ⟨S100000x48, .f32⟩
  | .hbm, ⟨25, _⟩ => ⟨S_, .i32⟩
  | .hbm, ⟨26, _⟩ => ⟨S_, .i32⟩
  | .hbm, ⟨27, _⟩ => ⟨S100000x48, .f32⟩
  | .local .tc .vmem, ⟨0, _⟩ => ⟨S800x240, .f32⟩
  | .local .tc .vmem, ⟨1, _⟩ => ⟨S800x240, .f32⟩
  | .local .tc .vmem, ⟨2, _⟩ => ⟨S240x48, .f32⟩
  | .local .tc .vmem, ⟨3, _⟩ => ⟨S800x48, .f32⟩
  | .local .tc .vmem, ⟨4, _⟩ => ⟨S800x48, .f32⟩
  | .local .scVector .vmem, ⟨0, _⟩ => ⟨S160x240, .f32⟩
  | .local .scVector .vmem, ⟨1, _⟩ => ⟨S160x240, .f32⟩
  | .local .scVector .vmem, ⟨2, _⟩ => ⟨S160x48, .f32⟩
  | .local .scVector .vmem, ⟨3, _⟩ => ⟨S48, .f32⟩
  | _, _ => ⟨S100000x240, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_c_3 : Ref sig .tc := ⟨.hbm, 26, rfl⟩
abbrev main_v19 : Ref sig .tc := ⟨.hbm, 27, rfl⟩
abbrev main_arg0_scv : Ref sig .scVector := ⟨.hbm, 0, rfl⟩
abbrev main_v6_scv : Ref sig .scVector := ⟨.hbm, 12, rfl⟩
abbrev main_v7_scv : Ref sig .scVector := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .ne v24 c0_i32_7
  v25

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let v49 : BitVec 32 := Scalar.addi v1 c0_i32_21
  let c160_i32 : BitVec 32 := 160#32
  let v50 : BitVec 32 := Scalar.muli v49 c160_i32
  let c0_i32_22 : BitVec 32 := 0#32
  ![v50.toNat, 0]
@[reducible] def k0_t1_loop (i : grid0.Coords) : Scf.Loop 32 :=
  let c0_i32_17 : BitVec 32 := 0#32
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_19 : BitVec 32 := 1#32
  ⟨c0_i32_17, v48, c1_i32_19⟩
def k0_cond2 (i : grid0.Coords) (k0_t1 : Fin (k0_t1_loop i).trips) : BitVec 1 :=
  let c0_i32_17 : BitVec 32 := 0#32
  let c1_i32_19 : BitVec 32 := 1#32
  let arg12 : BitVec 32 := Scf.iv c0_i32_17 c1_i32_19 k0_t1
  let c2_i32_21 : BitVec 32 := 2#32
  let v49 : BitVec 32 := Scalar.muli arg12 c2_i32_21
  let c0_i32_22 : BitVec 32 := 0#32
  let v50 : BitVec 32 := Scalar.addi v49 c0_i32_22
  let c1_i32_23 : BitVec 32 := 1#32
  let v51 : BitVec 32 := Scalar.addi v50 c1_i32_23
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v52 : BitVec 1 := Scalar.cmpi .slt v51 v21
  let v53 : BitVec 32 := Scalar.extui v52
  let c0_i32_24 : BitVec 32 := 0#32
  let v54 : BitVec 1 := Scalar.cmpi .ne v53 c0_i32_24
  v54

def k0_off2 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c1_i32_19 : BitVec 32 := 1#32
  let arg12 : BitVec 32 := Scf.iv c0_i32_17 c1_i32_19 k0_t1
  let c2_i32_21 : BitVec 32 := 2#32
  let v49 : BitVec 32 := Scalar.muli arg12 c2_i32_21
  let c0_i32_22 : BitVec 32 := 0#32
  let v50 : BitVec 32 := Scalar.addi v49 c0_i32_22
  let c1_i32_23 : BitVec 32 := 1#32
  let v51 : BitVec 32 := Scalar.addi v50 c1_i32_23
  let c32_i32_31 : BitVec 32 := 32#32
  let v67 : BitVec 32 := Scalar.muli v51 c32_i32_31
  let v68 : BitVec 32 := Scalar.addi v1 v67
  let c160_i32 : BitVec 32 := 160#32
  let v69 : BitVec 32 := Scalar.muli v68 c160_i32
  let c0_i32_32 : BitVec 32 := 0#32
  ![v69.toNat, 0]
def k0_cond3 (i : grid0.Coords) (k0_t1 : Fin (k0_t1_loop i).trips) : BitVec 1 :=
  let c0_i32_17 : BitVec 32 := 0#32
  let c1_i32_19 : BitVec 32 := 1#32
  let arg12 : BitVec 32 := Scf.iv c0_i32_17 c1_i32_19 k0_t1
  let c2_i32_21 : BitVec 32 := 2#32
  let v49 : BitVec 32 := Scalar.muli arg12 c2_i32_21
  let c0_i32_22 : BitVec 32 := 0#32
  let v50 : BitVec 32 := Scalar.addi v49 c0_i32_22
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v55 : BitVec 1 := Scalar.cmpi .slt v50 v21
  let v56 : BitVec 32 := Scalar.extui v55
  let c0_i32_25 : BitVec 32 := 0#32
  let v57 : BitVec 1 := Scalar.cmpi .ne v56 c0_i32_25
  v57

def k0_off3 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c1_i32_19 : BitVec 32 := 1#32
  let arg12 : BitVec 32 := Scf.iv c0_i32_17 c1_i32_19 k0_t1
  let c2_i32_21 : BitVec 32 := 2#32
  let v49 : BitVec 32 := Scalar.muli arg12 c2_i32_21
  let c0_i32_22 : BitVec 32 := 0#32
  let v50 : BitVec 32 := Scalar.addi v49 c0_i32_22
  let c32_i32_31 : BitVec 32 := 32#32
  let v67 : BitVec 32 := Scalar.muli v50 c32_i32_31
  let v68 : BitVec 32 := Scalar.addi v1 v67
  let c160_i32 : BitVec 32 := 160#32
  let v69 : BitVec 32 := Scalar.muli v68 c160_i32
  let c0_i32_32 : BitVec 32 := 0#32
  ![v69.toNat, 0]
@[reducible] def k0_t2_loop : Scf.Loop 32 :=
  let c0_i32_35 : BitVec 32 := 0#32
  let c10_i32 : BitVec 32 := 10#32
  let v73 : BitVec 32 := Scalar.addi c0_i32_35 c10_i32
  let c1_i32_36 : BitVec 32 := 1#32
  ⟨c0_i32_35, v73, c1_i32_36⟩

def k0_chk2 (i : grid0.Coords) (k0_t1 : Fin (k0_t1_loop i).trips) (v83 : IVec S16 32) (v86 : IVec S16 32) : Prop :=
  (∀ (k0_h3 : k0_cond3 i k0_t1 = 1#1), ∀ a x, ((![v83, v86] : Fin 2 → IVec S16 32) a x).toNat < S160x240.size a)
theorem k0_idx2_inb : ∀ (i : grid0.Coords) (k0_t1 : Fin (k0_t1_loop i).trips) (v83 : IVec S16 32) (v86 : IVec S16 32) (k0_hw2 : k0_chk2 i k0_t1 v83 v86), ∀ (k0_h3 : k0_cond3 i k0_t1 = 1#1), ∀ a x, ((![v83, v86] : Fin 2 → IVec S16 32) a x).toNat < S160x240.size a := fun i k0_t1 v83 v86 k0_hw2 k0_h3 => k0_hw2 k0_h3

def k0_chk3 (i : grid0.Coords) (k0_t1 : Fin (k0_t1_loop i).trips) (v83 : IVec S16 32) (v90 : IVec S16 32) : Prop :=
  (∀ (k0_h3 : k0_cond3 i k0_t1 = 1#1), ∀ a x, ((![v83, v90] : Fin 2 → IVec S16 32) a x).toNat < S160x240.size a)
theorem k0_idx3_inb : ∀ (i : grid0.Coords) (k0_t1 : Fin (k0_t1_loop i).trips) (v83 : IVec S16 32) (v90 : IVec S16 32) (k0_hw3 : k0_chk3 i k0_t1 v83 v90), ∀ (k0_h3 : k0_cond3 i k0_t1 = 1#1), ∀ a x, ((![v83, v90] : Fin 2 → IVec S16 32) a x).toNat < S160x240.size a := fun i k0_t1 v83 v90 k0_hw3 k0_h3 => k0_hw3 k0_h3

def k0_chk4 (i : grid0.Coords) (k0_t1 : Fin (k0_t1_loop i).trips) (v72 : IVec S16 32) : Prop :=
  (∀ (k0_h3 : k0_cond3 i k0_t1 = 1#1), ∀ a x, ((![v72] : Fin 1 → IVec S16 32) a x).toNat < S48.size a)
theorem k0_idx4_inb : ∀ (i : grid0.Coords) (k0_t1 : Fin (k0_t1_loop i).trips) (v72 : IVec S16 32) (k0_hw4 : k0_chk4 i k0_t1 v72), ∀ (k0_h3 : k0_cond3 i k0_t1 = 1#1), ∀ a x, ((![v72] : Fin 1 → IVec S16 32) a x).toNat < S48.size a := fun i k0_t1 v72 k0_hw4 k0_h3 => k0_hw4 k0_h3

def k0_chk1 (i : grid0.Coords) (k0_t1 : Fin (k0_t1_loop i).trips) (v72 : IVec S16 32) (v83 : IVec S16 32) : Prop :=
  (∀ (k0_h3 : k0_cond3 i k0_t1 = 1#1), ∀ a x, ((![v83, v72] : Fin 2 → IVec S16 32) a x).toNat < S160x240.size a) ∧
  (∀ (k0_h3 : k0_cond3 i k0_t1 = 1#1), ∀ a x, ((![v83, v72] : Fin 2 → IVec S16 32) a x).toNat < S160x48.size a)
theorem k0_idx1_inb : ∀ (i : grid0.Coords) (k0_t1 : Fin (k0_t1_loop i).trips) (v72 : IVec S16 32) (v83 : IVec S16 32) (k0_hw1 : k0_chk1 i k0_t1 v72 v83), ∀ (k0_h3 : k0_cond3 i k0_t1 = 1#1), ∀ a x, ((![v83, v72] : Fin 2 → IVec S16 32) a x).toNat < S160x240.size a := fun i k0_t1 v72 v83 k0_hw1 k0_h3 => k0_hw1.1 k0_h3
theorem k0_idx5_inb : ∀ (i : grid0.Coords) (k0_t1 : Fin (k0_t1_loop i).trips) (v72 : IVec S16 32) (v83 : IVec S16 32) (k0_hw1 : k0_chk1 i k0_t1 v72 v83), ∀ (k0_h3 : k0_cond3 i k0_t1 = 1#1), ∀ a x, ((![v83, v72] : Fin 2 → IVec S16 32) a x).toNat < S160x48.size a := fun i k0_t1 v72 v83 k0_hw1 k0_h3 => k0_hw1.2 k0_h3

def k0_chk5 (i : grid0.Coords) (k0_t1 : Fin (k0_t1_loop i).trips) (v83 : IVec S16 32) (v94 : IVec S16 32) : Prop :=
  (∀ (k0_h3 : k0_cond3 i k0_t1 = 1#1), ∀ a x, ((![v83, v94] : Fin 2 → IVec S16 32) a x).toNat < S160x240.size a)
theorem k0_idx6_inb : ∀ (i : grid0.Coords) (k0_t1 : Fin (k0_t1_loop i).trips) (v83 : IVec S16 32) (v94 : IVec S16 32) (k0_hw5 : k0_chk5 i k0_t1 v83 v94), ∀ (k0_h3 : k0_cond3 i k0_t1 = 1#1), ∀ a x, ((![v83, v94] : Fin 2 → IVec S16 32) a x).toNat < S160x240.size a := fun i k0_t1 v83 v94 k0_hw5 k0_h3 => k0_hw5 k0_h3

def k0_chk6 (i : grid0.Coords) (k0_t1 : Fin (k0_t1_loop i).trips) (v83 : IVec S16 32) (v104 : IVec S16 32) : Prop :=
  (∀ (k0_h3 : k0_cond3 i k0_t1 = 1#1), ∀ a x, ((![v83, v104] : Fin 2 → IVec S16 32) a x).toNat < S160x240.size a)
theorem k0_idx7_inb : ∀ (i : grid0.Coords) (k0_t1 : Fin (k0_t1_loop i).trips) (v83 : IVec S16 32) (v104 : IVec S16 32) (k0_hw6 : k0_chk6 i k0_t1 v83 v104), ∀ (k0_h3 : k0_cond3 i k0_t1 = 1#1), ∀ a x, ((![v83, v104] : Fin 2 → IVec S16 32) a x).toNat < S160x240.size a := fun i k0_t1 v83 v104 k0_hw6 k0_h3 => k0_hw6 k0_h3

def k0_chk7 (i : grid0.Coords) (k0_t1 : Fin (k0_t1_loop i).trips) (v83 : IVec S16 32) (v108 : IVec S16 32) : Prop :=
  (∀ (k0_h3 : k0_cond3 i k0_t1 = 1#1), ∀ a x, ((![v83, v108] : Fin 2 → IVec S16 32) a x).toNat < S160x240.size a)
theorem k0_idx8_inb : ∀ (i : grid0.Coords) (k0_t1 : Fin (k0_t1_loop i).trips) (v83 : IVec S16 32) (v108 : IVec S16 32) (k0_hw7 : k0_chk7 i k0_t1 v83 v108), ∀ (k0_h3 : k0_cond3 i k0_t1 = 1#1), ∀ a x, ((![v83, v108] : Fin 2 → IVec S16 32) a x).toNat < S160x240.size a := fun i k0_t1 v83 v108 k0_hw7 k0_h3 => k0_hw7 k0_h3

def k0_chk8 (i : grid0.Coords) (k0_t1 : Fin (k0_t1_loop i).trips) (v83 : IVec S16 32) (v101 : IVec S16 32) : Prop :=
  (∀ (k0_h3 : k0_cond3 i k0_t1 = 1#1), ∀ a x, ((![v101] : Fin 1 → IVec S16 32) a x).toNat < S48.size a) ∧
  (∀ (k0_h3 : k0_cond3 i k0_t1 = 1#1), ∀ a x, ((![v83, v101] : Fin 2 → IVec S16 32) a x).toNat < S160x48.size a)
theorem k0_idx9_inb : ∀ (i : grid0.Coords) (k0_t1 : Fin (k0_t1_loop i).trips) (v83 : IVec S16 32) (v101 : IVec S16 32) (k0_hw8 : k0_chk8 i k0_t1 v83 v101), ∀ (k0_h3 : k0_cond3 i k0_t1 = 1#1), ∀ a x, ((![v101] : Fin 1 → IVec S16 32) a x).toNat < S48.size a := fun i k0_t1 v83 v101 k0_hw8 k0_h3 => k0_hw8.1 k0_h3
theorem k0_idx10_inb : ∀ (i : grid0.Coords) (k0_t1 : Fin (k0_t1_loop i).trips) (v83 : IVec S16 32) (v101 : IVec S16 32) (k0_hw8 : k0_chk8 i k0_t1 v83 v101), ∀ (k0_h3 : k0_cond3 i k0_t1 = 1#1), ∀ a x, ((![v83, v101] : Fin 2 → IVec S16 32) a x).toNat < S160x48.size a := fun i k0_t1 v83 v101 k0_hw8 k0_h3 => k0_hw8.2 k0_h3

def k0_chk9 (i : grid0.Coords) (k0_t1 : Fin (k0_t1_loop i).trips) (v83 : IVec S16 32) (v112 : IVec S16 32) : Prop :=
  (∀ (k0_h3 : k0_cond3 i k0_t1 = 1#1), ∀ a x, ((![v83, v112] : Fin 2 → IVec S16 32) a x).toNat < S160x240.size a)
theorem k0_idx11_inb : ∀ (i : grid0.Coords) (k0_t1 : Fin (k0_t1_loop i).trips) (v83 : IVec S16 32) (v112 : IVec S16 32) (k0_hw9 : k0_chk9 i k0_t1 v83 v112), ∀ (k0_h3 : k0_cond3 i k0_t1 = 1#1), ∀ a x, ((![v83, v112] : Fin 2 → IVec S16 32) a x).toNat < S160x240.size a := fun i k0_t1 v83 v112 k0_hw9 k0_h3 => k0_hw9 k0_h3

def k0_chk10 (i : grid0.Coords) (k0_t1 : Fin (k0_t1_loop i).trips) (v83 : IVec S16 32) (v122 : IVec S16 32) : Prop :=
  (∀ (k0_h3 : k0_cond3 i k0_t1 = 1#1), ∀ a x, ((![v83, v122] : Fin 2 → IVec S16 32) a x).toNat < S160x240.size a)
theorem k0_idx12_inb : ∀ (i : grid0.Coords) (k0_t1 : Fin (k0_t1_loop i).trips) (v83 : IVec S16 32) (v122 : IVec S16 32) (k0_hw10 : k0_chk10 i k0_t1 v83 v122), ∀ (k0_h3 : k0_cond3 i k0_t1 = 1#1), ∀ a x, ((![v83, v122] : Fin 2 → IVec S16 32) a x).toNat < S160x240.size a := fun i k0_t1 v83 v122 k0_hw10 k0_h3 => k0_hw10 k0_h3

def k0_chk11 (i : grid0.Coords) (k0_t1 : Fin (k0_t1_loop i).trips) (v83 : IVec S16 32) (v126 : IVec S16 32) : Prop :=
  (∀ (k0_h3 : k0_cond3 i k0_t1 = 1#1), ∀ a x, ((![v83, v126] : Fin 2 → IVec S16 32) a x).toNat < S160x240.size a)
theorem k0_idx13_inb : ∀ (i : grid0.Coords) (k0_t1 : Fin (k0_t1_loop i).trips) (v83 : IVec S16 32) (v126 : IVec S16 32) (k0_hw11 : k0_chk11 i k0_t1 v83 v126), ∀ (k0_h3 : k0_cond3 i k0_t1 = 1#1), ∀ a x, ((![v83, v126] : Fin 2 → IVec S16 32) a x).toNat < S160x240.size a := fun i k0_t1 v83 v126 k0_hw11 k0_h3 => k0_hw11 k0_h3

def k0_chk12 (i : grid0.Coords) (k0_t1 : Fin (k0_t1_loop i).trips) (v83 : IVec S16 32) (v119 : IVec S16 32) : Prop :=
  (∀ (k0_h3 : k0_cond3 i k0_t1 = 1#1), ∀ a x, ((![v119] : Fin 1 → IVec S16 32) a x).toNat < S48.size a) ∧
  (∀ (k0_h3 : k0_cond3 i k0_t1 = 1#1), ∀ a x, ((![v83, v119] : Fin 2 → IVec S16 32) a x).toNat < S160x48.size a)
theorem k0_idx14_inb : ∀ (i : grid0.Coords) (k0_t1 : Fin (k0_t1_loop i).trips) (v83 : IVec S16 32) (v119 : IVec S16 32) (k0_hw12 : k0_chk12 i k0_t1 v83 v119), ∀ (k0_h3 : k0_cond3 i k0_t1 = 1#1), ∀ a x, ((![v119] : Fin 1 → IVec S16 32) a x).toNat < S48.size a := fun i k0_t1 v83 v119 k0_hw12 k0_h3 => k0_hw12.1 k0_h3
theorem k0_idx15_inb : ∀ (i : grid0.Coords) (k0_t1 : Fin (k0_t1_loop i).trips) (v83 : IVec S16 32) (v119 : IVec S16 32) (k0_hw12 : k0_chk12 i k0_t1 v83 v119), ∀ (k0_h3 : k0_cond3 i k0_t1 = 1#1), ∀ a x, ((![v83, v119] : Fin 2 → IVec S16 32) a x).toNat < S160x48.size a := fun i k0_t1 v83 v119 k0_hw12 k0_h3 => k0_hw12.2 k0_h3

def k0_chk13 (i : grid0.Coords) (k0_t1 : Fin (k0_t1_loop i).trips) (v83 : IVec S16 32) (v130 : IVec S16 32) : Prop :=
  (∀ (k0_h3 : k0_cond3 i k0_t1 = 1#1), ∀ a x, ((![v83, v130] : Fin 2 → IVec S16 32) a x).toNat < S160x240.size a)
theorem k0_idx16_inb : ∀ (i : grid0.Coords) (k0_t1 : Fin (k0_t1_loop i).trips) (v83 : IVec S16 32) (v130 : IVec S16 32) (k0_hw13 : k0_chk13 i k0_t1 v83 v130), ∀ (k0_h3 : k0_cond3 i k0_t1 = 1#1), ∀ a x, ((![v83, v130] : Fin 2 → IVec S16 32) a x).toNat < S160x240.size a := fun i k0_t1 v83 v130 k0_hw13 k0_h3 => k0_hw13 k0_h3

def k0_chk14 (i : grid0.Coords) (k0_t1 : Fin (k0_t1_loop i).trips) (v83 : IVec S16 32) (v140 : IVec S16 32) : Prop :=
  (∀ (k0_h3 : k0_cond3 i k0_t1 = 1#1), ∀ a x, ((![v83, v140] : Fin 2 → IVec S16 32) a x).toNat < S160x240.size a)
theorem k0_idx17_inb : ∀ (i : grid0.Coords) (k0_t1 : Fin (k0_t1_loop i).trips) (v83 : IVec S16 32) (v140 : IVec S16 32) (k0_hw14 : k0_chk14 i k0_t1 v83 v140), ∀ (k0_h3 : k0_cond3 i k0_t1 = 1#1), ∀ a x, ((![v83, v140] : Fin 2 → IVec S16 32) a x).toNat < S160x240.size a := fun i k0_t1 v83 v140 k0_hw14 k0_h3 => k0_hw14 k0_h3

def k0_chk15 (i : grid0.Coords) (k0_t1 : Fin (k0_t1_loop i).trips) (v83 : IVec S16 32) (v144 : IVec S16 32) : Prop :=
  (∀ (k0_h3 : k0_cond3 i k0_t1 = 1#1), ∀ a x, ((![v83, v144] : Fin 2 → IVec S16 32) a x).toNat < S160x240.size a)
theorem k0_idx18_inb : ∀ (i : grid0.Coords) (k0_t1 : Fin (k0_t1_loop i).trips) (v83 : IVec S16 32) (v144 : IVec S16 32) (k0_hw15 : k0_chk15 i k0_t1 v83 v144), ∀ (k0_h3 : k0_cond3 i k0_t1 = 1#1), ∀ a x, ((![v83, v144] : Fin 2 → IVec S16 32) a x).toNat < S160x240.size a := fun i k0_t1 v83 v144 k0_hw15 k0_h3 => k0_hw15 k0_h3

def k0_chk16 (i : grid0.Coords) (k0_t1 : Fin (k0_t1_loop i).trips) (v83 : IVec S16 32) (v137 : IVec S16 32) : Prop :=
  (∀ (k0_h3 : k0_cond3 i k0_t1 = 1#1), ∀ a x, ((![v137] : Fin 1 → IVec S16 32) a x).toNat < S48.size a) ∧
  (∀ (k0_h3 : k0_cond3 i k0_t1 = 1#1), ∀ a x, ((![v83, v137] : Fin 2 → IVec S16 32) a x).toNat < S160x48.size a)
theorem k0_idx19_inb : ∀ (i : grid0.Coords) (k0_t1 : Fin (k0_t1_loop i).trips) (v83 : IVec S16 32) (v137 : IVec S16 32) (k0_hw16 : k0_chk16 i k0_t1 v83 v137), ∀ (k0_h3 : k0_cond3 i k0_t1 = 1#1), ∀ a x, ((![v137] : Fin 1 → IVec S16 32) a x).toNat < S48.size a := fun i k0_t1 v83 v137 k0_hw16 k0_h3 => k0_hw16.1 k0_h3
theorem k0_idx20_inb : ∀ (i : grid0.Coords) (k0_t1 : Fin (k0_t1_loop i).trips) (v83 : IVec S16 32) (v137 : IVec S16 32) (k0_hw16 : k0_chk16 i k0_t1 v83 v137), ∀ (k0_h3 : k0_cond3 i k0_t1 = 1#1), ∀ a x, ((![v83, v137] : Fin 2 → IVec S16 32) a x).toNat < S160x48.size a := fun i k0_t1 v83 v137 k0_hw16 k0_h3 => k0_hw16.2 k0_h3

def k0_chk17 (i : grid0.Coords) (k0_t1 : Fin (k0_t1_loop i).trips) (v83 : IVec S16 32) (v148 : IVec S16 32) : Prop :=
  (∀ (k0_h3 : k0_cond3 i k0_t1 = 1#1), ∀ a x, ((![v83, v148] : Fin 2 → IVec S16 32) a x).toNat < S160x240.size a)
theorem k0_idx21_inb : ∀ (i : grid0.Coords) (k0_t1 : Fin (k0_t1_loop i).trips) (v83 : IVec S16 32) (v148 : IVec S16 32) (k0_hw17 : k0_chk17 i k0_t1 v83 v148), ∀ (k0_h3 : k0_cond3 i k0_t1 = 1#1), ∀ a x, ((![v83, v148] : Fin 2 → IVec S16 32) a x).toNat < S160x240.size a := fun i k0_t1 v83 v148 k0_hw17 k0_h3 => k0_hw17 k0_h3

def k0_chk18 (i : grid0.Coords) (k0_t1 : Fin (k0_t1_loop i).trips) (v83 : IVec S16 32) (v158 : IVec S16 32) : Prop :=
  (∀ (k0_h3 : k0_cond3 i k0_t1 = 1#1), ∀ a x, ((![v83, v158] : Fin 2 → IVec S16 32) a x).toNat < S160x240.size a)
theorem k0_idx22_inb : ∀ (i : grid0.Coords) (k0_t1 : Fin (k0_t1_loop i).trips) (v83 : IVec S16 32) (v158 : IVec S16 32) (k0_hw18 : k0_chk18 i k0_t1 v83 v158), ∀ (k0_h3 : k0_cond3 i k0_t1 = 1#1), ∀ a x, ((![v83, v158] : Fin 2 → IVec S16 32) a x).toNat < S160x240.size a := fun i k0_t1 v83 v158 k0_hw18 k0_h3 => k0_hw18 k0_h3

def k0_chk19 (i : grid0.Coords) (k0_t1 : Fin (k0_t1_loop i).trips) (v83 : IVec S16 32) (v162 : IVec S16 32) : Prop :=
  (∀ (k0_h3 : k0_cond3 i k0_t1 = 1#1), ∀ a x, ((![v83, v162] : Fin 2 → IVec S16 32) a x).toNat < S160x240.size a)
theorem k0_idx23_inb : ∀ (i : grid0.Coords) (k0_t1 : Fin (k0_t1_loop i).trips) (v83 : IVec S16 32) (v162 : IVec S16 32) (k0_hw19 : k0_chk19 i k0_t1 v83 v162), ∀ (k0_h3 : k0_cond3 i k0_t1 = 1#1), ∀ a x, ((![v83, v162] : Fin 2 → IVec S16 32) a x).toNat < S160x240.size a := fun i k0_t1 v83 v162 k0_hw19 k0_h3 => k0_hw19 k0_h3

def k0_chk20 (i : grid0.Coords) (k0_t1 : Fin (k0_t1_loop i).trips) (v83 : IVec S16 32) (v155 : IVec S16 32) : Prop :=
  (∀ (k0_h3 : k0_cond3 i k0_t1 = 1#1), ∀ a x, ((![v155] : Fin 1 → IVec S16 32) a x).toNat < S48.size a) ∧
  (∀ (k0_h3 : k0_cond3 i k0_t1 = 1#1), ∀ a x, ((![v83, v155] : Fin 2 → IVec S16 32) a x).toNat < S160x48.size a)
theorem k0_idx24_inb : ∀ (i : grid0.Coords) (k0_t1 : Fin (k0_t1_loop i).trips) (v83 : IVec S16 32) (v155 : IVec S16 32) (k0_hw20 : k0_chk20 i k0_t1 v83 v155), ∀ (k0_h3 : k0_cond3 i k0_t1 = 1#1), ∀ a x, ((![v155] : Fin 1 → IVec S16 32) a x).toNat < S48.size a := fun i k0_t1 v83 v155 k0_hw20 k0_h3 => k0_hw20.1 k0_h3
theorem k0_idx25_inb : ∀ (i : grid0.Coords) (k0_t1 : Fin (k0_t1_loop i).trips) (v83 : IVec S16 32) (v155 : IVec S16 32) (k0_hw20 : k0_chk20 i k0_t1 v83 v155), ∀ (k0_h3 : k0_cond3 i k0_t1 = 1#1), ∀ a x, ((![v83, v155] : Fin 2 → IVec S16 32) a x).toNat < S160x48.size a := fun i k0_t1 v83 v155 k0_hw20 k0_h3 => k0_hw20.2 k0_h3

def k0_chk21 (i : grid0.Coords) (k0_t1 : Fin (k0_t1_loop i).trips) (v83 : IVec S16 32) (v166 : IVec S16 32) : Prop :=
  (∀ (k0_h3 : k0_cond3 i k0_t1 = 1#1), ∀ a x, ((![v83, v166] : Fin 2 → IVec S16 32) a x).toNat < S160x240.size a)
theorem k0_idx26_inb : ∀ (i : grid0.Coords) (k0_t1 : Fin (k0_t1_loop i).trips) (v83 : IVec S16 32) (v166 : IVec S16 32) (k0_hw21 : k0_chk21 i k0_t1 v83 v166), ∀ (k0_h3 : k0_cond3 i k0_t1 = 1#1), ∀ a x, ((![v83, v166] : Fin 2 → IVec S16 32) a x).toNat < S160x240.size a := fun i k0_t1 v83 v166 k0_hw21 k0_h3 => k0_hw21 k0_h3

def k0_chk22 (i : grid0.Coords) (k0_t1 : Fin (k0_t1_loop i).trips) (v83 : IVec S16 32) (v176 : IVec S16 32) : Prop :=
  (∀ (k0_h3 : k0_cond3 i k0_t1 = 1#1), ∀ a x, ((![v83, v176] : Fin 2 → IVec S16 32) a x).toNat < S160x240.size a)
theorem k0_idx27_inb : ∀ (i : grid0.Coords) (k0_t1 : Fin (k0_t1_loop i).trips) (v83 : IVec S16 32) (v176 : IVec S16 32) (k0_hw22 : k0_chk22 i k0_t1 v83 v176), ∀ (k0_h3 : k0_cond3 i k0_t1 = 1#1), ∀ a x, ((![v83, v176] : Fin 2 → IVec S16 32) a x).toNat < S160x240.size a := fun i k0_t1 v83 v176 k0_hw22 k0_h3 => k0_hw22 k0_h3

def k0_chk23 (i : grid0.Coords) (k0_t1 : Fin (k0_t1_loop i).trips) (v83 : IVec S16 32) (v180 : IVec S16 32) : Prop :=
  (∀ (k0_h3 : k0_cond3 i k0_t1 = 1#1), ∀ a x, ((![v83, v180] : Fin 2 → IVec S16 32) a x).toNat < S160x240.size a)
theorem k0_idx28_inb : ∀ (i : grid0.Coords) (k0_t1 : Fin (k0_t1_loop i).trips) (v83 : IVec S16 32) (v180 : IVec S16 32) (k0_hw23 : k0_chk23 i k0_t1 v83 v180), ∀ (k0_h3 : k0_cond3 i k0_t1 = 1#1), ∀ a x, ((![v83, v180] : Fin 2 → IVec S16 32) a x).toNat < S160x240.size a := fun i k0_t1 v83 v180 k0_hw23 k0_h3 => k0_hw23 k0_h3

def k0_chk24 (i : grid0.Coords) (k0_t1 : Fin (k0_t1_loop i).trips) (v83 : IVec S16 32) (v173 : IVec S16 32) : Prop :=
  (∀ (k0_h3 : k0_cond3 i k0_t1 = 1#1), ∀ a x, ((![v173] : Fin 1 → IVec S16 32) a x).toNat < S48.size a) ∧
  (∀ (k0_h3 : k0_cond3 i k0_t1 = 1#1), ∀ a x, ((![v83, v173] : Fin 2 → IVec S16 32) a x).toNat < S160x48.size a)
theorem k0_idx29_inb : ∀ (i : grid0.Coords) (k0_t1 : Fin (k0_t1_loop i).trips) (v83 : IVec S16 32) (v173 : IVec S16 32) (k0_hw24 : k0_chk24 i k0_t1 v83 v173), ∀ (k0_h3 : k0_cond3 i k0_t1 = 1#1), ∀ a x, ((![v173] : Fin 1 → IVec S16 32) a x).toNat < S48.size a := fun i k0_t1 v83 v173 k0_hw24 k0_h3 => k0_hw24.1 k0_h3
theorem k0_idx30_inb : ∀ (i : grid0.Coords) (k0_t1 : Fin (k0_t1_loop i).trips) (v83 : IVec S16 32) (v173 : IVec S16 32) (k0_hw24 : k0_chk24 i k0_t1 v83 v173), ∀ (k0_h3 : k0_cond3 i k0_t1 = 1#1), ∀ a x, ((![v83, v173] : Fin 2 → IVec S16 32) a x).toNat < S160x48.size a := fun i k0_t1 v83 v173 k0_hw24 k0_h3 => k0_hw24.2 k0_h3

def k0_chk25 (i : grid0.Coords) (k0_t1 : Fin (k0_t1_loop i).trips) (v83 : IVec S16 32) (v184 : IVec S16 32) : Prop :=
  (∀ (k0_h3 : k0_cond3 i k0_t1 = 1#1), ∀ a x, ((![v83, v184] : Fin 2 → IVec S16 32) a x).toNat < S160x240.size a)
theorem k0_idx31_inb : ∀ (i : grid0.Coords) (k0_t1 : Fin (k0_t1_loop i).trips) (v83 : IVec S16 32) (v184 : IVec S16 32) (k0_hw25 : k0_chk25 i k0_t1 v83 v184), ∀ (k0_h3 : k0_cond3 i k0_t1 = 1#1), ∀ a x, ((![v83, v184] : Fin 2 → IVec S16 32) a x).toNat < S160x240.size a := fun i k0_t1 v83 v184 k0_hw25 k0_h3 => k0_hw25 k0_h3

def k0_chk26 (i : grid0.Coords) (k0_t1 : Fin (k0_t1_loop i).trips) (v83 : IVec S16 32) (v194 : IVec S16 32) : Prop :=
  (∀ (k0_h3 : k0_cond3 i k0_t1 = 1#1), ∀ a x, ((![v83, v194] : Fin 2 → IVec S16 32) a x).toNat < S160x240.size a)
theorem k0_idx32_inb : ∀ (i : grid0.Coords) (k0_t1 : Fin (k0_t1_loop i).trips) (v83 : IVec S16 32) (v194 : IVec S16 32) (k0_hw26 : k0_chk26 i k0_t1 v83 v194), ∀ (k0_h3 : k0_cond3 i k0_t1 = 1#1), ∀ a x, ((![v83, v194] : Fin 2 → IVec S16 32) a x).toNat < S160x240.size a := fun i k0_t1 v83 v194 k0_hw26 k0_h3 => k0_hw26 k0_h3

def k0_chk27 (i : grid0.Coords) (k0_t1 : Fin (k0_t1_loop i).trips) (v83 : IVec S16 32) (v198 : IVec S16 32) : Prop :=
  (∀ (k0_h3 : k0_cond3 i k0_t1 = 1#1), ∀ a x, ((![v83, v198] : Fin 2 → IVec S16 32) a x).toNat < S160x240.size a)
theorem k0_idx33_inb : ∀ (i : grid0.Coords) (k0_t1 : Fin (k0_t1_loop i).trips) (v83 : IVec S16 32) (v198 : IVec S16 32) (k0_hw27 : k0_chk27 i k0_t1 v83 v198), ∀ (k0_h3 : k0_cond3 i k0_t1 = 1#1), ∀ a x, ((![v83, v198] : Fin 2 → IVec S16 32) a x).toNat < S160x240.size a := fun i k0_t1 v83 v198 k0_hw27 k0_h3 => k0_hw27 k0_h3

def k0_chk28 (i : grid0.Coords) (k0_t1 : Fin (k0_t1_loop i).trips) (v83 : IVec S16 32) (v191 : IVec S16 32) : Prop :=
  (∀ (k0_h3 : k0_cond3 i k0_t1 = 1#1), ∀ a x, ((![v191] : Fin 1 → IVec S16 32) a x).toNat < S48.size a) ∧
  (∀ (k0_h3 : k0_cond3 i k0_t1 = 1#1), ∀ a x, ((![v83, v191] : Fin 2 → IVec S16 32) a x).toNat < S160x48.size a)
theorem k0_idx34_inb : ∀ (i : grid0.Coords) (k0_t1 : Fin (k0_t1_loop i).trips) (v83 : IVec S16 32) (v191 : IVec S16 32) (k0_hw28 : k0_chk28 i k0_t1 v83 v191), ∀ (k0_h3 : k0_cond3 i k0_t1 = 1#1), ∀ a x, ((![v191] : Fin 1 → IVec S16 32) a x).toNat < S48.size a := fun i k0_t1 v83 v191 k0_hw28 k0_h3 => k0_hw28.1 k0_h3
theorem k0_idx35_inb : ∀ (i : grid0.Coords) (k0_t1 : Fin (k0_t1_loop i).trips) (v83 : IVec S16 32) (v191 : IVec S16 32) (k0_hw28 : k0_chk28 i k0_t1 v83 v191), ∀ (k0_h3 : k0_cond3 i k0_t1 = 1#1), ∀ a x, ((![v83, v191] : Fin 2 → IVec S16 32) a x).toNat < S160x48.size a := fun i k0_t1 v83 v191 k0_hw28 k0_h3 => k0_hw28.2 k0_h3

def k0_chk29 (i : grid0.Coords) (k0_t1 : Fin (k0_t1_loop i).trips) (v83 : IVec S16 32) (v202 : IVec S16 32) : Prop :=
  (∀ (k0_h3 : k0_cond3 i k0_t1 = 1#1), ∀ a x, ((![v83, v202] : Fin 2 → IVec S16 32) a x).toNat < S160x240.size a)
theorem k0_idx36_inb : ∀ (i : grid0.Coords) (k0_t1 : Fin (k0_t1_loop i).trips) (v83 : IVec S16 32) (v202 : IVec S16 32) (k0_hw29 : k0_chk29 i k0_t1 v83 v202), ∀ (k0_h3 : k0_cond3 i k0_t1 = 1#1), ∀ a x, ((![v83, v202] : Fin 2 → IVec S16 32) a x).toNat < S160x240.size a := fun i k0_t1 v83 v202 k0_hw29 k0_h3 => k0_hw29 k0_h3

def k0_chk30 (i : grid0.Coords) (k0_t1 : Fin (k0_t1_loop i).trips) (v83 : IVec S16 32) (v212 : IVec S16 32) : Prop :=
  (∀ (k0_h3 : k0_cond3 i k0_t1 = 1#1), ∀ a x, ((![v83, v212] : Fin 2 → IVec S16 32) a x).toNat < S160x240.size a)
theorem k0_idx37_inb : ∀ (i : grid0.Coords) (k0_t1 : Fin (k0_t1_loop i).trips) (v83 : IVec S16 32) (v212 : IVec S16 32) (k0_hw30 : k0_chk30 i k0_t1 v83 v212), ∀ (k0_h3 : k0_cond3 i k0_t1 = 1#1), ∀ a x, ((![v83, v212] : Fin 2 → IVec S16 32) a x).toNat < S160x240.size a := fun i k0_t1 v83 v212 k0_hw30 k0_h3 => k0_hw30 k0_h3

def k0_chk31 (i : grid0.Coords) (k0_t1 : Fin (k0_t1_loop i).trips) (v83 : IVec S16 32) (v216 : IVec S16 32) : Prop :=
  (∀ (k0_h3 : k0_cond3 i k0_t1 = 1#1), ∀ a x, ((![v83, v216] : Fin 2 → IVec S16 32) a x).toNat < S160x240.size a)
theorem k0_idx38_inb : ∀ (i : grid0.Coords) (k0_t1 : Fin (k0_t1_loop i).trips) (v83 : IVec S16 32) (v216 : IVec S16 32) (k0_hw31 : k0_chk31 i k0_t1 v83 v216), ∀ (k0_h3 : k0_cond3 i k0_t1 = 1#1), ∀ a x, ((![v83, v216] : Fin 2 → IVec S16 32) a x).toNat < S160x240.size a := fun i k0_t1 v83 v216 k0_hw31 k0_h3 => k0_hw31 k0_h3

def k0_chk32 (i : grid0.Coords) (k0_t1 : Fin (k0_t1_loop i).trips) (v83 : IVec S16 32) (v209 : IVec S16 32) : Prop :=
  (∀ (k0_h3 : k0_cond3 i k0_t1 = 1#1), ∀ a x, ((![v209] : Fin 1 → IVec S16 32) a x).toNat < S48.size a) ∧
  (∀ (k0_h3 : k0_cond3 i k0_t1 = 1#1), ∀ a x, ((![v83, v209] : Fin 2 → IVec S16 32) a x).toNat < S160x48.size a)
theorem k0_idx39_inb : ∀ (i : grid0.Coords) (k0_t1 : Fin (k0_t1_loop i).trips) (v83 : IVec S16 32) (v209 : IVec S16 32) (k0_hw32 : k0_chk32 i k0_t1 v83 v209), ∀ (k0_h3 : k0_cond3 i k0_t1 = 1#1), ∀ a x, ((![v209] : Fin 1 → IVec S16 32) a x).toNat < S48.size a := fun i k0_t1 v83 v209 k0_hw32 k0_h3 => k0_hw32.1 k0_h3
theorem k0_idx40_inb : ∀ (i : grid0.Coords) (k0_t1 : Fin (k0_t1_loop i).trips) (v83 : IVec S16 32) (v209 : IVec S16 32) (k0_hw32 : k0_chk32 i k0_t1 v83 v209), ∀ (k0_h3 : k0_cond3 i k0_t1 = 1#1), ∀ a x, ((![v83, v209] : Fin 2 → IVec S16 32) a x).toNat < S160x48.size a := fun i k0_t1 v83 v209 k0_hw32 k0_h3 => k0_hw32.2 k0_h3

def k0_chk33 (i : grid0.Coords) (k0_t1 : Fin (k0_t1_loop i).trips) (v83 : IVec S16 32) (v220 : IVec S16 32) : Prop :=
  (∀ (k0_h3 : k0_cond3 i k0_t1 = 1#1), ∀ a x, ((![v83, v220] : Fin 2 → IVec S16 32) a x).toNat < S160x240.size a)
theorem k0_idx41_inb : ∀ (i : grid0.Coords) (k0_t1 : Fin (k0_t1_loop i).trips) (v83 : IVec S16 32) (v220 : IVec S16 32) (k0_hw33 : k0_chk33 i k0_t1 v83 v220), ∀ (k0_h3 : k0_cond3 i k0_t1 = 1#1), ∀ a x, ((![v83, v220] : Fin 2 → IVec S16 32) a x).toNat < S160x240.size a := fun i k0_t1 v83 v220 k0_hw33 k0_h3 => k0_hw33 k0_h3

def k0_chk34 (i : grid0.Coords) (k0_t1 : Fin (k0_t1_loop i).trips) (v83 : IVec S16 32) (v230 : IVec S16 32) : Prop :=
  (∀ (k0_h3 : k0_cond3 i k0_t1 = 1#1), ∀ a x, ((![v83, v230] : Fin 2 → IVec S16 32) a x).toNat < S160x240.size a)
theorem k0_idx42_inb : ∀ (i : grid0.Coords) (k0_t1 : Fin (k0_t1_loop i).trips) (v83 : IVec S16 32) (v230 : IVec S16 32) (k0_hw34 : k0_chk34 i k0_t1 v83 v230), ∀ (k0_h3 : k0_cond3 i k0_t1 = 1#1), ∀ a x, ((![v83, v230] : Fin 2 → IVec S16 32) a x).toNat < S160x240.size a := fun i k0_t1 v83 v230 k0_hw34 k0_h3 => k0_hw34 k0_h3

def k0_chk35 (i : grid0.Coords) (k0_t1 : Fin (k0_t1_loop i).trips) (v83 : IVec S16 32) (v234 : IVec S16 32) : Prop :=
  (∀ (k0_h3 : k0_cond3 i k0_t1 = 1#1), ∀ a x, ((![v83, v234] : Fin 2 → IVec S16 32) a x).toNat < S160x240.size a)
theorem k0_idx43_inb : ∀ (i : grid0.Coords) (k0_t1 : Fin (k0_t1_loop i).trips) (v83 : IVec S16 32) (v234 : IVec S16 32) (k0_hw35 : k0_chk35 i k0_t1 v83 v234), ∀ (k0_h3 : k0_cond3 i k0_t1 = 1#1), ∀ a x, ((![v83, v234] : Fin 2 → IVec S16 32) a x).toNat < S160x240.size a := fun i k0_t1 v83 v234 k0_hw35 k0_h3 => k0_hw35 k0_h3

def k0_chk36 (i : grid0.Coords) (k0_t1 : Fin (k0_t1_loop i).trips) (v83 : IVec S16 32) (v227 : IVec S16 32) : Prop :=
  (∀ (k0_h3 : k0_cond3 i k0_t1 = 1#1), ∀ a x, ((![v227] : Fin 1 → IVec S16 32) a x).toNat < S48.size a) ∧
  (∀ (k0_h3 : k0_cond3 i k0_t1 = 1#1), ∀ a x, ((![v83, v227] : Fin 2 → IVec S16 32) a x).toNat < S160x48.size a)
theorem k0_idx44_inb : ∀ (i : grid0.Coords) (k0_t1 : Fin (k0_t1_loop i).trips) (v83 : IVec S16 32) (v227 : IVec S16 32) (k0_hw36 : k0_chk36 i k0_t1 v83 v227), ∀ (k0_h3 : k0_cond3 i k0_t1 = 1#1), ∀ a x, ((![v227] : Fin 1 → IVec S16 32) a x).toNat < S48.size a := fun i k0_t1 v83 v227 k0_hw36 k0_h3 => k0_hw36.1 k0_h3
theorem k0_idx45_inb : ∀ (i : grid0.Coords) (k0_t1 : Fin (k0_t1_loop i).trips) (v83 : IVec S16 32) (v227 : IVec S16 32) (k0_hw36 : k0_chk36 i k0_t1 v83 v227), ∀ (k0_h3 : k0_cond3 i k0_t1 = 1#1), ∀ a x, ((![v83, v227] : Fin 2 → IVec S16 32) a x).toNat < S160x48.size a := fun i k0_t1 v83 v227 k0_hw36 k0_h3 => k0_hw36.2 k0_h3

def k0_chk37 (i : grid0.Coords) (k0_t1 : Fin (k0_t1_loop i).trips) (v83 : IVec S16 32) (v238 : IVec S16 32) : Prop :=
  (∀ (k0_h3 : k0_cond3 i k0_t1 = 1#1), ∀ a x, ((![v83, v238] : Fin 2 → IVec S16 32) a x).toNat < S160x240.size a)
theorem k0_idx46_inb : ∀ (i : grid0.Coords) (k0_t1 : Fin (k0_t1_loop i).trips) (v83 : IVec S16 32) (v238 : IVec S16 32) (k0_hw37 : k0_chk37 i k0_t1 v83 v238), ∀ (k0_h3 : k0_cond3 i k0_t1 = 1#1), ∀ a x, ((![v83, v238] : Fin 2 → IVec S16 32) a x).toNat < S160x240.size a := fun i k0_t1 v83 v238 k0_hw37 k0_h3 => k0_hw37 k0_h3

def k0_chk38 (i : grid0.Coords) (k0_t1 : Fin (k0_t1_loop i).trips) (v83 : IVec S16 32) (v248 : IVec S16 32) : Prop :=
  (∀ (k0_h3 : k0_cond3 i k0_t1 = 1#1), ∀ a x, ((![v83, v248] : Fin 2 → IVec S16 32) a x).toNat < S160x240.size a)
theorem k0_idx47_inb : ∀ (i : grid0.Coords) (k0_t1 : Fin (k0_t1_loop i).trips) (v83 : IVec S16 32) (v248 : IVec S16 32) (k0_hw38 : k0_chk38 i k0_t1 v83 v248), ∀ (k0_h3 : k0_cond3 i k0_t1 = 1#1), ∀ a x, ((![v83, v248] : Fin 2 → IVec S16 32) a x).toNat < S160x240.size a := fun i k0_t1 v83 v248 k0_hw38 k0_h3 => k0_hw38 k0_h3

def k0_chk39 (i : grid0.Coords) (k0_t1 : Fin (k0_t1_loop i).trips) (v83 : IVec S16 32) (v252 : IVec S16 32) : Prop :=
  (∀ (k0_h3 : k0_cond3 i k0_t1 = 1#1), ∀ a x, ((![v83, v252] : Fin 2 → IVec S16 32) a x).toNat < S160x240.size a)
theorem k0_idx48_inb : ∀ (i : grid0.Coords) (k0_t1 : Fin (k0_t1_loop i).trips) (v83 : IVec S16 32) (v252 : IVec S16 32) (k0_hw39 : k0_chk39 i k0_t1 v83 v252), ∀ (k0_h3 : k0_cond3 i k0_t1 = 1#1), ∀ a x, ((![v83, v252] : Fin 2 → IVec S16 32) a x).toNat < S160x240.size a := fun i k0_t1 v83 v252 k0_hw39 k0_h3 => k0_hw39 k0_h3

def k0_chk40 (i : grid0.Coords) (k0_t1 : Fin (k0_t1_loop i).trips) (v83 : IVec S16 32) (v245 : IVec S16 32) : Prop :=
  (∀ (k0_h3 : k0_cond3 i k0_t1 = 1#1), ∀ a x, ((![v245] : Fin 1 → IVec S16 32) a x).toNat < S48.size a) ∧
  (∀ (k0_h3 : k0_cond3 i k0_t1 = 1#1), ∀ a x, ((![v83, v245] : Fin 2 → IVec S16 32) a x).toNat < S160x48.size a)
theorem k0_idx49_inb : ∀ (i : grid0.Coords) (k0_t1 : Fin (k0_t1_loop i).trips) (v83 : IVec S16 32) (v245 : IVec S16 32) (k0_hw40 : k0_chk40 i k0_t1 v83 v245), ∀ (k0_h3 : k0_cond3 i k0_t1 = 1#1), ∀ a x, ((![v245] : Fin 1 → IVec S16 32) a x).toNat < S48.size a := fun i k0_t1 v83 v245 k0_hw40 k0_h3 => k0_hw40.1 k0_h3
theorem k0_idx50_inb : ∀ (i : grid0.Coords) (k0_t1 : Fin (k0_t1_loop i).trips) (v83 : IVec S16 32) (v245 : IVec S16 32) (k0_hw40 : k0_chk40 i k0_t1 v83 v245), ∀ (k0_h3 : k0_cond3 i k0_t1 = 1#1), ∀ a x, ((![v83, v245] : Fin 2 → IVec S16 32) a x).toNat < S160x48.size a := fun i k0_t1 v83 v245 k0_hw40 k0_h3 => k0_hw40.2 k0_h3

def k0_chk41 (i : grid0.Coords) (k0_t1 : Fin (k0_t1_loop i).trips) (v83 : IVec S16 32) (v256 : IVec S16 32) : Prop :=
  (∀ (k0_h3 : k0_cond3 i k0_t1 = 1#1), ∀ a x, ((![v83, v256] : Fin 2 → IVec S16 32) a x).toNat < S160x240.size a)
theorem k0_idx51_inb : ∀ (i : grid0.Coords) (k0_t1 : Fin (k0_t1_loop i).trips) (v83 : IVec S16 32) (v256 : IVec S16 32) (k0_hw41 : k0_chk41 i k0_t1 v83 v256), ∀ (k0_h3 : k0_cond3 i k0_t1 = 1#1), ∀ a x, ((![v83, v256] : Fin 2 → IVec S16 32) a x).toNat < S160x240.size a := fun i k0_t1 v83 v256 k0_hw41 k0_h3 => k0_hw41 k0_h3

def k0_chk42 (i : grid0.Coords) (k0_t1 : Fin (k0_t1_loop i).trips) (v83 : IVec S16 32) (v266 : IVec S16 32) : Prop :=
  (∀ (k0_h3 : k0_cond3 i k0_t1 = 1#1), ∀ a x, ((![v83, v266] : Fin 2 → IVec S16 32) a x).toNat < S160x240.size a)
theorem k0_idx52_inb : ∀ (i : grid0.Coords) (k0_t1 : Fin (k0_t1_loop i).trips) (v83 : IVec S16 32) (v266 : IVec S16 32) (k0_hw42 : k0_chk42 i k0_t1 v83 v266), ∀ (k0_h3 : k0_cond3 i k0_t1 = 1#1), ∀ a x, ((![v83, v266] : Fin 2 → IVec S16 32) a x).toNat < S160x240.size a := fun i k0_t1 v83 v266 k0_hw42 k0_h3 => k0_hw42 k0_h3

def k0_chk43 (i : grid0.Coords) (k0_t1 : Fin (k0_t1_loop i).trips) (v83 : IVec S16 32) (v270 : IVec S16 32) : Prop :=
  (∀ (k0_h3 : k0_cond3 i k0_t1 = 1#1), ∀ a x, ((![v83, v270] : Fin 2 → IVec S16 32) a x).toNat < S160x240.size a)
theorem k0_idx53_inb : ∀ (i : grid0.Coords) (k0_t1 : Fin (k0_t1_loop i).trips) (v83 : IVec S16 32) (v270 : IVec S16 32) (k0_hw43 : k0_chk43 i k0_t1 v83 v270), ∀ (k0_h3 : k0_cond3 i k0_t1 = 1#1), ∀ a x, ((![v83, v270] : Fin 2 → IVec S16 32) a x).toNat < S160x240.size a := fun i k0_t1 v83 v270 k0_hw43 k0_h3 => k0_hw43 k0_h3

def k0_chk44 (i : grid0.Coords) (k0_t1 : Fin (k0_t1_loop i).trips) (v83 : IVec S16 32) (v263 : IVec S16 32) : Prop :=
  (∀ (k0_h3 : k0_cond3 i k0_t1 = 1#1), ∀ a x, ((![v263] : Fin 1 → IVec S16 32) a x).toNat < S48.size a) ∧
  (∀ (k0_h3 : k0_cond3 i k0_t1 = 1#1), ∀ a x, ((![v83, v263] : Fin 2 → IVec S16 32) a x).toNat < S160x48.size a)
theorem k0_idx54_inb : ∀ (i : grid0.Coords) (k0_t1 : Fin (k0_t1_loop i).trips) (v83 : IVec S16 32) (v263 : IVec S16 32) (k0_hw44 : k0_chk44 i k0_t1 v83 v263), ∀ (k0_h3 : k0_cond3 i k0_t1 = 1#1), ∀ a x, ((![v263] : Fin 1 → IVec S16 32) a x).toNat < S48.size a := fun i k0_t1 v83 v263 k0_hw44 k0_h3 => k0_hw44.1 k0_h3
theorem k0_idx55_inb : ∀ (i : grid0.Coords) (k0_t1 : Fin (k0_t1_loop i).trips) (v83 : IVec S16 32) (v263 : IVec S16 32) (k0_hw44 : k0_chk44 i k0_t1 v83 v263), ∀ (k0_h3 : k0_cond3 i k0_t1 = 1#1), ∀ a x, ((![v83, v263] : Fin 2 → IVec S16 32) a x).toNat < S160x48.size a := fun i k0_t1 v83 v263 k0_hw44 k0_h3 => k0_hw44.2 k0_h3

def k0_chk45 (i : grid0.Coords) (k0_t1 : Fin (k0_t1_loop i).trips) (v83 : IVec S16 32) (v274 : IVec S16 32) : Prop :=
  (∀ (k0_h3 : k0_cond3 i k0_t1 = 1#1), ∀ a x, ((![v83, v274] : Fin 2 → IVec S16 32) a x).toNat < S160x240.size a)
theorem k0_idx56_inb : ∀ (i : grid0.Coords) (k0_t1 : Fin (k0_t1_loop i).trips) (v83 : IVec S16 32) (v274 : IVec S16 32) (k0_hw45 : k0_chk45 i k0_t1 v83 v274), ∀ (k0_h3 : k0_cond3 i k0_t1 = 1#1), ∀ a x, ((![v83, v274] : Fin 2 → IVec S16 32) a x).toNat < S160x240.size a := fun i k0_t1 v83 v274 k0_hw45 k0_h3 => k0_hw45 k0_h3

def k0_chk46 (i : grid0.Coords) (k0_t1 : Fin (k0_t1_loop i).trips) (v83 : IVec S16 32) (v284 : IVec S16 32) : Prop :=
  (∀ (k0_h3 : k0_cond3 i k0_t1 = 1#1), ∀ a x, ((![v83, v284] : Fin 2 → IVec S16 32) a x).toNat < S160x240.size a)
theorem k0_idx57_inb : ∀ (i : grid0.Coords) (k0_t1 : Fin (k0_t1_loop i).trips) (v83 : IVec S16 32) (v284 : IVec S16 32) (k0_hw46 : k0_chk46 i k0_t1 v83 v284), ∀ (k0_h3 : k0_cond3 i k0_t1 = 1#1), ∀ a x, ((![v83, v284] : Fin 2 → IVec S16 32) a x).toNat < S160x240.size a := fun i k0_t1 v83 v284 k0_hw46 k0_h3 => k0_hw46 k0_h3

def k0_chk47 (i : grid0.Coords) (k0_t1 : Fin (k0_t1_loop i).trips) (v83 : IVec S16 32) (v288 : IVec S16 32) : Prop :=
  (∀ (k0_h3 : k0_cond3 i k0_t1 = 1#1), ∀ a x, ((![v83, v288] : Fin 2 → IVec S16 32) a x).toNat < S160x240.size a)
theorem k0_idx58_inb : ∀ (i : grid0.Coords) (k0_t1 : Fin (k0_t1_loop i).trips) (v83 : IVec S16 32) (v288 : IVec S16 32) (k0_hw47 : k0_chk47 i k0_t1 v83 v288), ∀ (k0_h3 : k0_cond3 i k0_t1 = 1#1), ∀ a x, ((![v83, v288] : Fin 2 → IVec S16 32) a x).toNat < S160x240.size a := fun i k0_t1 v83 v288 k0_hw47 k0_h3 => k0_hw47 k0_h3

def k0_chk48 (i : grid0.Coords) (k0_t1 : Fin (k0_t1_loop i).trips) (v83 : IVec S16 32) (v281 : IVec S16 32) : Prop :=
  (∀ (k0_h3 : k0_cond3 i k0_t1 = 1#1), ∀ a x, ((![v281] : Fin 1 → IVec S16 32) a x).toNat < S48.size a) ∧
  (∀ (k0_h3 : k0_cond3 i k0_t1 = 1#1), ∀ a x, ((![v83, v281] : Fin 2 → IVec S16 32) a x).toNat < S160x48.size a)
theorem k0_idx59_inb : ∀ (i : grid0.Coords) (k0_t1 : Fin (k0_t1_loop i).trips) (v83 : IVec S16 32) (v281 : IVec S16 32) (k0_hw48 : k0_chk48 i k0_t1 v83 v281), ∀ (k0_h3 : k0_cond3 i k0_t1 = 1#1), ∀ a x, ((![v281] : Fin 1 → IVec S16 32) a x).toNat < S48.size a := fun i k0_t1 v83 v281 k0_hw48 k0_h3 => k0_hw48.1 k0_h3
theorem k0_idx60_inb : ∀ (i : grid0.Coords) (k0_t1 : Fin (k0_t1_loop i).trips) (v83 : IVec S16 32) (v281 : IVec S16 32) (k0_hw48 : k0_chk48 i k0_t1 v83 v281), ∀ (k0_h3 : k0_cond3 i k0_t1 = 1#1), ∀ a x, ((![v83, v281] : Fin 2 → IVec S16 32) a x).toNat < S160x48.size a := fun i k0_t1 v83 v281 k0_hw48 k0_h3 => k0_hw48.2 k0_h3

def k0_chk49 (i : grid0.Coords) (k0_t1 : Fin (k0_t1_loop i).trips) (v83 : IVec S16 32) (v292 : IVec S16 32) : Prop :=
  (∀ (k0_h3 : k0_cond3 i k0_t1 = 1#1), ∀ a x, ((![v83, v292] : Fin 2 → IVec S16 32) a x).toNat < S160x240.size a)
theorem k0_idx61_inb : ∀ (i : grid0.Coords) (k0_t1 : Fin (k0_t1_loop i).trips) (v83 : IVec S16 32) (v292 : IVec S16 32) (k0_hw49 : k0_chk49 i k0_t1 v83 v292), ∀ (k0_h3 : k0_cond3 i k0_t1 = 1#1), ∀ a x, ((![v83, v292] : Fin 2 → IVec S16 32) a x).toNat < S160x240.size a := fun i k0_t1 v83 v292 k0_hw49 k0_h3 => k0_hw49 k0_h3

def k0_chk50 (i : grid0.Coords) (k0_t1 : Fin (k0_t1_loop i).trips) (v83 : IVec S16 32) (v302 : IVec S16 32) : Prop :=
  (∀ (k0_h3 : k0_cond3 i k0_t1 = 1#1), ∀ a x, ((![v83, v302] : Fin 2 → IVec S16 32) a x).toNat < S160x240.size a)
theorem k0_idx62_inb : ∀ (i : grid0.Coords) (k0_t1 : Fin (k0_t1_loop i).trips) (v83 : IVec S16 32) (v302 : IVec S16 32) (k0_hw50 : k0_chk50 i k0_t1 v83 v302), ∀ (k0_h3 : k0_cond3 i k0_t1 = 1#1), ∀ a x, ((![v83, v302] : Fin 2 → IVec S16 32) a x).toNat < S160x240.size a := fun i k0_t1 v83 v302 k0_hw50 k0_h3 => k0_hw50 k0_h3

def k0_chk51 (i : grid0.Coords) (k0_t1 : Fin (k0_t1_loop i).trips) (v83 : IVec S16 32) (v306 : IVec S16 32) : Prop :=
  (∀ (k0_h3 : k0_cond3 i k0_t1 = 1#1), ∀ a x, ((![v83, v306] : Fin 2 → IVec S16 32) a x).toNat < S160x240.size a)
theorem k0_idx63_inb : ∀ (i : grid0.Coords) (k0_t1 : Fin (k0_t1_loop i).trips) (v83 : IVec S16 32) (v306 : IVec S16 32) (k0_hw51 : k0_chk51 i k0_t1 v83 v306), ∀ (k0_h3 : k0_cond3 i k0_t1 = 1#1), ∀ a x, ((![v83, v306] : Fin 2 → IVec S16 32) a x).toNat < S160x240.size a := fun i k0_t1 v83 v306 k0_hw51 k0_h3 => k0_hw51 k0_h3

def k0_chk52 (i : grid0.Coords) (k0_t1 : Fin (k0_t1_loop i).trips) (v83 : IVec S16 32) (v299 : IVec S16 32) : Prop :=
  (∀ (k0_h3 : k0_cond3 i k0_t1 = 1#1), ∀ a x, ((![v299] : Fin 1 → IVec S16 32) a x).toNat < S48.size a) ∧
  (∀ (k0_h3 : k0_cond3 i k0_t1 = 1#1), ∀ a x, ((![v83, v299] : Fin 2 → IVec S16 32) a x).toNat < S160x48.size a)
theorem k0_idx64_inb : ∀ (i : grid0.Coords) (k0_t1 : Fin (k0_t1_loop i).trips) (v83 : IVec S16 32) (v299 : IVec S16 32) (k0_hw52 : k0_chk52 i k0_t1 v83 v299), ∀ (k0_h3 : k0_cond3 i k0_t1 = 1#1), ∀ a x, ((![v299] : Fin 1 → IVec S16 32) a x).toNat < S48.size a := fun i k0_t1 v83 v299 k0_hw52 k0_h3 => k0_hw52.1 k0_h3
theorem k0_idx65_inb : ∀ (i : grid0.Coords) (k0_t1 : Fin (k0_t1_loop i).trips) (v83 : IVec S16 32) (v299 : IVec S16 32) (k0_hw52 : k0_chk52 i k0_t1 v83 v299), ∀ (k0_h3 : k0_cond3 i k0_t1 = 1#1), ∀ a x, ((![v83, v299] : Fin 2 → IVec S16 32) a x).toNat < S160x48.size a := fun i k0_t1 v83 v299 k0_hw52 k0_h3 => k0_hw52.2 k0_h3

def k0_chk53 (i : grid0.Coords) (k0_t1 : Fin (k0_t1_loop i).trips) (v83 : IVec S16 32) (v310 : IVec S16 32) : Prop :=
  (∀ (k0_h3 : k0_cond3 i k0_t1 = 1#1), ∀ a x, ((![v83, v310] : Fin 2 → IVec S16 32) a x).toNat < S160x240.size a)
theorem k0_idx66_inb : ∀ (i : grid0.Coords) (k0_t1 : Fin (k0_t1_loop i).trips) (v83 : IVec S16 32) (v310 : IVec S16 32) (k0_hw53 : k0_chk53 i k0_t1 v83 v310), ∀ (k0_h3 : k0_cond3 i k0_t1 = 1#1), ∀ a x, ((![v83, v310] : Fin 2 → IVec S16 32) a x).toNat < S160x240.size a := fun i k0_t1 v83 v310 k0_hw53 k0_h3 => k0_hw53 k0_h3

def k0_chk54 (i : grid0.Coords) (k0_t1 : Fin (k0_t1_loop i).trips) (v83 : IVec S16 32) (v320 : IVec S16 32) : Prop :=
  (∀ (k0_h3 : k0_cond3 i k0_t1 = 1#1), ∀ a x, ((![v83, v320] : Fin 2 → IVec S16 32) a x).toNat < S160x240.size a)
theorem k0_idx67_inb : ∀ (i : grid0.Coords) (k0_t1 : Fin (k0_t1_loop i).trips) (v83 : IVec S16 32) (v320 : IVec S16 32) (k0_hw54 : k0_chk54 i k0_t1 v83 v320), ∀ (k0_h3 : k0_cond3 i k0_t1 = 1#1), ∀ a x, ((![v83, v320] : Fin 2 → IVec S16 32) a x).toNat < S160x240.size a := fun i k0_t1 v83 v320 k0_hw54 k0_h3 => k0_hw54 k0_h3

def k0_chk55 (i : grid0.Coords) (k0_t1 : Fin (k0_t1_loop i).trips) (v83 : IVec S16 32) (v324 : IVec S16 32) : Prop :=
  (∀ (k0_h3 : k0_cond3 i k0_t1 = 1#1), ∀ a x, ((![v83, v324] : Fin 2 → IVec S16 32) a x).toNat < S160x240.size a)
theorem k0_idx68_inb : ∀ (i : grid0.Coords) (k0_t1 : Fin (k0_t1_loop i).trips) (v83 : IVec S16 32) (v324 : IVec S16 32) (k0_hw55 : k0_chk55 i k0_t1 v83 v324), ∀ (k0_h3 : k0_cond3 i k0_t1 = 1#1), ∀ a x, ((![v83, v324] : Fin 2 → IVec S16 32) a x).toNat < S160x240.size a := fun i k0_t1 v83 v324 k0_hw55 k0_h3 => k0_hw55 k0_h3

def k0_chk56 (i : grid0.Coords) (k0_t1 : Fin (k0_t1_loop i).trips) (v83 : IVec S16 32) (v317 : IVec S16 32) : Prop :=
  (∀ (k0_h3 : k0_cond3 i k0_t1 = 1#1), ∀ a x, ((![v317] : Fin 1 → IVec S16 32) a x).toNat < S48.size a) ∧
  (∀ (k0_h3 : k0_cond3 i k0_t1 = 1#1), ∀ a x, ((![v83, v317] : Fin 2 → IVec S16 32) a x).toNat < S160x48.size a)
theorem k0_idx69_inb : ∀ (i : grid0.Coords) (k0_t1 : Fin (k0_t1_loop i).trips) (v83 : IVec S16 32) (v317 : IVec S16 32) (k0_hw56 : k0_chk56 i k0_t1 v83 v317), ∀ (k0_h3 : k0_cond3 i k0_t1 = 1#1), ∀ a x, ((![v317] : Fin 1 → IVec S16 32) a x).toNat < S48.size a := fun i k0_t1 v83 v317 k0_hw56 k0_h3 => k0_hw56.1 k0_h3
theorem k0_idx70_inb : ∀ (i : grid0.Coords) (k0_t1 : Fin (k0_t1_loop i).trips) (v83 : IVec S16 32) (v317 : IVec S16 32) (k0_hw56 : k0_chk56 i k0_t1 v83 v317), ∀ (k0_h3 : k0_cond3 i k0_t1 = 1#1), ∀ a x, ((![v83, v317] : Fin 2 → IVec S16 32) a x).toNat < S160x48.size a := fun i k0_t1 v83 v317 k0_hw56 k0_h3 => k0_hw56.2 k0_h3

def k0_chk57 (i : grid0.Coords) (k0_t1 : Fin (k0_t1_loop i).trips) (v83 : IVec S16 32) (v328 : IVec S16 32) : Prop :=
  (∀ (k0_h3 : k0_cond3 i k0_t1 = 1#1), ∀ a x, ((![v83, v328] : Fin 2 → IVec S16 32) a x).toNat < S160x240.size a)
theorem k0_idx71_inb : ∀ (i : grid0.Coords) (k0_t1 : Fin (k0_t1_loop i).trips) (v83 : IVec S16 32) (v328 : IVec S16 32) (k0_hw57 : k0_chk57 i k0_t1 v83 v328), ∀ (k0_h3 : k0_cond3 i k0_t1 = 1#1), ∀ a x, ((![v83, v328] : Fin 2 → IVec S16 32) a x).toNat < S160x240.size a := fun i k0_t1 v83 v328 k0_hw57 k0_h3 => k0_hw57 k0_h3

def k0_chk58 (i : grid0.Coords) (k0_t1 : Fin (k0_t1_loop i).trips) (v83 : IVec S16 32) (v338 : IVec S16 32) : Prop :=
  (∀ (k0_h3 : k0_cond3 i k0_t1 = 1#1), ∀ a x, ((![v83, v338] : Fin 2 → IVec S16 32) a x).toNat < S160x240.size a)
theorem k0_idx72_inb : ∀ (i : grid0.Coords) (k0_t1 : Fin (k0_t1_loop i).trips) (v83 : IVec S16 32) (v338 : IVec S16 32) (k0_hw58 : k0_chk58 i k0_t1 v83 v338), ∀ (k0_h3 : k0_cond3 i k0_t1 = 1#1), ∀ a x, ((![v83, v338] : Fin 2 → IVec S16 32) a x).toNat < S160x240.size a := fun i k0_t1 v83 v338 k0_hw58 k0_h3 => k0_hw58 k0_h3

def k0_chk59 (i : grid0.Coords) (k0_t1 : Fin (k0_t1_loop i).trips) (v83 : IVec S16 32) (v342 : IVec S16 32) : Prop :=
  (∀ (k0_h3 : k0_cond3 i k0_t1 = 1#1), ∀ a x, ((![v83, v342] : Fin 2 → IVec S16 32) a x).toNat < S160x240.size a)
theorem k0_idx73_inb : ∀ (i : grid0.Coords) (k0_t1 : Fin (k0_t1_loop i).trips) (v83 : IVec S16 32) (v342 : IVec S16 32) (k0_hw59 : k0_chk59 i k0_t1 v83 v342), ∀ (k0_h3 : k0_cond3 i k0_t1 = 1#1), ∀ a x, ((![v83, v342] : Fin 2 → IVec S16 32) a x).toNat < S160x240.size a := fun i k0_t1 v83 v342 k0_hw59 k0_h3 => k0_hw59 k0_h3

def k0_chk60 (i : grid0.Coords) (k0_t1 : Fin (k0_t1_loop i).trips) (v83 : IVec S16 32) (v335 : IVec S16 32) : Prop :=
  (∀ (k0_h3 : k0_cond3 i k0_t1 = 1#1), ∀ a x, ((![v335] : Fin 1 → IVec S16 32) a x).toNat < S48.size a) ∧
  (∀ (k0_h3 : k0_cond3 i k0_t1 = 1#1), ∀ a x, ((![v83, v335] : Fin 2 → IVec S16 32) a x).toNat < S160x48.size a)
theorem k0_idx74_inb : ∀ (i : grid0.Coords) (k0_t1 : Fin (k0_t1_loop i).trips) (v83 : IVec S16 32) (v335 : IVec S16 32) (k0_hw60 : k0_chk60 i k0_t1 v83 v335), ∀ (k0_h3 : k0_cond3 i k0_t1 = 1#1), ∀ a x, ((![v335] : Fin 1 → IVec S16 32) a x).toNat < S48.size a := fun i k0_t1 v83 v335 k0_hw60 k0_h3 => k0_hw60.1 k0_h3
theorem k0_idx75_inb : ∀ (i : grid0.Coords) (k0_t1 : Fin (k0_t1_loop i).trips) (v83 : IVec S16 32) (v335 : IVec S16 32) (k0_hw60 : k0_chk60 i k0_t1 v83 v335), ∀ (k0_h3 : k0_cond3 i k0_t1 = 1#1), ∀ a x, ((![v83, v335] : Fin 2 → IVec S16 32) a x).toNat < S160x48.size a := fun i k0_t1 v83 v335 k0_hw60 k0_h3 => k0_hw60.2 k0_h3

def k0_chk61 (i : grid0.Coords) (k0_t1 : Fin (k0_t1_loop i).trips) (v83 : IVec S16 32) (v346 : IVec S16 32) : Prop :=
  (∀ (k0_h3 : k0_cond3 i k0_t1 = 1#1), ∀ a x, ((![v83, v346] : Fin 2 → IVec S16 32) a x).toNat < S160x240.size a)
theorem k0_idx76_inb : ∀ (i : grid0.Coords) (k0_t1 : Fin (k0_t1_loop i).trips) (v83 : IVec S16 32) (v346 : IVec S16 32) (k0_hw61 : k0_chk61 i k0_t1 v83 v346), ∀ (k0_h3 : k0_cond3 i k0_t1 = 1#1), ∀ a x, ((![v83, v346] : Fin 2 → IVec S16 32) a x).toNat < S160x240.size a := fun i k0_t1 v83 v346 k0_hw61 k0_h3 => k0_hw61 k0_h3

def k0_chk62 (i : grid0.Coords) (k0_t1 : Fin (k0_t1_loop i).trips) (v83 : IVec S16 32) (v356 : IVec S16 32) : Prop :=
  (∀ (k0_h3 : k0_cond3 i k0_t1 = 1#1), ∀ a x, ((![v83, v356] : Fin 2 → IVec S16 32) a x).toNat < S160x240.size a)
theorem k0_idx77_inb : ∀ (i : grid0.Coords) (k0_t1 : Fin (k0_t1_loop i).trips) (v83 : IVec S16 32) (v356 : IVec S16 32) (k0_hw62 : k0_chk62 i k0_t1 v83 v356), ∀ (k0_h3 : k0_cond3 i k0_t1 = 1#1), ∀ a x, ((![v83, v356] : Fin 2 → IVec S16 32) a x).toNat < S160x240.size a := fun i k0_t1 v83 v356 k0_hw62 k0_h3 => k0_hw62 k0_h3

def k0_chk63 (i : grid0.Coords) (k0_t1 : Fin (k0_t1_loop i).trips) (v83 : IVec S16 32) (v360 : IVec S16 32) : Prop :=
  (∀ (k0_h3 : k0_cond3 i k0_t1 = 1#1), ∀ a x, ((![v83, v360] : Fin 2 → IVec S16 32) a x).toNat < S160x240.size a)
theorem k0_idx78_inb : ∀ (i : grid0.Coords) (k0_t1 : Fin (k0_t1_loop i).trips) (v83 : IVec S16 32) (v360 : IVec S16 32) (k0_hw63 : k0_chk63 i k0_t1 v83 v360), ∀ (k0_h3 : k0_cond3 i k0_t1 = 1#1), ∀ a x, ((![v83, v360] : Fin 2 → IVec S16 32) a x).toNat < S160x240.size a := fun i k0_t1 v83 v360 k0_hw63 k0_h3 => k0_hw63 k0_h3

def k0_chk64 (i : grid0.Coords) (k0_t1 : Fin (k0_t1_loop i).trips) (v83 : IVec S16 32) (v353 : IVec S16 32) : Prop :=
  (∀ (k0_h3 : k0_cond3 i k0_t1 = 1#1), ∀ a x, ((![v353] : Fin 1 → IVec S16 32) a x).toNat < S48.size a) ∧
  (∀ (k0_h3 : k0_cond3 i k0_t1 = 1#1), ∀ a x, ((![v83, v353] : Fin 2 → IVec S16 32) a x).toNat < S160x48.size a)
theorem k0_idx79_inb : ∀ (i : grid0.Coords) (k0_t1 : Fin (k0_t1_loop i).trips) (v83 : IVec S16 32) (v353 : IVec S16 32) (k0_hw64 : k0_chk64 i k0_t1 v83 v353), ∀ (k0_h3 : k0_cond3 i k0_t1 = 1#1), ∀ a x, ((![v353] : Fin 1 → IVec S16 32) a x).toNat < S48.size a := fun i k0_t1 v83 v353 k0_hw64 k0_h3 => k0_hw64.1 k0_h3
theorem k0_idx80_inb : ∀ (i : grid0.Coords) (k0_t1 : Fin (k0_t1_loop i).trips) (v83 : IVec S16 32) (v353 : IVec S16 32) (k0_hw64 : k0_chk64 i k0_t1 v83 v353), ∀ (k0_h3 : k0_cond3 i k0_t1 = 1#1), ∀ a x, ((![v83, v353] : Fin 2 → IVec S16 32) a x).toNat < S160x48.size a := fun i k0_t1 v83 v353 k0_hw64 k0_h3 => k0_hw64.2 k0_h3

def k0_chk65 (i : grid0.Coords) (k0_t1 : Fin (k0_t1_loop i).trips) (v83 : IVec S16 32) (v364 : IVec S16 32) : Prop :=
  (∀ (k0_h3 : k0_cond3 i k0_t1 = 1#1), ∀ a x, ((![v83, v364] : Fin 2 → IVec S16 32) a x).toNat < S160x240.size a)
theorem k0_idx81_inb : ∀ (i : grid0.Coords) (k0_t1 : Fin (k0_t1_loop i).trips) (v83 : IVec S16 32) (v364 : IVec S16 32) (k0_hw65 : k0_chk65 i k0_t1 v83 v364), ∀ (k0_h3 : k0_cond3 i k0_t1 = 1#1), ∀ a x, ((![v83, v364] : Fin 2 → IVec S16 32) a x).toNat < S160x240.size a := fun i k0_t1 v83 v364 k0_hw65 k0_h3 => k0_hw65 k0_h3

def k0_chk66 (i : grid0.Coords) (k0_t1 : Fin (k0_t1_loop i).trips) (v83 : IVec S16 32) (v374 : IVec S16 32) : Prop :=
  (∀ (k0_h3 : k0_cond3 i k0_t1 = 1#1), ∀ a x, ((![v83, v374] : Fin 2 → IVec S16 32) a x).toNat < S160x240.size a)
theorem k0_idx82_inb : ∀ (i : grid0.Coords) (k0_t1 : Fin (k0_t1_loop i).trips) (v83 : IVec S16 32) (v374 : IVec S16 32) (k0_hw66 : k0_chk66 i k0_t1 v83 v374), ∀ (k0_h3 : k0_cond3 i k0_t1 = 1#1), ∀ a x, ((![v83, v374] : Fin 2 → IVec S16 32) a x).toNat < S160x240.size a := fun i k0_t1 v83 v374 k0_hw66 k0_h3 => k0_hw66 k0_h3

def k0_chk67 (i : grid0.Coords) (k0_t1 : Fin (k0_t1_loop i).trips) (v83 : IVec S16 32) (v378 : IVec S16 32) : Prop :=
  (∀ (k0_h3 : k0_cond3 i k0_t1 = 1#1), ∀ a x, ((![v83, v378] : Fin 2 → IVec S16 32) a x).toNat < S160x240.size a)
theorem k0_idx83_inb : ∀ (i : grid0.Coords) (k0_t1 : Fin (k0_t1_loop i).trips) (v83 : IVec S16 32) (v378 : IVec S16 32) (k0_hw67 : k0_chk67 i k0_t1 v83 v378), ∀ (k0_h3 : k0_cond3 i k0_t1 = 1#1), ∀ a x, ((![v83, v378] : Fin 2 → IVec S16 32) a x).toNat < S160x240.size a := fun i k0_t1 v83 v378 k0_hw67 k0_h3 => k0_hw67 k0_h3

def k0_chk68 (i : grid0.Coords) (k0_t1 : Fin (k0_t1_loop i).trips) (v83 : IVec S16 32) (v382 : IVec S16 32) : Prop :=
  (∀ (k0_h3 : k0_cond3 i k0_t1 = 1#1), ∀ a x, ((![v83, v382] : Fin 2 → IVec S16 32) a x).toNat < S160x240.size a)
theorem k0_idx84_inb : ∀ (i : grid0.Coords) (k0_t1 : Fin (k0_t1_loop i).trips) (v83 : IVec S16 32) (v382 : IVec S16 32) (k0_hw68 : k0_chk68 i k0_t1 v83 v382), ∀ (k0_h3 : k0_cond3 i k0_t1 = 1#1), ∀ a x, ((![v83, v382] : Fin 2 → IVec S16 32) a x).toNat < S160x240.size a := fun i k0_t1 v83 v382 k0_hw68 k0_h3 => k0_hw68 k0_h3

def k0_chk69 (i : grid0.Coords) (k0_t1 : Fin (k0_t1_loop i).trips) (v83 : IVec S16 32) (v386 : IVec S16 32) : Prop :=
  (∀ (k0_h3 : k0_cond3 i k0_t1 = 1#1), ∀ a x, ((![v83, v386] : Fin 2 → IVec S16 32) a x).toNat < S160x240.size a)
theorem k0_idx85_inb : ∀ (i : grid0.Coords) (k0_t1 : Fin (k0_t1_loop i).trips) (v83 : IVec S16 32) (v386 : IVec S16 32) (k0_hw69 : k0_chk69 i k0_t1 v83 v386), ∀ (k0_h3 : k0_cond3 i k0_t1 = 1#1), ∀ a x, ((![v83, v386] : Fin 2 → IVec S16 32) a x).toNat < S160x240.size a := fun i k0_t1 v83 v386 k0_hw69 k0_h3 => k0_hw69 k0_h3

def k0_chk70 (i : grid0.Coords) (k0_t1 : Fin (k0_t1_loop i).trips) (v83 : IVec S16 32) (v371 : IVec S16 32) : Prop :=
  (∀ (k0_h3 : k0_cond3 i k0_t1 = 1#1), ∀ a x, ((![v371] : Fin 1 → IVec S16 32) a x).toNat < S48.size a) ∧
  (∀ (k0_h3 : k0_cond3 i k0_t1 = 1#1), ∀ a x, ((![v83, v371] : Fin 2 → IVec S16 32) a x).toNat < S160x48.size a)
theorem k0_idx86_inb : ∀ (i : grid0.Coords) (k0_t1 : Fin (k0_t1_loop i).trips) (v83 : IVec S16 32) (v371 : IVec S16 32) (k0_hw70 : k0_chk70 i k0_t1 v83 v371), ∀ (k0_h3 : k0_cond3 i k0_t1 = 1#1), ∀ a x, ((![v371] : Fin 1 → IVec S16 32) a x).toNat < S48.size a := fun i k0_t1 v83 v371 k0_hw70 k0_h3 => k0_hw70.1 k0_h3
theorem k0_idx87_inb : ∀ (i : grid0.Coords) (k0_t1 : Fin (k0_t1_loop i).trips) (v83 : IVec S16 32) (v371 : IVec S16 32) (k0_hw70 : k0_chk70 i k0_t1 v83 v371), ∀ (k0_h3 : k0_cond3 i k0_t1 = 1#1), ∀ a x, ((![v83, v371] : Fin 2 → IVec S16 32) a x).toNat < S160x48.size a := fun i k0_t1 v83 v371 k0_hw70 k0_h3 => k0_hw70.2 k0_h3

def k0_chk71 (i : grid0.Coords) (k0_t1 : Fin (k0_t1_loop i).trips) (v83 : IVec S16 32) (v390 : IVec S16 32) : Prop :=
  (∀ (k0_h3 : k0_cond3 i k0_t1 = 1#1), ∀ a x, ((![v83, v390] : Fin 2 → IVec S16 32) a x).toNat < S160x240.size a)
theorem k0_idx88_inb : ∀ (i : grid0.Coords) (k0_t1 : Fin (k0_t1_loop i).trips) (v83 : IVec S16 32) (v390 : IVec S16 32) (k0_hw71 : k0_chk71 i k0_t1 v83 v390), ∀ (k0_h3 : k0_cond3 i k0_t1 = 1#1), ∀ a x, ((![v83, v390] : Fin 2 → IVec S16 32) a x).toNat < S160x240.size a := fun i k0_t1 v83 v390 k0_hw71 k0_h3 => k0_hw71 k0_h3

def k0_chk72 (i : grid0.Coords) (k0_t1 : Fin (k0_t1_loop i).trips) (v83 : IVec S16 32) (v402 : IVec S16 32) : Prop :=
  (∀ (k0_h3 : k0_cond3 i k0_t1 = 1#1), ∀ a x, ((![v83, v402] : Fin 2 → IVec S16 32) a x).toNat < S160x240.size a)
theorem k0_idx89_inb : ∀ (i : grid0.Coords) (k0_t1 : Fin (k0_t1_loop i).trips) (v83 : IVec S16 32) (v402 : IVec S16 32) (k0_hw72 : k0_chk72 i k0_t1 v83 v402), ∀ (k0_h3 : k0_cond3 i k0_t1 = 1#1), ∀ a x, ((![v83, v402] : Fin 2 → IVec S16 32) a x).toNat < S160x240.size a := fun i k0_t1 v83 v402 k0_hw72 k0_h3 => k0_hw72 k0_h3

def k0_chk73 (i : grid0.Coords) (k0_t1 : Fin (k0_t1_loop i).trips) (v83 : IVec S16 32) (v406 : IVec S16 32) : Prop :=
  (∀ (k0_h3 : k0_cond3 i k0_t1 = 1#1), ∀ a x, ((![v83, v406] : Fin 2 → IVec S16 32) a x).toNat < S160x240.size a)
theorem k0_idx90_inb : ∀ (i : grid0.Coords) (k0_t1 : Fin (k0_t1_loop i).trips) (v83 : IVec S16 32) (v406 : IVec S16 32) (k0_hw73 : k0_chk73 i k0_t1 v83 v406), ∀ (k0_h3 : k0_cond3 i k0_t1 = 1#1), ∀ a x, ((![v83, v406] : Fin 2 → IVec S16 32) a x).toNat < S160x240.size a := fun i k0_t1 v83 v406 k0_hw73 k0_h3 => k0_hw73 k0_h3

def k0_chk74 (i : grid0.Coords) (k0_t1 : Fin (k0_t1_loop i).trips) (v83 : IVec S16 32) (v410 : IVec S16 32) : Prop :=
  (∀ (k0_h3 : k0_cond3 i k0_t1 = 1#1), ∀ a x, ((![v83, v410] : Fin 2 → IVec S16 32) a x).toNat < S160x240.size a)
theorem k0_idx91_inb : ∀ (i : grid0.Coords) (k0_t1 : Fin (k0_t1_loop i).trips) (v83 : IVec S16 32) (v410 : IVec S16 32) (k0_hw74 : k0_chk74 i k0_t1 v83 v410), ∀ (k0_h3 : k0_cond3 i k0_t1 = 1#1), ∀ a x, ((![v83, v410] : Fin 2 → IVec S16 32) a x).toNat < S160x240.size a := fun i k0_t1 v83 v410 k0_hw74 k0_h3 => k0_hw74 k0_h3

def k0_chk75 (i : grid0.Coords) (k0_t1 : Fin (k0_t1_loop i).trips) (v83 : IVec S16 32) (v414 : IVec S16 32) : Prop :=
  (∀ (k0_h3 : k0_cond3 i k0_t1 = 1#1), ∀ a x, ((![v83, v414] : Fin 2 → IVec S16 32) a x).toNat < S160x240.size a)
theorem k0_idx92_inb : ∀ (i : grid0.Coords) (k0_t1 : Fin (k0_t1_loop i).trips) (v83 : IVec S16 32) (v414 : IVec S16 32) (k0_hw75 : k0_chk75 i k0_t1 v83 v414), ∀ (k0_h3 : k0_cond3 i k0_t1 = 1#1), ∀ a x, ((![v83, v414] : Fin 2 → IVec S16 32) a x).toNat < S160x240.size a := fun i k0_t1 v83 v414 k0_hw75 k0_h3 => k0_hw75 k0_h3

def k0_chk76 (i : grid0.Coords) (k0_t1 : Fin (k0_t1_loop i).trips) (v83 : IVec S16 32) (v399 : IVec S16 32) : Prop :=
  (∀ (k0_h3 : k0_cond3 i k0_t1 = 1#1), ∀ a x, ((![v399] : Fin 1 → IVec S16 32) a x).toNat < S48.size a) ∧
  (∀ (k0_h3 : k0_cond3 i k0_t1 = 1#1), ∀ a x, ((![v83, v399] : Fin 2 → IVec S16 32) a x).toNat < S160x48.size a)
theorem k0_idx93_inb : ∀ (i : grid0.Coords) (k0_t1 : Fin (k0_t1_loop i).trips) (v83 : IVec S16 32) (v399 : IVec S16 32) (k0_hw76 : k0_chk76 i k0_t1 v83 v399), ∀ (k0_h3 : k0_cond3 i k0_t1 = 1#1), ∀ a x, ((![v399] : Fin 1 → IVec S16 32) a x).toNat < S48.size a := fun i k0_t1 v83 v399 k0_hw76 k0_h3 => k0_hw76.1 k0_h3
theorem k0_idx94_inb : ∀ (i : grid0.Coords) (k0_t1 : Fin (k0_t1_loop i).trips) (v83 : IVec S16 32) (v399 : IVec S16 32) (k0_hw76 : k0_chk76 i k0_t1 v83 v399), ∀ (k0_h3 : k0_cond3 i k0_t1 = 1#1), ∀ a x, ((![v83, v399] : Fin 2 → IVec S16 32) a x).toNat < S160x48.size a := fun i k0_t1 v83 v399 k0_hw76 k0_h3 => k0_hw76.2 k0_h3

def k0_chk77 (i : grid0.Coords) (k0_t1 : Fin (k0_t1_loop i).trips) (v83 : IVec S16 32) (v418 : IVec S16 32) : Prop :=
  (∀ (k0_h3 : k0_cond3 i k0_t1 = 1#1), ∀ a x, ((![v83, v418] : Fin 2 → IVec S16 32) a x).toNat < S160x240.size a)
theorem k0_idx95_inb : ∀ (i : grid0.Coords) (k0_t1 : Fin (k0_t1_loop i).trips) (v83 : IVec S16 32) (v418 : IVec S16 32) (k0_hw77 : k0_chk77 i k0_t1 v83 v418), ∀ (k0_h3 : k0_cond3 i k0_t1 = 1#1), ∀ a x, ((![v83, v418] : Fin 2 → IVec S16 32) a x).toNat < S160x240.size a := fun i k0_t1 v83 v418 k0_hw77 k0_h3 => k0_hw77 k0_h3

def k0_chk78 (i : grid0.Coords) (k0_t1 : Fin (k0_t1_loop i).trips) (v83 : IVec S16 32) (v430 : IVec S16 32) : Prop :=
  (∀ (k0_h3 : k0_cond3 i k0_t1 = 1#1), ∀ a x, ((![v83, v430] : Fin 2 → IVec S16 32) a x).toNat < S160x240.size a)
theorem k0_idx96_inb : ∀ (i : grid0.Coords) (k0_t1 : Fin (k0_t1_loop i).trips) (v83 : IVec S16 32) (v430 : IVec S16 32) (k0_hw78 : k0_chk78 i k0_t1 v83 v430), ∀ (k0_h3 : k0_cond3 i k0_t1 = 1#1), ∀ a x, ((![v83, v430] : Fin 2 → IVec S16 32) a x).toNat < S160x240.size a := fun i k0_t1 v83 v430 k0_hw78 k0_h3 => k0_hw78 k0_h3

def k0_chk79 (i : grid0.Coords) (k0_t1 : Fin (k0_t1_loop i).trips) (v83 : IVec S16 32) (v434 : IVec S16 32) : Prop :=
  (∀ (k0_h3 : k0_cond3 i k0_t1 = 1#1), ∀ a x, ((![v83, v434] : Fin 2 → IVec S16 32) a x).toNat < S160x240.size a)
theorem k0_idx97_inb : ∀ (i : grid0.Coords) (k0_t1 : Fin (k0_t1_loop i).trips) (v83 : IVec S16 32) (v434 : IVec S16 32) (k0_hw79 : k0_chk79 i k0_t1 v83 v434), ∀ (k0_h3 : k0_cond3 i k0_t1 = 1#1), ∀ a x, ((![v83, v434] : Fin 2 → IVec S16 32) a x).toNat < S160x240.size a := fun i k0_t1 v83 v434 k0_hw79 k0_h3 => k0_hw79 k0_h3

def k0_chk80 (i : grid0.Coords) (k0_t1 : Fin (k0_t1_loop i).trips) (v83 : IVec S16 32) (v438 : IVec S16 32) : Prop :=
  (∀ (k0_h3 : k0_cond3 i k0_t1 = 1#1), ∀ a x, ((![v83, v438] : Fin 2 → IVec S16 32) a x).toNat < S160x240.size a)
theorem k0_idx98_inb : ∀ (i : grid0.Coords) (k0_t1 : Fin (k0_t1_loop i).trips) (v83 : IVec S16 32) (v438 : IVec S16 32) (k0_hw80 : k0_chk80 i k0_t1 v83 v438), ∀ (k0_h3 : k0_cond3 i k0_t1 = 1#1), ∀ a x, ((![v83, v438] : Fin 2 → IVec S16 32) a x).toNat < S160x240.size a := fun i k0_t1 v83 v438 k0_hw80 k0_h3 => k0_hw80 k0_h3

def k0_chk81 (i : grid0.Coords) (k0_t1 : Fin (k0_t1_loop i).trips) (v83 : IVec S16 32) (v442 : IVec S16 32) : Prop :=
  (∀ (k0_h3 : k0_cond3 i k0_t1 = 1#1), ∀ a x, ((![v83, v442] : Fin 2 → IVec S16 32) a x).toNat < S160x240.size a)
theorem k0_idx99_inb : ∀ (i : grid0.Coords) (k0_t1 : Fin (k0_t1_loop i).trips) (v83 : IVec S16 32) (v442 : IVec S16 32) (k0_hw81 : k0_chk81 i k0_t1 v83 v442), ∀ (k0_h3 : k0_cond3 i k0_t1 = 1#1), ∀ a x, ((![v83, v442] : Fin 2 → IVec S16 32) a x).toNat < S160x240.size a := fun i k0_t1 v83 v442 k0_hw81 k0_h3 => k0_hw81 k0_h3

def k0_chk82 (i : grid0.Coords) (k0_t1 : Fin (k0_t1_loop i).trips) (v83 : IVec S16 32) (v427 : IVec S16 32) : Prop :=
  (∀ (k0_h3 : k0_cond3 i k0_t1 = 1#1), ∀ a x, ((![v427] : Fin 1 → IVec S16 32) a x).toNat < S48.size a) ∧
  (∀ (k0_h3 : k0_cond3 i k0_t1 = 1#1), ∀ a x, ((![v83, v427] : Fin 2 → IVec S16 32) a x).toNat < S160x48.size a)
theorem k0_idx100_inb : ∀ (i : grid0.Coords) (k0_t1 : Fin (k0_t1_loop i).trips) (v83 : IVec S16 32) (v427 : IVec S16 32) (k0_hw82 : k0_chk82 i k0_t1 v83 v427), ∀ (k0_h3 : k0_cond3 i k0_t1 = 1#1), ∀ a x, ((![v427] : Fin 1 → IVec S16 32) a x).toNat < S48.size a := fun i k0_t1 v83 v427 k0_hw82 k0_h3 => k0_hw82.1 k0_h3
theorem k0_idx101_inb : ∀ (i : grid0.Coords) (k0_t1 : Fin (k0_t1_loop i).trips) (v83 : IVec S16 32) (v427 : IVec S16 32) (k0_hw82 : k0_chk82 i k0_t1 v83 v427), ∀ (k0_h3 : k0_cond3 i k0_t1 = 1#1), ∀ a x, ((![v83, v427] : Fin 2 → IVec S16 32) a x).toNat < S160x48.size a := fun i k0_t1 v83 v427 k0_hw82 k0_h3 => k0_hw82.2 k0_h3

def k0_chk83 (i : grid0.Coords) (k0_t1 : Fin (k0_t1_loop i).trips) (v83 : IVec S16 32) (v446 : IVec S16 32) : Prop :=
  (∀ (k0_h3 : k0_cond3 i k0_t1 = 1#1), ∀ a x, ((![v83, v446] : Fin 2 → IVec S16 32) a x).toNat < S160x240.size a)
theorem k0_idx102_inb : ∀ (i : grid0.Coords) (k0_t1 : Fin (k0_t1_loop i).trips) (v83 : IVec S16 32) (v446 : IVec S16 32) (k0_hw83 : k0_chk83 i k0_t1 v83 v446), ∀ (k0_h3 : k0_cond3 i k0_t1 = 1#1), ∀ a x, ((![v83, v446] : Fin 2 → IVec S16 32) a x).toNat < S160x240.size a := fun i k0_t1 v83 v446 k0_hw83 k0_h3 => k0_hw83 k0_h3

def k0_chk84 (i : grid0.Coords) (k0_t1 : Fin (k0_t1_loop i).trips) (v83 : IVec S16 32) (v458 : IVec S16 32) : Prop :=
  (∀ (k0_h3 : k0_cond3 i k0_t1 = 1#1), ∀ a x, ((![v83, v458] : Fin 2 → IVec S16 32) a x).toNat < S160x240.size a)
theorem k0_idx103_inb : ∀ (i : grid0.Coords) (k0_t1 : Fin (k0_t1_loop i).trips) (v83 : IVec S16 32) (v458 : IVec S16 32) (k0_hw84 : k0_chk84 i k0_t1 v83 v458), ∀ (k0_h3 : k0_cond3 i k0_t1 = 1#1), ∀ a x, ((![v83, v458] : Fin 2 → IVec S16 32) a x).toNat < S160x240.size a := fun i k0_t1 v83 v458 k0_hw84 k0_h3 => k0_hw84 k0_h3

def k0_chk85 (i : grid0.Coords) (k0_t1 : Fin (k0_t1_loop i).trips) (v83 : IVec S16 32) (v462 : IVec S16 32) : Prop :=
  (∀ (k0_h3 : k0_cond3 i k0_t1 = 1#1), ∀ a x, ((![v83, v462] : Fin 2 → IVec S16 32) a x).toNat < S160x240.size a)
theorem k0_idx104_inb : ∀ (i : grid0.Coords) (k0_t1 : Fin (k0_t1_loop i).trips) (v83 : IVec S16 32) (v462 : IVec S16 32) (k0_hw85 : k0_chk85 i k0_t1 v83 v462), ∀ (k0_h3 : k0_cond3 i k0_t1 = 1#1), ∀ a x, ((![v83, v462] : Fin 2 → IVec S16 32) a x).toNat < S160x240.size a := fun i k0_t1 v83 v462 k0_hw85 k0_h3 => k0_hw85 k0_h3

def k0_chk86 (i : grid0.Coords) (k0_t1 : Fin (k0_t1_loop i).trips) (v83 : IVec S16 32) (v466 : IVec S16 32) : Prop :=
  (∀ (k0_h3 : k0_cond3 i k0_t1 = 1#1), ∀ a x, ((![v83, v466] : Fin 2 → IVec S16 32) a x).toNat < S160x240.size a)
theorem k0_idx105_inb : ∀ (i : grid0.Coords) (k0_t1 : Fin (k0_t1_loop i).trips) (v83 : IVec S16 32) (v466 : IVec S16 32) (k0_hw86 : k0_chk86 i k0_t1 v83 v466), ∀ (k0_h3 : k0_cond3 i k0_t1 = 1#1), ∀ a x, ((![v83, v466] : Fin 2 → IVec S16 32) a x).toNat < S160x240.size a := fun i k0_t1 v83 v466 k0_hw86 k0_h3 => k0_hw86 k0_h3

def k0_chk87 (i : grid0.Coords) (k0_t1 : Fin (k0_t1_loop i).trips) (v83 : IVec S16 32) (v470 : IVec S16 32) : Prop :=
  (∀ (k0_h3 : k0_cond3 i k0_t1 = 1#1), ∀ a x, ((![v83, v470] : Fin 2 → IVec S16 32) a x).toNat < S160x240.size a)
theorem k0_idx106_inb : ∀ (i : grid0.Coords) (k0_t1 : Fin (k0_t1_loop i).trips) (v83 : IVec S16 32) (v470 : IVec S16 32) (k0_hw87 : k0_chk87 i k0_t1 v83 v470), ∀ (k0_h3 : k0_cond3 i k0_t1 = 1#1), ∀ a x, ((![v83, v470] : Fin 2 → IVec S16 32) a x).toNat < S160x240.size a := fun i k0_t1 v83 v470 k0_hw87 k0_h3 => k0_hw87 k0_h3

def k0_chk88 (i : grid0.Coords) (k0_t1 : Fin (k0_t1_loop i).trips) (v83 : IVec S16 32) (v455 : IVec S16 32) : Prop :=
  (∀ (k0_h3 : k0_cond3 i k0_t1 = 1#1), ∀ a x, ((![v455] : Fin 1 → IVec S16 32) a x).toNat < S48.size a) ∧
  (∀ (k0_h3 : k0_cond3 i k0_t1 = 1#1), ∀ a x, ((![v83, v455] : Fin 2 → IVec S16 32) a x).toNat < S160x48.size a)
theorem k0_idx107_inb : ∀ (i : grid0.Coords) (k0_t1 : Fin (k0_t1_loop i).trips) (v83 : IVec S16 32) (v455 : IVec S16 32) (k0_hw88 : k0_chk88 i k0_t1 v83 v455), ∀ (k0_h3 : k0_cond3 i k0_t1 = 1#1), ∀ a x, ((![v455] : Fin 1 → IVec S16 32) a x).toNat < S48.size a := fun i k0_t1 v83 v455 k0_hw88 k0_h3 => k0_hw88.1 k0_h3
theorem k0_idx108_inb : ∀ (i : grid0.Coords) (k0_t1 : Fin (k0_t1_loop i).trips) (v83 : IVec S16 32) (v455 : IVec S16 32) (k0_hw88 : k0_chk88 i k0_t1 v83 v455), ∀ (k0_h3 : k0_cond3 i k0_t1 = 1#1), ∀ a x, ((![v83, v455] : Fin 2 → IVec S16 32) a x).toNat < S160x48.size a := fun i k0_t1 v83 v455 k0_hw88 k0_h3 => k0_hw88.2 k0_h3

def k0_chk89 (i : grid0.Coords) (k0_t1 : Fin (k0_t1_loop i).trips) (v83 : IVec S16 32) (v474 : IVec S16 32) : Prop :=
  (∀ (k0_h3 : k0_cond3 i k0_t1 = 1#1), ∀ a x, ((![v83, v474] : Fin 2 → IVec S16 32) a x).toNat < S160x240.size a)
theorem k0_idx109_inb : ∀ (i : grid0.Coords) (k0_t1 : Fin (k0_t1_loop i).trips) (v83 : IVec S16 32) (v474 : IVec S16 32) (k0_hw89 : k0_chk89 i k0_t1 v83 v474), ∀ (k0_h3 : k0_cond3 i k0_t1 = 1#1), ∀ a x, ((![v83, v474] : Fin 2 → IVec S16 32) a x).toNat < S160x240.size a := fun i k0_t1 v83 v474 k0_hw89 k0_h3 => k0_hw89 k0_h3

def k0_chk90 (i : grid0.Coords) (k0_t1 : Fin (k0_t1_loop i).trips) (v83 : IVec S16 32) (v486 : IVec S16 32) : Prop :=
  (∀ (k0_h3 : k0_cond3 i k0_t1 = 1#1), ∀ a x, ((![v83, v486] : Fin 2 → IVec S16 32) a x).toNat < S160x240.size a)
theorem k0_idx110_inb : ∀ (i : grid0.Coords) (k0_t1 : Fin (k0_t1_loop i).trips) (v83 : IVec S16 32) (v486 : IVec S16 32) (k0_hw90 : k0_chk90 i k0_t1 v83 v486), ∀ (k0_h3 : k0_cond3 i k0_t1 = 1#1), ∀ a x, ((![v83, v486] : Fin 2 → IVec S16 32) a x).toNat < S160x240.size a := fun i k0_t1 v83 v486 k0_hw90 k0_h3 => k0_hw90 k0_h3

def k0_chk91 (i : grid0.Coords) (k0_t1 : Fin (k0_t1_loop i).trips) (v83 : IVec S16 32) (v490 : IVec S16 32) : Prop :=
  (∀ (k0_h3 : k0_cond3 i k0_t1 = 1#1), ∀ a x, ((![v83, v490] : Fin 2 → IVec S16 32) a x).toNat < S160x240.size a)
theorem k0_idx111_inb : ∀ (i : grid0.Coords) (k0_t1 : Fin (k0_t1_loop i).trips) (v83 : IVec S16 32) (v490 : IVec S16 32) (k0_hw91 : k0_chk91 i k0_t1 v83 v490), ∀ (k0_h3 : k0_cond3 i k0_t1 = 1#1), ∀ a x, ((![v83, v490] : Fin 2 → IVec S16 32) a x).toNat < S160x240.size a := fun i k0_t1 v83 v490 k0_hw91 k0_h3 => k0_hw91 k0_h3

def k0_chk92 (i : grid0.Coords) (k0_t1 : Fin (k0_t1_loop i).trips) (v83 : IVec S16 32) (v494 : IVec S16 32) : Prop :=
  (∀ (k0_h3 : k0_cond3 i k0_t1 = 1#1), ∀ a x, ((![v83, v494] : Fin 2 → IVec S16 32) a x).toNat < S160x240.size a)
theorem k0_idx112_inb : ∀ (i : grid0.Coords) (k0_t1 : Fin (k0_t1_loop i).trips) (v83 : IVec S16 32) (v494 : IVec S16 32) (k0_hw92 : k0_chk92 i k0_t1 v83 v494), ∀ (k0_h3 : k0_cond3 i k0_t1 = 1#1), ∀ a x, ((![v83, v494] : Fin 2 → IVec S16 32) a x).toNat < S160x240.size a := fun i k0_t1 v83 v494 k0_hw92 k0_h3 => k0_hw92 k0_h3

def k0_chk93 (i : grid0.Coords) (k0_t1 : Fin (k0_t1_loop i).trips) (v83 : IVec S16 32) (v498 : IVec S16 32) : Prop :=
  (∀ (k0_h3 : k0_cond3 i k0_t1 = 1#1), ∀ a x, ((![v83, v498] : Fin 2 → IVec S16 32) a x).toNat < S160x240.size a)
theorem k0_idx113_inb : ∀ (i : grid0.Coords) (k0_t1 : Fin (k0_t1_loop i).trips) (v83 : IVec S16 32) (v498 : IVec S16 32) (k0_hw93 : k0_chk93 i k0_t1 v83 v498), ∀ (k0_h3 : k0_cond3 i k0_t1 = 1#1), ∀ a x, ((![v83, v498] : Fin 2 → IVec S16 32) a x).toNat < S160x240.size a := fun i k0_t1 v83 v498 k0_hw93 k0_h3 => k0_hw93 k0_h3

def k0_chk94 (i : grid0.Coords) (k0_t1 : Fin (k0_t1_loop i).trips) (v83 : IVec S16 32) (v483 : IVec S16 32) : Prop :=
  (∀ (k0_h3 : k0_cond3 i k0_t1 = 1#1), ∀ a x, ((![v483] : Fin 1 → IVec S16 32) a x).toNat < S48.size a) ∧
  (∀ (k0_h3 : k0_cond3 i k0_t1 = 1#1), ∀ a x, ((![v83, v483] : Fin 2 → IVec S16 32) a x).toNat < S160x48.size a)
theorem k0_idx114_inb : ∀ (i : grid0.Coords) (k0_t1 : Fin (k0_t1_loop i).trips) (v83 : IVec S16 32) (v483 : IVec S16 32) (k0_hw94 : k0_chk94 i k0_t1 v83 v483), ∀ (k0_h3 : k0_cond3 i k0_t1 = 1#1), ∀ a x, ((![v483] : Fin 1 → IVec S16 32) a x).toNat < S48.size a := fun i k0_t1 v83 v483 k0_hw94 k0_h3 => k0_hw94.1 k0_h3
theorem k0_idx115_inb : ∀ (i : grid0.Coords) (k0_t1 : Fin (k0_t1_loop i).trips) (v83 : IVec S16 32) (v483 : IVec S16 32) (k0_hw94 : k0_chk94 i k0_t1 v83 v483), ∀ (k0_h3 : k0_cond3 i k0_t1 = 1#1), ∀ a x, ((![v83, v483] : Fin 2 → IVec S16 32) a x).toNat < S160x48.size a := fun i k0_t1 v83 v483 k0_hw94 k0_h3 => k0_hw94.2 k0_h3

def k0_chk95 (i : grid0.Coords) (k0_t1 : Fin (k0_t1_loop i).trips) (v83 : IVec S16 32) (v502 : IVec S16 32) : Prop :=
  (∀ (k0_h3 : k0_cond3 i k0_t1 = 1#1), ∀ a x, ((![v83, v502] : Fin 2 → IVec S16 32) a x).toNat < S160x240.size a)
theorem k0_idx116_inb : ∀ (i : grid0.Coords) (k0_t1 : Fin (k0_t1_loop i).trips) (v83 : IVec S16 32) (v502 : IVec S16 32) (k0_hw95 : k0_chk95 i k0_t1 v83 v502), ∀ (k0_h3 : k0_cond3 i k0_t1 = 1#1), ∀ a x, ((![v83, v502] : Fin 2 → IVec S16 32) a x).toNat < S160x240.size a := fun i k0_t1 v83 v502 k0_hw95 k0_h3 => k0_hw95 k0_h3

def k0_chk96 (i : grid0.Coords) (k0_t1 : Fin (k0_t1_loop i).trips) (v83 : IVec S16 32) (v514 : IVec S16 32) : Prop :=
  (∀ (k0_h3 : k0_cond3 i k0_t1 = 1#1), ∀ a x, ((![v83, v514] : Fin 2 → IVec S16 32) a x).toNat < S160x240.size a)
theorem k0_idx117_inb : ∀ (i : grid0.Coords) (k0_t1 : Fin (k0_t1_loop i).trips) (v83 : IVec S16 32) (v514 : IVec S16 32) (k0_hw96 : k0_chk96 i k0_t1 v83 v514), ∀ (k0_h3 : k0_cond3 i k0_t1 = 1#1), ∀ a x, ((![v83, v514] : Fin 2 → IVec S16 32) a x).toNat < S160x240.size a := fun i k0_t1 v83 v514 k0_hw96 k0_h3 => k0_hw96 k0_h3

def k0_chk97 (i : grid0.Coords) (k0_t1 : Fin (k0_t1_loop i).trips) (v83 : IVec S16 32) (v518 : IVec S16 32) : Prop :=
  (∀ (k0_h3 : k0_cond3 i k0_t1 = 1#1), ∀ a x, ((![v83, v518] : Fin 2 → IVec S16 32) a x).toNat < S160x240.size a)
theorem k0_idx118_inb : ∀ (i : grid0.Coords) (k0_t1 : Fin (k0_t1_loop i).trips) (v83 : IVec S16 32) (v518 : IVec S16 32) (k0_hw97 : k0_chk97 i k0_t1 v83 v518), ∀ (k0_h3 : k0_cond3 i k0_t1 = 1#1), ∀ a x, ((![v83, v518] : Fin 2 → IVec S16 32) a x).toNat < S160x240.size a := fun i k0_t1 v83 v518 k0_hw97 k0_h3 => k0_hw97 k0_h3

def k0_chk98 (i : grid0.Coords) (k0_t1 : Fin (k0_t1_loop i).trips) (v83 : IVec S16 32) (v522 : IVec S16 32) : Prop :=
  (∀ (k0_h3 : k0_cond3 i k0_t1 = 1#1), ∀ a x, ((![v83, v522] : Fin 2 → IVec S16 32) a x).toNat < S160x240.size a)
theorem k0_idx119_inb : ∀ (i : grid0.Coords) (k0_t1 : Fin (k0_t1_loop i).trips) (v83 : IVec S16 32) (v522 : IVec S16 32) (k0_hw98 : k0_chk98 i k0_t1 v83 v522), ∀ (k0_h3 : k0_cond3 i k0_t1 = 1#1), ∀ a x, ((![v83, v522] : Fin 2 → IVec S16 32) a x).toNat < S160x240.size a := fun i k0_t1 v83 v522 k0_hw98 k0_h3 => k0_hw98 k0_h3

def k0_chk99 (i : grid0.Coords) (k0_t1 : Fin (k0_t1_loop i).trips) (v83 : IVec S16 32) (v526 : IVec S16 32) : Prop :=
  (∀ (k0_h3 : k0_cond3 i k0_t1 = 1#1), ∀ a x, ((![v83, v526] : Fin 2 → IVec S16 32) a x).toNat < S160x240.size a)
theorem k0_idx120_inb : ∀ (i : grid0.Coords) (k0_t1 : Fin (k0_t1_loop i).trips) (v83 : IVec S16 32) (v526 : IVec S16 32) (k0_hw99 : k0_chk99 i k0_t1 v83 v526), ∀ (k0_h3 : k0_cond3 i k0_t1 = 1#1), ∀ a x, ((![v83, v526] : Fin 2 → IVec S16 32) a x).toNat < S160x240.size a := fun i k0_t1 v83 v526 k0_hw99 k0_h3 => k0_hw99 k0_h3

def k0_chk100 (i : grid0.Coords) (k0_t1 : Fin (k0_t1_loop i).trips) (v83 : IVec S16 32) (v511 : IVec S16 32) : Prop :=
  (∀ (k0_h3 : k0_cond3 i k0_t1 = 1#1), ∀ a x, ((![v511] : Fin 1 → IVec S16 32) a x).toNat < S48.size a) ∧
  (∀ (k0_h3 : k0_cond3 i k0_t1 = 1#1), ∀ a x, ((![v83, v511] : Fin 2 → IVec S16 32) a x).toNat < S160x48.size a)
theorem k0_idx121_inb : ∀ (i : grid0.Coords) (k0_t1 : Fin (k0_t1_loop i).trips) (v83 : IVec S16 32) (v511 : IVec S16 32) (k0_hw100 : k0_chk100 i k0_t1 v83 v511), ∀ (k0_h3 : k0_cond3 i k0_t1 = 1#1), ∀ a x, ((![v511] : Fin 1 → IVec S16 32) a x).toNat < S48.size a := fun i k0_t1 v83 v511 k0_hw100 k0_h3 => k0_hw100.1 k0_h3
theorem k0_idx122_inb : ∀ (i : grid0.Coords) (k0_t1 : Fin (k0_t1_loop i).trips) (v83 : IVec S16 32) (v511 : IVec S16 32) (k0_hw100 : k0_chk100 i k0_t1 v83 v511), ∀ (k0_h3 : k0_cond3 i k0_t1 = 1#1), ∀ a x, ((![v83, v511] : Fin 2 → IVec S16 32) a x).toNat < S160x48.size a := fun i k0_t1 v83 v511 k0_hw100 k0_h3 => k0_hw100.2 k0_h3

def k0_chk101 (i : grid0.Coords) (k0_t1 : Fin (k0_t1_loop i).trips) (v83 : IVec S16 32) (v530 : IVec S16 32) : Prop :=
  (∀ (k0_h3 : k0_cond3 i k0_t1 = 1#1), ∀ a x, ((![v83, v530] : Fin 2 → IVec S16 32) a x).toNat < S160x240.size a)
theorem k0_idx123_inb : ∀ (i : grid0.Coords) (k0_t1 : Fin (k0_t1_loop i).trips) (v83 : IVec S16 32) (v530 : IVec S16 32) (k0_hw101 : k0_chk101 i k0_t1 v83 v530), ∀ (k0_h3 : k0_cond3 i k0_t1 = 1#1), ∀ a x, ((![v83, v530] : Fin 2 → IVec S16 32) a x).toNat < S160x240.size a := fun i k0_t1 v83 v530 k0_hw101 k0_h3 => k0_hw101 k0_h3

def k0_chk102 (i : grid0.Coords) (k0_t1 : Fin (k0_t1_loop i).trips) (v83 : IVec S16 32) (v542 : IVec S16 32) : Prop :=
  (∀ (k0_h3 : k0_cond3 i k0_t1 = 1#1), ∀ a x, ((![v83, v542] : Fin 2 → IVec S16 32) a x).toNat < S160x240.size a)
theorem k0_idx124_inb : ∀ (i : grid0.Coords) (k0_t1 : Fin (k0_t1_loop i).trips) (v83 : IVec S16 32) (v542 : IVec S16 32) (k0_hw102 : k0_chk102 i k0_t1 v83 v542), ∀ (k0_h3 : k0_cond3 i k0_t1 = 1#1), ∀ a x, ((![v83, v542] : Fin 2 → IVec S16 32) a x).toNat < S160x240.size a := fun i k0_t1 v83 v542 k0_hw102 k0_h3 => k0_hw102 k0_h3

def k0_chk103 (i : grid0.Coords) (k0_t1 : Fin (k0_t1_loop i).trips) (v83 : IVec S16 32) (v546 : IVec S16 32) : Prop :=
  (∀ (k0_h3 : k0_cond3 i k0_t1 = 1#1), ∀ a x, ((![v83, v546] : Fin 2 → IVec S16 32) a x).toNat < S160x240.size a)
theorem k0_idx125_inb : ∀ (i : grid0.Coords) (k0_t1 : Fin (k0_t1_loop i).trips) (v83 : IVec S16 32) (v546 : IVec S16 32) (k0_hw103 : k0_chk103 i k0_t1 v83 v546), ∀ (k0_h3 : k0_cond3 i k0_t1 = 1#1), ∀ a x, ((![v83, v546] : Fin 2 → IVec S16 32) a x).toNat < S160x240.size a := fun i k0_t1 v83 v546 k0_hw103 k0_h3 => k0_hw103 k0_h3

def k0_chk104 (i : grid0.Coords) (k0_t1 : Fin (k0_t1_loop i).trips) (v83 : IVec S16 32) (v550 : IVec S16 32) : Prop :=
  (∀ (k0_h3 : k0_cond3 i k0_t1 = 1#1), ∀ a x, ((![v83, v550] : Fin 2 → IVec S16 32) a x).toNat < S160x240.size a)
theorem k0_idx126_inb : ∀ (i : grid0.Coords) (k0_t1 : Fin (k0_t1_loop i).trips) (v83 : IVec S16 32) (v550 : IVec S16 32) (k0_hw104 : k0_chk104 i k0_t1 v83 v550), ∀ (k0_h3 : k0_cond3 i k0_t1 = 1#1), ∀ a x, ((![v83, v550] : Fin 2 → IVec S16 32) a x).toNat < S160x240.size a := fun i k0_t1 v83 v550 k0_hw104 k0_h3 => k0_hw104 k0_h3

def k0_chk105 (i : grid0.Coords) (k0_t1 : Fin (k0_t1_loop i).trips) (v83 : IVec S16 32) (v554 : IVec S16 32) : Prop :=
  (∀ (k0_h3 : k0_cond3 i k0_t1 = 1#1), ∀ a x, ((![v83, v554] : Fin 2 → IVec S16 32) a x).toNat < S160x240.size a)
theorem k0_idx127_inb : ∀ (i : grid0.Coords) (k0_t1 : Fin (k0_t1_loop i).trips) (v83 : IVec S16 32) (v554 : IVec S16 32) (k0_hw105 : k0_chk105 i k0_t1 v83 v554), ∀ (k0_h3 : k0_cond3 i k0_t1 = 1#1), ∀ a x, ((![v83, v554] : Fin 2 → IVec S16 32) a x).toNat < S160x240.size a := fun i k0_t1 v83 v554 k0_hw105 k0_h3 => k0_hw105 k0_h3

def k0_chk106 (i : grid0.Coords) (k0_t1 : Fin (k0_t1_loop i).trips) (v83 : IVec S16 32) (v539 : IVec S16 32) : Prop :=
  (∀ (k0_h3 : k0_cond3 i k0_t1 = 1#1), ∀ a x, ((![v539] : Fin 1 → IVec S16 32) a x).toNat < S48.size a) ∧
  (∀ (k0_h3 : k0_cond3 i k0_t1 = 1#1), ∀ a x, ((![v83, v539] : Fin 2 → IVec S16 32) a x).toNat < S160x48.size a)
theorem k0_idx128_inb : ∀ (i : grid0.Coords) (k0_t1 : Fin (k0_t1_loop i).trips) (v83 : IVec S16 32) (v539 : IVec S16 32) (k0_hw106 : k0_chk106 i k0_t1 v83 v539), ∀ (k0_h3 : k0_cond3 i k0_t1 = 1#1), ∀ a x, ((![v539] : Fin 1 → IVec S16 32) a x).toNat < S48.size a := fun i k0_t1 v83 v539 k0_hw106 k0_h3 => k0_hw106.1 k0_h3
theorem k0_idx129_inb : ∀ (i : grid0.Coords) (k0_t1 : Fin (k0_t1_loop i).trips) (v83 : IVec S16 32) (v539 : IVec S16 32) (k0_hw106 : k0_chk106 i k0_t1 v83 v539), ∀ (k0_h3 : k0_cond3 i k0_t1 = 1#1), ∀ a x, ((![v83, v539] : Fin 2 → IVec S16 32) a x).toNat < S160x48.size a := fun i k0_t1 v83 v539 k0_hw106 k0_h3 => k0_hw106.2 k0_h3

def k0_chk107 (i : grid0.Coords) (k0_t1 : Fin (k0_t1_loop i).trips) (v83 : IVec S16 32) (v558 : IVec S16 32) : Prop :=
  (∀ (k0_h3 : k0_cond3 i k0_t1 = 1#1), ∀ a x, ((![v83, v558] : Fin 2 → IVec S16 32) a x).toNat < S160x240.size a)
theorem k0_idx130_inb : ∀ (i : grid0.Coords) (k0_t1 : Fin (k0_t1_loop i).trips) (v83 : IVec S16 32) (v558 : IVec S16 32) (k0_hw107 : k0_chk107 i k0_t1 v83 v558), ∀ (k0_h3 : k0_cond3 i k0_t1 = 1#1), ∀ a x, ((![v83, v558] : Fin 2 → IVec S16 32) a x).toNat < S160x240.size a := fun i k0_t1 v83 v558 k0_hw107 k0_h3 => k0_hw107 k0_h3

def k0_chk108 (i : grid0.Coords) (k0_t1 : Fin (k0_t1_loop i).trips) (v83 : IVec S16 32) (v570 : IVec S16 32) : Prop :=
  (∀ (k0_h3 : k0_cond3 i k0_t1 = 1#1), ∀ a x, ((![v83, v570] : Fin 2 → IVec S16 32) a x).toNat < S160x240.size a)
theorem k0_idx131_inb : ∀ (i : grid0.Coords) (k0_t1 : Fin (k0_t1_loop i).trips) (v83 : IVec S16 32) (v570 : IVec S16 32) (k0_hw108 : k0_chk108 i k0_t1 v83 v570), ∀ (k0_h3 : k0_cond3 i k0_t1 = 1#1), ∀ a x, ((![v83, v570] : Fin 2 → IVec S16 32) a x).toNat < S160x240.size a := fun i k0_t1 v83 v570 k0_hw108 k0_h3 => k0_hw108 k0_h3

def k0_chk109 (i : grid0.Coords) (k0_t1 : Fin (k0_t1_loop i).trips) (v83 : IVec S16 32) (v574 : IVec S16 32) : Prop :=
  (∀ (k0_h3 : k0_cond3 i k0_t1 = 1#1), ∀ a x, ((![v83, v574] : Fin 2 → IVec S16 32) a x).toNat < S160x240.size a)
theorem k0_idx132_inb : ∀ (i : grid0.Coords) (k0_t1 : Fin (k0_t1_loop i).trips) (v83 : IVec S16 32) (v574 : IVec S16 32) (k0_hw109 : k0_chk109 i k0_t1 v83 v574), ∀ (k0_h3 : k0_cond3 i k0_t1 = 1#1), ∀ a x, ((![v83, v574] : Fin 2 → IVec S16 32) a x).toNat < S160x240.size a := fun i k0_t1 v83 v574 k0_hw109 k0_h3 => k0_hw109 k0_h3

def k0_chk110 (i : grid0.Coords) (k0_t1 : Fin (k0_t1_loop i).trips) (v83 : IVec S16 32) (v578 : IVec S16 32) : Prop :=
  (∀ (k0_h3 : k0_cond3 i k0_t1 = 1#1), ∀ a x, ((![v83, v578] : Fin 2 → IVec S16 32) a x).toNat < S160x240.size a)
theorem k0_idx133_inb : ∀ (i : grid0.Coords) (k0_t1 : Fin (k0_t1_loop i).trips) (v83 : IVec S16 32) (v578 : IVec S16 32) (k0_hw110 : k0_chk110 i k0_t1 v83 v578), ∀ (k0_h3 : k0_cond3 i k0_t1 = 1#1), ∀ a x, ((![v83, v578] : Fin 2 → IVec S16 32) a x).toNat < S160x240.size a := fun i k0_t1 v83 v578 k0_hw110 k0_h3 => k0_hw110 k0_h3

def k0_chk111 (i : grid0.Coords) (k0_t1 : Fin (k0_t1_loop i).trips) (v83 : IVec S16 32) (v582 : IVec S16 32) : Prop :=
  (∀ (k0_h3 : k0_cond3 i k0_t1 = 1#1), ∀ a x, ((![v83, v582] : Fin 2 → IVec S16 32) a x).toNat < S160x240.size a)
theorem k0_idx134_inb : ∀ (i : grid0.Coords) (k0_t1 : Fin (k0_t1_loop i).trips) (v83 : IVec S16 32) (v582 : IVec S16 32) (k0_hw111 : k0_chk111 i k0_t1 v83 v582), ∀ (k0_h3 : k0_cond3 i k0_t1 = 1#1), ∀ a x, ((![v83, v582] : Fin 2 → IVec S16 32) a x).toNat < S160x240.size a := fun i k0_t1 v83 v582 k0_hw111 k0_h3 => k0_hw111 k0_h3

def k0_chk112 (i : grid0.Coords) (k0_t1 : Fin (k0_t1_loop i).trips) (v83 : IVec S16 32) (v567 : IVec S16 32) : Prop :=
  (∀ (k0_h3 : k0_cond3 i k0_t1 = 1#1), ∀ a x, ((![v567] : Fin 1 → IVec S16 32) a x).toNat < S48.size a) ∧
  (∀ (k0_h3 : k0_cond3 i k0_t1 = 1#1), ∀ a x, ((![v83, v567] : Fin 2 → IVec S16 32) a x).toNat < S160x48.size a)
theorem k0_idx135_inb : ∀ (i : grid0.Coords) (k0_t1 : Fin (k0_t1_loop i).trips) (v83 : IVec S16 32) (v567 : IVec S16 32) (k0_hw112 : k0_chk112 i k0_t1 v83 v567), ∀ (k0_h3 : k0_cond3 i k0_t1 = 1#1), ∀ a x, ((![v567] : Fin 1 → IVec S16 32) a x).toNat < S48.size a := fun i k0_t1 v83 v567 k0_hw112 k0_h3 => k0_hw112.1 k0_h3
theorem k0_idx136_inb : ∀ (i : grid0.Coords) (k0_t1 : Fin (k0_t1_loop i).trips) (v83 : IVec S16 32) (v567 : IVec S16 32) (k0_hw112 : k0_chk112 i k0_t1 v83 v567), ∀ (k0_h3 : k0_cond3 i k0_t1 = 1#1), ∀ a x, ((![v83, v567] : Fin 2 → IVec S16 32) a x).toNat < S160x48.size a := fun i k0_t1 v83 v567 k0_hw112 k0_h3 => k0_hw112.2 k0_h3

def k0_chk113 (i : grid0.Coords) (k0_t1 : Fin (k0_t1_loop i).trips) (v83 : IVec S16 32) (v586 : IVec S16 32) : Prop :=
  (∀ (k0_h3 : k0_cond3 i k0_t1 = 1#1), ∀ a x, ((![v83, v586] : Fin 2 → IVec S16 32) a x).toNat < S160x240.size a)
theorem k0_idx137_inb : ∀ (i : grid0.Coords) (k0_t1 : Fin (k0_t1_loop i).trips) (v83 : IVec S16 32) (v586 : IVec S16 32) (k0_hw113 : k0_chk113 i k0_t1 v83 v586), ∀ (k0_h3 : k0_cond3 i k0_t1 = 1#1), ∀ a x, ((![v83, v586] : Fin 2 → IVec S16 32) a x).toNat < S160x240.size a := fun i k0_t1 v83 v586 k0_hw113 k0_h3 => k0_hw113 k0_h3

def k0_chk114 (i : grid0.Coords) (k0_t1 : Fin (k0_t1_loop i).trips) (v83 : IVec S16 32) (v598 : IVec S16 32) : Prop :=
  (∀ (k0_h3 : k0_cond3 i k0_t1 = 1#1), ∀ a x, ((![v83, v598] : Fin 2 → IVec S16 32) a x).toNat < S160x240.size a)
theorem k0_idx138_inb : ∀ (i : grid0.Coords) (k0_t1 : Fin (k0_t1_loop i).trips) (v83 : IVec S16 32) (v598 : IVec S16 32) (k0_hw114 : k0_chk114 i k0_t1 v83 v598), ∀ (k0_h3 : k0_cond3 i k0_t1 = 1#1), ∀ a x, ((![v83, v598] : Fin 2 → IVec S16 32) a x).toNat < S160x240.size a := fun i k0_t1 v83 v598 k0_hw114 k0_h3 => k0_hw114 k0_h3

def k0_chk115 (i : grid0.Coords) (k0_t1 : Fin (k0_t1_loop i).trips) (v83 : IVec S16 32) (v602 : IVec S16 32) : Prop :=
  (∀ (k0_h3 : k0_cond3 i k0_t1 = 1#1), ∀ a x, ((![v83, v602] : Fin 2 → IVec S16 32) a x).toNat < S160x240.size a)
theorem k0_idx139_inb : ∀ (i : grid0.Coords) (k0_t1 : Fin (k0_t1_loop i).trips) (v83 : IVec S16 32) (v602 : IVec S16 32) (k0_hw115 : k0_chk115 i k0_t1 v83 v602), ∀ (k0_h3 : k0_cond3 i k0_t1 = 1#1), ∀ a x, ((![v83, v602] : Fin 2 → IVec S16 32) a x).toNat < S160x240.size a := fun i k0_t1 v83 v602 k0_hw115 k0_h3 => k0_hw115 k0_h3

def k0_chk116 (i : grid0.Coords) (k0_t1 : Fin (k0_t1_loop i).trips) (v83 : IVec S16 32) (v606 : IVec S16 32) : Prop :=
  (∀ (k0_h3 : k0_cond3 i k0_t1 = 1#1), ∀ a x, ((![v83, v606] : Fin 2 → IVec S16 32) a x).toNat < S160x240.size a)
theorem k0_idx140_inb : ∀ (i : grid0.Coords) (k0_t1 : Fin (k0_t1_loop i).trips) (v83 : IVec S16 32) (v606 : IVec S16 32) (k0_hw116 : k0_chk116 i k0_t1 v83 v606), ∀ (k0_h3 : k0_cond3 i k0_t1 = 1#1), ∀ a x, ((![v83, v606] : Fin 2 → IVec S16 32) a x).toNat < S160x240.size a := fun i k0_t1 v83 v606 k0_hw116 k0_h3 => k0_hw116 k0_h3

def k0_chk117 (i : grid0.Coords) (k0_t1 : Fin (k0_t1_loop i).trips) (v83 : IVec S16 32) (v610 : IVec S16 32) : Prop :=
  (∀ (k0_h3 : k0_cond3 i k0_t1 = 1#1), ∀ a x, ((![v83, v610] : Fin 2 → IVec S16 32) a x).toNat < S160x240.size a)
theorem k0_idx141_inb : ∀ (i : grid0.Coords) (k0_t1 : Fin (k0_t1_loop i).trips) (v83 : IVec S16 32) (v610 : IVec S16 32) (k0_hw117 : k0_chk117 i k0_t1 v83 v610), ∀ (k0_h3 : k0_cond3 i k0_t1 = 1#1), ∀ a x, ((![v83, v610] : Fin 2 → IVec S16 32) a x).toNat < S160x240.size a := fun i k0_t1 v83 v610 k0_hw117 k0_h3 => k0_hw117 k0_h3

def k0_chk118 (i : grid0.Coords) (k0_t1 : Fin (k0_t1_loop i).trips) (v83 : IVec S16 32) (v595 : IVec S16 32) : Prop :=
  (∀ (k0_h3 : k0_cond3 i k0_t1 = 1#1), ∀ a x, ((![v595] : Fin 1 → IVec S16 32) a x).toNat < S48.size a) ∧
  (∀ (k0_h3 : k0_cond3 i k0_t1 = 1#1), ∀ a x, ((![v83, v595] : Fin 2 → IVec S16 32) a x).toNat < S160x48.size a)
theorem k0_idx142_inb : ∀ (i : grid0.Coords) (k0_t1 : Fin (k0_t1_loop i).trips) (v83 : IVec S16 32) (v595 : IVec S16 32) (k0_hw118 : k0_chk118 i k0_t1 v83 v595), ∀ (k0_h3 : k0_cond3 i k0_t1 = 1#1), ∀ a x, ((![v595] : Fin 1 → IVec S16 32) a x).toNat < S48.size a := fun i k0_t1 v83 v595 k0_hw118 k0_h3 => k0_hw118.1 k0_h3
theorem k0_idx143_inb : ∀ (i : grid0.Coords) (k0_t1 : Fin (k0_t1_loop i).trips) (v83 : IVec S16 32) (v595 : IVec S16 32) (k0_hw118 : k0_chk118 i k0_t1 v83 v595), ∀ (k0_h3 : k0_cond3 i k0_t1 = 1#1), ∀ a x, ((![v83, v595] : Fin 2 → IVec S16 32) a x).toNat < S160x48.size a := fun i k0_t1 v83 v595 k0_hw118 k0_h3 => k0_hw118.2 k0_h3

def k0_chk119 (i : grid0.Coords) (k0_t1 : Fin (k0_t1_loop i).trips) (v83 : IVec S16 32) (v614 : IVec S16 32) : Prop :=
  (∀ (k0_h3 : k0_cond3 i k0_t1 = 1#1), ∀ a x, ((![v83, v614] : Fin 2 → IVec S16 32) a x).toNat < S160x240.size a)
theorem k0_idx144_inb : ∀ (i : grid0.Coords) (k0_t1 : Fin (k0_t1_loop i).trips) (v83 : IVec S16 32) (v614 : IVec S16 32) (k0_hw119 : k0_chk119 i k0_t1 v83 v614), ∀ (k0_h3 : k0_cond3 i k0_t1 = 1#1), ∀ a x, ((![v83, v614] : Fin 2 → IVec S16 32) a x).toNat < S160x240.size a := fun i k0_t1 v83 v614 k0_hw119 k0_h3 => k0_hw119 k0_h3

def k0_chk120 (i : grid0.Coords) (k0_t1 : Fin (k0_t1_loop i).trips) (v83 : IVec S16 32) (v626 : IVec S16 32) : Prop :=
  (∀ (k0_h3 : k0_cond3 i k0_t1 = 1#1), ∀ a x, ((![v83, v626] : Fin 2 → IVec S16 32) a x).toNat < S160x240.size a)
theorem k0_idx145_inb : ∀ (i : grid0.Coords) (k0_t1 : Fin (k0_t1_loop i).trips) (v83 : IVec S16 32) (v626 : IVec S16 32) (k0_hw120 : k0_chk120 i k0_t1 v83 v626), ∀ (k0_h3 : k0_cond3 i k0_t1 = 1#1), ∀ a x, ((![v83, v626] : Fin 2 → IVec S16 32) a x).toNat < S160x240.size a := fun i k0_t1 v83 v626 k0_hw120 k0_h3 => k0_hw120 k0_h3

def k0_chk121 (i : grid0.Coords) (k0_t1 : Fin (k0_t1_loop i).trips) (v83 : IVec S16 32) (v630 : IVec S16 32) : Prop :=
  (∀ (k0_h3 : k0_cond3 i k0_t1 = 1#1), ∀ a x, ((![v83, v630] : Fin 2 → IVec S16 32) a x).toNat < S160x240.size a)
theorem k0_idx146_inb : ∀ (i : grid0.Coords) (k0_t1 : Fin (k0_t1_loop i).trips) (v83 : IVec S16 32) (v630 : IVec S16 32) (k0_hw121 : k0_chk121 i k0_t1 v83 v630), ∀ (k0_h3 : k0_cond3 i k0_t1 = 1#1), ∀ a x, ((![v83, v630] : Fin 2 → IVec S16 32) a x).toNat < S160x240.size a := fun i k0_t1 v83 v630 k0_hw121 k0_h3 => k0_hw121 k0_h3

def k0_chk122 (i : grid0.Coords) (k0_t1 : Fin (k0_t1_loop i).trips) (v83 : IVec S16 32) (v634 : IVec S16 32) : Prop :=
  (∀ (k0_h3 : k0_cond3 i k0_t1 = 1#1), ∀ a x, ((![v83, v634] : Fin 2 → IVec S16 32) a x).toNat < S160x240.size a)
theorem k0_idx147_inb : ∀ (i : grid0.Coords) (k0_t1 : Fin (k0_t1_loop i).trips) (v83 : IVec S16 32) (v634 : IVec S16 32) (k0_hw122 : k0_chk122 i k0_t1 v83 v634), ∀ (k0_h3 : k0_cond3 i k0_t1 = 1#1), ∀ a x, ((![v83, v634] : Fin 2 → IVec S16 32) a x).toNat < S160x240.size a := fun i k0_t1 v83 v634 k0_hw122 k0_h3 => k0_hw122 k0_h3

def k0_chk123 (i : grid0.Coords) (k0_t1 : Fin (k0_t1_loop i).trips) (v83 : IVec S16 32) (v638 : IVec S16 32) : Prop :=
  (∀ (k0_h3 : k0_cond3 i k0_t1 = 1#1), ∀ a x, ((![v83, v638] : Fin 2 → IVec S16 32) a x).toNat < S160x240.size a)
theorem k0_idx148_inb : ∀ (i : grid0.Coords) (k0_t1 : Fin (k0_t1_loop i).trips) (v83 : IVec S16 32) (v638 : IVec S16 32) (k0_hw123 : k0_chk123 i k0_t1 v83 v638), ∀ (k0_h3 : k0_cond3 i k0_t1 = 1#1), ∀ a x, ((![v83, v638] : Fin 2 → IVec S16 32) a x).toNat < S160x240.size a := fun i k0_t1 v83 v638 k0_hw123 k0_h3 => k0_hw123 k0_h3

def k0_chk124 (i : grid0.Coords) (k0_t1 : Fin (k0_t1_loop i).trips) (v83 : IVec S16 32) (v623 : IVec S16 32) : Prop :=
  (∀ (k0_h3 : k0_cond3 i k0_t1 = 1#1), ∀ a x, ((![v623] : Fin 1 → IVec S16 32) a x).toNat < S48.size a) ∧
  (∀ (k0_h3 : k0_cond3 i k0_t1 = 1#1), ∀ a x, ((![v83, v623] : Fin 2 → IVec S16 32) a x).toNat < S160x48.size a)
theorem k0_idx149_inb : ∀ (i : grid0.Coords) (k0_t1 : Fin (k0_t1_loop i).trips) (v83 : IVec S16 32) (v623 : IVec S16 32) (k0_hw124 : k0_chk124 i k0_t1 v83 v623), ∀ (k0_h3 : k0_cond3 i k0_t1 = 1#1), ∀ a x, ((![v623] : Fin 1 → IVec S16 32) a x).toNat < S48.size a := fun i k0_t1 v83 v623 k0_hw124 k0_h3 => k0_hw124.1 k0_h3
theorem k0_idx150_inb : ∀ (i : grid0.Coords) (k0_t1 : Fin (k0_t1_loop i).trips) (v83 : IVec S16 32) (v623 : IVec S16 32) (k0_hw124 : k0_chk124 i k0_t1 v83 v623), ∀ (k0_h3 : k0_cond3 i k0_t1 = 1#1), ∀ a x, ((![v83, v623] : Fin 2 → IVec S16 32) a x).toNat < S160x48.size a := fun i k0_t1 v83 v623 k0_hw124 k0_h3 => k0_hw124.2 k0_h3

def k0_chk125 (i : grid0.Coords) (k0_t1 : Fin (k0_t1_loop i).trips) (v83 : IVec S16 32) (v642 : IVec S16 32) : Prop :=
  (∀ (k0_h3 : k0_cond3 i k0_t1 = 1#1), ∀ a x, ((![v83, v642] : Fin 2 → IVec S16 32) a x).toNat < S160x240.size a)
theorem k0_idx151_inb : ∀ (i : grid0.Coords) (k0_t1 : Fin (k0_t1_loop i).trips) (v83 : IVec S16 32) (v642 : IVec S16 32) (k0_hw125 : k0_chk125 i k0_t1 v83 v642), ∀ (k0_h3 : k0_cond3 i k0_t1 = 1#1), ∀ a x, ((![v83, v642] : Fin 2 → IVec S16 32) a x).toNat < S160x240.size a := fun i k0_t1 v83 v642 k0_hw125 k0_h3 => k0_hw125 k0_h3

def k0_chk126 (i : grid0.Coords) (k0_t1 : Fin (k0_t1_loop i).trips) (v83 : IVec S16 32) (v654 : IVec S16 32) : Prop :=
  (∀ (k0_h3 : k0_cond3 i k0_t1 = 1#1), ∀ a x, ((![v83, v654] : Fin 2 → IVec S16 32) a x).toNat < S160x240.size a)
theorem k0_idx152_inb : ∀ (i : grid0.Coords) (k0_t1 : Fin (k0_t1_loop i).trips) (v83 : IVec S16 32) (v654 : IVec S16 32) (k0_hw126 : k0_chk126 i k0_t1 v83 v654), ∀ (k0_h3 : k0_cond3 i k0_t1 = 1#1), ∀ a x, ((![v83, v654] : Fin 2 → IVec S16 32) a x).toNat < S160x240.size a := fun i k0_t1 v83 v654 k0_hw126 k0_h3 => k0_hw126 k0_h3

def k0_chk127 (i : grid0.Coords) (k0_t1 : Fin (k0_t1_loop i).trips) (v83 : IVec S16 32) (v658 : IVec S16 32) : Prop :=
  (∀ (k0_h3 : k0_cond3 i k0_t1 = 1#1), ∀ a x, ((![v83, v658] : Fin 2 → IVec S16 32) a x).toNat < S160x240.size a)
theorem k0_idx153_inb : ∀ (i : grid0.Coords) (k0_t1 : Fin (k0_t1_loop i).trips) (v83 : IVec S16 32) (v658 : IVec S16 32) (k0_hw127 : k0_chk127 i k0_t1 v83 v658), ∀ (k0_h3 : k0_cond3 i k0_t1 = 1#1), ∀ a x, ((![v83, v658] : Fin 2 → IVec S16 32) a x).toNat < S160x240.size a := fun i k0_t1 v83 v658 k0_hw127 k0_h3 => k0_hw127 k0_h3

def k0_chk128 (i : grid0.Coords) (k0_t1 : Fin (k0_t1_loop i).trips) (v83 : IVec S16 32) (v662 : IVec S16 32) : Prop :=
  (∀ (k0_h3 : k0_cond3 i k0_t1 = 1#1), ∀ a x, ((![v83, v662] : Fin 2 → IVec S16 32) a x).toNat < S160x240.size a)
theorem k0_idx154_inb : ∀ (i : grid0.Coords) (k0_t1 : Fin (k0_t1_loop i).trips) (v83 : IVec S16 32) (v662 : IVec S16 32) (k0_hw128 : k0_chk128 i k0_t1 v83 v662), ∀ (k0_h3 : k0_cond3 i k0_t1 = 1#1), ∀ a x, ((![v83, v662] : Fin 2 → IVec S16 32) a x).toNat < S160x240.size a := fun i k0_t1 v83 v662 k0_hw128 k0_h3 => k0_hw128 k0_h3

def k0_chk129 (i : grid0.Coords) (k0_t1 : Fin (k0_t1_loop i).trips) (v83 : IVec S16 32) (v666 : IVec S16 32) : Prop :=
  (∀ (k0_h3 : k0_cond3 i k0_t1 = 1#1), ∀ a x, ((![v83, v666] : Fin 2 → IVec S16 32) a x).toNat < S160x240.size a)
theorem k0_idx155_inb : ∀ (i : grid0.Coords) (k0_t1 : Fin (k0_t1_loop i).trips) (v83 : IVec S16 32) (v666 : IVec S16 32) (k0_hw129 : k0_chk129 i k0_t1 v83 v666), ∀ (k0_h3 : k0_cond3 i k0_t1 = 1#1), ∀ a x, ((![v83, v666] : Fin 2 → IVec S16 32) a x).toNat < S160x240.size a := fun i k0_t1 v83 v666 k0_hw129 k0_h3 => k0_hw129 k0_h3

def k0_chk130 (i : grid0.Coords) (k0_t1 : Fin (k0_t1_loop i).trips) (v83 : IVec S16 32) (v651 : IVec S16 32) : Prop :=
  (∀ (k0_h3 : k0_cond3 i k0_t1 = 1#1), ∀ a x, ((![v651] : Fin 1 → IVec S16 32) a x).toNat < S48.size a) ∧
  (∀ (k0_h3 : k0_cond3 i k0_t1 = 1#1), ∀ a x, ((![v83, v651] : Fin 2 → IVec S16 32) a x).toNat < S160x48.size a)
theorem k0_idx156_inb : ∀ (i : grid0.Coords) (k0_t1 : Fin (k0_t1_loop i).trips) (v83 : IVec S16 32) (v651 : IVec S16 32) (k0_hw130 : k0_chk130 i k0_t1 v83 v651), ∀ (k0_h3 : k0_cond3 i k0_t1 = 1#1), ∀ a x, ((![v651] : Fin 1 → IVec S16 32) a x).toNat < S48.size a := fun i k0_t1 v83 v651 k0_hw130 k0_h3 => k0_hw130.1 k0_h3
theorem k0_idx157_inb : ∀ (i : grid0.Coords) (k0_t1 : Fin (k0_t1_loop i).trips) (v83 : IVec S16 32) (v651 : IVec S16 32) (k0_hw130 : k0_chk130 i k0_t1 v83 v651), ∀ (k0_h3 : k0_cond3 i k0_t1 = 1#1), ∀ a x, ((![v83, v651] : Fin 2 → IVec S16 32) a x).toNat < S160x48.size a := fun i k0_t1 v83 v651 k0_hw130 k0_h3 => k0_hw130.2 k0_h3

def k0_chk131 (i : grid0.Coords) (k0_t1 : Fin (k0_t1_loop i).trips) (v83 : IVec S16 32) (v670 : IVec S16 32) : Prop :=
  (∀ (k0_h3 : k0_cond3 i k0_t1 = 1#1), ∀ a x, ((![v83, v670] : Fin 2 → IVec S16 32) a x).toNat < S160x240.size a)
theorem k0_idx158_inb : ∀ (i : grid0.Coords) (k0_t1 : Fin (k0_t1_loop i).trips) (v83 : IVec S16 32) (v670 : IVec S16 32) (k0_hw131 : k0_chk131 i k0_t1 v83 v670), ∀ (k0_h3 : k0_cond3 i k0_t1 = 1#1), ∀ a x, ((![v83, v670] : Fin 2 → IVec S16 32) a x).toNat < S160x240.size a := fun i k0_t1 v83 v670 k0_hw131 k0_h3 => k0_hw131 k0_h3

def k0_chk132 (i : grid0.Coords) (k0_t1 : Fin (k0_t1_loop i).trips) (v83 : IVec S16 32) (v682 : IVec S16 32) : Prop :=
  (∀ (k0_h3 : k0_cond3 i k0_t1 = 1#1), ∀ a x, ((![v83, v682] : Fin 2 → IVec S16 32) a x).toNat < S160x240.size a)
theorem k0_idx159_inb : ∀ (i : grid0.Coords) (k0_t1 : Fin (k0_t1_loop i).trips) (v83 : IVec S16 32) (v682 : IVec S16 32) (k0_hw132 : k0_chk132 i k0_t1 v83 v682), ∀ (k0_h3 : k0_cond3 i k0_t1 = 1#1), ∀ a x, ((![v83, v682] : Fin 2 → IVec S16 32) a x).toNat < S160x240.size a := fun i k0_t1 v83 v682 k0_hw132 k0_h3 => k0_hw132 k0_h3

def k0_chk133 (i : grid0.Coords) (k0_t1 : Fin (k0_t1_loop i).trips) (v83 : IVec S16 32) (v686 : IVec S16 32) : Prop :=
  (∀ (k0_h3 : k0_cond3 i k0_t1 = 1#1), ∀ a x, ((![v83, v686] : Fin 2 → IVec S16 32) a x).toNat < S160x240.size a)
theorem k0_idx160_inb : ∀ (i : grid0.Coords) (k0_t1 : Fin (k0_t1_loop i).trips) (v83 : IVec S16 32) (v686 : IVec S16 32) (k0_hw133 : k0_chk133 i k0_t1 v83 v686), ∀ (k0_h3 : k0_cond3 i k0_t1 = 1#1), ∀ a x, ((![v83, v686] : Fin 2 → IVec S16 32) a x).toNat < S160x240.size a := fun i k0_t1 v83 v686 k0_hw133 k0_h3 => k0_hw133 k0_h3

def k0_chk134 (i : grid0.Coords) (k0_t1 : Fin (k0_t1_loop i).trips) (v83 : IVec S16 32) (v690 : IVec S16 32) : Prop :=
  (∀ (k0_h3 : k0_cond3 i k0_t1 = 1#1), ∀ a x, ((![v83, v690] : Fin 2 → IVec S16 32) a x).toNat < S160x240.size a)
theorem k0_idx161_inb : ∀ (i : grid0.Coords) (k0_t1 : Fin (k0_t1_loop i).trips) (v83 : IVec S16 32) (v690 : IVec S16 32) (k0_hw134 : k0_chk134 i k0_t1 v83 v690), ∀ (k0_h3 : k0_cond3 i k0_t1 = 1#1), ∀ a x, ((![v83, v690] : Fin 2 → IVec S16 32) a x).toNat < S160x240.size a := fun i k0_t1 v83 v690 k0_hw134 k0_h3 => k0_hw134 k0_h3

def k0_chk135 (i : grid0.Coords) (k0_t1 : Fin (k0_t1_loop i).trips) (v83 : IVec S16 32) (v694 : IVec S16 32) : Prop :=
  (∀ (k0_h3 : k0_cond3 i k0_t1 = 1#1), ∀ a x, ((![v83, v694] : Fin 2 → IVec S16 32) a x).toNat < S160x240.size a)
theorem k0_idx162_inb : ∀ (i : grid0.Coords) (k0_t1 : Fin (k0_t1_loop i).trips) (v83 : IVec S16 32) (v694 : IVec S16 32) (k0_hw135 : k0_chk135 i k0_t1 v83 v694), ∀ (k0_h3 : k0_cond3 i k0_t1 = 1#1), ∀ a x, ((![v83, v694] : Fin 2 → IVec S16 32) a x).toNat < S160x240.size a := fun i k0_t1 v83 v694 k0_hw135 k0_h3 => k0_hw135 k0_h3

def k0_chk136 (i : grid0.Coords) (k0_t1 : Fin (k0_t1_loop i).trips) (v83 : IVec S16 32) (v679 : IVec S16 32) : Prop :=
  (∀ (k0_h3 : k0_cond3 i k0_t1 = 1#1), ∀ a x, ((![v679] : Fin 1 → IVec S16 32) a x).toNat < S48.size a) ∧
  (∀ (k0_h3 : k0_cond3 i k0_t1 = 1#1), ∀ a x, ((![v83, v679] : Fin 2 → IVec S16 32) a x).toNat < S160x48.size a)
theorem k0_idx163_inb : ∀ (i : grid0.Coords) (k0_t1 : Fin (k0_t1_loop i).trips) (v83 : IVec S16 32) (v679 : IVec S16 32) (k0_hw136 : k0_chk136 i k0_t1 v83 v679), ∀ (k0_h3 : k0_cond3 i k0_t1 = 1#1), ∀ a x, ((![v679] : Fin 1 → IVec S16 32) a x).toNat < S48.size a := fun i k0_t1 v83 v679 k0_hw136 k0_h3 => k0_hw136.1 k0_h3
theorem k0_idx164_inb : ∀ (i : grid0.Coords) (k0_t1 : Fin (k0_t1_loop i).trips) (v83 : IVec S16 32) (v679 : IVec S16 32) (k0_hw136 : k0_chk136 i k0_t1 v83 v679), ∀ (k0_h3 : k0_cond3 i k0_t1 = 1#1), ∀ a x, ((![v83, v679] : Fin 2 → IVec S16 32) a x).toNat < S160x48.size a := fun i k0_t1 v83 v679 k0_hw136 k0_h3 => k0_hw136.2 k0_h3

def k0_chk137 (i : grid0.Coords) (k0_t1 : Fin (k0_t1_loop i).trips) (v83 : IVec S16 32) (v698 : IVec S16 32) : Prop :=
  (∀ (k0_h3 : k0_cond3 i k0_t1 = 1#1), ∀ a x, ((![v83, v698] : Fin 2 → IVec S16 32) a x).toNat < S160x240.size a)
theorem k0_idx165_inb : ∀ (i : grid0.Coords) (k0_t1 : Fin (k0_t1_loop i).trips) (v83 : IVec S16 32) (v698 : IVec S16 32) (k0_hw137 : k0_chk137 i k0_t1 v83 v698), ∀ (k0_h3 : k0_cond3 i k0_t1 = 1#1), ∀ a x, ((![v83, v698] : Fin 2 → IVec S16 32) a x).toNat < S160x240.size a := fun i k0_t1 v83 v698 k0_hw137 k0_h3 => k0_hw137 k0_h3

def k0_chk138 (i : grid0.Coords) (k0_t1 : Fin (k0_t1_loop i).trips) (v83 : IVec S16 32) (v710 : IVec S16 32) : Prop :=
  (∀ (k0_h3 : k0_cond3 i k0_t1 = 1#1), ∀ a x, ((![v83, v710] : Fin 2 → IVec S16 32) a x).toNat < S160x240.size a)
theorem k0_idx166_inb : ∀ (i : grid0.Coords) (k0_t1 : Fin (k0_t1_loop i).trips) (v83 : IVec S16 32) (v710 : IVec S16 32) (k0_hw138 : k0_chk138 i k0_t1 v83 v710), ∀ (k0_h3 : k0_cond3 i k0_t1 = 1#1), ∀ a x, ((![v83, v710] : Fin 2 → IVec S16 32) a x).toNat < S160x240.size a := fun i k0_t1 v83 v710 k0_hw138 k0_h3 => k0_hw138 k0_h3

def k0_chk139 (i : grid0.Coords) (k0_t1 : Fin (k0_t1_loop i).trips) (v83 : IVec S16 32) (v714 : IVec S16 32) : Prop :=
  (∀ (k0_h3 : k0_cond3 i k0_t1 = 1#1), ∀ a x, ((![v83, v714] : Fin 2 → IVec S16 32) a x).toNat < S160x240.size a)
theorem k0_idx167_inb : ∀ (i : grid0.Coords) (k0_t1 : Fin (k0_t1_loop i).trips) (v83 : IVec S16 32) (v714 : IVec S16 32) (k0_hw139 : k0_chk139 i k0_t1 v83 v714), ∀ (k0_h3 : k0_cond3 i k0_t1 = 1#1), ∀ a x, ((![v83, v714] : Fin 2 → IVec S16 32) a x).toNat < S160x240.size a := fun i k0_t1 v83 v714 k0_hw139 k0_h3 => k0_hw139 k0_h3

def k0_chk140 (i : grid0.Coords) (k0_t1 : Fin (k0_t1_loop i).trips) (v83 : IVec S16 32) (v718 : IVec S16 32) : Prop :=
  (∀ (k0_h3 : k0_cond3 i k0_t1 = 1#1), ∀ a x, ((![v83, v718] : Fin 2 → IVec S16 32) a x).toNat < S160x240.size a)
theorem k0_idx168_inb : ∀ (i : grid0.Coords) (k0_t1 : Fin (k0_t1_loop i).trips) (v83 : IVec S16 32) (v718 : IVec S16 32) (k0_hw140 : k0_chk140 i k0_t1 v83 v718), ∀ (k0_h3 : k0_cond3 i k0_t1 = 1#1), ∀ a x, ((![v83, v718] : Fin 2 → IVec S16 32) a x).toNat < S160x240.size a := fun i k0_t1 v83 v718 k0_hw140 k0_h3 => k0_hw140 k0_h3

def k0_chk141 (i : grid0.Coords) (k0_t1 : Fin (k0_t1_loop i).trips) (v83 : IVec S16 32) (v722 : IVec S16 32) : Prop :=
  (∀ (k0_h3 : k0_cond3 i k0_t1 = 1#1), ∀ a x, ((![v83, v722] : Fin 2 → IVec S16 32) a x).toNat < S160x240.size a)
theorem k0_idx169_inb : ∀ (i : grid0.Coords) (k0_t1 : Fin (k0_t1_loop i).trips) (v83 : IVec S16 32) (v722 : IVec S16 32) (k0_hw141 : k0_chk141 i k0_t1 v83 v722), ∀ (k0_h3 : k0_cond3 i k0_t1 = 1#1), ∀ a x, ((![v83, v722] : Fin 2 → IVec S16 32) a x).toNat < S160x240.size a := fun i k0_t1 v83 v722 k0_hw141 k0_h3 => k0_hw141 k0_h3

def k0_chk142 (i : grid0.Coords) (k0_t1 : Fin (k0_t1_loop i).trips) (v83 : IVec S16 32) (v707 : IVec S16 32) : Prop :=
  (∀ (k0_h3 : k0_cond3 i k0_t1 = 1#1), ∀ a x, ((![v707] : Fin 1 → IVec S16 32) a x).toNat < S48.size a) ∧
  (∀ (k0_h3 : k0_cond3 i k0_t1 = 1#1), ∀ a x, ((![v83, v707] : Fin 2 → IVec S16 32) a x).toNat < S160x48.size a)
theorem k0_idx170_inb : ∀ (i : grid0.Coords) (k0_t1 : Fin (k0_t1_loop i).trips) (v83 : IVec S16 32) (v707 : IVec S16 32) (k0_hw142 : k0_chk142 i k0_t1 v83 v707), ∀ (k0_h3 : k0_cond3 i k0_t1 = 1#1), ∀ a x, ((![v707] : Fin 1 → IVec S16 32) a x).toNat < S48.size a := fun i k0_t1 v83 v707 k0_hw142 k0_h3 => k0_hw142.1 k0_h3
theorem k0_idx171_inb : ∀ (i : grid0.Coords) (k0_t1 : Fin (k0_t1_loop i).trips) (v83 : IVec S16 32) (v707 : IVec S16 32) (k0_hw142 : k0_chk142 i k0_t1 v83 v707), ∀ (k0_h3 : k0_cond3 i k0_t1 = 1#1), ∀ a x, ((![v83, v707] : Fin 2 → IVec S16 32) a x).toNat < S160x48.size a := fun i k0_t1 v83 v707 k0_hw142 k0_h3 => k0_hw142.2 k0_h3

def k0_chk143 (i : grid0.Coords) (k0_t1 : Fin (k0_t1_loop i).trips) (v83 : IVec S16 32) (v726 : IVec S16 32) : Prop :=
  (∀ (k0_h3 : k0_cond3 i k0_t1 = 1#1), ∀ a x, ((![v83, v726] : Fin 2 → IVec S16 32) a x).toNat < S160x240.size a)
theorem k0_idx172_inb : ∀ (i : grid0.Coords) (k0_t1 : Fin (k0_t1_loop i).trips) (v83 : IVec S16 32) (v726 : IVec S16 32) (k0_hw143 : k0_chk143 i k0_t1 v83 v726), ∀ (k0_h3 : k0_cond3 i k0_t1 = 1#1), ∀ a x, ((![v83, v726] : Fin 2 → IVec S16 32) a x).toNat < S160x240.size a := fun i k0_t1 v83 v726 k0_hw143 k0_h3 => k0_hw143 k0_h3

def k0_chk144 (i : grid0.Coords) (k0_t1 : Fin (k0_t1_loop i).trips) (v83 : IVec S16 32) (v738 : IVec S16 32) : Prop :=
  (∀ (k0_h3 : k0_cond3 i k0_t1 = 1#1), ∀ a x, ((![v83, v738] : Fin 2 → IVec S16 32) a x).toNat < S160x240.size a)
theorem k0_idx173_inb : ∀ (i : grid0.Coords) (k0_t1 : Fin (k0_t1_loop i).trips) (v83 : IVec S16 32) (v738 : IVec S16 32) (k0_hw144 : k0_chk144 i k0_t1 v83 v738), ∀ (k0_h3 : k0_cond3 i k0_t1 = 1#1), ∀ a x, ((![v83, v738] : Fin 2 → IVec S16 32) a x).toNat < S160x240.size a := fun i k0_t1 v83 v738 k0_hw144 k0_h3 => k0_hw144 k0_h3

def k0_chk145 (i : grid0.Coords) (k0_t1 : Fin (k0_t1_loop i).trips) (v83 : IVec S16 32) (v742 : IVec S16 32) : Prop :=
  (∀ (k0_h3 : k0_cond3 i k0_t1 = 1#1), ∀ a x, ((![v83, v742] : Fin 2 → IVec S16 32) a x).toNat < S160x240.size a)
theorem k0_idx174_inb : ∀ (i : grid0.Coords) (k0_t1 : Fin (k0_t1_loop i).trips) (v83 : IVec S16 32) (v742 : IVec S16 32) (k0_hw145 : k0_chk145 i k0_t1 v83 v742), ∀ (k0_h3 : k0_cond3 i k0_t1 = 1#1), ∀ a x, ((![v83, v742] : Fin 2 → IVec S16 32) a x).toNat < S160x240.size a := fun i k0_t1 v83 v742 k0_hw145 k0_h3 => k0_hw145 k0_h3

def k0_chk146 (i : grid0.Coords) (k0_t1 : Fin (k0_t1_loop i).trips) (v83 : IVec S16 32) (v746 : IVec S16 32) : Prop :=
  (∀ (k0_h3 : k0_cond3 i k0_t1 = 1#1), ∀ a x, ((![v83, v746] : Fin 2 → IVec S16 32) a x).toNat < S160x240.size a)
theorem k0_idx175_inb : ∀ (i : grid0.Coords) (k0_t1 : Fin (k0_t1_loop i).trips) (v83 : IVec S16 32) (v746 : IVec S16 32) (k0_hw146 : k0_chk146 i k0_t1 v83 v746), ∀ (k0_h3 : k0_cond3 i k0_t1 = 1#1), ∀ a x, ((![v83, v746] : Fin 2 → IVec S16 32) a x).toNat < S160x240.size a := fun i k0_t1 v83 v746 k0_hw146 k0_h3 => k0_hw146 k0_h3

def k0_chk147 (i : grid0.Coords) (k0_t1 : Fin (k0_t1_loop i).trips) (v83 : IVec S16 32) (v750 : IVec S16 32) : Prop :=
  (∀ (k0_h3 : k0_cond3 i k0_t1 = 1#1), ∀ a x, ((![v83, v750] : Fin 2 → IVec S16 32) a x).toNat < S160x240.size a)
theorem k0_idx176_inb : ∀ (i : grid0.Coords) (k0_t1 : Fin (k0_t1_loop i).trips) (v83 : IVec S16 32) (v750 : IVec S16 32) (k0_hw147 : k0_chk147 i k0_t1 v83 v750), ∀ (k0_h3 : k0_cond3 i k0_t1 = 1#1), ∀ a x, ((![v83, v750] : Fin 2 → IVec S16 32) a x).toNat < S160x240.size a := fun i k0_t1 v83 v750 k0_hw147 k0_h3 => k0_hw147 k0_h3

def k0_chk148 (i : grid0.Coords) (k0_t1 : Fin (k0_t1_loop i).trips) (v83 : IVec S16 32) (v735 : IVec S16 32) : Prop :=
  (∀ (k0_h3 : k0_cond3 i k0_t1 = 1#1), ∀ a x, ((![v735] : Fin 1 → IVec S16 32) a x).toNat < S48.size a) ∧
  (∀ (k0_h3 : k0_cond3 i k0_t1 = 1#1), ∀ a x, ((![v83, v735] : Fin 2 → IVec S16 32) a x).toNat < S160x48.size a)
theorem k0_idx177_inb : ∀ (i : grid0.Coords) (k0_t1 : Fin (k0_t1_loop i).trips) (v83 : IVec S16 32) (v735 : IVec S16 32) (k0_hw148 : k0_chk148 i k0_t1 v83 v735), ∀ (k0_h3 : k0_cond3 i k0_t1 = 1#1), ∀ a x, ((![v735] : Fin 1 → IVec S16 32) a x).toNat < S48.size a := fun i k0_t1 v83 v735 k0_hw148 k0_h3 => k0_hw148.1 k0_h3
theorem k0_idx178_inb : ∀ (i : grid0.Coords) (k0_t1 : Fin (k0_t1_loop i).trips) (v83 : IVec S16 32) (v735 : IVec S16 32) (k0_hw148 : k0_chk148 i k0_t1 v83 v735), ∀ (k0_h3 : k0_cond3 i k0_t1 = 1#1), ∀ a x, ((![v83, v735] : Fin 2 → IVec S16 32) a x).toNat < S160x48.size a := fun i k0_t1 v83 v735 k0_hw148 k0_h3 => k0_hw148.2 k0_h3

def k0_chk149 (i : grid0.Coords) (k0_t1 : Fin (k0_t1_loop i).trips) (v83 : IVec S16 32) (v754 : IVec S16 32) : Prop :=
  (∀ (k0_h3 : k0_cond3 i k0_t1 = 1#1), ∀ a x, ((![v83, v754] : Fin 2 → IVec S16 32) a x).toNat < S160x240.size a)
theorem k0_idx179_inb : ∀ (i : grid0.Coords) (k0_t1 : Fin (k0_t1_loop i).trips) (v83 : IVec S16 32) (v754 : IVec S16 32) (k0_hw149 : k0_chk149 i k0_t1 v83 v754), ∀ (k0_h3 : k0_cond3 i k0_t1 = 1#1), ∀ a x, ((![v83, v754] : Fin 2 → IVec S16 32) a x).toNat < S160x240.size a := fun i k0_t1 v83 v754 k0_hw149 k0_h3 => k0_hw149 k0_h3

def k0_chk150 (i : grid0.Coords) (k0_t1 : Fin (k0_t1_loop i).trips) (v83 : IVec S16 32) (v766 : IVec S16 32) : Prop :=
  (∀ (k0_h3 : k0_cond3 i k0_t1 = 1#1), ∀ a x, ((![v83, v766] : Fin 2 → IVec S16 32) a x).toNat < S160x240.size a)
theorem k0_idx180_inb : ∀ (i : grid0.Coords) (k0_t1 : Fin (k0_t1_loop i).trips) (v83 : IVec S16 32) (v766 : IVec S16 32) (k0_hw150 : k0_chk150 i k0_t1 v83 v766), ∀ (k0_h3 : k0_cond3 i k0_t1 = 1#1), ∀ a x, ((![v83, v766] : Fin 2 → IVec S16 32) a x).toNat < S160x240.size a := fun i k0_t1 v83 v766 k0_hw150 k0_h3 => k0_hw150 k0_h3

def k0_chk151 (i : grid0.Coords) (k0_t1 : Fin (k0_t1_loop i).trips) (v83 : IVec S16 32) (v770 : IVec S16 32) : Prop :=
  (∀ (k0_h3 : k0_cond3 i k0_t1 = 1#1), ∀ a x, ((![v83, v770] : Fin 2 → IVec S16 32) a x).toNat < S160x240.size a)
theorem k0_idx181_inb : ∀ (i : grid0.Coords) (k0_t1 : Fin (k0_t1_loop i).trips) (v83 : IVec S16 32) (v770 : IVec S16 32) (k0_hw151 : k0_chk151 i k0_t1 v83 v770), ∀ (k0_h3 : k0_cond3 i k0_t1 = 1#1), ∀ a x, ((![v83, v770] : Fin 2 → IVec S16 32) a x).toNat < S160x240.size a := fun i k0_t1 v83 v770 k0_hw151 k0_h3 => k0_hw151 k0_h3

def k0_chk152 (i : grid0.Coords) (k0_t1 : Fin (k0_t1_loop i).trips) (v83 : IVec S16 32) (v774 : IVec S16 32) : Prop :=
  (∀ (k0_h3 : k0_cond3 i k0_t1 = 1#1), ∀ a x, ((![v83, v774] : Fin 2 → IVec S16 32) a x).toNat < S160x240.size a)
theorem k0_idx182_inb : ∀ (i : grid0.Coords) (k0_t1 : Fin (k0_t1_loop i).trips) (v83 : IVec S16 32) (v774 : IVec S16 32) (k0_hw152 : k0_chk152 i k0_t1 v83 v774), ∀ (k0_h3 : k0_cond3 i k0_t1 = 1#1), ∀ a x, ((![v83, v774] : Fin 2 → IVec S16 32) a x).toNat < S160x240.size a := fun i k0_t1 v83 v774 k0_hw152 k0_h3 => k0_hw152 k0_h3

def k0_chk153 (i : grid0.Coords) (k0_t1 : Fin (k0_t1_loop i).trips) (v83 : IVec S16 32) (v778 : IVec S16 32) : Prop :=
  (∀ (k0_h3 : k0_cond3 i k0_t1 = 1#1), ∀ a x, ((![v83, v778] : Fin 2 → IVec S16 32) a x).toNat < S160x240.size a)
theorem k0_idx183_inb : ∀ (i : grid0.Coords) (k0_t1 : Fin (k0_t1_loop i).trips) (v83 : IVec S16 32) (v778 : IVec S16 32) (k0_hw153 : k0_chk153 i k0_t1 v83 v778), ∀ (k0_h3 : k0_cond3 i k0_t1 = 1#1), ∀ a x, ((![v83, v778] : Fin 2 → IVec S16 32) a x).toNat < S160x240.size a := fun i k0_t1 v83 v778 k0_hw153 k0_h3 => k0_hw153 k0_h3

def k0_chk154 (i : grid0.Coords) (k0_t1 : Fin (k0_t1_loop i).trips) (v83 : IVec S16 32) (v763 : IVec S16 32) : Prop :=
  (∀ (k0_h3 : k0_cond3 i k0_t1 = 1#1), ∀ a x, ((![v763] : Fin 1 → IVec S16 32) a x).toNat < S48.size a) ∧
  (∀ (k0_h3 : k0_cond3 i k0_t1 = 1#1), ∀ a x, ((![v83, v763] : Fin 2 → IVec S16 32) a x).toNat < S160x48.size a)
theorem k0_idx184_inb : ∀ (i : grid0.Coords) (k0_t1 : Fin (k0_t1_loop i).trips) (v83 : IVec S16 32) (v763 : IVec S16 32) (k0_hw154 : k0_chk154 i k0_t1 v83 v763), ∀ (k0_h3 : k0_cond3 i k0_t1 = 1#1), ∀ a x, ((![v763] : Fin 1 → IVec S16 32) a x).toNat < S48.size a := fun i k0_t1 v83 v763 k0_hw154 k0_h3 => k0_hw154.1 k0_h3
theorem k0_idx185_inb : ∀ (i : grid0.Coords) (k0_t1 : Fin (k0_t1_loop i).trips) (v83 : IVec S16 32) (v763 : IVec S16 32) (k0_hw154 : k0_chk154 i k0_t1 v83 v763), ∀ (k0_h3 : k0_cond3 i k0_t1 = 1#1), ∀ a x, ((![v83, v763] : Fin 2 → IVec S16 32) a x).toNat < S160x48.size a := fun i k0_t1 v83 v763 k0_hw154 k0_h3 => k0_hw154.2 k0_h3

def k0_chk155 (i : grid0.Coords) (k0_t1 : Fin (k0_t1_loop i).trips) (v83 : IVec S16 32) (v782 : IVec S16 32) : Prop :=
  (∀ (k0_h3 : k0_cond3 i k0_t1 = 1#1), ∀ a x, ((![v83, v782] : Fin 2 → IVec S16 32) a x).toNat < S160x240.size a)
theorem k0_idx186_inb : ∀ (i : grid0.Coords) (k0_t1 : Fin (k0_t1_loop i).trips) (v83 : IVec S16 32) (v782 : IVec S16 32) (k0_hw155 : k0_chk155 i k0_t1 v83 v782), ∀ (k0_h3 : k0_cond3 i k0_t1 = 1#1), ∀ a x, ((![v83, v782] : Fin 2 → IVec S16 32) a x).toNat < S160x240.size a := fun i k0_t1 v83 v782 k0_hw155 k0_h3 => k0_hw155 k0_h3

def k0_chk156 (i : grid0.Coords) (k0_t1 : Fin (k0_t1_loop i).trips) (v83 : IVec S16 32) (v794 : IVec S16 32) : Prop :=
  (∀ (k0_h3 : k0_cond3 i k0_t1 = 1#1), ∀ a x, ((![v83, v794] : Fin 2 → IVec S16 32) a x).toNat < S160x240.size a)
theorem k0_idx187_inb : ∀ (i : grid0.Coords) (k0_t1 : Fin (k0_t1_loop i).trips) (v83 : IVec S16 32) (v794 : IVec S16 32) (k0_hw156 : k0_chk156 i k0_t1 v83 v794), ∀ (k0_h3 : k0_cond3 i k0_t1 = 1#1), ∀ a x, ((![v83, v794] : Fin 2 → IVec S16 32) a x).toNat < S160x240.size a := fun i k0_t1 v83 v794 k0_hw156 k0_h3 => k0_hw156 k0_h3

def k0_chk157 (i : grid0.Coords) (k0_t1 : Fin (k0_t1_loop i).trips) (v83 : IVec S16 32) (v798 : IVec S16 32) : Prop :=
  (∀ (k0_h3 : k0_cond3 i k0_t1 = 1#1), ∀ a x, ((![v83, v798] : Fin 2 → IVec S16 32) a x).toNat < S160x240.size a)
theorem k0_idx188_inb : ∀ (i : grid0.Coords) (k0_t1 : Fin (k0_t1_loop i).trips) (v83 : IVec S16 32) (v798 : IVec S16 32) (k0_hw157 : k0_chk157 i k0_t1 v83 v798), ∀ (k0_h3 : k0_cond3 i k0_t1 = 1#1), ∀ a x, ((![v83, v798] : Fin 2 → IVec S16 32) a x).toNat < S160x240.size a := fun i k0_t1 v83 v798 k0_hw157 k0_h3 => k0_hw157 k0_h3

def k0_chk158 (i : grid0.Coords) (k0_t1 : Fin (k0_t1_loop i).trips) (v83 : IVec S16 32) (v802 : IVec S16 32) : Prop :=
  (∀ (k0_h3 : k0_cond3 i k0_t1 = 1#1), ∀ a x, ((![v83, v802] : Fin 2 → IVec S16 32) a x).toNat < S160x240.size a)
theorem k0_idx189_inb : ∀ (i : grid0.Coords) (k0_t1 : Fin (k0_t1_loop i).trips) (v83 : IVec S16 32) (v802 : IVec S16 32) (k0_hw158 : k0_chk158 i k0_t1 v83 v802), ∀ (k0_h3 : k0_cond3 i k0_t1 = 1#1), ∀ a x, ((![v83, v802] : Fin 2 → IVec S16 32) a x).toNat < S160x240.size a := fun i k0_t1 v83 v802 k0_hw158 k0_h3 => k0_hw158 k0_h3

def k0_chk159 (i : grid0.Coords) (k0_t1 : Fin (k0_t1_loop i).trips) (v83 : IVec S16 32) (v806 : IVec S16 32) : Prop :=
  (∀ (k0_h3 : k0_cond3 i k0_t1 = 1#1), ∀ a x, ((![v83, v806] : Fin 2 → IVec S16 32) a x).toNat < S160x240.size a)
theorem k0_idx190_inb : ∀ (i : grid0.Coords) (k0_t1 : Fin (k0_t1_loop i).trips) (v83 : IVec S16 32) (v806 : IVec S16 32) (k0_hw159 : k0_chk159 i k0_t1 v83 v806), ∀ (k0_h3 : k0_cond3 i k0_t1 = 1#1), ∀ a x, ((![v83, v806] : Fin 2 → IVec S16 32) a x).toNat < S160x240.size a := fun i k0_t1 v83 v806 k0_hw159 k0_h3 => k0_hw159 k0_h3

def k0_chk160 (i : grid0.Coords) (k0_t1 : Fin (k0_t1_loop i).trips) (v83 : IVec S16 32) (v791 : IVec S16 32) : Prop :=
  (∀ (k0_h3 : k0_cond3 i k0_t1 = 1#1), ∀ a x, ((![v791] : Fin 1 → IVec S16 32) a x).toNat < S48.size a) ∧
  (∀ (k0_h3 : k0_cond3 i k0_t1 = 1#1), ∀ a x, ((![v83, v791] : Fin 2 → IVec S16 32) a x).toNat < S160x48.size a)
theorem k0_idx191_inb : ∀ (i : grid0.Coords) (k0_t1 : Fin (k0_t1_loop i).trips) (v83 : IVec S16 32) (v791 : IVec S16 32) (k0_hw160 : k0_chk160 i k0_t1 v83 v791), ∀ (k0_h3 : k0_cond3 i k0_t1 = 1#1), ∀ a x, ((![v791] : Fin 1 → IVec S16 32) a x).toNat < S48.size a := fun i k0_t1 v83 v791 k0_hw160 k0_h3 => k0_hw160.1 k0_h3
theorem k0_idx192_inb : ∀ (i : grid0.Coords) (k0_t1 : Fin (k0_t1_loop i).trips) (v83 : IVec S16 32) (v791 : IVec S16 32) (k0_hw160 : k0_chk160 i k0_t1 v83 v791), ∀ (k0_h3 : k0_cond3 i k0_t1 = 1#1), ∀ a x, ((![v83, v791] : Fin 2 → IVec S16 32) a x).toNat < S160x48.size a := fun i k0_t1 v83 v791 k0_hw160 k0_h3 => k0_hw160.2 k0_h3

def k0_chk161 (i : grid0.Coords) (k0_t1 : Fin (k0_t1_loop i).trips) (v83 : IVec S16 32) (v810 : IVec S16 32) : Prop :=
  (∀ (k0_h3 : k0_cond3 i k0_t1 = 1#1), ∀ a x, ((![v83, v810] : Fin 2 → IVec S16 32) a x).toNat < S160x240.size a)
theorem k0_idx193_inb : ∀ (i : grid0.Coords) (k0_t1 : Fin (k0_t1_loop i).trips) (v83 : IVec S16 32) (v810 : IVec S16 32) (k0_hw161 : k0_chk161 i k0_t1 v83 v810), ∀ (k0_h3 : k0_cond3 i k0_t1 = 1#1), ∀ a x, ((![v83, v810] : Fin 2 → IVec S16 32) a x).toNat < S160x240.size a := fun i k0_t1 v83 v810 k0_hw161 k0_h3 => k0_hw161 k0_h3

def k0_chk162 (i : grid0.Coords) (k0_t1 : Fin (k0_t1_loop i).trips) (v83 : IVec S16 32) (v822 : IVec S16 32) : Prop :=
  (∀ (k0_h3 : k0_cond3 i k0_t1 = 1#1), ∀ a x, ((![v83, v822] : Fin 2 → IVec S16 32) a x).toNat < S160x240.size a)
theorem k0_idx194_inb : ∀ (i : grid0.Coords) (k0_t1 : Fin (k0_t1_loop i).trips) (v83 : IVec S16 32) (v822 : IVec S16 32) (k0_hw162 : k0_chk162 i k0_t1 v83 v822), ∀ (k0_h3 : k0_cond3 i k0_t1 = 1#1), ∀ a x, ((![v83, v822] : Fin 2 → IVec S16 32) a x).toNat < S160x240.size a := fun i k0_t1 v83 v822 k0_hw162 k0_h3 => k0_hw162 k0_h3

def k0_chk163 (i : grid0.Coords) (k0_t1 : Fin (k0_t1_loop i).trips) (v83 : IVec S16 32) (v826 : IVec S16 32) : Prop :=
  (∀ (k0_h3 : k0_cond3 i k0_t1 = 1#1), ∀ a x, ((![v83, v826] : Fin 2 → IVec S16 32) a x).toNat < S160x240.size a)
theorem k0_idx195_inb : ∀ (i : grid0.Coords) (k0_t1 : Fin (k0_t1_loop i).trips) (v83 : IVec S16 32) (v826 : IVec S16 32) (k0_hw163 : k0_chk163 i k0_t1 v83 v826), ∀ (k0_h3 : k0_cond3 i k0_t1 = 1#1), ∀ a x, ((![v83, v826] : Fin 2 → IVec S16 32) a x).toNat < S160x240.size a := fun i k0_t1 v83 v826 k0_hw163 k0_h3 => k0_hw163 k0_h3

def k0_chk164 (i : grid0.Coords) (k0_t1 : Fin (k0_t1_loop i).trips) (v83 : IVec S16 32) (v830 : IVec S16 32) : Prop :=
  (∀ (k0_h3 : k0_cond3 i k0_t1 = 1#1), ∀ a x, ((![v83, v830] : Fin 2 → IVec S16 32) a x).toNat < S160x240.size a)
theorem k0_idx196_inb : ∀ (i : grid0.Coords) (k0_t1 : Fin (k0_t1_loop i).trips) (v83 : IVec S16 32) (v830 : IVec S16 32) (k0_hw164 : k0_chk164 i k0_t1 v83 v830), ∀ (k0_h3 : k0_cond3 i k0_t1 = 1#1), ∀ a x, ((![v83, v830] : Fin 2 → IVec S16 32) a x).toNat < S160x240.size a := fun i k0_t1 v83 v830 k0_hw164 k0_h3 => k0_hw164 k0_h3

def k0_chk165 (i : grid0.Coords) (k0_t1 : Fin (k0_t1_loop i).trips) (v83 : IVec S16 32) (v834 : IVec S16 32) : Prop :=
  (∀ (k0_h3 : k0_cond3 i k0_t1 = 1#1), ∀ a x, ((![v83, v834] : Fin 2 → IVec S16 32) a x).toNat < S160x240.size a)
theorem k0_idx197_inb : ∀ (i : grid0.Coords) (k0_t1 : Fin (k0_t1_loop i).trips) (v83 : IVec S16 32) (v834 : IVec S16 32) (k0_hw165 : k0_chk165 i k0_t1 v83 v834), ∀ (k0_h3 : k0_cond3 i k0_t1 = 1#1), ∀ a x, ((![v83, v834] : Fin 2 → IVec S16 32) a x).toNat < S160x240.size a := fun i k0_t1 v83 v834 k0_hw165 k0_h3 => k0_hw165 k0_h3

def k0_chk166 (i : grid0.Coords) (k0_t1 : Fin (k0_t1_loop i).trips) (v83 : IVec S16 32) (v838 : IVec S16 32) : Prop :=
  (∀ (k0_h3 : k0_cond3 i k0_t1 = 1#1), ∀ a x, ((![v83, v838] : Fin 2 → IVec S16 32) a x).toNat < S160x240.size a)
theorem k0_idx198_inb : ∀ (i : grid0.Coords) (k0_t1 : Fin (k0_t1_loop i).trips) (v83 : IVec S16 32) (v838 : IVec S16 32) (k0_hw166 : k0_chk166 i k0_t1 v83 v838), ∀ (k0_h3 : k0_cond3 i k0_t1 = 1#1), ∀ a x, ((![v83, v838] : Fin 2 → IVec S16 32) a x).toNat < S160x240.size a := fun i k0_t1 v83 v838 k0_hw166 k0_h3 => k0_hw166 k0_h3

def k0_chk167 (i : grid0.Coords) (k0_t1 : Fin (k0_t1_loop i).trips) (v83 : IVec S16 32) (v842 : IVec S16 32) : Prop :=
  (∀ (k0_h3 : k0_cond3 i k0_t1 = 1#1), ∀ a x, ((![v83, v842] : Fin 2 → IVec S16 32) a x).toNat < S160x240.size a)
theorem k0_idx199_inb : ∀ (i : grid0.Coords) (k0_t1 : Fin (k0_t1_loop i).trips) (v83 : IVec S16 32) (v842 : IVec S16 32) (k0_hw167 : k0_chk167 i k0_t1 v83 v842), ∀ (k0_h3 : k0_cond3 i k0_t1 = 1#1), ∀ a x, ((![v83, v842] : Fin 2 → IVec S16 32) a x).toNat < S160x240.size a := fun i k0_t1 v83 v842 k0_hw167 k0_h3 => k0_hw167 k0_h3

def k0_chk168 (i : grid0.Coords) (k0_t1 : Fin (k0_t1_loop i).trips) (v83 : IVec S16 32) (v819 : IVec S16 32) : Prop :=
  (∀ (k0_h3 : k0_cond3 i k0_t1 = 1#1), ∀ a x, ((![v819] : Fin 1 → IVec S16 32) a x).toNat < S48.size a) ∧
  (∀ (k0_h3 : k0_cond3 i k0_t1 = 1#1), ∀ a x, ((![v83, v819] : Fin 2 → IVec S16 32) a x).toNat < S160x48.size a)
theorem k0_idx200_inb : ∀ (i : grid0.Coords) (k0_t1 : Fin (k0_t1_loop i).trips) (v83 : IVec S16 32) (v819 : IVec S16 32) (k0_hw168 : k0_chk168 i k0_t1 v83 v819), ∀ (k0_h3 : k0_cond3 i k0_t1 = 1#1), ∀ a x, ((![v819] : Fin 1 → IVec S16 32) a x).toNat < S48.size a := fun i k0_t1 v83 v819 k0_hw168 k0_h3 => k0_hw168.1 k0_h3
theorem k0_idx201_inb : ∀ (i : grid0.Coords) (k0_t1 : Fin (k0_t1_loop i).trips) (v83 : IVec S16 32) (v819 : IVec S16 32) (k0_hw168 : k0_chk168 i k0_t1 v83 v819), ∀ (k0_h3 : k0_cond3 i k0_t1 = 1#1), ∀ a x, ((![v83, v819] : Fin 2 → IVec S16 32) a x).toNat < S160x48.size a := fun i k0_t1 v83 v819 k0_hw168 k0_h3 => k0_hw168.2 k0_h3

def k0_chk169 (i : grid0.Coords) (k0_t1 : Fin (k0_t1_loop i).trips) (v83 : IVec S16 32) (v846 : IVec S16 32) : Prop :=
  (∀ (k0_h3 : k0_cond3 i k0_t1 = 1#1), ∀ a x, ((![v83, v846] : Fin 2 → IVec S16 32) a x).toNat < S160x240.size a)
theorem k0_idx202_inb : ∀ (i : grid0.Coords) (k0_t1 : Fin (k0_t1_loop i).trips) (v83 : IVec S16 32) (v846 : IVec S16 32) (k0_hw169 : k0_chk169 i k0_t1 v83 v846), ∀ (k0_h3 : k0_cond3 i k0_t1 = 1#1), ∀ a x, ((![v83, v846] : Fin 2 → IVec S16 32) a x).toNat < S160x240.size a := fun i k0_t1 v83 v846 k0_hw169 k0_h3 => k0_hw169 k0_h3

def k0_chk170 (i : grid0.Coords) (k0_t1 : Fin (k0_t1_loop i).trips) (v83 : IVec S16 32) (v860 : IVec S16 32) : Prop :=
  (∀ (k0_h3 : k0_cond3 i k0_t1 = 1#1), ∀ a x, ((![v83, v860] : Fin 2 → IVec S16 32) a x).toNat < S160x240.size a)
theorem k0_idx203_inb : ∀ (i : grid0.Coords) (k0_t1 : Fin (k0_t1_loop i).trips) (v83 : IVec S16 32) (v860 : IVec S16 32) (k0_hw170 : k0_chk170 i k0_t1 v83 v860), ∀ (k0_h3 : k0_cond3 i k0_t1 = 1#1), ∀ a x, ((![v83, v860] : Fin 2 → IVec S16 32) a x).toNat < S160x240.size a := fun i k0_t1 v83 v860 k0_hw170 k0_h3 => k0_hw170 k0_h3

def k0_chk171 (i : grid0.Coords) (k0_t1 : Fin (k0_t1_loop i).trips) (v83 : IVec S16 32) (v864 : IVec S16 32) : Prop :=
  (∀ (k0_h3 : k0_cond3 i k0_t1 = 1#1), ∀ a x, ((![v83, v864] : Fin 2 → IVec S16 32) a x).toNat < S160x240.size a)
theorem k0_idx204_inb : ∀ (i : grid0.Coords) (k0_t1 : Fin (k0_t1_loop i).trips) (v83 : IVec S16 32) (v864 : IVec S16 32) (k0_hw171 : k0_chk171 i k0_t1 v83 v864), ∀ (k0_h3 : k0_cond3 i k0_t1 = 1#1), ∀ a x, ((![v83, v864] : Fin 2 → IVec S16 32) a x).toNat < S160x240.size a := fun i k0_t1 v83 v864 k0_hw171 k0_h3 => k0_hw171 k0_h3

def k0_chk172 (i : grid0.Coords) (k0_t1 : Fin (k0_t1_loop i).trips) (v83 : IVec S16 32) (v868 : IVec S16 32) : Prop :=
  (∀ (k0_h3 : k0_cond3 i k0_t1 = 1#1), ∀ a x, ((![v83, v868] : Fin 2 → IVec S16 32) a x).toNat < S160x240.size a)
theorem k0_idx205_inb : ∀ (i : grid0.Coords) (k0_t1 : Fin (k0_t1_loop i).trips) (v83 : IVec S16 32) (v868 : IVec S16 32) (k0_hw172 : k0_chk172 i k0_t1 v83 v868), ∀ (k0_h3 : k0_cond3 i k0_t1 = 1#1), ∀ a x, ((![v83, v868] : Fin 2 → IVec S16 32) a x).toNat < S160x240.size a := fun i k0_t1 v83 v868 k0_hw172 k0_h3 => k0_hw172 k0_h3

def k0_chk173 (i : grid0.Coords) (k0_t1 : Fin (k0_t1_loop i).trips) (v83 : IVec S16 32) (v872 : IVec S16 32) : Prop :=
  (∀ (k0_h3 : k0_cond3 i k0_t1 = 1#1), ∀ a x, ((![v83, v872] : Fin 2 → IVec S16 32) a x).toNat < S160x240.size a)
theorem k0_idx206_inb : ∀ (i : grid0.Coords) (k0_t1 : Fin (k0_t1_loop i).trips) (v83 : IVec S16 32) (v872 : IVec S16 32) (k0_hw173 : k0_chk173 i k0_t1 v83 v872), ∀ (k0_h3 : k0_cond3 i k0_t1 = 1#1), ∀ a x, ((![v83, v872] : Fin 2 → IVec S16 32) a x).toNat < S160x240.size a := fun i k0_t1 v83 v872 k0_hw173 k0_h3 => k0_hw173 k0_h3

def k0_chk174 (i : grid0.Coords) (k0_t1 : Fin (k0_t1_loop i).trips) (v83 : IVec S16 32) (v876 : IVec S16 32) : Prop :=
  (∀ (k0_h3 : k0_cond3 i k0_t1 = 1#1), ∀ a x, ((![v83, v876] : Fin 2 → IVec S16 32) a x).toNat < S160x240.size a)
theorem k0_idx207_inb : ∀ (i : grid0.Coords) (k0_t1 : Fin (k0_t1_loop i).trips) (v83 : IVec S16 32) (v876 : IVec S16 32) (k0_hw174 : k0_chk174 i k0_t1 v83 v876), ∀ (k0_h3 : k0_cond3 i k0_t1 = 1#1), ∀ a x, ((![v83, v876] : Fin 2 → IVec S16 32) a x).toNat < S160x240.size a := fun i k0_t1 v83 v876 k0_hw174 k0_h3 => k0_hw174 k0_h3

def k0_chk175 (i : grid0.Coords) (k0_t1 : Fin (k0_t1_loop i).trips) (v83 : IVec S16 32) (v880 : IVec S16 32) : Prop :=
  (∀ (k0_h3 : k0_cond3 i k0_t1 = 1#1), ∀ a x, ((![v83, v880] : Fin 2 → IVec S16 32) a x).toNat < S160x240.size a)
theorem k0_idx208_inb : ∀ (i : grid0.Coords) (k0_t1 : Fin (k0_t1_loop i).trips) (v83 : IVec S16 32) (v880 : IVec S16 32) (k0_hw175 : k0_chk175 i k0_t1 v83 v880), ∀ (k0_h3 : k0_cond3 i k0_t1 = 1#1), ∀ a x, ((![v83, v880] : Fin 2 → IVec S16 32) a x).toNat < S160x240.size a := fun i k0_t1 v83 v880 k0_hw175 k0_h3 => k0_hw175 k0_h3

def k0_chk176 (i : grid0.Coords) (k0_t1 : Fin (k0_t1_loop i).trips) (v83 : IVec S16 32) (v857 : IVec S16 32) : Prop :=
  (∀ (k0_h3 : k0_cond3 i k0_t1 = 1#1), ∀ a x, ((![v857] : Fin 1 → IVec S16 32) a x).toNat < S48.size a) ∧
  (∀ (k0_h3 : k0_cond3 i k0_t1 = 1#1), ∀ a x, ((![v83, v857] : Fin 2 → IVec S16 32) a x).toNat < S160x48.size a)
theorem k0_idx209_inb : ∀ (i : grid0.Coords) (k0_t1 : Fin (k0_t1_loop i).trips) (v83 : IVec S16 32) (v857 : IVec S16 32) (k0_hw176 : k0_chk176 i k0_t1 v83 v857), ∀ (k0_h3 : k0_cond3 i k0_t1 = 1#1), ∀ a x, ((![v857] : Fin 1 → IVec S16 32) a x).toNat < S48.size a := fun i k0_t1 v83 v857 k0_hw176 k0_h3 => k0_hw176.1 k0_h3
theorem k0_idx210_inb : ∀ (i : grid0.Coords) (k0_t1 : Fin (k0_t1_loop i).trips) (v83 : IVec S16 32) (v857 : IVec S16 32) (k0_hw176 : k0_chk176 i k0_t1 v83 v857), ∀ (k0_h3 : k0_cond3 i k0_t1 = 1#1), ∀ a x, ((![v83, v857] : Fin 2 → IVec S16 32) a x).toNat < S160x48.size a := fun i k0_t1 v83 v857 k0_hw176 k0_h3 => k0_hw176.2 k0_h3

def k0_chk177 (i : grid0.Coords) (k0_t1 : Fin (k0_t1_loop i).trips) (v83 : IVec S16 32) (v884 : IVec S16 32) : Prop :=
  (∀ (k0_h3 : k0_cond3 i k0_t1 = 1#1), ∀ a x, ((![v83, v884] : Fin 2 → IVec S16 32) a x).toNat < S160x240.size a)
theorem k0_idx211_inb : ∀ (i : grid0.Coords) (k0_t1 : Fin (k0_t1_loop i).trips) (v83 : IVec S16 32) (v884 : IVec S16 32) (k0_hw177 : k0_chk177 i k0_t1 v83 v884), ∀ (k0_h3 : k0_cond3 i k0_t1 = 1#1), ∀ a x, ((![v83, v884] : Fin 2 → IVec S16 32) a x).toNat < S160x240.size a := fun i k0_t1 v83 v884 k0_hw177 k0_h3 => k0_hw177 k0_h3

def k0_chk178 (i : grid0.Coords) (k0_t1 : Fin (k0_t1_loop i).trips) (v83 : IVec S16 32) (v898 : IVec S16 32) : Prop :=
  (∀ (k0_h3 : k0_cond3 i k0_t1 = 1#1), ∀ a x, ((![v83, v898] : Fin 2 → IVec S16 32) a x).toNat < S160x240.size a)
theorem k0_idx212_inb : ∀ (i : grid0.Coords) (k0_t1 : Fin (k0_t1_loop i).trips) (v83 : IVec S16 32) (v898 : IVec S16 32) (k0_hw178 : k0_chk178 i k0_t1 v83 v898), ∀ (k0_h3 : k0_cond3 i k0_t1 = 1#1), ∀ a x, ((![v83, v898] : Fin 2 → IVec S16 32) a x).toNat < S160x240.size a := fun i k0_t1 v83 v898 k0_hw178 k0_h3 => k0_hw178 k0_h3

def k0_chk179 (i : grid0.Coords) (k0_t1 : Fin (k0_t1_loop i).trips) (v83 : IVec S16 32) (v902 : IVec S16 32) : Prop :=
  (∀ (k0_h3 : k0_cond3 i k0_t1 = 1#1), ∀ a x, ((![v83, v902] : Fin 2 → IVec S16 32) a x).toNat < S160x240.size a)
theorem k0_idx213_inb : ∀ (i : grid0.Coords) (k0_t1 : Fin (k0_t1_loop i).trips) (v83 : IVec S16 32) (v902 : IVec S16 32) (k0_hw179 : k0_chk179 i k0_t1 v83 v902), ∀ (k0_h3 : k0_cond3 i k0_t1 = 1#1), ∀ a x, ((![v83, v902] : Fin 2 → IVec S16 32) a x).toNat < S160x240.size a := fun i k0_t1 v83 v902 k0_hw179 k0_h3 => k0_hw179 k0_h3

def k0_chk180 (i : grid0.Coords) (k0_t1 : Fin (k0_t1_loop i).trips) (v83 : IVec S16 32) (v906 : IVec S16 32) : Prop :=
  (∀ (k0_h3 : k0_cond3 i k0_t1 = 1#1), ∀ a x, ((![v83, v906] : Fin 2 → IVec S16 32) a x).toNat < S160x240.size a)
theorem k0_idx214_inb : ∀ (i : grid0.Coords) (k0_t1 : Fin (k0_t1_loop i).trips) (v83 : IVec S16 32) (v906 : IVec S16 32) (k0_hw180 : k0_chk180 i k0_t1 v83 v906), ∀ (k0_h3 : k0_cond3 i k0_t1 = 1#1), ∀ a x, ((![v83, v906] : Fin 2 → IVec S16 32) a x).toNat < S160x240.size a := fun i k0_t1 v83 v906 k0_hw180 k0_h3 => k0_hw180 k0_h3

def k0_chk181 (i : grid0.Coords) (k0_t1 : Fin (k0_t1_loop i).trips) (v83 : IVec S16 32) (v910 : IVec S16 32) : Prop :=
  (∀ (k0_h3 : k0_cond3 i k0_t1 = 1#1), ∀ a x, ((![v83, v910] : Fin 2 → IVec S16 32) a x).toNat < S160x240.size a)
theorem k0_idx215_inb : ∀ (i : grid0.Coords) (k0_t1 : Fin (k0_t1_loop i).trips) (v83 : IVec S16 32) (v910 : IVec S16 32) (k0_hw181 : k0_chk181 i k0_t1 v83 v910), ∀ (k0_h3 : k0_cond3 i k0_t1 = 1#1), ∀ a x, ((![v83, v910] : Fin 2 → IVec S16 32) a x).toNat < S160x240.size a := fun i k0_t1 v83 v910 k0_hw181 k0_h3 => k0_hw181 k0_h3

def k0_chk182 (i : grid0.Coords) (k0_t1 : Fin (k0_t1_loop i).trips) (v83 : IVec S16 32) (v914 : IVec S16 32) : Prop :=
  (∀ (k0_h3 : k0_cond3 i k0_t1 = 1#1), ∀ a x, ((![v83, v914] : Fin 2 → IVec S16 32) a x).toNat < S160x240.size a)
theorem k0_idx216_inb : ∀ (i : grid0.Coords) (k0_t1 : Fin (k0_t1_loop i).trips) (v83 : IVec S16 32) (v914 : IVec S16 32) (k0_hw182 : k0_chk182 i k0_t1 v83 v914), ∀ (k0_h3 : k0_cond3 i k0_t1 = 1#1), ∀ a x, ((![v83, v914] : Fin 2 → IVec S16 32) a x).toNat < S160x240.size a := fun i k0_t1 v83 v914 k0_hw182 k0_h3 => k0_hw182 k0_h3

def k0_chk183 (i : grid0.Coords) (k0_t1 : Fin (k0_t1_loop i).trips) (v83 : IVec S16 32) (v918 : IVec S16 32) : Prop :=
  (∀ (k0_h3 : k0_cond3 i k0_t1 = 1#1), ∀ a x, ((![v83, v918] : Fin 2 → IVec S16 32) a x).toNat < S160x240.size a)
theorem k0_idx217_inb : ∀ (i : grid0.Coords) (k0_t1 : Fin (k0_t1_loop i).trips) (v83 : IVec S16 32) (v918 : IVec S16 32) (k0_hw183 : k0_chk183 i k0_t1 v83 v918), ∀ (k0_h3 : k0_cond3 i k0_t1 = 1#1), ∀ a x, ((![v83, v918] : Fin 2 → IVec S16 32) a x).toNat < S160x240.size a := fun i k0_t1 v83 v918 k0_hw183 k0_h3 => k0_hw183 k0_h3

def k0_chk184 (i : grid0.Coords) (k0_t1 : Fin (k0_t1_loop i).trips) (v83 : IVec S16 32) (v895 : IVec S16 32) : Prop :=
  (∀ (k0_h3 : k0_cond3 i k0_t1 = 1#1), ∀ a x, ((![v895] : Fin 1 → IVec S16 32) a x).toNat < S48.size a) ∧
  (∀ (k0_h3 : k0_cond3 i k0_t1 = 1#1), ∀ a x, ((![v83, v895] : Fin 2 → IVec S16 32) a x).toNat < S160x48.size a)
theorem k0_idx218_inb : ∀ (i : grid0.Coords) (k0_t1 : Fin (k0_t1_loop i).trips) (v83 : IVec S16 32) (v895 : IVec S16 32) (k0_hw184 : k0_chk184 i k0_t1 v83 v895), ∀ (k0_h3 : k0_cond3 i k0_t1 = 1#1), ∀ a x, ((![v895] : Fin 1 → IVec S16 32) a x).toNat < S48.size a := fun i k0_t1 v83 v895 k0_hw184 k0_h3 => k0_hw184.1 k0_h3
theorem k0_idx219_inb : ∀ (i : grid0.Coords) (k0_t1 : Fin (k0_t1_loop i).trips) (v83 : IVec S16 32) (v895 : IVec S16 32) (k0_hw184 : k0_chk184 i k0_t1 v83 v895), ∀ (k0_h3 : k0_cond3 i k0_t1 = 1#1), ∀ a x, ((![v83, v895] : Fin 2 → IVec S16 32) a x).toNat < S160x48.size a := fun i k0_t1 v83 v895 k0_hw184 k0_h3 => k0_hw184.2 k0_h3

def k0_chk185 (i : grid0.Coords) (k0_t1 : Fin (k0_t1_loop i).trips) (v83 : IVec S16 32) (v922 : IVec S16 32) : Prop :=
  (∀ (k0_h3 : k0_cond3 i k0_t1 = 1#1), ∀ a x, ((![v83, v922] : Fin 2 → IVec S16 32) a x).toNat < S160x240.size a)
theorem k0_idx220_inb : ∀ (i : grid0.Coords) (k0_t1 : Fin (k0_t1_loop i).trips) (v83 : IVec S16 32) (v922 : IVec S16 32) (k0_hw185 : k0_chk185 i k0_t1 v83 v922), ∀ (k0_h3 : k0_cond3 i k0_t1 = 1#1), ∀ a x, ((![v83, v922] : Fin 2 → IVec S16 32) a x).toNat < S160x240.size a := fun i k0_t1 v83 v922 k0_hw185 k0_h3 => k0_hw185 k0_h3

def k0_chk186 (i : grid0.Coords) (k0_t1 : Fin (k0_t1_loop i).trips) (v83 : IVec S16 32) (v936 : IVec S16 32) : Prop :=
  (∀ (k0_h3 : k0_cond3 i k0_t1 = 1#1), ∀ a x, ((![v83, v936] : Fin 2 → IVec S16 32) a x).toNat < S160x240.size a)
theorem k0_idx221_inb : ∀ (i : grid0.Coords) (k0_t1 : Fin (k0_t1_loop i).trips) (v83 : IVec S16 32) (v936 : IVec S16 32) (k0_hw186 : k0_chk186 i k0_t1 v83 v936), ∀ (k0_h3 : k0_cond3 i k0_t1 = 1#1), ∀ a x, ((![v83, v936] : Fin 2 → IVec S16 32) a x).toNat < S160x240.size a := fun i k0_t1 v83 v936 k0_hw186 k0_h3 => k0_hw186 k0_h3

def k0_chk187 (i : grid0.Coords) (k0_t1 : Fin (k0_t1_loop i).trips) (v83 : IVec S16 32) (v940 : IVec S16 32) : Prop :=
  (∀ (k0_h3 : k0_cond3 i k0_t1 = 1#1), ∀ a x, ((![v83, v940] : Fin 2 → IVec S16 32) a x).toNat < S160x240.size a)
theorem k0_idx222_inb : ∀ (i : grid0.Coords) (k0_t1 : Fin (k0_t1_loop i).trips) (v83 : IVec S16 32) (v940 : IVec S16 32) (k0_hw187 : k0_chk187 i k0_t1 v83 v940), ∀ (k0_h3 : k0_cond3 i k0_t1 = 1#1), ∀ a x, ((![v83, v940] : Fin 2 → IVec S16 32) a x).toNat < S160x240.size a := fun i k0_t1 v83 v940 k0_hw187 k0_h3 => k0_hw187 k0_h3

def k0_chk188 (i : grid0.Coords) (k0_t1 : Fin (k0_t1_loop i).trips) (v83 : IVec S16 32) (v944 : IVec S16 32) : Prop :=
  (∀ (k0_h3 : k0_cond3 i k0_t1 = 1#1), ∀ a x, ((![v83, v944] : Fin 2 → IVec S16 32) a x).toNat < S160x240.size a)
theorem k0_idx223_inb : ∀ (i : grid0.Coords) (k0_t1 : Fin (k0_t1_loop i).trips) (v83 : IVec S16 32) (v944 : IVec S16 32) (k0_hw188 : k0_chk188 i k0_t1 v83 v944), ∀ (k0_h3 : k0_cond3 i k0_t1 = 1#1), ∀ a x, ((![v83, v944] : Fin 2 → IVec S16 32) a x).toNat < S160x240.size a := fun i k0_t1 v83 v944 k0_hw188 k0_h3 => k0_hw188 k0_h3

def k0_chk189 (i : grid0.Coords) (k0_t1 : Fin (k0_t1_loop i).trips) (v83 : IVec S16 32) (v948 : IVec S16 32) : Prop :=
  (∀ (k0_h3 : k0_cond3 i k0_t1 = 1#1), ∀ a x, ((![v83, v948] : Fin 2 → IVec S16 32) a x).toNat < S160x240.size a)
theorem k0_idx224_inb : ∀ (i : grid0.Coords) (k0_t1 : Fin (k0_t1_loop i).trips) (v83 : IVec S16 32) (v948 : IVec S16 32) (k0_hw189 : k0_chk189 i k0_t1 v83 v948), ∀ (k0_h3 : k0_cond3 i k0_t1 = 1#1), ∀ a x, ((![v83, v948] : Fin 2 → IVec S16 32) a x).toNat < S160x240.size a := fun i k0_t1 v83 v948 k0_hw189 k0_h3 => k0_hw189 k0_h3

def k0_chk190 (i : grid0.Coords) (k0_t1 : Fin (k0_t1_loop i).trips) (v83 : IVec S16 32) (v952 : IVec S16 32) : Prop :=
  (∀ (k0_h3 : k0_cond3 i k0_t1 = 1#1), ∀ a x, ((![v83, v952] : Fin 2 → IVec S16 32) a x).toNat < S160x240.size a)
theorem k0_idx225_inb : ∀ (i : grid0.Coords) (k0_t1 : Fin (k0_t1_loop i).trips) (v83 : IVec S16 32) (v952 : IVec S16 32) (k0_hw190 : k0_chk190 i k0_t1 v83 v952), ∀ (k0_h3 : k0_cond3 i k0_t1 = 1#1), ∀ a x, ((![v83, v952] : Fin 2 → IVec S16 32) a x).toNat < S160x240.size a := fun i k0_t1 v83 v952 k0_hw190 k0_h3 => k0_hw190 k0_h3

def k0_chk191 (i : grid0.Coords) (k0_t1 : Fin (k0_t1_loop i).trips) (v83 : IVec S16 32) (v956 : IVec S16 32) : Prop :=
  (∀ (k0_h3 : k0_cond3 i k0_t1 = 1#1), ∀ a x, ((![v83, v956] : Fin 2 → IVec S16 32) a x).toNat < S160x240.size a)
theorem k0_idx226_inb : ∀ (i : grid0.Coords) (k0_t1 : Fin (k0_t1_loop i).trips) (v83 : IVec S16 32) (v956 : IVec S16 32) (k0_hw191 : k0_chk191 i k0_t1 v83 v956), ∀ (k0_h3 : k0_cond3 i k0_t1 = 1#1), ∀ a x, ((![v83, v956] : Fin 2 → IVec S16 32) a x).toNat < S160x240.size a := fun i k0_t1 v83 v956 k0_hw191 k0_h3 => k0_hw191 k0_h3

def k0_chk192 (i : grid0.Coords) (k0_t1 : Fin (k0_t1_loop i).trips) (v83 : IVec S16 32) (v933 : IVec S16 32) : Prop :=
  (∀ (k0_h3 : k0_cond3 i k0_t1 = 1#1), ∀ a x, ((![v933] : Fin 1 → IVec S16 32) a x).toNat < S48.size a) ∧
  (∀ (k0_h3 : k0_cond3 i k0_t1 = 1#1), ∀ a x, ((![v83, v933] : Fin 2 → IVec S16 32) a x).toNat < S160x48.size a)
theorem k0_idx227_inb : ∀ (i : grid0.Coords) (k0_t1 : Fin (k0_t1_loop i).trips) (v83 : IVec S16 32) (v933 : IVec S16 32) (k0_hw192 : k0_chk192 i k0_t1 v83 v933), ∀ (k0_h3 : k0_cond3 i k0_t1 = 1#1), ∀ a x, ((![v933] : Fin 1 → IVec S16 32) a x).toNat < S48.size a := fun i k0_t1 v83 v933 k0_hw192 k0_h3 => k0_hw192.1 k0_h3
theorem k0_idx228_inb : ∀ (i : grid0.Coords) (k0_t1 : Fin (k0_t1_loop i).trips) (v83 : IVec S16 32) (v933 : IVec S16 32) (k0_hw192 : k0_chk192 i k0_t1 v83 v933), ∀ (k0_h3 : k0_cond3 i k0_t1 = 1#1), ∀ a x, ((![v83, v933] : Fin 2 → IVec S16 32) a x).toNat < S160x48.size a := fun i k0_t1 v83 v933 k0_hw192 k0_h3 => k0_hw192.2 k0_h3

def k0_chk193 (i : grid0.Coords) (k0_t1 : Fin (k0_t1_loop i).trips) (v83 : IVec S16 32) (v960 : IVec S16 32) : Prop :=
  (∀ (k0_h3 : k0_cond3 i k0_t1 = 1#1), ∀ a x, ((![v83, v960] : Fin 2 → IVec S16 32) a x).toNat < S160x240.size a)
theorem k0_idx229_inb : ∀ (i : grid0.Coords) (k0_t1 : Fin (k0_t1_loop i).trips) (v83 : IVec S16 32) (v960 : IVec S16 32) (k0_hw193 : k0_chk193 i k0_t1 v83 v960), ∀ (k0_h3 : k0_cond3 i k0_t1 = 1#1), ∀ a x, ((![v83, v960] : Fin 2 → IVec S16 32) a x).toNat < S160x240.size a := fun i k0_t1 v83 v960 k0_hw193 k0_h3 => k0_hw193 k0_h3

def k0_chk194 (i : grid0.Coords) (k0_t1 : Fin (k0_t1_loop i).trips) (v83 : IVec S16 32) (v974 : IVec S16 32) : Prop :=
  (∀ (k0_h3 : k0_cond3 i k0_t1 = 1#1), ∀ a x, ((![v83, v974] : Fin 2 → IVec S16 32) a x).toNat < S160x240.size a)
theorem k0_idx230_inb : ∀ (i : grid0.Coords) (k0_t1 : Fin (k0_t1_loop i).trips) (v83 : IVec S16 32) (v974 : IVec S16 32) (k0_hw194 : k0_chk194 i k0_t1 v83 v974), ∀ (k0_h3 : k0_cond3 i k0_t1 = 1#1), ∀ a x, ((![v83, v974] : Fin 2 → IVec S16 32) a x).toNat < S160x240.size a := fun i k0_t1 v83 v974 k0_hw194 k0_h3 => k0_hw194 k0_h3

def k0_chk195 (i : grid0.Coords) (k0_t1 : Fin (k0_t1_loop i).trips) (v83 : IVec S16 32) (v978 : IVec S16 32) : Prop :=
  (∀ (k0_h3 : k0_cond3 i k0_t1 = 1#1), ∀ a x, ((![v83, v978] : Fin 2 → IVec S16 32) a x).toNat < S160x240.size a)
theorem k0_idx231_inb : ∀ (i : grid0.Coords) (k0_t1 : Fin (k0_t1_loop i).trips) (v83 : IVec S16 32) (v978 : IVec S16 32) (k0_hw195 : k0_chk195 i k0_t1 v83 v978), ∀ (k0_h3 : k0_cond3 i k0_t1 = 1#1), ∀ a x, ((![v83, v978] : Fin 2 → IVec S16 32) a x).toNat < S160x240.size a := fun i k0_t1 v83 v978 k0_hw195 k0_h3 => k0_hw195 k0_h3

def k0_chk196 (i : grid0.Coords) (k0_t1 : Fin (k0_t1_loop i).trips) (v83 : IVec S16 32) (v982 : IVec S16 32) : Prop :=
  (∀ (k0_h3 : k0_cond3 i k0_t1 = 1#1), ∀ a x, ((![v83, v982] : Fin 2 → IVec S16 32) a x).toNat < S160x240.size a)
theorem k0_idx232_inb : ∀ (i : grid0.Coords) (k0_t1 : Fin (k0_t1_loop i).trips) (v83 : IVec S16 32) (v982 : IVec S16 32) (k0_hw196 : k0_chk196 i k0_t1 v83 v982), ∀ (k0_h3 : k0_cond3 i k0_t1 = 1#1), ∀ a x, ((![v83, v982] : Fin 2 → IVec S16 32) a x).toNat < S160x240.size a := fun i k0_t1 v83 v982 k0_hw196 k0_h3 => k0_hw196 k0_h3

def k0_chk197 (i : grid0.Coords) (k0_t1 : Fin (k0_t1_loop i).trips) (v83 : IVec S16 32) (v986 : IVec S16 32) : Prop :=
  (∀ (k0_h3 : k0_cond3 i k0_t1 = 1#1), ∀ a x, ((![v83, v986] : Fin 2 → IVec S16 32) a x).toNat < S160x240.size a)
theorem k0_idx233_inb : ∀ (i : grid0.Coords) (k0_t1 : Fin (k0_t1_loop i).trips) (v83 : IVec S16 32) (v986 : IVec S16 32) (k0_hw197 : k0_chk197 i k0_t1 v83 v986), ∀ (k0_h3 : k0_cond3 i k0_t1 = 1#1), ∀ a x, ((![v83, v986] : Fin 2 → IVec S16 32) a x).toNat < S160x240.size a := fun i k0_t1 v83 v986 k0_hw197 k0_h3 => k0_hw197 k0_h3

def k0_chk198 (i : grid0.Coords) (k0_t1 : Fin (k0_t1_loop i).trips) (v83 : IVec S16 32) (v990 : IVec S16 32) : Prop :=
  (∀ (k0_h3 : k0_cond3 i k0_t1 = 1#1), ∀ a x, ((![v83, v990] : Fin 2 → IVec S16 32) a x).toNat < S160x240.size a)
theorem k0_idx234_inb : ∀ (i : grid0.Coords) (k0_t1 : Fin (k0_t1_loop i).trips) (v83 : IVec S16 32) (v990 : IVec S16 32) (k0_hw198 : k0_chk198 i k0_t1 v83 v990), ∀ (k0_h3 : k0_cond3 i k0_t1 = 1#1), ∀ a x, ((![v83, v990] : Fin 2 → IVec S16 32) a x).toNat < S160x240.size a := fun i k0_t1 v83 v990 k0_hw198 k0_h3 => k0_hw198 k0_h3

def k0_chk199 (i : grid0.Coords) (k0_t1 : Fin (k0_t1_loop i).trips) (v83 : IVec S16 32) (v994 : IVec S16 32) : Prop :=
  (∀ (k0_h3 : k0_cond3 i k0_t1 = 1#1), ∀ a x, ((![v83, v994] : Fin 2 → IVec S16 32) a x).toNat < S160x240.size a)
theorem k0_idx235_inb : ∀ (i : grid0.Coords) (k0_t1 : Fin (k0_t1_loop i).trips) (v83 : IVec S16 32) (v994 : IVec S16 32) (k0_hw199 : k0_chk199 i k0_t1 v83 v994), ∀ (k0_h3 : k0_cond3 i k0_t1 = 1#1), ∀ a x, ((![v83, v994] : Fin 2 → IVec S16 32) a x).toNat < S160x240.size a := fun i k0_t1 v83 v994 k0_hw199 k0_h3 => k0_hw199 k0_h3

def k0_chk200 (i : grid0.Coords) (k0_t1 : Fin (k0_t1_loop i).trips) (v83 : IVec S16 32) (v971 : IVec S16 32) : Prop :=
  (∀ (k0_h3 : k0_cond3 i k0_t1 = 1#1), ∀ a x, ((![v971] : Fin 1 → IVec S16 32) a x).toNat < S48.size a) ∧
  (∀ (k0_h3 : k0_cond3 i k0_t1 = 1#1), ∀ a x, ((![v83, v971] : Fin 2 → IVec S16 32) a x).toNat < S160x48.size a)
theorem k0_idx236_inb : ∀ (i : grid0.Coords) (k0_t1 : Fin (k0_t1_loop i).trips) (v83 : IVec S16 32) (v971 : IVec S16 32) (k0_hw200 : k0_chk200 i k0_t1 v83 v971), ∀ (k0_h3 : k0_cond3 i k0_t1 = 1#1), ∀ a x, ((![v971] : Fin 1 → IVec S16 32) a x).toNat < S48.size a := fun i k0_t1 v83 v971 k0_hw200 k0_h3 => k0_hw200.1 k0_h3
theorem k0_idx237_inb : ∀ (i : grid0.Coords) (k0_t1 : Fin (k0_t1_loop i).trips) (v83 : IVec S16 32) (v971 : IVec S16 32) (k0_hw200 : k0_chk200 i k0_t1 v83 v971), ∀ (k0_h3 : k0_cond3 i k0_t1 = 1#1), ∀ a x, ((![v83, v971] : Fin 2 → IVec S16 32) a x).toNat < S160x48.size a := fun i k0_t1 v83 v971 k0_hw200 k0_h3 => k0_hw200.2 k0_h3

def k0_chk201 (i : grid0.Coords) (k0_t1 : Fin (k0_t1_loop i).trips) (v83 : IVec S16 32) (v998 : IVec S16 32) : Prop :=
  (∀ (k0_h3 : k0_cond3 i k0_t1 = 1#1), ∀ a x, ((![v83, v998] : Fin 2 → IVec S16 32) a x).toNat < S160x240.size a)
theorem k0_idx238_inb : ∀ (i : grid0.Coords) (k0_t1 : Fin (k0_t1_loop i).trips) (v83 : IVec S16 32) (v998 : IVec S16 32) (k0_hw201 : k0_chk201 i k0_t1 v83 v998), ∀ (k0_h3 : k0_cond3 i k0_t1 = 1#1), ∀ a x, ((![v83, v998] : Fin 2 → IVec S16 32) a x).toNat < S160x240.size a := fun i k0_t1 v83 v998 k0_hw201 k0_h3 => k0_hw201 k0_h3

def k0_chk202 (i : grid0.Coords) (k0_t1 : Fin (k0_t1_loop i).trips) (v83 : IVec S16 32) (v1012 : IVec S16 32) : Prop :=
  (∀ (k0_h3 : k0_cond3 i k0_t1 = 1#1), ∀ a x, ((![v83, v1012] : Fin 2 → IVec S16 32) a x).toNat < S160x240.size a)
theorem k0_idx239_inb : ∀ (i : grid0.Coords) (k0_t1 : Fin (k0_t1_loop i).trips) (v83 : IVec S16 32) (v1012 : IVec S16 32) (k0_hw202 : k0_chk202 i k0_t1 v83 v1012), ∀ (k0_h3 : k0_cond3 i k0_t1 = 1#1), ∀ a x, ((![v83, v1012] : Fin 2 → IVec S16 32) a x).toNat < S160x240.size a := fun i k0_t1 v83 v1012 k0_hw202 k0_h3 => k0_hw202 k0_h3

def k0_chk203 (i : grid0.Coords) (k0_t1 : Fin (k0_t1_loop i).trips) (v83 : IVec S16 32) (v1016 : IVec S16 32) : Prop :=
  (∀ (k0_h3 : k0_cond3 i k0_t1 = 1#1), ∀ a x, ((![v83, v1016] : Fin 2 → IVec S16 32) a x).toNat < S160x240.size a)
theorem k0_idx240_inb : ∀ (i : grid0.Coords) (k0_t1 : Fin (k0_t1_loop i).trips) (v83 : IVec S16 32) (v1016 : IVec S16 32) (k0_hw203 : k0_chk203 i k0_t1 v83 v1016), ∀ (k0_h3 : k0_cond3 i k0_t1 = 1#1), ∀ a x, ((![v83, v1016] : Fin 2 → IVec S16 32) a x).toNat < S160x240.size a := fun i k0_t1 v83 v1016 k0_hw203 k0_h3 => k0_hw203 k0_h3

def k0_chk204 (i : grid0.Coords) (k0_t1 : Fin (k0_t1_loop i).trips) (v83 : IVec S16 32) (v1020 : IVec S16 32) : Prop :=
  (∀ (k0_h3 : k0_cond3 i k0_t1 = 1#1), ∀ a x, ((![v83, v1020] : Fin 2 → IVec S16 32) a x).toNat < S160x240.size a)
theorem k0_idx241_inb : ∀ (i : grid0.Coords) (k0_t1 : Fin (k0_t1_loop i).trips) (v83 : IVec S16 32) (v1020 : IVec S16 32) (k0_hw204 : k0_chk204 i k0_t1 v83 v1020), ∀ (k0_h3 : k0_cond3 i k0_t1 = 1#1), ∀ a x, ((![v83, v1020] : Fin 2 → IVec S16 32) a x).toNat < S160x240.size a := fun i k0_t1 v83 v1020 k0_hw204 k0_h3 => k0_hw204 k0_h3

def k0_chk205 (i : grid0.Coords) (k0_t1 : Fin (k0_t1_loop i).trips) (v83 : IVec S16 32) (v1024 : IVec S16 32) : Prop :=
  (∀ (k0_h3 : k0_cond3 i k0_t1 = 1#1), ∀ a x, ((![v83, v1024] : Fin 2 → IVec S16 32) a x).toNat < S160x240.size a)
theorem k0_idx242_inb : ∀ (i : grid0.Coords) (k0_t1 : Fin (k0_t1_loop i).trips) (v83 : IVec S16 32) (v1024 : IVec S16 32) (k0_hw205 : k0_chk205 i k0_t1 v83 v1024), ∀ (k0_h3 : k0_cond3 i k0_t1 = 1#1), ∀ a x, ((![v83, v1024] : Fin 2 → IVec S16 32) a x).toNat < S160x240.size a := fun i k0_t1 v83 v1024 k0_hw205 k0_h3 => k0_hw205 k0_h3

def k0_chk206 (i : grid0.Coords) (k0_t1 : Fin (k0_t1_loop i).trips) (v83 : IVec S16 32) (v1028 : IVec S16 32) : Prop :=
  (∀ (k0_h3 : k0_cond3 i k0_t1 = 1#1), ∀ a x, ((![v83, v1028] : Fin 2 → IVec S16 32) a x).toNat < S160x240.size a)
theorem k0_idx243_inb : ∀ (i : grid0.Coords) (k0_t1 : Fin (k0_t1_loop i).trips) (v83 : IVec S16 32) (v1028 : IVec S16 32) (k0_hw206 : k0_chk206 i k0_t1 v83 v1028), ∀ (k0_h3 : k0_cond3 i k0_t1 = 1#1), ∀ a x, ((![v83, v1028] : Fin 2 → IVec S16 32) a x).toNat < S160x240.size a := fun i k0_t1 v83 v1028 k0_hw206 k0_h3 => k0_hw206 k0_h3

def k0_chk207 (i : grid0.Coords) (k0_t1 : Fin (k0_t1_loop i).trips) (v83 : IVec S16 32) (v1032 : IVec S16 32) : Prop :=
  (∀ (k0_h3 : k0_cond3 i k0_t1 = 1#1), ∀ a x, ((![v83, v1032] : Fin 2 → IVec S16 32) a x).toNat < S160x240.size a)
theorem k0_idx244_inb : ∀ (i : grid0.Coords) (k0_t1 : Fin (k0_t1_loop i).trips) (v83 : IVec S16 32) (v1032 : IVec S16 32) (k0_hw207 : k0_chk207 i k0_t1 v83 v1032), ∀ (k0_h3 : k0_cond3 i k0_t1 = 1#1), ∀ a x, ((![v83, v1032] : Fin 2 → IVec S16 32) a x).toNat < S160x240.size a := fun i k0_t1 v83 v1032 k0_hw207 k0_h3 => k0_hw207 k0_h3

def k0_chk208 (i : grid0.Coords) (k0_t1 : Fin (k0_t1_loop i).trips) (v83 : IVec S16 32) (v1009 : IVec S16 32) : Prop :=
  (∀ (k0_h3 : k0_cond3 i k0_t1 = 1#1), ∀ a x, ((![v1009] : Fin 1 → IVec S16 32) a x).toNat < S48.size a) ∧
  (∀ (k0_h3 : k0_cond3 i k0_t1 = 1#1), ∀ a x, ((![v83, v1009] : Fin 2 → IVec S16 32) a x).toNat < S160x48.size a)
theorem k0_idx245_inb : ∀ (i : grid0.Coords) (k0_t1 : Fin (k0_t1_loop i).trips) (v83 : IVec S16 32) (v1009 : IVec S16 32) (k0_hw208 : k0_chk208 i k0_t1 v83 v1009), ∀ (k0_h3 : k0_cond3 i k0_t1 = 1#1), ∀ a x, ((![v1009] : Fin 1 → IVec S16 32) a x).toNat < S48.size a := fun i k0_t1 v83 v1009 k0_hw208 k0_h3 => k0_hw208.1 k0_h3
theorem k0_idx246_inb : ∀ (i : grid0.Coords) (k0_t1 : Fin (k0_t1_loop i).trips) (v83 : IVec S16 32) (v1009 : IVec S16 32) (k0_hw208 : k0_chk208 i k0_t1 v83 v1009), ∀ (k0_h3 : k0_cond3 i k0_t1 = 1#1), ∀ a x, ((![v83, v1009] : Fin 2 → IVec S16 32) a x).toNat < S160x48.size a := fun i k0_t1 v83 v1009 k0_hw208 k0_h3 => k0_hw208.2 k0_h3

def k0_chk209 (i : grid0.Coords) (k0_t1 : Fin (k0_t1_loop i).trips) (v83 : IVec S16 32) (v1036 : IVec S16 32) : Prop :=
  (∀ (k0_h3 : k0_cond3 i k0_t1 = 1#1), ∀ a x, ((![v83, v1036] : Fin 2 → IVec S16 32) a x).toNat < S160x240.size a)
theorem k0_idx247_inb : ∀ (i : grid0.Coords) (k0_t1 : Fin (k0_t1_loop i).trips) (v83 : IVec S16 32) (v1036 : IVec S16 32) (k0_hw209 : k0_chk209 i k0_t1 v83 v1036), ∀ (k0_h3 : k0_cond3 i k0_t1 = 1#1), ∀ a x, ((![v83, v1036] : Fin 2 → IVec S16 32) a x).toNat < S160x240.size a := fun i k0_t1 v83 v1036 k0_hw209 k0_h3 => k0_hw209 k0_h3

def k0_chk210 (i : grid0.Coords) (k0_t1 : Fin (k0_t1_loop i).trips) (v83 : IVec S16 32) (v1050 : IVec S16 32) : Prop :=
  (∀ (k0_h3 : k0_cond3 i k0_t1 = 1#1), ∀ a x, ((![v83, v1050] : Fin 2 → IVec S16 32) a x).toNat < S160x240.size a)
theorem k0_idx248_inb : ∀ (i : grid0.Coords) (k0_t1 : Fin (k0_t1_loop i).trips) (v83 : IVec S16 32) (v1050 : IVec S16 32) (k0_hw210 : k0_chk210 i k0_t1 v83 v1050), ∀ (k0_h3 : k0_cond3 i k0_t1 = 1#1), ∀ a x, ((![v83, v1050] : Fin 2 → IVec S16 32) a x).toNat < S160x240.size a := fun i k0_t1 v83 v1050 k0_hw210 k0_h3 => k0_hw210 k0_h3

def k0_chk211 (i : grid0.Coords) (k0_t1 : Fin (k0_t1_loop i).trips) (v83 : IVec S16 32) (v1054 : IVec S16 32) : Prop :=
  (∀ (k0_h3 : k0_cond3 i k0_t1 = 1#1), ∀ a x, ((![v83, v1054] : Fin 2 → IVec S16 32) a x).toNat < S160x240.size a)
theorem k0_idx249_inb : ∀ (i : grid0.Coords) (k0_t1 : Fin (k0_t1_loop i).trips) (v83 : IVec S16 32) (v1054 : IVec S16 32) (k0_hw211 : k0_chk211 i k0_t1 v83 v1054), ∀ (k0_h3 : k0_cond3 i k0_t1 = 1#1), ∀ a x, ((![v83, v1054] : Fin 2 → IVec S16 32) a x).toNat < S160x240.size a := fun i k0_t1 v83 v1054 k0_hw211 k0_h3 => k0_hw211 k0_h3

def k0_chk212 (i : grid0.Coords) (k0_t1 : Fin (k0_t1_loop i).trips) (v83 : IVec S16 32) (v1058 : IVec S16 32) : Prop :=
  (∀ (k0_h3 : k0_cond3 i k0_t1 = 1#1), ∀ a x, ((![v83, v1058] : Fin 2 → IVec S16 32) a x).toNat < S160x240.size a)
theorem k0_idx250_inb : ∀ (i : grid0.Coords) (k0_t1 : Fin (k0_t1_loop i).trips) (v83 : IVec S16 32) (v1058 : IVec S16 32) (k0_hw212 : k0_chk212 i k0_t1 v83 v1058), ∀ (k0_h3 : k0_cond3 i k0_t1 = 1#1), ∀ a x, ((![v83, v1058] : Fin 2 → IVec S16 32) a x).toNat < S160x240.size a := fun i k0_t1 v83 v1058 k0_hw212 k0_h3 => k0_hw212 k0_h3

def k0_chk213 (i : grid0.Coords) (k0_t1 : Fin (k0_t1_loop i).trips) (v83 : IVec S16 32) (v1062 : IVec S16 32) : Prop :=
  (∀ (k0_h3 : k0_cond3 i k0_t1 = 1#1), ∀ a x, ((![v83, v1062] : Fin 2 → IVec S16 32) a x).toNat < S160x240.size a)
theorem k0_idx251_inb : ∀ (i : grid0.Coords) (k0_t1 : Fin (k0_t1_loop i).trips) (v83 : IVec S16 32) (v1062 : IVec S16 32) (k0_hw213 : k0_chk213 i k0_t1 v83 v1062), ∀ (k0_h3 : k0_cond3 i k0_t1 = 1#1), ∀ a x, ((![v83, v1062] : Fin 2 → IVec S16 32) a x).toNat < S160x240.size a := fun i k0_t1 v83 v1062 k0_hw213 k0_h3 => k0_hw213 k0_h3

def k0_chk214 (i : grid0.Coords) (k0_t1 : Fin (k0_t1_loop i).trips) (v83 : IVec S16 32) (v1066 : IVec S16 32) : Prop :=
  (∀ (k0_h3 : k0_cond3 i k0_t1 = 1#1), ∀ a x, ((![v83, v1066] : Fin 2 → IVec S16 32) a x).toNat < S160x240.size a)
theorem k0_idx252_inb : ∀ (i : grid0.Coords) (k0_t1 : Fin (k0_t1_loop i).trips) (v83 : IVec S16 32) (v1066 : IVec S16 32) (k0_hw214 : k0_chk214 i k0_t1 v83 v1066), ∀ (k0_h3 : k0_cond3 i k0_t1 = 1#1), ∀ a x, ((![v83, v1066] : Fin 2 → IVec S16 32) a x).toNat < S160x240.size a := fun i k0_t1 v83 v1066 k0_hw214 k0_h3 => k0_hw214 k0_h3

def k0_chk215 (i : grid0.Coords) (k0_t1 : Fin (k0_t1_loop i).trips) (v83 : IVec S16 32) (v1070 : IVec S16 32) : Prop :=
  (∀ (k0_h3 : k0_cond3 i k0_t1 = 1#1), ∀ a x, ((![v83, v1070] : Fin 2 → IVec S16 32) a x).toNat < S160x240.size a)
theorem k0_idx253_inb : ∀ (i : grid0.Coords) (k0_t1 : Fin (k0_t1_loop i).trips) (v83 : IVec S16 32) (v1070 : IVec S16 32) (k0_hw215 : k0_chk215 i k0_t1 v83 v1070), ∀ (k0_h3 : k0_cond3 i k0_t1 = 1#1), ∀ a x, ((![v83, v1070] : Fin 2 → IVec S16 32) a x).toNat < S160x240.size a := fun i k0_t1 v83 v1070 k0_hw215 k0_h3 => k0_hw215 k0_h3

def k0_chk216 (i : grid0.Coords) (k0_t1 : Fin (k0_t1_loop i).trips) (v83 : IVec S16 32) (v1047 : IVec S16 32) : Prop :=
  (∀ (k0_h3 : k0_cond3 i k0_t1 = 1#1), ∀ a x, ((![v1047] : Fin 1 → IVec S16 32) a x).toNat < S48.size a) ∧
  (∀ (k0_h3 : k0_cond3 i k0_t1 = 1#1), ∀ a x, ((![v83, v1047] : Fin 2 → IVec S16 32) a x).toNat < S160x48.size a)
theorem k0_idx254_inb : ∀ (i : grid0.Coords) (k0_t1 : Fin (k0_t1_loop i).trips) (v83 : IVec S16 32) (v1047 : IVec S16 32) (k0_hw216 : k0_chk216 i k0_t1 v83 v1047), ∀ (k0_h3 : k0_cond3 i k0_t1 = 1#1), ∀ a x, ((![v1047] : Fin 1 → IVec S16 32) a x).toNat < S48.size a := fun i k0_t1 v83 v1047 k0_hw216 k0_h3 => k0_hw216.1 k0_h3
theorem k0_idx255_inb : ∀ (i : grid0.Coords) (k0_t1 : Fin (k0_t1_loop i).trips) (v83 : IVec S16 32) (v1047 : IVec S16 32) (k0_hw216 : k0_chk216 i k0_t1 v83 v1047), ∀ (k0_h3 : k0_cond3 i k0_t1 = 1#1), ∀ a x, ((![v83, v1047] : Fin 2 → IVec S16 32) a x).toNat < S160x48.size a := fun i k0_t1 v83 v1047 k0_hw216 k0_h3 => k0_hw216.2 k0_h3

def k0_chk217 (i : grid0.Coords) (k0_t1 : Fin (k0_t1_loop i).trips) (v83 : IVec S16 32) (v1074 : IVec S16 32) : Prop :=
  (∀ (k0_h3 : k0_cond3 i k0_t1 = 1#1), ∀ a x, ((![v83, v1074] : Fin 2 → IVec S16 32) a x).toNat < S160x240.size a)
theorem k0_idx256_inb : ∀ (i : grid0.Coords) (k0_t1 : Fin (k0_t1_loop i).trips) (v83 : IVec S16 32) (v1074 : IVec S16 32) (k0_hw217 : k0_chk217 i k0_t1 v83 v1074), ∀ (k0_h3 : k0_cond3 i k0_t1 = 1#1), ∀ a x, ((![v83, v1074] : Fin 2 → IVec S16 32) a x).toNat < S160x240.size a := fun i k0_t1 v83 v1074 k0_hw217 k0_h3 => k0_hw217 k0_h3

def k0_chk218 (i : grid0.Coords) (k0_t1 : Fin (k0_t1_loop i).trips) (v83 : IVec S16 32) (v1088 : IVec S16 32) : Prop :=
  (∀ (k0_h3 : k0_cond3 i k0_t1 = 1#1), ∀ a x, ((![v83, v1088] : Fin 2 → IVec S16 32) a x).toNat < S160x240.size a)
theorem k0_idx257_inb : ∀ (i : grid0.Coords) (k0_t1 : Fin (k0_t1_loop i).trips) (v83 : IVec S16 32) (v1088 : IVec S16 32) (k0_hw218 : k0_chk218 i k0_t1 v83 v1088), ∀ (k0_h3 : k0_cond3 i k0_t1 = 1#1), ∀ a x, ((![v83, v1088] : Fin 2 → IVec S16 32) a x).toNat < S160x240.size a := fun i k0_t1 v83 v1088 k0_hw218 k0_h3 => k0_hw218 k0_h3

def k0_chk219 (i : grid0.Coords) (k0_t1 : Fin (k0_t1_loop i).trips) (v83 : IVec S16 32) (v1092 : IVec S16 32) : Prop :=
  (∀ (k0_h3 : k0_cond3 i k0_t1 = 1#1), ∀ a x, ((![v83, v1092] : Fin 2 → IVec S16 32) a x).toNat < S160x240.size a)
theorem k0_idx258_inb : ∀ (i : grid0.Coords) (k0_t1 : Fin (k0_t1_loop i).trips) (v83 : IVec S16 32) (v1092 : IVec S16 32) (k0_hw219 : k0_chk219 i k0_t1 v83 v1092), ∀ (k0_h3 : k0_cond3 i k0_t1 = 1#1), ∀ a x, ((![v83, v1092] : Fin 2 → IVec S16 32) a x).toNat < S160x240.size a := fun i k0_t1 v83 v1092 k0_hw219 k0_h3 => k0_hw219 k0_h3

def k0_chk220 (i : grid0.Coords) (k0_t1 : Fin (k0_t1_loop i).trips) (v83 : IVec S16 32) (v1096 : IVec S16 32) : Prop :=
  (∀ (k0_h3 : k0_cond3 i k0_t1 = 1#1), ∀ a x, ((![v83, v1096] : Fin 2 → IVec S16 32) a x).toNat < S160x240.size a)
theorem k0_idx259_inb : ∀ (i : grid0.Coords) (k0_t1 : Fin (k0_t1_loop i).trips) (v83 : IVec S16 32) (v1096 : IVec S16 32) (k0_hw220 : k0_chk220 i k0_t1 v83 v1096), ∀ (k0_h3 : k0_cond3 i k0_t1 = 1#1), ∀ a x, ((![v83, v1096] : Fin 2 → IVec S16 32) a x).toNat < S160x240.size a := fun i k0_t1 v83 v1096 k0_hw220 k0_h3 => k0_hw220 k0_h3

def k0_chk221 (i : grid0.Coords) (k0_t1 : Fin (k0_t1_loop i).trips) (v83 : IVec S16 32) (v1100 : IVec S16 32) : Prop :=
  (∀ (k0_h3 : k0_cond3 i k0_t1 = 1#1), ∀ a x, ((![v83, v1100] : Fin 2 → IVec S16 32) a x).toNat < S160x240.size a)
theorem k0_idx260_inb : ∀ (i : grid0.Coords) (k0_t1 : Fin (k0_t1_loop i).trips) (v83 : IVec S16 32) (v1100 : IVec S16 32) (k0_hw221 : k0_chk221 i k0_t1 v83 v1100), ∀ (k0_h3 : k0_cond3 i k0_t1 = 1#1), ∀ a x, ((![v83, v1100] : Fin 2 → IVec S16 32) a x).toNat < S160x240.size a := fun i k0_t1 v83 v1100 k0_hw221 k0_h3 => k0_hw221 k0_h3

def k0_chk222 (i : grid0.Coords) (k0_t1 : Fin (k0_t1_loop i).trips) (v83 : IVec S16 32) (v1104 : IVec S16 32) : Prop :=
  (∀ (k0_h3 : k0_cond3 i k0_t1 = 1#1), ∀ a x, ((![v83, v1104] : Fin 2 → IVec S16 32) a x).toNat < S160x240.size a)
theorem k0_idx261_inb : ∀ (i : grid0.Coords) (k0_t1 : Fin (k0_t1_loop i).trips) (v83 : IVec S16 32) (v1104 : IVec S16 32) (k0_hw222 : k0_chk222 i k0_t1 v83 v1104), ∀ (k0_h3 : k0_cond3 i k0_t1 = 1#1), ∀ a x, ((![v83, v1104] : Fin 2 → IVec S16 32) a x).toNat < S160x240.size a := fun i k0_t1 v83 v1104 k0_hw222 k0_h3 => k0_hw222 k0_h3

def k0_chk223 (i : grid0.Coords) (k0_t1 : Fin (k0_t1_loop i).trips) (v83 : IVec S16 32) (v1108 : IVec S16 32) : Prop :=
  (∀ (k0_h3 : k0_cond3 i k0_t1 = 1#1), ∀ a x, ((![v83, v1108] : Fin 2 → IVec S16 32) a x).toNat < S160x240.size a)
theorem k0_idx262_inb : ∀ (i : grid0.Coords) (k0_t1 : Fin (k0_t1_loop i).trips) (v83 : IVec S16 32) (v1108 : IVec S16 32) (k0_hw223 : k0_chk223 i k0_t1 v83 v1108), ∀ (k0_h3 : k0_cond3 i k0_t1 = 1#1), ∀ a x, ((![v83, v1108] : Fin 2 → IVec S16 32) a x).toNat < S160x240.size a := fun i k0_t1 v83 v1108 k0_hw223 k0_h3 => k0_hw223 k0_h3

def k0_chk224 (i : grid0.Coords) (k0_t1 : Fin (k0_t1_loop i).trips) (v83 : IVec S16 32) (v1085 : IVec S16 32) : Prop :=
  (∀ (k0_h3 : k0_cond3 i k0_t1 = 1#1), ∀ a x, ((![v1085] : Fin 1 → IVec S16 32) a x).toNat < S48.size a) ∧
  (∀ (k0_h3 : k0_cond3 i k0_t1 = 1#1), ∀ a x, ((![v83, v1085] : Fin 2 → IVec S16 32) a x).toNat < S160x48.size a)
theorem k0_idx263_inb : ∀ (i : grid0.Coords) (k0_t1 : Fin (k0_t1_loop i).trips) (v83 : IVec S16 32) (v1085 : IVec S16 32) (k0_hw224 : k0_chk224 i k0_t1 v83 v1085), ∀ (k0_h3 : k0_cond3 i k0_t1 = 1#1), ∀ a x, ((![v1085] : Fin 1 → IVec S16 32) a x).toNat < S48.size a := fun i k0_t1 v83 v1085 k0_hw224 k0_h3 => k0_hw224.1 k0_h3
theorem k0_idx264_inb : ∀ (i : grid0.Coords) (k0_t1 : Fin (k0_t1_loop i).trips) (v83 : IVec S16 32) (v1085 : IVec S16 32) (k0_hw224 : k0_chk224 i k0_t1 v83 v1085), ∀ (k0_h3 : k0_cond3 i k0_t1 = 1#1), ∀ a x, ((![v83, v1085] : Fin 2 → IVec S16 32) a x).toNat < S160x48.size a := fun i k0_t1 v83 v1085 k0_hw224 k0_h3 => k0_hw224.2 k0_h3

def k0_chk225 (i : grid0.Coords) (k0_t1 : Fin (k0_t1_loop i).trips) (v83 : IVec S16 32) (v1112 : IVec S16 32) : Prop :=
  (∀ (k0_h3 : k0_cond3 i k0_t1 = 1#1), ∀ a x, ((![v83, v1112] : Fin 2 → IVec S16 32) a x).toNat < S160x240.size a)
theorem k0_idx265_inb : ∀ (i : grid0.Coords) (k0_t1 : Fin (k0_t1_loop i).trips) (v83 : IVec S16 32) (v1112 : IVec S16 32) (k0_hw225 : k0_chk225 i k0_t1 v83 v1112), ∀ (k0_h3 : k0_cond3 i k0_t1 = 1#1), ∀ a x, ((![v83, v1112] : Fin 2 → IVec S16 32) a x).toNat < S160x240.size a := fun i k0_t1 v83 v1112 k0_hw225 k0_h3 => k0_hw225 k0_h3

def k0_chk226 (i : grid0.Coords) (k0_t1 : Fin (k0_t1_loop i).trips) (v83 : IVec S16 32) (v1126 : IVec S16 32) : Prop :=
  (∀ (k0_h3 : k0_cond3 i k0_t1 = 1#1), ∀ a x, ((![v83, v1126] : Fin 2 → IVec S16 32) a x).toNat < S160x240.size a)
theorem k0_idx266_inb : ∀ (i : grid0.Coords) (k0_t1 : Fin (k0_t1_loop i).trips) (v83 : IVec S16 32) (v1126 : IVec S16 32) (k0_hw226 : k0_chk226 i k0_t1 v83 v1126), ∀ (k0_h3 : k0_cond3 i k0_t1 = 1#1), ∀ a x, ((![v83, v1126] : Fin 2 → IVec S16 32) a x).toNat < S160x240.size a := fun i k0_t1 v83 v1126 k0_hw226 k0_h3 => k0_hw226 k0_h3

def k0_chk227 (i : grid0.Coords) (k0_t1 : Fin (k0_t1_loop i).trips) (v83 : IVec S16 32) (v1130 : IVec S16 32) : Prop :=
  (∀ (k0_h3 : k0_cond3 i k0_t1 = 1#1), ∀ a x, ((![v83, v1130] : Fin 2 → IVec S16 32) a x).toNat < S160x240.size a)
theorem k0_idx267_inb : ∀ (i : grid0.Coords) (k0_t1 : Fin (k0_t1_loop i).trips) (v83 : IVec S16 32) (v1130 : IVec S16 32) (k0_hw227 : k0_chk227 i k0_t1 v83 v1130), ∀ (k0_h3 : k0_cond3 i k0_t1 = 1#1), ∀ a x, ((![v83, v1130] : Fin 2 → IVec S16 32) a x).toNat < S160x240.size a := fun i k0_t1 v83 v1130 k0_hw227 k0_h3 => k0_hw227 k0_h3

def k0_chk228 (i : grid0.Coords) (k0_t1 : Fin (k0_t1_loop i).trips) (v83 : IVec S16 32) (v1134 : IVec S16 32) : Prop :=
  (∀ (k0_h3 : k0_cond3 i k0_t1 = 1#1), ∀ a x, ((![v83, v1134] : Fin 2 → IVec S16 32) a x).toNat < S160x240.size a)
theorem k0_idx268_inb : ∀ (i : grid0.Coords) (k0_t1 : Fin (k0_t1_loop i).trips) (v83 : IVec S16 32) (v1134 : IVec S16 32) (k0_hw228 : k0_chk228 i k0_t1 v83 v1134), ∀ (k0_h3 : k0_cond3 i k0_t1 = 1#1), ∀ a x, ((![v83, v1134] : Fin 2 → IVec S16 32) a x).toNat < S160x240.size a := fun i k0_t1 v83 v1134 k0_hw228 k0_h3 => k0_hw228 k0_h3

def k0_chk229 (i : grid0.Coords) (k0_t1 : Fin (k0_t1_loop i).trips) (v83 : IVec S16 32) (v1138 : IVec S16 32) : Prop :=
  (∀ (k0_h3 : k0_cond3 i k0_t1 = 1#1), ∀ a x, ((![v83, v1138] : Fin 2 → IVec S16 32) a x).toNat < S160x240.size a)
theorem k0_idx269_inb : ∀ (i : grid0.Coords) (k0_t1 : Fin (k0_t1_loop i).trips) (v83 : IVec S16 32) (v1138 : IVec S16 32) (k0_hw229 : k0_chk229 i k0_t1 v83 v1138), ∀ (k0_h3 : k0_cond3 i k0_t1 = 1#1), ∀ a x, ((![v83, v1138] : Fin 2 → IVec S16 32) a x).toNat < S160x240.size a := fun i k0_t1 v83 v1138 k0_hw229 k0_h3 => k0_hw229 k0_h3

def k0_chk230 (i : grid0.Coords) (k0_t1 : Fin (k0_t1_loop i).trips) (v83 : IVec S16 32) (v1142 : IVec S16 32) : Prop :=
  (∀ (k0_h3 : k0_cond3 i k0_t1 = 1#1), ∀ a x, ((![v83, v1142] : Fin 2 → IVec S16 32) a x).toNat < S160x240.size a)
theorem k0_idx270_inb : ∀ (i : grid0.Coords) (k0_t1 : Fin (k0_t1_loop i).trips) (v83 : IVec S16 32) (v1142 : IVec S16 32) (k0_hw230 : k0_chk230 i k0_t1 v83 v1142), ∀ (k0_h3 : k0_cond3 i k0_t1 = 1#1), ∀ a x, ((![v83, v1142] : Fin 2 → IVec S16 32) a x).toNat < S160x240.size a := fun i k0_t1 v83 v1142 k0_hw230 k0_h3 => k0_hw230 k0_h3

def k0_chk231 (i : grid0.Coords) (k0_t1 : Fin (k0_t1_loop i).trips) (v83 : IVec S16 32) (v1146 : IVec S16 32) : Prop :=
  (∀ (k0_h3 : k0_cond3 i k0_t1 = 1#1), ∀ a x, ((![v83, v1146] : Fin 2 → IVec S16 32) a x).toNat < S160x240.size a)
theorem k0_idx271_inb : ∀ (i : grid0.Coords) (k0_t1 : Fin (k0_t1_loop i).trips) (v83 : IVec S16 32) (v1146 : IVec S16 32) (k0_hw231 : k0_chk231 i k0_t1 v83 v1146), ∀ (k0_h3 : k0_cond3 i k0_t1 = 1#1), ∀ a x, ((![v83, v1146] : Fin 2 → IVec S16 32) a x).toNat < S160x240.size a := fun i k0_t1 v83 v1146 k0_hw231 k0_h3 => k0_hw231 k0_h3

def k0_chk232 (i : grid0.Coords) (k0_t1 : Fin (k0_t1_loop i).trips) (v83 : IVec S16 32) (v1123 : IVec S16 32) : Prop :=
  (∀ (k0_h3 : k0_cond3 i k0_t1 = 1#1), ∀ a x, ((![v1123] : Fin 1 → IVec S16 32) a x).toNat < S48.size a) ∧
  (∀ (k0_h3 : k0_cond3 i k0_t1 = 1#1), ∀ a x, ((![v83, v1123] : Fin 2 → IVec S16 32) a x).toNat < S160x48.size a)
theorem k0_idx272_inb : ∀ (i : grid0.Coords) (k0_t1 : Fin (k0_t1_loop i).trips) (v83 : IVec S16 32) (v1123 : IVec S16 32) (k0_hw232 : k0_chk232 i k0_t1 v83 v1123), ∀ (k0_h3 : k0_cond3 i k0_t1 = 1#1), ∀ a x, ((![v1123] : Fin 1 → IVec S16 32) a x).toNat < S48.size a := fun i k0_t1 v83 v1123 k0_hw232 k0_h3 => k0_hw232.1 k0_h3
theorem k0_idx273_inb : ∀ (i : grid0.Coords) (k0_t1 : Fin (k0_t1_loop i).trips) (v83 : IVec S16 32) (v1123 : IVec S16 32) (k0_hw232 : k0_chk232 i k0_t1 v83 v1123), ∀ (k0_h3 : k0_cond3 i k0_t1 = 1#1), ∀ a x, ((![v83, v1123] : Fin 2 → IVec S16 32) a x).toNat < S160x48.size a := fun i k0_t1 v83 v1123 k0_hw232 k0_h3 => k0_hw232.2 k0_h3

def k0_chk233 (i : grid0.Coords) (k0_t1 : Fin (k0_t1_loop i).trips) (v83 : IVec S16 32) (v1150 : IVec S16 32) : Prop :=
  (∀ (k0_h3 : k0_cond3 i k0_t1 = 1#1), ∀ a x, ((![v83, v1150] : Fin 2 → IVec S16 32) a x).toNat < S160x240.size a)
theorem k0_idx274_inb : ∀ (i : grid0.Coords) (k0_t1 : Fin (k0_t1_loop i).trips) (v83 : IVec S16 32) (v1150 : IVec S16 32) (k0_hw233 : k0_chk233 i k0_t1 v83 v1150), ∀ (k0_h3 : k0_cond3 i k0_t1 = 1#1), ∀ a x, ((![v83, v1150] : Fin 2 → IVec S16 32) a x).toNat < S160x240.size a := fun i k0_t1 v83 v1150 k0_hw233 k0_h3 => k0_hw233 k0_h3

def k0_chk234 (i : grid0.Coords) (k0_t1 : Fin (k0_t1_loop i).trips) (v83 : IVec S16 32) (v1164 : IVec S16 32) : Prop :=
  (∀ (k0_h3 : k0_cond3 i k0_t1 = 1#1), ∀ a x, ((![v83, v1164] : Fin 2 → IVec S16 32) a x).toNat < S160x240.size a)
theorem k0_idx275_inb : ∀ (i : grid0.Coords) (k0_t1 : Fin (k0_t1_loop i).trips) (v83 : IVec S16 32) (v1164 : IVec S16 32) (k0_hw234 : k0_chk234 i k0_t1 v83 v1164), ∀ (k0_h3 : k0_cond3 i k0_t1 = 1#1), ∀ a x, ((![v83, v1164] : Fin 2 → IVec S16 32) a x).toNat < S160x240.size a := fun i k0_t1 v83 v1164 k0_hw234 k0_h3 => k0_hw234 k0_h3

def k0_chk235 (i : grid0.Coords) (k0_t1 : Fin (k0_t1_loop i).trips) (v83 : IVec S16 32) (v1168 : IVec S16 32) : Prop :=
  (∀ (k0_h3 : k0_cond3 i k0_t1 = 1#1), ∀ a x, ((![v83, v1168] : Fin 2 → IVec S16 32) a x).toNat < S160x240.size a)
theorem k0_idx276_inb : ∀ (i : grid0.Coords) (k0_t1 : Fin (k0_t1_loop i).trips) (v83 : IVec S16 32) (v1168 : IVec S16 32) (k0_hw235 : k0_chk235 i k0_t1 v83 v1168), ∀ (k0_h3 : k0_cond3 i k0_t1 = 1#1), ∀ a x, ((![v83, v1168] : Fin 2 → IVec S16 32) a x).toNat < S160x240.size a := fun i k0_t1 v83 v1168 k0_hw235 k0_h3 => k0_hw235 k0_h3

def k0_chk236 (i : grid0.Coords) (k0_t1 : Fin (k0_t1_loop i).trips) (v83 : IVec S16 32) (v1172 : IVec S16 32) : Prop :=
  (∀ (k0_h3 : k0_cond3 i k0_t1 = 1#1), ∀ a x, ((![v83, v1172] : Fin 2 → IVec S16 32) a x).toNat < S160x240.size a)
theorem k0_idx277_inb : ∀ (i : grid0.Coords) (k0_t1 : Fin (k0_t1_loop i).trips) (v83 : IVec S16 32) (v1172 : IVec S16 32) (k0_hw236 : k0_chk236 i k0_t1 v83 v1172), ∀ (k0_h3 : k0_cond3 i k0_t1 = 1#1), ∀ a x, ((![v83, v1172] : Fin 2 → IVec S16 32) a x).toNat < S160x240.size a := fun i k0_t1 v83 v1172 k0_hw236 k0_h3 => k0_hw236 k0_h3

def k0_chk237 (i : grid0.Coords) (k0_t1 : Fin (k0_t1_loop i).trips) (v83 : IVec S16 32) (v1176 : IVec S16 32) : Prop :=
  (∀ (k0_h3 : k0_cond3 i k0_t1 = 1#1), ∀ a x, ((![v83, v1176] : Fin 2 → IVec S16 32) a x).toNat < S160x240.size a)
theorem k0_idx278_inb : ∀ (i : grid0.Coords) (k0_t1 : Fin (k0_t1_loop i).trips) (v83 : IVec S16 32) (v1176 : IVec S16 32) (k0_hw237 : k0_chk237 i k0_t1 v83 v1176), ∀ (k0_h3 : k0_cond3 i k0_t1 = 1#1), ∀ a x, ((![v83, v1176] : Fin 2 → IVec S16 32) a x).toNat < S160x240.size a := fun i k0_t1 v83 v1176 k0_hw237 k0_h3 => k0_hw237 k0_h3

def k0_chk238 (i : grid0.Coords) (k0_t1 : Fin (k0_t1_loop i).trips) (v83 : IVec S16 32) (v1180 : IVec S16 32) : Prop :=
  (∀ (k0_h3 : k0_cond3 i k0_t1 = 1#1), ∀ a x, ((![v83, v1180] : Fin 2 → IVec S16 32) a x).toNat < S160x240.size a)
theorem k0_idx279_inb : ∀ (i : grid0.Coords) (k0_t1 : Fin (k0_t1_loop i).trips) (v83 : IVec S16 32) (v1180 : IVec S16 32) (k0_hw238 : k0_chk238 i k0_t1 v83 v1180), ∀ (k0_h3 : k0_cond3 i k0_t1 = 1#1), ∀ a x, ((![v83, v1180] : Fin 2 → IVec S16 32) a x).toNat < S160x240.size a := fun i k0_t1 v83 v1180 k0_hw238 k0_h3 => k0_hw238 k0_h3

def k0_chk239 (i : grid0.Coords) (k0_t1 : Fin (k0_t1_loop i).trips) (v83 : IVec S16 32) (v1184 : IVec S16 32) : Prop :=
  (∀ (k0_h3 : k0_cond3 i k0_t1 = 1#1), ∀ a x, ((![v83, v1184] : Fin 2 → IVec S16 32) a x).toNat < S160x240.size a)
theorem k0_idx280_inb : ∀ (i : grid0.Coords) (k0_t1 : Fin (k0_t1_loop i).trips) (v83 : IVec S16 32) (v1184 : IVec S16 32) (k0_hw239 : k0_chk239 i k0_t1 v83 v1184), ∀ (k0_h3 : k0_cond3 i k0_t1 = 1#1), ∀ a x, ((![v83, v1184] : Fin 2 → IVec S16 32) a x).toNat < S160x240.size a := fun i k0_t1 v83 v1184 k0_hw239 k0_h3 => k0_hw239 k0_h3

def k0_chk240 (i : grid0.Coords) (k0_t1 : Fin (k0_t1_loop i).trips) (v83 : IVec S16 32) (v1161 : IVec S16 32) : Prop :=
  (∀ (k0_h3 : k0_cond3 i k0_t1 = 1#1), ∀ a x, ((![v1161] : Fin 1 → IVec S16 32) a x).toNat < S48.size a) ∧
  (∀ (k0_h3 : k0_cond3 i k0_t1 = 1#1), ∀ a x, ((![v83, v1161] : Fin 2 → IVec S16 32) a x).toNat < S160x48.size a)
theorem k0_idx281_inb : ∀ (i : grid0.Coords) (k0_t1 : Fin (k0_t1_loop i).trips) (v83 : IVec S16 32) (v1161 : IVec S16 32) (k0_hw240 : k0_chk240 i k0_t1 v83 v1161), ∀ (k0_h3 : k0_cond3 i k0_t1 = 1#1), ∀ a x, ((![v1161] : Fin 1 → IVec S16 32) a x).toNat < S48.size a := fun i k0_t1 v83 v1161 k0_hw240 k0_h3 => k0_hw240.1 k0_h3
theorem k0_idx282_inb : ∀ (i : grid0.Coords) (k0_t1 : Fin (k0_t1_loop i).trips) (v83 : IVec S16 32) (v1161 : IVec S16 32) (k0_hw240 : k0_chk240 i k0_t1 v83 v1161), ∀ (k0_h3 : k0_cond3 i k0_t1 = 1#1), ∀ a x, ((![v83, v1161] : Fin 2 → IVec S16 32) a x).toNat < S160x48.size a := fun i k0_t1 v83 v1161 k0_hw240 k0_h3 => k0_hw240.2 k0_h3

def k0_chk241 (i : grid0.Coords) (k0_t1 : Fin (k0_t1_loop i).trips) (v83 : IVec S16 32) (v1188 : IVec S16 32) : Prop :=
  (∀ (k0_h3 : k0_cond3 i k0_t1 = 1#1), ∀ a x, ((![v83, v1188] : Fin 2 → IVec S16 32) a x).toNat < S160x240.size a)
theorem k0_idx283_inb : ∀ (i : grid0.Coords) (k0_t1 : Fin (k0_t1_loop i).trips) (v83 : IVec S16 32) (v1188 : IVec S16 32) (k0_hw241 : k0_chk241 i k0_t1 v83 v1188), ∀ (k0_h3 : k0_cond3 i k0_t1 = 1#1), ∀ a x, ((![v83, v1188] : Fin 2 → IVec S16 32) a x).toNat < S160x240.size a := fun i k0_t1 v83 v1188 k0_hw241 k0_h3 => k0_hw241 k0_h3

def k0_chk242 (i : grid0.Coords) (k0_t1 : Fin (k0_t1_loop i).trips) (v83 : IVec S16 32) (v1202 : IVec S16 32) : Prop :=
  (∀ (k0_h3 : k0_cond3 i k0_t1 = 1#1), ∀ a x, ((![v83, v1202] : Fin 2 → IVec S16 32) a x).toNat < S160x240.size a)
theorem k0_idx284_inb : ∀ (i : grid0.Coords) (k0_t1 : Fin (k0_t1_loop i).trips) (v83 : IVec S16 32) (v1202 : IVec S16 32) (k0_hw242 : k0_chk242 i k0_t1 v83 v1202), ∀ (k0_h3 : k0_cond3 i k0_t1 = 1#1), ∀ a x, ((![v83, v1202] : Fin 2 → IVec S16 32) a x).toNat < S160x240.size a := fun i k0_t1 v83 v1202 k0_hw242 k0_h3 => k0_hw242 k0_h3

def k0_chk243 (i : grid0.Coords) (k0_t1 : Fin (k0_t1_loop i).trips) (v83 : IVec S16 32) (v1206 : IVec S16 32) : Prop :=
  (∀ (k0_h3 : k0_cond3 i k0_t1 = 1#1), ∀ a x, ((![v83, v1206] : Fin 2 → IVec S16 32) a x).toNat < S160x240.size a)
theorem k0_idx285_inb : ∀ (i : grid0.Coords) (k0_t1 : Fin (k0_t1_loop i).trips) (v83 : IVec S16 32) (v1206 : IVec S16 32) (k0_hw243 : k0_chk243 i k0_t1 v83 v1206), ∀ (k0_h3 : k0_cond3 i k0_t1 = 1#1), ∀ a x, ((![v83, v1206] : Fin 2 → IVec S16 32) a x).toNat < S160x240.size a := fun i k0_t1 v83 v1206 k0_hw243 k0_h3 => k0_hw243 k0_h3

def k0_chk244 (i : grid0.Coords) (k0_t1 : Fin (k0_t1_loop i).trips) (v83 : IVec S16 32) (v1210 : IVec S16 32) : Prop :=
  (∀ (k0_h3 : k0_cond3 i k0_t1 = 1#1), ∀ a x, ((![v83, v1210] : Fin 2 → IVec S16 32) a x).toNat < S160x240.size a)
theorem k0_idx286_inb : ∀ (i : grid0.Coords) (k0_t1 : Fin (k0_t1_loop i).trips) (v83 : IVec S16 32) (v1210 : IVec S16 32) (k0_hw244 : k0_chk244 i k0_t1 v83 v1210), ∀ (k0_h3 : k0_cond3 i k0_t1 = 1#1), ∀ a x, ((![v83, v1210] : Fin 2 → IVec S16 32) a x).toNat < S160x240.size a := fun i k0_t1 v83 v1210 k0_hw244 k0_h3 => k0_hw244 k0_h3

def k0_chk245 (i : grid0.Coords) (k0_t1 : Fin (k0_t1_loop i).trips) (v83 : IVec S16 32) (v1214 : IVec S16 32) : Prop :=
  (∀ (k0_h3 : k0_cond3 i k0_t1 = 1#1), ∀ a x, ((![v83, v1214] : Fin 2 → IVec S16 32) a x).toNat < S160x240.size a)
theorem k0_idx287_inb : ∀ (i : grid0.Coords) (k0_t1 : Fin (k0_t1_loop i).trips) (v83 : IVec S16 32) (v1214 : IVec S16 32) (k0_hw245 : k0_chk245 i k0_t1 v83 v1214), ∀ (k0_h3 : k0_cond3 i k0_t1 = 1#1), ∀ a x, ((![v83, v1214] : Fin 2 → IVec S16 32) a x).toNat < S160x240.size a := fun i k0_t1 v83 v1214 k0_hw245 k0_h3 => k0_hw245 k0_h3

def k0_chk246 (i : grid0.Coords) (k0_t1 : Fin (k0_t1_loop i).trips) (v83 : IVec S16 32) (v1218 : IVec S16 32) : Prop :=
  (∀ (k0_h3 : k0_cond3 i k0_t1 = 1#1), ∀ a x, ((![v83, v1218] : Fin 2 → IVec S16 32) a x).toNat < S160x240.size a)
theorem k0_idx288_inb : ∀ (i : grid0.Coords) (k0_t1 : Fin (k0_t1_loop i).trips) (v83 : IVec S16 32) (v1218 : IVec S16 32) (k0_hw246 : k0_chk246 i k0_t1 v83 v1218), ∀ (k0_h3 : k0_cond3 i k0_t1 = 1#1), ∀ a x, ((![v83, v1218] : Fin 2 → IVec S16 32) a x).toNat < S160x240.size a := fun i k0_t1 v83 v1218 k0_hw246 k0_h3 => k0_hw246 k0_h3

def k0_chk247 (i : grid0.Coords) (k0_t1 : Fin (k0_t1_loop i).trips) (v83 : IVec S16 32) (v1222 : IVec S16 32) : Prop :=
  (∀ (k0_h3 : k0_cond3 i k0_t1 = 1#1), ∀ a x, ((![v83, v1222] : Fin 2 → IVec S16 32) a x).toNat < S160x240.size a)
theorem k0_idx289_inb : ∀ (i : grid0.Coords) (k0_t1 : Fin (k0_t1_loop i).trips) (v83 : IVec S16 32) (v1222 : IVec S16 32) (k0_hw247 : k0_chk247 i k0_t1 v83 v1222), ∀ (k0_h3 : k0_cond3 i k0_t1 = 1#1), ∀ a x, ((![v83, v1222] : Fin 2 → IVec S16 32) a x).toNat < S160x240.size a := fun i k0_t1 v83 v1222 k0_hw247 k0_h3 => k0_hw247 k0_h3

def k0_chk248 (i : grid0.Coords) (k0_t1 : Fin (k0_t1_loop i).trips) (v83 : IVec S16 32) (v1199 : IVec S16 32) : Prop :=
  (∀ (k0_h3 : k0_cond3 i k0_t1 = 1#1), ∀ a x, ((![v1199] : Fin 1 → IVec S16 32) a x).toNat < S48.size a) ∧
  (∀ (k0_h3 : k0_cond3 i k0_t1 = 1#1), ∀ a x, ((![v83, v1199] : Fin 2 → IVec S16 32) a x).toNat < S160x48.size a)
theorem k0_idx290_inb : ∀ (i : grid0.Coords) (k0_t1 : Fin (k0_t1_loop i).trips) (v83 : IVec S16 32) (v1199 : IVec S16 32) (k0_hw248 : k0_chk248 i k0_t1 v83 v1199), ∀ (k0_h3 : k0_cond3 i k0_t1 = 1#1), ∀ a x, ((![v1199] : Fin 1 → IVec S16 32) a x).toNat < S48.size a := fun i k0_t1 v83 v1199 k0_hw248 k0_h3 => k0_hw248.1 k0_h3
theorem k0_idx291_inb : ∀ (i : grid0.Coords) (k0_t1 : Fin (k0_t1_loop i).trips) (v83 : IVec S16 32) (v1199 : IVec S16 32) (k0_hw248 : k0_chk248 i k0_t1 v83 v1199), ∀ (k0_h3 : k0_cond3 i k0_t1 = 1#1), ∀ a x, ((![v83, v1199] : Fin 2 → IVec S16 32) a x).toNat < S160x48.size a := fun i k0_t1 v83 v1199 k0_hw248 k0_h3 => k0_hw248.2 k0_h3

def k0_chk249 (i : grid0.Coords) (k0_t1 : Fin (k0_t1_loop i).trips) (v83 : IVec S16 32) (v1226 : IVec S16 32) : Prop :=
  (∀ (k0_h3 : k0_cond3 i k0_t1 = 1#1), ∀ a x, ((![v83, v1226] : Fin 2 → IVec S16 32) a x).toNat < S160x240.size a)
theorem k0_idx292_inb : ∀ (i : grid0.Coords) (k0_t1 : Fin (k0_t1_loop i).trips) (v83 : IVec S16 32) (v1226 : IVec S16 32) (k0_hw249 : k0_chk249 i k0_t1 v83 v1226), ∀ (k0_h3 : k0_cond3 i k0_t1 = 1#1), ∀ a x, ((![v83, v1226] : Fin 2 → IVec S16 32) a x).toNat < S160x240.size a := fun i k0_t1 v83 v1226 k0_hw249 k0_h3 => k0_hw249 k0_h3

def k0_chk250 (i : grid0.Coords) (k0_t1 : Fin (k0_t1_loop i).trips) (v83 : IVec S16 32) (v1240 : IVec S16 32) : Prop :=
  (∀ (k0_h3 : k0_cond3 i k0_t1 = 1#1), ∀ a x, ((![v83, v1240] : Fin 2 → IVec S16 32) a x).toNat < S160x240.size a)
theorem k0_idx293_inb : ∀ (i : grid0.Coords) (k0_t1 : Fin (k0_t1_loop i).trips) (v83 : IVec S16 32) (v1240 : IVec S16 32) (k0_hw250 : k0_chk250 i k0_t1 v83 v1240), ∀ (k0_h3 : k0_cond3 i k0_t1 = 1#1), ∀ a x, ((![v83, v1240] : Fin 2 → IVec S16 32) a x).toNat < S160x240.size a := fun i k0_t1 v83 v1240 k0_hw250 k0_h3 => k0_hw250 k0_h3

def k0_chk251 (i : grid0.Coords) (k0_t1 : Fin (k0_t1_loop i).trips) (v83 : IVec S16 32) (v1244 : IVec S16 32) : Prop :=
  (∀ (k0_h3 : k0_cond3 i k0_t1 = 1#1), ∀ a x, ((![v83, v1244] : Fin 2 → IVec S16 32) a x).toNat < S160x240.size a)
theorem k0_idx294_inb : ∀ (i : grid0.Coords) (k0_t1 : Fin (k0_t1_loop i).trips) (v83 : IVec S16 32) (v1244 : IVec S16 32) (k0_hw251 : k0_chk251 i k0_t1 v83 v1244), ∀ (k0_h3 : k0_cond3 i k0_t1 = 1#1), ∀ a x, ((![v83, v1244] : Fin 2 → IVec S16 32) a x).toNat < S160x240.size a := fun i k0_t1 v83 v1244 k0_hw251 k0_h3 => k0_hw251 k0_h3

def k0_chk252 (i : grid0.Coords) (k0_t1 : Fin (k0_t1_loop i).trips) (v83 : IVec S16 32) (v1248 : IVec S16 32) : Prop :=
  (∀ (k0_h3 : k0_cond3 i k0_t1 = 1#1), ∀ a x, ((![v83, v1248] : Fin 2 → IVec S16 32) a x).toNat < S160x240.size a)
theorem k0_idx295_inb : ∀ (i : grid0.Coords) (k0_t1 : Fin (k0_t1_loop i).trips) (v83 : IVec S16 32) (v1248 : IVec S16 32) (k0_hw252 : k0_chk252 i k0_t1 v83 v1248), ∀ (k0_h3 : k0_cond3 i k0_t1 = 1#1), ∀ a x, ((![v83, v1248] : Fin 2 → IVec S16 32) a x).toNat < S160x240.size a := fun i k0_t1 v83 v1248 k0_hw252 k0_h3 => k0_hw252 k0_h3

def k0_chk253 (i : grid0.Coords) (k0_t1 : Fin (k0_t1_loop i).trips) (v83 : IVec S16 32) (v1252 : IVec S16 32) : Prop :=
  (∀ (k0_h3 : k0_cond3 i k0_t1 = 1#1), ∀ a x, ((![v83, v1252] : Fin 2 → IVec S16 32) a x).toNat < S160x240.size a)
theorem k0_idx296_inb : ∀ (i : grid0.Coords) (k0_t1 : Fin (k0_t1_loop i).trips) (v83 : IVec S16 32) (v1252 : IVec S16 32) (k0_hw253 : k0_chk253 i k0_t1 v83 v1252), ∀ (k0_h3 : k0_cond3 i k0_t1 = 1#1), ∀ a x, ((![v83, v1252] : Fin 2 → IVec S16 32) a x).toNat < S160x240.size a := fun i k0_t1 v83 v1252 k0_hw253 k0_h3 => k0_hw253 k0_h3

def k0_chk254 (i : grid0.Coords) (k0_t1 : Fin (k0_t1_loop i).trips) (v83 : IVec S16 32) (v1256 : IVec S16 32) : Prop :=
  (∀ (k0_h3 : k0_cond3 i k0_t1 = 1#1), ∀ a x, ((![v83, v1256] : Fin 2 → IVec S16 32) a x).toNat < S160x240.size a)
theorem k0_idx297_inb : ∀ (i : grid0.Coords) (k0_t1 : Fin (k0_t1_loop i).trips) (v83 : IVec S16 32) (v1256 : IVec S16 32) (k0_hw254 : k0_chk254 i k0_t1 v83 v1256), ∀ (k0_h3 : k0_cond3 i k0_t1 = 1#1), ∀ a x, ((![v83, v1256] : Fin 2 → IVec S16 32) a x).toNat < S160x240.size a := fun i k0_t1 v83 v1256 k0_hw254 k0_h3 => k0_hw254 k0_h3

def k0_chk255 (i : grid0.Coords) (k0_t1 : Fin (k0_t1_loop i).trips) (v83 : IVec S16 32) (v1260 : IVec S16 32) : Prop :=
  (∀ (k0_h3 : k0_cond3 i k0_t1 = 1#1), ∀ a x, ((![v83, v1260] : Fin 2 → IVec S16 32) a x).toNat < S160x240.size a)
theorem k0_idx298_inb : ∀ (i : grid0.Coords) (k0_t1 : Fin (k0_t1_loop i).trips) (v83 : IVec S16 32) (v1260 : IVec S16 32) (k0_hw255 : k0_chk255 i k0_t1 v83 v1260), ∀ (k0_h3 : k0_cond3 i k0_t1 = 1#1), ∀ a x, ((![v83, v1260] : Fin 2 → IVec S16 32) a x).toNat < S160x240.size a := fun i k0_t1 v83 v1260 k0_hw255 k0_h3 => k0_hw255 k0_h3

def k0_chk256 (i : grid0.Coords) (k0_t1 : Fin (k0_t1_loop i).trips) (v83 : IVec S16 32) (v1237 : IVec S16 32) : Prop :=
  (∀ (k0_h3 : k0_cond3 i k0_t1 = 1#1), ∀ a x, ((![v1237] : Fin 1 → IVec S16 32) a x).toNat < S48.size a) ∧
  (∀ (k0_h3 : k0_cond3 i k0_t1 = 1#1), ∀ a x, ((![v83, v1237] : Fin 2 → IVec S16 32) a x).toNat < S160x48.size a)
theorem k0_idx299_inb : ∀ (i : grid0.Coords) (k0_t1 : Fin (k0_t1_loop i).trips) (v83 : IVec S16 32) (v1237 : IVec S16 32) (k0_hw256 : k0_chk256 i k0_t1 v83 v1237), ∀ (k0_h3 : k0_cond3 i k0_t1 = 1#1), ∀ a x, ((![v1237] : Fin 1 → IVec S16 32) a x).toNat < S48.size a := fun i k0_t1 v83 v1237 k0_hw256 k0_h3 => k0_hw256.1 k0_h3
theorem k0_idx300_inb : ∀ (i : grid0.Coords) (k0_t1 : Fin (k0_t1_loop i).trips) (v83 : IVec S16 32) (v1237 : IVec S16 32) (k0_hw256 : k0_chk256 i k0_t1 v83 v1237), ∀ (k0_h3 : k0_cond3 i k0_t1 = 1#1), ∀ a x, ((![v83, v1237] : Fin 2 → IVec S16 32) a x).toNat < S160x48.size a := fun i k0_t1 v83 v1237 k0_hw256 k0_h3 => k0_hw256.2 k0_h3

def k0_chk257 (i : grid0.Coords) (k0_t1 : Fin (k0_t1_loop i).trips) (v83 : IVec S16 32) (v1264 : IVec S16 32) : Prop :=
  (∀ (k0_h3 : k0_cond3 i k0_t1 = 1#1), ∀ a x, ((![v83, v1264] : Fin 2 → IVec S16 32) a x).toNat < S160x240.size a)
theorem k0_idx301_inb : ∀ (i : grid0.Coords) (k0_t1 : Fin (k0_t1_loop i).trips) (v83 : IVec S16 32) (v1264 : IVec S16 32) (k0_hw257 : k0_chk257 i k0_t1 v83 v1264), ∀ (k0_h3 : k0_cond3 i k0_t1 = 1#1), ∀ a x, ((![v83, v1264] : Fin 2 → IVec S16 32) a x).toNat < S160x240.size a := fun i k0_t1 v83 v1264 k0_hw257 k0_h3 => k0_hw257 k0_h3

def k0_chk258 (i : grid0.Coords) (k0_t1 : Fin (k0_t1_loop i).trips) (v83 : IVec S16 32) (v1278 : IVec S16 32) : Prop :=
  (∀ (k0_h3 : k0_cond3 i k0_t1 = 1#1), ∀ a x, ((![v83, v1278] : Fin 2 → IVec S16 32) a x).toNat < S160x240.size a)
theorem k0_idx302_inb : ∀ (i : grid0.Coords) (k0_t1 : Fin (k0_t1_loop i).trips) (v83 : IVec S16 32) (v1278 : IVec S16 32) (k0_hw258 : k0_chk258 i k0_t1 v83 v1278), ∀ (k0_h3 : k0_cond3 i k0_t1 = 1#1), ∀ a x, ((![v83, v1278] : Fin 2 → IVec S16 32) a x).toNat < S160x240.size a := fun i k0_t1 v83 v1278 k0_hw258 k0_h3 => k0_hw258 k0_h3

def k0_chk259 (i : grid0.Coords) (k0_t1 : Fin (k0_t1_loop i).trips) (v83 : IVec S16 32) (v1282 : IVec S16 32) : Prop :=
  (∀ (k0_h3 : k0_cond3 i k0_t1 = 1#1), ∀ a x, ((![v83, v1282] : Fin 2 → IVec S16 32) a x).toNat < S160x240.size a)
theorem k0_idx303_inb : ∀ (i : grid0.Coords) (k0_t1 : Fin (k0_t1_loop i).trips) (v83 : IVec S16 32) (v1282 : IVec S16 32) (k0_hw259 : k0_chk259 i k0_t1 v83 v1282), ∀ (k0_h3 : k0_cond3 i k0_t1 = 1#1), ∀ a x, ((![v83, v1282] : Fin 2 → IVec S16 32) a x).toNat < S160x240.size a := fun i k0_t1 v83 v1282 k0_hw259 k0_h3 => k0_hw259 k0_h3

def k0_chk260 (i : grid0.Coords) (k0_t1 : Fin (k0_t1_loop i).trips) (v83 : IVec S16 32) (v1286 : IVec S16 32) : Prop :=
  (∀ (k0_h3 : k0_cond3 i k0_t1 = 1#1), ∀ a x, ((![v83, v1286] : Fin 2 → IVec S16 32) a x).toNat < S160x240.size a)
theorem k0_idx304_inb : ∀ (i : grid0.Coords) (k0_t1 : Fin (k0_t1_loop i).trips) (v83 : IVec S16 32) (v1286 : IVec S16 32) (k0_hw260 : k0_chk260 i k0_t1 v83 v1286), ∀ (k0_h3 : k0_cond3 i k0_t1 = 1#1), ∀ a x, ((![v83, v1286] : Fin 2 → IVec S16 32) a x).toNat < S160x240.size a := fun i k0_t1 v83 v1286 k0_hw260 k0_h3 => k0_hw260 k0_h3

def k0_chk261 (i : grid0.Coords) (k0_t1 : Fin (k0_t1_loop i).trips) (v83 : IVec S16 32) (v1290 : IVec S16 32) : Prop :=
  (∀ (k0_h3 : k0_cond3 i k0_t1 = 1#1), ∀ a x, ((![v83, v1290] : Fin 2 → IVec S16 32) a x).toNat < S160x240.size a)
theorem k0_idx305_inb : ∀ (i : grid0.Coords) (k0_t1 : Fin (k0_t1_loop i).trips) (v83 : IVec S16 32) (v1290 : IVec S16 32) (k0_hw261 : k0_chk261 i k0_t1 v83 v1290), ∀ (k0_h3 : k0_cond3 i k0_t1 = 1#1), ∀ a x, ((![v83, v1290] : Fin 2 → IVec S16 32) a x).toNat < S160x240.size a := fun i k0_t1 v83 v1290 k0_hw261 k0_h3 => k0_hw261 k0_h3

def k0_chk262 (i : grid0.Coords) (k0_t1 : Fin (k0_t1_loop i).trips) (v83 : IVec S16 32) (v1294 : IVec S16 32) : Prop :=
  (∀ (k0_h3 : k0_cond3 i k0_t1 = 1#1), ∀ a x, ((![v83, v1294] : Fin 2 → IVec S16 32) a x).toNat < S160x240.size a)
theorem k0_idx306_inb : ∀ (i : grid0.Coords) (k0_t1 : Fin (k0_t1_loop i).trips) (v83 : IVec S16 32) (v1294 : IVec S16 32) (k0_hw262 : k0_chk262 i k0_t1 v83 v1294), ∀ (k0_h3 : k0_cond3 i k0_t1 = 1#1), ∀ a x, ((![v83, v1294] : Fin 2 → IVec S16 32) a x).toNat < S160x240.size a := fun i k0_t1 v83 v1294 k0_hw262 k0_h3 => k0_hw262 k0_h3

def k0_chk263 (i : grid0.Coords) (k0_t1 : Fin (k0_t1_loop i).trips) (v83 : IVec S16 32) (v1298 : IVec S16 32) : Prop :=
  (∀ (k0_h3 : k0_cond3 i k0_t1 = 1#1), ∀ a x, ((![v83, v1298] : Fin 2 → IVec S16 32) a x).toNat < S160x240.size a)
theorem k0_idx307_inb : ∀ (i : grid0.Coords) (k0_t1 : Fin (k0_t1_loop i).trips) (v83 : IVec S16 32) (v1298 : IVec S16 32) (k0_hw263 : k0_chk263 i k0_t1 v83 v1298), ∀ (k0_h3 : k0_cond3 i k0_t1 = 1#1), ∀ a x, ((![v83, v1298] : Fin 2 → IVec S16 32) a x).toNat < S160x240.size a := fun i k0_t1 v83 v1298 k0_hw263 k0_h3 => k0_hw263 k0_h3

def k0_chk264 (i : grid0.Coords) (k0_t1 : Fin (k0_t1_loop i).trips) (v83 : IVec S16 32) (v1275 : IVec S16 32) : Prop :=
  (∀ (k0_h3 : k0_cond3 i k0_t1 = 1#1), ∀ a x, ((![v1275] : Fin 1 → IVec S16 32) a x).toNat < S48.size a) ∧
  (∀ (k0_h3 : k0_cond3 i k0_t1 = 1#1), ∀ a x, ((![v83, v1275] : Fin 2 → IVec S16 32) a x).toNat < S160x48.size a)
theorem k0_idx308_inb : ∀ (i : grid0.Coords) (k0_t1 : Fin (k0_t1_loop i).trips) (v83 : IVec S16 32) (v1275 : IVec S16 32) (k0_hw264 : k0_chk264 i k0_t1 v83 v1275), ∀ (k0_h3 : k0_cond3 i k0_t1 = 1#1), ∀ a x, ((![v1275] : Fin 1 → IVec S16 32) a x).toNat < S48.size a := fun i k0_t1 v83 v1275 k0_hw264 k0_h3 => k0_hw264.1 k0_h3
theorem k0_idx309_inb : ∀ (i : grid0.Coords) (k0_t1 : Fin (k0_t1_loop i).trips) (v83 : IVec S16 32) (v1275 : IVec S16 32) (k0_hw264 : k0_chk264 i k0_t1 v83 v1275), ∀ (k0_h3 : k0_cond3 i k0_t1 = 1#1), ∀ a x, ((![v83, v1275] : Fin 2 → IVec S16 32) a x).toNat < S160x48.size a := fun i k0_t1 v83 v1275 k0_hw264 k0_h3 => k0_hw264.2 k0_h3

def k0_chk265 (i : grid0.Coords) (k0_t1 : Fin (k0_t1_loop i).trips) (v83 : IVec S16 32) (v1302 : IVec S16 32) : Prop :=
  (∀ (k0_h3 : k0_cond3 i k0_t1 = 1#1), ∀ a x, ((![v83, v1302] : Fin 2 → IVec S16 32) a x).toNat < S160x240.size a)
theorem k0_idx310_inb : ∀ (i : grid0.Coords) (k0_t1 : Fin (k0_t1_loop i).trips) (v83 : IVec S16 32) (v1302 : IVec S16 32) (k0_hw265 : k0_chk265 i k0_t1 v83 v1302), ∀ (k0_h3 : k0_cond3 i k0_t1 = 1#1), ∀ a x, ((![v83, v1302] : Fin 2 → IVec S16 32) a x).toNat < S160x240.size a := fun i k0_t1 v83 v1302 k0_hw265 k0_h3 => k0_hw265 k0_h3

def k0_chk266 (i : grid0.Coords) (k0_t1 : Fin (k0_t1_loop i).trips) (v83 : IVec S16 32) (v1316 : IVec S16 32) : Prop :=
  (∀ (k0_h3 : k0_cond3 i k0_t1 = 1#1), ∀ a x, ((![v83, v1316] : Fin 2 → IVec S16 32) a x).toNat < S160x240.size a)
theorem k0_idx311_inb : ∀ (i : grid0.Coords) (k0_t1 : Fin (k0_t1_loop i).trips) (v83 : IVec S16 32) (v1316 : IVec S16 32) (k0_hw266 : k0_chk266 i k0_t1 v83 v1316), ∀ (k0_h3 : k0_cond3 i k0_t1 = 1#1), ∀ a x, ((![v83, v1316] : Fin 2 → IVec S16 32) a x).toNat < S160x240.size a := fun i k0_t1 v83 v1316 k0_hw266 k0_h3 => k0_hw266 k0_h3

def k0_chk267 (i : grid0.Coords) (k0_t1 : Fin (k0_t1_loop i).trips) (v83 : IVec S16 32) (v1320 : IVec S16 32) : Prop :=
  (∀ (k0_h3 : k0_cond3 i k0_t1 = 1#1), ∀ a x, ((![v83, v1320] : Fin 2 → IVec S16 32) a x).toNat < S160x240.size a)
theorem k0_idx312_inb : ∀ (i : grid0.Coords) (k0_t1 : Fin (k0_t1_loop i).trips) (v83 : IVec S16 32) (v1320 : IVec S16 32) (k0_hw267 : k0_chk267 i k0_t1 v83 v1320), ∀ (k0_h3 : k0_cond3 i k0_t1 = 1#1), ∀ a x, ((![v83, v1320] : Fin 2 → IVec S16 32) a x).toNat < S160x240.size a := fun i k0_t1 v83 v1320 k0_hw267 k0_h3 => k0_hw267 k0_h3

def k0_chk268 (i : grid0.Coords) (k0_t1 : Fin (k0_t1_loop i).trips) (v83 : IVec S16 32) (v1324 : IVec S16 32) : Prop :=
  (∀ (k0_h3 : k0_cond3 i k0_t1 = 1#1), ∀ a x, ((![v83, v1324] : Fin 2 → IVec S16 32) a x).toNat < S160x240.size a)
theorem k0_idx313_inb : ∀ (i : grid0.Coords) (k0_t1 : Fin (k0_t1_loop i).trips) (v83 : IVec S16 32) (v1324 : IVec S16 32) (k0_hw268 : k0_chk268 i k0_t1 v83 v1324), ∀ (k0_h3 : k0_cond3 i k0_t1 = 1#1), ∀ a x, ((![v83, v1324] : Fin 2 → IVec S16 32) a x).toNat < S160x240.size a := fun i k0_t1 v83 v1324 k0_hw268 k0_h3 => k0_hw268 k0_h3

def k0_chk269 (i : grid0.Coords) (k0_t1 : Fin (k0_t1_loop i).trips) (v83 : IVec S16 32) (v1328 : IVec S16 32) : Prop :=
  (∀ (k0_h3 : k0_cond3 i k0_t1 = 1#1), ∀ a x, ((![v83, v1328] : Fin 2 → IVec S16 32) a x).toNat < S160x240.size a)
theorem k0_idx314_inb : ∀ (i : grid0.Coords) (k0_t1 : Fin (k0_t1_loop i).trips) (v83 : IVec S16 32) (v1328 : IVec S16 32) (k0_hw269 : k0_chk269 i k0_t1 v83 v1328), ∀ (k0_h3 : k0_cond3 i k0_t1 = 1#1), ∀ a x, ((![v83, v1328] : Fin 2 → IVec S16 32) a x).toNat < S160x240.size a := fun i k0_t1 v83 v1328 k0_hw269 k0_h3 => k0_hw269 k0_h3

def k0_chk270 (i : grid0.Coords) (k0_t1 : Fin (k0_t1_loop i).trips) (v83 : IVec S16 32) (v1332 : IVec S16 32) : Prop :=
  (∀ (k0_h3 : k0_cond3 i k0_t1 = 1#1), ∀ a x, ((![v83, v1332] : Fin 2 → IVec S16 32) a x).toNat < S160x240.size a)
theorem k0_idx315_inb : ∀ (i : grid0.Coords) (k0_t1 : Fin (k0_t1_loop i).trips) (v83 : IVec S16 32) (v1332 : IVec S16 32) (k0_hw270 : k0_chk270 i k0_t1 v83 v1332), ∀ (k0_h3 : k0_cond3 i k0_t1 = 1#1), ∀ a x, ((![v83, v1332] : Fin 2 → IVec S16 32) a x).toNat < S160x240.size a := fun i k0_t1 v83 v1332 k0_hw270 k0_h3 => k0_hw270 k0_h3

def k0_chk271 (i : grid0.Coords) (k0_t1 : Fin (k0_t1_loop i).trips) (v83 : IVec S16 32) (v1336 : IVec S16 32) : Prop :=
  (∀ (k0_h3 : k0_cond3 i k0_t1 = 1#1), ∀ a x, ((![v83, v1336] : Fin 2 → IVec S16 32) a x).toNat < S160x240.size a)
theorem k0_idx316_inb : ∀ (i : grid0.Coords) (k0_t1 : Fin (k0_t1_loop i).trips) (v83 : IVec S16 32) (v1336 : IVec S16 32) (k0_hw271 : k0_chk271 i k0_t1 v83 v1336), ∀ (k0_h3 : k0_cond3 i k0_t1 = 1#1), ∀ a x, ((![v83, v1336] : Fin 2 → IVec S16 32) a x).toNat < S160x240.size a := fun i k0_t1 v83 v1336 k0_hw271 k0_h3 => k0_hw271 k0_h3

def k0_chk272 (i : grid0.Coords) (k0_t1 : Fin (k0_t1_loop i).trips) (v83 : IVec S16 32) (v1313 : IVec S16 32) : Prop :=
  (∀ (k0_h3 : k0_cond3 i k0_t1 = 1#1), ∀ a x, ((![v1313] : Fin 1 → IVec S16 32) a x).toNat < S48.size a) ∧
  (∀ (k0_h3 : k0_cond3 i k0_t1 = 1#1), ∀ a x, ((![v83, v1313] : Fin 2 → IVec S16 32) a x).toNat < S160x48.size a)
theorem k0_idx317_inb : ∀ (i : grid0.Coords) (k0_t1 : Fin (k0_t1_loop i).trips) (v83 : IVec S16 32) (v1313 : IVec S16 32) (k0_hw272 : k0_chk272 i k0_t1 v83 v1313), ∀ (k0_h3 : k0_cond3 i k0_t1 = 1#1), ∀ a x, ((![v1313] : Fin 1 → IVec S16 32) a x).toNat < S48.size a := fun i k0_t1 v83 v1313 k0_hw272 k0_h3 => k0_hw272.1 k0_h3
theorem k0_idx318_inb : ∀ (i : grid0.Coords) (k0_t1 : Fin (k0_t1_loop i).trips) (v83 : IVec S16 32) (v1313 : IVec S16 32) (k0_hw272 : k0_chk272 i k0_t1 v83 v1313), ∀ (k0_h3 : k0_cond3 i k0_t1 = 1#1), ∀ a x, ((![v83, v1313] : Fin 2 → IVec S16 32) a x).toNat < S160x48.size a := fun i k0_t1 v83 v1313 k0_hw272 k0_h3 => k0_hw272.2 k0_h3

def k0_chk273 (i : grid0.Coords) (k0_t1 : Fin (k0_t1_loop i).trips) (v83 : IVec S16 32) (v1340 : IVec S16 32) : Prop :=
  (∀ (k0_h3 : k0_cond3 i k0_t1 = 1#1), ∀ a x, ((![v83, v1340] : Fin 2 → IVec S16 32) a x).toNat < S160x240.size a)
theorem k0_idx319_inb : ∀ (i : grid0.Coords) (k0_t1 : Fin (k0_t1_loop i).trips) (v83 : IVec S16 32) (v1340 : IVec S16 32) (k0_hw273 : k0_chk273 i k0_t1 v83 v1340), ∀ (k0_h3 : k0_cond3 i k0_t1 = 1#1), ∀ a x, ((![v83, v1340] : Fin 2 → IVec S16 32) a x).toNat < S160x240.size a := fun i k0_t1 v83 v1340 k0_hw273 k0_h3 => k0_hw273 k0_h3

def k0_chk274 (i : grid0.Coords) (k0_t1 : Fin (k0_t1_loop i).trips) (v83 : IVec S16 32) (v1354 : IVec S16 32) : Prop :=
  (∀ (k0_h3 : k0_cond3 i k0_t1 = 1#1), ∀ a x, ((![v83, v1354] : Fin 2 → IVec S16 32) a x).toNat < S160x240.size a)
theorem k0_idx320_inb : ∀ (i : grid0.Coords) (k0_t1 : Fin (k0_t1_loop i).trips) (v83 : IVec S16 32) (v1354 : IVec S16 32) (k0_hw274 : k0_chk274 i k0_t1 v83 v1354), ∀ (k0_h3 : k0_cond3 i k0_t1 = 1#1), ∀ a x, ((![v83, v1354] : Fin 2 → IVec S16 32) a x).toNat < S160x240.size a := fun i k0_t1 v83 v1354 k0_hw274 k0_h3 => k0_hw274 k0_h3

def k0_chk275 (i : grid0.Coords) (k0_t1 : Fin (k0_t1_loop i).trips) (v83 : IVec S16 32) (v1358 : IVec S16 32) : Prop :=
  (∀ (k0_h3 : k0_cond3 i k0_t1 = 1#1), ∀ a x, ((![v83, v1358] : Fin 2 → IVec S16 32) a x).toNat < S160x240.size a)
theorem k0_idx321_inb : ∀ (i : grid0.Coords) (k0_t1 : Fin (k0_t1_loop i).trips) (v83 : IVec S16 32) (v1358 : IVec S16 32) (k0_hw275 : k0_chk275 i k0_t1 v83 v1358), ∀ (k0_h3 : k0_cond3 i k0_t1 = 1#1), ∀ a x, ((![v83, v1358] : Fin 2 → IVec S16 32) a x).toNat < S160x240.size a := fun i k0_t1 v83 v1358 k0_hw275 k0_h3 => k0_hw275 k0_h3

def k0_chk276 (i : grid0.Coords) (k0_t1 : Fin (k0_t1_loop i).trips) (v83 : IVec S16 32) (v1362 : IVec S16 32) : Prop :=
  (∀ (k0_h3 : k0_cond3 i k0_t1 = 1#1), ∀ a x, ((![v83, v1362] : Fin 2 → IVec S16 32) a x).toNat < S160x240.size a)
theorem k0_idx322_inb : ∀ (i : grid0.Coords) (k0_t1 : Fin (k0_t1_loop i).trips) (v83 : IVec S16 32) (v1362 : IVec S16 32) (k0_hw276 : k0_chk276 i k0_t1 v83 v1362), ∀ (k0_h3 : k0_cond3 i k0_t1 = 1#1), ∀ a x, ((![v83, v1362] : Fin 2 → IVec S16 32) a x).toNat < S160x240.size a := fun i k0_t1 v83 v1362 k0_hw276 k0_h3 => k0_hw276 k0_h3

def k0_chk277 (i : grid0.Coords) (k0_t1 : Fin (k0_t1_loop i).trips) (v83 : IVec S16 32) (v1366 : IVec S16 32) : Prop :=
  (∀ (k0_h3 : k0_cond3 i k0_t1 = 1#1), ∀ a x, ((![v83, v1366] : Fin 2 → IVec S16 32) a x).toNat < S160x240.size a)
theorem k0_idx323_inb : ∀ (i : grid0.Coords) (k0_t1 : Fin (k0_t1_loop i).trips) (v83 : IVec S16 32) (v1366 : IVec S16 32) (k0_hw277 : k0_chk277 i k0_t1 v83 v1366), ∀ (k0_h3 : k0_cond3 i k0_t1 = 1#1), ∀ a x, ((![v83, v1366] : Fin 2 → IVec S16 32) a x).toNat < S160x240.size a := fun i k0_t1 v83 v1366 k0_hw277 k0_h3 => k0_hw277 k0_h3

def k0_chk278 (i : grid0.Coords) (k0_t1 : Fin (k0_t1_loop i).trips) (v83 : IVec S16 32) (v1370 : IVec S16 32) : Prop :=
  (∀ (k0_h3 : k0_cond3 i k0_t1 = 1#1), ∀ a x, ((![v83, v1370] : Fin 2 → IVec S16 32) a x).toNat < S160x240.size a)
theorem k0_idx324_inb : ∀ (i : grid0.Coords) (k0_t1 : Fin (k0_t1_loop i).trips) (v83 : IVec S16 32) (v1370 : IVec S16 32) (k0_hw278 : k0_chk278 i k0_t1 v83 v1370), ∀ (k0_h3 : k0_cond3 i k0_t1 = 1#1), ∀ a x, ((![v83, v1370] : Fin 2 → IVec S16 32) a x).toNat < S160x240.size a := fun i k0_t1 v83 v1370 k0_hw278 k0_h3 => k0_hw278 k0_h3

def k0_chk279 (i : grid0.Coords) (k0_t1 : Fin (k0_t1_loop i).trips) (v83 : IVec S16 32) (v1374 : IVec S16 32) : Prop :=
  (∀ (k0_h3 : k0_cond3 i k0_t1 = 1#1), ∀ a x, ((![v83, v1374] : Fin 2 → IVec S16 32) a x).toNat < S160x240.size a)
theorem k0_idx325_inb : ∀ (i : grid0.Coords) (k0_t1 : Fin (k0_t1_loop i).trips) (v83 : IVec S16 32) (v1374 : IVec S16 32) (k0_hw279 : k0_chk279 i k0_t1 v83 v1374), ∀ (k0_h3 : k0_cond3 i k0_t1 = 1#1), ∀ a x, ((![v83, v1374] : Fin 2 → IVec S16 32) a x).toNat < S160x240.size a := fun i k0_t1 v83 v1374 k0_hw279 k0_h3 => k0_hw279 k0_h3

def k0_chk280 (i : grid0.Coords) (k0_t1 : Fin (k0_t1_loop i).trips) (v83 : IVec S16 32) (v1351 : IVec S16 32) : Prop :=
  (∀ (k0_h3 : k0_cond3 i k0_t1 = 1#1), ∀ a x, ((![v1351] : Fin 1 → IVec S16 32) a x).toNat < S48.size a) ∧
  (∀ (k0_h3 : k0_cond3 i k0_t1 = 1#1), ∀ a x, ((![v83, v1351] : Fin 2 → IVec S16 32) a x).toNat < S160x48.size a)
theorem k0_idx326_inb : ∀ (i : grid0.Coords) (k0_t1 : Fin (k0_t1_loop i).trips) (v83 : IVec S16 32) (v1351 : IVec S16 32) (k0_hw280 : k0_chk280 i k0_t1 v83 v1351), ∀ (k0_h3 : k0_cond3 i k0_t1 = 1#1), ∀ a x, ((![v1351] : Fin 1 → IVec S16 32) a x).toNat < S48.size a := fun i k0_t1 v83 v1351 k0_hw280 k0_h3 => k0_hw280.1 k0_h3
theorem k0_idx327_inb : ∀ (i : grid0.Coords) (k0_t1 : Fin (k0_t1_loop i).trips) (v83 : IVec S16 32) (v1351 : IVec S16 32) (k0_hw280 : k0_chk280 i k0_t1 v83 v1351), ∀ (k0_h3 : k0_cond3 i k0_t1 = 1#1), ∀ a x, ((![v83, v1351] : Fin 2 → IVec S16 32) a x).toNat < S160x48.size a := fun i k0_t1 v83 v1351 k0_hw280 k0_h3 => k0_hw280.2 k0_h3

def k0_chk281 (i : grid0.Coords) (k0_t1 : Fin (k0_t1_loop i).trips) (v83 : IVec S16 32) (v1378 : IVec S16 32) : Prop :=
  (∀ (k0_h3 : k0_cond3 i k0_t1 = 1#1), ∀ a x, ((![v83, v1378] : Fin 2 → IVec S16 32) a x).toNat < S160x240.size a)
theorem k0_idx328_inb : ∀ (i : grid0.Coords) (k0_t1 : Fin (k0_t1_loop i).trips) (v83 : IVec S16 32) (v1378 : IVec S16 32) (k0_hw281 : k0_chk281 i k0_t1 v83 v1378), ∀ (k0_h3 : k0_cond3 i k0_t1 = 1#1), ∀ a x, ((![v83, v1378] : Fin 2 → IVec S16 32) a x).toNat < S160x240.size a := fun i k0_t1 v83 v1378 k0_hw281 k0_h3 => k0_hw281 k0_h3

def k0_chk282 (i : grid0.Coords) (k0_t1 : Fin (k0_t1_loop i).trips) (v83 : IVec S16 32) (v1392 : IVec S16 32) : Prop :=
  (∀ (k0_h3 : k0_cond3 i k0_t1 = 1#1), ∀ a x, ((![v83, v1392] : Fin 2 → IVec S16 32) a x).toNat < S160x240.size a)
theorem k0_idx329_inb : ∀ (i : grid0.Coords) (k0_t1 : Fin (k0_t1_loop i).trips) (v83 : IVec S16 32) (v1392 : IVec S16 32) (k0_hw282 : k0_chk282 i k0_t1 v83 v1392), ∀ (k0_h3 : k0_cond3 i k0_t1 = 1#1), ∀ a x, ((![v83, v1392] : Fin 2 → IVec S16 32) a x).toNat < S160x240.size a := fun i k0_t1 v83 v1392 k0_hw282 k0_h3 => k0_hw282 k0_h3

def k0_chk283 (i : grid0.Coords) (k0_t1 : Fin (k0_t1_loop i).trips) (v83 : IVec S16 32) (v1396 : IVec S16 32) : Prop :=
  (∀ (k0_h3 : k0_cond3 i k0_t1 = 1#1), ∀ a x, ((![v83, v1396] : Fin 2 → IVec S16 32) a x).toNat < S160x240.size a)
theorem k0_idx330_inb : ∀ (i : grid0.Coords) (k0_t1 : Fin (k0_t1_loop i).trips) (v83 : IVec S16 32) (v1396 : IVec S16 32) (k0_hw283 : k0_chk283 i k0_t1 v83 v1396), ∀ (k0_h3 : k0_cond3 i k0_t1 = 1#1), ∀ a x, ((![v83, v1396] : Fin 2 → IVec S16 32) a x).toNat < S160x240.size a := fun i k0_t1 v83 v1396 k0_hw283 k0_h3 => k0_hw283 k0_h3

def k0_chk284 (i : grid0.Coords) (k0_t1 : Fin (k0_t1_loop i).trips) (v83 : IVec S16 32) (v1400 : IVec S16 32) : Prop :=
  (∀ (k0_h3 : k0_cond3 i k0_t1 = 1#1), ∀ a x, ((![v83, v1400] : Fin 2 → IVec S16 32) a x).toNat < S160x240.size a)
theorem k0_idx331_inb : ∀ (i : grid0.Coords) (k0_t1 : Fin (k0_t1_loop i).trips) (v83 : IVec S16 32) (v1400 : IVec S16 32) (k0_hw284 : k0_chk284 i k0_t1 v83 v1400), ∀ (k0_h3 : k0_cond3 i k0_t1 = 1#1), ∀ a x, ((![v83, v1400] : Fin 2 → IVec S16 32) a x).toNat < S160x240.size a := fun i k0_t1 v83 v1400 k0_hw284 k0_h3 => k0_hw284 k0_h3

def k0_chk285 (i : grid0.Coords) (k0_t1 : Fin (k0_t1_loop i).trips) (v83 : IVec S16 32) (v1404 : IVec S16 32) : Prop :=
  (∀ (k0_h3 : k0_cond3 i k0_t1 = 1#1), ∀ a x, ((![v83, v1404] : Fin 2 → IVec S16 32) a x).toNat < S160x240.size a)
theorem k0_idx332_inb : ∀ (i : grid0.Coords) (k0_t1 : Fin (k0_t1_loop i).trips) (v83 : IVec S16 32) (v1404 : IVec S16 32) (k0_hw285 : k0_chk285 i k0_t1 v83 v1404), ∀ (k0_h3 : k0_cond3 i k0_t1 = 1#1), ∀ a x, ((![v83, v1404] : Fin 2 → IVec S16 32) a x).toNat < S160x240.size a := fun i k0_t1 v83 v1404 k0_hw285 k0_h3 => k0_hw285 k0_h3

def k0_chk286 (i : grid0.Coords) (k0_t1 : Fin (k0_t1_loop i).trips) (v83 : IVec S16 32) (v1408 : IVec S16 32) : Prop :=
  (∀ (k0_h3 : k0_cond3 i k0_t1 = 1#1), ∀ a x, ((![v83, v1408] : Fin 2 → IVec S16 32) a x).toNat < S160x240.size a)
theorem k0_idx333_inb : ∀ (i : grid0.Coords) (k0_t1 : Fin (k0_t1_loop i).trips) (v83 : IVec S16 32) (v1408 : IVec S16 32) (k0_hw286 : k0_chk286 i k0_t1 v83 v1408), ∀ (k0_h3 : k0_cond3 i k0_t1 = 1#1), ∀ a x, ((![v83, v1408] : Fin 2 → IVec S16 32) a x).toNat < S160x240.size a := fun i k0_t1 v83 v1408 k0_hw286 k0_h3 => k0_hw286 k0_h3

def k0_chk287 (i : grid0.Coords) (k0_t1 : Fin (k0_t1_loop i).trips) (v83 : IVec S16 32) (v1412 : IVec S16 32) : Prop :=
  (∀ (k0_h3 : k0_cond3 i k0_t1 = 1#1), ∀ a x, ((![v83, v1412] : Fin 2 → IVec S16 32) a x).toNat < S160x240.size a)
theorem k0_idx334_inb : ∀ (i : grid0.Coords) (k0_t1 : Fin (k0_t1_loop i).trips) (v83 : IVec S16 32) (v1412 : IVec S16 32) (k0_hw287 : k0_chk287 i k0_t1 v83 v1412), ∀ (k0_h3 : k0_cond3 i k0_t1 = 1#1), ∀ a x, ((![v83, v1412] : Fin 2 → IVec S16 32) a x).toNat < S160x240.size a := fun i k0_t1 v83 v1412 k0_hw287 k0_h3 => k0_hw287 k0_h3

def k0_chk288 (i : grid0.Coords) (k0_t1 : Fin (k0_t1_loop i).trips) (v83 : IVec S16 32) (v1389 : IVec S16 32) : Prop :=
  (∀ (k0_h3 : k0_cond3 i k0_t1 = 1#1), ∀ a x, ((![v1389] : Fin 1 → IVec S16 32) a x).toNat < S48.size a) ∧
  (∀ (k0_h3 : k0_cond3 i k0_t1 = 1#1), ∀ a x, ((![v83, v1389] : Fin 2 → IVec S16 32) a x).toNat < S160x48.size a)
theorem k0_idx335_inb : ∀ (i : grid0.Coords) (k0_t1 : Fin (k0_t1_loop i).trips) (v83 : IVec S16 32) (v1389 : IVec S16 32) (k0_hw288 : k0_chk288 i k0_t1 v83 v1389), ∀ (k0_h3 : k0_cond3 i k0_t1 = 1#1), ∀ a x, ((![v1389] : Fin 1 → IVec S16 32) a x).toNat < S48.size a := fun i k0_t1 v83 v1389 k0_hw288 k0_h3 => k0_hw288.1 k0_h3
theorem k0_idx336_inb : ∀ (i : grid0.Coords) (k0_t1 : Fin (k0_t1_loop i).trips) (v83 : IVec S16 32) (v1389 : IVec S16 32) (k0_hw288 : k0_chk288 i k0_t1 v83 v1389), ∀ (k0_h3 : k0_cond3 i k0_t1 = 1#1), ∀ a x, ((![v83, v1389] : Fin 2 → IVec S16 32) a x).toNat < S160x48.size a := fun i k0_t1 v83 v1389 k0_hw288 k0_h3 => k0_hw288.2 k0_h3
def k0_off4 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c1_i32_19 : BitVec 32 := 1#32
  let arg12 : BitVec 32 := Scf.iv c0_i32_17 c1_i32_19 k0_t1
  let c2_i32_21 : BitVec 32 := 2#32
  let v49 : BitVec 32 := Scalar.muli arg12 c2_i32_21
  let c0_i32_22 : BitVec 32 := 0#32
  let v50 : BitVec 32 := Scalar.addi v49 c0_i32_22
  let c32_i32_38 : BitVec 32 := 32#32
  let v74 : BitVec 32 := Scalar.muli v50 c32_i32_38
  let v75 : BitVec 32 := Scalar.addi v1 v74
  let c160_i32_39 : BitVec 32 := 160#32
  let v76 : BitVec 32 := Scalar.muli v75 c160_i32_39
  let c0_i32_40 : BitVec 32 := 0#32
  ![v76.toNat, 0]
def k0_cond4 (i : grid0.Coords) (k0_t1 : Fin (k0_t1_loop i).trips) : BitVec 1 :=
  let c0_i32_17 : BitVec 32 := 0#32
  let c1_i32_19 : BitVec 32 := 1#32
  let arg12 : BitVec 32 := Scf.iv c0_i32_17 c1_i32_19 k0_t1
  let c2_i32_26 : BitVec 32 := 2#32
  let v58 : BitVec 32 := Scalar.muli arg12 c2_i32_26
  let c1_i32_27 : BitVec 32 := 1#32
  let v59 : BitVec 32 := Scalar.addi v58 c1_i32_27
  let c1_i32_28 : BitVec 32 := 1#32
  let v60 : BitVec 32 := Scalar.addi v59 c1_i32_28
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v61 : BitVec 1 := Scalar.cmpi .slt v60 v21
  let v62 : BitVec 32 := Scalar.extui v61
  let c0_i32_29 : BitVec 32 := 0#32
  let v63 : BitVec 1 := Scalar.cmpi .ne v62 c0_i32_29
  v63

def k0_off5 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c1_i32_19 : BitVec 32 := 1#32
  let arg12 : BitVec 32 := Scf.iv c0_i32_17 c1_i32_19 k0_t1
  let c2_i32_26 : BitVec 32 := 2#32
  let v58 : BitVec 32 := Scalar.muli arg12 c2_i32_26
  let c1_i32_27 : BitVec 32 := 1#32
  let v59 : BitVec 32 := Scalar.addi v58 c1_i32_27
  let c1_i32_28 : BitVec 32 := 1#32
  let v60 : BitVec 32 := Scalar.addi v59 c1_i32_28
  let c32_i32_31 : BitVec 32 := 32#32
  let v67 : BitVec 32 := Scalar.muli v60 c32_i32_31
  let v68 : BitVec 32 := Scalar.addi v1 v67
  let c160_i32 : BitVec 32 := 160#32
  let v69 : BitVec 32 := Scalar.muli v68 c160_i32
  let c0_i32_32 : BitVec 32 := 0#32
  ![v69.toNat, 0]
def k0_cond5 (i : grid0.Coords) (k0_t1 : Fin (k0_t1_loop i).trips) : BitVec 1 :=
  let c0_i32_17 : BitVec 32 := 0#32
  let c1_i32_19 : BitVec 32 := 1#32
  let arg12 : BitVec 32 := Scf.iv c0_i32_17 c1_i32_19 k0_t1
  let c2_i32_26 : BitVec 32 := 2#32
  let v58 : BitVec 32 := Scalar.muli arg12 c2_i32_26
  let c1_i32_27 : BitVec 32 := 1#32
  let v59 : BitVec 32 := Scalar.addi v58 c1_i32_27
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v64 : BitVec 1 := Scalar.cmpi .slt v59 v21
  let v65 : BitVec 32 := Scalar.extui v64
  let c0_i32_30 : BitVec 32 := 0#32
  let v66 : BitVec 1 := Scalar.cmpi .ne v65 c0_i32_30
  v66

def k0_off6 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c1_i32_19 : BitVec 32 := 1#32
  let arg12 : BitVec 32 := Scf.iv c0_i32_17 c1_i32_19 k0_t1
  let c2_i32_26 : BitVec 32 := 2#32
  let v58 : BitVec 32 := Scalar.muli arg12 c2_i32_26
  let c1_i32_27 : BitVec 32 := 1#32
  let v59 : BitVec 32 := Scalar.addi v58 c1_i32_27
  let c32_i32_31 : BitVec 32 := 32#32
  let v67 : BitVec 32 := Scalar.muli v59 c32_i32_31
  let v68 : BitVec 32 := Scalar.addi v1 v67
  let c160_i32 : BitVec 32 := 160#32
  let v69 : BitVec 32 := Scalar.muli v68 c160_i32
  let c0_i32_32 : BitVec 32 := 0#32
  ![v69.toNat, 0]
@[reducible] def k0_t3_loop : Scf.Loop 32 :=
  let c0_i32_35 : BitVec 32 := 0#32
  let c10_i32 : BitVec 32 := 10#32
  let v73 : BitVec 32 := Scalar.addi c0_i32_35 c10_i32
  let c1_i32_36 : BitVec 32 := 1#32
  ⟨c0_i32_35, v73, c1_i32_36⟩

def k0_chk290 (i : grid0.Coords) (k0_t1 : Fin (k0_t1_loop i).trips) (v83 : IVec S16 32) (v86 : IVec S16 32) : Prop :=
  (∀ (k0_h5 : k0_cond5 i k0_t1 = 1#1), ∀ a x, ((![v83, v86] : Fin 2 → IVec S16 32) a x).toNat < S160x240.size a)
theorem k0_idx338_inb : ∀ (i : grid0.Coords) (k0_t1 : Fin (k0_t1_loop i).trips) (v83 : IVec S16 32) (v86 : IVec S16 32) (k0_hw290 : k0_chk290 i k0_t1 v83 v86), ∀ (k0_h5 : k0_cond5 i k0_t1 = 1#1), ∀ a x, ((![v83, v86] : Fin 2 → IVec S16 32) a x).toNat < S160x240.size a := fun i k0_t1 v83 v86 k0_hw290 k0_h5 => k0_hw290 k0_h5

def k0_chk291 (i : grid0.Coords) (k0_t1 : Fin (k0_t1_loop i).trips) (v83 : IVec S16 32) (v90 : IVec S16 32) : Prop :=
  (∀ (k0_h5 : k0_cond5 i k0_t1 = 1#1), ∀ a x, ((![v83, v90] : Fin 2 → IVec S16 32) a x).toNat < S160x240.size a)
theorem k0_idx339_inb : ∀ (i : grid0.Coords) (k0_t1 : Fin (k0_t1_loop i).trips) (v83 : IVec S16 32) (v90 : IVec S16 32) (k0_hw291 : k0_chk291 i k0_t1 v83 v90), ∀ (k0_h5 : k0_cond5 i k0_t1 = 1#1), ∀ a x, ((![v83, v90] : Fin 2 → IVec S16 32) a x).toNat < S160x240.size a := fun i k0_t1 v83 v90 k0_hw291 k0_h5 => k0_hw291 k0_h5

def k0_chk292 (i : grid0.Coords) (k0_t1 : Fin (k0_t1_loop i).trips) (v72 : IVec S16 32) : Prop :=
  (∀ (k0_h5 : k0_cond5 i k0_t1 = 1#1), ∀ a x, ((![v72] : Fin 1 → IVec S16 32) a x).toNat < S48.size a)
theorem k0_idx340_inb : ∀ (i : grid0.Coords) (k0_t1 : Fin (k0_t1_loop i).trips) (v72 : IVec S16 32) (k0_hw292 : k0_chk292 i k0_t1 v72), ∀ (k0_h5 : k0_cond5 i k0_t1 = 1#1), ∀ a x, ((![v72] : Fin 1 → IVec S16 32) a x).toNat < S48.size a := fun i k0_t1 v72 k0_hw292 k0_h5 => k0_hw292 k0_h5

def k0_chk289 (i : grid0.Coords) (k0_t1 : Fin (k0_t1_loop i).trips) (v72 : IVec S16 32) (v83 : IVec S16 32) : Prop :=
  (∀ (k0_h5 : k0_cond5 i k0_t1 = 1#1), ∀ a x, ((![v83, v72] : Fin 2 → IVec S16 32) a x).toNat < S160x240.size a) ∧
  (∀ (k0_h5 : k0_cond5 i k0_t1 = 1#1), ∀ a x, ((![v83, v72] : Fin 2 → IVec S16 32) a x).toNat < S160x48.size a)
theorem k0_idx337_inb : ∀ (i : grid0.Coords) (k0_t1 : Fin (k0_t1_loop i).trips) (v72 : IVec S16 32) (v83 : IVec S16 32) (k0_hw289 : k0_chk289 i k0_t1 v72 v83), ∀ (k0_h5 : k0_cond5 i k0_t1 = 1#1), ∀ a x, ((![v83, v72] : Fin 2 → IVec S16 32) a x).toNat < S160x240.size a := fun i k0_t1 v72 v83 k0_hw289 k0_h5 => k0_hw289.1 k0_h5
theorem k0_idx341_inb : ∀ (i : grid0.Coords) (k0_t1 : Fin (k0_t1_loop i).trips) (v72 : IVec S16 32) (v83 : IVec S16 32) (k0_hw289 : k0_chk289 i k0_t1 v72 v83), ∀ (k0_h5 : k0_cond5 i k0_t1 = 1#1), ∀ a x, ((![v83, v72] : Fin 2 → IVec S16 32) a x).toNat < S160x48.size a := fun i k0_t1 v72 v83 k0_hw289 k0_h5 => k0_hw289.2 k0_h5

def k0_chk293 (i : grid0.Coords) (k0_t1 : Fin (k0_t1_loop i).trips) (v83 : IVec S16 32) (v94 : IVec S16 32) : Prop :=
  (∀ (k0_h5 : k0_cond5 i k0_t1 = 1#1), ∀ a x, ((![v83, v94] : Fin 2 → IVec S16 32) a x).toNat < S160x240.size a)
theorem k0_idx342_inb : ∀ (i : grid0.Coords) (k0_t1 : Fin (k0_t1_loop i).trips) (v83 : IVec S16 32) (v94 : IVec S16 32) (k0_hw293 : k0_chk293 i k0_t1 v83 v94), ∀ (k0_h5 : k0_cond5 i k0_t1 = 1#1), ∀ a x, ((![v83, v94] : Fin 2 → IVec S16 32) a x).toNat < S160x240.size a := fun i k0_t1 v83 v94 k0_hw293 k0_h5 => k0_hw293 k0_h5

def k0_chk294 (i : grid0.Coords) (k0_t1 : Fin (k0_t1_loop i).trips) (v83 : IVec S16 32) (v104 : IVec S16 32) : Prop :=
  (∀ (k0_h5 : k0_cond5 i k0_t1 = 1#1), ∀ a x, ((![v83, v104] : Fin 2 → IVec S16 32) a x).toNat < S160x240.size a)
theorem k0_idx343_inb : ∀ (i : grid0.Coords) (k0_t1 : Fin (k0_t1_loop i).trips) (v83 : IVec S16 32) (v104 : IVec S16 32) (k0_hw294 : k0_chk294 i k0_t1 v83 v104), ∀ (k0_h5 : k0_cond5 i k0_t1 = 1#1), ∀ a x, ((![v83, v104] : Fin 2 → IVec S16 32) a x).toNat < S160x240.size a := fun i k0_t1 v83 v104 k0_hw294 k0_h5 => k0_hw294 k0_h5

def k0_chk295 (i : grid0.Coords) (k0_t1 : Fin (k0_t1_loop i).trips) (v83 : IVec S16 32) (v108 : IVec S16 32) : Prop :=
  (∀ (k0_h5 : k0_cond5 i k0_t1 = 1#1), ∀ a x, ((![v83, v108] : Fin 2 → IVec S16 32) a x).toNat < S160x240.size a)
theorem k0_idx344_inb : ∀ (i : grid0.Coords) (k0_t1 : Fin (k0_t1_loop i).trips) (v83 : IVec S16 32) (v108 : IVec S16 32) (k0_hw295 : k0_chk295 i k0_t1 v83 v108), ∀ (k0_h5 : k0_cond5 i k0_t1 = 1#1), ∀ a x, ((![v83, v108] : Fin 2 → IVec S16 32) a x).toNat < S160x240.size a := fun i k0_t1 v83 v108 k0_hw295 k0_h5 => k0_hw295 k0_h5

def k0_chk296 (i : grid0.Coords) (k0_t1 : Fin (k0_t1_loop i).trips) (v83 : IVec S16 32) (v101 : IVec S16 32) : Prop :=
  (∀ (k0_h5 : k0_cond5 i k0_t1 = 1#1), ∀ a x, ((![v101] : Fin 1 → IVec S16 32) a x).toNat < S48.size a) ∧
  (∀ (k0_h5 : k0_cond5 i k0_t1 = 1#1), ∀ a x, ((![v83, v101] : Fin 2 → IVec S16 32) a x).toNat < S160x48.size a)
theorem k0_idx345_inb : ∀ (i : grid0.Coords) (k0_t1 : Fin (k0_t1_loop i).trips) (v83 : IVec S16 32) (v101 : IVec S16 32) (k0_hw296 : k0_chk296 i k0_t1 v83 v101), ∀ (k0_h5 : k0_cond5 i k0_t1 = 1#1), ∀ a x, ((![v101] : Fin 1 → IVec S16 32) a x).toNat < S48.size a := fun i k0_t1 v83 v101 k0_hw296 k0_h5 => k0_hw296.1 k0_h5
theorem k0_idx346_inb : ∀ (i : grid0.Coords) (k0_t1 : Fin (k0_t1_loop i).trips) (v83 : IVec S16 32) (v101 : IVec S16 32) (k0_hw296 : k0_chk296 i k0_t1 v83 v101), ∀ (k0_h5 : k0_cond5 i k0_t1 = 1#1), ∀ a x, ((![v83, v101] : Fin 2 → IVec S16 32) a x).toNat < S160x48.size a := fun i k0_t1 v83 v101 k0_hw296 k0_h5 => k0_hw296.2 k0_h5

def k0_chk297 (i : grid0.Coords) (k0_t1 : Fin (k0_t1_loop i).trips) (v83 : IVec S16 32) (v112 : IVec S16 32) : Prop :=
  (∀ (k0_h5 : k0_cond5 i k0_t1 = 1#1), ∀ a x, ((![v83, v112] : Fin 2 → IVec S16 32) a x).toNat < S160x240.size a)
theorem k0_idx347_inb : ∀ (i : grid0.Coords) (k0_t1 : Fin (k0_t1_loop i).trips) (v83 : IVec S16 32) (v112 : IVec S16 32) (k0_hw297 : k0_chk297 i k0_t1 v83 v112), ∀ (k0_h5 : k0_cond5 i k0_t1 = 1#1), ∀ a x, ((![v83, v112] : Fin 2 → IVec S16 32) a x).toNat < S160x240.size a := fun i k0_t1 v83 v112 k0_hw297 k0_h5 => k0_hw297 k0_h5

def k0_chk298 (i : grid0.Coords) (k0_t1 : Fin (k0_t1_loop i).trips) (v83 : IVec S16 32) (v122 : IVec S16 32) : Prop :=
  (∀ (k0_h5 : k0_cond5 i k0_t1 = 1#1), ∀ a x, ((![v83, v122] : Fin 2 → IVec S16 32) a x).toNat < S160x240.size a)
theorem k0_idx348_inb : ∀ (i : grid0.Coords) (k0_t1 : Fin (k0_t1_loop i).trips) (v83 : IVec S16 32) (v122 : IVec S16 32) (k0_hw298 : k0_chk298 i k0_t1 v83 v122), ∀ (k0_h5 : k0_cond5 i k0_t1 = 1#1), ∀ a x, ((![v83, v122] : Fin 2 → IVec S16 32) a x).toNat < S160x240.size a := fun i k0_t1 v83 v122 k0_hw298 k0_h5 => k0_hw298 k0_h5

def k0_chk299 (i : grid0.Coords) (k0_t1 : Fin (k0_t1_loop i).trips) (v83 : IVec S16 32) (v126 : IVec S16 32) : Prop :=
  (∀ (k0_h5 : k0_cond5 i k0_t1 = 1#1), ∀ a x, ((![v83, v126] : Fin 2 → IVec S16 32) a x).toNat < S160x240.size a)
theorem k0_idx349_inb : ∀ (i : grid0.Coords) (k0_t1 : Fin (k0_t1_loop i).trips) (v83 : IVec S16 32) (v126 : IVec S16 32) (k0_hw299 : k0_chk299 i k0_t1 v83 v126), ∀ (k0_h5 : k0_cond5 i k0_t1 = 1#1), ∀ a x, ((![v83, v126] : Fin 2 → IVec S16 32) a x).toNat < S160x240.size a := fun i k0_t1 v83 v126 k0_hw299 k0_h5 => k0_hw299 k0_h5

def k0_chk300 (i : grid0.Coords) (k0_t1 : Fin (k0_t1_loop i).trips) (v83 : IVec S16 32) (v119 : IVec S16 32) : Prop :=
  (∀ (k0_h5 : k0_cond5 i k0_t1 = 1#1), ∀ a x, ((![v119] : Fin 1 → IVec S16 32) a x).toNat < S48.size a) ∧
  (∀ (k0_h5 : k0_cond5 i k0_t1 = 1#1), ∀ a x, ((![v83, v119] : Fin 2 → IVec S16 32) a x).toNat < S160x48.size a)
theorem k0_idx350_inb : ∀ (i : grid0.Coords) (k0_t1 : Fin (k0_t1_loop i).trips) (v83 : IVec S16 32) (v119 : IVec S16 32) (k0_hw300 : k0_chk300 i k0_t1 v83 v119), ∀ (k0_h5 : k0_cond5 i k0_t1 = 1#1), ∀ a x, ((![v119] : Fin 1 → IVec S16 32) a x).toNat < S48.size a := fun i k0_t1 v83 v119 k0_hw300 k0_h5 => k0_hw300.1 k0_h5
theorem k0_idx351_inb : ∀ (i : grid0.Coords) (k0_t1 : Fin (k0_t1_loop i).trips) (v83 : IVec S16 32) (v119 : IVec S16 32) (k0_hw300 : k0_chk300 i k0_t1 v83 v119), ∀ (k0_h5 : k0_cond5 i k0_t1 = 1#1), ∀ a x, ((![v83, v119] : Fin 2 → IVec S16 32) a x).toNat < S160x48.size a := fun i k0_t1 v83 v119 k0_hw300 k0_h5 => k0_hw300.2 k0_h5

def k0_chk301 (i : grid0.Coords) (k0_t1 : Fin (k0_t1_loop i).trips) (v83 : IVec S16 32) (v130 : IVec S16 32) : Prop :=
  (∀ (k0_h5 : k0_cond5 i k0_t1 = 1#1), ∀ a x, ((![v83, v130] : Fin 2 → IVec S16 32) a x).toNat < S160x240.size a)
theorem k0_idx352_inb : ∀ (i : grid0.Coords) (k0_t1 : Fin (k0_t1_loop i).trips) (v83 : IVec S16 32) (v130 : IVec S16 32) (k0_hw301 : k0_chk301 i k0_t1 v83 v130), ∀ (k0_h5 : k0_cond5 i k0_t1 = 1#1), ∀ a x, ((![v83, v130] : Fin 2 → IVec S16 32) a x).toNat < S160x240.size a := fun i k0_t1 v83 v130 k0_hw301 k0_h5 => k0_hw301 k0_h5

def k0_chk302 (i : grid0.Coords) (k0_t1 : Fin (k0_t1_loop i).trips) (v83 : IVec S16 32) (v140 : IVec S16 32) : Prop :=
  (∀ (k0_h5 : k0_cond5 i k0_t1 = 1#1), ∀ a x, ((![v83, v140] : Fin 2 → IVec S16 32) a x).toNat < S160x240.size a)
theorem k0_idx353_inb : ∀ (i : grid0.Coords) (k0_t1 : Fin (k0_t1_loop i).trips) (v83 : IVec S16 32) (v140 : IVec S16 32) (k0_hw302 : k0_chk302 i k0_t1 v83 v140), ∀ (k0_h5 : k0_cond5 i k0_t1 = 1#1), ∀ a x, ((![v83, v140] : Fin 2 → IVec S16 32) a x).toNat < S160x240.size a := fun i k0_t1 v83 v140 k0_hw302 k0_h5 => k0_hw302 k0_h5

def k0_chk303 (i : grid0.Coords) (k0_t1 : Fin (k0_t1_loop i).trips) (v83 : IVec S16 32) (v144 : IVec S16 32) : Prop :=
  (∀ (k0_h5 : k0_cond5 i k0_t1 = 1#1), ∀ a x, ((![v83, v144] : Fin 2 → IVec S16 32) a x).toNat < S160x240.size a)
theorem k0_idx354_inb : ∀ (i : grid0.Coords) (k0_t1 : Fin (k0_t1_loop i).trips) (v83 : IVec S16 32) (v144 : IVec S16 32) (k0_hw303 : k0_chk303 i k0_t1 v83 v144), ∀ (k0_h5 : k0_cond5 i k0_t1 = 1#1), ∀ a x, ((![v83, v144] : Fin 2 → IVec S16 32) a x).toNat < S160x240.size a := fun i k0_t1 v83 v144 k0_hw303 k0_h5 => k0_hw303 k0_h5

def k0_chk304 (i : grid0.Coords) (k0_t1 : Fin (k0_t1_loop i).trips) (v83 : IVec S16 32) (v137 : IVec S16 32) : Prop :=
  (∀ (k0_h5 : k0_cond5 i k0_t1 = 1#1), ∀ a x, ((![v137] : Fin 1 → IVec S16 32) a x).toNat < S48.size a) ∧
  (∀ (k0_h5 : k0_cond5 i k0_t1 = 1#1), ∀ a x, ((![v83, v137] : Fin 2 → IVec S16 32) a x).toNat < S160x48.size a)
theorem k0_idx355_inb : ∀ (i : grid0.Coords) (k0_t1 : Fin (k0_t1_loop i).trips) (v83 : IVec S16 32) (v137 : IVec S16 32) (k0_hw304 : k0_chk304 i k0_t1 v83 v137), ∀ (k0_h5 : k0_cond5 i k0_t1 = 1#1), ∀ a x, ((![v137] : Fin 1 → IVec S16 32) a x).toNat < S48.size a := fun i k0_t1 v83 v137 k0_hw304 k0_h5 => k0_hw304.1 k0_h5
theorem k0_idx356_inb : ∀ (i : grid0.Coords) (k0_t1 : Fin (k0_t1_loop i).trips) (v83 : IVec S16 32) (v137 : IVec S16 32) (k0_hw304 : k0_chk304 i k0_t1 v83 v137), ∀ (k0_h5 : k0_cond5 i k0_t1 = 1#1), ∀ a x, ((![v83, v137] : Fin 2 → IVec S16 32) a x).toNat < S160x48.size a := fun i k0_t1 v83 v137 k0_hw304 k0_h5 => k0_hw304.2 k0_h5

def k0_chk305 (i : grid0.Coords) (k0_t1 : Fin (k0_t1_loop i).trips) (v83 : IVec S16 32) (v148 : IVec S16 32) : Prop :=
  (∀ (k0_h5 : k0_cond5 i k0_t1 = 1#1), ∀ a x, ((![v83, v148] : Fin 2 → IVec S16 32) a x).toNat < S160x240.size a)
theorem k0_idx357_inb : ∀ (i : grid0.Coords) (k0_t1 : Fin (k0_t1_loop i).trips) (v83 : IVec S16 32) (v148 : IVec S16 32) (k0_hw305 : k0_chk305 i k0_t1 v83 v148), ∀ (k0_h5 : k0_cond5 i k0_t1 = 1#1), ∀ a x, ((![v83, v148] : Fin 2 → IVec S16 32) a x).toNat < S160x240.size a := fun i k0_t1 v83 v148 k0_hw305 k0_h5 => k0_hw305 k0_h5

def k0_chk306 (i : grid0.Coords) (k0_t1 : Fin (k0_t1_loop i).trips) (v83 : IVec S16 32) (v158 : IVec S16 32) : Prop :=
  (∀ (k0_h5 : k0_cond5 i k0_t1 = 1#1), ∀ a x, ((![v83, v158] : Fin 2 → IVec S16 32) a x).toNat < S160x240.size a)
theorem k0_idx358_inb : ∀ (i : grid0.Coords) (k0_t1 : Fin (k0_t1_loop i).trips) (v83 : IVec S16 32) (v158 : IVec S16 32) (k0_hw306 : k0_chk306 i k0_t1 v83 v158), ∀ (k0_h5 : k0_cond5 i k0_t1 = 1#1), ∀ a x, ((![v83, v158] : Fin 2 → IVec S16 32) a x).toNat < S160x240.size a := fun i k0_t1 v83 v158 k0_hw306 k0_h5 => k0_hw306 k0_h5

def k0_chk307 (i : grid0.Coords) (k0_t1 : Fin (k0_t1_loop i).trips) (v83 : IVec S16 32) (v162 : IVec S16 32) : Prop :=
  (∀ (k0_h5 : k0_cond5 i k0_t1 = 1#1), ∀ a x, ((![v83, v162] : Fin 2 → IVec S16 32) a x).toNat < S160x240.size a)
theorem k0_idx359_inb : ∀ (i : grid0.Coords) (k0_t1 : Fin (k0_t1_loop i).trips) (v83 : IVec S16 32) (v162 : IVec S16 32) (k0_hw307 : k0_chk307 i k0_t1 v83 v162), ∀ (k0_h5 : k0_cond5 i k0_t1 = 1#1), ∀ a x, ((![v83, v162] : Fin 2 → IVec S16 32) a x).toNat < S160x240.size a := fun i k0_t1 v83 v162 k0_hw307 k0_h5 => k0_hw307 k0_h5

def k0_chk308 (i : grid0.Coords) (k0_t1 : Fin (k0_t1_loop i).trips) (v83 : IVec S16 32) (v155 : IVec S16 32) : Prop :=
  (∀ (k0_h5 : k0_cond5 i k0_t1 = 1#1), ∀ a x, ((![v155] : Fin 1 → IVec S16 32) a x).toNat < S48.size a) ∧
  (∀ (k0_h5 : k0_cond5 i k0_t1 = 1#1), ∀ a x, ((![v83, v155] : Fin 2 → IVec S16 32) a x).toNat < S160x48.size a)
theorem k0_idx360_inb : ∀ (i : grid0.Coords) (k0_t1 : Fin (k0_t1_loop i).trips) (v83 : IVec S16 32) (v155 : IVec S16 32) (k0_hw308 : k0_chk308 i k0_t1 v83 v155), ∀ (k0_h5 : k0_cond5 i k0_t1 = 1#1), ∀ a x, ((![v155] : Fin 1 → IVec S16 32) a x).toNat < S48.size a := fun i k0_t1 v83 v155 k0_hw308 k0_h5 => k0_hw308.1 k0_h5
theorem k0_idx361_inb : ∀ (i : grid0.Coords) (k0_t1 : Fin (k0_t1_loop i).trips) (v83 : IVec S16 32) (v155 : IVec S16 32) (k0_hw308 : k0_chk308 i k0_t1 v83 v155), ∀ (k0_h5 : k0_cond5 i k0_t1 = 1#1), ∀ a x, ((![v83, v155] : Fin 2 → IVec S16 32) a x).toNat < S160x48.size a := fun i k0_t1 v83 v155 k0_hw308 k0_h5 => k0_hw308.2 k0_h5

def k0_chk309 (i : grid0.Coords) (k0_t1 : Fin (k0_t1_loop i).trips) (v83 : IVec S16 32) (v166 : IVec S16 32) : Prop :=
  (∀ (k0_h5 : k0_cond5 i k0_t1 = 1#1), ∀ a x, ((![v83, v166] : Fin 2 → IVec S16 32) a x).toNat < S160x240.size a)
theorem k0_idx362_inb : ∀ (i : grid0.Coords) (k0_t1 : Fin (k0_t1_loop i).trips) (v83 : IVec S16 32) (v166 : IVec S16 32) (k0_hw309 : k0_chk309 i k0_t1 v83 v166), ∀ (k0_h5 : k0_cond5 i k0_t1 = 1#1), ∀ a x, ((![v83, v166] : Fin 2 → IVec S16 32) a x).toNat < S160x240.size a := fun i k0_t1 v83 v166 k0_hw309 k0_h5 => k0_hw309 k0_h5

def k0_chk310 (i : grid0.Coords) (k0_t1 : Fin (k0_t1_loop i).trips) (v83 : IVec S16 32) (v176 : IVec S16 32) : Prop :=
  (∀ (k0_h5 : k0_cond5 i k0_t1 = 1#1), ∀ a x, ((![v83, v176] : Fin 2 → IVec S16 32) a x).toNat < S160x240.size a)
theorem k0_idx363_inb : ∀ (i : grid0.Coords) (k0_t1 : Fin (k0_t1_loop i).trips) (v83 : IVec S16 32) (v176 : IVec S16 32) (k0_hw310 : k0_chk310 i k0_t1 v83 v176), ∀ (k0_h5 : k0_cond5 i k0_t1 = 1#1), ∀ a x, ((![v83, v176] : Fin 2 → IVec S16 32) a x).toNat < S160x240.size a := fun i k0_t1 v83 v176 k0_hw310 k0_h5 => k0_hw310 k0_h5

def k0_chk311 (i : grid0.Coords) (k0_t1 : Fin (k0_t1_loop i).trips) (v83 : IVec S16 32) (v180 : IVec S16 32) : Prop :=
  (∀ (k0_h5 : k0_cond5 i k0_t1 = 1#1), ∀ a x, ((![v83, v180] : Fin 2 → IVec S16 32) a x).toNat < S160x240.size a)
theorem k0_idx364_inb : ∀ (i : grid0.Coords) (k0_t1 : Fin (k0_t1_loop i).trips) (v83 : IVec S16 32) (v180 : IVec S16 32) (k0_hw311 : k0_chk311 i k0_t1 v83 v180), ∀ (k0_h5 : k0_cond5 i k0_t1 = 1#1), ∀ a x, ((![v83, v180] : Fin 2 → IVec S16 32) a x).toNat < S160x240.size a := fun i k0_t1 v83 v180 k0_hw311 k0_h5 => k0_hw311 k0_h5

def k0_chk312 (i : grid0.Coords) (k0_t1 : Fin (k0_t1_loop i).trips) (v83 : IVec S16 32) (v173 : IVec S16 32) : Prop :=
  (∀ (k0_h5 : k0_cond5 i k0_t1 = 1#1), ∀ a x, ((![v173] : Fin 1 → IVec S16 32) a x).toNat < S48.size a) ∧
  (∀ (k0_h5 : k0_cond5 i k0_t1 = 1#1), ∀ a x, ((![v83, v173] : Fin 2 → IVec S16 32) a x).toNat < S160x48.size a)
theorem k0_idx365_inb : ∀ (i : grid0.Coords) (k0_t1 : Fin (k0_t1_loop i).trips) (v83 : IVec S16 32) (v173 : IVec S16 32) (k0_hw312 : k0_chk312 i k0_t1 v83 v173), ∀ (k0_h5 : k0_cond5 i k0_t1 = 1#1), ∀ a x, ((![v173] : Fin 1 → IVec S16 32) a x).toNat < S48.size a := fun i k0_t1 v83 v173 k0_hw312 k0_h5 => k0_hw312.1 k0_h5
theorem k0_idx366_inb : ∀ (i : grid0.Coords) (k0_t1 : Fin (k0_t1_loop i).trips) (v83 : IVec S16 32) (v173 : IVec S16 32) (k0_hw312 : k0_chk312 i k0_t1 v83 v173), ∀ (k0_h5 : k0_cond5 i k0_t1 = 1#1), ∀ a x, ((![v83, v173] : Fin 2 → IVec S16 32) a x).toNat < S160x48.size a := fun i k0_t1 v83 v173 k0_hw312 k0_h5 => k0_hw312.2 k0_h5

def k0_chk313 (i : grid0.Coords) (k0_t1 : Fin (k0_t1_loop i).trips) (v83 : IVec S16 32) (v184 : IVec S16 32) : Prop :=
  (∀ (k0_h5 : k0_cond5 i k0_t1 = 1#1), ∀ a x, ((![v83, v184] : Fin 2 → IVec S16 32) a x).toNat < S160x240.size a)
theorem k0_idx367_inb : ∀ (i : grid0.Coords) (k0_t1 : Fin (k0_t1_loop i).trips) (v83 : IVec S16 32) (v184 : IVec S16 32) (k0_hw313 : k0_chk313 i k0_t1 v83 v184), ∀ (k0_h5 : k0_cond5 i k0_t1 = 1#1), ∀ a x, ((![v83, v184] : Fin 2 → IVec S16 32) a x).toNat < S160x240.size a := fun i k0_t1 v83 v184 k0_hw313 k0_h5 => k0_hw313 k0_h5

def k0_chk314 (i : grid0.Coords) (k0_t1 : Fin (k0_t1_loop i).trips) (v83 : IVec S16 32) (v194 : IVec S16 32) : Prop :=
  (∀ (k0_h5 : k0_cond5 i k0_t1 = 1#1), ∀ a x, ((![v83, v194] : Fin 2 → IVec S16 32) a x).toNat < S160x240.size a)
theorem k0_idx368_inb : ∀ (i : grid0.Coords) (k0_t1 : Fin (k0_t1_loop i).trips) (v83 : IVec S16 32) (v194 : IVec S16 32) (k0_hw314 : k0_chk314 i k0_t1 v83 v194), ∀ (k0_h5 : k0_cond5 i k0_t1 = 1#1), ∀ a x, ((![v83, v194] : Fin 2 → IVec S16 32) a x).toNat < S160x240.size a := fun i k0_t1 v83 v194 k0_hw314 k0_h5 => k0_hw314 k0_h5

def k0_chk315 (i : grid0.Coords) (k0_t1 : Fin (k0_t1_loop i).trips) (v83 : IVec S16 32) (v198 : IVec S16 32) : Prop :=
  (∀ (k0_h5 : k0_cond5 i k0_t1 = 1#1), ∀ a x, ((![v83, v198] : Fin 2 → IVec S16 32) a x).toNat < S160x240.size a)
theorem k0_idx369_inb : ∀ (i : grid0.Coords) (k0_t1 : Fin (k0_t1_loop i).trips) (v83 : IVec S16 32) (v198 : IVec S16 32) (k0_hw315 : k0_chk315 i k0_t1 v83 v198), ∀ (k0_h5 : k0_cond5 i k0_t1 = 1#1), ∀ a x, ((![v83, v198] : Fin 2 → IVec S16 32) a x).toNat < S160x240.size a := fun i k0_t1 v83 v198 k0_hw315 k0_h5 => k0_hw315 k0_h5

def k0_chk316 (i : grid0.Coords) (k0_t1 : Fin (k0_t1_loop i).trips) (v83 : IVec S16 32) (v191 : IVec S16 32) : Prop :=
  (∀ (k0_h5 : k0_cond5 i k0_t1 = 1#1), ∀ a x, ((![v191] : Fin 1 → IVec S16 32) a x).toNat < S48.size a) ∧
  (∀ (k0_h5 : k0_cond5 i k0_t1 = 1#1), ∀ a x, ((![v83, v191] : Fin 2 → IVec S16 32) a x).toNat < S160x48.size a)
theorem k0_idx370_inb : ∀ (i : grid0.Coords) (k0_t1 : Fin (k0_t1_loop i).trips) (v83 : IVec S16 32) (v191 : IVec S16 32) (k0_hw316 : k0_chk316 i k0_t1 v83 v191), ∀ (k0_h5 : k0_cond5 i k0_t1 = 1#1), ∀ a x, ((![v191] : Fin 1 → IVec S16 32) a x).toNat < S48.size a := fun i k0_t1 v83 v191 k0_hw316 k0_h5 => k0_hw316.1 k0_h5
theorem k0_idx371_inb : ∀ (i : grid0.Coords) (k0_t1 : Fin (k0_t1_loop i).trips) (v83 : IVec S16 32) (v191 : IVec S16 32) (k0_hw316 : k0_chk316 i k0_t1 v83 v191), ∀ (k0_h5 : k0_cond5 i k0_t1 = 1#1), ∀ a x, ((![v83, v191] : Fin 2 → IVec S16 32) a x).toNat < S160x48.size a := fun i k0_t1 v83 v191 k0_hw316 k0_h5 => k0_hw316.2 k0_h5

def k0_chk317 (i : grid0.Coords) (k0_t1 : Fin (k0_t1_loop i).trips) (v83 : IVec S16 32) (v202 : IVec S16 32) : Prop :=
  (∀ (k0_h5 : k0_cond5 i k0_t1 = 1#1), ∀ a x, ((![v83, v202] : Fin 2 → IVec S16 32) a x).toNat < S160x240.size a)
theorem k0_idx372_inb : ∀ (i : grid0.Coords) (k0_t1 : Fin (k0_t1_loop i).trips) (v83 : IVec S16 32) (v202 : IVec S16 32) (k0_hw317 : k0_chk317 i k0_t1 v83 v202), ∀ (k0_h5 : k0_cond5 i k0_t1 = 1#1), ∀ a x, ((![v83, v202] : Fin 2 → IVec S16 32) a x).toNat < S160x240.size a := fun i k0_t1 v83 v202 k0_hw317 k0_h5 => k0_hw317 k0_h5

def k0_chk318 (i : grid0.Coords) (k0_t1 : Fin (k0_t1_loop i).trips) (v83 : IVec S16 32) (v212 : IVec S16 32) : Prop :=
  (∀ (k0_h5 : k0_cond5 i k0_t1 = 1#1), ∀ a x, ((![v83, v212] : Fin 2 → IVec S16 32) a x).toNat < S160x240.size a)
theorem k0_idx373_inb : ∀ (i : grid0.Coords) (k0_t1 : Fin (k0_t1_loop i).trips) (v83 : IVec S16 32) (v212 : IVec S16 32) (k0_hw318 : k0_chk318 i k0_t1 v83 v212), ∀ (k0_h5 : k0_cond5 i k0_t1 = 1#1), ∀ a x, ((![v83, v212] : Fin 2 → IVec S16 32) a x).toNat < S160x240.size a := fun i k0_t1 v83 v212 k0_hw318 k0_h5 => k0_hw318 k0_h5

def k0_chk319 (i : grid0.Coords) (k0_t1 : Fin (k0_t1_loop i).trips) (v83 : IVec S16 32) (v216 : IVec S16 32) : Prop :=
  (∀ (k0_h5 : k0_cond5 i k0_t1 = 1#1), ∀ a x, ((![v83, v216] : Fin 2 → IVec S16 32) a x).toNat < S160x240.size a)
theorem k0_idx374_inb : ∀ (i : grid0.Coords) (k0_t1 : Fin (k0_t1_loop i).trips) (v83 : IVec S16 32) (v216 : IVec S16 32) (k0_hw319 : k0_chk319 i k0_t1 v83 v216), ∀ (k0_h5 : k0_cond5 i k0_t1 = 1#1), ∀ a x, ((![v83, v216] : Fin 2 → IVec S16 32) a x).toNat < S160x240.size a := fun i k0_t1 v83 v216 k0_hw319 k0_h5 => k0_hw319 k0_h5

def k0_chk320 (i : grid0.Coords) (k0_t1 : Fin (k0_t1_loop i).trips) (v83 : IVec S16 32) (v209 : IVec S16 32) : Prop :=
  (∀ (k0_h5 : k0_cond5 i k0_t1 = 1#1), ∀ a x, ((![v209] : Fin 1 → IVec S16 32) a x).toNat < S48.size a) ∧
  (∀ (k0_h5 : k0_cond5 i k0_t1 = 1#1), ∀ a x, ((![v83, v209] : Fin 2 → IVec S16 32) a x).toNat < S160x48.size a)
theorem k0_idx375_inb : ∀ (i : grid0.Coords) (k0_t1 : Fin (k0_t1_loop i).trips) (v83 : IVec S16 32) (v209 : IVec S16 32) (k0_hw320 : k0_chk320 i k0_t1 v83 v209), ∀ (k0_h5 : k0_cond5 i k0_t1 = 1#1), ∀ a x, ((![v209] : Fin 1 → IVec S16 32) a x).toNat < S48.size a := fun i k0_t1 v83 v209 k0_hw320 k0_h5 => k0_hw320.1 k0_h5
theorem k0_idx376_inb : ∀ (i : grid0.Coords) (k0_t1 : Fin (k0_t1_loop i).trips) (v83 : IVec S16 32) (v209 : IVec S16 32) (k0_hw320 : k0_chk320 i k0_t1 v83 v209), ∀ (k0_h5 : k0_cond5 i k0_t1 = 1#1), ∀ a x, ((![v83, v209] : Fin 2 → IVec S16 32) a x).toNat < S160x48.size a := fun i k0_t1 v83 v209 k0_hw320 k0_h5 => k0_hw320.2 k0_h5

def k0_chk321 (i : grid0.Coords) (k0_t1 : Fin (k0_t1_loop i).trips) (v83 : IVec S16 32) (v220 : IVec S16 32) : Prop :=
  (∀ (k0_h5 : k0_cond5 i k0_t1 = 1#1), ∀ a x, ((![v83, v220] : Fin 2 → IVec S16 32) a x).toNat < S160x240.size a)
theorem k0_idx377_inb : ∀ (i : grid0.Coords) (k0_t1 : Fin (k0_t1_loop i).trips) (v83 : IVec S16 32) (v220 : IVec S16 32) (k0_hw321 : k0_chk321 i k0_t1 v83 v220), ∀ (k0_h5 : k0_cond5 i k0_t1 = 1#1), ∀ a x, ((![v83, v220] : Fin 2 → IVec S16 32) a x).toNat < S160x240.size a := fun i k0_t1 v83 v220 k0_hw321 k0_h5 => k0_hw321 k0_h5

def k0_chk322 (i : grid0.Coords) (k0_t1 : Fin (k0_t1_loop i).trips) (v83 : IVec S16 32) (v230 : IVec S16 32) : Prop :=
  (∀ (k0_h5 : k0_cond5 i k0_t1 = 1#1), ∀ a x, ((![v83, v230] : Fin 2 → IVec S16 32) a x).toNat < S160x240.size a)
theorem k0_idx378_inb : ∀ (i : grid0.Coords) (k0_t1 : Fin (k0_t1_loop i).trips) (v83 : IVec S16 32) (v230 : IVec S16 32) (k0_hw322 : k0_chk322 i k0_t1 v83 v230), ∀ (k0_h5 : k0_cond5 i k0_t1 = 1#1), ∀ a x, ((![v83, v230] : Fin 2 → IVec S16 32) a x).toNat < S160x240.size a := fun i k0_t1 v83 v230 k0_hw322 k0_h5 => k0_hw322 k0_h5

def k0_chk323 (i : grid0.Coords) (k0_t1 : Fin (k0_t1_loop i).trips) (v83 : IVec S16 32) (v234 : IVec S16 32) : Prop :=
  (∀ (k0_h5 : k0_cond5 i k0_t1 = 1#1), ∀ a x, ((![v83, v234] : Fin 2 → IVec S16 32) a x).toNat < S160x240.size a)
theorem k0_idx379_inb : ∀ (i : grid0.Coords) (k0_t1 : Fin (k0_t1_loop i).trips) (v83 : IVec S16 32) (v234 : IVec S16 32) (k0_hw323 : k0_chk323 i k0_t1 v83 v234), ∀ (k0_h5 : k0_cond5 i k0_t1 = 1#1), ∀ a x, ((![v83, v234] : Fin 2 → IVec S16 32) a x).toNat < S160x240.size a := fun i k0_t1 v83 v234 k0_hw323 k0_h5 => k0_hw323 k0_h5

def k0_chk324 (i : grid0.Coords) (k0_t1 : Fin (k0_t1_loop i).trips) (v83 : IVec S16 32) (v227 : IVec S16 32) : Prop :=
  (∀ (k0_h5 : k0_cond5 i k0_t1 = 1#1), ∀ a x, ((![v227] : Fin 1 → IVec S16 32) a x).toNat < S48.size a) ∧
  (∀ (k0_h5 : k0_cond5 i k0_t1 = 1#1), ∀ a x, ((![v83, v227] : Fin 2 → IVec S16 32) a x).toNat < S160x48.size a)
theorem k0_idx380_inb : ∀ (i : grid0.Coords) (k0_t1 : Fin (k0_t1_loop i).trips) (v83 : IVec S16 32) (v227 : IVec S16 32) (k0_hw324 : k0_chk324 i k0_t1 v83 v227), ∀ (k0_h5 : k0_cond5 i k0_t1 = 1#1), ∀ a x, ((![v227] : Fin 1 → IVec S16 32) a x).toNat < S48.size a := fun i k0_t1 v83 v227 k0_hw324 k0_h5 => k0_hw324.1 k0_h5
theorem k0_idx381_inb : ∀ (i : grid0.Coords) (k0_t1 : Fin (k0_t1_loop i).trips) (v83 : IVec S16 32) (v227 : IVec S16 32) (k0_hw324 : k0_chk324 i k0_t1 v83 v227), ∀ (k0_h5 : k0_cond5 i k0_t1 = 1#1), ∀ a x, ((![v83, v227] : Fin 2 → IVec S16 32) a x).toNat < S160x48.size a := fun i k0_t1 v83 v227 k0_hw324 k0_h5 => k0_hw324.2 k0_h5

def k0_chk325 (i : grid0.Coords) (k0_t1 : Fin (k0_t1_loop i).trips) (v83 : IVec S16 32) (v238 : IVec S16 32) : Prop :=
  (∀ (k0_h5 : k0_cond5 i k0_t1 = 1#1), ∀ a x, ((![v83, v238] : Fin 2 → IVec S16 32) a x).toNat < S160x240.size a)
theorem k0_idx382_inb : ∀ (i : grid0.Coords) (k0_t1 : Fin (k0_t1_loop i).trips) (v83 : IVec S16 32) (v238 : IVec S16 32) (k0_hw325 : k0_chk325 i k0_t1 v83 v238), ∀ (k0_h5 : k0_cond5 i k0_t1 = 1#1), ∀ a x, ((![v83, v238] : Fin 2 → IVec S16 32) a x).toNat < S160x240.size a := fun i k0_t1 v83 v238 k0_hw325 k0_h5 => k0_hw325 k0_h5

def k0_chk326 (i : grid0.Coords) (k0_t1 : Fin (k0_t1_loop i).trips) (v83 : IVec S16 32) (v248 : IVec S16 32) : Prop :=
  (∀ (k0_h5 : k0_cond5 i k0_t1 = 1#1), ∀ a x, ((![v83, v248] : Fin 2 → IVec S16 32) a x).toNat < S160x240.size a)
theorem k0_idx383_inb : ∀ (i : grid0.Coords) (k0_t1 : Fin (k0_t1_loop i).trips) (v83 : IVec S16 32) (v248 : IVec S16 32) (k0_hw326 : k0_chk326 i k0_t1 v83 v248), ∀ (k0_h5 : k0_cond5 i k0_t1 = 1#1), ∀ a x, ((![v83, v248] : Fin 2 → IVec S16 32) a x).toNat < S160x240.size a := fun i k0_t1 v83 v248 k0_hw326 k0_h5 => k0_hw326 k0_h5

def k0_chk327 (i : grid0.Coords) (k0_t1 : Fin (k0_t1_loop i).trips) (v83 : IVec S16 32) (v252 : IVec S16 32) : Prop :=
  (∀ (k0_h5 : k0_cond5 i k0_t1 = 1#1), ∀ a x, ((![v83, v252] : Fin 2 → IVec S16 32) a x).toNat < S160x240.size a)
theorem k0_idx384_inb : ∀ (i : grid0.Coords) (k0_t1 : Fin (k0_t1_loop i).trips) (v83 : IVec S16 32) (v252 : IVec S16 32) (k0_hw327 : k0_chk327 i k0_t1 v83 v252), ∀ (k0_h5 : k0_cond5 i k0_t1 = 1#1), ∀ a x, ((![v83, v252] : Fin 2 → IVec S16 32) a x).toNat < S160x240.size a := fun i k0_t1 v83 v252 k0_hw327 k0_h5 => k0_hw327 k0_h5

def k0_chk328 (i : grid0.Coords) (k0_t1 : Fin (k0_t1_loop i).trips) (v83 : IVec S16 32) (v245 : IVec S16 32) : Prop :=
  (∀ (k0_h5 : k0_cond5 i k0_t1 = 1#1), ∀ a x, ((![v245] : Fin 1 → IVec S16 32) a x).toNat < S48.size a) ∧
  (∀ (k0_h5 : k0_cond5 i k0_t1 = 1#1), ∀ a x, ((![v83, v245] : Fin 2 → IVec S16 32) a x).toNat < S160x48.size a)
theorem k0_idx385_inb : ∀ (i : grid0.Coords) (k0_t1 : Fin (k0_t1_loop i).trips) (v83 : IVec S16 32) (v245 : IVec S16 32) (k0_hw328 : k0_chk328 i k0_t1 v83 v245), ∀ (k0_h5 : k0_cond5 i k0_t1 = 1#1), ∀ a x, ((![v245] : Fin 1 → IVec S16 32) a x).toNat < S48.size a := fun i k0_t1 v83 v245 k0_hw328 k0_h5 => k0_hw328.1 k0_h5
theorem k0_idx386_inb : ∀ (i : grid0.Coords) (k0_t1 : Fin (k0_t1_loop i).trips) (v83 : IVec S16 32) (v245 : IVec S16 32) (k0_hw328 : k0_chk328 i k0_t1 v83 v245), ∀ (k0_h5 : k0_cond5 i k0_t1 = 1#1), ∀ a x, ((![v83, v245] : Fin 2 → IVec S16 32) a x).toNat < S160x48.size a := fun i k0_t1 v83 v245 k0_hw328 k0_h5 => k0_hw328.2 k0_h5

def k0_chk329 (i : grid0.Coords) (k0_t1 : Fin (k0_t1_loop i).trips) (v83 : IVec S16 32) (v256 : IVec S16 32) : Prop :=
  (∀ (k0_h5 : k0_cond5 i k0_t1 = 1#1), ∀ a x, ((![v83, v256] : Fin 2 → IVec S16 32) a x).toNat < S160x240.size a)
theorem k0_idx387_inb : ∀ (i : grid0.Coords) (k0_t1 : Fin (k0_t1_loop i).trips) (v83 : IVec S16 32) (v256 : IVec S16 32) (k0_hw329 : k0_chk329 i k0_t1 v83 v256), ∀ (k0_h5 : k0_cond5 i k0_t1 = 1#1), ∀ a x, ((![v83, v256] : Fin 2 → IVec S16 32) a x).toNat < S160x240.size a := fun i k0_t1 v83 v256 k0_hw329 k0_h5 => k0_hw329 k0_h5

def k0_chk330 (i : grid0.Coords) (k0_t1 : Fin (k0_t1_loop i).trips) (v83 : IVec S16 32) (v266 : IVec S16 32) : Prop :=
  (∀ (k0_h5 : k0_cond5 i k0_t1 = 1#1), ∀ a x, ((![v83, v266] : Fin 2 → IVec S16 32) a x).toNat < S160x240.size a)
theorem k0_idx388_inb : ∀ (i : grid0.Coords) (k0_t1 : Fin (k0_t1_loop i).trips) (v83 : IVec S16 32) (v266 : IVec S16 32) (k0_hw330 : k0_chk330 i k0_t1 v83 v266), ∀ (k0_h5 : k0_cond5 i k0_t1 = 1#1), ∀ a x, ((![v83, v266] : Fin 2 → IVec S16 32) a x).toNat < S160x240.size a := fun i k0_t1 v83 v266 k0_hw330 k0_h5 => k0_hw330 k0_h5

def k0_chk331 (i : grid0.Coords) (k0_t1 : Fin (k0_t1_loop i).trips) (v83 : IVec S16 32) (v270 : IVec S16 32) : Prop :=
  (∀ (k0_h5 : k0_cond5 i k0_t1 = 1#1), ∀ a x, ((![v83, v270] : Fin 2 → IVec S16 32) a x).toNat < S160x240.size a)
theorem k0_idx389_inb : ∀ (i : grid0.Coords) (k0_t1 : Fin (k0_t1_loop i).trips) (v83 : IVec S16 32) (v270 : IVec S16 32) (k0_hw331 : k0_chk331 i k0_t1 v83 v270), ∀ (k0_h5 : k0_cond5 i k0_t1 = 1#1), ∀ a x, ((![v83, v270] : Fin 2 → IVec S16 32) a x).toNat < S160x240.size a := fun i k0_t1 v83 v270 k0_hw331 k0_h5 => k0_hw331 k0_h5

def k0_chk332 (i : grid0.Coords) (k0_t1 : Fin (k0_t1_loop i).trips) (v83 : IVec S16 32) (v263 : IVec S16 32) : Prop :=
  (∀ (k0_h5 : k0_cond5 i k0_t1 = 1#1), ∀ a x, ((![v263] : Fin 1 → IVec S16 32) a x).toNat < S48.size a) ∧
  (∀ (k0_h5 : k0_cond5 i k0_t1 = 1#1), ∀ a x, ((![v83, v263] : Fin 2 → IVec S16 32) a x).toNat < S160x48.size a)
theorem k0_idx390_inb : ∀ (i : grid0.Coords) (k0_t1 : Fin (k0_t1_loop i).trips) (v83 : IVec S16 32) (v263 : IVec S16 32) (k0_hw332 : k0_chk332 i k0_t1 v83 v263), ∀ (k0_h5 : k0_cond5 i k0_t1 = 1#1), ∀ a x, ((![v263] : Fin 1 → IVec S16 32) a x).toNat < S48.size a := fun i k0_t1 v83 v263 k0_hw332 k0_h5 => k0_hw332.1 k0_h5
theorem k0_idx391_inb : ∀ (i : grid0.Coords) (k0_t1 : Fin (k0_t1_loop i).trips) (v83 : IVec S16 32) (v263 : IVec S16 32) (k0_hw332 : k0_chk332 i k0_t1 v83 v263), ∀ (k0_h5 : k0_cond5 i k0_t1 = 1#1), ∀ a x, ((![v83, v263] : Fin 2 → IVec S16 32) a x).toNat < S160x48.size a := fun i k0_t1 v83 v263 k0_hw332 k0_h5 => k0_hw332.2 k0_h5

def k0_chk333 (i : grid0.Coords) (k0_t1 : Fin (k0_t1_loop i).trips) (v83 : IVec S16 32) (v274 : IVec S16 32) : Prop :=
  (∀ (k0_h5 : k0_cond5 i k0_t1 = 1#1), ∀ a x, ((![v83, v274] : Fin 2 → IVec S16 32) a x).toNat < S160x240.size a)
theorem k0_idx392_inb : ∀ (i : grid0.Coords) (k0_t1 : Fin (k0_t1_loop i).trips) (v83 : IVec S16 32) (v274 : IVec S16 32) (k0_hw333 : k0_chk333 i k0_t1 v83 v274), ∀ (k0_h5 : k0_cond5 i k0_t1 = 1#1), ∀ a x, ((![v83, v274] : Fin 2 → IVec S16 32) a x).toNat < S160x240.size a := fun i k0_t1 v83 v274 k0_hw333 k0_h5 => k0_hw333 k0_h5

def k0_chk334 (i : grid0.Coords) (k0_t1 : Fin (k0_t1_loop i).trips) (v83 : IVec S16 32) (v284 : IVec S16 32) : Prop :=
  (∀ (k0_h5 : k0_cond5 i k0_t1 = 1#1), ∀ a x, ((![v83, v284] : Fin 2 → IVec S16 32) a x).toNat < S160x240.size a)
theorem k0_idx393_inb : ∀ (i : grid0.Coords) (k0_t1 : Fin (k0_t1_loop i).trips) (v83 : IVec S16 32) (v284 : IVec S16 32) (k0_hw334 : k0_chk334 i k0_t1 v83 v284), ∀ (k0_h5 : k0_cond5 i k0_t1 = 1#1), ∀ a x, ((![v83, v284] : Fin 2 → IVec S16 32) a x).toNat < S160x240.size a := fun i k0_t1 v83 v284 k0_hw334 k0_h5 => k0_hw334 k0_h5

def k0_chk335 (i : grid0.Coords) (k0_t1 : Fin (k0_t1_loop i).trips) (v83 : IVec S16 32) (v288 : IVec S16 32) : Prop :=
  (∀ (k0_h5 : k0_cond5 i k0_t1 = 1#1), ∀ a x, ((![v83, v288] : Fin 2 → IVec S16 32) a x).toNat < S160x240.size a)
theorem k0_idx394_inb : ∀ (i : grid0.Coords) (k0_t1 : Fin (k0_t1_loop i).trips) (v83 : IVec S16 32) (v288 : IVec S16 32) (k0_hw335 : k0_chk335 i k0_t1 v83 v288), ∀ (k0_h5 : k0_cond5 i k0_t1 = 1#1), ∀ a x, ((![v83, v288] : Fin 2 → IVec S16 32) a x).toNat < S160x240.size a := fun i k0_t1 v83 v288 k0_hw335 k0_h5 => k0_hw335 k0_h5

def k0_chk336 (i : grid0.Coords) (k0_t1 : Fin (k0_t1_loop i).trips) (v83 : IVec S16 32) (v281 : IVec S16 32) : Prop :=
  (∀ (k0_h5 : k0_cond5 i k0_t1 = 1#1), ∀ a x, ((![v281] : Fin 1 → IVec S16 32) a x).toNat < S48.size a) ∧
  (∀ (k0_h5 : k0_cond5 i k0_t1 = 1#1), ∀ a x, ((![v83, v281] : Fin 2 → IVec S16 32) a x).toNat < S160x48.size a)
theorem k0_idx395_inb : ∀ (i : grid0.Coords) (k0_t1 : Fin (k0_t1_loop i).trips) (v83 : IVec S16 32) (v281 : IVec S16 32) (k0_hw336 : k0_chk336 i k0_t1 v83 v281), ∀ (k0_h5 : k0_cond5 i k0_t1 = 1#1), ∀ a x, ((![v281] : Fin 1 → IVec S16 32) a x).toNat < S48.size a := fun i k0_t1 v83 v281 k0_hw336 k0_h5 => k0_hw336.1 k0_h5
theorem k0_idx396_inb : ∀ (i : grid0.Coords) (k0_t1 : Fin (k0_t1_loop i).trips) (v83 : IVec S16 32) (v281 : IVec S16 32) (k0_hw336 : k0_chk336 i k0_t1 v83 v281), ∀ (k0_h5 : k0_cond5 i k0_t1 = 1#1), ∀ a x, ((![v83, v281] : Fin 2 → IVec S16 32) a x).toNat < S160x48.size a := fun i k0_t1 v83 v281 k0_hw336 k0_h5 => k0_hw336.2 k0_h5

def k0_chk337 (i : grid0.Coords) (k0_t1 : Fin (k0_t1_loop i).trips) (v83 : IVec S16 32) (v292 : IVec S16 32) : Prop :=
  (∀ (k0_h5 : k0_cond5 i k0_t1 = 1#1), ∀ a x, ((![v83, v292] : Fin 2 → IVec S16 32) a x).toNat < S160x240.size a)
theorem k0_idx397_inb : ∀ (i : grid0.Coords) (k0_t1 : Fin (k0_t1_loop i).trips) (v83 : IVec S16 32) (v292 : IVec S16 32) (k0_hw337 : k0_chk337 i k0_t1 v83 v292), ∀ (k0_h5 : k0_cond5 i k0_t1 = 1#1), ∀ a x, ((![v83, v292] : Fin 2 → IVec S16 32) a x).toNat < S160x240.size a := fun i k0_t1 v83 v292 k0_hw337 k0_h5 => k0_hw337 k0_h5

def k0_chk338 (i : grid0.Coords) (k0_t1 : Fin (k0_t1_loop i).trips) (v83 : IVec S16 32) (v302 : IVec S16 32) : Prop :=
  (∀ (k0_h5 : k0_cond5 i k0_t1 = 1#1), ∀ a x, ((![v83, v302] : Fin 2 → IVec S16 32) a x).toNat < S160x240.size a)
theorem k0_idx398_inb : ∀ (i : grid0.Coords) (k0_t1 : Fin (k0_t1_loop i).trips) (v83 : IVec S16 32) (v302 : IVec S16 32) (k0_hw338 : k0_chk338 i k0_t1 v83 v302), ∀ (k0_h5 : k0_cond5 i k0_t1 = 1#1), ∀ a x, ((![v83, v302] : Fin 2 → IVec S16 32) a x).toNat < S160x240.size a := fun i k0_t1 v83 v302 k0_hw338 k0_h5 => k0_hw338 k0_h5

def k0_chk339 (i : grid0.Coords) (k0_t1 : Fin (k0_t1_loop i).trips) (v83 : IVec S16 32) (v306 : IVec S16 32) : Prop :=
  (∀ (k0_h5 : k0_cond5 i k0_t1 = 1#1), ∀ a x, ((![v83, v306] : Fin 2 → IVec S16 32) a x).toNat < S160x240.size a)
theorem k0_idx399_inb : ∀ (i : grid0.Coords) (k0_t1 : Fin (k0_t1_loop i).trips) (v83 : IVec S16 32) (v306 : IVec S16 32) (k0_hw339 : k0_chk339 i k0_t1 v83 v306), ∀ (k0_h5 : k0_cond5 i k0_t1 = 1#1), ∀ a x, ((![v83, v306] : Fin 2 → IVec S16 32) a x).toNat < S160x240.size a := fun i k0_t1 v83 v306 k0_hw339 k0_h5 => k0_hw339 k0_h5

def k0_chk340 (i : grid0.Coords) (k0_t1 : Fin (k0_t1_loop i).trips) (v83 : IVec S16 32) (v299 : IVec S16 32) : Prop :=
  (∀ (k0_h5 : k0_cond5 i k0_t1 = 1#1), ∀ a x, ((![v299] : Fin 1 → IVec S16 32) a x).toNat < S48.size a) ∧
  (∀ (k0_h5 : k0_cond5 i k0_t1 = 1#1), ∀ a x, ((![v83, v299] : Fin 2 → IVec S16 32) a x).toNat < S160x48.size a)
theorem k0_idx400_inb : ∀ (i : grid0.Coords) (k0_t1 : Fin (k0_t1_loop i).trips) (v83 : IVec S16 32) (v299 : IVec S16 32) (k0_hw340 : k0_chk340 i k0_t1 v83 v299), ∀ (k0_h5 : k0_cond5 i k0_t1 = 1#1), ∀ a x, ((![v299] : Fin 1 → IVec S16 32) a x).toNat < S48.size a := fun i k0_t1 v83 v299 k0_hw340 k0_h5 => k0_hw340.1 k0_h5
theorem k0_idx401_inb : ∀ (i : grid0.Coords) (k0_t1 : Fin (k0_t1_loop i).trips) (v83 : IVec S16 32) (v299 : IVec S16 32) (k0_hw340 : k0_chk340 i k0_t1 v83 v299), ∀ (k0_h5 : k0_cond5 i k0_t1 = 1#1), ∀ a x, ((![v83, v299] : Fin 2 → IVec S16 32) a x).toNat < S160x48.size a := fun i k0_t1 v83 v299 k0_hw340 k0_h5 => k0_hw340.2 k0_h5

def k0_chk341 (i : grid0.Coords) (k0_t1 : Fin (k0_t1_loop i).trips) (v83 : IVec S16 32) (v310 : IVec S16 32) : Prop :=
  (∀ (k0_h5 : k0_cond5 i k0_t1 = 1#1), ∀ a x, ((![v83, v310] : Fin 2 → IVec S16 32) a x).toNat < S160x240.size a)
theorem k0_idx402_inb : ∀ (i : grid0.Coords) (k0_t1 : Fin (k0_t1_loop i).trips) (v83 : IVec S16 32) (v310 : IVec S16 32) (k0_hw341 : k0_chk341 i k0_t1 v83 v310), ∀ (k0_h5 : k0_cond5 i k0_t1 = 1#1), ∀ a x, ((![v83, v310] : Fin 2 → IVec S16 32) a x).toNat < S160x240.size a := fun i k0_t1 v83 v310 k0_hw341 k0_h5 => k0_hw341 k0_h5

def k0_chk342 (i : grid0.Coords) (k0_t1 : Fin (k0_t1_loop i).trips) (v83 : IVec S16 32) (v320 : IVec S16 32) : Prop :=
  (∀ (k0_h5 : k0_cond5 i k0_t1 = 1#1), ∀ a x, ((![v83, v320] : Fin 2 → IVec S16 32) a x).toNat < S160x240.size a)
theorem k0_idx403_inb : ∀ (i : grid0.Coords) (k0_t1 : Fin (k0_t1_loop i).trips) (v83 : IVec S16 32) (v320 : IVec S16 32) (k0_hw342 : k0_chk342 i k0_t1 v83 v320), ∀ (k0_h5 : k0_cond5 i k0_t1 = 1#1), ∀ a x, ((![v83, v320] : Fin 2 → IVec S16 32) a x).toNat < S160x240.size a := fun i k0_t1 v83 v320 k0_hw342 k0_h5 => k0_hw342 k0_h5

def k0_chk343 (i : grid0.Coords) (k0_t1 : Fin (k0_t1_loop i).trips) (v83 : IVec S16 32) (v324 : IVec S16 32) : Prop :=
  (∀ (k0_h5 : k0_cond5 i k0_t1 = 1#1), ∀ a x, ((![v83, v324] : Fin 2 → IVec S16 32) a x).toNat < S160x240.size a)
theorem k0_idx404_inb : ∀ (i : grid0.Coords) (k0_t1 : Fin (k0_t1_loop i).trips) (v83 : IVec S16 32) (v324 : IVec S16 32) (k0_hw343 : k0_chk343 i k0_t1 v83 v324), ∀ (k0_h5 : k0_cond5 i k0_t1 = 1#1), ∀ a x, ((![v83, v324] : Fin 2 → IVec S16 32) a x).toNat < S160x240.size a := fun i k0_t1 v83 v324 k0_hw343 k0_h5 => k0_hw343 k0_h5

def k0_chk344 (i : grid0.Coords) (k0_t1 : Fin (k0_t1_loop i).trips) (v83 : IVec S16 32) (v317 : IVec S16 32) : Prop :=
  (∀ (k0_h5 : k0_cond5 i k0_t1 = 1#1), ∀ a x, ((![v317] : Fin 1 → IVec S16 32) a x).toNat < S48.size a) ∧
  (∀ (k0_h5 : k0_cond5 i k0_t1 = 1#1), ∀ a x, ((![v83, v317] : Fin 2 → IVec S16 32) a x).toNat < S160x48.size a)
theorem k0_idx405_inb : ∀ (i : grid0.Coords) (k0_t1 : Fin (k0_t1_loop i).trips) (v83 : IVec S16 32) (v317 : IVec S16 32) (k0_hw344 : k0_chk344 i k0_t1 v83 v317), ∀ (k0_h5 : k0_cond5 i k0_t1 = 1#1), ∀ a x, ((![v317] : Fin 1 → IVec S16 32) a x).toNat < S48.size a := fun i k0_t1 v83 v317 k0_hw344 k0_h5 => k0_hw344.1 k0_h5
theorem k0_idx406_inb : ∀ (i : grid0.Coords) (k0_t1 : Fin (k0_t1_loop i).trips) (v83 : IVec S16 32) (v317 : IVec S16 32) (k0_hw344 : k0_chk344 i k0_t1 v83 v317), ∀ (k0_h5 : k0_cond5 i k0_t1 = 1#1), ∀ a x, ((![v83, v317] : Fin 2 → IVec S16 32) a x).toNat < S160x48.size a := fun i k0_t1 v83 v317 k0_hw344 k0_h5 => k0_hw344.2 k0_h5

def k0_chk345 (i : grid0.Coords) (k0_t1 : Fin (k0_t1_loop i).trips) (v83 : IVec S16 32) (v328 : IVec S16 32) : Prop :=
  (∀ (k0_h5 : k0_cond5 i k0_t1 = 1#1), ∀ a x, ((![v83, v328] : Fin 2 → IVec S16 32) a x).toNat < S160x240.size a)
theorem k0_idx407_inb : ∀ (i : grid0.Coords) (k0_t1 : Fin (k0_t1_loop i).trips) (v83 : IVec S16 32) (v328 : IVec S16 32) (k0_hw345 : k0_chk345 i k0_t1 v83 v328), ∀ (k0_h5 : k0_cond5 i k0_t1 = 1#1), ∀ a x, ((![v83, v328] : Fin 2 → IVec S16 32) a x).toNat < S160x240.size a := fun i k0_t1 v83 v328 k0_hw345 k0_h5 => k0_hw345 k0_h5

def k0_chk346 (i : grid0.Coords) (k0_t1 : Fin (k0_t1_loop i).trips) (v83 : IVec S16 32) (v338 : IVec S16 32) : Prop :=
  (∀ (k0_h5 : k0_cond5 i k0_t1 = 1#1), ∀ a x, ((![v83, v338] : Fin 2 → IVec S16 32) a x).toNat < S160x240.size a)
theorem k0_idx408_inb : ∀ (i : grid0.Coords) (k0_t1 : Fin (k0_t1_loop i).trips) (v83 : IVec S16 32) (v338 : IVec S16 32) (k0_hw346 : k0_chk346 i k0_t1 v83 v338), ∀ (k0_h5 : k0_cond5 i k0_t1 = 1#1), ∀ a x, ((![v83, v338] : Fin 2 → IVec S16 32) a x).toNat < S160x240.size a := fun i k0_t1 v83 v338 k0_hw346 k0_h5 => k0_hw346 k0_h5

def k0_chk347 (i : grid0.Coords) (k0_t1 : Fin (k0_t1_loop i).trips) (v83 : IVec S16 32) (v342 : IVec S16 32) : Prop :=
  (∀ (k0_h5 : k0_cond5 i k0_t1 = 1#1), ∀ a x, ((![v83, v342] : Fin 2 → IVec S16 32) a x).toNat < S160x240.size a)
theorem k0_idx409_inb : ∀ (i : grid0.Coords) (k0_t1 : Fin (k0_t1_loop i).trips) (v83 : IVec S16 32) (v342 : IVec S16 32) (k0_hw347 : k0_chk347 i k0_t1 v83 v342), ∀ (k0_h5 : k0_cond5 i k0_t1 = 1#1), ∀ a x, ((![v83, v342] : Fin 2 → IVec S16 32) a x).toNat < S160x240.size a := fun i k0_t1 v83 v342 k0_hw347 k0_h5 => k0_hw347 k0_h5

def k0_chk348 (i : grid0.Coords) (k0_t1 : Fin (k0_t1_loop i).trips) (v83 : IVec S16 32) (v335 : IVec S16 32) : Prop :=
  (∀ (k0_h5 : k0_cond5 i k0_t1 = 1#1), ∀ a x, ((![v335] : Fin 1 → IVec S16 32) a x).toNat < S48.size a) ∧
  (∀ (k0_h5 : k0_cond5 i k0_t1 = 1#1), ∀ a x, ((![v83, v335] : Fin 2 → IVec S16 32) a x).toNat < S160x48.size a)
theorem k0_idx410_inb : ∀ (i : grid0.Coords) (k0_t1 : Fin (k0_t1_loop i).trips) (v83 : IVec S16 32) (v335 : IVec S16 32) (k0_hw348 : k0_chk348 i k0_t1 v83 v335), ∀ (k0_h5 : k0_cond5 i k0_t1 = 1#1), ∀ a x, ((![v335] : Fin 1 → IVec S16 32) a x).toNat < S48.size a := fun i k0_t1 v83 v335 k0_hw348 k0_h5 => k0_hw348.1 k0_h5
theorem k0_idx411_inb : ∀ (i : grid0.Coords) (k0_t1 : Fin (k0_t1_loop i).trips) (v83 : IVec S16 32) (v335 : IVec S16 32) (k0_hw348 : k0_chk348 i k0_t1 v83 v335), ∀ (k0_h5 : k0_cond5 i k0_t1 = 1#1), ∀ a x, ((![v83, v335] : Fin 2 → IVec S16 32) a x).toNat < S160x48.size a := fun i k0_t1 v83 v335 k0_hw348 k0_h5 => k0_hw348.2 k0_h5

def k0_chk349 (i : grid0.Coords) (k0_t1 : Fin (k0_t1_loop i).trips) (v83 : IVec S16 32) (v346 : IVec S16 32) : Prop :=
  (∀ (k0_h5 : k0_cond5 i k0_t1 = 1#1), ∀ a x, ((![v83, v346] : Fin 2 → IVec S16 32) a x).toNat < S160x240.size a)
theorem k0_idx412_inb : ∀ (i : grid0.Coords) (k0_t1 : Fin (k0_t1_loop i).trips) (v83 : IVec S16 32) (v346 : IVec S16 32) (k0_hw349 : k0_chk349 i k0_t1 v83 v346), ∀ (k0_h5 : k0_cond5 i k0_t1 = 1#1), ∀ a x, ((![v83, v346] : Fin 2 → IVec S16 32) a x).toNat < S160x240.size a := fun i k0_t1 v83 v346 k0_hw349 k0_h5 => k0_hw349 k0_h5

def k0_chk350 (i : grid0.Coords) (k0_t1 : Fin (k0_t1_loop i).trips) (v83 : IVec S16 32) (v356 : IVec S16 32) : Prop :=
  (∀ (k0_h5 : k0_cond5 i k0_t1 = 1#1), ∀ a x, ((![v83, v356] : Fin 2 → IVec S16 32) a x).toNat < S160x240.size a)
theorem k0_idx413_inb : ∀ (i : grid0.Coords) (k0_t1 : Fin (k0_t1_loop i).trips) (v83 : IVec S16 32) (v356 : IVec S16 32) (k0_hw350 : k0_chk350 i k0_t1 v83 v356), ∀ (k0_h5 : k0_cond5 i k0_t1 = 1#1), ∀ a x, ((![v83, v356] : Fin 2 → IVec S16 32) a x).toNat < S160x240.size a := fun i k0_t1 v83 v356 k0_hw350 k0_h5 => k0_hw350 k0_h5

def k0_chk351 (i : grid0.Coords) (k0_t1 : Fin (k0_t1_loop i).trips) (v83 : IVec S16 32) (v360 : IVec S16 32) : Prop :=
  (∀ (k0_h5 : k0_cond5 i k0_t1 = 1#1), ∀ a x, ((![v83, v360] : Fin 2 → IVec S16 32) a x).toNat < S160x240.size a)
theorem k0_idx414_inb : ∀ (i : grid0.Coords) (k0_t1 : Fin (k0_t1_loop i).trips) (v83 : IVec S16 32) (v360 : IVec S16 32) (k0_hw351 : k0_chk351 i k0_t1 v83 v360), ∀ (k0_h5 : k0_cond5 i k0_t1 = 1#1), ∀ a x, ((![v83, v360] : Fin 2 → IVec S16 32) a x).toNat < S160x240.size a := fun i k0_t1 v83 v360 k0_hw351 k0_h5 => k0_hw351 k0_h5

def k0_chk352 (i : grid0.Coords) (k0_t1 : Fin (k0_t1_loop i).trips) (v83 : IVec S16 32) (v353 : IVec S16 32) : Prop :=
  (∀ (k0_h5 : k0_cond5 i k0_t1 = 1#1), ∀ a x, ((![v353] : Fin 1 → IVec S16 32) a x).toNat < S48.size a) ∧
  (∀ (k0_h5 : k0_cond5 i k0_t1 = 1#1), ∀ a x, ((![v83, v353] : Fin 2 → IVec S16 32) a x).toNat < S160x48.size a)
theorem k0_idx415_inb : ∀ (i : grid0.Coords) (k0_t1 : Fin (k0_t1_loop i).trips) (v83 : IVec S16 32) (v353 : IVec S16 32) (k0_hw352 : k0_chk352 i k0_t1 v83 v353), ∀ (k0_h5 : k0_cond5 i k0_t1 = 1#1), ∀ a x, ((![v353] : Fin 1 → IVec S16 32) a x).toNat < S48.size a := fun i k0_t1 v83 v353 k0_hw352 k0_h5 => k0_hw352.1 k0_h5
theorem k0_idx416_inb : ∀ (i : grid0.Coords) (k0_t1 : Fin (k0_t1_loop i).trips) (v83 : IVec S16 32) (v353 : IVec S16 32) (k0_hw352 : k0_chk352 i k0_t1 v83 v353), ∀ (k0_h5 : k0_cond5 i k0_t1 = 1#1), ∀ a x, ((![v83, v353] : Fin 2 → IVec S16 32) a x).toNat < S160x48.size a := fun i k0_t1 v83 v353 k0_hw352 k0_h5 => k0_hw352.2 k0_h5

def k0_chk353 (i : grid0.Coords) (k0_t1 : Fin (k0_t1_loop i).trips) (v83 : IVec S16 32) (v364 : IVec S16 32) : Prop :=
  (∀ (k0_h5 : k0_cond5 i k0_t1 = 1#1), ∀ a x, ((![v83, v364] : Fin 2 → IVec S16 32) a x).toNat < S160x240.size a)
theorem k0_idx417_inb : ∀ (i : grid0.Coords) (k0_t1 : Fin (k0_t1_loop i).trips) (v83 : IVec S16 32) (v364 : IVec S16 32) (k0_hw353 : k0_chk353 i k0_t1 v83 v364), ∀ (k0_h5 : k0_cond5 i k0_t1 = 1#1), ∀ a x, ((![v83, v364] : Fin 2 → IVec S16 32) a x).toNat < S160x240.size a := fun i k0_t1 v83 v364 k0_hw353 k0_h5 => k0_hw353 k0_h5

def k0_chk354 (i : grid0.Coords) (k0_t1 : Fin (k0_t1_loop i).trips) (v83 : IVec S16 32) (v374 : IVec S16 32) : Prop :=
  (∀ (k0_h5 : k0_cond5 i k0_t1 = 1#1), ∀ a x, ((![v83, v374] : Fin 2 → IVec S16 32) a x).toNat < S160x240.size a)
theorem k0_idx418_inb : ∀ (i : grid0.Coords) (k0_t1 : Fin (k0_t1_loop i).trips) (v83 : IVec S16 32) (v374 : IVec S16 32) (k0_hw354 : k0_chk354 i k0_t1 v83 v374), ∀ (k0_h5 : k0_cond5 i k0_t1 = 1#1), ∀ a x, ((![v83, v374] : Fin 2 → IVec S16 32) a x).toNat < S160x240.size a := fun i k0_t1 v83 v374 k0_hw354 k0_h5 => k0_hw354 k0_h5

def k0_chk355 (i : grid0.Coords) (k0_t1 : Fin (k0_t1_loop i).trips) (v83 : IVec S16 32) (v378 : IVec S16 32) : Prop :=
  (∀ (k0_h5 : k0_cond5 i k0_t1 = 1#1), ∀ a x, ((![v83, v378] : Fin 2 → IVec S16 32) a x).toNat < S160x240.size a)
theorem k0_idx419_inb : ∀ (i : grid0.Coords) (k0_t1 : Fin (k0_t1_loop i).trips) (v83 : IVec S16 32) (v378 : IVec S16 32) (k0_hw355 : k0_chk355 i k0_t1 v83 v378), ∀ (k0_h5 : k0_cond5 i k0_t1 = 1#1), ∀ a x, ((![v83, v378] : Fin 2 → IVec S16 32) a x).toNat < S160x240.size a := fun i k0_t1 v83 v378 k0_hw355 k0_h5 => k0_hw355 k0_h5

def k0_chk356 (i : grid0.Coords) (k0_t1 : Fin (k0_t1_loop i).trips) (v83 : IVec S16 32) (v382 : IVec S16 32) : Prop :=
  (∀ (k0_h5 : k0_cond5 i k0_t1 = 1#1), ∀ a x, ((![v83, v382] : Fin 2 → IVec S16 32) a x).toNat < S160x240.size a)
theorem k0_idx420_inb : ∀ (i : grid0.Coords) (k0_t1 : Fin (k0_t1_loop i).trips) (v83 : IVec S16 32) (v382 : IVec S16 32) (k0_hw356 : k0_chk356 i k0_t1 v83 v382), ∀ (k0_h5 : k0_cond5 i k0_t1 = 1#1), ∀ a x, ((![v83, v382] : Fin 2 → IVec S16 32) a x).toNat < S160x240.size a := fun i k0_t1 v83 v382 k0_hw356 k0_h5 => k0_hw356 k0_h5

def k0_chk357 (i : grid0.Coords) (k0_t1 : Fin (k0_t1_loop i).trips) (v83 : IVec S16 32) (v386 : IVec S16 32) : Prop :=
  (∀ (k0_h5 : k0_cond5 i k0_t1 = 1#1), ∀ a x, ((![v83, v386] : Fin 2 → IVec S16 32) a x).toNat < S160x240.size a)
theorem k0_idx421_inb : ∀ (i : grid0.Coords) (k0_t1 : Fin (k0_t1_loop i).trips) (v83 : IVec S16 32) (v386 : IVec S16 32) (k0_hw357 : k0_chk357 i k0_t1 v83 v386), ∀ (k0_h5 : k0_cond5 i k0_t1 = 1#1), ∀ a x, ((![v83, v386] : Fin 2 → IVec S16 32) a x).toNat < S160x240.size a := fun i k0_t1 v83 v386 k0_hw357 k0_h5 => k0_hw357 k0_h5

def k0_chk358 (i : grid0.Coords) (k0_t1 : Fin (k0_t1_loop i).trips) (v83 : IVec S16 32) (v371 : IVec S16 32) : Prop :=
  (∀ (k0_h5 : k0_cond5 i k0_t1 = 1#1), ∀ a x, ((![v371] : Fin 1 → IVec S16 32) a x).toNat < S48.size a) ∧
  (∀ (k0_h5 : k0_cond5 i k0_t1 = 1#1), ∀ a x, ((![v83, v371] : Fin 2 → IVec S16 32) a x).toNat < S160x48.size a)
theorem k0_idx422_inb : ∀ (i : grid0.Coords) (k0_t1 : Fin (k0_t1_loop i).trips) (v83 : IVec S16 32) (v371 : IVec S16 32) (k0_hw358 : k0_chk358 i k0_t1 v83 v371), ∀ (k0_h5 : k0_cond5 i k0_t1 = 1#1), ∀ a x, ((![v371] : Fin 1 → IVec S16 32) a x).toNat < S48.size a := fun i k0_t1 v83 v371 k0_hw358 k0_h5 => k0_hw358.1 k0_h5
theorem k0_idx423_inb : ∀ (i : grid0.Coords) (k0_t1 : Fin (k0_t1_loop i).trips) (v83 : IVec S16 32) (v371 : IVec S16 32) (k0_hw358 : k0_chk358 i k0_t1 v83 v371), ∀ (k0_h5 : k0_cond5 i k0_t1 = 1#1), ∀ a x, ((![v83, v371] : Fin 2 → IVec S16 32) a x).toNat < S160x48.size a := fun i k0_t1 v83 v371 k0_hw358 k0_h5 => k0_hw358.2 k0_h5

def k0_chk359 (i : grid0.Coords) (k0_t1 : Fin (k0_t1_loop i).trips) (v83 : IVec S16 32) (v390 : IVec S16 32) : Prop :=
  (∀ (k0_h5 : k0_cond5 i k0_t1 = 1#1), ∀ a x, ((![v83, v390] : Fin 2 → IVec S16 32) a x).toNat < S160x240.size a)
theorem k0_idx424_inb : ∀ (i : grid0.Coords) (k0_t1 : Fin (k0_t1_loop i).trips) (v83 : IVec S16 32) (v390 : IVec S16 32) (k0_hw359 : k0_chk359 i k0_t1 v83 v390), ∀ (k0_h5 : k0_cond5 i k0_t1 = 1#1), ∀ a x, ((![v83, v390] : Fin 2 → IVec S16 32) a x).toNat < S160x240.size a := fun i k0_t1 v83 v390 k0_hw359 k0_h5 => k0_hw359 k0_h5

def k0_chk360 (i : grid0.Coords) (k0_t1 : Fin (k0_t1_loop i).trips) (v83 : IVec S16 32) (v402 : IVec S16 32) : Prop :=
  (∀ (k0_h5 : k0_cond5 i k0_t1 = 1#1), ∀ a x, ((![v83, v402] : Fin 2 → IVec S16 32) a x).toNat < S160x240.size a)
theorem k0_idx425_inb : ∀ (i : grid0.Coords) (k0_t1 : Fin (k0_t1_loop i).trips) (v83 : IVec S16 32) (v402 : IVec S16 32) (k0_hw360 : k0_chk360 i k0_t1 v83 v402), ∀ (k0_h5 : k0_cond5 i k0_t1 = 1#1), ∀ a x, ((![v83, v402] : Fin 2 → IVec S16 32) a x).toNat < S160x240.size a := fun i k0_t1 v83 v402 k0_hw360 k0_h5 => k0_hw360 k0_h5

def k0_chk361 (i : grid0.Coords) (k0_t1 : Fin (k0_t1_loop i).trips) (v83 : IVec S16 32) (v406 : IVec S16 32) : Prop :=
  (∀ (k0_h5 : k0_cond5 i k0_t1 = 1#1), ∀ a x, ((![v83, v406] : Fin 2 → IVec S16 32) a x).toNat < S160x240.size a)
theorem k0_idx426_inb : ∀ (i : grid0.Coords) (k0_t1 : Fin (k0_t1_loop i).trips) (v83 : IVec S16 32) (v406 : IVec S16 32) (k0_hw361 : k0_chk361 i k0_t1 v83 v406), ∀ (k0_h5 : k0_cond5 i k0_t1 = 1#1), ∀ a x, ((![v83, v406] : Fin 2 → IVec S16 32) a x).toNat < S160x240.size a := fun i k0_t1 v83 v406 k0_hw361 k0_h5 => k0_hw361 k0_h5

def k0_chk362 (i : grid0.Coords) (k0_t1 : Fin (k0_t1_loop i).trips) (v83 : IVec S16 32) (v410 : IVec S16 32) : Prop :=
  (∀ (k0_h5 : k0_cond5 i k0_t1 = 1#1), ∀ a x, ((![v83, v410] : Fin 2 → IVec S16 32) a x).toNat < S160x240.size a)
theorem k0_idx427_inb : ∀ (i : grid0.Coords) (k0_t1 : Fin (k0_t1_loop i).trips) (v83 : IVec S16 32) (v410 : IVec S16 32) (k0_hw362 : k0_chk362 i k0_t1 v83 v410), ∀ (k0_h5 : k0_cond5 i k0_t1 = 1#1), ∀ a x, ((![v83, v410] : Fin 2 → IVec S16 32) a x).toNat < S160x240.size a := fun i k0_t1 v83 v410 k0_hw362 k0_h5 => k0_hw362 k0_h5

def k0_chk363 (i : grid0.Coords) (k0_t1 : Fin (k0_t1_loop i).trips) (v83 : IVec S16 32) (v414 : IVec S16 32) : Prop :=
  (∀ (k0_h5 : k0_cond5 i k0_t1 = 1#1), ∀ a x, ((![v83, v414] : Fin 2 → IVec S16 32) a x).toNat < S160x240.size a)
theorem k0_idx428_inb : ∀ (i : grid0.Coords) (k0_t1 : Fin (k0_t1_loop i).trips) (v83 : IVec S16 32) (v414 : IVec S16 32) (k0_hw363 : k0_chk363 i k0_t1 v83 v414), ∀ (k0_h5 : k0_cond5 i k0_t1 = 1#1), ∀ a x, ((![v83, v414] : Fin 2 → IVec S16 32) a x).toNat < S160x240.size a := fun i k0_t1 v83 v414 k0_hw363 k0_h5 => k0_hw363 k0_h5

def k0_chk364 (i : grid0.Coords) (k0_t1 : Fin (k0_t1_loop i).trips) (v83 : IVec S16 32) (v399 : IVec S16 32) : Prop :=
  (∀ (k0_h5 : k0_cond5 i k0_t1 = 1#1), ∀ a x, ((![v399] : Fin 1 → IVec S16 32) a x).toNat < S48.size a) ∧
  (∀ (k0_h5 : k0_cond5 i k0_t1 = 1#1), ∀ a x, ((![v83, v399] : Fin 2 → IVec S16 32) a x).toNat < S160x48.size a)
theorem k0_idx429_inb : ∀ (i : grid0.Coords) (k0_t1 : Fin (k0_t1_loop i).trips) (v83 : IVec S16 32) (v399 : IVec S16 32) (k0_hw364 : k0_chk364 i k0_t1 v83 v399), ∀ (k0_h5 : k0_cond5 i k0_t1 = 1#1), ∀ a x, ((![v399] : Fin 1 → IVec S16 32) a x).toNat < S48.size a := fun i k0_t1 v83 v399 k0_hw364 k0_h5 => k0_hw364.1 k0_h5
theorem k0_idx430_inb : ∀ (i : grid0.Coords) (k0_t1 : Fin (k0_t1_loop i).trips) (v83 : IVec S16 32) (v399 : IVec S16 32) (k0_hw364 : k0_chk364 i k0_t1 v83 v399), ∀ (k0_h5 : k0_cond5 i k0_t1 = 1#1), ∀ a x, ((![v83, v399] : Fin 2 → IVec S16 32) a x).toNat < S160x48.size a := fun i k0_t1 v83 v399 k0_hw364 k0_h5 => k0_hw364.2 k0_h5

def k0_chk365 (i : grid0.Coords) (k0_t1 : Fin (k0_t1_loop i).trips) (v83 : IVec S16 32) (v418 : IVec S16 32) : Prop :=
  (∀ (k0_h5 : k0_cond5 i k0_t1 = 1#1), ∀ a x, ((![v83, v418] : Fin 2 → IVec S16 32) a x).toNat < S160x240.size a)
theorem k0_idx431_inb : ∀ (i : grid0.Coords) (k0_t1 : Fin (k0_t1_loop i).trips) (v83 : IVec S16 32) (v418 : IVec S16 32) (k0_hw365 : k0_chk365 i k0_t1 v83 v418), ∀ (k0_h5 : k0_cond5 i k0_t1 = 1#1), ∀ a x, ((![v83, v418] : Fin 2 → IVec S16 32) a x).toNat < S160x240.size a := fun i k0_t1 v83 v418 k0_hw365 k0_h5 => k0_hw365 k0_h5

def k0_chk366 (i : grid0.Coords) (k0_t1 : Fin (k0_t1_loop i).trips) (v83 : IVec S16 32) (v430 : IVec S16 32) : Prop :=
  (∀ (k0_h5 : k0_cond5 i k0_t1 = 1#1), ∀ a x, ((![v83, v430] : Fin 2 → IVec S16 32) a x).toNat < S160x240.size a)
theorem k0_idx432_inb : ∀ (i : grid0.Coords) (k0_t1 : Fin (k0_t1_loop i).trips) (v83 : IVec S16 32) (v430 : IVec S16 32) (k0_hw366 : k0_chk366 i k0_t1 v83 v430), ∀ (k0_h5 : k0_cond5 i k0_t1 = 1#1), ∀ a x, ((![v83, v430] : Fin 2 → IVec S16 32) a x).toNat < S160x240.size a := fun i k0_t1 v83 v430 k0_hw366 k0_h5 => k0_hw366 k0_h5

def k0_chk367 (i : grid0.Coords) (k0_t1 : Fin (k0_t1_loop i).trips) (v83 : IVec S16 32) (v434 : IVec S16 32) : Prop :=
  (∀ (k0_h5 : k0_cond5 i k0_t1 = 1#1), ∀ a x, ((![v83, v434] : Fin 2 → IVec S16 32) a x).toNat < S160x240.size a)
theorem k0_idx433_inb : ∀ (i : grid0.Coords) (k0_t1 : Fin (k0_t1_loop i).trips) (v83 : IVec S16 32) (v434 : IVec S16 32) (k0_hw367 : k0_chk367 i k0_t1 v83 v434), ∀ (k0_h5 : k0_cond5 i k0_t1 = 1#1), ∀ a x, ((![v83, v434] : Fin 2 → IVec S16 32) a x).toNat < S160x240.size a := fun i k0_t1 v83 v434 k0_hw367 k0_h5 => k0_hw367 k0_h5

def k0_chk368 (i : grid0.Coords) (k0_t1 : Fin (k0_t1_loop i).trips) (v83 : IVec S16 32) (v438 : IVec S16 32) : Prop :=
  (∀ (k0_h5 : k0_cond5 i k0_t1 = 1#1), ∀ a x, ((![v83, v438] : Fin 2 → IVec S16 32) a x).toNat < S160x240.size a)
theorem k0_idx434_inb : ∀ (i : grid0.Coords) (k0_t1 : Fin (k0_t1_loop i).trips) (v83 : IVec S16 32) (v438 : IVec S16 32) (k0_hw368 : k0_chk368 i k0_t1 v83 v438), ∀ (k0_h5 : k0_cond5 i k0_t1 = 1#1), ∀ a x, ((![v83, v438] : Fin 2 → IVec S16 32) a x).toNat < S160x240.size a := fun i k0_t1 v83 v438 k0_hw368 k0_h5 => k0_hw368 k0_h5

def k0_chk369 (i : grid0.Coords) (k0_t1 : Fin (k0_t1_loop i).trips) (v83 : IVec S16 32) (v442 : IVec S16 32) : Prop :=
  (∀ (k0_h5 : k0_cond5 i k0_t1 = 1#1), ∀ a x, ((![v83, v442] : Fin 2 → IVec S16 32) a x).toNat < S160x240.size a)
theorem k0_idx435_inb : ∀ (i : grid0.Coords) (k0_t1 : Fin (k0_t1_loop i).trips) (v83 : IVec S16 32) (v442 : IVec S16 32) (k0_hw369 : k0_chk369 i k0_t1 v83 v442), ∀ (k0_h5 : k0_cond5 i k0_t1 = 1#1), ∀ a x, ((![v83, v442] : Fin 2 → IVec S16 32) a x).toNat < S160x240.size a := fun i k0_t1 v83 v442 k0_hw369 k0_h5 => k0_hw369 k0_h5

def k0_chk370 (i : grid0.Coords) (k0_t1 : Fin (k0_t1_loop i).trips) (v83 : IVec S16 32) (v427 : IVec S16 32) : Prop :=
  (∀ (k0_h5 : k0_cond5 i k0_t1 = 1#1), ∀ a x, ((![v427] : Fin 1 → IVec S16 32) a x).toNat < S48.size a) ∧
  (∀ (k0_h5 : k0_cond5 i k0_t1 = 1#1), ∀ a x, ((![v83, v427] : Fin 2 → IVec S16 32) a x).toNat < S160x48.size a)
theorem k0_idx436_inb : ∀ (i : grid0.Coords) (k0_t1 : Fin (k0_t1_loop i).trips) (v83 : IVec S16 32) (v427 : IVec S16 32) (k0_hw370 : k0_chk370 i k0_t1 v83 v427), ∀ (k0_h5 : k0_cond5 i k0_t1 = 1#1), ∀ a x, ((![v427] : Fin 1 → IVec S16 32) a x).toNat < S48.size a := fun i k0_t1 v83 v427 k0_hw370 k0_h5 => k0_hw370.1 k0_h5
theorem k0_idx437_inb : ∀ (i : grid0.Coords) (k0_t1 : Fin (k0_t1_loop i).trips) (v83 : IVec S16 32) (v427 : IVec S16 32) (k0_hw370 : k0_chk370 i k0_t1 v83 v427), ∀ (k0_h5 : k0_cond5 i k0_t1 = 1#1), ∀ a x, ((![v83, v427] : Fin 2 → IVec S16 32) a x).toNat < S160x48.size a := fun i k0_t1 v83 v427 k0_hw370 k0_h5 => k0_hw370.2 k0_h5

def k0_chk371 (i : grid0.Coords) (k0_t1 : Fin (k0_t1_loop i).trips) (v83 : IVec S16 32) (v446 : IVec S16 32) : Prop :=
  (∀ (k0_h5 : k0_cond5 i k0_t1 = 1#1), ∀ a x, ((![v83, v446] : Fin 2 → IVec S16 32) a x).toNat < S160x240.size a)
theorem k0_idx438_inb : ∀ (i : grid0.Coords) (k0_t1 : Fin (k0_t1_loop i).trips) (v83 : IVec S16 32) (v446 : IVec S16 32) (k0_hw371 : k0_chk371 i k0_t1 v83 v446), ∀ (k0_h5 : k0_cond5 i k0_t1 = 1#1), ∀ a x, ((![v83, v446] : Fin 2 → IVec S16 32) a x).toNat < S160x240.size a := fun i k0_t1 v83 v446 k0_hw371 k0_h5 => k0_hw371 k0_h5

def k0_chk372 (i : grid0.Coords) (k0_t1 : Fin (k0_t1_loop i).trips) (v83 : IVec S16 32) (v458 : IVec S16 32) : Prop :=
  (∀ (k0_h5 : k0_cond5 i k0_t1 = 1#1), ∀ a x, ((![v83, v458] : Fin 2 → IVec S16 32) a x).toNat < S160x240.size a)
theorem k0_idx439_inb : ∀ (i : grid0.Coords) (k0_t1 : Fin (k0_t1_loop i).trips) (v83 : IVec S16 32) (v458 : IVec S16 32) (k0_hw372 : k0_chk372 i k0_t1 v83 v458), ∀ (k0_h5 : k0_cond5 i k0_t1 = 1#1), ∀ a x, ((![v83, v458] : Fin 2 → IVec S16 32) a x).toNat < S160x240.size a := fun i k0_t1 v83 v458 k0_hw372 k0_h5 => k0_hw372 k0_h5

def k0_chk373 (i : grid0.Coords) (k0_t1 : Fin (k0_t1_loop i).trips) (v83 : IVec S16 32) (v462 : IVec S16 32) : Prop :=
  (∀ (k0_h5 : k0_cond5 i k0_t1 = 1#1), ∀ a x, ((![v83, v462] : Fin 2 → IVec S16 32) a x).toNat < S160x240.size a)
theorem k0_idx440_inb : ∀ (i : grid0.Coords) (k0_t1 : Fin (k0_t1_loop i).trips) (v83 : IVec S16 32) (v462 : IVec S16 32) (k0_hw373 : k0_chk373 i k0_t1 v83 v462), ∀ (k0_h5 : k0_cond5 i k0_t1 = 1#1), ∀ a x, ((![v83, v462] : Fin 2 → IVec S16 32) a x).toNat < S160x240.size a := fun i k0_t1 v83 v462 k0_hw373 k0_h5 => k0_hw373 k0_h5

def k0_chk374 (i : grid0.Coords) (k0_t1 : Fin (k0_t1_loop i).trips) (v83 : IVec S16 32) (v466 : IVec S16 32) : Prop :=
  (∀ (k0_h5 : k0_cond5 i k0_t1 = 1#1), ∀ a x, ((![v83, v466] : Fin 2 → IVec S16 32) a x).toNat < S160x240.size a)
theorem k0_idx441_inb : ∀ (i : grid0.Coords) (k0_t1 : Fin (k0_t1_loop i).trips) (v83 : IVec S16 32) (v466 : IVec S16 32) (k0_hw374 : k0_chk374 i k0_t1 v83 v466), ∀ (k0_h5 : k0_cond5 i k0_t1 = 1#1), ∀ a x, ((![v83, v466] : Fin 2 → IVec S16 32) a x).toNat < S160x240.size a := fun i k0_t1 v83 v466 k0_hw374 k0_h5 => k0_hw374 k0_h5

def k0_chk375 (i : grid0.Coords) (k0_t1 : Fin (k0_t1_loop i).trips) (v83 : IVec S16 32) (v470 : IVec S16 32) : Prop :=
  (∀ (k0_h5 : k0_cond5 i k0_t1 = 1#1), ∀ a x, ((![v83, v470] : Fin 2 → IVec S16 32) a x).toNat < S160x240.size a)
theorem k0_idx442_inb : ∀ (i : grid0.Coords) (k0_t1 : Fin (k0_t1_loop i).trips) (v83 : IVec S16 32) (v470 : IVec S16 32) (k0_hw375 : k0_chk375 i k0_t1 v83 v470), ∀ (k0_h5 : k0_cond5 i k0_t1 = 1#1), ∀ a x, ((![v83, v470] : Fin 2 → IVec S16 32) a x).toNat < S160x240.size a := fun i k0_t1 v83 v470 k0_hw375 k0_h5 => k0_hw375 k0_h5

def k0_chk376 (i : grid0.Coords) (k0_t1 : Fin (k0_t1_loop i).trips) (v83 : IVec S16 32) (v455 : IVec S16 32) : Prop :=
  (∀ (k0_h5 : k0_cond5 i k0_t1 = 1#1), ∀ a x, ((![v455] : Fin 1 → IVec S16 32) a x).toNat < S48.size a) ∧
  (∀ (k0_h5 : k0_cond5 i k0_t1 = 1#1), ∀ a x, ((![v83, v455] : Fin 2 → IVec S16 32) a x).toNat < S160x48.size a)
theorem k0_idx443_inb : ∀ (i : grid0.Coords) (k0_t1 : Fin (k0_t1_loop i).trips) (v83 : IVec S16 32) (v455 : IVec S16 32) (k0_hw376 : k0_chk376 i k0_t1 v83 v455), ∀ (k0_h5 : k0_cond5 i k0_t1 = 1#1), ∀ a x, ((![v455] : Fin 1 → IVec S16 32) a x).toNat < S48.size a := fun i k0_t1 v83 v455 k0_hw376 k0_h5 => k0_hw376.1 k0_h5
theorem k0_idx444_inb : ∀ (i : grid0.Coords) (k0_t1 : Fin (k0_t1_loop i).trips) (v83 : IVec S16 32) (v455 : IVec S16 32) (k0_hw376 : k0_chk376 i k0_t1 v83 v455), ∀ (k0_h5 : k0_cond5 i k0_t1 = 1#1), ∀ a x, ((![v83, v455] : Fin 2 → IVec S16 32) a x).toNat < S160x48.size a := fun i k0_t1 v83 v455 k0_hw376 k0_h5 => k0_hw376.2 k0_h5

def k0_chk377 (i : grid0.Coords) (k0_t1 : Fin (k0_t1_loop i).trips) (v83 : IVec S16 32) (v474 : IVec S16 32) : Prop :=
  (∀ (k0_h5 : k0_cond5 i k0_t1 = 1#1), ∀ a x, ((![v83, v474] : Fin 2 → IVec S16 32) a x).toNat < S160x240.size a)
theorem k0_idx445_inb : ∀ (i : grid0.Coords) (k0_t1 : Fin (k0_t1_loop i).trips) (v83 : IVec S16 32) (v474 : IVec S16 32) (k0_hw377 : k0_chk377 i k0_t1 v83 v474), ∀ (k0_h5 : k0_cond5 i k0_t1 = 1#1), ∀ a x, ((![v83, v474] : Fin 2 → IVec S16 32) a x).toNat < S160x240.size a := fun i k0_t1 v83 v474 k0_hw377 k0_h5 => k0_hw377 k0_h5

def k0_chk378 (i : grid0.Coords) (k0_t1 : Fin (k0_t1_loop i).trips) (v83 : IVec S16 32) (v486 : IVec S16 32) : Prop :=
  (∀ (k0_h5 : k0_cond5 i k0_t1 = 1#1), ∀ a x, ((![v83, v486] : Fin 2 → IVec S16 32) a x).toNat < S160x240.size a)
theorem k0_idx446_inb : ∀ (i : grid0.Coords) (k0_t1 : Fin (k0_t1_loop i).trips) (v83 : IVec S16 32) (v486 : IVec S16 32) (k0_hw378 : k0_chk378 i k0_t1 v83 v486), ∀ (k0_h5 : k0_cond5 i k0_t1 = 1#1), ∀ a x, ((![v83, v486] : Fin 2 → IVec S16 32) a x).toNat < S160x240.size a := fun i k0_t1 v83 v486 k0_hw378 k0_h5 => k0_hw378 k0_h5

def k0_chk379 (i : grid0.Coords) (k0_t1 : Fin (k0_t1_loop i).trips) (v83 : IVec S16 32) (v490 : IVec S16 32) : Prop :=
  (∀ (k0_h5 : k0_cond5 i k0_t1 = 1#1), ∀ a x, ((![v83, v490] : Fin 2 → IVec S16 32) a x).toNat < S160x240.size a)
theorem k0_idx447_inb : ∀ (i : grid0.Coords) (k0_t1 : Fin (k0_t1_loop i).trips) (v83 : IVec S16 32) (v490 : IVec S16 32) (k0_hw379 : k0_chk379 i k0_t1 v83 v490), ∀ (k0_h5 : k0_cond5 i k0_t1 = 1#1), ∀ a x, ((![v83, v490] : Fin 2 → IVec S16 32) a x).toNat < S160x240.size a := fun i k0_t1 v83 v490 k0_hw379 k0_h5 => k0_hw379 k0_h5

def k0_chk380 (i : grid0.Coords) (k0_t1 : Fin (k0_t1_loop i).trips) (v83 : IVec S16 32) (v494 : IVec S16 32) : Prop :=
  (∀ (k0_h5 : k0_cond5 i k0_t1 = 1#1), ∀ a x, ((![v83, v494] : Fin 2 → IVec S16 32) a x).toNat < S160x240.size a)
theorem k0_idx448_inb : ∀ (i : grid0.Coords) (k0_t1 : Fin (k0_t1_loop i).trips) (v83 : IVec S16 32) (v494 : IVec S16 32) (k0_hw380 : k0_chk380 i k0_t1 v83 v494), ∀ (k0_h5 : k0_cond5 i k0_t1 = 1#1), ∀ a x, ((![v83, v494] : Fin 2 → IVec S16 32) a x).toNat < S160x240.size a := fun i k0_t1 v83 v494 k0_hw380 k0_h5 => k0_hw380 k0_h5

def k0_chk381 (i : grid0.Coords) (k0_t1 : Fin (k0_t1_loop i).trips) (v83 : IVec S16 32) (v498 : IVec S16 32) : Prop :=
  (∀ (k0_h5 : k0_cond5 i k0_t1 = 1#1), ∀ a x, ((![v83, v498] : Fin 2 → IVec S16 32) a x).toNat < S160x240.size a)
theorem k0_idx449_inb : ∀ (i : grid0.Coords) (k0_t1 : Fin (k0_t1_loop i).trips) (v83 : IVec S16 32) (v498 : IVec S16 32) (k0_hw381 : k0_chk381 i k0_t1 v83 v498), ∀ (k0_h5 : k0_cond5 i k0_t1 = 1#1), ∀ a x, ((![v83, v498] : Fin 2 → IVec S16 32) a x).toNat < S160x240.size a := fun i k0_t1 v83 v498 k0_hw381 k0_h5 => k0_hw381 k0_h5

def k0_chk382 (i : grid0.Coords) (k0_t1 : Fin (k0_t1_loop i).trips) (v83 : IVec S16 32) (v483 : IVec S16 32) : Prop :=
  (∀ (k0_h5 : k0_cond5 i k0_t1 = 1#1), ∀ a x, ((![v483] : Fin 1 → IVec S16 32) a x).toNat < S48.size a) ∧
  (∀ (k0_h5 : k0_cond5 i k0_t1 = 1#1), ∀ a x, ((![v83, v483] : Fin 2 → IVec S16 32) a x).toNat < S160x48.size a)
theorem k0_idx450_inb : ∀ (i : grid0.Coords) (k0_t1 : Fin (k0_t1_loop i).trips) (v83 : IVec S16 32) (v483 : IVec S16 32) (k0_hw382 : k0_chk382 i k0_t1 v83 v483), ∀ (k0_h5 : k0_cond5 i k0_t1 = 1#1), ∀ a x, ((![v483] : Fin 1 → IVec S16 32) a x).toNat < S48.size a := fun i k0_t1 v83 v483 k0_hw382 k0_h5 => k0_hw382.1 k0_h5
theorem k0_idx451_inb : ∀ (i : grid0.Coords) (k0_t1 : Fin (k0_t1_loop i).trips) (v83 : IVec S16 32) (v483 : IVec S16 32) (k0_hw382 : k0_chk382 i k0_t1 v83 v483), ∀ (k0_h5 : k0_cond5 i k0_t1 = 1#1), ∀ a x, ((![v83, v483] : Fin 2 → IVec S16 32) a x).toNat < S160x48.size a := fun i k0_t1 v83 v483 k0_hw382 k0_h5 => k0_hw382.2 k0_h5

def k0_chk383 (i : grid0.Coords) (k0_t1 : Fin (k0_t1_loop i).trips) (v83 : IVec S16 32) (v502 : IVec S16 32) : Prop :=
  (∀ (k0_h5 : k0_cond5 i k0_t1 = 1#1), ∀ a x, ((![v83, v502] : Fin 2 → IVec S16 32) a x).toNat < S160x240.size a)
theorem k0_idx452_inb : ∀ (i : grid0.Coords) (k0_t1 : Fin (k0_t1_loop i).trips) (v83 : IVec S16 32) (v502 : IVec S16 32) (k0_hw383 : k0_chk383 i k0_t1 v83 v502), ∀ (k0_h5 : k0_cond5 i k0_t1 = 1#1), ∀ a x, ((![v83, v502] : Fin 2 → IVec S16 32) a x).toNat < S160x240.size a := fun i k0_t1 v83 v502 k0_hw383 k0_h5 => k0_hw383 k0_h5

def k0_chk384 (i : grid0.Coords) (k0_t1 : Fin (k0_t1_loop i).trips) (v83 : IVec S16 32) (v514 : IVec S16 32) : Prop :=
  (∀ (k0_h5 : k0_cond5 i k0_t1 = 1#1), ∀ a x, ((![v83, v514] : Fin 2 → IVec S16 32) a x).toNat < S160x240.size a)
theorem k0_idx453_inb : ∀ (i : grid0.Coords) (k0_t1 : Fin (k0_t1_loop i).trips) (v83 : IVec S16 32) (v514 : IVec S16 32) (k0_hw384 : k0_chk384 i k0_t1 v83 v514), ∀ (k0_h5 : k0_cond5 i k0_t1 = 1#1), ∀ a x, ((![v83, v514] : Fin 2 → IVec S16 32) a x).toNat < S160x240.size a := fun i k0_t1 v83 v514 k0_hw384 k0_h5 => k0_hw384 k0_h5

def k0_chk385 (i : grid0.Coords) (k0_t1 : Fin (k0_t1_loop i).trips) (v83 : IVec S16 32) (v518 : IVec S16 32) : Prop :=
  (∀ (k0_h5 : k0_cond5 i k0_t1 = 1#1), ∀ a x, ((![v83, v518] : Fin 2 → IVec S16 32) a x).toNat < S160x240.size a)
theorem k0_idx454_inb : ∀ (i : grid0.Coords) (k0_t1 : Fin (k0_t1_loop i).trips) (v83 : IVec S16 32) (v518 : IVec S16 32) (k0_hw385 : k0_chk385 i k0_t1 v83 v518), ∀ (k0_h5 : k0_cond5 i k0_t1 = 1#1), ∀ a x, ((![v83, v518] : Fin 2 → IVec S16 32) a x).toNat < S160x240.size a := fun i k0_t1 v83 v518 k0_hw385 k0_h5 => k0_hw385 k0_h5

def k0_chk386 (i : grid0.Coords) (k0_t1 : Fin (k0_t1_loop i).trips) (v83 : IVec S16 32) (v522 : IVec S16 32) : Prop :=
  (∀ (k0_h5 : k0_cond5 i k0_t1 = 1#1), ∀ a x, ((![v83, v522] : Fin 2 → IVec S16 32) a x).toNat < S160x240.size a)
theorem k0_idx455_inb : ∀ (i : grid0.Coords) (k0_t1 : Fin (k0_t1_loop i).trips) (v83 : IVec S16 32) (v522 : IVec S16 32) (k0_hw386 : k0_chk386 i k0_t1 v83 v522), ∀ (k0_h5 : k0_cond5 i k0_t1 = 1#1), ∀ a x, ((![v83, v522] : Fin 2 → IVec S16 32) a x).toNat < S160x240.size a := fun i k0_t1 v83 v522 k0_hw386 k0_h5 => k0_hw386 k0_h5

def k0_chk387 (i : grid0.Coords) (k0_t1 : Fin (k0_t1_loop i).trips) (v83 : IVec S16 32) (v526 : IVec S16 32) : Prop :=
  (∀ (k0_h5 : k0_cond5 i k0_t1 = 1#1), ∀ a x, ((![v83, v526] : Fin 2 → IVec S16 32) a x).toNat < S160x240.size a)
theorem k0_idx456_inb : ∀ (i : grid0.Coords) (k0_t1 : Fin (k0_t1_loop i).trips) (v83 : IVec S16 32) (v526 : IVec S16 32) (k0_hw387 : k0_chk387 i k0_t1 v83 v526), ∀ (k0_h5 : k0_cond5 i k0_t1 = 1#1), ∀ a x, ((![v83, v526] : Fin 2 → IVec S16 32) a x).toNat < S160x240.size a := fun i k0_t1 v83 v526 k0_hw387 k0_h5 => k0_hw387 k0_h5

def k0_chk388 (i : grid0.Coords) (k0_t1 : Fin (k0_t1_loop i).trips) (v83 : IVec S16 32) (v511 : IVec S16 32) : Prop :=
  (∀ (k0_h5 : k0_cond5 i k0_t1 = 1#1), ∀ a x, ((![v511] : Fin 1 → IVec S16 32) a x).toNat < S48.size a) ∧
  (∀ (k0_h5 : k0_cond5 i k0_t1 = 1#1), ∀ a x, ((![v83, v511] : Fin 2 → IVec S16 32) a x).toNat < S160x48.size a)
theorem k0_idx457_inb : ∀ (i : grid0.Coords) (k0_t1 : Fin (k0_t1_loop i).trips) (v83 : IVec S16 32) (v511 : IVec S16 32) (k0_hw388 : k0_chk388 i k0_t1 v83 v511), ∀ (k0_h5 : k0_cond5 i k0_t1 = 1#1), ∀ a x, ((![v511] : Fin 1 → IVec S16 32) a x).toNat < S48.size a := fun i k0_t1 v83 v511 k0_hw388 k0_h5 => k0_hw388.1 k0_h5
theorem k0_idx458_inb : ∀ (i : grid0.Coords) (k0_t1 : Fin (k0_t1_loop i).trips) (v83 : IVec S16 32) (v511 : IVec S16 32) (k0_hw388 : k0_chk388 i k0_t1 v83 v511), ∀ (k0_h5 : k0_cond5 i k0_t1 = 1#1), ∀ a x, ((![v83, v511] : Fin 2 → IVec S16 32) a x).toNat < S160x48.size a := fun i k0_t1 v83 v511 k0_hw388 k0_h5 => k0_hw388.2 k0_h5

def k0_chk389 (i : grid0.Coords) (k0_t1 : Fin (k0_t1_loop i).trips) (v83 : IVec S16 32) (v530 : IVec S16 32) : Prop :=
  (∀ (k0_h5 : k0_cond5 i k0_t1 = 1#1), ∀ a x, ((![v83, v530] : Fin 2 → IVec S16 32) a x).toNat < S160x240.size a)
theorem k0_idx459_inb : ∀ (i : grid0.Coords) (k0_t1 : Fin (k0_t1_loop i).trips) (v83 : IVec S16 32) (v530 : IVec S16 32) (k0_hw389 : k0_chk389 i k0_t1 v83 v530), ∀ (k0_h5 : k0_cond5 i k0_t1 = 1#1), ∀ a x, ((![v83, v530] : Fin 2 → IVec S16 32) a x).toNat < S160x240.size a := fun i k0_t1 v83 v530 k0_hw389 k0_h5 => k0_hw389 k0_h5

def k0_chk390 (i : grid0.Coords) (k0_t1 : Fin (k0_t1_loop i).trips) (v83 : IVec S16 32) (v542 : IVec S16 32) : Prop :=
  (∀ (k0_h5 : k0_cond5 i k0_t1 = 1#1), ∀ a x, ((![v83, v542] : Fin 2 → IVec S16 32) a x).toNat < S160x240.size a)
theorem k0_idx460_inb : ∀ (i : grid0.Coords) (k0_t1 : Fin (k0_t1_loop i).trips) (v83 : IVec S16 32) (v542 : IVec S16 32) (k0_hw390 : k0_chk390 i k0_t1 v83 v542), ∀ (k0_h5 : k0_cond5 i k0_t1 = 1#1), ∀ a x, ((![v83, v542] : Fin 2 → IVec S16 32) a x).toNat < S160x240.size a := fun i k0_t1 v83 v542 k0_hw390 k0_h5 => k0_hw390 k0_h5

def k0_chk391 (i : grid0.Coords) (k0_t1 : Fin (k0_t1_loop i).trips) (v83 : IVec S16 32) (v546 : IVec S16 32) : Prop :=
  (∀ (k0_h5 : k0_cond5 i k0_t1 = 1#1), ∀ a x, ((![v83, v546] : Fin 2 → IVec S16 32) a x).toNat < S160x240.size a)
theorem k0_idx461_inb : ∀ (i : grid0.Coords) (k0_t1 : Fin (k0_t1_loop i).trips) (v83 : IVec S16 32) (v546 : IVec S16 32) (k0_hw391 : k0_chk391 i k0_t1 v83 v546), ∀ (k0_h5 : k0_cond5 i k0_t1 = 1#1), ∀ a x, ((![v83, v546] : Fin 2 → IVec S16 32) a x).toNat < S160x240.size a := fun i k0_t1 v83 v546 k0_hw391 k0_h5 => k0_hw391 k0_h5

def k0_chk392 (i : grid0.Coords) (k0_t1 : Fin (k0_t1_loop i).trips) (v83 : IVec S16 32) (v550 : IVec S16 32) : Prop :=
  (∀ (k0_h5 : k0_cond5 i k0_t1 = 1#1), ∀ a x, ((![v83, v550] : Fin 2 → IVec S16 32) a x).toNat < S160x240.size a)
theorem k0_idx462_inb : ∀ (i : grid0.Coords) (k0_t1 : Fin (k0_t1_loop i).trips) (v83 : IVec S16 32) (v550 : IVec S16 32) (k0_hw392 : k0_chk392 i k0_t1 v83 v550), ∀ (k0_h5 : k0_cond5 i k0_t1 = 1#1), ∀ a x, ((![v83, v550] : Fin 2 → IVec S16 32) a x).toNat < S160x240.size a := fun i k0_t1 v83 v550 k0_hw392 k0_h5 => k0_hw392 k0_h5

def k0_chk393 (i : grid0.Coords) (k0_t1 : Fin (k0_t1_loop i).trips) (v83 : IVec S16 32) (v554 : IVec S16 32) : Prop :=
  (∀ (k0_h5 : k0_cond5 i k0_t1 = 1#1), ∀ a x, ((![v83, v554] : Fin 2 → IVec S16 32) a x).toNat < S160x240.size a)
theorem k0_idx463_inb : ∀ (i : grid0.Coords) (k0_t1 : Fin (k0_t1_loop i).trips) (v83 : IVec S16 32) (v554 : IVec S16 32) (k0_hw393 : k0_chk393 i k0_t1 v83 v554), ∀ (k0_h5 : k0_cond5 i k0_t1 = 1#1), ∀ a x, ((![v83, v554] : Fin 2 → IVec S16 32) a x).toNat < S160x240.size a := fun i k0_t1 v83 v554 k0_hw393 k0_h5 => k0_hw393 k0_h5

def k0_chk394 (i : grid0.Coords) (k0_t1 : Fin (k0_t1_loop i).trips) (v83 : IVec S16 32) (v539 : IVec S16 32) : Prop :=
  (∀ (k0_h5 : k0_cond5 i k0_t1 = 1#1), ∀ a x, ((![v539] : Fin 1 → IVec S16 32) a x).toNat < S48.size a) ∧
  (∀ (k0_h5 : k0_cond5 i k0_t1 = 1#1), ∀ a x, ((![v83, v539] : Fin 2 → IVec S16 32) a x).toNat < S160x48.size a)
theorem k0_idx464_inb : ∀ (i : grid0.Coords) (k0_t1 : Fin (k0_t1_loop i).trips) (v83 : IVec S16 32) (v539 : IVec S16 32) (k0_hw394 : k0_chk394 i k0_t1 v83 v539), ∀ (k0_h5 : k0_cond5 i k0_t1 = 1#1), ∀ a x, ((![v539] : Fin 1 → IVec S16 32) a x).toNat < S48.size a := fun i k0_t1 v83 v539 k0_hw394 k0_h5 => k0_hw394.1 k0_h5
theorem k0_idx465_inb : ∀ (i : grid0.Coords) (k0_t1 : Fin (k0_t1_loop i).trips) (v83 : IVec S16 32) (v539 : IVec S16 32) (k0_hw394 : k0_chk394 i k0_t1 v83 v539), ∀ (k0_h5 : k0_cond5 i k0_t1 = 1#1), ∀ a x, ((![v83, v539] : Fin 2 → IVec S16 32) a x).toNat < S160x48.size a := fun i k0_t1 v83 v539 k0_hw394 k0_h5 => k0_hw394.2 k0_h5

def k0_chk395 (i : grid0.Coords) (k0_t1 : Fin (k0_t1_loop i).trips) (v83 : IVec S16 32) (v558 : IVec S16 32) : Prop :=
  (∀ (k0_h5 : k0_cond5 i k0_t1 = 1#1), ∀ a x, ((![v83, v558] : Fin 2 → IVec S16 32) a x).toNat < S160x240.size a)
theorem k0_idx466_inb : ∀ (i : grid0.Coords) (k0_t1 : Fin (k0_t1_loop i).trips) (v83 : IVec S16 32) (v558 : IVec S16 32) (k0_hw395 : k0_chk395 i k0_t1 v83 v558), ∀ (k0_h5 : k0_cond5 i k0_t1 = 1#1), ∀ a x, ((![v83, v558] : Fin 2 → IVec S16 32) a x).toNat < S160x240.size a := fun i k0_t1 v83 v558 k0_hw395 k0_h5 => k0_hw395 k0_h5

def k0_chk396 (i : grid0.Coords) (k0_t1 : Fin (k0_t1_loop i).trips) (v83 : IVec S16 32) (v570 : IVec S16 32) : Prop :=
  (∀ (k0_h5 : k0_cond5 i k0_t1 = 1#1), ∀ a x, ((![v83, v570] : Fin 2 → IVec S16 32) a x).toNat < S160x240.size a)
theorem k0_idx467_inb : ∀ (i : grid0.Coords) (k0_t1 : Fin (k0_t1_loop i).trips) (v83 : IVec S16 32) (v570 : IVec S16 32) (k0_hw396 : k0_chk396 i k0_t1 v83 v570), ∀ (k0_h5 : k0_cond5 i k0_t1 = 1#1), ∀ a x, ((![v83, v570] : Fin 2 → IVec S16 32) a x).toNat < S160x240.size a := fun i k0_t1 v83 v570 k0_hw396 k0_h5 => k0_hw396 k0_h5

def k0_chk397 (i : grid0.Coords) (k0_t1 : Fin (k0_t1_loop i).trips) (v83 : IVec S16 32) (v574 : IVec S16 32) : Prop :=
  (∀ (k0_h5 : k0_cond5 i k0_t1 = 1#1), ∀ a x, ((![v83, v574] : Fin 2 → IVec S16 32) a x).toNat < S160x240.size a)
theorem k0_idx468_inb : ∀ (i : grid0.Coords) (k0_t1 : Fin (k0_t1_loop i).trips) (v83 : IVec S16 32) (v574 : IVec S16 32) (k0_hw397 : k0_chk397 i k0_t1 v83 v574), ∀ (k0_h5 : k0_cond5 i k0_t1 = 1#1), ∀ a x, ((![v83, v574] : Fin 2 → IVec S16 32) a x).toNat < S160x240.size a := fun i k0_t1 v83 v574 k0_hw397 k0_h5 => k0_hw397 k0_h5

def k0_chk398 (i : grid0.Coords) (k0_t1 : Fin (k0_t1_loop i).trips) (v83 : IVec S16 32) (v578 : IVec S16 32) : Prop :=
  (∀ (k0_h5 : k0_cond5 i k0_t1 = 1#1), ∀ a x, ((![v83, v578] : Fin 2 → IVec S16 32) a x).toNat < S160x240.size a)
theorem k0_idx469_inb : ∀ (i : grid0.Coords) (k0_t1 : Fin (k0_t1_loop i).trips) (v83 : IVec S16 32) (v578 : IVec S16 32) (k0_hw398 : k0_chk398 i k0_t1 v83 v578), ∀ (k0_h5 : k0_cond5 i k0_t1 = 1#1), ∀ a x, ((![v83, v578] : Fin 2 → IVec S16 32) a x).toNat < S160x240.size a := fun i k0_t1 v83 v578 k0_hw398 k0_h5 => k0_hw398 k0_h5

def k0_chk399 (i : grid0.Coords) (k0_t1 : Fin (k0_t1_loop i).trips) (v83 : IVec S16 32) (v582 : IVec S16 32) : Prop :=
  (∀ (k0_h5 : k0_cond5 i k0_t1 = 1#1), ∀ a x, ((![v83, v582] : Fin 2 → IVec S16 32) a x).toNat < S160x240.size a)
theorem k0_idx470_inb : ∀ (i : grid0.Coords) (k0_t1 : Fin (k0_t1_loop i).trips) (v83 : IVec S16 32) (v582 : IVec S16 32) (k0_hw399 : k0_chk399 i k0_t1 v83 v582), ∀ (k0_h5 : k0_cond5 i k0_t1 = 1#1), ∀ a x, ((![v83, v582] : Fin 2 → IVec S16 32) a x).toNat < S160x240.size a := fun i k0_t1 v83 v582 k0_hw399 k0_h5 => k0_hw399 k0_h5

def k0_chk400 (i : grid0.Coords) (k0_t1 : Fin (k0_t1_loop i).trips) (v83 : IVec S16 32) (v567 : IVec S16 32) : Prop :=
  (∀ (k0_h5 : k0_cond5 i k0_t1 = 1#1), ∀ a x, ((![v567] : Fin 1 → IVec S16 32) a x).toNat < S48.size a) ∧
  (∀ (k0_h5 : k0_cond5 i k0_t1 = 1#1), ∀ a x, ((![v83, v567] : Fin 2 → IVec S16 32) a x).toNat < S160x48.size a)
theorem k0_idx471_inb : ∀ (i : grid0.Coords) (k0_t1 : Fin (k0_t1_loop i).trips) (v83 : IVec S16 32) (v567 : IVec S16 32) (k0_hw400 : k0_chk400 i k0_t1 v83 v567), ∀ (k0_h5 : k0_cond5 i k0_t1 = 1#1), ∀ a x, ((![v567] : Fin 1 → IVec S16 32) a x).toNat < S48.size a := fun i k0_t1 v83 v567 k0_hw400 k0_h5 => k0_hw400.1 k0_h5
theorem k0_idx472_inb : ∀ (i : grid0.Coords) (k0_t1 : Fin (k0_t1_loop i).trips) (v83 : IVec S16 32) (v567 : IVec S16 32) (k0_hw400 : k0_chk400 i k0_t1 v83 v567), ∀ (k0_h5 : k0_cond5 i k0_t1 = 1#1), ∀ a x, ((![v83, v567] : Fin 2 → IVec S16 32) a x).toNat < S160x48.size a := fun i k0_t1 v83 v567 k0_hw400 k0_h5 => k0_hw400.2 k0_h5

def k0_chk401 (i : grid0.Coords) (k0_t1 : Fin (k0_t1_loop i).trips) (v83 : IVec S16 32) (v586 : IVec S16 32) : Prop :=
  (∀ (k0_h5 : k0_cond5 i k0_t1 = 1#1), ∀ a x, ((![v83, v586] : Fin 2 → IVec S16 32) a x).toNat < S160x240.size a)
theorem k0_idx473_inb : ∀ (i : grid0.Coords) (k0_t1 : Fin (k0_t1_loop i).trips) (v83 : IVec S16 32) (v586 : IVec S16 32) (k0_hw401 : k0_chk401 i k0_t1 v83 v586), ∀ (k0_h5 : k0_cond5 i k0_t1 = 1#1), ∀ a x, ((![v83, v586] : Fin 2 → IVec S16 32) a x).toNat < S160x240.size a := fun i k0_t1 v83 v586 k0_hw401 k0_h5 => k0_hw401 k0_h5

def k0_chk402 (i : grid0.Coords) (k0_t1 : Fin (k0_t1_loop i).trips) (v83 : IVec S16 32) (v598 : IVec S16 32) : Prop :=
  (∀ (k0_h5 : k0_cond5 i k0_t1 = 1#1), ∀ a x, ((![v83, v598] : Fin 2 → IVec S16 32) a x).toNat < S160x240.size a)
theorem k0_idx474_inb : ∀ (i : grid0.Coords) (k0_t1 : Fin (k0_t1_loop i).trips) (v83 : IVec S16 32) (v598 : IVec S16 32) (k0_hw402 : k0_chk402 i k0_t1 v83 v598), ∀ (k0_h5 : k0_cond5 i k0_t1 = 1#1), ∀ a x, ((![v83, v598] : Fin 2 → IVec S16 32) a x).toNat < S160x240.size a := fun i k0_t1 v83 v598 k0_hw402 k0_h5 => k0_hw402 k0_h5

def k0_chk403 (i : grid0.Coords) (k0_t1 : Fin (k0_t1_loop i).trips) (v83 : IVec S16 32) (v602 : IVec S16 32) : Prop :=
  (∀ (k0_h5 : k0_cond5 i k0_t1 = 1#1), ∀ a x, ((![v83, v602] : Fin 2 → IVec S16 32) a x).toNat < S160x240.size a)
theorem k0_idx475_inb : ∀ (i : grid0.Coords) (k0_t1 : Fin (k0_t1_loop i).trips) (v83 : IVec S16 32) (v602 : IVec S16 32) (k0_hw403 : k0_chk403 i k0_t1 v83 v602), ∀ (k0_h5 : k0_cond5 i k0_t1 = 1#1), ∀ a x, ((![v83, v602] : Fin 2 → IVec S16 32) a x).toNat < S160x240.size a := fun i k0_t1 v83 v602 k0_hw403 k0_h5 => k0_hw403 k0_h5

def k0_chk404 (i : grid0.Coords) (k0_t1 : Fin (k0_t1_loop i).trips) (v83 : IVec S16 32) (v606 : IVec S16 32) : Prop :=
  (∀ (k0_h5 : k0_cond5 i k0_t1 = 1#1), ∀ a x, ((![v83, v606] : Fin 2 → IVec S16 32) a x).toNat < S160x240.size a)
theorem k0_idx476_inb : ∀ (i : grid0.Coords) (k0_t1 : Fin (k0_t1_loop i).trips) (v83 : IVec S16 32) (v606 : IVec S16 32) (k0_hw404 : k0_chk404 i k0_t1 v83 v606), ∀ (k0_h5 : k0_cond5 i k0_t1 = 1#1), ∀ a x, ((![v83, v606] : Fin 2 → IVec S16 32) a x).toNat < S160x240.size a := fun i k0_t1 v83 v606 k0_hw404 k0_h5 => k0_hw404 k0_h5

def k0_chk405 (i : grid0.Coords) (k0_t1 : Fin (k0_t1_loop i).trips) (v83 : IVec S16 32) (v610 : IVec S16 32) : Prop :=
  (∀ (k0_h5 : k0_cond5 i k0_t1 = 1#1), ∀ a x, ((![v83, v610] : Fin 2 → IVec S16 32) a x).toNat < S160x240.size a)
theorem k0_idx477_inb : ∀ (i : grid0.Coords) (k0_t1 : Fin (k0_t1_loop i).trips) (v83 : IVec S16 32) (v610 : IVec S16 32) (k0_hw405 : k0_chk405 i k0_t1 v83 v610), ∀ (k0_h5 : k0_cond5 i k0_t1 = 1#1), ∀ a x, ((![v83, v610] : Fin 2 → IVec S16 32) a x).toNat < S160x240.size a := fun i k0_t1 v83 v610 k0_hw405 k0_h5 => k0_hw405 k0_h5

def k0_chk406 (i : grid0.Coords) (k0_t1 : Fin (k0_t1_loop i).trips) (v83 : IVec S16 32) (v595 : IVec S16 32) : Prop :=
  (∀ (k0_h5 : k0_cond5 i k0_t1 = 1#1), ∀ a x, ((![v595] : Fin 1 → IVec S16 32) a x).toNat < S48.size a) ∧
  (∀ (k0_h5 : k0_cond5 i k0_t1 = 1#1), ∀ a x, ((![v83, v595] : Fin 2 → IVec S16 32) a x).toNat < S160x48.size a)
theorem k0_idx478_inb : ∀ (i : grid0.Coords) (k0_t1 : Fin (k0_t1_loop i).trips) (v83 : IVec S16 32) (v595 : IVec S16 32) (k0_hw406 : k0_chk406 i k0_t1 v83 v595), ∀ (k0_h5 : k0_cond5 i k0_t1 = 1#1), ∀ a x, ((![v595] : Fin 1 → IVec S16 32) a x).toNat < S48.size a := fun i k0_t1 v83 v595 k0_hw406 k0_h5 => k0_hw406.1 k0_h5
theorem k0_idx479_inb : ∀ (i : grid0.Coords) (k0_t1 : Fin (k0_t1_loop i).trips) (v83 : IVec S16 32) (v595 : IVec S16 32) (k0_hw406 : k0_chk406 i k0_t1 v83 v595), ∀ (k0_h5 : k0_cond5 i k0_t1 = 1#1), ∀ a x, ((![v83, v595] : Fin 2 → IVec S16 32) a x).toNat < S160x48.size a := fun i k0_t1 v83 v595 k0_hw406 k0_h5 => k0_hw406.2 k0_h5

def k0_chk407 (i : grid0.Coords) (k0_t1 : Fin (k0_t1_loop i).trips) (v83 : IVec S16 32) (v614 : IVec S16 32) : Prop :=
  (∀ (k0_h5 : k0_cond5 i k0_t1 = 1#1), ∀ a x, ((![v83, v614] : Fin 2 → IVec S16 32) a x).toNat < S160x240.size a)
theorem k0_idx480_inb : ∀ (i : grid0.Coords) (k0_t1 : Fin (k0_t1_loop i).trips) (v83 : IVec S16 32) (v614 : IVec S16 32) (k0_hw407 : k0_chk407 i k0_t1 v83 v614), ∀ (k0_h5 : k0_cond5 i k0_t1 = 1#1), ∀ a x, ((![v83, v614] : Fin 2 → IVec S16 32) a x).toNat < S160x240.size a := fun i k0_t1 v83 v614 k0_hw407 k0_h5 => k0_hw407 k0_h5

def k0_chk408 (i : grid0.Coords) (k0_t1 : Fin (k0_t1_loop i).trips) (v83 : IVec S16 32) (v626 : IVec S16 32) : Prop :=
  (∀ (k0_h5 : k0_cond5 i k0_t1 = 1#1), ∀ a x, ((![v83, v626] : Fin 2 → IVec S16 32) a x).toNat < S160x240.size a)
theorem k0_idx481_inb : ∀ (i : grid0.Coords) (k0_t1 : Fin (k0_t1_loop i).trips) (v83 : IVec S16 32) (v626 : IVec S16 32) (k0_hw408 : k0_chk408 i k0_t1 v83 v626), ∀ (k0_h5 : k0_cond5 i k0_t1 = 1#1), ∀ a x, ((![v83, v626] : Fin 2 → IVec S16 32) a x).toNat < S160x240.size a := fun i k0_t1 v83 v626 k0_hw408 k0_h5 => k0_hw408 k0_h5

def k0_chk409 (i : grid0.Coords) (k0_t1 : Fin (k0_t1_loop i).trips) (v83 : IVec S16 32) (v630 : IVec S16 32) : Prop :=
  (∀ (k0_h5 : k0_cond5 i k0_t1 = 1#1), ∀ a x, ((![v83, v630] : Fin 2 → IVec S16 32) a x).toNat < S160x240.size a)
theorem k0_idx482_inb : ∀ (i : grid0.Coords) (k0_t1 : Fin (k0_t1_loop i).trips) (v83 : IVec S16 32) (v630 : IVec S16 32) (k0_hw409 : k0_chk409 i k0_t1 v83 v630), ∀ (k0_h5 : k0_cond5 i k0_t1 = 1#1), ∀ a x, ((![v83, v630] : Fin 2 → IVec S16 32) a x).toNat < S160x240.size a := fun i k0_t1 v83 v630 k0_hw409 k0_h5 => k0_hw409 k0_h5

def k0_chk410 (i : grid0.Coords) (k0_t1 : Fin (k0_t1_loop i).trips) (v83 : IVec S16 32) (v634 : IVec S16 32) : Prop :=
  (∀ (k0_h5 : k0_cond5 i k0_t1 = 1#1), ∀ a x, ((![v83, v634] : Fin 2 → IVec S16 32) a x).toNat < S160x240.size a)
theorem k0_idx483_inb : ∀ (i : grid0.Coords) (k0_t1 : Fin (k0_t1_loop i).trips) (v83 : IVec S16 32) (v634 : IVec S16 32) (k0_hw410 : k0_chk410 i k0_t1 v83 v634), ∀ (k0_h5 : k0_cond5 i k0_t1 = 1#1), ∀ a x, ((![v83, v634] : Fin 2 → IVec S16 32) a x).toNat < S160x240.size a := fun i k0_t1 v83 v634 k0_hw410 k0_h5 => k0_hw410 k0_h5

def k0_chk411 (i : grid0.Coords) (k0_t1 : Fin (k0_t1_loop i).trips) (v83 : IVec S16 32) (v638 : IVec S16 32) : Prop :=
  (∀ (k0_h5 : k0_cond5 i k0_t1 = 1#1), ∀ a x, ((![v83, v638] : Fin 2 → IVec S16 32) a x).toNat < S160x240.size a)
theorem k0_idx484_inb : ∀ (i : grid0.Coords) (k0_t1 : Fin (k0_t1_loop i).trips) (v83 : IVec S16 32) (v638 : IVec S16 32) (k0_hw411 : k0_chk411 i k0_t1 v83 v638), ∀ (k0_h5 : k0_cond5 i k0_t1 = 1#1), ∀ a x, ((![v83, v638] : Fin 2 → IVec S16 32) a x).toNat < S160x240.size a := fun i k0_t1 v83 v638 k0_hw411 k0_h5 => k0_hw411 k0_h5

def k0_chk412 (i : grid0.Coords) (k0_t1 : Fin (k0_t1_loop i).trips) (v83 : IVec S16 32) (v623 : IVec S16 32) : Prop :=
  (∀ (k0_h5 : k0_cond5 i k0_t1 = 1#1), ∀ a x, ((![v623] : Fin 1 → IVec S16 32) a x).toNat < S48.size a) ∧
  (∀ (k0_h5 : k0_cond5 i k0_t1 = 1#1), ∀ a x, ((![v83, v623] : Fin 2 → IVec S16 32) a x).toNat < S160x48.size a)
theorem k0_idx485_inb : ∀ (i : grid0.Coords) (k0_t1 : Fin (k0_t1_loop i).trips) (v83 : IVec S16 32) (v623 : IVec S16 32) (k0_hw412 : k0_chk412 i k0_t1 v83 v623), ∀ (k0_h5 : k0_cond5 i k0_t1 = 1#1), ∀ a x, ((![v623] : Fin 1 → IVec S16 32) a x).toNat < S48.size a := fun i k0_t1 v83 v623 k0_hw412 k0_h5 => k0_hw412.1 k0_h5
theorem k0_idx486_inb : ∀ (i : grid0.Coords) (k0_t1 : Fin (k0_t1_loop i).trips) (v83 : IVec S16 32) (v623 : IVec S16 32) (k0_hw412 : k0_chk412 i k0_t1 v83 v623), ∀ (k0_h5 : k0_cond5 i k0_t1 = 1#1), ∀ a x, ((![v83, v623] : Fin 2 → IVec S16 32) a x).toNat < S160x48.size a := fun i k0_t1 v83 v623 k0_hw412 k0_h5 => k0_hw412.2 k0_h5

def k0_chk413 (i : grid0.Coords) (k0_t1 : Fin (k0_t1_loop i).trips) (v83 : IVec S16 32) (v642 : IVec S16 32) : Prop :=
  (∀ (k0_h5 : k0_cond5 i k0_t1 = 1#1), ∀ a x, ((![v83, v642] : Fin 2 → IVec S16 32) a x).toNat < S160x240.size a)
theorem k0_idx487_inb : ∀ (i : grid0.Coords) (k0_t1 : Fin (k0_t1_loop i).trips) (v83 : IVec S16 32) (v642 : IVec S16 32) (k0_hw413 : k0_chk413 i k0_t1 v83 v642), ∀ (k0_h5 : k0_cond5 i k0_t1 = 1#1), ∀ a x, ((![v83, v642] : Fin 2 → IVec S16 32) a x).toNat < S160x240.size a := fun i k0_t1 v83 v642 k0_hw413 k0_h5 => k0_hw413 k0_h5

def k0_chk414 (i : grid0.Coords) (k0_t1 : Fin (k0_t1_loop i).trips) (v83 : IVec S16 32) (v654 : IVec S16 32) : Prop :=
  (∀ (k0_h5 : k0_cond5 i k0_t1 = 1#1), ∀ a x, ((![v83, v654] : Fin 2 → IVec S16 32) a x).toNat < S160x240.size a)
theorem k0_idx488_inb : ∀ (i : grid0.Coords) (k0_t1 : Fin (k0_t1_loop i).trips) (v83 : IVec S16 32) (v654 : IVec S16 32) (k0_hw414 : k0_chk414 i k0_t1 v83 v654), ∀ (k0_h5 : k0_cond5 i k0_t1 = 1#1), ∀ a x, ((![v83, v654] : Fin 2 → IVec S16 32) a x).toNat < S160x240.size a := fun i k0_t1 v83 v654 k0_hw414 k0_h5 => k0_hw414 k0_h5

def k0_chk415 (i : grid0.Coords) (k0_t1 : Fin (k0_t1_loop i).trips) (v83 : IVec S16 32) (v658 : IVec S16 32) : Prop :=
  (∀ (k0_h5 : k0_cond5 i k0_t1 = 1#1), ∀ a x, ((![v83, v658] : Fin 2 → IVec S16 32) a x).toNat < S160x240.size a)
theorem k0_idx489_inb : ∀ (i : grid0.Coords) (k0_t1 : Fin (k0_t1_loop i).trips) (v83 : IVec S16 32) (v658 : IVec S16 32) (k0_hw415 : k0_chk415 i k0_t1 v83 v658), ∀ (k0_h5 : k0_cond5 i k0_t1 = 1#1), ∀ a x, ((![v83, v658] : Fin 2 → IVec S16 32) a x).toNat < S160x240.size a := fun i k0_t1 v83 v658 k0_hw415 k0_h5 => k0_hw415 k0_h5

def k0_chk416 (i : grid0.Coords) (k0_t1 : Fin (k0_t1_loop i).trips) (v83 : IVec S16 32) (v662 : IVec S16 32) : Prop :=
  (∀ (k0_h5 : k0_cond5 i k0_t1 = 1#1), ∀ a x, ((![v83, v662] : Fin 2 → IVec S16 32) a x).toNat < S160x240.size a)
theorem k0_idx490_inb : ∀ (i : grid0.Coords) (k0_t1 : Fin (k0_t1_loop i).trips) (v83 : IVec S16 32) (v662 : IVec S16 32) (k0_hw416 : k0_chk416 i k0_t1 v83 v662), ∀ (k0_h5 : k0_cond5 i k0_t1 = 1#1), ∀ a x, ((![v83, v662] : Fin 2 → IVec S16 32) a x).toNat < S160x240.size a := fun i k0_t1 v83 v662 k0_hw416 k0_h5 => k0_hw416 k0_h5

def k0_chk417 (i : grid0.Coords) (k0_t1 : Fin (k0_t1_loop i).trips) (v83 : IVec S16 32) (v666 : IVec S16 32) : Prop :=
  (∀ (k0_h5 : k0_cond5 i k0_t1 = 1#1), ∀ a x, ((![v83, v666] : Fin 2 → IVec S16 32) a x).toNat < S160x240.size a)
theorem k0_idx491_inb : ∀ (i : grid0.Coords) (k0_t1 : Fin (k0_t1_loop i).trips) (v83 : IVec S16 32) (v666 : IVec S16 32) (k0_hw417 : k0_chk417 i k0_t1 v83 v666), ∀ (k0_h5 : k0_cond5 i k0_t1 = 1#1), ∀ a x, ((![v83, v666] : Fin 2 → IVec S16 32) a x).toNat < S160x240.size a := fun i k0_t1 v83 v666 k0_hw417 k0_h5 => k0_hw417 k0_h5

def k0_chk418 (i : grid0.Coords) (k0_t1 : Fin (k0_t1_loop i).trips) (v83 : IVec S16 32) (v651 : IVec S16 32) : Prop :=
  (∀ (k0_h5 : k0_cond5 i k0_t1 = 1#1), ∀ a x, ((![v651] : Fin 1 → IVec S16 32) a x).toNat < S48.size a) ∧
  (∀ (k0_h5 : k0_cond5 i k0_t1 = 1#1), ∀ a x, ((![v83, v651] : Fin 2 → IVec S16 32) a x).toNat < S160x48.size a)
theorem k0_idx492_inb : ∀ (i : grid0.Coords) (k0_t1 : Fin (k0_t1_loop i).trips) (v83 : IVec S16 32) (v651 : IVec S16 32) (k0_hw418 : k0_chk418 i k0_t1 v83 v651), ∀ (k0_h5 : k0_cond5 i k0_t1 = 1#1), ∀ a x, ((![v651] : Fin 1 → IVec S16 32) a x).toNat < S48.size a := fun i k0_t1 v83 v651 k0_hw418 k0_h5 => k0_hw418.1 k0_h5
theorem k0_idx493_inb : ∀ (i : grid0.Coords) (k0_t1 : Fin (k0_t1_loop i).trips) (v83 : IVec S16 32) (v651 : IVec S16 32) (k0_hw418 : k0_chk418 i k0_t1 v83 v651), ∀ (k0_h5 : k0_cond5 i k0_t1 = 1#1), ∀ a x, ((![v83, v651] : Fin 2 → IVec S16 32) a x).toNat < S160x48.size a := fun i k0_t1 v83 v651 k0_hw418 k0_h5 => k0_hw418.2 k0_h5

def k0_chk419 (i : grid0.Coords) (k0_t1 : Fin (k0_t1_loop i).trips) (v83 : IVec S16 32) (v670 : IVec S16 32) : Prop :=
  (∀ (k0_h5 : k0_cond5 i k0_t1 = 1#1), ∀ a x, ((![v83, v670] : Fin 2 → IVec S16 32) a x).toNat < S160x240.size a)
theorem k0_idx494_inb : ∀ (i : grid0.Coords) (k0_t1 : Fin (k0_t1_loop i).trips) (v83 : IVec S16 32) (v670 : IVec S16 32) (k0_hw419 : k0_chk419 i k0_t1 v83 v670), ∀ (k0_h5 : k0_cond5 i k0_t1 = 1#1), ∀ a x, ((![v83, v670] : Fin 2 → IVec S16 32) a x).toNat < S160x240.size a := fun i k0_t1 v83 v670 k0_hw419 k0_h5 => k0_hw419 k0_h5

def k0_chk420 (i : grid0.Coords) (k0_t1 : Fin (k0_t1_loop i).trips) (v83 : IVec S16 32) (v682 : IVec S16 32) : Prop :=
  (∀ (k0_h5 : k0_cond5 i k0_t1 = 1#1), ∀ a x, ((![v83, v682] : Fin 2 → IVec S16 32) a x).toNat < S160x240.size a)
theorem k0_idx495_inb : ∀ (i : grid0.Coords) (k0_t1 : Fin (k0_t1_loop i).trips) (v83 : IVec S16 32) (v682 : IVec S16 32) (k0_hw420 : k0_chk420 i k0_t1 v83 v682), ∀ (k0_h5 : k0_cond5 i k0_t1 = 1#1), ∀ a x, ((![v83, v682] : Fin 2 → IVec S16 32) a x).toNat < S160x240.size a := fun i k0_t1 v83 v682 k0_hw420 k0_h5 => k0_hw420 k0_h5

def k0_chk421 (i : grid0.Coords) (k0_t1 : Fin (k0_t1_loop i).trips) (v83 : IVec S16 32) (v686 : IVec S16 32) : Prop :=
  (∀ (k0_h5 : k0_cond5 i k0_t1 = 1#1), ∀ a x, ((![v83, v686] : Fin 2 → IVec S16 32) a x).toNat < S160x240.size a)
theorem k0_idx496_inb : ∀ (i : grid0.Coords) (k0_t1 : Fin (k0_t1_loop i).trips) (v83 : IVec S16 32) (v686 : IVec S16 32) (k0_hw421 : k0_chk421 i k0_t1 v83 v686), ∀ (k0_h5 : k0_cond5 i k0_t1 = 1#1), ∀ a x, ((![v83, v686] : Fin 2 → IVec S16 32) a x).toNat < S160x240.size a := fun i k0_t1 v83 v686 k0_hw421 k0_h5 => k0_hw421 k0_h5

def k0_chk422 (i : grid0.Coords) (k0_t1 : Fin (k0_t1_loop i).trips) (v83 : IVec S16 32) (v690 : IVec S16 32) : Prop :=
  (∀ (k0_h5 : k0_cond5 i k0_t1 = 1#1), ∀ a x, ((![v83, v690] : Fin 2 → IVec S16 32) a x).toNat < S160x240.size a)
theorem k0_idx497_inb : ∀ (i : grid0.Coords) (k0_t1 : Fin (k0_t1_loop i).trips) (v83 : IVec S16 32) (v690 : IVec S16 32) (k0_hw422 : k0_chk422 i k0_t1 v83 v690), ∀ (k0_h5 : k0_cond5 i k0_t1 = 1#1), ∀ a x, ((![v83, v690] : Fin 2 → IVec S16 32) a x).toNat < S160x240.size a := fun i k0_t1 v83 v690 k0_hw422 k0_h5 => k0_hw422 k0_h5

def k0_chk423 (i : grid0.Coords) (k0_t1 : Fin (k0_t1_loop i).trips) (v83 : IVec S16 32) (v694 : IVec S16 32) : Prop :=
  (∀ (k0_h5 : k0_cond5 i k0_t1 = 1#1), ∀ a x, ((![v83, v694] : Fin 2 → IVec S16 32) a x).toNat < S160x240.size a)
theorem k0_idx498_inb : ∀ (i : grid0.Coords) (k0_t1 : Fin (k0_t1_loop i).trips) (v83 : IVec S16 32) (v694 : IVec S16 32) (k0_hw423 : k0_chk423 i k0_t1 v83 v694), ∀ (k0_h5 : k0_cond5 i k0_t1 = 1#1), ∀ a x, ((![v83, v694] : Fin 2 → IVec S16 32) a x).toNat < S160x240.size a := fun i k0_t1 v83 v694 k0_hw423 k0_h5 => k0_hw423 k0_h5

def k0_chk424 (i : grid0.Coords) (k0_t1 : Fin (k0_t1_loop i).trips) (v83 : IVec S16 32) (v679 : IVec S16 32) : Prop :=
  (∀ (k0_h5 : k0_cond5 i k0_t1 = 1#1), ∀ a x, ((![v679] : Fin 1 → IVec S16 32) a x).toNat < S48.size a) ∧
  (∀ (k0_h5 : k0_cond5 i k0_t1 = 1#1), ∀ a x, ((![v83, v679] : Fin 2 → IVec S16 32) a x).toNat < S160x48.size a)
theorem k0_idx499_inb : ∀ (i : grid0.Coords) (k0_t1 : Fin (k0_t1_loop i).trips) (v83 : IVec S16 32) (v679 : IVec S16 32) (k0_hw424 : k0_chk424 i k0_t1 v83 v679), ∀ (k0_h5 : k0_cond5 i k0_t1 = 1#1), ∀ a x, ((![v679] : Fin 1 → IVec S16 32) a x).toNat < S48.size a := fun i k0_t1 v83 v679 k0_hw424 k0_h5 => k0_hw424.1 k0_h5
theorem k0_idx500_inb : ∀ (i : grid0.Coords) (k0_t1 : Fin (k0_t1_loop i).trips) (v83 : IVec S16 32) (v679 : IVec S16 32) (k0_hw424 : k0_chk424 i k0_t1 v83 v679), ∀ (k0_h5 : k0_cond5 i k0_t1 = 1#1), ∀ a x, ((![v83, v679] : Fin 2 → IVec S16 32) a x).toNat < S160x48.size a := fun i k0_t1 v83 v679 k0_hw424 k0_h5 => k0_hw424.2 k0_h5

def k0_chk425 (i : grid0.Coords) (k0_t1 : Fin (k0_t1_loop i).trips) (v83 : IVec S16 32) (v698 : IVec S16 32) : Prop :=
  (∀ (k0_h5 : k0_cond5 i k0_t1 = 1#1), ∀ a x, ((![v83, v698] : Fin 2 → IVec S16 32) a x).toNat < S160x240.size a)
theorem k0_idx501_inb : ∀ (i : grid0.Coords) (k0_t1 : Fin (k0_t1_loop i).trips) (v83 : IVec S16 32) (v698 : IVec S16 32) (k0_hw425 : k0_chk425 i k0_t1 v83 v698), ∀ (k0_h5 : k0_cond5 i k0_t1 = 1#1), ∀ a x, ((![v83, v698] : Fin 2 → IVec S16 32) a x).toNat < S160x240.size a := fun i k0_t1 v83 v698 k0_hw425 k0_h5 => k0_hw425 k0_h5

def k0_chk426 (i : grid0.Coords) (k0_t1 : Fin (k0_t1_loop i).trips) (v83 : IVec S16 32) (v710 : IVec S16 32) : Prop :=
  (∀ (k0_h5 : k0_cond5 i k0_t1 = 1#1), ∀ a x, ((![v83, v710] : Fin 2 → IVec S16 32) a x).toNat < S160x240.size a)
theorem k0_idx502_inb : ∀ (i : grid0.Coords) (k0_t1 : Fin (k0_t1_loop i).trips) (v83 : IVec S16 32) (v710 : IVec S16 32) (k0_hw426 : k0_chk426 i k0_t1 v83 v710), ∀ (k0_h5 : k0_cond5 i k0_t1 = 1#1), ∀ a x, ((![v83, v710] : Fin 2 → IVec S16 32) a x).toNat < S160x240.size a := fun i k0_t1 v83 v710 k0_hw426 k0_h5 => k0_hw426 k0_h5

def k0_chk427 (i : grid0.Coords) (k0_t1 : Fin (k0_t1_loop i).trips) (v83 : IVec S16 32) (v714 : IVec S16 32) : Prop :=
  (∀ (k0_h5 : k0_cond5 i k0_t1 = 1#1), ∀ a x, ((![v83, v714] : Fin 2 → IVec S16 32) a x).toNat < S160x240.size a)
theorem k0_idx503_inb : ∀ (i : grid0.Coords) (k0_t1 : Fin (k0_t1_loop i).trips) (v83 : IVec S16 32) (v714 : IVec S16 32) (k0_hw427 : k0_chk427 i k0_t1 v83 v714), ∀ (k0_h5 : k0_cond5 i k0_t1 = 1#1), ∀ a x, ((![v83, v714] : Fin 2 → IVec S16 32) a x).toNat < S160x240.size a := fun i k0_t1 v83 v714 k0_hw427 k0_h5 => k0_hw427 k0_h5

def k0_chk428 (i : grid0.Coords) (k0_t1 : Fin (k0_t1_loop i).trips) (v83 : IVec S16 32) (v718 : IVec S16 32) : Prop :=
  (∀ (k0_h5 : k0_cond5 i k0_t1 = 1#1), ∀ a x, ((![v83, v718] : Fin 2 → IVec S16 32) a x).toNat < S160x240.size a)
theorem k0_idx504_inb : ∀ (i : grid0.Coords) (k0_t1 : Fin (k0_t1_loop i).trips) (v83 : IVec S16 32) (v718 : IVec S16 32) (k0_hw428 : k0_chk428 i k0_t1 v83 v718), ∀ (k0_h5 : k0_cond5 i k0_t1 = 1#1), ∀ a x, ((![v83, v718] : Fin 2 → IVec S16 32) a x).toNat < S160x240.size a := fun i k0_t1 v83 v718 k0_hw428 k0_h5 => k0_hw428 k0_h5

def k0_chk429 (i : grid0.Coords) (k0_t1 : Fin (k0_t1_loop i).trips) (v83 : IVec S16 32) (v722 : IVec S16 32) : Prop :=
  (∀ (k0_h5 : k0_cond5 i k0_t1 = 1#1), ∀ a x, ((![v83, v722] : Fin 2 → IVec S16 32) a x).toNat < S160x240.size a)
theorem k0_idx505_inb : ∀ (i : grid0.Coords) (k0_t1 : Fin (k0_t1_loop i).trips) (v83 : IVec S16 32) (v722 : IVec S16 32) (k0_hw429 : k0_chk429 i k0_t1 v83 v722), ∀ (k0_h5 : k0_cond5 i k0_t1 = 1#1), ∀ a x, ((![v83, v722] : Fin 2 → IVec S16 32) a x).toNat < S160x240.size a := fun i k0_t1 v83 v722 k0_hw429 k0_h5 => k0_hw429 k0_h5

def k0_chk430 (i : grid0.Coords) (k0_t1 : Fin (k0_t1_loop i).trips) (v83 : IVec S16 32) (v707 : IVec S16 32) : Prop :=
  (∀ (k0_h5 : k0_cond5 i k0_t1 = 1#1), ∀ a x, ((![v707] : Fin 1 → IVec S16 32) a x).toNat < S48.size a) ∧
  (∀ (k0_h5 : k0_cond5 i k0_t1 = 1#1), ∀ a x, ((![v83, v707] : Fin 2 → IVec S16 32) a x).toNat < S160x48.size a)
theorem k0_idx506_inb : ∀ (i : grid0.Coords) (k0_t1 : Fin (k0_t1_loop i).trips) (v83 : IVec S16 32) (v707 : IVec S16 32) (k0_hw430 : k0_chk430 i k0_t1 v83 v707), ∀ (k0_h5 : k0_cond5 i k0_t1 = 1#1), ∀ a x, ((![v707] : Fin 1 → IVec S16 32) a x).toNat < S48.size a := fun i k0_t1 v83 v707 k0_hw430 k0_h5 => k0_hw430.1 k0_h5
theorem k0_idx507_inb : ∀ (i : grid0.Coords) (k0_t1 : Fin (k0_t1_loop i).trips) (v83 : IVec S16 32) (v707 : IVec S16 32) (k0_hw430 : k0_chk430 i k0_t1 v83 v707), ∀ (k0_h5 : k0_cond5 i k0_t1 = 1#1), ∀ a x, ((![v83, v707] : Fin 2 → IVec S16 32) a x).toNat < S160x48.size a := fun i k0_t1 v83 v707 k0_hw430 k0_h5 => k0_hw430.2 k0_h5

def k0_chk431 (i : grid0.Coords) (k0_t1 : Fin (k0_t1_loop i).trips) (v83 : IVec S16 32) (v726 : IVec S16 32) : Prop :=
  (∀ (k0_h5 : k0_cond5 i k0_t1 = 1#1), ∀ a x, ((![v83, v726] : Fin 2 → IVec S16 32) a x).toNat < S160x240.size a)
theorem k0_idx508_inb : ∀ (i : grid0.Coords) (k0_t1 : Fin (k0_t1_loop i).trips) (v83 : IVec S16 32) (v726 : IVec S16 32) (k0_hw431 : k0_chk431 i k0_t1 v83 v726), ∀ (k0_h5 : k0_cond5 i k0_t1 = 1#1), ∀ a x, ((![v83, v726] : Fin 2 → IVec S16 32) a x).toNat < S160x240.size a := fun i k0_t1 v83 v726 k0_hw431 k0_h5 => k0_hw431 k0_h5

def k0_chk432 (i : grid0.Coords) (k0_t1 : Fin (k0_t1_loop i).trips) (v83 : IVec S16 32) (v738 : IVec S16 32) : Prop :=
  (∀ (k0_h5 : k0_cond5 i k0_t1 = 1#1), ∀ a x, ((![v83, v738] : Fin 2 → IVec S16 32) a x).toNat < S160x240.size a)
theorem k0_idx509_inb : ∀ (i : grid0.Coords) (k0_t1 : Fin (k0_t1_loop i).trips) (v83 : IVec S16 32) (v738 : IVec S16 32) (k0_hw432 : k0_chk432 i k0_t1 v83 v738), ∀ (k0_h5 : k0_cond5 i k0_t1 = 1#1), ∀ a x, ((![v83, v738] : Fin 2 → IVec S16 32) a x).toNat < S160x240.size a := fun i k0_t1 v83 v738 k0_hw432 k0_h5 => k0_hw432 k0_h5

def k0_chk433 (i : grid0.Coords) (k0_t1 : Fin (k0_t1_loop i).trips) (v83 : IVec S16 32) (v742 : IVec S16 32) : Prop :=
  (∀ (k0_h5 : k0_cond5 i k0_t1 = 1#1), ∀ a x, ((![v83, v742] : Fin 2 → IVec S16 32) a x).toNat < S160x240.size a)
theorem k0_idx510_inb : ∀ (i : grid0.Coords) (k0_t1 : Fin (k0_t1_loop i).trips) (v83 : IVec S16 32) (v742 : IVec S16 32) (k0_hw433 : k0_chk433 i k0_t1 v83 v742), ∀ (k0_h5 : k0_cond5 i k0_t1 = 1#1), ∀ a x, ((![v83, v742] : Fin 2 → IVec S16 32) a x).toNat < S160x240.size a := fun i k0_t1 v83 v742 k0_hw433 k0_h5 => k0_hw433 k0_h5

def k0_chk434 (i : grid0.Coords) (k0_t1 : Fin (k0_t1_loop i).trips) (v83 : IVec S16 32) (v746 : IVec S16 32) : Prop :=
  (∀ (k0_h5 : k0_cond5 i k0_t1 = 1#1), ∀ a x, ((![v83, v746] : Fin 2 → IVec S16 32) a x).toNat < S160x240.size a)
theorem k0_idx511_inb : ∀ (i : grid0.Coords) (k0_t1 : Fin (k0_t1_loop i).trips) (v83 : IVec S16 32) (v746 : IVec S16 32) (k0_hw434 : k0_chk434 i k0_t1 v83 v746), ∀ (k0_h5 : k0_cond5 i k0_t1 = 1#1), ∀ a x, ((![v83, v746] : Fin 2 → IVec S16 32) a x).toNat < S160x240.size a := fun i k0_t1 v83 v746 k0_hw434 k0_h5 => k0_hw434 k0_h5

def k0_chk435 (i : grid0.Coords) (k0_t1 : Fin (k0_t1_loop i).trips) (v83 : IVec S16 32) (v750 : IVec S16 32) : Prop :=
  (∀ (k0_h5 : k0_cond5 i k0_t1 = 1#1), ∀ a x, ((![v83, v750] : Fin 2 → IVec S16 32) a x).toNat < S160x240.size a)
theorem k0_idx512_inb : ∀ (i : grid0.Coords) (k0_t1 : Fin (k0_t1_loop i).trips) (v83 : IVec S16 32) (v750 : IVec S16 32) (k0_hw435 : k0_chk435 i k0_t1 v83 v750), ∀ (k0_h5 : k0_cond5 i k0_t1 = 1#1), ∀ a x, ((![v83, v750] : Fin 2 → IVec S16 32) a x).toNat < S160x240.size a := fun i k0_t1 v83 v750 k0_hw435 k0_h5 => k0_hw435 k0_h5

def k0_chk436 (i : grid0.Coords) (k0_t1 : Fin (k0_t1_loop i).trips) (v83 : IVec S16 32) (v735 : IVec S16 32) : Prop :=
  (∀ (k0_h5 : k0_cond5 i k0_t1 = 1#1), ∀ a x, ((![v735] : Fin 1 → IVec S16 32) a x).toNat < S48.size a) ∧
  (∀ (k0_h5 : k0_cond5 i k0_t1 = 1#1), ∀ a x, ((![v83, v735] : Fin 2 → IVec S16 32) a x).toNat < S160x48.size a)
theorem k0_idx513_inb : ∀ (i : grid0.Coords) (k0_t1 : Fin (k0_t1_loop i).trips) (v83 : IVec S16 32) (v735 : IVec S16 32) (k0_hw436 : k0_chk436 i k0_t1 v83 v735), ∀ (k0_h5 : k0_cond5 i k0_t1 = 1#1), ∀ a x, ((![v735] : Fin 1 → IVec S16 32) a x).toNat < S48.size a := fun i k0_t1 v83 v735 k0_hw436 k0_h5 => k0_hw436.1 k0_h5
theorem k0_idx514_inb : ∀ (i : grid0.Coords) (k0_t1 : Fin (k0_t1_loop i).trips) (v83 : IVec S16 32) (v735 : IVec S16 32) (k0_hw436 : k0_chk436 i k0_t1 v83 v735), ∀ (k0_h5 : k0_cond5 i k0_t1 = 1#1), ∀ a x, ((![v83, v735] : Fin 2 → IVec S16 32) a x).toNat < S160x48.size a := fun i k0_t1 v83 v735 k0_hw436 k0_h5 => k0_hw436.2 k0_h5

def k0_chk437 (i : grid0.Coords) (k0_t1 : Fin (k0_t1_loop i).trips) (v83 : IVec S16 32) (v754 : IVec S16 32) : Prop :=
  (∀ (k0_h5 : k0_cond5 i k0_t1 = 1#1), ∀ a x, ((![v83, v754] : Fin 2 → IVec S16 32) a x).toNat < S160x240.size a)
theorem k0_idx515_inb : ∀ (i : grid0.Coords) (k0_t1 : Fin (k0_t1_loop i).trips) (v83 : IVec S16 32) (v754 : IVec S16 32) (k0_hw437 : k0_chk437 i k0_t1 v83 v754), ∀ (k0_h5 : k0_cond5 i k0_t1 = 1#1), ∀ a x, ((![v83, v754] : Fin 2 → IVec S16 32) a x).toNat < S160x240.size a := fun i k0_t1 v83 v754 k0_hw437 k0_h5 => k0_hw437 k0_h5

def k0_chk438 (i : grid0.Coords) (k0_t1 : Fin (k0_t1_loop i).trips) (v83 : IVec S16 32) (v766 : IVec S16 32) : Prop :=
  (∀ (k0_h5 : k0_cond5 i k0_t1 = 1#1), ∀ a x, ((![v83, v766] : Fin 2 → IVec S16 32) a x).toNat < S160x240.size a)
theorem k0_idx516_inb : ∀ (i : grid0.Coords) (k0_t1 : Fin (k0_t1_loop i).trips) (v83 : IVec S16 32) (v766 : IVec S16 32) (k0_hw438 : k0_chk438 i k0_t1 v83 v766), ∀ (k0_h5 : k0_cond5 i k0_t1 = 1#1), ∀ a x, ((![v83, v766] : Fin 2 → IVec S16 32) a x).toNat < S160x240.size a := fun i k0_t1 v83 v766 k0_hw438 k0_h5 => k0_hw438 k0_h5

def k0_chk439 (i : grid0.Coords) (k0_t1 : Fin (k0_t1_loop i).trips) (v83 : IVec S16 32) (v770 : IVec S16 32) : Prop :=
  (∀ (k0_h5 : k0_cond5 i k0_t1 = 1#1), ∀ a x, ((![v83, v770] : Fin 2 → IVec S16 32) a x).toNat < S160x240.size a)
theorem k0_idx517_inb : ∀ (i : grid0.Coords) (k0_t1 : Fin (k0_t1_loop i).trips) (v83 : IVec S16 32) (v770 : IVec S16 32) (k0_hw439 : k0_chk439 i k0_t1 v83 v770), ∀ (k0_h5 : k0_cond5 i k0_t1 = 1#1), ∀ a x, ((![v83, v770] : Fin 2 → IVec S16 32) a x).toNat < S160x240.size a := fun i k0_t1 v83 v770 k0_hw439 k0_h5 => k0_hw439 k0_h5

def k0_chk440 (i : grid0.Coords) (k0_t1 : Fin (k0_t1_loop i).trips) (v83 : IVec S16 32) (v774 : IVec S16 32) : Prop :=
  (∀ (k0_h5 : k0_cond5 i k0_t1 = 1#1), ∀ a x, ((![v83, v774] : Fin 2 → IVec S16 32) a x).toNat < S160x240.size a)
theorem k0_idx518_inb : ∀ (i : grid0.Coords) (k0_t1 : Fin (k0_t1_loop i).trips) (v83 : IVec S16 32) (v774 : IVec S16 32) (k0_hw440 : k0_chk440 i k0_t1 v83 v774), ∀ (k0_h5 : k0_cond5 i k0_t1 = 1#1), ∀ a x, ((![v83, v774] : Fin 2 → IVec S16 32) a x).toNat < S160x240.size a := fun i k0_t1 v83 v774 k0_hw440 k0_h5 => k0_hw440 k0_h5

def k0_chk441 (i : grid0.Coords) (k0_t1 : Fin (k0_t1_loop i).trips) (v83 : IVec S16 32) (v778 : IVec S16 32) : Prop :=
  (∀ (k0_h5 : k0_cond5 i k0_t1 = 1#1), ∀ a x, ((![v83, v778] : Fin 2 → IVec S16 32) a x).toNat < S160x240.size a)
theorem k0_idx519_inb : ∀ (i : grid0.Coords) (k0_t1 : Fin (k0_t1_loop i).trips) (v83 : IVec S16 32) (v778 : IVec S16 32) (k0_hw441 : k0_chk441 i k0_t1 v83 v778), ∀ (k0_h5 : k0_cond5 i k0_t1 = 1#1), ∀ a x, ((![v83, v778] : Fin 2 → IVec S16 32) a x).toNat < S160x240.size a := fun i k0_t1 v83 v778 k0_hw441 k0_h5 => k0_hw441 k0_h5

def k0_chk442 (i : grid0.Coords) (k0_t1 : Fin (k0_t1_loop i).trips) (v83 : IVec S16 32) (v763 : IVec S16 32) : Prop :=
  (∀ (k0_h5 : k0_cond5 i k0_t1 = 1#1), ∀ a x, ((![v763] : Fin 1 → IVec S16 32) a x).toNat < S48.size a) ∧
  (∀ (k0_h5 : k0_cond5 i k0_t1 = 1#1), ∀ a x, ((![v83, v763] : Fin 2 → IVec S16 32) a x).toNat < S160x48.size a)
theorem k0_idx520_inb : ∀ (i : grid0.Coords) (k0_t1 : Fin (k0_t1_loop i).trips) (v83 : IVec S16 32) (v763 : IVec S16 32) (k0_hw442 : k0_chk442 i k0_t1 v83 v763), ∀ (k0_h5 : k0_cond5 i k0_t1 = 1#1), ∀ a x, ((![v763] : Fin 1 → IVec S16 32) a x).toNat < S48.size a := fun i k0_t1 v83 v763 k0_hw442 k0_h5 => k0_hw442.1 k0_h5
theorem k0_idx521_inb : ∀ (i : grid0.Coords) (k0_t1 : Fin (k0_t1_loop i).trips) (v83 : IVec S16 32) (v763 : IVec S16 32) (k0_hw442 : k0_chk442 i k0_t1 v83 v763), ∀ (k0_h5 : k0_cond5 i k0_t1 = 1#1), ∀ a x, ((![v83, v763] : Fin 2 → IVec S16 32) a x).toNat < S160x48.size a := fun i k0_t1 v83 v763 k0_hw442 k0_h5 => k0_hw442.2 k0_h5

def k0_chk443 (i : grid0.Coords) (k0_t1 : Fin (k0_t1_loop i).trips) (v83 : IVec S16 32) (v782 : IVec S16 32) : Prop :=
  (∀ (k0_h5 : k0_cond5 i k0_t1 = 1#1), ∀ a x, ((![v83, v782] : Fin 2 → IVec S16 32) a x).toNat < S160x240.size a)
theorem k0_idx522_inb : ∀ (i : grid0.Coords) (k0_t1 : Fin (k0_t1_loop i).trips) (v83 : IVec S16 32) (v782 : IVec S16 32) (k0_hw443 : k0_chk443 i k0_t1 v83 v782), ∀ (k0_h5 : k0_cond5 i k0_t1 = 1#1), ∀ a x, ((![v83, v782] : Fin 2 → IVec S16 32) a x).toNat < S160x240.size a := fun i k0_t1 v83 v782 k0_hw443 k0_h5 => k0_hw443 k0_h5

def k0_chk444 (i : grid0.Coords) (k0_t1 : Fin (k0_t1_loop i).trips) (v83 : IVec S16 32) (v794 : IVec S16 32) : Prop :=
  (∀ (k0_h5 : k0_cond5 i k0_t1 = 1#1), ∀ a x, ((![v83, v794] : Fin 2 → IVec S16 32) a x).toNat < S160x240.size a)
theorem k0_idx523_inb : ∀ (i : grid0.Coords) (k0_t1 : Fin (k0_t1_loop i).trips) (v83 : IVec S16 32) (v794 : IVec S16 32) (k0_hw444 : k0_chk444 i k0_t1 v83 v794), ∀ (k0_h5 : k0_cond5 i k0_t1 = 1#1), ∀ a x, ((![v83, v794] : Fin 2 → IVec S16 32) a x).toNat < S160x240.size a := fun i k0_t1 v83 v794 k0_hw444 k0_h5 => k0_hw444 k0_h5

def k0_chk445 (i : grid0.Coords) (k0_t1 : Fin (k0_t1_loop i).trips) (v83 : IVec S16 32) (v798 : IVec S16 32) : Prop :=
  (∀ (k0_h5 : k0_cond5 i k0_t1 = 1#1), ∀ a x, ((![v83, v798] : Fin 2 → IVec S16 32) a x).toNat < S160x240.size a)
theorem k0_idx524_inb : ∀ (i : grid0.Coords) (k0_t1 : Fin (k0_t1_loop i).trips) (v83 : IVec S16 32) (v798 : IVec S16 32) (k0_hw445 : k0_chk445 i k0_t1 v83 v798), ∀ (k0_h5 : k0_cond5 i k0_t1 = 1#1), ∀ a x, ((![v83, v798] : Fin 2 → IVec S16 32) a x).toNat < S160x240.size a := fun i k0_t1 v83 v798 k0_hw445 k0_h5 => k0_hw445 k0_h5

def k0_chk446 (i : grid0.Coords) (k0_t1 : Fin (k0_t1_loop i).trips) (v83 : IVec S16 32) (v802 : IVec S16 32) : Prop :=
  (∀ (k0_h5 : k0_cond5 i k0_t1 = 1#1), ∀ a x, ((![v83, v802] : Fin 2 → IVec S16 32) a x).toNat < S160x240.size a)
theorem k0_idx525_inb : ∀ (i : grid0.Coords) (k0_t1 : Fin (k0_t1_loop i).trips) (v83 : IVec S16 32) (v802 : IVec S16 32) (k0_hw446 : k0_chk446 i k0_t1 v83 v802), ∀ (k0_h5 : k0_cond5 i k0_t1 = 1#1), ∀ a x, ((![v83, v802] : Fin 2 → IVec S16 32) a x).toNat < S160x240.size a := fun i k0_t1 v83 v802 k0_hw446 k0_h5 => k0_hw446 k0_h5

def k0_chk447 (i : grid0.Coords) (k0_t1 : Fin (k0_t1_loop i).trips) (v83 : IVec S16 32) (v806 : IVec S16 32) : Prop :=
  (∀ (k0_h5 : k0_cond5 i k0_t1 = 1#1), ∀ a x, ((![v83, v806] : Fin 2 → IVec S16 32) a x).toNat < S160x240.size a)
theorem k0_idx526_inb : ∀ (i : grid0.Coords) (k0_t1 : Fin (k0_t1_loop i).trips) (v83 : IVec S16 32) (v806 : IVec S16 32) (k0_hw447 : k0_chk447 i k0_t1 v83 v806), ∀ (k0_h5 : k0_cond5 i k0_t1 = 1#1), ∀ a x, ((![v83, v806] : Fin 2 → IVec S16 32) a x).toNat < S160x240.size a := fun i k0_t1 v83 v806 k0_hw447 k0_h5 => k0_hw447 k0_h5

def k0_chk448 (i : grid0.Coords) (k0_t1 : Fin (k0_t1_loop i).trips) (v83 : IVec S16 32) (v791 : IVec S16 32) : Prop :=
  (∀ (k0_h5 : k0_cond5 i k0_t1 = 1#1), ∀ a x, ((![v791] : Fin 1 → IVec S16 32) a x).toNat < S48.size a) ∧
  (∀ (k0_h5 : k0_cond5 i k0_t1 = 1#1), ∀ a x, ((![v83, v791] : Fin 2 → IVec S16 32) a x).toNat < S160x48.size a)
theorem k0_idx527_inb : ∀ (i : grid0.Coords) (k0_t1 : Fin (k0_t1_loop i).trips) (v83 : IVec S16 32) (v791 : IVec S16 32) (k0_hw448 : k0_chk448 i k0_t1 v83 v791), ∀ (k0_h5 : k0_cond5 i k0_t1 = 1#1), ∀ a x, ((![v791] : Fin 1 → IVec S16 32) a x).toNat < S48.size a := fun i k0_t1 v83 v791 k0_hw448 k0_h5 => k0_hw448.1 k0_h5
theorem k0_idx528_inb : ∀ (i : grid0.Coords) (k0_t1 : Fin (k0_t1_loop i).trips) (v83 : IVec S16 32) (v791 : IVec S16 32) (k0_hw448 : k0_chk448 i k0_t1 v83 v791), ∀ (k0_h5 : k0_cond5 i k0_t1 = 1#1), ∀ a x, ((![v83, v791] : Fin 2 → IVec S16 32) a x).toNat < S160x48.size a := fun i k0_t1 v83 v791 k0_hw448 k0_h5 => k0_hw448.2 k0_h5

def k0_chk449 (i : grid0.Coords) (k0_t1 : Fin (k0_t1_loop i).trips) (v83 : IVec S16 32) (v810 : IVec S16 32) : Prop :=
  (∀ (k0_h5 : k0_cond5 i k0_t1 = 1#1), ∀ a x, ((![v83, v810] : Fin 2 → IVec S16 32) a x).toNat < S160x240.size a)
theorem k0_idx529_inb : ∀ (i : grid0.Coords) (k0_t1 : Fin (k0_t1_loop i).trips) (v83 : IVec S16 32) (v810 : IVec S16 32) (k0_hw449 : k0_chk449 i k0_t1 v83 v810), ∀ (k0_h5 : k0_cond5 i k0_t1 = 1#1), ∀ a x, ((![v83, v810] : Fin 2 → IVec S16 32) a x).toNat < S160x240.size a := fun i k0_t1 v83 v810 k0_hw449 k0_h5 => k0_hw449 k0_h5

def k0_chk450 (i : grid0.Coords) (k0_t1 : Fin (k0_t1_loop i).trips) (v83 : IVec S16 32) (v822 : IVec S16 32) : Prop :=
  (∀ (k0_h5 : k0_cond5 i k0_t1 = 1#1), ∀ a x, ((![v83, v822] : Fin 2 → IVec S16 32) a x).toNat < S160x240.size a)
theorem k0_idx530_inb : ∀ (i : grid0.Coords) (k0_t1 : Fin (k0_t1_loop i).trips) (v83 : IVec S16 32) (v822 : IVec S16 32) (k0_hw450 : k0_chk450 i k0_t1 v83 v822), ∀ (k0_h5 : k0_cond5 i k0_t1 = 1#1), ∀ a x, ((![v83, v822] : Fin 2 → IVec S16 32) a x).toNat < S160x240.size a := fun i k0_t1 v83 v822 k0_hw450 k0_h5 => k0_hw450 k0_h5

def k0_chk451 (i : grid0.Coords) (k0_t1 : Fin (k0_t1_loop i).trips) (v83 : IVec S16 32) (v826 : IVec S16 32) : Prop :=
  (∀ (k0_h5 : k0_cond5 i k0_t1 = 1#1), ∀ a x, ((![v83, v826] : Fin 2 → IVec S16 32) a x).toNat < S160x240.size a)
theorem k0_idx531_inb : ∀ (i : grid0.Coords) (k0_t1 : Fin (k0_t1_loop i).trips) (v83 : IVec S16 32) (v826 : IVec S16 32) (k0_hw451 : k0_chk451 i k0_t1 v83 v826), ∀ (k0_h5 : k0_cond5 i k0_t1 = 1#1), ∀ a x, ((![v83, v826] : Fin 2 → IVec S16 32) a x).toNat < S160x240.size a := fun i k0_t1 v83 v826 k0_hw451 k0_h5 => k0_hw451 k0_h5

def k0_chk452 (i : grid0.Coords) (k0_t1 : Fin (k0_t1_loop i).trips) (v83 : IVec S16 32) (v830 : IVec S16 32) : Prop :=
  (∀ (k0_h5 : k0_cond5 i k0_t1 = 1#1), ∀ a x, ((![v83, v830] : Fin 2 → IVec S16 32) a x).toNat < S160x240.size a)
theorem k0_idx532_inb : ∀ (i : grid0.Coords) (k0_t1 : Fin (k0_t1_loop i).trips) (v83 : IVec S16 32) (v830 : IVec S16 32) (k0_hw452 : k0_chk452 i k0_t1 v83 v830), ∀ (k0_h5 : k0_cond5 i k0_t1 = 1#1), ∀ a x, ((![v83, v830] : Fin 2 → IVec S16 32) a x).toNat < S160x240.size a := fun i k0_t1 v83 v830 k0_hw452 k0_h5 => k0_hw452 k0_h5

def k0_chk453 (i : grid0.Coords) (k0_t1 : Fin (k0_t1_loop i).trips) (v83 : IVec S16 32) (v834 : IVec S16 32) : Prop :=
  (∀ (k0_h5 : k0_cond5 i k0_t1 = 1#1), ∀ a x, ((![v83, v834] : Fin 2 → IVec S16 32) a x).toNat < S160x240.size a)
theorem k0_idx533_inb : ∀ (i : grid0.Coords) (k0_t1 : Fin (k0_t1_loop i).trips) (v83 : IVec S16 32) (v834 : IVec S16 32) (k0_hw453 : k0_chk453 i k0_t1 v83 v834), ∀ (k0_h5 : k0_cond5 i k0_t1 = 1#1), ∀ a x, ((![v83, v834] : Fin 2 → IVec S16 32) a x).toNat < S160x240.size a := fun i k0_t1 v83 v834 k0_hw453 k0_h5 => k0_hw453 k0_h5

def k0_chk454 (i : grid0.Coords) (k0_t1 : Fin (k0_t1_loop i).trips) (v83 : IVec S16 32) (v838 : IVec S16 32) : Prop :=
  (∀ (k0_h5 : k0_cond5 i k0_t1 = 1#1), ∀ a x, ((![v83, v838] : Fin 2 → IVec S16 32) a x).toNat < S160x240.size a)
theorem k0_idx534_inb : ∀ (i : grid0.Coords) (k0_t1 : Fin (k0_t1_loop i).trips) (v83 : IVec S16 32) (v838 : IVec S16 32) (k0_hw454 : k0_chk454 i k0_t1 v83 v838), ∀ (k0_h5 : k0_cond5 i k0_t1 = 1#1), ∀ a x, ((![v83, v838] : Fin 2 → IVec S16 32) a x).toNat < S160x240.size a := fun i k0_t1 v83 v838 k0_hw454 k0_h5 => k0_hw454 k0_h5

def k0_chk455 (i : grid0.Coords) (k0_t1 : Fin (k0_t1_loop i).trips) (v83 : IVec S16 32) (v842 : IVec S16 32) : Prop :=
  (∀ (k0_h5 : k0_cond5 i k0_t1 = 1#1), ∀ a x, ((![v83, v842] : Fin 2 → IVec S16 32) a x).toNat < S160x240.size a)
theorem k0_idx535_inb : ∀ (i : grid0.Coords) (k0_t1 : Fin (k0_t1_loop i).trips) (v83 : IVec S16 32) (v842 : IVec S16 32) (k0_hw455 : k0_chk455 i k0_t1 v83 v842), ∀ (k0_h5 : k0_cond5 i k0_t1 = 1#1), ∀ a x, ((![v83, v842] : Fin 2 → IVec S16 32) a x).toNat < S160x240.size a := fun i k0_t1 v83 v842 k0_hw455 k0_h5 => k0_hw455 k0_h5

def k0_chk456 (i : grid0.Coords) (k0_t1 : Fin (k0_t1_loop i).trips) (v83 : IVec S16 32) (v819 : IVec S16 32) : Prop :=
  (∀ (k0_h5 : k0_cond5 i k0_t1 = 1#1), ∀ a x, ((![v819] : Fin 1 → IVec S16 32) a x).toNat < S48.size a) ∧
  (∀ (k0_h5 : k0_cond5 i k0_t1 = 1#1), ∀ a x, ((![v83, v819] : Fin 2 → IVec S16 32) a x).toNat < S160x48.size a)
theorem k0_idx536_inb : ∀ (i : grid0.Coords) (k0_t1 : Fin (k0_t1_loop i).trips) (v83 : IVec S16 32) (v819 : IVec S16 32) (k0_hw456 : k0_chk456 i k0_t1 v83 v819), ∀ (k0_h5 : k0_cond5 i k0_t1 = 1#1), ∀ a x, ((![v819] : Fin 1 → IVec S16 32) a x).toNat < S48.size a := fun i k0_t1 v83 v819 k0_hw456 k0_h5 => k0_hw456.1 k0_h5
theorem k0_idx537_inb : ∀ (i : grid0.Coords) (k0_t1 : Fin (k0_t1_loop i).trips) (v83 : IVec S16 32) (v819 : IVec S16 32) (k0_hw456 : k0_chk456 i k0_t1 v83 v819), ∀ (k0_h5 : k0_cond5 i k0_t1 = 1#1), ∀ a x, ((![v83, v819] : Fin 2 → IVec S16 32) a x).toNat < S160x48.size a := fun i k0_t1 v83 v819 k0_hw456 k0_h5 => k0_hw456.2 k0_h5

def k0_chk457 (i : grid0.Coords) (k0_t1 : Fin (k0_t1_loop i).trips) (v83 : IVec S16 32) (v846 : IVec S16 32) : Prop :=
  (∀ (k0_h5 : k0_cond5 i k0_t1 = 1#1), ∀ a x, ((![v83, v846] : Fin 2 → IVec S16 32) a x).toNat < S160x240.size a)
theorem k0_idx538_inb : ∀ (i : grid0.Coords) (k0_t1 : Fin (k0_t1_loop i).trips) (v83 : IVec S16 32) (v846 : IVec S16 32) (k0_hw457 : k0_chk457 i k0_t1 v83 v846), ∀ (k0_h5 : k0_cond5 i k0_t1 = 1#1), ∀ a x, ((![v83, v846] : Fin 2 → IVec S16 32) a x).toNat < S160x240.size a := fun i k0_t1 v83 v846 k0_hw457 k0_h5 => k0_hw457 k0_h5

def k0_chk458 (i : grid0.Coords) (k0_t1 : Fin (k0_t1_loop i).trips) (v83 : IVec S16 32) (v860 : IVec S16 32) : Prop :=
  (∀ (k0_h5 : k0_cond5 i k0_t1 = 1#1), ∀ a x, ((![v83, v860] : Fin 2 → IVec S16 32) a x).toNat < S160x240.size a)
theorem k0_idx539_inb : ∀ (i : grid0.Coords) (k0_t1 : Fin (k0_t1_loop i).trips) (v83 : IVec S16 32) (v860 : IVec S16 32) (k0_hw458 : k0_chk458 i k0_t1 v83 v860), ∀ (k0_h5 : k0_cond5 i k0_t1 = 1#1), ∀ a x, ((![v83, v860] : Fin 2 → IVec S16 32) a x).toNat < S160x240.size a := fun i k0_t1 v83 v860 k0_hw458 k0_h5 => k0_hw458 k0_h5

def k0_chk459 (i : grid0.Coords) (k0_t1 : Fin (k0_t1_loop i).trips) (v83 : IVec S16 32) (v864 : IVec S16 32) : Prop :=
  (∀ (k0_h5 : k0_cond5 i k0_t1 = 1#1), ∀ a x, ((![v83, v864] : Fin 2 → IVec S16 32) a x).toNat < S160x240.size a)
theorem k0_idx540_inb : ∀ (i : grid0.Coords) (k0_t1 : Fin (k0_t1_loop i).trips) (v83 : IVec S16 32) (v864 : IVec S16 32) (k0_hw459 : k0_chk459 i k0_t1 v83 v864), ∀ (k0_h5 : k0_cond5 i k0_t1 = 1#1), ∀ a x, ((![v83, v864] : Fin 2 → IVec S16 32) a x).toNat < S160x240.size a := fun i k0_t1 v83 v864 k0_hw459 k0_h5 => k0_hw459 k0_h5

def k0_chk460 (i : grid0.Coords) (k0_t1 : Fin (k0_t1_loop i).trips) (v83 : IVec S16 32) (v868 : IVec S16 32) : Prop :=
  (∀ (k0_h5 : k0_cond5 i k0_t1 = 1#1), ∀ a x, ((![v83, v868] : Fin 2 → IVec S16 32) a x).toNat < S160x240.size a)
theorem k0_idx541_inb : ∀ (i : grid0.Coords) (k0_t1 : Fin (k0_t1_loop i).trips) (v83 : IVec S16 32) (v868 : IVec S16 32) (k0_hw460 : k0_chk460 i k0_t1 v83 v868), ∀ (k0_h5 : k0_cond5 i k0_t1 = 1#1), ∀ a x, ((![v83, v868] : Fin 2 → IVec S16 32) a x).toNat < S160x240.size a := fun i k0_t1 v83 v868 k0_hw460 k0_h5 => k0_hw460 k0_h5

def k0_chk461 (i : grid0.Coords) (k0_t1 : Fin (k0_t1_loop i).trips) (v83 : IVec S16 32) (v872 : IVec S16 32) : Prop :=
  (∀ (k0_h5 : k0_cond5 i k0_t1 = 1#1), ∀ a x, ((![v83, v872] : Fin 2 → IVec S16 32) a x).toNat < S160x240.size a)
theorem k0_idx542_inb : ∀ (i : grid0.Coords) (k0_t1 : Fin (k0_t1_loop i).trips) (v83 : IVec S16 32) (v872 : IVec S16 32) (k0_hw461 : k0_chk461 i k0_t1 v83 v872), ∀ (k0_h5 : k0_cond5 i k0_t1 = 1#1), ∀ a x, ((![v83, v872] : Fin 2 → IVec S16 32) a x).toNat < S160x240.size a := fun i k0_t1 v83 v872 k0_hw461 k0_h5 => k0_hw461 k0_h5

def k0_chk462 (i : grid0.Coords) (k0_t1 : Fin (k0_t1_loop i).trips) (v83 : IVec S16 32) (v876 : IVec S16 32) : Prop :=
  (∀ (k0_h5 : k0_cond5 i k0_t1 = 1#1), ∀ a x, ((![v83, v876] : Fin 2 → IVec S16 32) a x).toNat < S160x240.size a)
theorem k0_idx543_inb : ∀ (i : grid0.Coords) (k0_t1 : Fin (k0_t1_loop i).trips) (v83 : IVec S16 32) (v876 : IVec S16 32) (k0_hw462 : k0_chk462 i k0_t1 v83 v876), ∀ (k0_h5 : k0_cond5 i k0_t1 = 1#1), ∀ a x, ((![v83, v876] : Fin 2 → IVec S16 32) a x).toNat < S160x240.size a := fun i k0_t1 v83 v876 k0_hw462 k0_h5 => k0_hw462 k0_h5

def k0_chk463 (i : grid0.Coords) (k0_t1 : Fin (k0_t1_loop i).trips) (v83 : IVec S16 32) (v880 : IVec S16 32) : Prop :=
  (∀ (k0_h5 : k0_cond5 i k0_t1 = 1#1), ∀ a x, ((![v83, v880] : Fin 2 → IVec S16 32) a x).toNat < S160x240.size a)
theorem k0_idx544_inb : ∀ (i : grid0.Coords) (k0_t1 : Fin (k0_t1_loop i).trips) (v83 : IVec S16 32) (v880 : IVec S16 32) (k0_hw463 : k0_chk463 i k0_t1 v83 v880), ∀ (k0_h5 : k0_cond5 i k0_t1 = 1#1), ∀ a x, ((![v83, v880] : Fin 2 → IVec S16 32) a x).toNat < S160x240.size a := fun i k0_t1 v83 v880 k0_hw463 k0_h5 => k0_hw463 k0_h5

def k0_chk464 (i : grid0.Coords) (k0_t1 : Fin (k0_t1_loop i).trips) (v83 : IVec S16 32) (v857 : IVec S16 32) : Prop :=
  (∀ (k0_h5 : k0_cond5 i k0_t1 = 1#1), ∀ a x, ((![v857] : Fin 1 → IVec S16 32) a x).toNat < S48.size a) ∧
  (∀ (k0_h5 : k0_cond5 i k0_t1 = 1#1), ∀ a x, ((![v83, v857] : Fin 2 → IVec S16 32) a x).toNat < S160x48.size a)
theorem k0_idx545_inb : ∀ (i : grid0.Coords) (k0_t1 : Fin (k0_t1_loop i).trips) (v83 : IVec S16 32) (v857 : IVec S16 32) (k0_hw464 : k0_chk464 i k0_t1 v83 v857), ∀ (k0_h5 : k0_cond5 i k0_t1 = 1#1), ∀ a x, ((![v857] : Fin 1 → IVec S16 32) a x).toNat < S48.size a := fun i k0_t1 v83 v857 k0_hw464 k0_h5 => k0_hw464.1 k0_h5
theorem k0_idx546_inb : ∀ (i : grid0.Coords) (k0_t1 : Fin (k0_t1_loop i).trips) (v83 : IVec S16 32) (v857 : IVec S16 32) (k0_hw464 : k0_chk464 i k0_t1 v83 v857), ∀ (k0_h5 : k0_cond5 i k0_t1 = 1#1), ∀ a x, ((![v83, v857] : Fin 2 → IVec S16 32) a x).toNat < S160x48.size a := fun i k0_t1 v83 v857 k0_hw464 k0_h5 => k0_hw464.2 k0_h5

def k0_chk465 (i : grid0.Coords) (k0_t1 : Fin (k0_t1_loop i).trips) (v83 : IVec S16 32) (v884 : IVec S16 32) : Prop :=
  (∀ (k0_h5 : k0_cond5 i k0_t1 = 1#1), ∀ a x, ((![v83, v884] : Fin 2 → IVec S16 32) a x).toNat < S160x240.size a)
theorem k0_idx547_inb : ∀ (i : grid0.Coords) (k0_t1 : Fin (k0_t1_loop i).trips) (v83 : IVec S16 32) (v884 : IVec S16 32) (k0_hw465 : k0_chk465 i k0_t1 v83 v884), ∀ (k0_h5 : k0_cond5 i k0_t1 = 1#1), ∀ a x, ((![v83, v884] : Fin 2 → IVec S16 32) a x).toNat < S160x240.size a := fun i k0_t1 v83 v884 k0_hw465 k0_h5 => k0_hw465 k0_h5

def k0_chk466 (i : grid0.Coords) (k0_t1 : Fin (k0_t1_loop i).trips) (v83 : IVec S16 32) (v898 : IVec S16 32) : Prop :=
  (∀ (k0_h5 : k0_cond5 i k0_t1 = 1#1), ∀ a x, ((![v83, v898] : Fin 2 → IVec S16 32) a x).toNat < S160x240.size a)
theorem k0_idx548_inb : ∀ (i : grid0.Coords) (k0_t1 : Fin (k0_t1_loop i).trips) (v83 : IVec S16 32) (v898 : IVec S16 32) (k0_hw466 : k0_chk466 i k0_t1 v83 v898), ∀ (k0_h5 : k0_cond5 i k0_t1 = 1#1), ∀ a x, ((![v83, v898] : Fin 2 → IVec S16 32) a x).toNat < S160x240.size a := fun i k0_t1 v83 v898 k0_hw466 k0_h5 => k0_hw466 k0_h5

def k0_chk467 (i : grid0.Coords) (k0_t1 : Fin (k0_t1_loop i).trips) (v83 : IVec S16 32) (v902 : IVec S16 32) : Prop :=
  (∀ (k0_h5 : k0_cond5 i k0_t1 = 1#1), ∀ a x, ((![v83, v902] : Fin 2 → IVec S16 32) a x).toNat < S160x240.size a)
theorem k0_idx549_inb : ∀ (i : grid0.Coords) (k0_t1 : Fin (k0_t1_loop i).trips) (v83 : IVec S16 32) (v902 : IVec S16 32) (k0_hw467 : k0_chk467 i k0_t1 v83 v902), ∀ (k0_h5 : k0_cond5 i k0_t1 = 1#1), ∀ a x, ((![v83, v902] : Fin 2 → IVec S16 32) a x).toNat < S160x240.size a := fun i k0_t1 v83 v902 k0_hw467 k0_h5 => k0_hw467 k0_h5

def k0_chk468 (i : grid0.Coords) (k0_t1 : Fin (k0_t1_loop i).trips) (v83 : IVec S16 32) (v906 : IVec S16 32) : Prop :=
  (∀ (k0_h5 : k0_cond5 i k0_t1 = 1#1), ∀ a x, ((![v83, v906] : Fin 2 → IVec S16 32) a x).toNat < S160x240.size a)
theorem k0_idx550_inb : ∀ (i : grid0.Coords) (k0_t1 : Fin (k0_t1_loop i).trips) (v83 : IVec S16 32) (v906 : IVec S16 32) (k0_hw468 : k0_chk468 i k0_t1 v83 v906), ∀ (k0_h5 : k0_cond5 i k0_t1 = 1#1), ∀ a x, ((![v83, v906] : Fin 2 → IVec S16 32) a x).toNat < S160x240.size a := fun i k0_t1 v83 v906 k0_hw468 k0_h5 => k0_hw468 k0_h5

def k0_chk469 (i : grid0.Coords) (k0_t1 : Fin (k0_t1_loop i).trips) (v83 : IVec S16 32) (v910 : IVec S16 32) : Prop :=
  (∀ (k0_h5 : k0_cond5 i k0_t1 = 1#1), ∀ a x, ((![v83, v910] : Fin 2 → IVec S16 32) a x).toNat < S160x240.size a)
theorem k0_idx551_inb : ∀ (i : grid0.Coords) (k0_t1 : Fin (k0_t1_loop i).trips) (v83 : IVec S16 32) (v910 : IVec S16 32) (k0_hw469 : k0_chk469 i k0_t1 v83 v910), ∀ (k0_h5 : k0_cond5 i k0_t1 = 1#1), ∀ a x, ((![v83, v910] : Fin 2 → IVec S16 32) a x).toNat < S160x240.size a := fun i k0_t1 v83 v910 k0_hw469 k0_h5 => k0_hw469 k0_h5

def k0_chk470 (i : grid0.Coords) (k0_t1 : Fin (k0_t1_loop i).trips) (v83 : IVec S16 32) (v914 : IVec S16 32) : Prop :=
  (∀ (k0_h5 : k0_cond5 i k0_t1 = 1#1), ∀ a x, ((![v83, v914] : Fin 2 → IVec S16 32) a x).toNat < S160x240.size a)
theorem k0_idx552_inb : ∀ (i : grid0.Coords) (k0_t1 : Fin (k0_t1_loop i).trips) (v83 : IVec S16 32) (v914 : IVec S16 32) (k0_hw470 : k0_chk470 i k0_t1 v83 v914), ∀ (k0_h5 : k0_cond5 i k0_t1 = 1#1), ∀ a x, ((![v83, v914] : Fin 2 → IVec S16 32) a x).toNat < S160x240.size a := fun i k0_t1 v83 v914 k0_hw470 k0_h5 => k0_hw470 k0_h5

def k0_chk471 (i : grid0.Coords) (k0_t1 : Fin (k0_t1_loop i).trips) (v83 : IVec S16 32) (v918 : IVec S16 32) : Prop :=
  (∀ (k0_h5 : k0_cond5 i k0_t1 = 1#1), ∀ a x, ((![v83, v918] : Fin 2 → IVec S16 32) a x).toNat < S160x240.size a)
theorem k0_idx553_inb : ∀ (i : grid0.Coords) (k0_t1 : Fin (k0_t1_loop i).trips) (v83 : IVec S16 32) (v918 : IVec S16 32) (k0_hw471 : k0_chk471 i k0_t1 v83 v918), ∀ (k0_h5 : k0_cond5 i k0_t1 = 1#1), ∀ a x, ((![v83, v918] : Fin 2 → IVec S16 32) a x).toNat < S160x240.size a := fun i k0_t1 v83 v918 k0_hw471 k0_h5 => k0_hw471 k0_h5

def k0_chk472 (i : grid0.Coords) (k0_t1 : Fin (k0_t1_loop i).trips) (v83 : IVec S16 32) (v895 : IVec S16 32) : Prop :=
  (∀ (k0_h5 : k0_cond5 i k0_t1 = 1#1), ∀ a x, ((![v895] : Fin 1 → IVec S16 32) a x).toNat < S48.size a) ∧
  (∀ (k0_h5 : k0_cond5 i k0_t1 = 1#1), ∀ a x, ((![v83, v895] : Fin 2 → IVec S16 32) a x).toNat < S160x48.size a)
theorem k0_idx554_inb : ∀ (i : grid0.Coords) (k0_t1 : Fin (k0_t1_loop i).trips) (v83 : IVec S16 32) (v895 : IVec S16 32) (k0_hw472 : k0_chk472 i k0_t1 v83 v895), ∀ (k0_h5 : k0_cond5 i k0_t1 = 1#1), ∀ a x, ((![v895] : Fin 1 → IVec S16 32) a x).toNat < S48.size a := fun i k0_t1 v83 v895 k0_hw472 k0_h5 => k0_hw472.1 k0_h5
theorem k0_idx555_inb : ∀ (i : grid0.Coords) (k0_t1 : Fin (k0_t1_loop i).trips) (v83 : IVec S16 32) (v895 : IVec S16 32) (k0_hw472 : k0_chk472 i k0_t1 v83 v895), ∀ (k0_h5 : k0_cond5 i k0_t1 = 1#1), ∀ a x, ((![v83, v895] : Fin 2 → IVec S16 32) a x).toNat < S160x48.size a := fun i k0_t1 v83 v895 k0_hw472 k0_h5 => k0_hw472.2 k0_h5

def k0_chk473 (i : grid0.Coords) (k0_t1 : Fin (k0_t1_loop i).trips) (v83 : IVec S16 32) (v922 : IVec S16 32) : Prop :=
  (∀ (k0_h5 : k0_cond5 i k0_t1 = 1#1), ∀ a x, ((![v83, v922] : Fin 2 → IVec S16 32) a x).toNat < S160x240.size a)
theorem k0_idx556_inb : ∀ (i : grid0.Coords) (k0_t1 : Fin (k0_t1_loop i).trips) (v83 : IVec S16 32) (v922 : IVec S16 32) (k0_hw473 : k0_chk473 i k0_t1 v83 v922), ∀ (k0_h5 : k0_cond5 i k0_t1 = 1#1), ∀ a x, ((![v83, v922] : Fin 2 → IVec S16 32) a x).toNat < S160x240.size a := fun i k0_t1 v83 v922 k0_hw473 k0_h5 => k0_hw473 k0_h5

def k0_chk474 (i : grid0.Coords) (k0_t1 : Fin (k0_t1_loop i).trips) (v83 : IVec S16 32) (v936 : IVec S16 32) : Prop :=
  (∀ (k0_h5 : k0_cond5 i k0_t1 = 1#1), ∀ a x, ((![v83, v936] : Fin 2 → IVec S16 32) a x).toNat < S160x240.size a)
theorem k0_idx557_inb : ∀ (i : grid0.Coords) (k0_t1 : Fin (k0_t1_loop i).trips) (v83 : IVec S16 32) (v936 : IVec S16 32) (k0_hw474 : k0_chk474 i k0_t1 v83 v936), ∀ (k0_h5 : k0_cond5 i k0_t1 = 1#1), ∀ a x, ((![v83, v936] : Fin 2 → IVec S16 32) a x).toNat < S160x240.size a := fun i k0_t1 v83 v936 k0_hw474 k0_h5 => k0_hw474 k0_h5

def k0_chk475 (i : grid0.Coords) (k0_t1 : Fin (k0_t1_loop i).trips) (v83 : IVec S16 32) (v940 : IVec S16 32) : Prop :=
  (∀ (k0_h5 : k0_cond5 i k0_t1 = 1#1), ∀ a x, ((![v83, v940] : Fin 2 → IVec S16 32) a x).toNat < S160x240.size a)
theorem k0_idx558_inb : ∀ (i : grid0.Coords) (k0_t1 : Fin (k0_t1_loop i).trips) (v83 : IVec S16 32) (v940 : IVec S16 32) (k0_hw475 : k0_chk475 i k0_t1 v83 v940), ∀ (k0_h5 : k0_cond5 i k0_t1 = 1#1), ∀ a x, ((![v83, v940] : Fin 2 → IVec S16 32) a x).toNat < S160x240.size a := fun i k0_t1 v83 v940 k0_hw475 k0_h5 => k0_hw475 k0_h5

def k0_chk476 (i : grid0.Coords) (k0_t1 : Fin (k0_t1_loop i).trips) (v83 : IVec S16 32) (v944 : IVec S16 32) : Prop :=
  (∀ (k0_h5 : k0_cond5 i k0_t1 = 1#1), ∀ a x, ((![v83, v944] : Fin 2 → IVec S16 32) a x).toNat < S160x240.size a)
theorem k0_idx559_inb : ∀ (i : grid0.Coords) (k0_t1 : Fin (k0_t1_loop i).trips) (v83 : IVec S16 32) (v944 : IVec S16 32) (k0_hw476 : k0_chk476 i k0_t1 v83 v944), ∀ (k0_h5 : k0_cond5 i k0_t1 = 1#1), ∀ a x, ((![v83, v944] : Fin 2 → IVec S16 32) a x).toNat < S160x240.size a := fun i k0_t1 v83 v944 k0_hw476 k0_h5 => k0_hw476 k0_h5

def k0_chk477 (i : grid0.Coords) (k0_t1 : Fin (k0_t1_loop i).trips) (v83 : IVec S16 32) (v948 : IVec S16 32) : Prop :=
  (∀ (k0_h5 : k0_cond5 i k0_t1 = 1#1), ∀ a x, ((![v83, v948] : Fin 2 → IVec S16 32) a x).toNat < S160x240.size a)
theorem k0_idx560_inb : ∀ (i : grid0.Coords) (k0_t1 : Fin (k0_t1_loop i).trips) (v83 : IVec S16 32) (v948 : IVec S16 32) (k0_hw477 : k0_chk477 i k0_t1 v83 v948), ∀ (k0_h5 : k0_cond5 i k0_t1 = 1#1), ∀ a x, ((![v83, v948] : Fin 2 → IVec S16 32) a x).toNat < S160x240.size a := fun i k0_t1 v83 v948 k0_hw477 k0_h5 => k0_hw477 k0_h5

def k0_chk478 (i : grid0.Coords) (k0_t1 : Fin (k0_t1_loop i).trips) (v83 : IVec S16 32) (v952 : IVec S16 32) : Prop :=
  (∀ (k0_h5 : k0_cond5 i k0_t1 = 1#1), ∀ a x, ((![v83, v952] : Fin 2 → IVec S16 32) a x).toNat < S160x240.size a)
theorem k0_idx561_inb : ∀ (i : grid0.Coords) (k0_t1 : Fin (k0_t1_loop i).trips) (v83 : IVec S16 32) (v952 : IVec S16 32) (k0_hw478 : k0_chk478 i k0_t1 v83 v952), ∀ (k0_h5 : k0_cond5 i k0_t1 = 1#1), ∀ a x, ((![v83, v952] : Fin 2 → IVec S16 32) a x).toNat < S160x240.size a := fun i k0_t1 v83 v952 k0_hw478 k0_h5 => k0_hw478 k0_h5

def k0_chk479 (i : grid0.Coords) (k0_t1 : Fin (k0_t1_loop i).trips) (v83 : IVec S16 32) (v956 : IVec S16 32) : Prop :=
  (∀ (k0_h5 : k0_cond5 i k0_t1 = 1#1), ∀ a x, ((![v83, v956] : Fin 2 → IVec S16 32) a x).toNat < S160x240.size a)
theorem k0_idx562_inb : ∀ (i : grid0.Coords) (k0_t1 : Fin (k0_t1_loop i).trips) (v83 : IVec S16 32) (v956 : IVec S16 32) (k0_hw479 : k0_chk479 i k0_t1 v83 v956), ∀ (k0_h5 : k0_cond5 i k0_t1 = 1#1), ∀ a x, ((![v83, v956] : Fin 2 → IVec S16 32) a x).toNat < S160x240.size a := fun i k0_t1 v83 v956 k0_hw479 k0_h5 => k0_hw479 k0_h5

def k0_chk480 (i : grid0.Coords) (k0_t1 : Fin (k0_t1_loop i).trips) (v83 : IVec S16 32) (v933 : IVec S16 32) : Prop :=
  (∀ (k0_h5 : k0_cond5 i k0_t1 = 1#1), ∀ a x, ((![v933] : Fin 1 → IVec S16 32) a x).toNat < S48.size a) ∧
  (∀ (k0_h5 : k0_cond5 i k0_t1 = 1#1), ∀ a x, ((![v83, v933] : Fin 2 → IVec S16 32) a x).toNat < S160x48.size a)
theorem k0_idx563_inb : ∀ (i : grid0.Coords) (k0_t1 : Fin (k0_t1_loop i).trips) (v83 : IVec S16 32) (v933 : IVec S16 32) (k0_hw480 : k0_chk480 i k0_t1 v83 v933), ∀ (k0_h5 : k0_cond5 i k0_t1 = 1#1), ∀ a x, ((![v933] : Fin 1 → IVec S16 32) a x).toNat < S48.size a := fun i k0_t1 v83 v933 k0_hw480 k0_h5 => k0_hw480.1 k0_h5
theorem k0_idx564_inb : ∀ (i : grid0.Coords) (k0_t1 : Fin (k0_t1_loop i).trips) (v83 : IVec S16 32) (v933 : IVec S16 32) (k0_hw480 : k0_chk480 i k0_t1 v83 v933), ∀ (k0_h5 : k0_cond5 i k0_t1 = 1#1), ∀ a x, ((![v83, v933] : Fin 2 → IVec S16 32) a x).toNat < S160x48.size a := fun i k0_t1 v83 v933 k0_hw480 k0_h5 => k0_hw480.2 k0_h5

def k0_chk481 (i : grid0.Coords) (k0_t1 : Fin (k0_t1_loop i).trips) (v83 : IVec S16 32) (v960 : IVec S16 32) : Prop :=
  (∀ (k0_h5 : k0_cond5 i k0_t1 = 1#1), ∀ a x, ((![v83, v960] : Fin 2 → IVec S16 32) a x).toNat < S160x240.size a)
theorem k0_idx565_inb : ∀ (i : grid0.Coords) (k0_t1 : Fin (k0_t1_loop i).trips) (v83 : IVec S16 32) (v960 : IVec S16 32) (k0_hw481 : k0_chk481 i k0_t1 v83 v960), ∀ (k0_h5 : k0_cond5 i k0_t1 = 1#1), ∀ a x, ((![v83, v960] : Fin 2 → IVec S16 32) a x).toNat < S160x240.size a := fun i k0_t1 v83 v960 k0_hw481 k0_h5 => k0_hw481 k0_h5

def k0_chk482 (i : grid0.Coords) (k0_t1 : Fin (k0_t1_loop i).trips) (v83 : IVec S16 32) (v974 : IVec S16 32) : Prop :=
  (∀ (k0_h5 : k0_cond5 i k0_t1 = 1#1), ∀ a x, ((![v83, v974] : Fin 2 → IVec S16 32) a x).toNat < S160x240.size a)
theorem k0_idx566_inb : ∀ (i : grid0.Coords) (k0_t1 : Fin (k0_t1_loop i).trips) (v83 : IVec S16 32) (v974 : IVec S16 32) (k0_hw482 : k0_chk482 i k0_t1 v83 v974), ∀ (k0_h5 : k0_cond5 i k0_t1 = 1#1), ∀ a x, ((![v83, v974] : Fin 2 → IVec S16 32) a x).toNat < S160x240.size a := fun i k0_t1 v83 v974 k0_hw482 k0_h5 => k0_hw482 k0_h5

def k0_chk483 (i : grid0.Coords) (k0_t1 : Fin (k0_t1_loop i).trips) (v83 : IVec S16 32) (v978 : IVec S16 32) : Prop :=
  (∀ (k0_h5 : k0_cond5 i k0_t1 = 1#1), ∀ a x, ((![v83, v978] : Fin 2 → IVec S16 32) a x).toNat < S160x240.size a)
theorem k0_idx567_inb : ∀ (i : grid0.Coords) (k0_t1 : Fin (k0_t1_loop i).trips) (v83 : IVec S16 32) (v978 : IVec S16 32) (k0_hw483 : k0_chk483 i k0_t1 v83 v978), ∀ (k0_h5 : k0_cond5 i k0_t1 = 1#1), ∀ a x, ((![v83, v978] : Fin 2 → IVec S16 32) a x).toNat < S160x240.size a := fun i k0_t1 v83 v978 k0_hw483 k0_h5 => k0_hw483 k0_h5

def k0_chk484 (i : grid0.Coords) (k0_t1 : Fin (k0_t1_loop i).trips) (v83 : IVec S16 32) (v982 : IVec S16 32) : Prop :=
  (∀ (k0_h5 : k0_cond5 i k0_t1 = 1#1), ∀ a x, ((![v83, v982] : Fin 2 → IVec S16 32) a x).toNat < S160x240.size a)
theorem k0_idx568_inb : ∀ (i : grid0.Coords) (k0_t1 : Fin (k0_t1_loop i).trips) (v83 : IVec S16 32) (v982 : IVec S16 32) (k0_hw484 : k0_chk484 i k0_t1 v83 v982), ∀ (k0_h5 : k0_cond5 i k0_t1 = 1#1), ∀ a x, ((![v83, v982] : Fin 2 → IVec S16 32) a x).toNat < S160x240.size a := fun i k0_t1 v83 v982 k0_hw484 k0_h5 => k0_hw484 k0_h5

def k0_chk485 (i : grid0.Coords) (k0_t1 : Fin (k0_t1_loop i).trips) (v83 : IVec S16 32) (v986 : IVec S16 32) : Prop :=
  (∀ (k0_h5 : k0_cond5 i k0_t1 = 1#1), ∀ a x, ((![v83, v986] : Fin 2 → IVec S16 32) a x).toNat < S160x240.size a)
theorem k0_idx569_inb : ∀ (i : grid0.Coords) (k0_t1 : Fin (k0_t1_loop i).trips) (v83 : IVec S16 32) (v986 : IVec S16 32) (k0_hw485 : k0_chk485 i k0_t1 v83 v986), ∀ (k0_h5 : k0_cond5 i k0_t1 = 1#1), ∀ a x, ((![v83, v986] : Fin 2 → IVec S16 32) a x).toNat < S160x240.size a := fun i k0_t1 v83 v986 k0_hw485 k0_h5 => k0_hw485 k0_h5

def k0_chk486 (i : grid0.Coords) (k0_t1 : Fin (k0_t1_loop i).trips) (v83 : IVec S16 32) (v990 : IVec S16 32) : Prop :=
  (∀ (k0_h5 : k0_cond5 i k0_t1 = 1#1), ∀ a x, ((![v83, v990] : Fin 2 → IVec S16 32) a x).toNat < S160x240.size a)
theorem k0_idx570_inb : ∀ (i : grid0.Coords) (k0_t1 : Fin (k0_t1_loop i).trips) (v83 : IVec S16 32) (v990 : IVec S16 32) (k0_hw486 : k0_chk486 i k0_t1 v83 v990), ∀ (k0_h5 : k0_cond5 i k0_t1 = 1#1), ∀ a x, ((![v83, v990] : Fin 2 → IVec S16 32) a x).toNat < S160x240.size a := fun i k0_t1 v83 v990 k0_hw486 k0_h5 => k0_hw486 k0_h5

def k0_chk487 (i : grid0.Coords) (k0_t1 : Fin (k0_t1_loop i).trips) (v83 : IVec S16 32) (v994 : IVec S16 32) : Prop :=
  (∀ (k0_h5 : k0_cond5 i k0_t1 = 1#1), ∀ a x, ((![v83, v994] : Fin 2 → IVec S16 32) a x).toNat < S160x240.size a)
theorem k0_idx571_inb : ∀ (i : grid0.Coords) (k0_t1 : Fin (k0_t1_loop i).trips) (v83 : IVec S16 32) (v994 : IVec S16 32) (k0_hw487 : k0_chk487 i k0_t1 v83 v994), ∀ (k0_h5 : k0_cond5 i k0_t1 = 1#1), ∀ a x, ((![v83, v994] : Fin 2 → IVec S16 32) a x).toNat < S160x240.size a := fun i k0_t1 v83 v994 k0_hw487 k0_h5 => k0_hw487 k0_h5

def k0_chk488 (i : grid0.Coords) (k0_t1 : Fin (k0_t1_loop i).trips) (v83 : IVec S16 32) (v971 : IVec S16 32) : Prop :=
  (∀ (k0_h5 : k0_cond5 i k0_t1 = 1#1), ∀ a x, ((![v971] : Fin 1 → IVec S16 32) a x).toNat < S48.size a) ∧
  (∀ (k0_h5 : k0_cond5 i k0_t1 = 1#1), ∀ a x, ((![v83, v971] : Fin 2 → IVec S16 32) a x).toNat < S160x48.size a)
theorem k0_idx572_inb : ∀ (i : grid0.Coords) (k0_t1 : Fin (k0_t1_loop i).trips) (v83 : IVec S16 32) (v971 : IVec S16 32) (k0_hw488 : k0_chk488 i k0_t1 v83 v971), ∀ (k0_h5 : k0_cond5 i k0_t1 = 1#1), ∀ a x, ((![v971] : Fin 1 → IVec S16 32) a x).toNat < S48.size a := fun i k0_t1 v83 v971 k0_hw488 k0_h5 => k0_hw488.1 k0_h5
theorem k0_idx573_inb : ∀ (i : grid0.Coords) (k0_t1 : Fin (k0_t1_loop i).trips) (v83 : IVec S16 32) (v971 : IVec S16 32) (k0_hw488 : k0_chk488 i k0_t1 v83 v971), ∀ (k0_h5 : k0_cond5 i k0_t1 = 1#1), ∀ a x, ((![v83, v971] : Fin 2 → IVec S16 32) a x).toNat < S160x48.size a := fun i k0_t1 v83 v971 k0_hw488 k0_h5 => k0_hw488.2 k0_h5

def k0_chk489 (i : grid0.Coords) (k0_t1 : Fin (k0_t1_loop i).trips) (v83 : IVec S16 32) (v998 : IVec S16 32) : Prop :=
  (∀ (k0_h5 : k0_cond5 i k0_t1 = 1#1), ∀ a x, ((![v83, v998] : Fin 2 → IVec S16 32) a x).toNat < S160x240.size a)
theorem k0_idx574_inb : ∀ (i : grid0.Coords) (k0_t1 : Fin (k0_t1_loop i).trips) (v83 : IVec S16 32) (v998 : IVec S16 32) (k0_hw489 : k0_chk489 i k0_t1 v83 v998), ∀ (k0_h5 : k0_cond5 i k0_t1 = 1#1), ∀ a x, ((![v83, v998] : Fin 2 → IVec S16 32) a x).toNat < S160x240.size a := fun i k0_t1 v83 v998 k0_hw489 k0_h5 => k0_hw489 k0_h5

def k0_chk490 (i : grid0.Coords) (k0_t1 : Fin (k0_t1_loop i).trips) (v83 : IVec S16 32) (v1012 : IVec S16 32) : Prop :=
  (∀ (k0_h5 : k0_cond5 i k0_t1 = 1#1), ∀ a x, ((![v83, v1012] : Fin 2 → IVec S16 32) a x).toNat < S160x240.size a)
theorem k0_idx575_inb : ∀ (i : grid0.Coords) (k0_t1 : Fin (k0_t1_loop i).trips) (v83 : IVec S16 32) (v1012 : IVec S16 32) (k0_hw490 : k0_chk490 i k0_t1 v83 v1012), ∀ (k0_h5 : k0_cond5 i k0_t1 = 1#1), ∀ a x, ((![v83, v1012] : Fin 2 → IVec S16 32) a x).toNat < S160x240.size a := fun i k0_t1 v83 v1012 k0_hw490 k0_h5 => k0_hw490 k0_h5

def k0_chk491 (i : grid0.Coords) (k0_t1 : Fin (k0_t1_loop i).trips) (v83 : IVec S16 32) (v1016 : IVec S16 32) : Prop :=
  (∀ (k0_h5 : k0_cond5 i k0_t1 = 1#1), ∀ a x, ((![v83, v1016] : Fin 2 → IVec S16 32) a x).toNat < S160x240.size a)
theorem k0_idx576_inb : ∀ (i : grid0.Coords) (k0_t1 : Fin (k0_t1_loop i).trips) (v83 : IVec S16 32) (v1016 : IVec S16 32) (k0_hw491 : k0_chk491 i k0_t1 v83 v1016), ∀ (k0_h5 : k0_cond5 i k0_t1 = 1#1), ∀ a x, ((![v83, v1016] : Fin 2 → IVec S16 32) a x).toNat < S160x240.size a := fun i k0_t1 v83 v1016 k0_hw491 k0_h5 => k0_hw491 k0_h5

def k0_chk492 (i : grid0.Coords) (k0_t1 : Fin (k0_t1_loop i).trips) (v83 : IVec S16 32) (v1020 : IVec S16 32) : Prop :=
  (∀ (k0_h5 : k0_cond5 i k0_t1 = 1#1), ∀ a x, ((![v83, v1020] : Fin 2 → IVec S16 32) a x).toNat < S160x240.size a)
theorem k0_idx577_inb : ∀ (i : grid0.Coords) (k0_t1 : Fin (k0_t1_loop i).trips) (v83 : IVec S16 32) (v1020 : IVec S16 32) (k0_hw492 : k0_chk492 i k0_t1 v83 v1020), ∀ (k0_h5 : k0_cond5 i k0_t1 = 1#1), ∀ a x, ((![v83, v1020] : Fin 2 → IVec S16 32) a x).toNat < S160x240.size a := fun i k0_t1 v83 v1020 k0_hw492 k0_h5 => k0_hw492 k0_h5

def k0_chk493 (i : grid0.Coords) (k0_t1 : Fin (k0_t1_loop i).trips) (v83 : IVec S16 32) (v1024 : IVec S16 32) : Prop :=
  (∀ (k0_h5 : k0_cond5 i k0_t1 = 1#1), ∀ a x, ((![v83, v1024] : Fin 2 → IVec S16 32) a x).toNat < S160x240.size a)
theorem k0_idx578_inb : ∀ (i : grid0.Coords) (k0_t1 : Fin (k0_t1_loop i).trips) (v83 : IVec S16 32) (v1024 : IVec S16 32) (k0_hw493 : k0_chk493 i k0_t1 v83 v1024), ∀ (k0_h5 : k0_cond5 i k0_t1 = 1#1), ∀ a x, ((![v83, v1024] : Fin 2 → IVec S16 32) a x).toNat < S160x240.size a := fun i k0_t1 v83 v1024 k0_hw493 k0_h5 => k0_hw493 k0_h5

def k0_chk494 (i : grid0.Coords) (k0_t1 : Fin (k0_t1_loop i).trips) (v83 : IVec S16 32) (v1028 : IVec S16 32) : Prop :=
  (∀ (k0_h5 : k0_cond5 i k0_t1 = 1#1), ∀ a x, ((![v83, v1028] : Fin 2 → IVec S16 32) a x).toNat < S160x240.size a)
theorem k0_idx579_inb : ∀ (i : grid0.Coords) (k0_t1 : Fin (k0_t1_loop i).trips) (v83 : IVec S16 32) (v1028 : IVec S16 32) (k0_hw494 : k0_chk494 i k0_t1 v83 v1028), ∀ (k0_h5 : k0_cond5 i k0_t1 = 1#1), ∀ a x, ((![v83, v1028] : Fin 2 → IVec S16 32) a x).toNat < S160x240.size a := fun i k0_t1 v83 v1028 k0_hw494 k0_h5 => k0_hw494 k0_h5

def k0_chk495 (i : grid0.Coords) (k0_t1 : Fin (k0_t1_loop i).trips) (v83 : IVec S16 32) (v1032 : IVec S16 32) : Prop :=
  (∀ (k0_h5 : k0_cond5 i k0_t1 = 1#1), ∀ a x, ((![v83, v1032] : Fin 2 → IVec S16 32) a x).toNat < S160x240.size a)
theorem k0_idx580_inb : ∀ (i : grid0.Coords) (k0_t1 : Fin (k0_t1_loop i).trips) (v83 : IVec S16 32) (v1032 : IVec S16 32) (k0_hw495 : k0_chk495 i k0_t1 v83 v1032), ∀ (k0_h5 : k0_cond5 i k0_t1 = 1#1), ∀ a x, ((![v83, v1032] : Fin 2 → IVec S16 32) a x).toNat < S160x240.size a := fun i k0_t1 v83 v1032 k0_hw495 k0_h5 => k0_hw495 k0_h5

def k0_chk496 (i : grid0.Coords) (k0_t1 : Fin (k0_t1_loop i).trips) (v83 : IVec S16 32) (v1009 : IVec S16 32) : Prop :=
  (∀ (k0_h5 : k0_cond5 i k0_t1 = 1#1), ∀ a x, ((![v1009] : Fin 1 → IVec S16 32) a x).toNat < S48.size a) ∧
  (∀ (k0_h5 : k0_cond5 i k0_t1 = 1#1), ∀ a x, ((![v83, v1009] : Fin 2 → IVec S16 32) a x).toNat < S160x48.size a)
theorem k0_idx581_inb : ∀ (i : grid0.Coords) (k0_t1 : Fin (k0_t1_loop i).trips) (v83 : IVec S16 32) (v1009 : IVec S16 32) (k0_hw496 : k0_chk496 i k0_t1 v83 v1009), ∀ (k0_h5 : k0_cond5 i k0_t1 = 1#1), ∀ a x, ((![v1009] : Fin 1 → IVec S16 32) a x).toNat < S48.size a := fun i k0_t1 v83 v1009 k0_hw496 k0_h5 => k0_hw496.1 k0_h5
theorem k0_idx582_inb : ∀ (i : grid0.Coords) (k0_t1 : Fin (k0_t1_loop i).trips) (v83 : IVec S16 32) (v1009 : IVec S16 32) (k0_hw496 : k0_chk496 i k0_t1 v83 v1009), ∀ (k0_h5 : k0_cond5 i k0_t1 = 1#1), ∀ a x, ((![v83, v1009] : Fin 2 → IVec S16 32) a x).toNat < S160x48.size a := fun i k0_t1 v83 v1009 k0_hw496 k0_h5 => k0_hw496.2 k0_h5

def k0_chk497 (i : grid0.Coords) (k0_t1 : Fin (k0_t1_loop i).trips) (v83 : IVec S16 32) (v1036 : IVec S16 32) : Prop :=
  (∀ (k0_h5 : k0_cond5 i k0_t1 = 1#1), ∀ a x, ((![v83, v1036] : Fin 2 → IVec S16 32) a x).toNat < S160x240.size a)
theorem k0_idx583_inb : ∀ (i : grid0.Coords) (k0_t1 : Fin (k0_t1_loop i).trips) (v83 : IVec S16 32) (v1036 : IVec S16 32) (k0_hw497 : k0_chk497 i k0_t1 v83 v1036), ∀ (k0_h5 : k0_cond5 i k0_t1 = 1#1), ∀ a x, ((![v83, v1036] : Fin 2 → IVec S16 32) a x).toNat < S160x240.size a := fun i k0_t1 v83 v1036 k0_hw497 k0_h5 => k0_hw497 k0_h5

def k0_chk498 (i : grid0.Coords) (k0_t1 : Fin (k0_t1_loop i).trips) (v83 : IVec S16 32) (v1050 : IVec S16 32) : Prop :=
  (∀ (k0_h5 : k0_cond5 i k0_t1 = 1#1), ∀ a x, ((![v83, v1050] : Fin 2 → IVec S16 32) a x).toNat < S160x240.size a)
theorem k0_idx584_inb : ∀ (i : grid0.Coords) (k0_t1 : Fin (k0_t1_loop i).trips) (v83 : IVec S16 32) (v1050 : IVec S16 32) (k0_hw498 : k0_chk498 i k0_t1 v83 v1050), ∀ (k0_h5 : k0_cond5 i k0_t1 = 1#1), ∀ a x, ((![v83, v1050] : Fin 2 → IVec S16 32) a x).toNat < S160x240.size a := fun i k0_t1 v83 v1050 k0_hw498 k0_h5 => k0_hw498 k0_h5

def k0_chk499 (i : grid0.Coords) (k0_t1 : Fin (k0_t1_loop i).trips) (v83 : IVec S16 32) (v1054 : IVec S16 32) : Prop :=
  (∀ (k0_h5 : k0_cond5 i k0_t1 = 1#1), ∀ a x, ((![v83, v1054] : Fin 2 → IVec S16 32) a x).toNat < S160x240.size a)
theorem k0_idx585_inb : ∀ (i : grid0.Coords) (k0_t1 : Fin (k0_t1_loop i).trips) (v83 : IVec S16 32) (v1054 : IVec S16 32) (k0_hw499 : k0_chk499 i k0_t1 v83 v1054), ∀ (k0_h5 : k0_cond5 i k0_t1 = 1#1), ∀ a x, ((![v83, v1054] : Fin 2 → IVec S16 32) a x).toNat < S160x240.size a := fun i k0_t1 v83 v1054 k0_hw499 k0_h5 => k0_hw499 k0_h5

def k0_chk500 (i : grid0.Coords) (k0_t1 : Fin (k0_t1_loop i).trips) (v83 : IVec S16 32) (v1058 : IVec S16 32) : Prop :=
  (∀ (k0_h5 : k0_cond5 i k0_t1 = 1#1), ∀ a x, ((![v83, v1058] : Fin 2 → IVec S16 32) a x).toNat < S160x240.size a)
theorem k0_idx586_inb : ∀ (i : grid0.Coords) (k0_t1 : Fin (k0_t1_loop i).trips) (v83 : IVec S16 32) (v1058 : IVec S16 32) (k0_hw500 : k0_chk500 i k0_t1 v83 v1058), ∀ (k0_h5 : k0_cond5 i k0_t1 = 1#1), ∀ a x, ((![v83, v1058] : Fin 2 → IVec S16 32) a x).toNat < S160x240.size a := fun i k0_t1 v83 v1058 k0_hw500 k0_h5 => k0_hw500 k0_h5

def k0_chk501 (i : grid0.Coords) (k0_t1 : Fin (k0_t1_loop i).trips) (v83 : IVec S16 32) (v1062 : IVec S16 32) : Prop :=
  (∀ (k0_h5 : k0_cond5 i k0_t1 = 1#1), ∀ a x, ((![v83, v1062] : Fin 2 → IVec S16 32) a x).toNat < S160x240.size a)
theorem k0_idx587_inb : ∀ (i : grid0.Coords) (k0_t1 : Fin (k0_t1_loop i).trips) (v83 : IVec S16 32) (v1062 : IVec S16 32) (k0_hw501 : k0_chk501 i k0_t1 v83 v1062), ∀ (k0_h5 : k0_cond5 i k0_t1 = 1#1), ∀ a x, ((![v83, v1062] : Fin 2 → IVec S16 32) a x).toNat < S160x240.size a := fun i k0_t1 v83 v1062 k0_hw501 k0_h5 => k0_hw501 k0_h5

def k0_chk502 (i : grid0.Coords) (k0_t1 : Fin (k0_t1_loop i).trips) (v83 : IVec S16 32) (v1066 : IVec S16 32) : Prop :=
  (∀ (k0_h5 : k0_cond5 i k0_t1 = 1#1), ∀ a x, ((![v83, v1066] : Fin 2 → IVec S16 32) a x).toNat < S160x240.size a)
theorem k0_idx588_inb : ∀ (i : grid0.Coords) (k0_t1 : Fin (k0_t1_loop i).trips) (v83 : IVec S16 32) (v1066 : IVec S16 32) (k0_hw502 : k0_chk502 i k0_t1 v83 v1066), ∀ (k0_h5 : k0_cond5 i k0_t1 = 1#1), ∀ a x, ((![v83, v1066] : Fin 2 → IVec S16 32) a x).toNat < S160x240.size a := fun i k0_t1 v83 v1066 k0_hw502 k0_h5 => k0_hw502 k0_h5

def k0_chk503 (i : grid0.Coords) (k0_t1 : Fin (k0_t1_loop i).trips) (v83 : IVec S16 32) (v1070 : IVec S16 32) : Prop :=
  (∀ (k0_h5 : k0_cond5 i k0_t1 = 1#1), ∀ a x, ((![v83, v1070] : Fin 2 → IVec S16 32) a x).toNat < S160x240.size a)
theorem k0_idx589_inb : ∀ (i : grid0.Coords) (k0_t1 : Fin (k0_t1_loop i).trips) (v83 : IVec S16 32) (v1070 : IVec S16 32) (k0_hw503 : k0_chk503 i k0_t1 v83 v1070), ∀ (k0_h5 : k0_cond5 i k0_t1 = 1#1), ∀ a x, ((![v83, v1070] : Fin 2 → IVec S16 32) a x).toNat < S160x240.size a := fun i k0_t1 v83 v1070 k0_hw503 k0_h5 => k0_hw503 k0_h5

def k0_chk504 (i : grid0.Coords) (k0_t1 : Fin (k0_t1_loop i).trips) (v83 : IVec S16 32) (v1047 : IVec S16 32) : Prop :=
  (∀ (k0_h5 : k0_cond5 i k0_t1 = 1#1), ∀ a x, ((![v1047] : Fin 1 → IVec S16 32) a x).toNat < S48.size a) ∧
  (∀ (k0_h5 : k0_cond5 i k0_t1 = 1#1), ∀ a x, ((![v83, v1047] : Fin 2 → IVec S16 32) a x).toNat < S160x48.size a)
theorem k0_idx590_inb : ∀ (i : grid0.Coords) (k0_t1 : Fin (k0_t1_loop i).trips) (v83 : IVec S16 32) (v1047 : IVec S16 32) (k0_hw504 : k0_chk504 i k0_t1 v83 v1047), ∀ (k0_h5 : k0_cond5 i k0_t1 = 1#1), ∀ a x, ((![v1047] : Fin 1 → IVec S16 32) a x).toNat < S48.size a := fun i k0_t1 v83 v1047 k0_hw504 k0_h5 => k0_hw504.1 k0_h5
theorem k0_idx591_inb : ∀ (i : grid0.Coords) (k0_t1 : Fin (k0_t1_loop i).trips) (v83 : IVec S16 32) (v1047 : IVec S16 32) (k0_hw504 : k0_chk504 i k0_t1 v83 v1047), ∀ (k0_h5 : k0_cond5 i k0_t1 = 1#1), ∀ a x, ((![v83, v1047] : Fin 2 → IVec S16 32) a x).toNat < S160x48.size a := fun i k0_t1 v83 v1047 k0_hw504 k0_h5 => k0_hw504.2 k0_h5

def k0_chk505 (i : grid0.Coords) (k0_t1 : Fin (k0_t1_loop i).trips) (v83 : IVec S16 32) (v1074 : IVec S16 32) : Prop :=
  (∀ (k0_h5 : k0_cond5 i k0_t1 = 1#1), ∀ a x, ((![v83, v1074] : Fin 2 → IVec S16 32) a x).toNat < S160x240.size a)
theorem k0_idx592_inb : ∀ (i : grid0.Coords) (k0_t1 : Fin (k0_t1_loop i).trips) (v83 : IVec S16 32) (v1074 : IVec S16 32) (k0_hw505 : k0_chk505 i k0_t1 v83 v1074), ∀ (k0_h5 : k0_cond5 i k0_t1 = 1#1), ∀ a x, ((![v83, v1074] : Fin 2 → IVec S16 32) a x).toNat < S160x240.size a := fun i k0_t1 v83 v1074 k0_hw505 k0_h5 => k0_hw505 k0_h5

def k0_chk506 (i : grid0.Coords) (k0_t1 : Fin (k0_t1_loop i).trips) (v83 : IVec S16 32) (v1088 : IVec S16 32) : Prop :=
  (∀ (k0_h5 : k0_cond5 i k0_t1 = 1#1), ∀ a x, ((![v83, v1088] : Fin 2 → IVec S16 32) a x).toNat < S160x240.size a)
theorem k0_idx593_inb : ∀ (i : grid0.Coords) (k0_t1 : Fin (k0_t1_loop i).trips) (v83 : IVec S16 32) (v1088 : IVec S16 32) (k0_hw506 : k0_chk506 i k0_t1 v83 v1088), ∀ (k0_h5 : k0_cond5 i k0_t1 = 1#1), ∀ a x, ((![v83, v1088] : Fin 2 → IVec S16 32) a x).toNat < S160x240.size a := fun i k0_t1 v83 v1088 k0_hw506 k0_h5 => k0_hw506 k0_h5

def k0_chk507 (i : grid0.Coords) (k0_t1 : Fin (k0_t1_loop i).trips) (v83 : IVec S16 32) (v1092 : IVec S16 32) : Prop :=
  (∀ (k0_h5 : k0_cond5 i k0_t1 = 1#1), ∀ a x, ((![v83, v1092] : Fin 2 → IVec S16 32) a x).toNat < S160x240.size a)
theorem k0_idx594_inb : ∀ (i : grid0.Coords) (k0_t1 : Fin (k0_t1_loop i).trips) (v83 : IVec S16 32) (v1092 : IVec S16 32) (k0_hw507 : k0_chk507 i k0_t1 v83 v1092), ∀ (k0_h5 : k0_cond5 i k0_t1 = 1#1), ∀ a x, ((![v83, v1092] : Fin 2 → IVec S16 32) a x).toNat < S160x240.size a := fun i k0_t1 v83 v1092 k0_hw507 k0_h5 => k0_hw507 k0_h5

def k0_chk508 (i : grid0.Coords) (k0_t1 : Fin (k0_t1_loop i).trips) (v83 : IVec S16 32) (v1096 : IVec S16 32) : Prop :=
  (∀ (k0_h5 : k0_cond5 i k0_t1 = 1#1), ∀ a x, ((![v83, v1096] : Fin 2 → IVec S16 32) a x).toNat < S160x240.size a)
theorem k0_idx595_inb : ∀ (i : grid0.Coords) (k0_t1 : Fin (k0_t1_loop i).trips) (v83 : IVec S16 32) (v1096 : IVec S16 32) (k0_hw508 : k0_chk508 i k0_t1 v83 v1096), ∀ (k0_h5 : k0_cond5 i k0_t1 = 1#1), ∀ a x, ((![v83, v1096] : Fin 2 → IVec S16 32) a x).toNat < S160x240.size a := fun i k0_t1 v83 v1096 k0_hw508 k0_h5 => k0_hw508 k0_h5

def k0_chk509 (i : grid0.Coords) (k0_t1 : Fin (k0_t1_loop i).trips) (v83 : IVec S16 32) (v1100 : IVec S16 32) : Prop :=
  (∀ (k0_h5 : k0_cond5 i k0_t1 = 1#1), ∀ a x, ((![v83, v1100] : Fin 2 → IVec S16 32) a x).toNat < S160x240.size a)
theorem k0_idx596_inb : ∀ (i : grid0.Coords) (k0_t1 : Fin (k0_t1_loop i).trips) (v83 : IVec S16 32) (v1100 : IVec S16 32) (k0_hw509 : k0_chk509 i k0_t1 v83 v1100), ∀ (k0_h5 : k0_cond5 i k0_t1 = 1#1), ∀ a x, ((![v83, v1100] : Fin 2 → IVec S16 32) a x).toNat < S160x240.size a := fun i k0_t1 v83 v1100 k0_hw509 k0_h5 => k0_hw509 k0_h5

def k0_chk510 (i : grid0.Coords) (k0_t1 : Fin (k0_t1_loop i).trips) (v83 : IVec S16 32) (v1104 : IVec S16 32) : Prop :=
  (∀ (k0_h5 : k0_cond5 i k0_t1 = 1#1), ∀ a x, ((![v83, v1104] : Fin 2 → IVec S16 32) a x).toNat < S160x240.size a)
theorem k0_idx597_inb : ∀ (i : grid0.Coords) (k0_t1 : Fin (k0_t1_loop i).trips) (v83 : IVec S16 32) (v1104 : IVec S16 32) (k0_hw510 : k0_chk510 i k0_t1 v83 v1104), ∀ (k0_h5 : k0_cond5 i k0_t1 = 1#1), ∀ a x, ((![v83, v1104] : Fin 2 → IVec S16 32) a x).toNat < S160x240.size a := fun i k0_t1 v83 v1104 k0_hw510 k0_h5 => k0_hw510 k0_h5

def k0_chk511 (i : grid0.Coords) (k0_t1 : Fin (k0_t1_loop i).trips) (v83 : IVec S16 32) (v1108 : IVec S16 32) : Prop :=
  (∀ (k0_h5 : k0_cond5 i k0_t1 = 1#1), ∀ a x, ((![v83, v1108] : Fin 2 → IVec S16 32) a x).toNat < S160x240.size a)
theorem k0_idx598_inb : ∀ (i : grid0.Coords) (k0_t1 : Fin (k0_t1_loop i).trips) (v83 : IVec S16 32) (v1108 : IVec S16 32) (k0_hw511 : k0_chk511 i k0_t1 v83 v1108), ∀ (k0_h5 : k0_cond5 i k0_t1 = 1#1), ∀ a x, ((![v83, v1108] : Fin 2 → IVec S16 32) a x).toNat < S160x240.size a := fun i k0_t1 v83 v1108 k0_hw511 k0_h5 => k0_hw511 k0_h5

def k0_chk512 (i : grid0.Coords) (k0_t1 : Fin (k0_t1_loop i).trips) (v83 : IVec S16 32) (v1085 : IVec S16 32) : Prop :=
  (∀ (k0_h5 : k0_cond5 i k0_t1 = 1#1), ∀ a x, ((![v1085] : Fin 1 → IVec S16 32) a x).toNat < S48.size a) ∧
  (∀ (k0_h5 : k0_cond5 i k0_t1 = 1#1), ∀ a x, ((![v83, v1085] : Fin 2 → IVec S16 32) a x).toNat < S160x48.size a)
theorem k0_idx599_inb : ∀ (i : grid0.Coords) (k0_t1 : Fin (k0_t1_loop i).trips) (v83 : IVec S16 32) (v1085 : IVec S16 32) (k0_hw512 : k0_chk512 i k0_t1 v83 v1085), ∀ (k0_h5 : k0_cond5 i k0_t1 = 1#1), ∀ a x, ((![v1085] : Fin 1 → IVec S16 32) a x).toNat < S48.size a := fun i k0_t1 v83 v1085 k0_hw512 k0_h5 => k0_hw512.1 k0_h5
theorem k0_idx600_inb : ∀ (i : grid0.Coords) (k0_t1 : Fin (k0_t1_loop i).trips) (v83 : IVec S16 32) (v1085 : IVec S16 32) (k0_hw512 : k0_chk512 i k0_t1 v83 v1085), ∀ (k0_h5 : k0_cond5 i k0_t1 = 1#1), ∀ a x, ((![v83, v1085] : Fin 2 → IVec S16 32) a x).toNat < S160x48.size a := fun i k0_t1 v83 v1085 k0_hw512 k0_h5 => k0_hw512.2 k0_h5

def k0_chk513 (i : grid0.Coords) (k0_t1 : Fin (k0_t1_loop i).trips) (v83 : IVec S16 32) (v1112 : IVec S16 32) : Prop :=
  (∀ (k0_h5 : k0_cond5 i k0_t1 = 1#1), ∀ a x, ((![v83, v1112] : Fin 2 → IVec S16 32) a x).toNat < S160x240.size a)
theorem k0_idx601_inb : ∀ (i : grid0.Coords) (k0_t1 : Fin (k0_t1_loop i).trips) (v83 : IVec S16 32) (v1112 : IVec S16 32) (k0_hw513 : k0_chk513 i k0_t1 v83 v1112), ∀ (k0_h5 : k0_cond5 i k0_t1 = 1#1), ∀ a x, ((![v83, v1112] : Fin 2 → IVec S16 32) a x).toNat < S160x240.size a := fun i k0_t1 v83 v1112 k0_hw513 k0_h5 => k0_hw513 k0_h5

def k0_chk514 (i : grid0.Coords) (k0_t1 : Fin (k0_t1_loop i).trips) (v83 : IVec S16 32) (v1126 : IVec S16 32) : Prop :=
  (∀ (k0_h5 : k0_cond5 i k0_t1 = 1#1), ∀ a x, ((![v83, v1126] : Fin 2 → IVec S16 32) a x).toNat < S160x240.size a)
theorem k0_idx602_inb : ∀ (i : grid0.Coords) (k0_t1 : Fin (k0_t1_loop i).trips) (v83 : IVec S16 32) (v1126 : IVec S16 32) (k0_hw514 : k0_chk514 i k0_t1 v83 v1126), ∀ (k0_h5 : k0_cond5 i k0_t1 = 1#1), ∀ a x, ((![v83, v1126] : Fin 2 → IVec S16 32) a x).toNat < S160x240.size a := fun i k0_t1 v83 v1126 k0_hw514 k0_h5 => k0_hw514 k0_h5

def k0_chk515 (i : grid0.Coords) (k0_t1 : Fin (k0_t1_loop i).trips) (v83 : IVec S16 32) (v1130 : IVec S16 32) : Prop :=
  (∀ (k0_h5 : k0_cond5 i k0_t1 = 1#1), ∀ a x, ((![v83, v1130] : Fin 2 → IVec S16 32) a x).toNat < S160x240.size a)
theorem k0_idx603_inb : ∀ (i : grid0.Coords) (k0_t1 : Fin (k0_t1_loop i).trips) (v83 : IVec S16 32) (v1130 : IVec S16 32) (k0_hw515 : k0_chk515 i k0_t1 v83 v1130), ∀ (k0_h5 : k0_cond5 i k0_t1 = 1#1), ∀ a x, ((![v83, v1130] : Fin 2 → IVec S16 32) a x).toNat < S160x240.size a := fun i k0_t1 v83 v1130 k0_hw515 k0_h5 => k0_hw515 k0_h5

def k0_chk516 (i : grid0.Coords) (k0_t1 : Fin (k0_t1_loop i).trips) (v83 : IVec S16 32) (v1134 : IVec S16 32) : Prop :=
  (∀ (k0_h5 : k0_cond5 i k0_t1 = 1#1), ∀ a x, ((![v83, v1134] : Fin 2 → IVec S16 32) a x).toNat < S160x240.size a)
theorem k0_idx604_inb : ∀ (i : grid0.Coords) (k0_t1 : Fin (k0_t1_loop i).trips) (v83 : IVec S16 32) (v1134 : IVec S16 32) (k0_hw516 : k0_chk516 i k0_t1 v83 v1134), ∀ (k0_h5 : k0_cond5 i k0_t1 = 1#1), ∀ a x, ((![v83, v1134] : Fin 2 → IVec S16 32) a x).toNat < S160x240.size a := fun i k0_t1 v83 v1134 k0_hw516 k0_h5 => k0_hw516 k0_h5

def k0_chk517 (i : grid0.Coords) (k0_t1 : Fin (k0_t1_loop i).trips) (v83 : IVec S16 32) (v1138 : IVec S16 32) : Prop :=
  (∀ (k0_h5 : k0_cond5 i k0_t1 = 1#1), ∀ a x, ((![v83, v1138] : Fin 2 → IVec S16 32) a x).toNat < S160x240.size a)
theorem k0_idx605_inb : ∀ (i : grid0.Coords) (k0_t1 : Fin (k0_t1_loop i).trips) (v83 : IVec S16 32) (v1138 : IVec S16 32) (k0_hw517 : k0_chk517 i k0_t1 v83 v1138), ∀ (k0_h5 : k0_cond5 i k0_t1 = 1#1), ∀ a x, ((![v83, v1138] : Fin 2 → IVec S16 32) a x).toNat < S160x240.size a := fun i k0_t1 v83 v1138 k0_hw517 k0_h5 => k0_hw517 k0_h5

def k0_chk518 (i : grid0.Coords) (k0_t1 : Fin (k0_t1_loop i).trips) (v83 : IVec S16 32) (v1142 : IVec S16 32) : Prop :=
  (∀ (k0_h5 : k0_cond5 i k0_t1 = 1#1), ∀ a x, ((![v83, v1142] : Fin 2 → IVec S16 32) a x).toNat < S160x240.size a)
theorem k0_idx606_inb : ∀ (i : grid0.Coords) (k0_t1 : Fin (k0_t1_loop i).trips) (v83 : IVec S16 32) (v1142 : IVec S16 32) (k0_hw518 : k0_chk518 i k0_t1 v83 v1142), ∀ (k0_h5 : k0_cond5 i k0_t1 = 1#1), ∀ a x, ((![v83, v1142] : Fin 2 → IVec S16 32) a x).toNat < S160x240.size a := fun i k0_t1 v83 v1142 k0_hw518 k0_h5 => k0_hw518 k0_h5

def k0_chk519 (i : grid0.Coords) (k0_t1 : Fin (k0_t1_loop i).trips) (v83 : IVec S16 32) (v1146 : IVec S16 32) : Prop :=
  (∀ (k0_h5 : k0_cond5 i k0_t1 = 1#1), ∀ a x, ((![v83, v1146] : Fin 2 → IVec S16 32) a x).toNat < S160x240.size a)
theorem k0_idx607_inb : ∀ (i : grid0.Coords) (k0_t1 : Fin (k0_t1_loop i).trips) (v83 : IVec S16 32) (v1146 : IVec S16 32) (k0_hw519 : k0_chk519 i k0_t1 v83 v1146), ∀ (k0_h5 : k0_cond5 i k0_t1 = 1#1), ∀ a x, ((![v83, v1146] : Fin 2 → IVec S16 32) a x).toNat < S160x240.size a := fun i k0_t1 v83 v1146 k0_hw519 k0_h5 => k0_hw519 k0_h5

def k0_chk520 (i : grid0.Coords) (k0_t1 : Fin (k0_t1_loop i).trips) (v83 : IVec S16 32) (v1123 : IVec S16 32) : Prop :=
  (∀ (k0_h5 : k0_cond5 i k0_t1 = 1#1), ∀ a x, ((![v1123] : Fin 1 → IVec S16 32) a x).toNat < S48.size a) ∧
  (∀ (k0_h5 : k0_cond5 i k0_t1 = 1#1), ∀ a x, ((![v83, v1123] : Fin 2 → IVec S16 32) a x).toNat < S160x48.size a)
theorem k0_idx608_inb : ∀ (i : grid0.Coords) (k0_t1 : Fin (k0_t1_loop i).trips) (v83 : IVec S16 32) (v1123 : IVec S16 32) (k0_hw520 : k0_chk520 i k0_t1 v83 v1123), ∀ (k0_h5 : k0_cond5 i k0_t1 = 1#1), ∀ a x, ((![v1123] : Fin 1 → IVec S16 32) a x).toNat < S48.size a := fun i k0_t1 v83 v1123 k0_hw520 k0_h5 => k0_hw520.1 k0_h5
theorem k0_idx609_inb : ∀ (i : grid0.Coords) (k0_t1 : Fin (k0_t1_loop i).trips) (v83 : IVec S16 32) (v1123 : IVec S16 32) (k0_hw520 : k0_chk520 i k0_t1 v83 v1123), ∀ (k0_h5 : k0_cond5 i k0_t1 = 1#1), ∀ a x, ((![v83, v1123] : Fin 2 → IVec S16 32) a x).toNat < S160x48.size a := fun i k0_t1 v83 v1123 k0_hw520 k0_h5 => k0_hw520.2 k0_h5

def k0_chk521 (i : grid0.Coords) (k0_t1 : Fin (k0_t1_loop i).trips) (v83 : IVec S16 32) (v1150 : IVec S16 32) : Prop :=
  (∀ (k0_h5 : k0_cond5 i k0_t1 = 1#1), ∀ a x, ((![v83, v1150] : Fin 2 → IVec S16 32) a x).toNat < S160x240.size a)
theorem k0_idx610_inb : ∀ (i : grid0.Coords) (k0_t1 : Fin (k0_t1_loop i).trips) (v83 : IVec S16 32) (v1150 : IVec S16 32) (k0_hw521 : k0_chk521 i k0_t1 v83 v1150), ∀ (k0_h5 : k0_cond5 i k0_t1 = 1#1), ∀ a x, ((![v83, v1150] : Fin 2 → IVec S16 32) a x).toNat < S160x240.size a := fun i k0_t1 v83 v1150 k0_hw521 k0_h5 => k0_hw521 k0_h5

def k0_chk522 (i : grid0.Coords) (k0_t1 : Fin (k0_t1_loop i).trips) (v83 : IVec S16 32) (v1164 : IVec S16 32) : Prop :=
  (∀ (k0_h5 : k0_cond5 i k0_t1 = 1#1), ∀ a x, ((![v83, v1164] : Fin 2 → IVec S16 32) a x).toNat < S160x240.size a)
theorem k0_idx611_inb : ∀ (i : grid0.Coords) (k0_t1 : Fin (k0_t1_loop i).trips) (v83 : IVec S16 32) (v1164 : IVec S16 32) (k0_hw522 : k0_chk522 i k0_t1 v83 v1164), ∀ (k0_h5 : k0_cond5 i k0_t1 = 1#1), ∀ a x, ((![v83, v1164] : Fin 2 → IVec S16 32) a x).toNat < S160x240.size a := fun i k0_t1 v83 v1164 k0_hw522 k0_h5 => k0_hw522 k0_h5

def k0_chk523 (i : grid0.Coords) (k0_t1 : Fin (k0_t1_loop i).trips) (v83 : IVec S16 32) (v1168 : IVec S16 32) : Prop :=
  (∀ (k0_h5 : k0_cond5 i k0_t1 = 1#1), ∀ a x, ((![v83, v1168] : Fin 2 → IVec S16 32) a x).toNat < S160x240.size a)
theorem k0_idx612_inb : ∀ (i : grid0.Coords) (k0_t1 : Fin (k0_t1_loop i).trips) (v83 : IVec S16 32) (v1168 : IVec S16 32) (k0_hw523 : k0_chk523 i k0_t1 v83 v1168), ∀ (k0_h5 : k0_cond5 i k0_t1 = 1#1), ∀ a x, ((![v83, v1168] : Fin 2 → IVec S16 32) a x).toNat < S160x240.size a := fun i k0_t1 v83 v1168 k0_hw523 k0_h5 => k0_hw523 k0_h5

def k0_chk524 (i : grid0.Coords) (k0_t1 : Fin (k0_t1_loop i).trips) (v83 : IVec S16 32) (v1172 : IVec S16 32) : Prop :=
  (∀ (k0_h5 : k0_cond5 i k0_t1 = 1#1), ∀ a x, ((![v83, v1172] : Fin 2 → IVec S16 32) a x).toNat < S160x240.size a)
theorem k0_idx613_inb : ∀ (i : grid0.Coords) (k0_t1 : Fin (k0_t1_loop i).trips) (v83 : IVec S16 32) (v1172 : IVec S16 32) (k0_hw524 : k0_chk524 i k0_t1 v83 v1172), ∀ (k0_h5 : k0_cond5 i k0_t1 = 1#1), ∀ a x, ((![v83, v1172] : Fin 2 → IVec S16 32) a x).toNat < S160x240.size a := fun i k0_t1 v83 v1172 k0_hw524 k0_h5 => k0_hw524 k0_h5

def k0_chk525 (i : grid0.Coords) (k0_t1 : Fin (k0_t1_loop i).trips) (v83 : IVec S16 32) (v1176 : IVec S16 32) : Prop :=
  (∀ (k0_h5 : k0_cond5 i k0_t1 = 1#1), ∀ a x, ((![v83, v1176] : Fin 2 → IVec S16 32) a x).toNat < S160x240.size a)
theorem k0_idx614_inb : ∀ (i : grid0.Coords) (k0_t1 : Fin (k0_t1_loop i).trips) (v83 : IVec S16 32) (v1176 : IVec S16 32) (k0_hw525 : k0_chk525 i k0_t1 v83 v1176), ∀ (k0_h5 : k0_cond5 i k0_t1 = 1#1), ∀ a x, ((![v83, v1176] : Fin 2 → IVec S16 32) a x).toNat < S160x240.size a := fun i k0_t1 v83 v1176 k0_hw525 k0_h5 => k0_hw525 k0_h5

def k0_chk526 (i : grid0.Coords) (k0_t1 : Fin (k0_t1_loop i).trips) (v83 : IVec S16 32) (v1180 : IVec S16 32) : Prop :=
  (∀ (k0_h5 : k0_cond5 i k0_t1 = 1#1), ∀ a x, ((![v83, v1180] : Fin 2 → IVec S16 32) a x).toNat < S160x240.size a)
theorem k0_idx615_inb : ∀ (i : grid0.Coords) (k0_t1 : Fin (k0_t1_loop i).trips) (v83 : IVec S16 32) (v1180 : IVec S16 32) (k0_hw526 : k0_chk526 i k0_t1 v83 v1180), ∀ (k0_h5 : k0_cond5 i k0_t1 = 1#1), ∀ a x, ((![v83, v1180] : Fin 2 → IVec S16 32) a x).toNat < S160x240.size a := fun i k0_t1 v83 v1180 k0_hw526 k0_h5 => k0_hw526 k0_h5

def k0_chk527 (i : grid0.Coords) (k0_t1 : Fin (k0_t1_loop i).trips) (v83 : IVec S16 32) (v1184 : IVec S16 32) : Prop :=
  (∀ (k0_h5 : k0_cond5 i k0_t1 = 1#1), ∀ a x, ((![v83, v1184] : Fin 2 → IVec S16 32) a x).toNat < S160x240.size a)
theorem k0_idx616_inb : ∀ (i : grid0.Coords) (k0_t1 : Fin (k0_t1_loop i).trips) (v83 : IVec S16 32) (v1184 : IVec S16 32) (k0_hw527 : k0_chk527 i k0_t1 v83 v1184), ∀ (k0_h5 : k0_cond5 i k0_t1 = 1#1), ∀ a x, ((![v83, v1184] : Fin 2 → IVec S16 32) a x).toNat < S160x240.size a := fun i k0_t1 v83 v1184 k0_hw527 k0_h5 => k0_hw527 k0_h5

def k0_chk528 (i : grid0.Coords) (k0_t1 : Fin (k0_t1_loop i).trips) (v83 : IVec S16 32) (v1161 : IVec S16 32) : Prop :=
  (∀ (k0_h5 : k0_cond5 i k0_t1 = 1#1), ∀ a x, ((![v1161] : Fin 1 → IVec S16 32) a x).toNat < S48.size a) ∧
  (∀ (k0_h5 : k0_cond5 i k0_t1 = 1#1), ∀ a x, ((![v83, v1161] : Fin 2 → IVec S16 32) a x).toNat < S160x48.size a)
theorem k0_idx617_inb : ∀ (i : grid0.Coords) (k0_t1 : Fin (k0_t1_loop i).trips) (v83 : IVec S16 32) (v1161 : IVec S16 32) (k0_hw528 : k0_chk528 i k0_t1 v83 v1161), ∀ (k0_h5 : k0_cond5 i k0_t1 = 1#1), ∀ a x, ((![v1161] : Fin 1 → IVec S16 32) a x).toNat < S48.size a := fun i k0_t1 v83 v1161 k0_hw528 k0_h5 => k0_hw528.1 k0_h5
theorem k0_idx618_inb : ∀ (i : grid0.Coords) (k0_t1 : Fin (k0_t1_loop i).trips) (v83 : IVec S16 32) (v1161 : IVec S16 32) (k0_hw528 : k0_chk528 i k0_t1 v83 v1161), ∀ (k0_h5 : k0_cond5 i k0_t1 = 1#1), ∀ a x, ((![v83, v1161] : Fin 2 → IVec S16 32) a x).toNat < S160x48.size a := fun i k0_t1 v83 v1161 k0_hw528 k0_h5 => k0_hw528.2 k0_h5

def k0_chk529 (i : grid0.Coords) (k0_t1 : Fin (k0_t1_loop i).trips) (v83 : IVec S16 32) (v1188 : IVec S16 32) : Prop :=
  (∀ (k0_h5 : k0_cond5 i k0_t1 = 1#1), ∀ a x, ((![v83, v1188] : Fin 2 → IVec S16 32) a x).toNat < S160x240.size a)
theorem k0_idx619_inb : ∀ (i : grid0.Coords) (k0_t1 : Fin (k0_t1_loop i).trips) (v83 : IVec S16 32) (v1188 : IVec S16 32) (k0_hw529 : k0_chk529 i k0_t1 v83 v1188), ∀ (k0_h5 : k0_cond5 i k0_t1 = 1#1), ∀ a x, ((![v83, v1188] : Fin 2 → IVec S16 32) a x).toNat < S160x240.size a := fun i k0_t1 v83 v1188 k0_hw529 k0_h5 => k0_hw529 k0_h5

def k0_chk530 (i : grid0.Coords) (k0_t1 : Fin (k0_t1_loop i).trips) (v83 : IVec S16 32) (v1202 : IVec S16 32) : Prop :=
  (∀ (k0_h5 : k0_cond5 i k0_t1 = 1#1), ∀ a x, ((![v83, v1202] : Fin 2 → IVec S16 32) a x).toNat < S160x240.size a)
theorem k0_idx620_inb : ∀ (i : grid0.Coords) (k0_t1 : Fin (k0_t1_loop i).trips) (v83 : IVec S16 32) (v1202 : IVec S16 32) (k0_hw530 : k0_chk530 i k0_t1 v83 v1202), ∀ (k0_h5 : k0_cond5 i k0_t1 = 1#1), ∀ a x, ((![v83, v1202] : Fin 2 → IVec S16 32) a x).toNat < S160x240.size a := fun i k0_t1 v83 v1202 k0_hw530 k0_h5 => k0_hw530 k0_h5

def k0_chk531 (i : grid0.Coords) (k0_t1 : Fin (k0_t1_loop i).trips) (v83 : IVec S16 32) (v1206 : IVec S16 32) : Prop :=
  (∀ (k0_h5 : k0_cond5 i k0_t1 = 1#1), ∀ a x, ((![v83, v1206] : Fin 2 → IVec S16 32) a x).toNat < S160x240.size a)
theorem k0_idx621_inb : ∀ (i : grid0.Coords) (k0_t1 : Fin (k0_t1_loop i).trips) (v83 : IVec S16 32) (v1206 : IVec S16 32) (k0_hw531 : k0_chk531 i k0_t1 v83 v1206), ∀ (k0_h5 : k0_cond5 i k0_t1 = 1#1), ∀ a x, ((![v83, v1206] : Fin 2 → IVec S16 32) a x).toNat < S160x240.size a := fun i k0_t1 v83 v1206 k0_hw531 k0_h5 => k0_hw531 k0_h5

def k0_chk532 (i : grid0.Coords) (k0_t1 : Fin (k0_t1_loop i).trips) (v83 : IVec S16 32) (v1210 : IVec S16 32) : Prop :=
  (∀ (k0_h5 : k0_cond5 i k0_t1 = 1#1), ∀ a x, ((![v83, v1210] : Fin 2 → IVec S16 32) a x).toNat < S160x240.size a)
theorem k0_idx622_inb : ∀ (i : grid0.Coords) (k0_t1 : Fin (k0_t1_loop i).trips) (v83 : IVec S16 32) (v1210 : IVec S16 32) (k0_hw532 : k0_chk532 i k0_t1 v83 v1210), ∀ (k0_h5 : k0_cond5 i k0_t1 = 1#1), ∀ a x, ((![v83, v1210] : Fin 2 → IVec S16 32) a x).toNat < S160x240.size a := fun i k0_t1 v83 v1210 k0_hw532 k0_h5 => k0_hw532 k0_h5

def k0_chk533 (i : grid0.Coords) (k0_t1 : Fin (k0_t1_loop i).trips) (v83 : IVec S16 32) (v1214 : IVec S16 32) : Prop :=
  (∀ (k0_h5 : k0_cond5 i k0_t1 = 1#1), ∀ a x, ((![v83, v1214] : Fin 2 → IVec S16 32) a x).toNat < S160x240.size a)
theorem k0_idx623_inb : ∀ (i : grid0.Coords) (k0_t1 : Fin (k0_t1_loop i).trips) (v83 : IVec S16 32) (v1214 : IVec S16 32) (k0_hw533 : k0_chk533 i k0_t1 v83 v1214), ∀ (k0_h5 : k0_cond5 i k0_t1 = 1#1), ∀ a x, ((![v83, v1214] : Fin 2 → IVec S16 32) a x).toNat < S160x240.size a := fun i k0_t1 v83 v1214 k0_hw533 k0_h5 => k0_hw533 k0_h5

def k0_chk534 (i : grid0.Coords) (k0_t1 : Fin (k0_t1_loop i).trips) (v83 : IVec S16 32) (v1218 : IVec S16 32) : Prop :=
  (∀ (k0_h5 : k0_cond5 i k0_t1 = 1#1), ∀ a x, ((![v83, v1218] : Fin 2 → IVec S16 32) a x).toNat < S160x240.size a)
theorem k0_idx624_inb : ∀ (i : grid0.Coords) (k0_t1 : Fin (k0_t1_loop i).trips) (v83 : IVec S16 32) (v1218 : IVec S16 32) (k0_hw534 : k0_chk534 i k0_t1 v83 v1218), ∀ (k0_h5 : k0_cond5 i k0_t1 = 1#1), ∀ a x, ((![v83, v1218] : Fin 2 → IVec S16 32) a x).toNat < S160x240.size a := fun i k0_t1 v83 v1218 k0_hw534 k0_h5 => k0_hw534 k0_h5

def k0_chk535 (i : grid0.Coords) (k0_t1 : Fin (k0_t1_loop i).trips) (v83 : IVec S16 32) (v1222 : IVec S16 32) : Prop :=
  (∀ (k0_h5 : k0_cond5 i k0_t1 = 1#1), ∀ a x, ((![v83, v1222] : Fin 2 → IVec S16 32) a x).toNat < S160x240.size a)
theorem k0_idx625_inb : ∀ (i : grid0.Coords) (k0_t1 : Fin (k0_t1_loop i).trips) (v83 : IVec S16 32) (v1222 : IVec S16 32) (k0_hw535 : k0_chk535 i k0_t1 v83 v1222), ∀ (k0_h5 : k0_cond5 i k0_t1 = 1#1), ∀ a x, ((![v83, v1222] : Fin 2 → IVec S16 32) a x).toNat < S160x240.size a := fun i k0_t1 v83 v1222 k0_hw535 k0_h5 => k0_hw535 k0_h5

def k0_chk536 (i : grid0.Coords) (k0_t1 : Fin (k0_t1_loop i).trips) (v83 : IVec S16 32) (v1199 : IVec S16 32) : Prop :=
  (∀ (k0_h5 : k0_cond5 i k0_t1 = 1#1), ∀ a x, ((![v1199] : Fin 1 → IVec S16 32) a x).toNat < S48.size a) ∧
  (∀ (k0_h5 : k0_cond5 i k0_t1 = 1#1), ∀ a x, ((![v83, v1199] : Fin 2 → IVec S16 32) a x).toNat < S160x48.size a)
theorem k0_idx626_inb : ∀ (i : grid0.Coords) (k0_t1 : Fin (k0_t1_loop i).trips) (v83 : IVec S16 32) (v1199 : IVec S16 32) (k0_hw536 : k0_chk536 i k0_t1 v83 v1199), ∀ (k0_h5 : k0_cond5 i k0_t1 = 1#1), ∀ a x, ((![v1199] : Fin 1 → IVec S16 32) a x).toNat < S48.size a := fun i k0_t1 v83 v1199 k0_hw536 k0_h5 => k0_hw536.1 k0_h5
theorem k0_idx627_inb : ∀ (i : grid0.Coords) (k0_t1 : Fin (k0_t1_loop i).trips) (v83 : IVec S16 32) (v1199 : IVec S16 32) (k0_hw536 : k0_chk536 i k0_t1 v83 v1199), ∀ (k0_h5 : k0_cond5 i k0_t1 = 1#1), ∀ a x, ((![v83, v1199] : Fin 2 → IVec S16 32) a x).toNat < S160x48.size a := fun i k0_t1 v83 v1199 k0_hw536 k0_h5 => k0_hw536.2 k0_h5

def k0_chk537 (i : grid0.Coords) (k0_t1 : Fin (k0_t1_loop i).trips) (v83 : IVec S16 32) (v1226 : IVec S16 32) : Prop :=
  (∀ (k0_h5 : k0_cond5 i k0_t1 = 1#1), ∀ a x, ((![v83, v1226] : Fin 2 → IVec S16 32) a x).toNat < S160x240.size a)
theorem k0_idx628_inb : ∀ (i : grid0.Coords) (k0_t1 : Fin (k0_t1_loop i).trips) (v83 : IVec S16 32) (v1226 : IVec S16 32) (k0_hw537 : k0_chk537 i k0_t1 v83 v1226), ∀ (k0_h5 : k0_cond5 i k0_t1 = 1#1), ∀ a x, ((![v83, v1226] : Fin 2 → IVec S16 32) a x).toNat < S160x240.size a := fun i k0_t1 v83 v1226 k0_hw537 k0_h5 => k0_hw537 k0_h5

def k0_chk538 (i : grid0.Coords) (k0_t1 : Fin (k0_t1_loop i).trips) (v83 : IVec S16 32) (v1240 : IVec S16 32) : Prop :=
  (∀ (k0_h5 : k0_cond5 i k0_t1 = 1#1), ∀ a x, ((![v83, v1240] : Fin 2 → IVec S16 32) a x).toNat < S160x240.size a)
theorem k0_idx629_inb : ∀ (i : grid0.Coords) (k0_t1 : Fin (k0_t1_loop i).trips) (v83 : IVec S16 32) (v1240 : IVec S16 32) (k0_hw538 : k0_chk538 i k0_t1 v83 v1240), ∀ (k0_h5 : k0_cond5 i k0_t1 = 1#1), ∀ a x, ((![v83, v1240] : Fin 2 → IVec S16 32) a x).toNat < S160x240.size a := fun i k0_t1 v83 v1240 k0_hw538 k0_h5 => k0_hw538 k0_h5

def k0_chk539 (i : grid0.Coords) (k0_t1 : Fin (k0_t1_loop i).trips) (v83 : IVec S16 32) (v1244 : IVec S16 32) : Prop :=
  (∀ (k0_h5 : k0_cond5 i k0_t1 = 1#1), ∀ a x, ((![v83, v1244] : Fin 2 → IVec S16 32) a x).toNat < S160x240.size a)
theorem k0_idx630_inb : ∀ (i : grid0.Coords) (k0_t1 : Fin (k0_t1_loop i).trips) (v83 : IVec S16 32) (v1244 : IVec S16 32) (k0_hw539 : k0_chk539 i k0_t1 v83 v1244), ∀ (k0_h5 : k0_cond5 i k0_t1 = 1#1), ∀ a x, ((![v83, v1244] : Fin 2 → IVec S16 32) a x).toNat < S160x240.size a := fun i k0_t1 v83 v1244 k0_hw539 k0_h5 => k0_hw539 k0_h5

def k0_chk540 (i : grid0.Coords) (k0_t1 : Fin (k0_t1_loop i).trips) (v83 : IVec S16 32) (v1248 : IVec S16 32) : Prop :=
  (∀ (k0_h5 : k0_cond5 i k0_t1 = 1#1), ∀ a x, ((![v83, v1248] : Fin 2 → IVec S16 32) a x).toNat < S160x240.size a)
theorem k0_idx631_inb : ∀ (i : grid0.Coords) (k0_t1 : Fin (k0_t1_loop i).trips) (v83 : IVec S16 32) (v1248 : IVec S16 32) (k0_hw540 : k0_chk540 i k0_t1 v83 v1248), ∀ (k0_h5 : k0_cond5 i k0_t1 = 1#1), ∀ a x, ((![v83, v1248] : Fin 2 → IVec S16 32) a x).toNat < S160x240.size a := fun i k0_t1 v83 v1248 k0_hw540 k0_h5 => k0_hw540 k0_h5

def k0_chk541 (i : grid0.Coords) (k0_t1 : Fin (k0_t1_loop i).trips) (v83 : IVec S16 32) (v1252 : IVec S16 32) : Prop :=
  (∀ (k0_h5 : k0_cond5 i k0_t1 = 1#1), ∀ a x, ((![v83, v1252] : Fin 2 → IVec S16 32) a x).toNat < S160x240.size a)
theorem k0_idx632_inb : ∀ (i : grid0.Coords) (k0_t1 : Fin (k0_t1_loop i).trips) (v83 : IVec S16 32) (v1252 : IVec S16 32) (k0_hw541 : k0_chk541 i k0_t1 v83 v1252), ∀ (k0_h5 : k0_cond5 i k0_t1 = 1#1), ∀ a x, ((![v83, v1252] : Fin 2 → IVec S16 32) a x).toNat < S160x240.size a := fun i k0_t1 v83 v1252 k0_hw541 k0_h5 => k0_hw541 k0_h5

def k0_chk542 (i : grid0.Coords) (k0_t1 : Fin (k0_t1_loop i).trips) (v83 : IVec S16 32) (v1256 : IVec S16 32) : Prop :=
  (∀ (k0_h5 : k0_cond5 i k0_t1 = 1#1), ∀ a x, ((![v83, v1256] : Fin 2 → IVec S16 32) a x).toNat < S160x240.size a)
theorem k0_idx633_inb : ∀ (i : grid0.Coords) (k0_t1 : Fin (k0_t1_loop i).trips) (v83 : IVec S16 32) (v1256 : IVec S16 32) (k0_hw542 : k0_chk542 i k0_t1 v83 v1256), ∀ (k0_h5 : k0_cond5 i k0_t1 = 1#1), ∀ a x, ((![v83, v1256] : Fin 2 → IVec S16 32) a x).toNat < S160x240.size a := fun i k0_t1 v83 v1256 k0_hw542 k0_h5 => k0_hw542 k0_h5

def k0_chk543 (i : grid0.Coords) (k0_t1 : Fin (k0_t1_loop i).trips) (v83 : IVec S16 32) (v1260 : IVec S16 32) : Prop :=
  (∀ (k0_h5 : k0_cond5 i k0_t1 = 1#1), ∀ a x, ((![v83, v1260] : Fin 2 → IVec S16 32) a x).toNat < S160x240.size a)
theorem k0_idx634_inb : ∀ (i : grid0.Coords) (k0_t1 : Fin (k0_t1_loop i).trips) (v83 : IVec S16 32) (v1260 : IVec S16 32) (k0_hw543 : k0_chk543 i k0_t1 v83 v1260), ∀ (k0_h5 : k0_cond5 i k0_t1 = 1#1), ∀ a x, ((![v83, v1260] : Fin 2 → IVec S16 32) a x).toNat < S160x240.size a := fun i k0_t1 v83 v1260 k0_hw543 k0_h5 => k0_hw543 k0_h5

def k0_chk544 (i : grid0.Coords) (k0_t1 : Fin (k0_t1_loop i).trips) (v83 : IVec S16 32) (v1237 : IVec S16 32) : Prop :=
  (∀ (k0_h5 : k0_cond5 i k0_t1 = 1#1), ∀ a x, ((![v1237] : Fin 1 → IVec S16 32) a x).toNat < S48.size a) ∧
  (∀ (k0_h5 : k0_cond5 i k0_t1 = 1#1), ∀ a x, ((![v83, v1237] : Fin 2 → IVec S16 32) a x).toNat < S160x48.size a)
theorem k0_idx635_inb : ∀ (i : grid0.Coords) (k0_t1 : Fin (k0_t1_loop i).trips) (v83 : IVec S16 32) (v1237 : IVec S16 32) (k0_hw544 : k0_chk544 i k0_t1 v83 v1237), ∀ (k0_h5 : k0_cond5 i k0_t1 = 1#1), ∀ a x, ((![v1237] : Fin 1 → IVec S16 32) a x).toNat < S48.size a := fun i k0_t1 v83 v1237 k0_hw544 k0_h5 => k0_hw544.1 k0_h5
theorem k0_idx636_inb : ∀ (i : grid0.Coords) (k0_t1 : Fin (k0_t1_loop i).trips) (v83 : IVec S16 32) (v1237 : IVec S16 32) (k0_hw544 : k0_chk544 i k0_t1 v83 v1237), ∀ (k0_h5 : k0_cond5 i k0_t1 = 1#1), ∀ a x, ((![v83, v1237] : Fin 2 → IVec S16 32) a x).toNat < S160x48.size a := fun i k0_t1 v83 v1237 k0_hw544 k0_h5 => k0_hw544.2 k0_h5

def k0_chk545 (i : grid0.Coords) (k0_t1 : Fin (k0_t1_loop i).trips) (v83 : IVec S16 32) (v1264 : IVec S16 32) : Prop :=
  (∀ (k0_h5 : k0_cond5 i k0_t1 = 1#1), ∀ a x, ((![v83, v1264] : Fin 2 → IVec S16 32) a x).toNat < S160x240.size a)
theorem k0_idx637_inb : ∀ (i : grid0.Coords) (k0_t1 : Fin (k0_t1_loop i).trips) (v83 : IVec S16 32) (v1264 : IVec S16 32) (k0_hw545 : k0_chk545 i k0_t1 v83 v1264), ∀ (k0_h5 : k0_cond5 i k0_t1 = 1#1), ∀ a x, ((![v83, v1264] : Fin 2 → IVec S16 32) a x).toNat < S160x240.size a := fun i k0_t1 v83 v1264 k0_hw545 k0_h5 => k0_hw545 k0_h5

def k0_chk546 (i : grid0.Coords) (k0_t1 : Fin (k0_t1_loop i).trips) (v83 : IVec S16 32) (v1278 : IVec S16 32) : Prop :=
  (∀ (k0_h5 : k0_cond5 i k0_t1 = 1#1), ∀ a x, ((![v83, v1278] : Fin 2 → IVec S16 32) a x).toNat < S160x240.size a)
theorem k0_idx638_inb : ∀ (i : grid0.Coords) (k0_t1 : Fin (k0_t1_loop i).trips) (v83 : IVec S16 32) (v1278 : IVec S16 32) (k0_hw546 : k0_chk546 i k0_t1 v83 v1278), ∀ (k0_h5 : k0_cond5 i k0_t1 = 1#1), ∀ a x, ((![v83, v1278] : Fin 2 → IVec S16 32) a x).toNat < S160x240.size a := fun i k0_t1 v83 v1278 k0_hw546 k0_h5 => k0_hw546 k0_h5

def k0_chk547 (i : grid0.Coords) (k0_t1 : Fin (k0_t1_loop i).trips) (v83 : IVec S16 32) (v1282 : IVec S16 32) : Prop :=
  (∀ (k0_h5 : k0_cond5 i k0_t1 = 1#1), ∀ a x, ((![v83, v1282] : Fin 2 → IVec S16 32) a x).toNat < S160x240.size a)
theorem k0_idx639_inb : ∀ (i : grid0.Coords) (k0_t1 : Fin (k0_t1_loop i).trips) (v83 : IVec S16 32) (v1282 : IVec S16 32) (k0_hw547 : k0_chk547 i k0_t1 v83 v1282), ∀ (k0_h5 : k0_cond5 i k0_t1 = 1#1), ∀ a x, ((![v83, v1282] : Fin 2 → IVec S16 32) a x).toNat < S160x240.size a := fun i k0_t1 v83 v1282 k0_hw547 k0_h5 => k0_hw547 k0_h5

def k0_chk548 (i : grid0.Coords) (k0_t1 : Fin (k0_t1_loop i).trips) (v83 : IVec S16 32) (v1286 : IVec S16 32) : Prop :=
  (∀ (k0_h5 : k0_cond5 i k0_t1 = 1#1), ∀ a x, ((![v83, v1286] : Fin 2 → IVec S16 32) a x).toNat < S160x240.size a)
theorem k0_idx640_inb : ∀ (i : grid0.Coords) (k0_t1 : Fin (k0_t1_loop i).trips) (v83 : IVec S16 32) (v1286 : IVec S16 32) (k0_hw548 : k0_chk548 i k0_t1 v83 v1286), ∀ (k0_h5 : k0_cond5 i k0_t1 = 1#1), ∀ a x, ((![v83, v1286] : Fin 2 → IVec S16 32) a x).toNat < S160x240.size a := fun i k0_t1 v83 v1286 k0_hw548 k0_h5 => k0_hw548 k0_h5

def k0_chk549 (i : grid0.Coords) (k0_t1 : Fin (k0_t1_loop i).trips) (v83 : IVec S16 32) (v1290 : IVec S16 32) : Prop :=
  (∀ (k0_h5 : k0_cond5 i k0_t1 = 1#1), ∀ a x, ((![v83, v1290] : Fin 2 → IVec S16 32) a x).toNat < S160x240.size a)
theorem k0_idx641_inb : ∀ (i : grid0.Coords) (k0_t1 : Fin (k0_t1_loop i).trips) (v83 : IVec S16 32) (v1290 : IVec S16 32) (k0_hw549 : k0_chk549 i k0_t1 v83 v1290), ∀ (k0_h5 : k0_cond5 i k0_t1 = 1#1), ∀ a x, ((![v83, v1290] : Fin 2 → IVec S16 32) a x).toNat < S160x240.size a := fun i k0_t1 v83 v1290 k0_hw549 k0_h5 => k0_hw549 k0_h5

def k0_chk550 (i : grid0.Coords) (k0_t1 : Fin (k0_t1_loop i).trips) (v83 : IVec S16 32) (v1294 : IVec S16 32) : Prop :=
  (∀ (k0_h5 : k0_cond5 i k0_t1 = 1#1), ∀ a x, ((![v83, v1294] : Fin 2 → IVec S16 32) a x).toNat < S160x240.size a)
theorem k0_idx642_inb : ∀ (i : grid0.Coords) (k0_t1 : Fin (k0_t1_loop i).trips) (v83 : IVec S16 32) (v1294 : IVec S16 32) (k0_hw550 : k0_chk550 i k0_t1 v83 v1294), ∀ (k0_h5 : k0_cond5 i k0_t1 = 1#1), ∀ a x, ((![v83, v1294] : Fin 2 → IVec S16 32) a x).toNat < S160x240.size a := fun i k0_t1 v83 v1294 k0_hw550 k0_h5 => k0_hw550 k0_h5

def k0_chk551 (i : grid0.Coords) (k0_t1 : Fin (k0_t1_loop i).trips) (v83 : IVec S16 32) (v1298 : IVec S16 32) : Prop :=
  (∀ (k0_h5 : k0_cond5 i k0_t1 = 1#1), ∀ a x, ((![v83, v1298] : Fin 2 → IVec S16 32) a x).toNat < S160x240.size a)
theorem k0_idx643_inb : ∀ (i : grid0.Coords) (k0_t1 : Fin (k0_t1_loop i).trips) (v83 : IVec S16 32) (v1298 : IVec S16 32) (k0_hw551 : k0_chk551 i k0_t1 v83 v1298), ∀ (k0_h5 : k0_cond5 i k0_t1 = 1#1), ∀ a x, ((![v83, v1298] : Fin 2 → IVec S16 32) a x).toNat < S160x240.size a := fun i k0_t1 v83 v1298 k0_hw551 k0_h5 => k0_hw551 k0_h5

def k0_chk552 (i : grid0.Coords) (k0_t1 : Fin (k0_t1_loop i).trips) (v83 : IVec S16 32) (v1275 : IVec S16 32) : Prop :=
  (∀ (k0_h5 : k0_cond5 i k0_t1 = 1#1), ∀ a x, ((![v1275] : Fin 1 → IVec S16 32) a x).toNat < S48.size a) ∧
  (∀ (k0_h5 : k0_cond5 i k0_t1 = 1#1), ∀ a x, ((![v83, v1275] : Fin 2 → IVec S16 32) a x).toNat < S160x48.size a)
theorem k0_idx644_inb : ∀ (i : grid0.Coords) (k0_t1 : Fin (k0_t1_loop i).trips) (v83 : IVec S16 32) (v1275 : IVec S16 32) (k0_hw552 : k0_chk552 i k0_t1 v83 v1275), ∀ (k0_h5 : k0_cond5 i k0_t1 = 1#1), ∀ a x, ((![v1275] : Fin 1 → IVec S16 32) a x).toNat < S48.size a := fun i k0_t1 v83 v1275 k0_hw552 k0_h5 => k0_hw552.1 k0_h5
theorem k0_idx645_inb : ∀ (i : grid0.Coords) (k0_t1 : Fin (k0_t1_loop i).trips) (v83 : IVec S16 32) (v1275 : IVec S16 32) (k0_hw552 : k0_chk552 i k0_t1 v83 v1275), ∀ (k0_h5 : k0_cond5 i k0_t1 = 1#1), ∀ a x, ((![v83, v1275] : Fin 2 → IVec S16 32) a x).toNat < S160x48.size a := fun i k0_t1 v83 v1275 k0_hw552 k0_h5 => k0_hw552.2 k0_h5

def k0_chk553 (i : grid0.Coords) (k0_t1 : Fin (k0_t1_loop i).trips) (v83 : IVec S16 32) (v1302 : IVec S16 32) : Prop :=
  (∀ (k0_h5 : k0_cond5 i k0_t1 = 1#1), ∀ a x, ((![v83, v1302] : Fin 2 → IVec S16 32) a x).toNat < S160x240.size a)
theorem k0_idx646_inb : ∀ (i : grid0.Coords) (k0_t1 : Fin (k0_t1_loop i).trips) (v83 : IVec S16 32) (v1302 : IVec S16 32) (k0_hw553 : k0_chk553 i k0_t1 v83 v1302), ∀ (k0_h5 : k0_cond5 i k0_t1 = 1#1), ∀ a x, ((![v83, v1302] : Fin 2 → IVec S16 32) a x).toNat < S160x240.size a := fun i k0_t1 v83 v1302 k0_hw553 k0_h5 => k0_hw553 k0_h5

def k0_chk554 (i : grid0.Coords) (k0_t1 : Fin (k0_t1_loop i).trips) (v83 : IVec S16 32) (v1316 : IVec S16 32) : Prop :=
  (∀ (k0_h5 : k0_cond5 i k0_t1 = 1#1), ∀ a x, ((![v83, v1316] : Fin 2 → IVec S16 32) a x).toNat < S160x240.size a)
theorem k0_idx647_inb : ∀ (i : grid0.Coords) (k0_t1 : Fin (k0_t1_loop i).trips) (v83 : IVec S16 32) (v1316 : IVec S16 32) (k0_hw554 : k0_chk554 i k0_t1 v83 v1316), ∀ (k0_h5 : k0_cond5 i k0_t1 = 1#1), ∀ a x, ((![v83, v1316] : Fin 2 → IVec S16 32) a x).toNat < S160x240.size a := fun i k0_t1 v83 v1316 k0_hw554 k0_h5 => k0_hw554 k0_h5

def k0_chk555 (i : grid0.Coords) (k0_t1 : Fin (k0_t1_loop i).trips) (v83 : IVec S16 32) (v1320 : IVec S16 32) : Prop :=
  (∀ (k0_h5 : k0_cond5 i k0_t1 = 1#1), ∀ a x, ((![v83, v1320] : Fin 2 → IVec S16 32) a x).toNat < S160x240.size a)
theorem k0_idx648_inb : ∀ (i : grid0.Coords) (k0_t1 : Fin (k0_t1_loop i).trips) (v83 : IVec S16 32) (v1320 : IVec S16 32) (k0_hw555 : k0_chk555 i k0_t1 v83 v1320), ∀ (k0_h5 : k0_cond5 i k0_t1 = 1#1), ∀ a x, ((![v83, v1320] : Fin 2 → IVec S16 32) a x).toNat < S160x240.size a := fun i k0_t1 v83 v1320 k0_hw555 k0_h5 => k0_hw555 k0_h5

def k0_chk556 (i : grid0.Coords) (k0_t1 : Fin (k0_t1_loop i).trips) (v83 : IVec S16 32) (v1324 : IVec S16 32) : Prop :=
  (∀ (k0_h5 : k0_cond5 i k0_t1 = 1#1), ∀ a x, ((![v83, v1324] : Fin 2 → IVec S16 32) a x).toNat < S160x240.size a)
theorem k0_idx649_inb : ∀ (i : grid0.Coords) (k0_t1 : Fin (k0_t1_loop i).trips) (v83 : IVec S16 32) (v1324 : IVec S16 32) (k0_hw556 : k0_chk556 i k0_t1 v83 v1324), ∀ (k0_h5 : k0_cond5 i k0_t1 = 1#1), ∀ a x, ((![v83, v1324] : Fin 2 → IVec S16 32) a x).toNat < S160x240.size a := fun i k0_t1 v83 v1324 k0_hw556 k0_h5 => k0_hw556 k0_h5

def k0_chk557 (i : grid0.Coords) (k0_t1 : Fin (k0_t1_loop i).trips) (v83 : IVec S16 32) (v1328 : IVec S16 32) : Prop :=
  (∀ (k0_h5 : k0_cond5 i k0_t1 = 1#1), ∀ a x, ((![v83, v1328] : Fin 2 → IVec S16 32) a x).toNat < S160x240.size a)
theorem k0_idx650_inb : ∀ (i : grid0.Coords) (k0_t1 : Fin (k0_t1_loop i).trips) (v83 : IVec S16 32) (v1328 : IVec S16 32) (k0_hw557 : k0_chk557 i k0_t1 v83 v1328), ∀ (k0_h5 : k0_cond5 i k0_t1 = 1#1), ∀ a x, ((![v83, v1328] : Fin 2 → IVec S16 32) a x).toNat < S160x240.size a := fun i k0_t1 v83 v1328 k0_hw557 k0_h5 => k0_hw557 k0_h5

def k0_chk558 (i : grid0.Coords) (k0_t1 : Fin (k0_t1_loop i).trips) (v83 : IVec S16 32) (v1332 : IVec S16 32) : Prop :=
  (∀ (k0_h5 : k0_cond5 i k0_t1 = 1#1), ∀ a x, ((![v83, v1332] : Fin 2 → IVec S16 32) a x).toNat < S160x240.size a)
theorem k0_idx651_inb : ∀ (i : grid0.Coords) (k0_t1 : Fin (k0_t1_loop i).trips) (v83 : IVec S16 32) (v1332 : IVec S16 32) (k0_hw558 : k0_chk558 i k0_t1 v83 v1332), ∀ (k0_h5 : k0_cond5 i k0_t1 = 1#1), ∀ a x, ((![v83, v1332] : Fin 2 → IVec S16 32) a x).toNat < S160x240.size a := fun i k0_t1 v83 v1332 k0_hw558 k0_h5 => k0_hw558 k0_h5

def k0_chk559 (i : grid0.Coords) (k0_t1 : Fin (k0_t1_loop i).trips) (v83 : IVec S16 32) (v1336 : IVec S16 32) : Prop :=
  (∀ (k0_h5 : k0_cond5 i k0_t1 = 1#1), ∀ a x, ((![v83, v1336] : Fin 2 → IVec S16 32) a x).toNat < S160x240.size a)
theorem k0_idx652_inb : ∀ (i : grid0.Coords) (k0_t1 : Fin (k0_t1_loop i).trips) (v83 : IVec S16 32) (v1336 : IVec S16 32) (k0_hw559 : k0_chk559 i k0_t1 v83 v1336), ∀ (k0_h5 : k0_cond5 i k0_t1 = 1#1), ∀ a x, ((![v83, v1336] : Fin 2 → IVec S16 32) a x).toNat < S160x240.size a := fun i k0_t1 v83 v1336 k0_hw559 k0_h5 => k0_hw559 k0_h5

def k0_chk560 (i : grid0.Coords) (k0_t1 : Fin (k0_t1_loop i).trips) (v83 : IVec S16 32) (v1313 : IVec S16 32) : Prop :=
  (∀ (k0_h5 : k0_cond5 i k0_t1 = 1#1), ∀ a x, ((![v1313] : Fin 1 → IVec S16 32) a x).toNat < S48.size a) ∧
  (∀ (k0_h5 : k0_cond5 i k0_t1 = 1#1), ∀ a x, ((![v83, v1313] : Fin 2 → IVec S16 32) a x).toNat < S160x48.size a)
theorem k0_idx653_inb : ∀ (i : grid0.Coords) (k0_t1 : Fin (k0_t1_loop i).trips) (v83 : IVec S16 32) (v1313 : IVec S16 32) (k0_hw560 : k0_chk560 i k0_t1 v83 v1313), ∀ (k0_h5 : k0_cond5 i k0_t1 = 1#1), ∀ a x, ((![v1313] : Fin 1 → IVec S16 32) a x).toNat < S48.size a := fun i k0_t1 v83 v1313 k0_hw560 k0_h5 => k0_hw560.1 k0_h5
theorem k0_idx654_inb : ∀ (i : grid0.Coords) (k0_t1 : Fin (k0_t1_loop i).trips) (v83 : IVec S16 32) (v1313 : IVec S16 32) (k0_hw560 : k0_chk560 i k0_t1 v83 v1313), ∀ (k0_h5 : k0_cond5 i k0_t1 = 1#1), ∀ a x, ((![v83, v1313] : Fin 2 → IVec S16 32) a x).toNat < S160x48.size a := fun i k0_t1 v83 v1313 k0_hw560 k0_h5 => k0_hw560.2 k0_h5

def k0_chk561 (i : grid0.Coords) (k0_t1 : Fin (k0_t1_loop i).trips) (v83 : IVec S16 32) (v1340 : IVec S16 32) : Prop :=
  (∀ (k0_h5 : k0_cond5 i k0_t1 = 1#1), ∀ a x, ((![v83, v1340] : Fin 2 → IVec S16 32) a x).toNat < S160x240.size a)
theorem k0_idx655_inb : ∀ (i : grid0.Coords) (k0_t1 : Fin (k0_t1_loop i).trips) (v83 : IVec S16 32) (v1340 : IVec S16 32) (k0_hw561 : k0_chk561 i k0_t1 v83 v1340), ∀ (k0_h5 : k0_cond5 i k0_t1 = 1#1), ∀ a x, ((![v83, v1340] : Fin 2 → IVec S16 32) a x).toNat < S160x240.size a := fun i k0_t1 v83 v1340 k0_hw561 k0_h5 => k0_hw561 k0_h5

def k0_chk562 (i : grid0.Coords) (k0_t1 : Fin (k0_t1_loop i).trips) (v83 : IVec S16 32) (v1354 : IVec S16 32) : Prop :=
  (∀ (k0_h5 : k0_cond5 i k0_t1 = 1#1), ∀ a x, ((![v83, v1354] : Fin 2 → IVec S16 32) a x).toNat < S160x240.size a)
theorem k0_idx656_inb : ∀ (i : grid0.Coords) (k0_t1 : Fin (k0_t1_loop i).trips) (v83 : IVec S16 32) (v1354 : IVec S16 32) (k0_hw562 : k0_chk562 i k0_t1 v83 v1354), ∀ (k0_h5 : k0_cond5 i k0_t1 = 1#1), ∀ a x, ((![v83, v1354] : Fin 2 → IVec S16 32) a x).toNat < S160x240.size a := fun i k0_t1 v83 v1354 k0_hw562 k0_h5 => k0_hw562 k0_h5

def k0_chk563 (i : grid0.Coords) (k0_t1 : Fin (k0_t1_loop i).trips) (v83 : IVec S16 32) (v1358 : IVec S16 32) : Prop :=
  (∀ (k0_h5 : k0_cond5 i k0_t1 = 1#1), ∀ a x, ((![v83, v1358] : Fin 2 → IVec S16 32) a x).toNat < S160x240.size a)
theorem k0_idx657_inb : ∀ (i : grid0.Coords) (k0_t1 : Fin (k0_t1_loop i).trips) (v83 : IVec S16 32) (v1358 : IVec S16 32) (k0_hw563 : k0_chk563 i k0_t1 v83 v1358), ∀ (k0_h5 : k0_cond5 i k0_t1 = 1#1), ∀ a x, ((![v83, v1358] : Fin 2 → IVec S16 32) a x).toNat < S160x240.size a := fun i k0_t1 v83 v1358 k0_hw563 k0_h5 => k0_hw563 k0_h5

def k0_chk564 (i : grid0.Coords) (k0_t1 : Fin (k0_t1_loop i).trips) (v83 : IVec S16 32) (v1362 : IVec S16 32) : Prop :=
  (∀ (k0_h5 : k0_cond5 i k0_t1 = 1#1), ∀ a x, ((![v83, v1362] : Fin 2 → IVec S16 32) a x).toNat < S160x240.size a)
theorem k0_idx658_inb : ∀ (i : grid0.Coords) (k0_t1 : Fin (k0_t1_loop i).trips) (v83 : IVec S16 32) (v1362 : IVec S16 32) (k0_hw564 : k0_chk564 i k0_t1 v83 v1362), ∀ (k0_h5 : k0_cond5 i k0_t1 = 1#1), ∀ a x, ((![v83, v1362] : Fin 2 → IVec S16 32) a x).toNat < S160x240.size a := fun i k0_t1 v83 v1362 k0_hw564 k0_h5 => k0_hw564 k0_h5

def k0_chk565 (i : grid0.Coords) (k0_t1 : Fin (k0_t1_loop i).trips) (v83 : IVec S16 32) (v1366 : IVec S16 32) : Prop :=
  (∀ (k0_h5 : k0_cond5 i k0_t1 = 1#1), ∀ a x, ((![v83, v1366] : Fin 2 → IVec S16 32) a x).toNat < S160x240.size a)
theorem k0_idx659_inb : ∀ (i : grid0.Coords) (k0_t1 : Fin (k0_t1_loop i).trips) (v83 : IVec S16 32) (v1366 : IVec S16 32) (k0_hw565 : k0_chk565 i k0_t1 v83 v1366), ∀ (k0_h5 : k0_cond5 i k0_t1 = 1#1), ∀ a x, ((![v83, v1366] : Fin 2 → IVec S16 32) a x).toNat < S160x240.size a := fun i k0_t1 v83 v1366 k0_hw565 k0_h5 => k0_hw565 k0_h5

def k0_chk566 (i : grid0.Coords) (k0_t1 : Fin (k0_t1_loop i).trips) (v83 : IVec S16 32) (v1370 : IVec S16 32) : Prop :=
  (∀ (k0_h5 : k0_cond5 i k0_t1 = 1#1), ∀ a x, ((![v83, v1370] : Fin 2 → IVec S16 32) a x).toNat < S160x240.size a)
theorem k0_idx660_inb : ∀ (i : grid0.Coords) (k0_t1 : Fin (k0_t1_loop i).trips) (v83 : IVec S16 32) (v1370 : IVec S16 32) (k0_hw566 : k0_chk566 i k0_t1 v83 v1370), ∀ (k0_h5 : k0_cond5 i k0_t1 = 1#1), ∀ a x, ((![v83, v1370] : Fin 2 → IVec S16 32) a x).toNat < S160x240.size a := fun i k0_t1 v83 v1370 k0_hw566 k0_h5 => k0_hw566 k0_h5

def k0_chk567 (i : grid0.Coords) (k0_t1 : Fin (k0_t1_loop i).trips) (v83 : IVec S16 32) (v1374 : IVec S16 32) : Prop :=
  (∀ (k0_h5 : k0_cond5 i k0_t1 = 1#1), ∀ a x, ((![v83, v1374] : Fin 2 → IVec S16 32) a x).toNat < S160x240.size a)
theorem k0_idx661_inb : ∀ (i : grid0.Coords) (k0_t1 : Fin (k0_t1_loop i).trips) (v83 : IVec S16 32) (v1374 : IVec S16 32) (k0_hw567 : k0_chk567 i k0_t1 v83 v1374), ∀ (k0_h5 : k0_cond5 i k0_t1 = 1#1), ∀ a x, ((![v83, v1374] : Fin 2 → IVec S16 32) a x).toNat < S160x240.size a := fun i k0_t1 v83 v1374 k0_hw567 k0_h5 => k0_hw567 k0_h5

def k0_chk568 (i : grid0.Coords) (k0_t1 : Fin (k0_t1_loop i).trips) (v83 : IVec S16 32) (v1351 : IVec S16 32) : Prop :=
  (∀ (k0_h5 : k0_cond5 i k0_t1 = 1#1), ∀ a x, ((![v1351] : Fin 1 → IVec S16 32) a x).toNat < S48.size a) ∧
  (∀ (k0_h5 : k0_cond5 i k0_t1 = 1#1), ∀ a x, ((![v83, v1351] : Fin 2 → IVec S16 32) a x).toNat < S160x48.size a)
theorem k0_idx662_inb : ∀ (i : grid0.Coords) (k0_t1 : Fin (k0_t1_loop i).trips) (v83 : IVec S16 32) (v1351 : IVec S16 32) (k0_hw568 : k0_chk568 i k0_t1 v83 v1351), ∀ (k0_h5 : k0_cond5 i k0_t1 = 1#1), ∀ a x, ((![v1351] : Fin 1 → IVec S16 32) a x).toNat < S48.size a := fun i k0_t1 v83 v1351 k0_hw568 k0_h5 => k0_hw568.1 k0_h5
theorem k0_idx663_inb : ∀ (i : grid0.Coords) (k0_t1 : Fin (k0_t1_loop i).trips) (v83 : IVec S16 32) (v1351 : IVec S16 32) (k0_hw568 : k0_chk568 i k0_t1 v83 v1351), ∀ (k0_h5 : k0_cond5 i k0_t1 = 1#1), ∀ a x, ((![v83, v1351] : Fin 2 → IVec S16 32) a x).toNat < S160x48.size a := fun i k0_t1 v83 v1351 k0_hw568 k0_h5 => k0_hw568.2 k0_h5

def k0_chk569 (i : grid0.Coords) (k0_t1 : Fin (k0_t1_loop i).trips) (v83 : IVec S16 32) (v1378 : IVec S16 32) : Prop :=
  (∀ (k0_h5 : k0_cond5 i k0_t1 = 1#1), ∀ a x, ((![v83, v1378] : Fin 2 → IVec S16 32) a x).toNat < S160x240.size a)
theorem k0_idx664_inb : ∀ (i : grid0.Coords) (k0_t1 : Fin (k0_t1_loop i).trips) (v83 : IVec S16 32) (v1378 : IVec S16 32) (k0_hw569 : k0_chk569 i k0_t1 v83 v1378), ∀ (k0_h5 : k0_cond5 i k0_t1 = 1#1), ∀ a x, ((![v83, v1378] : Fin 2 → IVec S16 32) a x).toNat < S160x240.size a := fun i k0_t1 v83 v1378 k0_hw569 k0_h5 => k0_hw569 k0_h5

def k0_chk570 (i : grid0.Coords) (k0_t1 : Fin (k0_t1_loop i).trips) (v83 : IVec S16 32) (v1392 : IVec S16 32) : Prop :=
  (∀ (k0_h5 : k0_cond5 i k0_t1 = 1#1), ∀ a x, ((![v83, v1392] : Fin 2 → IVec S16 32) a x).toNat < S160x240.size a)
theorem k0_idx665_inb : ∀ (i : grid0.Coords) (k0_t1 : Fin (k0_t1_loop i).trips) (v83 : IVec S16 32) (v1392 : IVec S16 32) (k0_hw570 : k0_chk570 i k0_t1 v83 v1392), ∀ (k0_h5 : k0_cond5 i k0_t1 = 1#1), ∀ a x, ((![v83, v1392] : Fin 2 → IVec S16 32) a x).toNat < S160x240.size a := fun i k0_t1 v83 v1392 k0_hw570 k0_h5 => k0_hw570 k0_h5

def k0_chk571 (i : grid0.Coords) (k0_t1 : Fin (k0_t1_loop i).trips) (v83 : IVec S16 32) (v1396 : IVec S16 32) : Prop :=
  (∀ (k0_h5 : k0_cond5 i k0_t1 = 1#1), ∀ a x, ((![v83, v1396] : Fin 2 → IVec S16 32) a x).toNat < S160x240.size a)
theorem k0_idx666_inb : ∀ (i : grid0.Coords) (k0_t1 : Fin (k0_t1_loop i).trips) (v83 : IVec S16 32) (v1396 : IVec S16 32) (k0_hw571 : k0_chk571 i k0_t1 v83 v1396), ∀ (k0_h5 : k0_cond5 i k0_t1 = 1#1), ∀ a x, ((![v83, v1396] : Fin 2 → IVec S16 32) a x).toNat < S160x240.size a := fun i k0_t1 v83 v1396 k0_hw571 k0_h5 => k0_hw571 k0_h5

def k0_chk572 (i : grid0.Coords) (k0_t1 : Fin (k0_t1_loop i).trips) (v83 : IVec S16 32) (v1400 : IVec S16 32) : Prop :=
  (∀ (k0_h5 : k0_cond5 i k0_t1 = 1#1), ∀ a x, ((![v83, v1400] : Fin 2 → IVec S16 32) a x).toNat < S160x240.size a)
theorem k0_idx667_inb : ∀ (i : grid0.Coords) (k0_t1 : Fin (k0_t1_loop i).trips) (v83 : IVec S16 32) (v1400 : IVec S16 32) (k0_hw572 : k0_chk572 i k0_t1 v83 v1400), ∀ (k0_h5 : k0_cond5 i k0_t1 = 1#1), ∀ a x, ((![v83, v1400] : Fin 2 → IVec S16 32) a x).toNat < S160x240.size a := fun i k0_t1 v83 v1400 k0_hw572 k0_h5 => k0_hw572 k0_h5

def k0_chk573 (i : grid0.Coords) (k0_t1 : Fin (k0_t1_loop i).trips) (v83 : IVec S16 32) (v1404 : IVec S16 32) : Prop :=
  (∀ (k0_h5 : k0_cond5 i k0_t1 = 1#1), ∀ a x, ((![v83, v1404] : Fin 2 → IVec S16 32) a x).toNat < S160x240.size a)
theorem k0_idx668_inb : ∀ (i : grid0.Coords) (k0_t1 : Fin (k0_t1_loop i).trips) (v83 : IVec S16 32) (v1404 : IVec S16 32) (k0_hw573 : k0_chk573 i k0_t1 v83 v1404), ∀ (k0_h5 : k0_cond5 i k0_t1 = 1#1), ∀ a x, ((![v83, v1404] : Fin 2 → IVec S16 32) a x).toNat < S160x240.size a := fun i k0_t1 v83 v1404 k0_hw573 k0_h5 => k0_hw573 k0_h5

def k0_chk574 (i : grid0.Coords) (k0_t1 : Fin (k0_t1_loop i).trips) (v83 : IVec S16 32) (v1408 : IVec S16 32) : Prop :=
  (∀ (k0_h5 : k0_cond5 i k0_t1 = 1#1), ∀ a x, ((![v83, v1408] : Fin 2 → IVec S16 32) a x).toNat < S160x240.size a)
theorem k0_idx669_inb : ∀ (i : grid0.Coords) (k0_t1 : Fin (k0_t1_loop i).trips) (v83 : IVec S16 32) (v1408 : IVec S16 32) (k0_hw574 : k0_chk574 i k0_t1 v83 v1408), ∀ (k0_h5 : k0_cond5 i k0_t1 = 1#1), ∀ a x, ((![v83, v1408] : Fin 2 → IVec S16 32) a x).toNat < S160x240.size a := fun i k0_t1 v83 v1408 k0_hw574 k0_h5 => k0_hw574 k0_h5

def k0_chk575 (i : grid0.Coords) (k0_t1 : Fin (k0_t1_loop i).trips) (v83 : IVec S16 32) (v1412 : IVec S16 32) : Prop :=
  (∀ (k0_h5 : k0_cond5 i k0_t1 = 1#1), ∀ a x, ((![v83, v1412] : Fin 2 → IVec S16 32) a x).toNat < S160x240.size a)
theorem k0_idx670_inb : ∀ (i : grid0.Coords) (k0_t1 : Fin (k0_t1_loop i).trips) (v83 : IVec S16 32) (v1412 : IVec S16 32) (k0_hw575 : k0_chk575 i k0_t1 v83 v1412), ∀ (k0_h5 : k0_cond5 i k0_t1 = 1#1), ∀ a x, ((![v83, v1412] : Fin 2 → IVec S16 32) a x).toNat < S160x240.size a := fun i k0_t1 v83 v1412 k0_hw575 k0_h5 => k0_hw575 k0_h5

def k0_chk576 (i : grid0.Coords) (k0_t1 : Fin (k0_t1_loop i).trips) (v83 : IVec S16 32) (v1389 : IVec S16 32) : Prop :=
  (∀ (k0_h5 : k0_cond5 i k0_t1 = 1#1), ∀ a x, ((![v1389] : Fin 1 → IVec S16 32) a x).toNat < S48.size a) ∧
  (∀ (k0_h5 : k0_cond5 i k0_t1 = 1#1), ∀ a x, ((![v83, v1389] : Fin 2 → IVec S16 32) a x).toNat < S160x48.size a)
theorem k0_idx671_inb : ∀ (i : grid0.Coords) (k0_t1 : Fin (k0_t1_loop i).trips) (v83 : IVec S16 32) (v1389 : IVec S16 32) (k0_hw576 : k0_chk576 i k0_t1 v83 v1389), ∀ (k0_h5 : k0_cond5 i k0_t1 = 1#1), ∀ a x, ((![v1389] : Fin 1 → IVec S16 32) a x).toNat < S48.size a := fun i k0_t1 v83 v1389 k0_hw576 k0_h5 => k0_hw576.1 k0_h5
theorem k0_idx672_inb : ∀ (i : grid0.Coords) (k0_t1 : Fin (k0_t1_loop i).trips) (v83 : IVec S16 32) (v1389 : IVec S16 32) (k0_hw576 : k0_chk576 i k0_t1 v83 v1389), ∀ (k0_h5 : k0_cond5 i k0_t1 = 1#1), ∀ a x, ((![v83, v1389] : Fin 2 → IVec S16 32) a x).toNat < S160x48.size a := fun i k0_t1 v83 v1389 k0_hw576 k0_h5 => k0_hw576.2 k0_h5
def k0_off7 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c1_i32_19 : BitVec 32 := 1#32
  let arg12 : BitVec 32 := Scf.iv c0_i32_17 c1_i32_19 k0_t1
  let c2_i32_26 : BitVec 32 := 2#32
  let v58 : BitVec 32 := Scalar.muli arg12 c2_i32_26
  let c1_i32_27 : BitVec 32 := 1#32
  let v59 : BitVec 32 := Scalar.addi v58 c1_i32_27
  let c32_i32_38 : BitVec 32 := 32#32
  let v74 : BitVec 32 := Scalar.muli v59 c32_i32_38
  let v75 : BitVec 32 := Scalar.addi v1 v74
  let c160_i32_39 : BitVec 32 := 160#32
  let v76 : BitVec 32 := Scalar.muli v75 c160_i32_39
  let c0_i32_40 : BitVec 32 := 0#32
  ![v76.toNat, 0]
@[reducible] def k0_t4_loop (i : grid0.Coords) : Scf.Loop 32 :=
  let c0_i32_17 : BitVec 32 := 0#32
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let v45 : BitVec 32 := Scalar.addi c0_i32_17 v44
  let c1_i32_20 : BitVec 32 := 1#32
  ⟨v48, v45, c1_i32_20⟩
def k0_cond6 (i : grid0.Coords) (k0_t4 : Fin (k0_t4_loop i).trips) : BitVec 1 :=
  let c0_i32_17 : BitVec 32 := 0#32
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_21 : BitVec 32 := 2#32
  let v49 : BitVec 32 := Scalar.muli arg12 c2_i32_21
  let c0_i32_22 : BitVec 32 := 0#32
  let v50 : BitVec 32 := Scalar.addi v49 c0_i32_22
  let c1_i32_23 : BitVec 32 := 1#32
  let v51 : BitVec 32 := Scalar.addi v50 c1_i32_23
  let v52 : BitVec 1 := Scalar.cmpi .slt v51 v21
  let v53 : BitVec 32 := Scalar.extui v52
  let c0_i32_24 : BitVec 32 := 0#32
  let v54 : BitVec 1 := Scalar.cmpi .ne v53 c0_i32_24
  v54

def k0_off8 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c60_i32 : BitVec 32 := 60#32
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_21 : BitVec 32 := 2#32
  let v49 : BitVec 32 := Scalar.muli arg12 c2_i32_21
  let c0_i32_22 : BitVec 32 := 0#32
  let v50 : BitVec 32 := Scalar.addi v49 c0_i32_22
  let c1_i32_23 : BitVec 32 := 1#32
  let v51 : BitVec 32 := Scalar.addi v50 c1_i32_23
  let c32_i32_31 : BitVec 32 := 32#32
  let v67 : BitVec 32 := Scalar.muli v51 c32_i32_31
  let v68 : BitVec 32 := Scalar.addi v1 v67
  let c160_i32 : BitVec 32 := 160#32
  let v69 : BitVec 32 := Scalar.muli v68 c160_i32
  let c0_i32_32 : BitVec 32 := 0#32
  ![v69.toNat, 0]
def k0_cond7 (i : grid0.Coords) (k0_t4 : Fin (k0_t4_loop i).trips) : BitVec 1 :=
  let c0_i32_17 : BitVec 32 := 0#32
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_21 : BitVec 32 := 2#32
  let v49 : BitVec 32 := Scalar.muli arg12 c2_i32_21
  let c0_i32_22 : BitVec 32 := 0#32
  let v50 : BitVec 32 := Scalar.addi v49 c0_i32_22
  let v55 : BitVec 1 := Scalar.cmpi .slt v50 v21
  let v56 : BitVec 32 := Scalar.extui v55
  let c0_i32_25 : BitVec 32 := 0#32
  let v57 : BitVec 1 := Scalar.cmpi .ne v56 c0_i32_25
  v57

def k0_off9 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c60_i32 : BitVec 32 := 60#32
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_21 : BitVec 32 := 2#32
  let v49 : BitVec 32 := Scalar.muli arg12 c2_i32_21
  let c0_i32_22 : BitVec 32 := 0#32
  let v50 : BitVec 32 := Scalar.addi v49 c0_i32_22
  let c32_i32_31 : BitVec 32 := 32#32
  let v67 : BitVec 32 := Scalar.muli v50 c32_i32_31
  let v68 : BitVec 32 := Scalar.addi v1 v67
  let c160_i32 : BitVec 32 := 160#32
  let v69 : BitVec 32 := Scalar.muli v68 c160_i32
  let c0_i32_32 : BitVec 32 := 0#32
  ![v69.toNat, 0]
@[reducible] def k0_t5_loop : Scf.Loop 32 :=
  let c0_i32_35 : BitVec 32 := 0#32
  let c10_i32 : BitVec 32 := 10#32
  let v73 : BitVec 32 := Scalar.addi c0_i32_35 c10_i32
  let c1_i32_36 : BitVec 32 := 1#32
  ⟨c0_i32_35, v73, c1_i32_36⟩

def k0_chk578 (i : grid0.Coords) (k0_t4 : Fin (k0_t4_loop i).trips) (v83 : IVec S16 32) (v86 : IVec S16 32) : Prop :=
  (∀ (k0_h7 : k0_cond7 i k0_t4 = 1#1), ∀ a x, ((![v83, v86] : Fin 2 → IVec S16 32) a x).toNat < S160x240.size a)
theorem k0_idx674_inb : ∀ (i : grid0.Coords) (k0_t4 : Fin (k0_t4_loop i).trips) (v83 : IVec S16 32) (v86 : IVec S16 32) (k0_hw578 : k0_chk578 i k0_t4 v83 v86), ∀ (k0_h7 : k0_cond7 i k0_t4 = 1#1), ∀ a x, ((![v83, v86] : Fin 2 → IVec S16 32) a x).toNat < S160x240.size a := fun i k0_t4 v83 v86 k0_hw578 k0_h7 => k0_hw578 k0_h7

def k0_chk579 (i : grid0.Coords) (k0_t4 : Fin (k0_t4_loop i).trips) (v83 : IVec S16 32) (v90 : IVec S16 32) : Prop :=
  (∀ (k0_h7 : k0_cond7 i k0_t4 = 1#1), ∀ a x, ((![v83, v90] : Fin 2 → IVec S16 32) a x).toNat < S160x240.size a)
theorem k0_idx675_inb : ∀ (i : grid0.Coords) (k0_t4 : Fin (k0_t4_loop i).trips) (v83 : IVec S16 32) (v90 : IVec S16 32) (k0_hw579 : k0_chk579 i k0_t4 v83 v90), ∀ (k0_h7 : k0_cond7 i k0_t4 = 1#1), ∀ a x, ((![v83, v90] : Fin 2 → IVec S16 32) a x).toNat < S160x240.size a := fun i k0_t4 v83 v90 k0_hw579 k0_h7 => k0_hw579 k0_h7

def k0_chk580 (i : grid0.Coords) (k0_t4 : Fin (k0_t4_loop i).trips) (v72 : IVec S16 32) : Prop :=
  (∀ (k0_h7 : k0_cond7 i k0_t4 = 1#1), ∀ a x, ((![v72] : Fin 1 → IVec S16 32) a x).toNat < S48.size a)
theorem k0_idx676_inb : ∀ (i : grid0.Coords) (k0_t4 : Fin (k0_t4_loop i).trips) (v72 : IVec S16 32) (k0_hw580 : k0_chk580 i k0_t4 v72), ∀ (k0_h7 : k0_cond7 i k0_t4 = 1#1), ∀ a x, ((![v72] : Fin 1 → IVec S16 32) a x).toNat < S48.size a := fun i k0_t4 v72 k0_hw580 k0_h7 => k0_hw580 k0_h7

def k0_chk577 (i : grid0.Coords) (k0_t4 : Fin (k0_t4_loop i).trips) (v72 : IVec S16 32) (v83 : IVec S16 32) : Prop :=
  (∀ (k0_h7 : k0_cond7 i k0_t4 = 1#1), ∀ a x, ((![v83, v72] : Fin 2 → IVec S16 32) a x).toNat < S160x240.size a) ∧
  (∀ (k0_h7 : k0_cond7 i k0_t4 = 1#1), ∀ a x, ((![v83, v72] : Fin 2 → IVec S16 32) a x).toNat < S160x48.size a)
theorem k0_idx673_inb : ∀ (i : grid0.Coords) (k0_t4 : Fin (k0_t4_loop i).trips) (v72 : IVec S16 32) (v83 : IVec S16 32) (k0_hw577 : k0_chk577 i k0_t4 v72 v83), ∀ (k0_h7 : k0_cond7 i k0_t4 = 1#1), ∀ a x, ((![v83, v72] : Fin 2 → IVec S16 32) a x).toNat < S160x240.size a := fun i k0_t4 v72 v83 k0_hw577 k0_h7 => k0_hw577.1 k0_h7
theorem k0_idx677_inb : ∀ (i : grid0.Coords) (k0_t4 : Fin (k0_t4_loop i).trips) (v72 : IVec S16 32) (v83 : IVec S16 32) (k0_hw577 : k0_chk577 i k0_t4 v72 v83), ∀ (k0_h7 : k0_cond7 i k0_t4 = 1#1), ∀ a x, ((![v83, v72] : Fin 2 → IVec S16 32) a x).toNat < S160x48.size a := fun i k0_t4 v72 v83 k0_hw577 k0_h7 => k0_hw577.2 k0_h7

def k0_chk581 (i : grid0.Coords) (k0_t4 : Fin (k0_t4_loop i).trips) (v83 : IVec S16 32) (v94 : IVec S16 32) : Prop :=
  (∀ (k0_h7 : k0_cond7 i k0_t4 = 1#1), ∀ a x, ((![v83, v94] : Fin 2 → IVec S16 32) a x).toNat < S160x240.size a)
theorem k0_idx678_inb : ∀ (i : grid0.Coords) (k0_t4 : Fin (k0_t4_loop i).trips) (v83 : IVec S16 32) (v94 : IVec S16 32) (k0_hw581 : k0_chk581 i k0_t4 v83 v94), ∀ (k0_h7 : k0_cond7 i k0_t4 = 1#1), ∀ a x, ((![v83, v94] : Fin 2 → IVec S16 32) a x).toNat < S160x240.size a := fun i k0_t4 v83 v94 k0_hw581 k0_h7 => k0_hw581 k0_h7

def k0_chk582 (i : grid0.Coords) (k0_t4 : Fin (k0_t4_loop i).trips) (v83 : IVec S16 32) (v104 : IVec S16 32) : Prop :=
  (∀ (k0_h7 : k0_cond7 i k0_t4 = 1#1), ∀ a x, ((![v83, v104] : Fin 2 → IVec S16 32) a x).toNat < S160x240.size a)
theorem k0_idx679_inb : ∀ (i : grid0.Coords) (k0_t4 : Fin (k0_t4_loop i).trips) (v83 : IVec S16 32) (v104 : IVec S16 32) (k0_hw582 : k0_chk582 i k0_t4 v83 v104), ∀ (k0_h7 : k0_cond7 i k0_t4 = 1#1), ∀ a x, ((![v83, v104] : Fin 2 → IVec S16 32) a x).toNat < S160x240.size a := fun i k0_t4 v83 v104 k0_hw582 k0_h7 => k0_hw582 k0_h7

def k0_chk583 (i : grid0.Coords) (k0_t4 : Fin (k0_t4_loop i).trips) (v83 : IVec S16 32) (v108 : IVec S16 32) : Prop :=
  (∀ (k0_h7 : k0_cond7 i k0_t4 = 1#1), ∀ a x, ((![v83, v108] : Fin 2 → IVec S16 32) a x).toNat < S160x240.size a)
theorem k0_idx680_inb : ∀ (i : grid0.Coords) (k0_t4 : Fin (k0_t4_loop i).trips) (v83 : IVec S16 32) (v108 : IVec S16 32) (k0_hw583 : k0_chk583 i k0_t4 v83 v108), ∀ (k0_h7 : k0_cond7 i k0_t4 = 1#1), ∀ a x, ((![v83, v108] : Fin 2 → IVec S16 32) a x).toNat < S160x240.size a := fun i k0_t4 v83 v108 k0_hw583 k0_h7 => k0_hw583 k0_h7

def k0_chk584 (i : grid0.Coords) (k0_t4 : Fin (k0_t4_loop i).trips) (v83 : IVec S16 32) (v101 : IVec S16 32) : Prop :=
  (∀ (k0_h7 : k0_cond7 i k0_t4 = 1#1), ∀ a x, ((![v101] : Fin 1 → IVec S16 32) a x).toNat < S48.size a) ∧
  (∀ (k0_h7 : k0_cond7 i k0_t4 = 1#1), ∀ a x, ((![v83, v101] : Fin 2 → IVec S16 32) a x).toNat < S160x48.size a)
theorem k0_idx681_inb : ∀ (i : grid0.Coords) (k0_t4 : Fin (k0_t4_loop i).trips) (v83 : IVec S16 32) (v101 : IVec S16 32) (k0_hw584 : k0_chk584 i k0_t4 v83 v101), ∀ (k0_h7 : k0_cond7 i k0_t4 = 1#1), ∀ a x, ((![v101] : Fin 1 → IVec S16 32) a x).toNat < S48.size a := fun i k0_t4 v83 v101 k0_hw584 k0_h7 => k0_hw584.1 k0_h7
theorem k0_idx682_inb : ∀ (i : grid0.Coords) (k0_t4 : Fin (k0_t4_loop i).trips) (v83 : IVec S16 32) (v101 : IVec S16 32) (k0_hw584 : k0_chk584 i k0_t4 v83 v101), ∀ (k0_h7 : k0_cond7 i k0_t4 = 1#1), ∀ a x, ((![v83, v101] : Fin 2 → IVec S16 32) a x).toNat < S160x48.size a := fun i k0_t4 v83 v101 k0_hw584 k0_h7 => k0_hw584.2 k0_h7

def k0_chk585 (i : grid0.Coords) (k0_t4 : Fin (k0_t4_loop i).trips) (v83 : IVec S16 32) (v112 : IVec S16 32) : Prop :=
  (∀ (k0_h7 : k0_cond7 i k0_t4 = 1#1), ∀ a x, ((![v83, v112] : Fin 2 → IVec S16 32) a x).toNat < S160x240.size a)
theorem k0_idx683_inb : ∀ (i : grid0.Coords) (k0_t4 : Fin (k0_t4_loop i).trips) (v83 : IVec S16 32) (v112 : IVec S16 32) (k0_hw585 : k0_chk585 i k0_t4 v83 v112), ∀ (k0_h7 : k0_cond7 i k0_t4 = 1#1), ∀ a x, ((![v83, v112] : Fin 2 → IVec S16 32) a x).toNat < S160x240.size a := fun i k0_t4 v83 v112 k0_hw585 k0_h7 => k0_hw585 k0_h7

def k0_chk586 (i : grid0.Coords) (k0_t4 : Fin (k0_t4_loop i).trips) (v83 : IVec S16 32) (v122 : IVec S16 32) : Prop :=
  (∀ (k0_h7 : k0_cond7 i k0_t4 = 1#1), ∀ a x, ((![v83, v122] : Fin 2 → IVec S16 32) a x).toNat < S160x240.size a)
theorem k0_idx684_inb : ∀ (i : grid0.Coords) (k0_t4 : Fin (k0_t4_loop i).trips) (v83 : IVec S16 32) (v122 : IVec S16 32) (k0_hw586 : k0_chk586 i k0_t4 v83 v122), ∀ (k0_h7 : k0_cond7 i k0_t4 = 1#1), ∀ a x, ((![v83, v122] : Fin 2 → IVec S16 32) a x).toNat < S160x240.size a := fun i k0_t4 v83 v122 k0_hw586 k0_h7 => k0_hw586 k0_h7

def k0_chk587 (i : grid0.Coords) (k0_t4 : Fin (k0_t4_loop i).trips) (v83 : IVec S16 32) (v126 : IVec S16 32) : Prop :=
  (∀ (k0_h7 : k0_cond7 i k0_t4 = 1#1), ∀ a x, ((![v83, v126] : Fin 2 → IVec S16 32) a x).toNat < S160x240.size a)
theorem k0_idx685_inb : ∀ (i : grid0.Coords) (k0_t4 : Fin (k0_t4_loop i).trips) (v83 : IVec S16 32) (v126 : IVec S16 32) (k0_hw587 : k0_chk587 i k0_t4 v83 v126), ∀ (k0_h7 : k0_cond7 i k0_t4 = 1#1), ∀ a x, ((![v83, v126] : Fin 2 → IVec S16 32) a x).toNat < S160x240.size a := fun i k0_t4 v83 v126 k0_hw587 k0_h7 => k0_hw587 k0_h7

def k0_chk588 (i : grid0.Coords) (k0_t4 : Fin (k0_t4_loop i).trips) (v83 : IVec S16 32) (v119 : IVec S16 32) : Prop :=
  (∀ (k0_h7 : k0_cond7 i k0_t4 = 1#1), ∀ a x, ((![v119] : Fin 1 → IVec S16 32) a x).toNat < S48.size a) ∧
  (∀ (k0_h7 : k0_cond7 i k0_t4 = 1#1), ∀ a x, ((![v83, v119] : Fin 2 → IVec S16 32) a x).toNat < S160x48.size a)
theorem k0_idx686_inb : ∀ (i : grid0.Coords) (k0_t4 : Fin (k0_t4_loop i).trips) (v83 : IVec S16 32) (v119 : IVec S16 32) (k0_hw588 : k0_chk588 i k0_t4 v83 v119), ∀ (k0_h7 : k0_cond7 i k0_t4 = 1#1), ∀ a x, ((![v119] : Fin 1 → IVec S16 32) a x).toNat < S48.size a := fun i k0_t4 v83 v119 k0_hw588 k0_h7 => k0_hw588.1 k0_h7
theorem k0_idx687_inb : ∀ (i : grid0.Coords) (k0_t4 : Fin (k0_t4_loop i).trips) (v83 : IVec S16 32) (v119 : IVec S16 32) (k0_hw588 : k0_chk588 i k0_t4 v83 v119), ∀ (k0_h7 : k0_cond7 i k0_t4 = 1#1), ∀ a x, ((![v83, v119] : Fin 2 → IVec S16 32) a x).toNat < S160x48.size a := fun i k0_t4 v83 v119 k0_hw588 k0_h7 => k0_hw588.2 k0_h7

def k0_chk589 (i : grid0.Coords) (k0_t4 : Fin (k0_t4_loop i).trips) (v83 : IVec S16 32) (v130 : IVec S16 32) : Prop :=
  (∀ (k0_h7 : k0_cond7 i k0_t4 = 1#1), ∀ a x, ((![v83, v130] : Fin 2 → IVec S16 32) a x).toNat < S160x240.size a)
theorem k0_idx688_inb : ∀ (i : grid0.Coords) (k0_t4 : Fin (k0_t4_loop i).trips) (v83 : IVec S16 32) (v130 : IVec S16 32) (k0_hw589 : k0_chk589 i k0_t4 v83 v130), ∀ (k0_h7 : k0_cond7 i k0_t4 = 1#1), ∀ a x, ((![v83, v130] : Fin 2 → IVec S16 32) a x).toNat < S160x240.size a := fun i k0_t4 v83 v130 k0_hw589 k0_h7 => k0_hw589 k0_h7

def k0_chk590 (i : grid0.Coords) (k0_t4 : Fin (k0_t4_loop i).trips) (v83 : IVec S16 32) (v140 : IVec S16 32) : Prop :=
  (∀ (k0_h7 : k0_cond7 i k0_t4 = 1#1), ∀ a x, ((![v83, v140] : Fin 2 → IVec S16 32) a x).toNat < S160x240.size a)
theorem k0_idx689_inb : ∀ (i : grid0.Coords) (k0_t4 : Fin (k0_t4_loop i).trips) (v83 : IVec S16 32) (v140 : IVec S16 32) (k0_hw590 : k0_chk590 i k0_t4 v83 v140), ∀ (k0_h7 : k0_cond7 i k0_t4 = 1#1), ∀ a x, ((![v83, v140] : Fin 2 → IVec S16 32) a x).toNat < S160x240.size a := fun i k0_t4 v83 v140 k0_hw590 k0_h7 => k0_hw590 k0_h7

def k0_chk591 (i : grid0.Coords) (k0_t4 : Fin (k0_t4_loop i).trips) (v83 : IVec S16 32) (v144 : IVec S16 32) : Prop :=
  (∀ (k0_h7 : k0_cond7 i k0_t4 = 1#1), ∀ a x, ((![v83, v144] : Fin 2 → IVec S16 32) a x).toNat < S160x240.size a)
theorem k0_idx690_inb : ∀ (i : grid0.Coords) (k0_t4 : Fin (k0_t4_loop i).trips) (v83 : IVec S16 32) (v144 : IVec S16 32) (k0_hw591 : k0_chk591 i k0_t4 v83 v144), ∀ (k0_h7 : k0_cond7 i k0_t4 = 1#1), ∀ a x, ((![v83, v144] : Fin 2 → IVec S16 32) a x).toNat < S160x240.size a := fun i k0_t4 v83 v144 k0_hw591 k0_h7 => k0_hw591 k0_h7

def k0_chk592 (i : grid0.Coords) (k0_t4 : Fin (k0_t4_loop i).trips) (v83 : IVec S16 32) (v137 : IVec S16 32) : Prop :=
  (∀ (k0_h7 : k0_cond7 i k0_t4 = 1#1), ∀ a x, ((![v137] : Fin 1 → IVec S16 32) a x).toNat < S48.size a) ∧
  (∀ (k0_h7 : k0_cond7 i k0_t4 = 1#1), ∀ a x, ((![v83, v137] : Fin 2 → IVec S16 32) a x).toNat < S160x48.size a)
theorem k0_idx691_inb : ∀ (i : grid0.Coords) (k0_t4 : Fin (k0_t4_loop i).trips) (v83 : IVec S16 32) (v137 : IVec S16 32) (k0_hw592 : k0_chk592 i k0_t4 v83 v137), ∀ (k0_h7 : k0_cond7 i k0_t4 = 1#1), ∀ a x, ((![v137] : Fin 1 → IVec S16 32) a x).toNat < S48.size a := fun i k0_t4 v83 v137 k0_hw592 k0_h7 => k0_hw592.1 k0_h7
theorem k0_idx692_inb : ∀ (i : grid0.Coords) (k0_t4 : Fin (k0_t4_loop i).trips) (v83 : IVec S16 32) (v137 : IVec S16 32) (k0_hw592 : k0_chk592 i k0_t4 v83 v137), ∀ (k0_h7 : k0_cond7 i k0_t4 = 1#1), ∀ a x, ((![v83, v137] : Fin 2 → IVec S16 32) a x).toNat < S160x48.size a := fun i k0_t4 v83 v137 k0_hw592 k0_h7 => k0_hw592.2 k0_h7

def k0_chk593 (i : grid0.Coords) (k0_t4 : Fin (k0_t4_loop i).trips) (v83 : IVec S16 32) (v148 : IVec S16 32) : Prop :=
  (∀ (k0_h7 : k0_cond7 i k0_t4 = 1#1), ∀ a x, ((![v83, v148] : Fin 2 → IVec S16 32) a x).toNat < S160x240.size a)
theorem k0_idx693_inb : ∀ (i : grid0.Coords) (k0_t4 : Fin (k0_t4_loop i).trips) (v83 : IVec S16 32) (v148 : IVec S16 32) (k0_hw593 : k0_chk593 i k0_t4 v83 v148), ∀ (k0_h7 : k0_cond7 i k0_t4 = 1#1), ∀ a x, ((![v83, v148] : Fin 2 → IVec S16 32) a x).toNat < S160x240.size a := fun i k0_t4 v83 v148 k0_hw593 k0_h7 => k0_hw593 k0_h7

def k0_chk594 (i : grid0.Coords) (k0_t4 : Fin (k0_t4_loop i).trips) (v83 : IVec S16 32) (v158 : IVec S16 32) : Prop :=
  (∀ (k0_h7 : k0_cond7 i k0_t4 = 1#1), ∀ a x, ((![v83, v158] : Fin 2 → IVec S16 32) a x).toNat < S160x240.size a)
theorem k0_idx694_inb : ∀ (i : grid0.Coords) (k0_t4 : Fin (k0_t4_loop i).trips) (v83 : IVec S16 32) (v158 : IVec S16 32) (k0_hw594 : k0_chk594 i k0_t4 v83 v158), ∀ (k0_h7 : k0_cond7 i k0_t4 = 1#1), ∀ a x, ((![v83, v158] : Fin 2 → IVec S16 32) a x).toNat < S160x240.size a := fun i k0_t4 v83 v158 k0_hw594 k0_h7 => k0_hw594 k0_h7

def k0_chk595 (i : grid0.Coords) (k0_t4 : Fin (k0_t4_loop i).trips) (v83 : IVec S16 32) (v162 : IVec S16 32) : Prop :=
  (∀ (k0_h7 : k0_cond7 i k0_t4 = 1#1), ∀ a x, ((![v83, v162] : Fin 2 → IVec S16 32) a x).toNat < S160x240.size a)
theorem k0_idx695_inb : ∀ (i : grid0.Coords) (k0_t4 : Fin (k0_t4_loop i).trips) (v83 : IVec S16 32) (v162 : IVec S16 32) (k0_hw595 : k0_chk595 i k0_t4 v83 v162), ∀ (k0_h7 : k0_cond7 i k0_t4 = 1#1), ∀ a x, ((![v83, v162] : Fin 2 → IVec S16 32) a x).toNat < S160x240.size a := fun i k0_t4 v83 v162 k0_hw595 k0_h7 => k0_hw595 k0_h7

def k0_chk596 (i : grid0.Coords) (k0_t4 : Fin (k0_t4_loop i).trips) (v83 : IVec S16 32) (v155 : IVec S16 32) : Prop :=
  (∀ (k0_h7 : k0_cond7 i k0_t4 = 1#1), ∀ a x, ((![v155] : Fin 1 → IVec S16 32) a x).toNat < S48.size a) ∧
  (∀ (k0_h7 : k0_cond7 i k0_t4 = 1#1), ∀ a x, ((![v83, v155] : Fin 2 → IVec S16 32) a x).toNat < S160x48.size a)
theorem k0_idx696_inb : ∀ (i : grid0.Coords) (k0_t4 : Fin (k0_t4_loop i).trips) (v83 : IVec S16 32) (v155 : IVec S16 32) (k0_hw596 : k0_chk596 i k0_t4 v83 v155), ∀ (k0_h7 : k0_cond7 i k0_t4 = 1#1), ∀ a x, ((![v155] : Fin 1 → IVec S16 32) a x).toNat < S48.size a := fun i k0_t4 v83 v155 k0_hw596 k0_h7 => k0_hw596.1 k0_h7
theorem k0_idx697_inb : ∀ (i : grid0.Coords) (k0_t4 : Fin (k0_t4_loop i).trips) (v83 : IVec S16 32) (v155 : IVec S16 32) (k0_hw596 : k0_chk596 i k0_t4 v83 v155), ∀ (k0_h7 : k0_cond7 i k0_t4 = 1#1), ∀ a x, ((![v83, v155] : Fin 2 → IVec S16 32) a x).toNat < S160x48.size a := fun i k0_t4 v83 v155 k0_hw596 k0_h7 => k0_hw596.2 k0_h7

def k0_chk597 (i : grid0.Coords) (k0_t4 : Fin (k0_t4_loop i).trips) (v83 : IVec S16 32) (v166 : IVec S16 32) : Prop :=
  (∀ (k0_h7 : k0_cond7 i k0_t4 = 1#1), ∀ a x, ((![v83, v166] : Fin 2 → IVec S16 32) a x).toNat < S160x240.size a)
theorem k0_idx698_inb : ∀ (i : grid0.Coords) (k0_t4 : Fin (k0_t4_loop i).trips) (v83 : IVec S16 32) (v166 : IVec S16 32) (k0_hw597 : k0_chk597 i k0_t4 v83 v166), ∀ (k0_h7 : k0_cond7 i k0_t4 = 1#1), ∀ a x, ((![v83, v166] : Fin 2 → IVec S16 32) a x).toNat < S160x240.size a := fun i k0_t4 v83 v166 k0_hw597 k0_h7 => k0_hw597 k0_h7

def k0_chk598 (i : grid0.Coords) (k0_t4 : Fin (k0_t4_loop i).trips) (v83 : IVec S16 32) (v176 : IVec S16 32) : Prop :=
  (∀ (k0_h7 : k0_cond7 i k0_t4 = 1#1), ∀ a x, ((![v83, v176] : Fin 2 → IVec S16 32) a x).toNat < S160x240.size a)
theorem k0_idx699_inb : ∀ (i : grid0.Coords) (k0_t4 : Fin (k0_t4_loop i).trips) (v83 : IVec S16 32) (v176 : IVec S16 32) (k0_hw598 : k0_chk598 i k0_t4 v83 v176), ∀ (k0_h7 : k0_cond7 i k0_t4 = 1#1), ∀ a x, ((![v83, v176] : Fin 2 → IVec S16 32) a x).toNat < S160x240.size a := fun i k0_t4 v83 v176 k0_hw598 k0_h7 => k0_hw598 k0_h7

def k0_chk599 (i : grid0.Coords) (k0_t4 : Fin (k0_t4_loop i).trips) (v83 : IVec S16 32) (v180 : IVec S16 32) : Prop :=
  (∀ (k0_h7 : k0_cond7 i k0_t4 = 1#1), ∀ a x, ((![v83, v180] : Fin 2 → IVec S16 32) a x).toNat < S160x240.size a)
theorem k0_idx700_inb : ∀ (i : grid0.Coords) (k0_t4 : Fin (k0_t4_loop i).trips) (v83 : IVec S16 32) (v180 : IVec S16 32) (k0_hw599 : k0_chk599 i k0_t4 v83 v180), ∀ (k0_h7 : k0_cond7 i k0_t4 = 1#1), ∀ a x, ((![v83, v180] : Fin 2 → IVec S16 32) a x).toNat < S160x240.size a := fun i k0_t4 v83 v180 k0_hw599 k0_h7 => k0_hw599 k0_h7

def k0_chk600 (i : grid0.Coords) (k0_t4 : Fin (k0_t4_loop i).trips) (v83 : IVec S16 32) (v173 : IVec S16 32) : Prop :=
  (∀ (k0_h7 : k0_cond7 i k0_t4 = 1#1), ∀ a x, ((![v173] : Fin 1 → IVec S16 32) a x).toNat < S48.size a) ∧
  (∀ (k0_h7 : k0_cond7 i k0_t4 = 1#1), ∀ a x, ((![v83, v173] : Fin 2 → IVec S16 32) a x).toNat < S160x48.size a)
theorem k0_idx701_inb : ∀ (i : grid0.Coords) (k0_t4 : Fin (k0_t4_loop i).trips) (v83 : IVec S16 32) (v173 : IVec S16 32) (k0_hw600 : k0_chk600 i k0_t4 v83 v173), ∀ (k0_h7 : k0_cond7 i k0_t4 = 1#1), ∀ a x, ((![v173] : Fin 1 → IVec S16 32) a x).toNat < S48.size a := fun i k0_t4 v83 v173 k0_hw600 k0_h7 => k0_hw600.1 k0_h7
theorem k0_idx702_inb : ∀ (i : grid0.Coords) (k0_t4 : Fin (k0_t4_loop i).trips) (v83 : IVec S16 32) (v173 : IVec S16 32) (k0_hw600 : k0_chk600 i k0_t4 v83 v173), ∀ (k0_h7 : k0_cond7 i k0_t4 = 1#1), ∀ a x, ((![v83, v173] : Fin 2 → IVec S16 32) a x).toNat < S160x48.size a := fun i k0_t4 v83 v173 k0_hw600 k0_h7 => k0_hw600.2 k0_h7

def k0_chk601 (i : grid0.Coords) (k0_t4 : Fin (k0_t4_loop i).trips) (v83 : IVec S16 32) (v184 : IVec S16 32) : Prop :=
  (∀ (k0_h7 : k0_cond7 i k0_t4 = 1#1), ∀ a x, ((![v83, v184] : Fin 2 → IVec S16 32) a x).toNat < S160x240.size a)
theorem k0_idx703_inb : ∀ (i : grid0.Coords) (k0_t4 : Fin (k0_t4_loop i).trips) (v83 : IVec S16 32) (v184 : IVec S16 32) (k0_hw601 : k0_chk601 i k0_t4 v83 v184), ∀ (k0_h7 : k0_cond7 i k0_t4 = 1#1), ∀ a x, ((![v83, v184] : Fin 2 → IVec S16 32) a x).toNat < S160x240.size a := fun i k0_t4 v83 v184 k0_hw601 k0_h7 => k0_hw601 k0_h7

def k0_chk602 (i : grid0.Coords) (k0_t4 : Fin (k0_t4_loop i).trips) (v83 : IVec S16 32) (v194 : IVec S16 32) : Prop :=
  (∀ (k0_h7 : k0_cond7 i k0_t4 = 1#1), ∀ a x, ((![v83, v194] : Fin 2 → IVec S16 32) a x).toNat < S160x240.size a)
theorem k0_idx704_inb : ∀ (i : grid0.Coords) (k0_t4 : Fin (k0_t4_loop i).trips) (v83 : IVec S16 32) (v194 : IVec S16 32) (k0_hw602 : k0_chk602 i k0_t4 v83 v194), ∀ (k0_h7 : k0_cond7 i k0_t4 = 1#1), ∀ a x, ((![v83, v194] : Fin 2 → IVec S16 32) a x).toNat < S160x240.size a := fun i k0_t4 v83 v194 k0_hw602 k0_h7 => k0_hw602 k0_h7

def k0_chk603 (i : grid0.Coords) (k0_t4 : Fin (k0_t4_loop i).trips) (v83 : IVec S16 32) (v198 : IVec S16 32) : Prop :=
  (∀ (k0_h7 : k0_cond7 i k0_t4 = 1#1), ∀ a x, ((![v83, v198] : Fin 2 → IVec S16 32) a x).toNat < S160x240.size a)
theorem k0_idx705_inb : ∀ (i : grid0.Coords) (k0_t4 : Fin (k0_t4_loop i).trips) (v83 : IVec S16 32) (v198 : IVec S16 32) (k0_hw603 : k0_chk603 i k0_t4 v83 v198), ∀ (k0_h7 : k0_cond7 i k0_t4 = 1#1), ∀ a x, ((![v83, v198] : Fin 2 → IVec S16 32) a x).toNat < S160x240.size a := fun i k0_t4 v83 v198 k0_hw603 k0_h7 => k0_hw603 k0_h7

def k0_chk604 (i : grid0.Coords) (k0_t4 : Fin (k0_t4_loop i).trips) (v83 : IVec S16 32) (v191 : IVec S16 32) : Prop :=
  (∀ (k0_h7 : k0_cond7 i k0_t4 = 1#1), ∀ a x, ((![v191] : Fin 1 → IVec S16 32) a x).toNat < S48.size a) ∧
  (∀ (k0_h7 : k0_cond7 i k0_t4 = 1#1), ∀ a x, ((![v83, v191] : Fin 2 → IVec S16 32) a x).toNat < S160x48.size a)
theorem k0_idx706_inb : ∀ (i : grid0.Coords) (k0_t4 : Fin (k0_t4_loop i).trips) (v83 : IVec S16 32) (v191 : IVec S16 32) (k0_hw604 : k0_chk604 i k0_t4 v83 v191), ∀ (k0_h7 : k0_cond7 i k0_t4 = 1#1), ∀ a x, ((![v191] : Fin 1 → IVec S16 32) a x).toNat < S48.size a := fun i k0_t4 v83 v191 k0_hw604 k0_h7 => k0_hw604.1 k0_h7
theorem k0_idx707_inb : ∀ (i : grid0.Coords) (k0_t4 : Fin (k0_t4_loop i).trips) (v83 : IVec S16 32) (v191 : IVec S16 32) (k0_hw604 : k0_chk604 i k0_t4 v83 v191), ∀ (k0_h7 : k0_cond7 i k0_t4 = 1#1), ∀ a x, ((![v83, v191] : Fin 2 → IVec S16 32) a x).toNat < S160x48.size a := fun i k0_t4 v83 v191 k0_hw604 k0_h7 => k0_hw604.2 k0_h7

def k0_chk605 (i : grid0.Coords) (k0_t4 : Fin (k0_t4_loop i).trips) (v83 : IVec S16 32) (v202 : IVec S16 32) : Prop :=
  (∀ (k0_h7 : k0_cond7 i k0_t4 = 1#1), ∀ a x, ((![v83, v202] : Fin 2 → IVec S16 32) a x).toNat < S160x240.size a)
theorem k0_idx708_inb : ∀ (i : grid0.Coords) (k0_t4 : Fin (k0_t4_loop i).trips) (v83 : IVec S16 32) (v202 : IVec S16 32) (k0_hw605 : k0_chk605 i k0_t4 v83 v202), ∀ (k0_h7 : k0_cond7 i k0_t4 = 1#1), ∀ a x, ((![v83, v202] : Fin 2 → IVec S16 32) a x).toNat < S160x240.size a := fun i k0_t4 v83 v202 k0_hw605 k0_h7 => k0_hw605 k0_h7

def k0_chk606 (i : grid0.Coords) (k0_t4 : Fin (k0_t4_loop i).trips) (v83 : IVec S16 32) (v212 : IVec S16 32) : Prop :=
  (∀ (k0_h7 : k0_cond7 i k0_t4 = 1#1), ∀ a x, ((![v83, v212] : Fin 2 → IVec S16 32) a x).toNat < S160x240.size a)
theorem k0_idx709_inb : ∀ (i : grid0.Coords) (k0_t4 : Fin (k0_t4_loop i).trips) (v83 : IVec S16 32) (v212 : IVec S16 32) (k0_hw606 : k0_chk606 i k0_t4 v83 v212), ∀ (k0_h7 : k0_cond7 i k0_t4 = 1#1), ∀ a x, ((![v83, v212] : Fin 2 → IVec S16 32) a x).toNat < S160x240.size a := fun i k0_t4 v83 v212 k0_hw606 k0_h7 => k0_hw606 k0_h7

def k0_chk607 (i : grid0.Coords) (k0_t4 : Fin (k0_t4_loop i).trips) (v83 : IVec S16 32) (v216 : IVec S16 32) : Prop :=
  (∀ (k0_h7 : k0_cond7 i k0_t4 = 1#1), ∀ a x, ((![v83, v216] : Fin 2 → IVec S16 32) a x).toNat < S160x240.size a)
theorem k0_idx710_inb : ∀ (i : grid0.Coords) (k0_t4 : Fin (k0_t4_loop i).trips) (v83 : IVec S16 32) (v216 : IVec S16 32) (k0_hw607 : k0_chk607 i k0_t4 v83 v216), ∀ (k0_h7 : k0_cond7 i k0_t4 = 1#1), ∀ a x, ((![v83, v216] : Fin 2 → IVec S16 32) a x).toNat < S160x240.size a := fun i k0_t4 v83 v216 k0_hw607 k0_h7 => k0_hw607 k0_h7

def k0_chk608 (i : grid0.Coords) (k0_t4 : Fin (k0_t4_loop i).trips) (v83 : IVec S16 32) (v209 : IVec S16 32) : Prop :=
  (∀ (k0_h7 : k0_cond7 i k0_t4 = 1#1), ∀ a x, ((![v209] : Fin 1 → IVec S16 32) a x).toNat < S48.size a) ∧
  (∀ (k0_h7 : k0_cond7 i k0_t4 = 1#1), ∀ a x, ((![v83, v209] : Fin 2 → IVec S16 32) a x).toNat < S160x48.size a)
theorem k0_idx711_inb : ∀ (i : grid0.Coords) (k0_t4 : Fin (k0_t4_loop i).trips) (v83 : IVec S16 32) (v209 : IVec S16 32) (k0_hw608 : k0_chk608 i k0_t4 v83 v209), ∀ (k0_h7 : k0_cond7 i k0_t4 = 1#1), ∀ a x, ((![v209] : Fin 1 → IVec S16 32) a x).toNat < S48.size a := fun i k0_t4 v83 v209 k0_hw608 k0_h7 => k0_hw608.1 k0_h7
theorem k0_idx712_inb : ∀ (i : grid0.Coords) (k0_t4 : Fin (k0_t4_loop i).trips) (v83 : IVec S16 32) (v209 : IVec S16 32) (k0_hw608 : k0_chk608 i k0_t4 v83 v209), ∀ (k0_h7 : k0_cond7 i k0_t4 = 1#1), ∀ a x, ((![v83, v209] : Fin 2 → IVec S16 32) a x).toNat < S160x48.size a := fun i k0_t4 v83 v209 k0_hw608 k0_h7 => k0_hw608.2 k0_h7

def k0_chk609 (i : grid0.Coords) (k0_t4 : Fin (k0_t4_loop i).trips) (v83 : IVec S16 32) (v220 : IVec S16 32) : Prop :=
  (∀ (k0_h7 : k0_cond7 i k0_t4 = 1#1), ∀ a x, ((![v83, v220] : Fin 2 → IVec S16 32) a x).toNat < S160x240.size a)
theorem k0_idx713_inb : ∀ (i : grid0.Coords) (k0_t4 : Fin (k0_t4_loop i).trips) (v83 : IVec S16 32) (v220 : IVec S16 32) (k0_hw609 : k0_chk609 i k0_t4 v83 v220), ∀ (k0_h7 : k0_cond7 i k0_t4 = 1#1), ∀ a x, ((![v83, v220] : Fin 2 → IVec S16 32) a x).toNat < S160x240.size a := fun i k0_t4 v83 v220 k0_hw609 k0_h7 => k0_hw609 k0_h7

def k0_chk610 (i : grid0.Coords) (k0_t4 : Fin (k0_t4_loop i).trips) (v83 : IVec S16 32) (v230 : IVec S16 32) : Prop :=
  (∀ (k0_h7 : k0_cond7 i k0_t4 = 1#1), ∀ a x, ((![v83, v230] : Fin 2 → IVec S16 32) a x).toNat < S160x240.size a)
theorem k0_idx714_inb : ∀ (i : grid0.Coords) (k0_t4 : Fin (k0_t4_loop i).trips) (v83 : IVec S16 32) (v230 : IVec S16 32) (k0_hw610 : k0_chk610 i k0_t4 v83 v230), ∀ (k0_h7 : k0_cond7 i k0_t4 = 1#1), ∀ a x, ((![v83, v230] : Fin 2 → IVec S16 32) a x).toNat < S160x240.size a := fun i k0_t4 v83 v230 k0_hw610 k0_h7 => k0_hw610 k0_h7

def k0_chk611 (i : grid0.Coords) (k0_t4 : Fin (k0_t4_loop i).trips) (v83 : IVec S16 32) (v234 : IVec S16 32) : Prop :=
  (∀ (k0_h7 : k0_cond7 i k0_t4 = 1#1), ∀ a x, ((![v83, v234] : Fin 2 → IVec S16 32) a x).toNat < S160x240.size a)
theorem k0_idx715_inb : ∀ (i : grid0.Coords) (k0_t4 : Fin (k0_t4_loop i).trips) (v83 : IVec S16 32) (v234 : IVec S16 32) (k0_hw611 : k0_chk611 i k0_t4 v83 v234), ∀ (k0_h7 : k0_cond7 i k0_t4 = 1#1), ∀ a x, ((![v83, v234] : Fin 2 → IVec S16 32) a x).toNat < S160x240.size a := fun i k0_t4 v83 v234 k0_hw611 k0_h7 => k0_hw611 k0_h7

def k0_chk612 (i : grid0.Coords) (k0_t4 : Fin (k0_t4_loop i).trips) (v83 : IVec S16 32) (v227 : IVec S16 32) : Prop :=
  (∀ (k0_h7 : k0_cond7 i k0_t4 = 1#1), ∀ a x, ((![v227] : Fin 1 → IVec S16 32) a x).toNat < S48.size a) ∧
  (∀ (k0_h7 : k0_cond7 i k0_t4 = 1#1), ∀ a x, ((![v83, v227] : Fin 2 → IVec S16 32) a x).toNat < S160x48.size a)
theorem k0_idx716_inb : ∀ (i : grid0.Coords) (k0_t4 : Fin (k0_t4_loop i).trips) (v83 : IVec S16 32) (v227 : IVec S16 32) (k0_hw612 : k0_chk612 i k0_t4 v83 v227), ∀ (k0_h7 : k0_cond7 i k0_t4 = 1#1), ∀ a x, ((![v227] : Fin 1 → IVec S16 32) a x).toNat < S48.size a := fun i k0_t4 v83 v227 k0_hw612 k0_h7 => k0_hw612.1 k0_h7
theorem k0_idx717_inb : ∀ (i : grid0.Coords) (k0_t4 : Fin (k0_t4_loop i).trips) (v83 : IVec S16 32) (v227 : IVec S16 32) (k0_hw612 : k0_chk612 i k0_t4 v83 v227), ∀ (k0_h7 : k0_cond7 i k0_t4 = 1#1), ∀ a x, ((![v83, v227] : Fin 2 → IVec S16 32) a x).toNat < S160x48.size a := fun i k0_t4 v83 v227 k0_hw612 k0_h7 => k0_hw612.2 k0_h7

def k0_chk613 (i : grid0.Coords) (k0_t4 : Fin (k0_t4_loop i).trips) (v83 : IVec S16 32) (v238 : IVec S16 32) : Prop :=
  (∀ (k0_h7 : k0_cond7 i k0_t4 = 1#1), ∀ a x, ((![v83, v238] : Fin 2 → IVec S16 32) a x).toNat < S160x240.size a)
theorem k0_idx718_inb : ∀ (i : grid0.Coords) (k0_t4 : Fin (k0_t4_loop i).trips) (v83 : IVec S16 32) (v238 : IVec S16 32) (k0_hw613 : k0_chk613 i k0_t4 v83 v238), ∀ (k0_h7 : k0_cond7 i k0_t4 = 1#1), ∀ a x, ((![v83, v238] : Fin 2 → IVec S16 32) a x).toNat < S160x240.size a := fun i k0_t4 v83 v238 k0_hw613 k0_h7 => k0_hw613 k0_h7

def k0_chk614 (i : grid0.Coords) (k0_t4 : Fin (k0_t4_loop i).trips) (v83 : IVec S16 32) (v248 : IVec S16 32) : Prop :=
  (∀ (k0_h7 : k0_cond7 i k0_t4 = 1#1), ∀ a x, ((![v83, v248] : Fin 2 → IVec S16 32) a x).toNat < S160x240.size a)
theorem k0_idx719_inb : ∀ (i : grid0.Coords) (k0_t4 : Fin (k0_t4_loop i).trips) (v83 : IVec S16 32) (v248 : IVec S16 32) (k0_hw614 : k0_chk614 i k0_t4 v83 v248), ∀ (k0_h7 : k0_cond7 i k0_t4 = 1#1), ∀ a x, ((![v83, v248] : Fin 2 → IVec S16 32) a x).toNat < S160x240.size a := fun i k0_t4 v83 v248 k0_hw614 k0_h7 => k0_hw614 k0_h7

def k0_chk615 (i : grid0.Coords) (k0_t4 : Fin (k0_t4_loop i).trips) (v83 : IVec S16 32) (v252 : IVec S16 32) : Prop :=
  (∀ (k0_h7 : k0_cond7 i k0_t4 = 1#1), ∀ a x, ((![v83, v252] : Fin 2 → IVec S16 32) a x).toNat < S160x240.size a)
theorem k0_idx720_inb : ∀ (i : grid0.Coords) (k0_t4 : Fin (k0_t4_loop i).trips) (v83 : IVec S16 32) (v252 : IVec S16 32) (k0_hw615 : k0_chk615 i k0_t4 v83 v252), ∀ (k0_h7 : k0_cond7 i k0_t4 = 1#1), ∀ a x, ((![v83, v252] : Fin 2 → IVec S16 32) a x).toNat < S160x240.size a := fun i k0_t4 v83 v252 k0_hw615 k0_h7 => k0_hw615 k0_h7

def k0_chk616 (i : grid0.Coords) (k0_t4 : Fin (k0_t4_loop i).trips) (v83 : IVec S16 32) (v245 : IVec S16 32) : Prop :=
  (∀ (k0_h7 : k0_cond7 i k0_t4 = 1#1), ∀ a x, ((![v245] : Fin 1 → IVec S16 32) a x).toNat < S48.size a) ∧
  (∀ (k0_h7 : k0_cond7 i k0_t4 = 1#1), ∀ a x, ((![v83, v245] : Fin 2 → IVec S16 32) a x).toNat < S160x48.size a)
theorem k0_idx721_inb : ∀ (i : grid0.Coords) (k0_t4 : Fin (k0_t4_loop i).trips) (v83 : IVec S16 32) (v245 : IVec S16 32) (k0_hw616 : k0_chk616 i k0_t4 v83 v245), ∀ (k0_h7 : k0_cond7 i k0_t4 = 1#1), ∀ a x, ((![v245] : Fin 1 → IVec S16 32) a x).toNat < S48.size a := fun i k0_t4 v83 v245 k0_hw616 k0_h7 => k0_hw616.1 k0_h7
theorem k0_idx722_inb : ∀ (i : grid0.Coords) (k0_t4 : Fin (k0_t4_loop i).trips) (v83 : IVec S16 32) (v245 : IVec S16 32) (k0_hw616 : k0_chk616 i k0_t4 v83 v245), ∀ (k0_h7 : k0_cond7 i k0_t4 = 1#1), ∀ a x, ((![v83, v245] : Fin 2 → IVec S16 32) a x).toNat < S160x48.size a := fun i k0_t4 v83 v245 k0_hw616 k0_h7 => k0_hw616.2 k0_h7

def k0_chk617 (i : grid0.Coords) (k0_t4 : Fin (k0_t4_loop i).trips) (v83 : IVec S16 32) (v256 : IVec S16 32) : Prop :=
  (∀ (k0_h7 : k0_cond7 i k0_t4 = 1#1), ∀ a x, ((![v83, v256] : Fin 2 → IVec S16 32) a x).toNat < S160x240.size a)
theorem k0_idx723_inb : ∀ (i : grid0.Coords) (k0_t4 : Fin (k0_t4_loop i).trips) (v83 : IVec S16 32) (v256 : IVec S16 32) (k0_hw617 : k0_chk617 i k0_t4 v83 v256), ∀ (k0_h7 : k0_cond7 i k0_t4 = 1#1), ∀ a x, ((![v83, v256] : Fin 2 → IVec S16 32) a x).toNat < S160x240.size a := fun i k0_t4 v83 v256 k0_hw617 k0_h7 => k0_hw617 k0_h7

def k0_chk618 (i : grid0.Coords) (k0_t4 : Fin (k0_t4_loop i).trips) (v83 : IVec S16 32) (v266 : IVec S16 32) : Prop :=
  (∀ (k0_h7 : k0_cond7 i k0_t4 = 1#1), ∀ a x, ((![v83, v266] : Fin 2 → IVec S16 32) a x).toNat < S160x240.size a)
theorem k0_idx724_inb : ∀ (i : grid0.Coords) (k0_t4 : Fin (k0_t4_loop i).trips) (v83 : IVec S16 32) (v266 : IVec S16 32) (k0_hw618 : k0_chk618 i k0_t4 v83 v266), ∀ (k0_h7 : k0_cond7 i k0_t4 = 1#1), ∀ a x, ((![v83, v266] : Fin 2 → IVec S16 32) a x).toNat < S160x240.size a := fun i k0_t4 v83 v266 k0_hw618 k0_h7 => k0_hw618 k0_h7

def k0_chk619 (i : grid0.Coords) (k0_t4 : Fin (k0_t4_loop i).trips) (v83 : IVec S16 32) (v270 : IVec S16 32) : Prop :=
  (∀ (k0_h7 : k0_cond7 i k0_t4 = 1#1), ∀ a x, ((![v83, v270] : Fin 2 → IVec S16 32) a x).toNat < S160x240.size a)
theorem k0_idx725_inb : ∀ (i : grid0.Coords) (k0_t4 : Fin (k0_t4_loop i).trips) (v83 : IVec S16 32) (v270 : IVec S16 32) (k0_hw619 : k0_chk619 i k0_t4 v83 v270), ∀ (k0_h7 : k0_cond7 i k0_t4 = 1#1), ∀ a x, ((![v83, v270] : Fin 2 → IVec S16 32) a x).toNat < S160x240.size a := fun i k0_t4 v83 v270 k0_hw619 k0_h7 => k0_hw619 k0_h7

def k0_chk620 (i : grid0.Coords) (k0_t4 : Fin (k0_t4_loop i).trips) (v83 : IVec S16 32) (v263 : IVec S16 32) : Prop :=
  (∀ (k0_h7 : k0_cond7 i k0_t4 = 1#1), ∀ a x, ((![v263] : Fin 1 → IVec S16 32) a x).toNat < S48.size a) ∧
  (∀ (k0_h7 : k0_cond7 i k0_t4 = 1#1), ∀ a x, ((![v83, v263] : Fin 2 → IVec S16 32) a x).toNat < S160x48.size a)
theorem k0_idx726_inb : ∀ (i : grid0.Coords) (k0_t4 : Fin (k0_t4_loop i).trips) (v83 : IVec S16 32) (v263 : IVec S16 32) (k0_hw620 : k0_chk620 i k0_t4 v83 v263), ∀ (k0_h7 : k0_cond7 i k0_t4 = 1#1), ∀ a x, ((![v263] : Fin 1 → IVec S16 32) a x).toNat < S48.size a := fun i k0_t4 v83 v263 k0_hw620 k0_h7 => k0_hw620.1 k0_h7
theorem k0_idx727_inb : ∀ (i : grid0.Coords) (k0_t4 : Fin (k0_t4_loop i).trips) (v83 : IVec S16 32) (v263 : IVec S16 32) (k0_hw620 : k0_chk620 i k0_t4 v83 v263), ∀ (k0_h7 : k0_cond7 i k0_t4 = 1#1), ∀ a x, ((![v83, v263] : Fin 2 → IVec S16 32) a x).toNat < S160x48.size a := fun i k0_t4 v83 v263 k0_hw620 k0_h7 => k0_hw620.2 k0_h7

def k0_chk621 (i : grid0.Coords) (k0_t4 : Fin (k0_t4_loop i).trips) (v83 : IVec S16 32) (v274 : IVec S16 32) : Prop :=
  (∀ (k0_h7 : k0_cond7 i k0_t4 = 1#1), ∀ a x, ((![v83, v274] : Fin 2 → IVec S16 32) a x).toNat < S160x240.size a)
theorem k0_idx728_inb : ∀ (i : grid0.Coords) (k0_t4 : Fin (k0_t4_loop i).trips) (v83 : IVec S16 32) (v274 : IVec S16 32) (k0_hw621 : k0_chk621 i k0_t4 v83 v274), ∀ (k0_h7 : k0_cond7 i k0_t4 = 1#1), ∀ a x, ((![v83, v274] : Fin 2 → IVec S16 32) a x).toNat < S160x240.size a := fun i k0_t4 v83 v274 k0_hw621 k0_h7 => k0_hw621 k0_h7

def k0_chk622 (i : grid0.Coords) (k0_t4 : Fin (k0_t4_loop i).trips) (v83 : IVec S16 32) (v284 : IVec S16 32) : Prop :=
  (∀ (k0_h7 : k0_cond7 i k0_t4 = 1#1), ∀ a x, ((![v83, v284] : Fin 2 → IVec S16 32) a x).toNat < S160x240.size a)
theorem k0_idx729_inb : ∀ (i : grid0.Coords) (k0_t4 : Fin (k0_t4_loop i).trips) (v83 : IVec S16 32) (v284 : IVec S16 32) (k0_hw622 : k0_chk622 i k0_t4 v83 v284), ∀ (k0_h7 : k0_cond7 i k0_t4 = 1#1), ∀ a x, ((![v83, v284] : Fin 2 → IVec S16 32) a x).toNat < S160x240.size a := fun i k0_t4 v83 v284 k0_hw622 k0_h7 => k0_hw622 k0_h7

def k0_chk623 (i : grid0.Coords) (k0_t4 : Fin (k0_t4_loop i).trips) (v83 : IVec S16 32) (v288 : IVec S16 32) : Prop :=
  (∀ (k0_h7 : k0_cond7 i k0_t4 = 1#1), ∀ a x, ((![v83, v288] : Fin 2 → IVec S16 32) a x).toNat < S160x240.size a)
theorem k0_idx730_inb : ∀ (i : grid0.Coords) (k0_t4 : Fin (k0_t4_loop i).trips) (v83 : IVec S16 32) (v288 : IVec S16 32) (k0_hw623 : k0_chk623 i k0_t4 v83 v288), ∀ (k0_h7 : k0_cond7 i k0_t4 = 1#1), ∀ a x, ((![v83, v288] : Fin 2 → IVec S16 32) a x).toNat < S160x240.size a := fun i k0_t4 v83 v288 k0_hw623 k0_h7 => k0_hw623 k0_h7

def k0_chk624 (i : grid0.Coords) (k0_t4 : Fin (k0_t4_loop i).trips) (v83 : IVec S16 32) (v281 : IVec S16 32) : Prop :=
  (∀ (k0_h7 : k0_cond7 i k0_t4 = 1#1), ∀ a x, ((![v281] : Fin 1 → IVec S16 32) a x).toNat < S48.size a) ∧
  (∀ (k0_h7 : k0_cond7 i k0_t4 = 1#1), ∀ a x, ((![v83, v281] : Fin 2 → IVec S16 32) a x).toNat < S160x48.size a)
theorem k0_idx731_inb : ∀ (i : grid0.Coords) (k0_t4 : Fin (k0_t4_loop i).trips) (v83 : IVec S16 32) (v281 : IVec S16 32) (k0_hw624 : k0_chk624 i k0_t4 v83 v281), ∀ (k0_h7 : k0_cond7 i k0_t4 = 1#1), ∀ a x, ((![v281] : Fin 1 → IVec S16 32) a x).toNat < S48.size a := fun i k0_t4 v83 v281 k0_hw624 k0_h7 => k0_hw624.1 k0_h7
theorem k0_idx732_inb : ∀ (i : grid0.Coords) (k0_t4 : Fin (k0_t4_loop i).trips) (v83 : IVec S16 32) (v281 : IVec S16 32) (k0_hw624 : k0_chk624 i k0_t4 v83 v281), ∀ (k0_h7 : k0_cond7 i k0_t4 = 1#1), ∀ a x, ((![v83, v281] : Fin 2 → IVec S16 32) a x).toNat < S160x48.size a := fun i k0_t4 v83 v281 k0_hw624 k0_h7 => k0_hw624.2 k0_h7

def k0_chk625 (i : grid0.Coords) (k0_t4 : Fin (k0_t4_loop i).trips) (v83 : IVec S16 32) (v292 : IVec S16 32) : Prop :=
  (∀ (k0_h7 : k0_cond7 i k0_t4 = 1#1), ∀ a x, ((![v83, v292] : Fin 2 → IVec S16 32) a x).toNat < S160x240.size a)
theorem k0_idx733_inb : ∀ (i : grid0.Coords) (k0_t4 : Fin (k0_t4_loop i).trips) (v83 : IVec S16 32) (v292 : IVec S16 32) (k0_hw625 : k0_chk625 i k0_t4 v83 v292), ∀ (k0_h7 : k0_cond7 i k0_t4 = 1#1), ∀ a x, ((![v83, v292] : Fin 2 → IVec S16 32) a x).toNat < S160x240.size a := fun i k0_t4 v83 v292 k0_hw625 k0_h7 => k0_hw625 k0_h7

def k0_chk626 (i : grid0.Coords) (k0_t4 : Fin (k0_t4_loop i).trips) (v83 : IVec S16 32) (v302 : IVec S16 32) : Prop :=
  (∀ (k0_h7 : k0_cond7 i k0_t4 = 1#1), ∀ a x, ((![v83, v302] : Fin 2 → IVec S16 32) a x).toNat < S160x240.size a)
theorem k0_idx734_inb : ∀ (i : grid0.Coords) (k0_t4 : Fin (k0_t4_loop i).trips) (v83 : IVec S16 32) (v302 : IVec S16 32) (k0_hw626 : k0_chk626 i k0_t4 v83 v302), ∀ (k0_h7 : k0_cond7 i k0_t4 = 1#1), ∀ a x, ((![v83, v302] : Fin 2 → IVec S16 32) a x).toNat < S160x240.size a := fun i k0_t4 v83 v302 k0_hw626 k0_h7 => k0_hw626 k0_h7

def k0_chk627 (i : grid0.Coords) (k0_t4 : Fin (k0_t4_loop i).trips) (v83 : IVec S16 32) (v306 : IVec S16 32) : Prop :=
  (∀ (k0_h7 : k0_cond7 i k0_t4 = 1#1), ∀ a x, ((![v83, v306] : Fin 2 → IVec S16 32) a x).toNat < S160x240.size a)
theorem k0_idx735_inb : ∀ (i : grid0.Coords) (k0_t4 : Fin (k0_t4_loop i).trips) (v83 : IVec S16 32) (v306 : IVec S16 32) (k0_hw627 : k0_chk627 i k0_t4 v83 v306), ∀ (k0_h7 : k0_cond7 i k0_t4 = 1#1), ∀ a x, ((![v83, v306] : Fin 2 → IVec S16 32) a x).toNat < S160x240.size a := fun i k0_t4 v83 v306 k0_hw627 k0_h7 => k0_hw627 k0_h7

def k0_chk628 (i : grid0.Coords) (k0_t4 : Fin (k0_t4_loop i).trips) (v83 : IVec S16 32) (v299 : IVec S16 32) : Prop :=
  (∀ (k0_h7 : k0_cond7 i k0_t4 = 1#1), ∀ a x, ((![v299] : Fin 1 → IVec S16 32) a x).toNat < S48.size a) ∧
  (∀ (k0_h7 : k0_cond7 i k0_t4 = 1#1), ∀ a x, ((![v83, v299] : Fin 2 → IVec S16 32) a x).toNat < S160x48.size a)
theorem k0_idx736_inb : ∀ (i : grid0.Coords) (k0_t4 : Fin (k0_t4_loop i).trips) (v83 : IVec S16 32) (v299 : IVec S16 32) (k0_hw628 : k0_chk628 i k0_t4 v83 v299), ∀ (k0_h7 : k0_cond7 i k0_t4 = 1#1), ∀ a x, ((![v299] : Fin 1 → IVec S16 32) a x).toNat < S48.size a := fun i k0_t4 v83 v299 k0_hw628 k0_h7 => k0_hw628.1 k0_h7
theorem k0_idx737_inb : ∀ (i : grid0.Coords) (k0_t4 : Fin (k0_t4_loop i).trips) (v83 : IVec S16 32) (v299 : IVec S16 32) (k0_hw628 : k0_chk628 i k0_t4 v83 v299), ∀ (k0_h7 : k0_cond7 i k0_t4 = 1#1), ∀ a x, ((![v83, v299] : Fin 2 → IVec S16 32) a x).toNat < S160x48.size a := fun i k0_t4 v83 v299 k0_hw628 k0_h7 => k0_hw628.2 k0_h7

def k0_chk629 (i : grid0.Coords) (k0_t4 : Fin (k0_t4_loop i).trips) (v83 : IVec S16 32) (v310 : IVec S16 32) : Prop :=
  (∀ (k0_h7 : k0_cond7 i k0_t4 = 1#1), ∀ a x, ((![v83, v310] : Fin 2 → IVec S16 32) a x).toNat < S160x240.size a)
theorem k0_idx738_inb : ∀ (i : grid0.Coords) (k0_t4 : Fin (k0_t4_loop i).trips) (v83 : IVec S16 32) (v310 : IVec S16 32) (k0_hw629 : k0_chk629 i k0_t4 v83 v310), ∀ (k0_h7 : k0_cond7 i k0_t4 = 1#1), ∀ a x, ((![v83, v310] : Fin 2 → IVec S16 32) a x).toNat < S160x240.size a := fun i k0_t4 v83 v310 k0_hw629 k0_h7 => k0_hw629 k0_h7

def k0_chk630 (i : grid0.Coords) (k0_t4 : Fin (k0_t4_loop i).trips) (v83 : IVec S16 32) (v320 : IVec S16 32) : Prop :=
  (∀ (k0_h7 : k0_cond7 i k0_t4 = 1#1), ∀ a x, ((![v83, v320] : Fin 2 → IVec S16 32) a x).toNat < S160x240.size a)
theorem k0_idx739_inb : ∀ (i : grid0.Coords) (k0_t4 : Fin (k0_t4_loop i).trips) (v83 : IVec S16 32) (v320 : IVec S16 32) (k0_hw630 : k0_chk630 i k0_t4 v83 v320), ∀ (k0_h7 : k0_cond7 i k0_t4 = 1#1), ∀ a x, ((![v83, v320] : Fin 2 → IVec S16 32) a x).toNat < S160x240.size a := fun i k0_t4 v83 v320 k0_hw630 k0_h7 => k0_hw630 k0_h7

def k0_chk631 (i : grid0.Coords) (k0_t4 : Fin (k0_t4_loop i).trips) (v83 : IVec S16 32) (v324 : IVec S16 32) : Prop :=
  (∀ (k0_h7 : k0_cond7 i k0_t4 = 1#1), ∀ a x, ((![v83, v324] : Fin 2 → IVec S16 32) a x).toNat < S160x240.size a)
theorem k0_idx740_inb : ∀ (i : grid0.Coords) (k0_t4 : Fin (k0_t4_loop i).trips) (v83 : IVec S16 32) (v324 : IVec S16 32) (k0_hw631 : k0_chk631 i k0_t4 v83 v324), ∀ (k0_h7 : k0_cond7 i k0_t4 = 1#1), ∀ a x, ((![v83, v324] : Fin 2 → IVec S16 32) a x).toNat < S160x240.size a := fun i k0_t4 v83 v324 k0_hw631 k0_h7 => k0_hw631 k0_h7

def k0_chk632 (i : grid0.Coords) (k0_t4 : Fin (k0_t4_loop i).trips) (v83 : IVec S16 32) (v317 : IVec S16 32) : Prop :=
  (∀ (k0_h7 : k0_cond7 i k0_t4 = 1#1), ∀ a x, ((![v317] : Fin 1 → IVec S16 32) a x).toNat < S48.size a) ∧
  (∀ (k0_h7 : k0_cond7 i k0_t4 = 1#1), ∀ a x, ((![v83, v317] : Fin 2 → IVec S16 32) a x).toNat < S160x48.size a)
theorem k0_idx741_inb : ∀ (i : grid0.Coords) (k0_t4 : Fin (k0_t4_loop i).trips) (v83 : IVec S16 32) (v317 : IVec S16 32) (k0_hw632 : k0_chk632 i k0_t4 v83 v317), ∀ (k0_h7 : k0_cond7 i k0_t4 = 1#1), ∀ a x, ((![v317] : Fin 1 → IVec S16 32) a x).toNat < S48.size a := fun i k0_t4 v83 v317 k0_hw632 k0_h7 => k0_hw632.1 k0_h7
theorem k0_idx742_inb : ∀ (i : grid0.Coords) (k0_t4 : Fin (k0_t4_loop i).trips) (v83 : IVec S16 32) (v317 : IVec S16 32) (k0_hw632 : k0_chk632 i k0_t4 v83 v317), ∀ (k0_h7 : k0_cond7 i k0_t4 = 1#1), ∀ a x, ((![v83, v317] : Fin 2 → IVec S16 32) a x).toNat < S160x48.size a := fun i k0_t4 v83 v317 k0_hw632 k0_h7 => k0_hw632.2 k0_h7

def k0_chk633 (i : grid0.Coords) (k0_t4 : Fin (k0_t4_loop i).trips) (v83 : IVec S16 32) (v328 : IVec S16 32) : Prop :=
  (∀ (k0_h7 : k0_cond7 i k0_t4 = 1#1), ∀ a x, ((![v83, v328] : Fin 2 → IVec S16 32) a x).toNat < S160x240.size a)
theorem k0_idx743_inb : ∀ (i : grid0.Coords) (k0_t4 : Fin (k0_t4_loop i).trips) (v83 : IVec S16 32) (v328 : IVec S16 32) (k0_hw633 : k0_chk633 i k0_t4 v83 v328), ∀ (k0_h7 : k0_cond7 i k0_t4 = 1#1), ∀ a x, ((![v83, v328] : Fin 2 → IVec S16 32) a x).toNat < S160x240.size a := fun i k0_t4 v83 v328 k0_hw633 k0_h7 => k0_hw633 k0_h7

def k0_chk634 (i : grid0.Coords) (k0_t4 : Fin (k0_t4_loop i).trips) (v83 : IVec S16 32) (v338 : IVec S16 32) : Prop :=
  (∀ (k0_h7 : k0_cond7 i k0_t4 = 1#1), ∀ a x, ((![v83, v338] : Fin 2 → IVec S16 32) a x).toNat < S160x240.size a)
theorem k0_idx744_inb : ∀ (i : grid0.Coords) (k0_t4 : Fin (k0_t4_loop i).trips) (v83 : IVec S16 32) (v338 : IVec S16 32) (k0_hw634 : k0_chk634 i k0_t4 v83 v338), ∀ (k0_h7 : k0_cond7 i k0_t4 = 1#1), ∀ a x, ((![v83, v338] : Fin 2 → IVec S16 32) a x).toNat < S160x240.size a := fun i k0_t4 v83 v338 k0_hw634 k0_h7 => k0_hw634 k0_h7

def k0_chk635 (i : grid0.Coords) (k0_t4 : Fin (k0_t4_loop i).trips) (v83 : IVec S16 32) (v342 : IVec S16 32) : Prop :=
  (∀ (k0_h7 : k0_cond7 i k0_t4 = 1#1), ∀ a x, ((![v83, v342] : Fin 2 → IVec S16 32) a x).toNat < S160x240.size a)
theorem k0_idx745_inb : ∀ (i : grid0.Coords) (k0_t4 : Fin (k0_t4_loop i).trips) (v83 : IVec S16 32) (v342 : IVec S16 32) (k0_hw635 : k0_chk635 i k0_t4 v83 v342), ∀ (k0_h7 : k0_cond7 i k0_t4 = 1#1), ∀ a x, ((![v83, v342] : Fin 2 → IVec S16 32) a x).toNat < S160x240.size a := fun i k0_t4 v83 v342 k0_hw635 k0_h7 => k0_hw635 k0_h7

def k0_chk636 (i : grid0.Coords) (k0_t4 : Fin (k0_t4_loop i).trips) (v83 : IVec S16 32) (v335 : IVec S16 32) : Prop :=
  (∀ (k0_h7 : k0_cond7 i k0_t4 = 1#1), ∀ a x, ((![v335] : Fin 1 → IVec S16 32) a x).toNat < S48.size a) ∧
  (∀ (k0_h7 : k0_cond7 i k0_t4 = 1#1), ∀ a x, ((![v83, v335] : Fin 2 → IVec S16 32) a x).toNat < S160x48.size a)
theorem k0_idx746_inb : ∀ (i : grid0.Coords) (k0_t4 : Fin (k0_t4_loop i).trips) (v83 : IVec S16 32) (v335 : IVec S16 32) (k0_hw636 : k0_chk636 i k0_t4 v83 v335), ∀ (k0_h7 : k0_cond7 i k0_t4 = 1#1), ∀ a x, ((![v335] : Fin 1 → IVec S16 32) a x).toNat < S48.size a := fun i k0_t4 v83 v335 k0_hw636 k0_h7 => k0_hw636.1 k0_h7
theorem k0_idx747_inb : ∀ (i : grid0.Coords) (k0_t4 : Fin (k0_t4_loop i).trips) (v83 : IVec S16 32) (v335 : IVec S16 32) (k0_hw636 : k0_chk636 i k0_t4 v83 v335), ∀ (k0_h7 : k0_cond7 i k0_t4 = 1#1), ∀ a x, ((![v83, v335] : Fin 2 → IVec S16 32) a x).toNat < S160x48.size a := fun i k0_t4 v83 v335 k0_hw636 k0_h7 => k0_hw636.2 k0_h7

def k0_chk637 (i : grid0.Coords) (k0_t4 : Fin (k0_t4_loop i).trips) (v83 : IVec S16 32) (v346 : IVec S16 32) : Prop :=
  (∀ (k0_h7 : k0_cond7 i k0_t4 = 1#1), ∀ a x, ((![v83, v346] : Fin 2 → IVec S16 32) a x).toNat < S160x240.size a)
theorem k0_idx748_inb : ∀ (i : grid0.Coords) (k0_t4 : Fin (k0_t4_loop i).trips) (v83 : IVec S16 32) (v346 : IVec S16 32) (k0_hw637 : k0_chk637 i k0_t4 v83 v346), ∀ (k0_h7 : k0_cond7 i k0_t4 = 1#1), ∀ a x, ((![v83, v346] : Fin 2 → IVec S16 32) a x).toNat < S160x240.size a := fun i k0_t4 v83 v346 k0_hw637 k0_h7 => k0_hw637 k0_h7

def k0_chk638 (i : grid0.Coords) (k0_t4 : Fin (k0_t4_loop i).trips) (v83 : IVec S16 32) (v356 : IVec S16 32) : Prop :=
  (∀ (k0_h7 : k0_cond7 i k0_t4 = 1#1), ∀ a x, ((![v83, v356] : Fin 2 → IVec S16 32) a x).toNat < S160x240.size a)
theorem k0_idx749_inb : ∀ (i : grid0.Coords) (k0_t4 : Fin (k0_t4_loop i).trips) (v83 : IVec S16 32) (v356 : IVec S16 32) (k0_hw638 : k0_chk638 i k0_t4 v83 v356), ∀ (k0_h7 : k0_cond7 i k0_t4 = 1#1), ∀ a x, ((![v83, v356] : Fin 2 → IVec S16 32) a x).toNat < S160x240.size a := fun i k0_t4 v83 v356 k0_hw638 k0_h7 => k0_hw638 k0_h7

def k0_chk639 (i : grid0.Coords) (k0_t4 : Fin (k0_t4_loop i).trips) (v83 : IVec S16 32) (v360 : IVec S16 32) : Prop :=
  (∀ (k0_h7 : k0_cond7 i k0_t4 = 1#1), ∀ a x, ((![v83, v360] : Fin 2 → IVec S16 32) a x).toNat < S160x240.size a)
theorem k0_idx750_inb : ∀ (i : grid0.Coords) (k0_t4 : Fin (k0_t4_loop i).trips) (v83 : IVec S16 32) (v360 : IVec S16 32) (k0_hw639 : k0_chk639 i k0_t4 v83 v360), ∀ (k0_h7 : k0_cond7 i k0_t4 = 1#1), ∀ a x, ((![v83, v360] : Fin 2 → IVec S16 32) a x).toNat < S160x240.size a := fun i k0_t4 v83 v360 k0_hw639 k0_h7 => k0_hw639 k0_h7

def k0_chk640 (i : grid0.Coords) (k0_t4 : Fin (k0_t4_loop i).trips) (v83 : IVec S16 32) (v353 : IVec S16 32) : Prop :=
  (∀ (k0_h7 : k0_cond7 i k0_t4 = 1#1), ∀ a x, ((![v353] : Fin 1 → IVec S16 32) a x).toNat < S48.size a) ∧
  (∀ (k0_h7 : k0_cond7 i k0_t4 = 1#1), ∀ a x, ((![v83, v353] : Fin 2 → IVec S16 32) a x).toNat < S160x48.size a)
theorem k0_idx751_inb : ∀ (i : grid0.Coords) (k0_t4 : Fin (k0_t4_loop i).trips) (v83 : IVec S16 32) (v353 : IVec S16 32) (k0_hw640 : k0_chk640 i k0_t4 v83 v353), ∀ (k0_h7 : k0_cond7 i k0_t4 = 1#1), ∀ a x, ((![v353] : Fin 1 → IVec S16 32) a x).toNat < S48.size a := fun i k0_t4 v83 v353 k0_hw640 k0_h7 => k0_hw640.1 k0_h7
theorem k0_idx752_inb : ∀ (i : grid0.Coords) (k0_t4 : Fin (k0_t4_loop i).trips) (v83 : IVec S16 32) (v353 : IVec S16 32) (k0_hw640 : k0_chk640 i k0_t4 v83 v353), ∀ (k0_h7 : k0_cond7 i k0_t4 = 1#1), ∀ a x, ((![v83, v353] : Fin 2 → IVec S16 32) a x).toNat < S160x48.size a := fun i k0_t4 v83 v353 k0_hw640 k0_h7 => k0_hw640.2 k0_h7

def k0_chk641 (i : grid0.Coords) (k0_t4 : Fin (k0_t4_loop i).trips) (v83 : IVec S16 32) (v364 : IVec S16 32) : Prop :=
  (∀ (k0_h7 : k0_cond7 i k0_t4 = 1#1), ∀ a x, ((![v83, v364] : Fin 2 → IVec S16 32) a x).toNat < S160x240.size a)
theorem k0_idx753_inb : ∀ (i : grid0.Coords) (k0_t4 : Fin (k0_t4_loop i).trips) (v83 : IVec S16 32) (v364 : IVec S16 32) (k0_hw641 : k0_chk641 i k0_t4 v83 v364), ∀ (k0_h7 : k0_cond7 i k0_t4 = 1#1), ∀ a x, ((![v83, v364] : Fin 2 → IVec S16 32) a x).toNat < S160x240.size a := fun i k0_t4 v83 v364 k0_hw641 k0_h7 => k0_hw641 k0_h7

def k0_chk642 (i : grid0.Coords) (k0_t4 : Fin (k0_t4_loop i).trips) (v83 : IVec S16 32) (v374 : IVec S16 32) : Prop :=
  (∀ (k0_h7 : k0_cond7 i k0_t4 = 1#1), ∀ a x, ((![v83, v374] : Fin 2 → IVec S16 32) a x).toNat < S160x240.size a)
theorem k0_idx754_inb : ∀ (i : grid0.Coords) (k0_t4 : Fin (k0_t4_loop i).trips) (v83 : IVec S16 32) (v374 : IVec S16 32) (k0_hw642 : k0_chk642 i k0_t4 v83 v374), ∀ (k0_h7 : k0_cond7 i k0_t4 = 1#1), ∀ a x, ((![v83, v374] : Fin 2 → IVec S16 32) a x).toNat < S160x240.size a := fun i k0_t4 v83 v374 k0_hw642 k0_h7 => k0_hw642 k0_h7

def k0_chk643 (i : grid0.Coords) (k0_t4 : Fin (k0_t4_loop i).trips) (v83 : IVec S16 32) (v378 : IVec S16 32) : Prop :=
  (∀ (k0_h7 : k0_cond7 i k0_t4 = 1#1), ∀ a x, ((![v83, v378] : Fin 2 → IVec S16 32) a x).toNat < S160x240.size a)
theorem k0_idx755_inb : ∀ (i : grid0.Coords) (k0_t4 : Fin (k0_t4_loop i).trips) (v83 : IVec S16 32) (v378 : IVec S16 32) (k0_hw643 : k0_chk643 i k0_t4 v83 v378), ∀ (k0_h7 : k0_cond7 i k0_t4 = 1#1), ∀ a x, ((![v83, v378] : Fin 2 → IVec S16 32) a x).toNat < S160x240.size a := fun i k0_t4 v83 v378 k0_hw643 k0_h7 => k0_hw643 k0_h7

def k0_chk644 (i : grid0.Coords) (k0_t4 : Fin (k0_t4_loop i).trips) (v83 : IVec S16 32) (v382 : IVec S16 32) : Prop :=
  (∀ (k0_h7 : k0_cond7 i k0_t4 = 1#1), ∀ a x, ((![v83, v382] : Fin 2 → IVec S16 32) a x).toNat < S160x240.size a)
theorem k0_idx756_inb : ∀ (i : grid0.Coords) (k0_t4 : Fin (k0_t4_loop i).trips) (v83 : IVec S16 32) (v382 : IVec S16 32) (k0_hw644 : k0_chk644 i k0_t4 v83 v382), ∀ (k0_h7 : k0_cond7 i k0_t4 = 1#1), ∀ a x, ((![v83, v382] : Fin 2 → IVec S16 32) a x).toNat < S160x240.size a := fun i k0_t4 v83 v382 k0_hw644 k0_h7 => k0_hw644 k0_h7

def k0_chk645 (i : grid0.Coords) (k0_t4 : Fin (k0_t4_loop i).trips) (v83 : IVec S16 32) (v386 : IVec S16 32) : Prop :=
  (∀ (k0_h7 : k0_cond7 i k0_t4 = 1#1), ∀ a x, ((![v83, v386] : Fin 2 → IVec S16 32) a x).toNat < S160x240.size a)
theorem k0_idx757_inb : ∀ (i : grid0.Coords) (k0_t4 : Fin (k0_t4_loop i).trips) (v83 : IVec S16 32) (v386 : IVec S16 32) (k0_hw645 : k0_chk645 i k0_t4 v83 v386), ∀ (k0_h7 : k0_cond7 i k0_t4 = 1#1), ∀ a x, ((![v83, v386] : Fin 2 → IVec S16 32) a x).toNat < S160x240.size a := fun i k0_t4 v83 v386 k0_hw645 k0_h7 => k0_hw645 k0_h7

def k0_chk646 (i : grid0.Coords) (k0_t4 : Fin (k0_t4_loop i).trips) (v83 : IVec S16 32) (v371 : IVec S16 32) : Prop :=
  (∀ (k0_h7 : k0_cond7 i k0_t4 = 1#1), ∀ a x, ((![v371] : Fin 1 → IVec S16 32) a x).toNat < S48.size a) ∧
  (∀ (k0_h7 : k0_cond7 i k0_t4 = 1#1), ∀ a x, ((![v83, v371] : Fin 2 → IVec S16 32) a x).toNat < S160x48.size a)
theorem k0_idx758_inb : ∀ (i : grid0.Coords) (k0_t4 : Fin (k0_t4_loop i).trips) (v83 : IVec S16 32) (v371 : IVec S16 32) (k0_hw646 : k0_chk646 i k0_t4 v83 v371), ∀ (k0_h7 : k0_cond7 i k0_t4 = 1#1), ∀ a x, ((![v371] : Fin 1 → IVec S16 32) a x).toNat < S48.size a := fun i k0_t4 v83 v371 k0_hw646 k0_h7 => k0_hw646.1 k0_h7
theorem k0_idx759_inb : ∀ (i : grid0.Coords) (k0_t4 : Fin (k0_t4_loop i).trips) (v83 : IVec S16 32) (v371 : IVec S16 32) (k0_hw646 : k0_chk646 i k0_t4 v83 v371), ∀ (k0_h7 : k0_cond7 i k0_t4 = 1#1), ∀ a x, ((![v83, v371] : Fin 2 → IVec S16 32) a x).toNat < S160x48.size a := fun i k0_t4 v83 v371 k0_hw646 k0_h7 => k0_hw646.2 k0_h7

def k0_chk647 (i : grid0.Coords) (k0_t4 : Fin (k0_t4_loop i).trips) (v83 : IVec S16 32) (v390 : IVec S16 32) : Prop :=
  (∀ (k0_h7 : k0_cond7 i k0_t4 = 1#1), ∀ a x, ((![v83, v390] : Fin 2 → IVec S16 32) a x).toNat < S160x240.size a)
theorem k0_idx760_inb : ∀ (i : grid0.Coords) (k0_t4 : Fin (k0_t4_loop i).trips) (v83 : IVec S16 32) (v390 : IVec S16 32) (k0_hw647 : k0_chk647 i k0_t4 v83 v390), ∀ (k0_h7 : k0_cond7 i k0_t4 = 1#1), ∀ a x, ((![v83, v390] : Fin 2 → IVec S16 32) a x).toNat < S160x240.size a := fun i k0_t4 v83 v390 k0_hw647 k0_h7 => k0_hw647 k0_h7

def k0_chk648 (i : grid0.Coords) (k0_t4 : Fin (k0_t4_loop i).trips) (v83 : IVec S16 32) (v402 : IVec S16 32) : Prop :=
  (∀ (k0_h7 : k0_cond7 i k0_t4 = 1#1), ∀ a x, ((![v83, v402] : Fin 2 → IVec S16 32) a x).toNat < S160x240.size a)
theorem k0_idx761_inb : ∀ (i : grid0.Coords) (k0_t4 : Fin (k0_t4_loop i).trips) (v83 : IVec S16 32) (v402 : IVec S16 32) (k0_hw648 : k0_chk648 i k0_t4 v83 v402), ∀ (k0_h7 : k0_cond7 i k0_t4 = 1#1), ∀ a x, ((![v83, v402] : Fin 2 → IVec S16 32) a x).toNat < S160x240.size a := fun i k0_t4 v83 v402 k0_hw648 k0_h7 => k0_hw648 k0_h7

def k0_chk649 (i : grid0.Coords) (k0_t4 : Fin (k0_t4_loop i).trips) (v83 : IVec S16 32) (v406 : IVec S16 32) : Prop :=
  (∀ (k0_h7 : k0_cond7 i k0_t4 = 1#1), ∀ a x, ((![v83, v406] : Fin 2 → IVec S16 32) a x).toNat < S160x240.size a)
theorem k0_idx762_inb : ∀ (i : grid0.Coords) (k0_t4 : Fin (k0_t4_loop i).trips) (v83 : IVec S16 32) (v406 : IVec S16 32) (k0_hw649 : k0_chk649 i k0_t4 v83 v406), ∀ (k0_h7 : k0_cond7 i k0_t4 = 1#1), ∀ a x, ((![v83, v406] : Fin 2 → IVec S16 32) a x).toNat < S160x240.size a := fun i k0_t4 v83 v406 k0_hw649 k0_h7 => k0_hw649 k0_h7

def k0_chk650 (i : grid0.Coords) (k0_t4 : Fin (k0_t4_loop i).trips) (v83 : IVec S16 32) (v410 : IVec S16 32) : Prop :=
  (∀ (k0_h7 : k0_cond7 i k0_t4 = 1#1), ∀ a x, ((![v83, v410] : Fin 2 → IVec S16 32) a x).toNat < S160x240.size a)
theorem k0_idx763_inb : ∀ (i : grid0.Coords) (k0_t4 : Fin (k0_t4_loop i).trips) (v83 : IVec S16 32) (v410 : IVec S16 32) (k0_hw650 : k0_chk650 i k0_t4 v83 v410), ∀ (k0_h7 : k0_cond7 i k0_t4 = 1#1), ∀ a x, ((![v83, v410] : Fin 2 → IVec S16 32) a x).toNat < S160x240.size a := fun i k0_t4 v83 v410 k0_hw650 k0_h7 => k0_hw650 k0_h7

def k0_chk651 (i : grid0.Coords) (k0_t4 : Fin (k0_t4_loop i).trips) (v83 : IVec S16 32) (v414 : IVec S16 32) : Prop :=
  (∀ (k0_h7 : k0_cond7 i k0_t4 = 1#1), ∀ a x, ((![v83, v414] : Fin 2 → IVec S16 32) a x).toNat < S160x240.size a)
theorem k0_idx764_inb : ∀ (i : grid0.Coords) (k0_t4 : Fin (k0_t4_loop i).trips) (v83 : IVec S16 32) (v414 : IVec S16 32) (k0_hw651 : k0_chk651 i k0_t4 v83 v414), ∀ (k0_h7 : k0_cond7 i k0_t4 = 1#1), ∀ a x, ((![v83, v414] : Fin 2 → IVec S16 32) a x).toNat < S160x240.size a := fun i k0_t4 v83 v414 k0_hw651 k0_h7 => k0_hw651 k0_h7

def k0_chk652 (i : grid0.Coords) (k0_t4 : Fin (k0_t4_loop i).trips) (v83 : IVec S16 32) (v399 : IVec S16 32) : Prop :=
  (∀ (k0_h7 : k0_cond7 i k0_t4 = 1#1), ∀ a x, ((![v399] : Fin 1 → IVec S16 32) a x).toNat < S48.size a) ∧
  (∀ (k0_h7 : k0_cond7 i k0_t4 = 1#1), ∀ a x, ((![v83, v399] : Fin 2 → IVec S16 32) a x).toNat < S160x48.size a)
theorem k0_idx765_inb : ∀ (i : grid0.Coords) (k0_t4 : Fin (k0_t4_loop i).trips) (v83 : IVec S16 32) (v399 : IVec S16 32) (k0_hw652 : k0_chk652 i k0_t4 v83 v399), ∀ (k0_h7 : k0_cond7 i k0_t4 = 1#1), ∀ a x, ((![v399] : Fin 1 → IVec S16 32) a x).toNat < S48.size a := fun i k0_t4 v83 v399 k0_hw652 k0_h7 => k0_hw652.1 k0_h7
theorem k0_idx766_inb : ∀ (i : grid0.Coords) (k0_t4 : Fin (k0_t4_loop i).trips) (v83 : IVec S16 32) (v399 : IVec S16 32) (k0_hw652 : k0_chk652 i k0_t4 v83 v399), ∀ (k0_h7 : k0_cond7 i k0_t4 = 1#1), ∀ a x, ((![v83, v399] : Fin 2 → IVec S16 32) a x).toNat < S160x48.size a := fun i k0_t4 v83 v399 k0_hw652 k0_h7 => k0_hw652.2 k0_h7

def k0_chk653 (i : grid0.Coords) (k0_t4 : Fin (k0_t4_loop i).trips) (v83 : IVec S16 32) (v418 : IVec S16 32) : Prop :=
  (∀ (k0_h7 : k0_cond7 i k0_t4 = 1#1), ∀ a x, ((![v83, v418] : Fin 2 → IVec S16 32) a x).toNat < S160x240.size a)
theorem k0_idx767_inb : ∀ (i : grid0.Coords) (k0_t4 : Fin (k0_t4_loop i).trips) (v83 : IVec S16 32) (v418 : IVec S16 32) (k0_hw653 : k0_chk653 i k0_t4 v83 v418), ∀ (k0_h7 : k0_cond7 i k0_t4 = 1#1), ∀ a x, ((![v83, v418] : Fin 2 → IVec S16 32) a x).toNat < S160x240.size a := fun i k0_t4 v83 v418 k0_hw653 k0_h7 => k0_hw653 k0_h7

def k0_chk654 (i : grid0.Coords) (k0_t4 : Fin (k0_t4_loop i).trips) (v83 : IVec S16 32) (v430 : IVec S16 32) : Prop :=
  (∀ (k0_h7 : k0_cond7 i k0_t4 = 1#1), ∀ a x, ((![v83, v430] : Fin 2 → IVec S16 32) a x).toNat < S160x240.size a)
theorem k0_idx768_inb : ∀ (i : grid0.Coords) (k0_t4 : Fin (k0_t4_loop i).trips) (v83 : IVec S16 32) (v430 : IVec S16 32) (k0_hw654 : k0_chk654 i k0_t4 v83 v430), ∀ (k0_h7 : k0_cond7 i k0_t4 = 1#1), ∀ a x, ((![v83, v430] : Fin 2 → IVec S16 32) a x).toNat < S160x240.size a := fun i k0_t4 v83 v430 k0_hw654 k0_h7 => k0_hw654 k0_h7

def k0_chk655 (i : grid0.Coords) (k0_t4 : Fin (k0_t4_loop i).trips) (v83 : IVec S16 32) (v434 : IVec S16 32) : Prop :=
  (∀ (k0_h7 : k0_cond7 i k0_t4 = 1#1), ∀ a x, ((![v83, v434] : Fin 2 → IVec S16 32) a x).toNat < S160x240.size a)
theorem k0_idx769_inb : ∀ (i : grid0.Coords) (k0_t4 : Fin (k0_t4_loop i).trips) (v83 : IVec S16 32) (v434 : IVec S16 32) (k0_hw655 : k0_chk655 i k0_t4 v83 v434), ∀ (k0_h7 : k0_cond7 i k0_t4 = 1#1), ∀ a x, ((![v83, v434] : Fin 2 → IVec S16 32) a x).toNat < S160x240.size a := fun i k0_t4 v83 v434 k0_hw655 k0_h7 => k0_hw655 k0_h7

def k0_chk656 (i : grid0.Coords) (k0_t4 : Fin (k0_t4_loop i).trips) (v83 : IVec S16 32) (v438 : IVec S16 32) : Prop :=
  (∀ (k0_h7 : k0_cond7 i k0_t4 = 1#1), ∀ a x, ((![v83, v438] : Fin 2 → IVec S16 32) a x).toNat < S160x240.size a)
theorem k0_idx770_inb : ∀ (i : grid0.Coords) (k0_t4 : Fin (k0_t4_loop i).trips) (v83 : IVec S16 32) (v438 : IVec S16 32) (k0_hw656 : k0_chk656 i k0_t4 v83 v438), ∀ (k0_h7 : k0_cond7 i k0_t4 = 1#1), ∀ a x, ((![v83, v438] : Fin 2 → IVec S16 32) a x).toNat < S160x240.size a := fun i k0_t4 v83 v438 k0_hw656 k0_h7 => k0_hw656 k0_h7

def k0_chk657 (i : grid0.Coords) (k0_t4 : Fin (k0_t4_loop i).trips) (v83 : IVec S16 32) (v442 : IVec S16 32) : Prop :=
  (∀ (k0_h7 : k0_cond7 i k0_t4 = 1#1), ∀ a x, ((![v83, v442] : Fin 2 → IVec S16 32) a x).toNat < S160x240.size a)
theorem k0_idx771_inb : ∀ (i : grid0.Coords) (k0_t4 : Fin (k0_t4_loop i).trips) (v83 : IVec S16 32) (v442 : IVec S16 32) (k0_hw657 : k0_chk657 i k0_t4 v83 v442), ∀ (k0_h7 : k0_cond7 i k0_t4 = 1#1), ∀ a x, ((![v83, v442] : Fin 2 → IVec S16 32) a x).toNat < S160x240.size a := fun i k0_t4 v83 v442 k0_hw657 k0_h7 => k0_hw657 k0_h7

def k0_chk658 (i : grid0.Coords) (k0_t4 : Fin (k0_t4_loop i).trips) (v83 : IVec S16 32) (v427 : IVec S16 32) : Prop :=
  (∀ (k0_h7 : k0_cond7 i k0_t4 = 1#1), ∀ a x, ((![v427] : Fin 1 → IVec S16 32) a x).toNat < S48.size a) ∧
  (∀ (k0_h7 : k0_cond7 i k0_t4 = 1#1), ∀ a x, ((![v83, v427] : Fin 2 → IVec S16 32) a x).toNat < S160x48.size a)
theorem k0_idx772_inb : ∀ (i : grid0.Coords) (k0_t4 : Fin (k0_t4_loop i).trips) (v83 : IVec S16 32) (v427 : IVec S16 32) (k0_hw658 : k0_chk658 i k0_t4 v83 v427), ∀ (k0_h7 : k0_cond7 i k0_t4 = 1#1), ∀ a x, ((![v427] : Fin 1 → IVec S16 32) a x).toNat < S48.size a := fun i k0_t4 v83 v427 k0_hw658 k0_h7 => k0_hw658.1 k0_h7
theorem k0_idx773_inb : ∀ (i : grid0.Coords) (k0_t4 : Fin (k0_t4_loop i).trips) (v83 : IVec S16 32) (v427 : IVec S16 32) (k0_hw658 : k0_chk658 i k0_t4 v83 v427), ∀ (k0_h7 : k0_cond7 i k0_t4 = 1#1), ∀ a x, ((![v83, v427] : Fin 2 → IVec S16 32) a x).toNat < S160x48.size a := fun i k0_t4 v83 v427 k0_hw658 k0_h7 => k0_hw658.2 k0_h7

def k0_chk659 (i : grid0.Coords) (k0_t4 : Fin (k0_t4_loop i).trips) (v83 : IVec S16 32) (v446 : IVec S16 32) : Prop :=
  (∀ (k0_h7 : k0_cond7 i k0_t4 = 1#1), ∀ a x, ((![v83, v446] : Fin 2 → IVec S16 32) a x).toNat < S160x240.size a)
theorem k0_idx774_inb : ∀ (i : grid0.Coords) (k0_t4 : Fin (k0_t4_loop i).trips) (v83 : IVec S16 32) (v446 : IVec S16 32) (k0_hw659 : k0_chk659 i k0_t4 v83 v446), ∀ (k0_h7 : k0_cond7 i k0_t4 = 1#1), ∀ a x, ((![v83, v446] : Fin 2 → IVec S16 32) a x).toNat < S160x240.size a := fun i k0_t4 v83 v446 k0_hw659 k0_h7 => k0_hw659 k0_h7

def k0_chk660 (i : grid0.Coords) (k0_t4 : Fin (k0_t4_loop i).trips) (v83 : IVec S16 32) (v458 : IVec S16 32) : Prop :=
  (∀ (k0_h7 : k0_cond7 i k0_t4 = 1#1), ∀ a x, ((![v83, v458] : Fin 2 → IVec S16 32) a x).toNat < S160x240.size a)
theorem k0_idx775_inb : ∀ (i : grid0.Coords) (k0_t4 : Fin (k0_t4_loop i).trips) (v83 : IVec S16 32) (v458 : IVec S16 32) (k0_hw660 : k0_chk660 i k0_t4 v83 v458), ∀ (k0_h7 : k0_cond7 i k0_t4 = 1#1), ∀ a x, ((![v83, v458] : Fin 2 → IVec S16 32) a x).toNat < S160x240.size a := fun i k0_t4 v83 v458 k0_hw660 k0_h7 => k0_hw660 k0_h7

def k0_chk661 (i : grid0.Coords) (k0_t4 : Fin (k0_t4_loop i).trips) (v83 : IVec S16 32) (v462 : IVec S16 32) : Prop :=
  (∀ (k0_h7 : k0_cond7 i k0_t4 = 1#1), ∀ a x, ((![v83, v462] : Fin 2 → IVec S16 32) a x).toNat < S160x240.size a)
theorem k0_idx776_inb : ∀ (i : grid0.Coords) (k0_t4 : Fin (k0_t4_loop i).trips) (v83 : IVec S16 32) (v462 : IVec S16 32) (k0_hw661 : k0_chk661 i k0_t4 v83 v462), ∀ (k0_h7 : k0_cond7 i k0_t4 = 1#1), ∀ a x, ((![v83, v462] : Fin 2 → IVec S16 32) a x).toNat < S160x240.size a := fun i k0_t4 v83 v462 k0_hw661 k0_h7 => k0_hw661 k0_h7

def k0_chk662 (i : grid0.Coords) (k0_t4 : Fin (k0_t4_loop i).trips) (v83 : IVec S16 32) (v466 : IVec S16 32) : Prop :=
  (∀ (k0_h7 : k0_cond7 i k0_t4 = 1#1), ∀ a x, ((![v83, v466] : Fin 2 → IVec S16 32) a x).toNat < S160x240.size a)
theorem k0_idx777_inb : ∀ (i : grid0.Coords) (k0_t4 : Fin (k0_t4_loop i).trips) (v83 : IVec S16 32) (v466 : IVec S16 32) (k0_hw662 : k0_chk662 i k0_t4 v83 v466), ∀ (k0_h7 : k0_cond7 i k0_t4 = 1#1), ∀ a x, ((![v83, v466] : Fin 2 → IVec S16 32) a x).toNat < S160x240.size a := fun i k0_t4 v83 v466 k0_hw662 k0_h7 => k0_hw662 k0_h7

def k0_chk663 (i : grid0.Coords) (k0_t4 : Fin (k0_t4_loop i).trips) (v83 : IVec S16 32) (v470 : IVec S16 32) : Prop :=
  (∀ (k0_h7 : k0_cond7 i k0_t4 = 1#1), ∀ a x, ((![v83, v470] : Fin 2 → IVec S16 32) a x).toNat < S160x240.size a)
theorem k0_idx778_inb : ∀ (i : grid0.Coords) (k0_t4 : Fin (k0_t4_loop i).trips) (v83 : IVec S16 32) (v470 : IVec S16 32) (k0_hw663 : k0_chk663 i k0_t4 v83 v470), ∀ (k0_h7 : k0_cond7 i k0_t4 = 1#1), ∀ a x, ((![v83, v470] : Fin 2 → IVec S16 32) a x).toNat < S160x240.size a := fun i k0_t4 v83 v470 k0_hw663 k0_h7 => k0_hw663 k0_h7

def k0_chk664 (i : grid0.Coords) (k0_t4 : Fin (k0_t4_loop i).trips) (v83 : IVec S16 32) (v455 : IVec S16 32) : Prop :=
  (∀ (k0_h7 : k0_cond7 i k0_t4 = 1#1), ∀ a x, ((![v455] : Fin 1 → IVec S16 32) a x).toNat < S48.size a) ∧
  (∀ (k0_h7 : k0_cond7 i k0_t4 = 1#1), ∀ a x, ((![v83, v455] : Fin 2 → IVec S16 32) a x).toNat < S160x48.size a)
theorem k0_idx779_inb : ∀ (i : grid0.Coords) (k0_t4 : Fin (k0_t4_loop i).trips) (v83 : IVec S16 32) (v455 : IVec S16 32) (k0_hw664 : k0_chk664 i k0_t4 v83 v455), ∀ (k0_h7 : k0_cond7 i k0_t4 = 1#1), ∀ a x, ((![v455] : Fin 1 → IVec S16 32) a x).toNat < S48.size a := fun i k0_t4 v83 v455 k0_hw664 k0_h7 => k0_hw664.1 k0_h7
theorem k0_idx780_inb : ∀ (i : grid0.Coords) (k0_t4 : Fin (k0_t4_loop i).trips) (v83 : IVec S16 32) (v455 : IVec S16 32) (k0_hw664 : k0_chk664 i k0_t4 v83 v455), ∀ (k0_h7 : k0_cond7 i k0_t4 = 1#1), ∀ a x, ((![v83, v455] : Fin 2 → IVec S16 32) a x).toNat < S160x48.size a := fun i k0_t4 v83 v455 k0_hw664 k0_h7 => k0_hw664.2 k0_h7

def k0_chk665 (i : grid0.Coords) (k0_t4 : Fin (k0_t4_loop i).trips) (v83 : IVec S16 32) (v474 : IVec S16 32) : Prop :=
  (∀ (k0_h7 : k0_cond7 i k0_t4 = 1#1), ∀ a x, ((![v83, v474] : Fin 2 → IVec S16 32) a x).toNat < S160x240.size a)
theorem k0_idx781_inb : ∀ (i : grid0.Coords) (k0_t4 : Fin (k0_t4_loop i).trips) (v83 : IVec S16 32) (v474 : IVec S16 32) (k0_hw665 : k0_chk665 i k0_t4 v83 v474), ∀ (k0_h7 : k0_cond7 i k0_t4 = 1#1), ∀ a x, ((![v83, v474] : Fin 2 → IVec S16 32) a x).toNat < S160x240.size a := fun i k0_t4 v83 v474 k0_hw665 k0_h7 => k0_hw665 k0_h7

def k0_chk666 (i : grid0.Coords) (k0_t4 : Fin (k0_t4_loop i).trips) (v83 : IVec S16 32) (v486 : IVec S16 32) : Prop :=
  (∀ (k0_h7 : k0_cond7 i k0_t4 = 1#1), ∀ a x, ((![v83, v486] : Fin 2 → IVec S16 32) a x).toNat < S160x240.size a)
theorem k0_idx782_inb : ∀ (i : grid0.Coords) (k0_t4 : Fin (k0_t4_loop i).trips) (v83 : IVec S16 32) (v486 : IVec S16 32) (k0_hw666 : k0_chk666 i k0_t4 v83 v486), ∀ (k0_h7 : k0_cond7 i k0_t4 = 1#1), ∀ a x, ((![v83, v486] : Fin 2 → IVec S16 32) a x).toNat < S160x240.size a := fun i k0_t4 v83 v486 k0_hw666 k0_h7 => k0_hw666 k0_h7

def k0_chk667 (i : grid0.Coords) (k0_t4 : Fin (k0_t4_loop i).trips) (v83 : IVec S16 32) (v490 : IVec S16 32) : Prop :=
  (∀ (k0_h7 : k0_cond7 i k0_t4 = 1#1), ∀ a x, ((![v83, v490] : Fin 2 → IVec S16 32) a x).toNat < S160x240.size a)
theorem k0_idx783_inb : ∀ (i : grid0.Coords) (k0_t4 : Fin (k0_t4_loop i).trips) (v83 : IVec S16 32) (v490 : IVec S16 32) (k0_hw667 : k0_chk667 i k0_t4 v83 v490), ∀ (k0_h7 : k0_cond7 i k0_t4 = 1#1), ∀ a x, ((![v83, v490] : Fin 2 → IVec S16 32) a x).toNat < S160x240.size a := fun i k0_t4 v83 v490 k0_hw667 k0_h7 => k0_hw667 k0_h7

def k0_chk668 (i : grid0.Coords) (k0_t4 : Fin (k0_t4_loop i).trips) (v83 : IVec S16 32) (v494 : IVec S16 32) : Prop :=
  (∀ (k0_h7 : k0_cond7 i k0_t4 = 1#1), ∀ a x, ((![v83, v494] : Fin 2 → IVec S16 32) a x).toNat < S160x240.size a)
theorem k0_idx784_inb : ∀ (i : grid0.Coords) (k0_t4 : Fin (k0_t4_loop i).trips) (v83 : IVec S16 32) (v494 : IVec S16 32) (k0_hw668 : k0_chk668 i k0_t4 v83 v494), ∀ (k0_h7 : k0_cond7 i k0_t4 = 1#1), ∀ a x, ((![v83, v494] : Fin 2 → IVec S16 32) a x).toNat < S160x240.size a := fun i k0_t4 v83 v494 k0_hw668 k0_h7 => k0_hw668 k0_h7

def k0_chk669 (i : grid0.Coords) (k0_t4 : Fin (k0_t4_loop i).trips) (v83 : IVec S16 32) (v498 : IVec S16 32) : Prop :=
  (∀ (k0_h7 : k0_cond7 i k0_t4 = 1#1), ∀ a x, ((![v83, v498] : Fin 2 → IVec S16 32) a x).toNat < S160x240.size a)
theorem k0_idx785_inb : ∀ (i : grid0.Coords) (k0_t4 : Fin (k0_t4_loop i).trips) (v83 : IVec S16 32) (v498 : IVec S16 32) (k0_hw669 : k0_chk669 i k0_t4 v83 v498), ∀ (k0_h7 : k0_cond7 i k0_t4 = 1#1), ∀ a x, ((![v83, v498] : Fin 2 → IVec S16 32) a x).toNat < S160x240.size a := fun i k0_t4 v83 v498 k0_hw669 k0_h7 => k0_hw669 k0_h7

def k0_chk670 (i : grid0.Coords) (k0_t4 : Fin (k0_t4_loop i).trips) (v83 : IVec S16 32) (v483 : IVec S16 32) : Prop :=
  (∀ (k0_h7 : k0_cond7 i k0_t4 = 1#1), ∀ a x, ((![v483] : Fin 1 → IVec S16 32) a x).toNat < S48.size a) ∧
  (∀ (k0_h7 : k0_cond7 i k0_t4 = 1#1), ∀ a x, ((![v83, v483] : Fin 2 → IVec S16 32) a x).toNat < S160x48.size a)
theorem k0_idx786_inb : ∀ (i : grid0.Coords) (k0_t4 : Fin (k0_t4_loop i).trips) (v83 : IVec S16 32) (v483 : IVec S16 32) (k0_hw670 : k0_chk670 i k0_t4 v83 v483), ∀ (k0_h7 : k0_cond7 i k0_t4 = 1#1), ∀ a x, ((![v483] : Fin 1 → IVec S16 32) a x).toNat < S48.size a := fun i k0_t4 v83 v483 k0_hw670 k0_h7 => k0_hw670.1 k0_h7
theorem k0_idx787_inb : ∀ (i : grid0.Coords) (k0_t4 : Fin (k0_t4_loop i).trips) (v83 : IVec S16 32) (v483 : IVec S16 32) (k0_hw670 : k0_chk670 i k0_t4 v83 v483), ∀ (k0_h7 : k0_cond7 i k0_t4 = 1#1), ∀ a x, ((![v83, v483] : Fin 2 → IVec S16 32) a x).toNat < S160x48.size a := fun i k0_t4 v83 v483 k0_hw670 k0_h7 => k0_hw670.2 k0_h7

def k0_chk671 (i : grid0.Coords) (k0_t4 : Fin (k0_t4_loop i).trips) (v83 : IVec S16 32) (v502 : IVec S16 32) : Prop :=
  (∀ (k0_h7 : k0_cond7 i k0_t4 = 1#1), ∀ a x, ((![v83, v502] : Fin 2 → IVec S16 32) a x).toNat < S160x240.size a)
theorem k0_idx788_inb : ∀ (i : grid0.Coords) (k0_t4 : Fin (k0_t4_loop i).trips) (v83 : IVec S16 32) (v502 : IVec S16 32) (k0_hw671 : k0_chk671 i k0_t4 v83 v502), ∀ (k0_h7 : k0_cond7 i k0_t4 = 1#1), ∀ a x, ((![v83, v502] : Fin 2 → IVec S16 32) a x).toNat < S160x240.size a := fun i k0_t4 v83 v502 k0_hw671 k0_h7 => k0_hw671 k0_h7

def k0_chk672 (i : grid0.Coords) (k0_t4 : Fin (k0_t4_loop i).trips) (v83 : IVec S16 32) (v514 : IVec S16 32) : Prop :=
  (∀ (k0_h7 : k0_cond7 i k0_t4 = 1#1), ∀ a x, ((![v83, v514] : Fin 2 → IVec S16 32) a x).toNat < S160x240.size a)
theorem k0_idx789_inb : ∀ (i : grid0.Coords) (k0_t4 : Fin (k0_t4_loop i).trips) (v83 : IVec S16 32) (v514 : IVec S16 32) (k0_hw672 : k0_chk672 i k0_t4 v83 v514), ∀ (k0_h7 : k0_cond7 i k0_t4 = 1#1), ∀ a x, ((![v83, v514] : Fin 2 → IVec S16 32) a x).toNat < S160x240.size a := fun i k0_t4 v83 v514 k0_hw672 k0_h7 => k0_hw672 k0_h7

def k0_chk673 (i : grid0.Coords) (k0_t4 : Fin (k0_t4_loop i).trips) (v83 : IVec S16 32) (v518 : IVec S16 32) : Prop :=
  (∀ (k0_h7 : k0_cond7 i k0_t4 = 1#1), ∀ a x, ((![v83, v518] : Fin 2 → IVec S16 32) a x).toNat < S160x240.size a)
theorem k0_idx790_inb : ∀ (i : grid0.Coords) (k0_t4 : Fin (k0_t4_loop i).trips) (v83 : IVec S16 32) (v518 : IVec S16 32) (k0_hw673 : k0_chk673 i k0_t4 v83 v518), ∀ (k0_h7 : k0_cond7 i k0_t4 = 1#1), ∀ a x, ((![v83, v518] : Fin 2 → IVec S16 32) a x).toNat < S160x240.size a := fun i k0_t4 v83 v518 k0_hw673 k0_h7 => k0_hw673 k0_h7

def k0_chk674 (i : grid0.Coords) (k0_t4 : Fin (k0_t4_loop i).trips) (v83 : IVec S16 32) (v522 : IVec S16 32) : Prop :=
  (∀ (k0_h7 : k0_cond7 i k0_t4 = 1#1), ∀ a x, ((![v83, v522] : Fin 2 → IVec S16 32) a x).toNat < S160x240.size a)
theorem k0_idx791_inb : ∀ (i : grid0.Coords) (k0_t4 : Fin (k0_t4_loop i).trips) (v83 : IVec S16 32) (v522 : IVec S16 32) (k0_hw674 : k0_chk674 i k0_t4 v83 v522), ∀ (k0_h7 : k0_cond7 i k0_t4 = 1#1), ∀ a x, ((![v83, v522] : Fin 2 → IVec S16 32) a x).toNat < S160x240.size a := fun i k0_t4 v83 v522 k0_hw674 k0_h7 => k0_hw674 k0_h7

def k0_chk675 (i : grid0.Coords) (k0_t4 : Fin (k0_t4_loop i).trips) (v83 : IVec S16 32) (v526 : IVec S16 32) : Prop :=
  (∀ (k0_h7 : k0_cond7 i k0_t4 = 1#1), ∀ a x, ((![v83, v526] : Fin 2 → IVec S16 32) a x).toNat < S160x240.size a)
theorem k0_idx792_inb : ∀ (i : grid0.Coords) (k0_t4 : Fin (k0_t4_loop i).trips) (v83 : IVec S16 32) (v526 : IVec S16 32) (k0_hw675 : k0_chk675 i k0_t4 v83 v526), ∀ (k0_h7 : k0_cond7 i k0_t4 = 1#1), ∀ a x, ((![v83, v526] : Fin 2 → IVec S16 32) a x).toNat < S160x240.size a := fun i k0_t4 v83 v526 k0_hw675 k0_h7 => k0_hw675 k0_h7

def k0_chk676 (i : grid0.Coords) (k0_t4 : Fin (k0_t4_loop i).trips) (v83 : IVec S16 32) (v511 : IVec S16 32) : Prop :=
  (∀ (k0_h7 : k0_cond7 i k0_t4 = 1#1), ∀ a x, ((![v511] : Fin 1 → IVec S16 32) a x).toNat < S48.size a) ∧
  (∀ (k0_h7 : k0_cond7 i k0_t4 = 1#1), ∀ a x, ((![v83, v511] : Fin 2 → IVec S16 32) a x).toNat < S160x48.size a)
theorem k0_idx793_inb : ∀ (i : grid0.Coords) (k0_t4 : Fin (k0_t4_loop i).trips) (v83 : IVec S16 32) (v511 : IVec S16 32) (k0_hw676 : k0_chk676 i k0_t4 v83 v511), ∀ (k0_h7 : k0_cond7 i k0_t4 = 1#1), ∀ a x, ((![v511] : Fin 1 → IVec S16 32) a x).toNat < S48.size a := fun i k0_t4 v83 v511 k0_hw676 k0_h7 => k0_hw676.1 k0_h7
theorem k0_idx794_inb : ∀ (i : grid0.Coords) (k0_t4 : Fin (k0_t4_loop i).trips) (v83 : IVec S16 32) (v511 : IVec S16 32) (k0_hw676 : k0_chk676 i k0_t4 v83 v511), ∀ (k0_h7 : k0_cond7 i k0_t4 = 1#1), ∀ a x, ((![v83, v511] : Fin 2 → IVec S16 32) a x).toNat < S160x48.size a := fun i k0_t4 v83 v511 k0_hw676 k0_h7 => k0_hw676.2 k0_h7

def k0_chk677 (i : grid0.Coords) (k0_t4 : Fin (k0_t4_loop i).trips) (v83 : IVec S16 32) (v530 : IVec S16 32) : Prop :=
  (∀ (k0_h7 : k0_cond7 i k0_t4 = 1#1), ∀ a x, ((![v83, v530] : Fin 2 → IVec S16 32) a x).toNat < S160x240.size a)
theorem k0_idx795_inb : ∀ (i : grid0.Coords) (k0_t4 : Fin (k0_t4_loop i).trips) (v83 : IVec S16 32) (v530 : IVec S16 32) (k0_hw677 : k0_chk677 i k0_t4 v83 v530), ∀ (k0_h7 : k0_cond7 i k0_t4 = 1#1), ∀ a x, ((![v83, v530] : Fin 2 → IVec S16 32) a x).toNat < S160x240.size a := fun i k0_t4 v83 v530 k0_hw677 k0_h7 => k0_hw677 k0_h7

def k0_chk678 (i : grid0.Coords) (k0_t4 : Fin (k0_t4_loop i).trips) (v83 : IVec S16 32) (v542 : IVec S16 32) : Prop :=
  (∀ (k0_h7 : k0_cond7 i k0_t4 = 1#1), ∀ a x, ((![v83, v542] : Fin 2 → IVec S16 32) a x).toNat < S160x240.size a)
theorem k0_idx796_inb : ∀ (i : grid0.Coords) (k0_t4 : Fin (k0_t4_loop i).trips) (v83 : IVec S16 32) (v542 : IVec S16 32) (k0_hw678 : k0_chk678 i k0_t4 v83 v542), ∀ (k0_h7 : k0_cond7 i k0_t4 = 1#1), ∀ a x, ((![v83, v542] : Fin 2 → IVec S16 32) a x).toNat < S160x240.size a := fun i k0_t4 v83 v542 k0_hw678 k0_h7 => k0_hw678 k0_h7

def k0_chk679 (i : grid0.Coords) (k0_t4 : Fin (k0_t4_loop i).trips) (v83 : IVec S16 32) (v546 : IVec S16 32) : Prop :=
  (∀ (k0_h7 : k0_cond7 i k0_t4 = 1#1), ∀ a x, ((![v83, v546] : Fin 2 → IVec S16 32) a x).toNat < S160x240.size a)
theorem k0_idx797_inb : ∀ (i : grid0.Coords) (k0_t4 : Fin (k0_t4_loop i).trips) (v83 : IVec S16 32) (v546 : IVec S16 32) (k0_hw679 : k0_chk679 i k0_t4 v83 v546), ∀ (k0_h7 : k0_cond7 i k0_t4 = 1#1), ∀ a x, ((![v83, v546] : Fin 2 → IVec S16 32) a x).toNat < S160x240.size a := fun i k0_t4 v83 v546 k0_hw679 k0_h7 => k0_hw679 k0_h7

def k0_chk680 (i : grid0.Coords) (k0_t4 : Fin (k0_t4_loop i).trips) (v83 : IVec S16 32) (v550 : IVec S16 32) : Prop :=
  (∀ (k0_h7 : k0_cond7 i k0_t4 = 1#1), ∀ a x, ((![v83, v550] : Fin 2 → IVec S16 32) a x).toNat < S160x240.size a)
theorem k0_idx798_inb : ∀ (i : grid0.Coords) (k0_t4 : Fin (k0_t4_loop i).trips) (v83 : IVec S16 32) (v550 : IVec S16 32) (k0_hw680 : k0_chk680 i k0_t4 v83 v550), ∀ (k0_h7 : k0_cond7 i k0_t4 = 1#1), ∀ a x, ((![v83, v550] : Fin 2 → IVec S16 32) a x).toNat < S160x240.size a := fun i k0_t4 v83 v550 k0_hw680 k0_h7 => k0_hw680 k0_h7

def k0_chk681 (i : grid0.Coords) (k0_t4 : Fin (k0_t4_loop i).trips) (v83 : IVec S16 32) (v554 : IVec S16 32) : Prop :=
  (∀ (k0_h7 : k0_cond7 i k0_t4 = 1#1), ∀ a x, ((![v83, v554] : Fin 2 → IVec S16 32) a x).toNat < S160x240.size a)
theorem k0_idx799_inb : ∀ (i : grid0.Coords) (k0_t4 : Fin (k0_t4_loop i).trips) (v83 : IVec S16 32) (v554 : IVec S16 32) (k0_hw681 : k0_chk681 i k0_t4 v83 v554), ∀ (k0_h7 : k0_cond7 i k0_t4 = 1#1), ∀ a x, ((![v83, v554] : Fin 2 → IVec S16 32) a x).toNat < S160x240.size a := fun i k0_t4 v83 v554 k0_hw681 k0_h7 => k0_hw681 k0_h7

def k0_chk682 (i : grid0.Coords) (k0_t4 : Fin (k0_t4_loop i).trips) (v83 : IVec S16 32) (v539 : IVec S16 32) : Prop :=
  (∀ (k0_h7 : k0_cond7 i k0_t4 = 1#1), ∀ a x, ((![v539] : Fin 1 → IVec S16 32) a x).toNat < S48.size a) ∧
  (∀ (k0_h7 : k0_cond7 i k0_t4 = 1#1), ∀ a x, ((![v83, v539] : Fin 2 → IVec S16 32) a x).toNat < S160x48.size a)
theorem k0_idx800_inb : ∀ (i : grid0.Coords) (k0_t4 : Fin (k0_t4_loop i).trips) (v83 : IVec S16 32) (v539 : IVec S16 32) (k0_hw682 : k0_chk682 i k0_t4 v83 v539), ∀ (k0_h7 : k0_cond7 i k0_t4 = 1#1), ∀ a x, ((![v539] : Fin 1 → IVec S16 32) a x).toNat < S48.size a := fun i k0_t4 v83 v539 k0_hw682 k0_h7 => k0_hw682.1 k0_h7
theorem k0_idx801_inb : ∀ (i : grid0.Coords) (k0_t4 : Fin (k0_t4_loop i).trips) (v83 : IVec S16 32) (v539 : IVec S16 32) (k0_hw682 : k0_chk682 i k0_t4 v83 v539), ∀ (k0_h7 : k0_cond7 i k0_t4 = 1#1), ∀ a x, ((![v83, v539] : Fin 2 → IVec S16 32) a x).toNat < S160x48.size a := fun i k0_t4 v83 v539 k0_hw682 k0_h7 => k0_hw682.2 k0_h7

def k0_chk683 (i : grid0.Coords) (k0_t4 : Fin (k0_t4_loop i).trips) (v83 : IVec S16 32) (v558 : IVec S16 32) : Prop :=
  (∀ (k0_h7 : k0_cond7 i k0_t4 = 1#1), ∀ a x, ((![v83, v558] : Fin 2 → IVec S16 32) a x).toNat < S160x240.size a)
theorem k0_idx802_inb : ∀ (i : grid0.Coords) (k0_t4 : Fin (k0_t4_loop i).trips) (v83 : IVec S16 32) (v558 : IVec S16 32) (k0_hw683 : k0_chk683 i k0_t4 v83 v558), ∀ (k0_h7 : k0_cond7 i k0_t4 = 1#1), ∀ a x, ((![v83, v558] : Fin 2 → IVec S16 32) a x).toNat < S160x240.size a := fun i k0_t4 v83 v558 k0_hw683 k0_h7 => k0_hw683 k0_h7

def k0_chk684 (i : grid0.Coords) (k0_t4 : Fin (k0_t4_loop i).trips) (v83 : IVec S16 32) (v570 : IVec S16 32) : Prop :=
  (∀ (k0_h7 : k0_cond7 i k0_t4 = 1#1), ∀ a x, ((![v83, v570] : Fin 2 → IVec S16 32) a x).toNat < S160x240.size a)
theorem k0_idx803_inb : ∀ (i : grid0.Coords) (k0_t4 : Fin (k0_t4_loop i).trips) (v83 : IVec S16 32) (v570 : IVec S16 32) (k0_hw684 : k0_chk684 i k0_t4 v83 v570), ∀ (k0_h7 : k0_cond7 i k0_t4 = 1#1), ∀ a x, ((![v83, v570] : Fin 2 → IVec S16 32) a x).toNat < S160x240.size a := fun i k0_t4 v83 v570 k0_hw684 k0_h7 => k0_hw684 k0_h7

def k0_chk685 (i : grid0.Coords) (k0_t4 : Fin (k0_t4_loop i).trips) (v83 : IVec S16 32) (v574 : IVec S16 32) : Prop :=
  (∀ (k0_h7 : k0_cond7 i k0_t4 = 1#1), ∀ a x, ((![v83, v574] : Fin 2 → IVec S16 32) a x).toNat < S160x240.size a)
theorem k0_idx804_inb : ∀ (i : grid0.Coords) (k0_t4 : Fin (k0_t4_loop i).trips) (v83 : IVec S16 32) (v574 : IVec S16 32) (k0_hw685 : k0_chk685 i k0_t4 v83 v574), ∀ (k0_h7 : k0_cond7 i k0_t4 = 1#1), ∀ a x, ((![v83, v574] : Fin 2 → IVec S16 32) a x).toNat < S160x240.size a := fun i k0_t4 v83 v574 k0_hw685 k0_h7 => k0_hw685 k0_h7

def k0_chk686 (i : grid0.Coords) (k0_t4 : Fin (k0_t4_loop i).trips) (v83 : IVec S16 32) (v578 : IVec S16 32) : Prop :=
  (∀ (k0_h7 : k0_cond7 i k0_t4 = 1#1), ∀ a x, ((![v83, v578] : Fin 2 → IVec S16 32) a x).toNat < S160x240.size a)
theorem k0_idx805_inb : ∀ (i : grid0.Coords) (k0_t4 : Fin (k0_t4_loop i).trips) (v83 : IVec S16 32) (v578 : IVec S16 32) (k0_hw686 : k0_chk686 i k0_t4 v83 v578), ∀ (k0_h7 : k0_cond7 i k0_t4 = 1#1), ∀ a x, ((![v83, v578] : Fin 2 → IVec S16 32) a x).toNat < S160x240.size a := fun i k0_t4 v83 v578 k0_hw686 k0_h7 => k0_hw686 k0_h7

def k0_chk687 (i : grid0.Coords) (k0_t4 : Fin (k0_t4_loop i).trips) (v83 : IVec S16 32) (v582 : IVec S16 32) : Prop :=
  (∀ (k0_h7 : k0_cond7 i k0_t4 = 1#1), ∀ a x, ((![v83, v582] : Fin 2 → IVec S16 32) a x).toNat < S160x240.size a)
theorem k0_idx806_inb : ∀ (i : grid0.Coords) (k0_t4 : Fin (k0_t4_loop i).trips) (v83 : IVec S16 32) (v582 : IVec S16 32) (k0_hw687 : k0_chk687 i k0_t4 v83 v582), ∀ (k0_h7 : k0_cond7 i k0_t4 = 1#1), ∀ a x, ((![v83, v582] : Fin 2 → IVec S16 32) a x).toNat < S160x240.size a := fun i k0_t4 v83 v582 k0_hw687 k0_h7 => k0_hw687 k0_h7

def k0_chk688 (i : grid0.Coords) (k0_t4 : Fin (k0_t4_loop i).trips) (v83 : IVec S16 32) (v567 : IVec S16 32) : Prop :=
  (∀ (k0_h7 : k0_cond7 i k0_t4 = 1#1), ∀ a x, ((![v567] : Fin 1 → IVec S16 32) a x).toNat < S48.size a) ∧
  (∀ (k0_h7 : k0_cond7 i k0_t4 = 1#1), ∀ a x, ((![v83, v567] : Fin 2 → IVec S16 32) a x).toNat < S160x48.size a)
theorem k0_idx807_inb : ∀ (i : grid0.Coords) (k0_t4 : Fin (k0_t4_loop i).trips) (v83 : IVec S16 32) (v567 : IVec S16 32) (k0_hw688 : k0_chk688 i k0_t4 v83 v567), ∀ (k0_h7 : k0_cond7 i k0_t4 = 1#1), ∀ a x, ((![v567] : Fin 1 → IVec S16 32) a x).toNat < S48.size a := fun i k0_t4 v83 v567 k0_hw688 k0_h7 => k0_hw688.1 k0_h7
theorem k0_idx808_inb : ∀ (i : grid0.Coords) (k0_t4 : Fin (k0_t4_loop i).trips) (v83 : IVec S16 32) (v567 : IVec S16 32) (k0_hw688 : k0_chk688 i k0_t4 v83 v567), ∀ (k0_h7 : k0_cond7 i k0_t4 = 1#1), ∀ a x, ((![v83, v567] : Fin 2 → IVec S16 32) a x).toNat < S160x48.size a := fun i k0_t4 v83 v567 k0_hw688 k0_h7 => k0_hw688.2 k0_h7

def k0_chk689 (i : grid0.Coords) (k0_t4 : Fin (k0_t4_loop i).trips) (v83 : IVec S16 32) (v586 : IVec S16 32) : Prop :=
  (∀ (k0_h7 : k0_cond7 i k0_t4 = 1#1), ∀ a x, ((![v83, v586] : Fin 2 → IVec S16 32) a x).toNat < S160x240.size a)
theorem k0_idx809_inb : ∀ (i : grid0.Coords) (k0_t4 : Fin (k0_t4_loop i).trips) (v83 : IVec S16 32) (v586 : IVec S16 32) (k0_hw689 : k0_chk689 i k0_t4 v83 v586), ∀ (k0_h7 : k0_cond7 i k0_t4 = 1#1), ∀ a x, ((![v83, v586] : Fin 2 → IVec S16 32) a x).toNat < S160x240.size a := fun i k0_t4 v83 v586 k0_hw689 k0_h7 => k0_hw689 k0_h7

def k0_chk690 (i : grid0.Coords) (k0_t4 : Fin (k0_t4_loop i).trips) (v83 : IVec S16 32) (v598 : IVec S16 32) : Prop :=
  (∀ (k0_h7 : k0_cond7 i k0_t4 = 1#1), ∀ a x, ((![v83, v598] : Fin 2 → IVec S16 32) a x).toNat < S160x240.size a)
theorem k0_idx810_inb : ∀ (i : grid0.Coords) (k0_t4 : Fin (k0_t4_loop i).trips) (v83 : IVec S16 32) (v598 : IVec S16 32) (k0_hw690 : k0_chk690 i k0_t4 v83 v598), ∀ (k0_h7 : k0_cond7 i k0_t4 = 1#1), ∀ a x, ((![v83, v598] : Fin 2 → IVec S16 32) a x).toNat < S160x240.size a := fun i k0_t4 v83 v598 k0_hw690 k0_h7 => k0_hw690 k0_h7

def k0_chk691 (i : grid0.Coords) (k0_t4 : Fin (k0_t4_loop i).trips) (v83 : IVec S16 32) (v602 : IVec S16 32) : Prop :=
  (∀ (k0_h7 : k0_cond7 i k0_t4 = 1#1), ∀ a x, ((![v83, v602] : Fin 2 → IVec S16 32) a x).toNat < S160x240.size a)
theorem k0_idx811_inb : ∀ (i : grid0.Coords) (k0_t4 : Fin (k0_t4_loop i).trips) (v83 : IVec S16 32) (v602 : IVec S16 32) (k0_hw691 : k0_chk691 i k0_t4 v83 v602), ∀ (k0_h7 : k0_cond7 i k0_t4 = 1#1), ∀ a x, ((![v83, v602] : Fin 2 → IVec S16 32) a x).toNat < S160x240.size a := fun i k0_t4 v83 v602 k0_hw691 k0_h7 => k0_hw691 k0_h7

def k0_chk692 (i : grid0.Coords) (k0_t4 : Fin (k0_t4_loop i).trips) (v83 : IVec S16 32) (v606 : IVec S16 32) : Prop :=
  (∀ (k0_h7 : k0_cond7 i k0_t4 = 1#1), ∀ a x, ((![v83, v606] : Fin 2 → IVec S16 32) a x).toNat < S160x240.size a)
theorem k0_idx812_inb : ∀ (i : grid0.Coords) (k0_t4 : Fin (k0_t4_loop i).trips) (v83 : IVec S16 32) (v606 : IVec S16 32) (k0_hw692 : k0_chk692 i k0_t4 v83 v606), ∀ (k0_h7 : k0_cond7 i k0_t4 = 1#1), ∀ a x, ((![v83, v606] : Fin 2 → IVec S16 32) a x).toNat < S160x240.size a := fun i k0_t4 v83 v606 k0_hw692 k0_h7 => k0_hw692 k0_h7

def k0_chk693 (i : grid0.Coords) (k0_t4 : Fin (k0_t4_loop i).trips) (v83 : IVec S16 32) (v610 : IVec S16 32) : Prop :=
  (∀ (k0_h7 : k0_cond7 i k0_t4 = 1#1), ∀ a x, ((![v83, v610] : Fin 2 → IVec S16 32) a x).toNat < S160x240.size a)
theorem k0_idx813_inb : ∀ (i : grid0.Coords) (k0_t4 : Fin (k0_t4_loop i).trips) (v83 : IVec S16 32) (v610 : IVec S16 32) (k0_hw693 : k0_chk693 i k0_t4 v83 v610), ∀ (k0_h7 : k0_cond7 i k0_t4 = 1#1), ∀ a x, ((![v83, v610] : Fin 2 → IVec S16 32) a x).toNat < S160x240.size a := fun i k0_t4 v83 v610 k0_hw693 k0_h7 => k0_hw693 k0_h7

def k0_chk694 (i : grid0.Coords) (k0_t4 : Fin (k0_t4_loop i).trips) (v83 : IVec S16 32) (v595 : IVec S16 32) : Prop :=
  (∀ (k0_h7 : k0_cond7 i k0_t4 = 1#1), ∀ a x, ((![v595] : Fin 1 → IVec S16 32) a x).toNat < S48.size a) ∧
  (∀ (k0_h7 : k0_cond7 i k0_t4 = 1#1), ∀ a x, ((![v83, v595] : Fin 2 → IVec S16 32) a x).toNat < S160x48.size a)
theorem k0_idx814_inb : ∀ (i : grid0.Coords) (k0_t4 : Fin (k0_t4_loop i).trips) (v83 : IVec S16 32) (v595 : IVec S16 32) (k0_hw694 : k0_chk694 i k0_t4 v83 v595), ∀ (k0_h7 : k0_cond7 i k0_t4 = 1#1), ∀ a x, ((![v595] : Fin 1 → IVec S16 32) a x).toNat < S48.size a := fun i k0_t4 v83 v595 k0_hw694 k0_h7 => k0_hw694.1 k0_h7
theorem k0_idx815_inb : ∀ (i : grid0.Coords) (k0_t4 : Fin (k0_t4_loop i).trips) (v83 : IVec S16 32) (v595 : IVec S16 32) (k0_hw694 : k0_chk694 i k0_t4 v83 v595), ∀ (k0_h7 : k0_cond7 i k0_t4 = 1#1), ∀ a x, ((![v83, v595] : Fin 2 → IVec S16 32) a x).toNat < S160x48.size a := fun i k0_t4 v83 v595 k0_hw694 k0_h7 => k0_hw694.2 k0_h7

def k0_chk695 (i : grid0.Coords) (k0_t4 : Fin (k0_t4_loop i).trips) (v83 : IVec S16 32) (v614 : IVec S16 32) : Prop :=
  (∀ (k0_h7 : k0_cond7 i k0_t4 = 1#1), ∀ a x, ((![v83, v614] : Fin 2 → IVec S16 32) a x).toNat < S160x240.size a)
theorem k0_idx816_inb : ∀ (i : grid0.Coords) (k0_t4 : Fin (k0_t4_loop i).trips) (v83 : IVec S16 32) (v614 : IVec S16 32) (k0_hw695 : k0_chk695 i k0_t4 v83 v614), ∀ (k0_h7 : k0_cond7 i k0_t4 = 1#1), ∀ a x, ((![v83, v614] : Fin 2 → IVec S16 32) a x).toNat < S160x240.size a := fun i k0_t4 v83 v614 k0_hw695 k0_h7 => k0_hw695 k0_h7

def k0_chk696 (i : grid0.Coords) (k0_t4 : Fin (k0_t4_loop i).trips) (v83 : IVec S16 32) (v626 : IVec S16 32) : Prop :=
  (∀ (k0_h7 : k0_cond7 i k0_t4 = 1#1), ∀ a x, ((![v83, v626] : Fin 2 → IVec S16 32) a x).toNat < S160x240.size a)
theorem k0_idx817_inb : ∀ (i : grid0.Coords) (k0_t4 : Fin (k0_t4_loop i).trips) (v83 : IVec S16 32) (v626 : IVec S16 32) (k0_hw696 : k0_chk696 i k0_t4 v83 v626), ∀ (k0_h7 : k0_cond7 i k0_t4 = 1#1), ∀ a x, ((![v83, v626] : Fin 2 → IVec S16 32) a x).toNat < S160x240.size a := fun i k0_t4 v83 v626 k0_hw696 k0_h7 => k0_hw696 k0_h7

def k0_chk697 (i : grid0.Coords) (k0_t4 : Fin (k0_t4_loop i).trips) (v83 : IVec S16 32) (v630 : IVec S16 32) : Prop :=
  (∀ (k0_h7 : k0_cond7 i k0_t4 = 1#1), ∀ a x, ((![v83, v630] : Fin 2 → IVec S16 32) a x).toNat < S160x240.size a)
theorem k0_idx818_inb : ∀ (i : grid0.Coords) (k0_t4 : Fin (k0_t4_loop i).trips) (v83 : IVec S16 32) (v630 : IVec S16 32) (k0_hw697 : k0_chk697 i k0_t4 v83 v630), ∀ (k0_h7 : k0_cond7 i k0_t4 = 1#1), ∀ a x, ((![v83, v630] : Fin 2 → IVec S16 32) a x).toNat < S160x240.size a := fun i k0_t4 v83 v630 k0_hw697 k0_h7 => k0_hw697 k0_h7

def k0_chk698 (i : grid0.Coords) (k0_t4 : Fin (k0_t4_loop i).trips) (v83 : IVec S16 32) (v634 : IVec S16 32) : Prop :=
  (∀ (k0_h7 : k0_cond7 i k0_t4 = 1#1), ∀ a x, ((![v83, v634] : Fin 2 → IVec S16 32) a x).toNat < S160x240.size a)
theorem k0_idx819_inb : ∀ (i : grid0.Coords) (k0_t4 : Fin (k0_t4_loop i).trips) (v83 : IVec S16 32) (v634 : IVec S16 32) (k0_hw698 : k0_chk698 i k0_t4 v83 v634), ∀ (k0_h7 : k0_cond7 i k0_t4 = 1#1), ∀ a x, ((![v83, v634] : Fin 2 → IVec S16 32) a x).toNat < S160x240.size a := fun i k0_t4 v83 v634 k0_hw698 k0_h7 => k0_hw698 k0_h7

def k0_chk699 (i : grid0.Coords) (k0_t4 : Fin (k0_t4_loop i).trips) (v83 : IVec S16 32) (v638 : IVec S16 32) : Prop :=
  (∀ (k0_h7 : k0_cond7 i k0_t4 = 1#1), ∀ a x, ((![v83, v638] : Fin 2 → IVec S16 32) a x).toNat < S160x240.size a)
theorem k0_idx820_inb : ∀ (i : grid0.Coords) (k0_t4 : Fin (k0_t4_loop i).trips) (v83 : IVec S16 32) (v638 : IVec S16 32) (k0_hw699 : k0_chk699 i k0_t4 v83 v638), ∀ (k0_h7 : k0_cond7 i k0_t4 = 1#1), ∀ a x, ((![v83, v638] : Fin 2 → IVec S16 32) a x).toNat < S160x240.size a := fun i k0_t4 v83 v638 k0_hw699 k0_h7 => k0_hw699 k0_h7

def k0_chk700 (i : grid0.Coords) (k0_t4 : Fin (k0_t4_loop i).trips) (v83 : IVec S16 32) (v623 : IVec S16 32) : Prop :=
  (∀ (k0_h7 : k0_cond7 i k0_t4 = 1#1), ∀ a x, ((![v623] : Fin 1 → IVec S16 32) a x).toNat < S48.size a) ∧
  (∀ (k0_h7 : k0_cond7 i k0_t4 = 1#1), ∀ a x, ((![v83, v623] : Fin 2 → IVec S16 32) a x).toNat < S160x48.size a)
theorem k0_idx821_inb : ∀ (i : grid0.Coords) (k0_t4 : Fin (k0_t4_loop i).trips) (v83 : IVec S16 32) (v623 : IVec S16 32) (k0_hw700 : k0_chk700 i k0_t4 v83 v623), ∀ (k0_h7 : k0_cond7 i k0_t4 = 1#1), ∀ a x, ((![v623] : Fin 1 → IVec S16 32) a x).toNat < S48.size a := fun i k0_t4 v83 v623 k0_hw700 k0_h7 => k0_hw700.1 k0_h7
theorem k0_idx822_inb : ∀ (i : grid0.Coords) (k0_t4 : Fin (k0_t4_loop i).trips) (v83 : IVec S16 32) (v623 : IVec S16 32) (k0_hw700 : k0_chk700 i k0_t4 v83 v623), ∀ (k0_h7 : k0_cond7 i k0_t4 = 1#1), ∀ a x, ((![v83, v623] : Fin 2 → IVec S16 32) a x).toNat < S160x48.size a := fun i k0_t4 v83 v623 k0_hw700 k0_h7 => k0_hw700.2 k0_h7

def k0_chk701 (i : grid0.Coords) (k0_t4 : Fin (k0_t4_loop i).trips) (v83 : IVec S16 32) (v642 : IVec S16 32) : Prop :=
  (∀ (k0_h7 : k0_cond7 i k0_t4 = 1#1), ∀ a x, ((![v83, v642] : Fin 2 → IVec S16 32) a x).toNat < S160x240.size a)
theorem k0_idx823_inb : ∀ (i : grid0.Coords) (k0_t4 : Fin (k0_t4_loop i).trips) (v83 : IVec S16 32) (v642 : IVec S16 32) (k0_hw701 : k0_chk701 i k0_t4 v83 v642), ∀ (k0_h7 : k0_cond7 i k0_t4 = 1#1), ∀ a x, ((![v83, v642] : Fin 2 → IVec S16 32) a x).toNat < S160x240.size a := fun i k0_t4 v83 v642 k0_hw701 k0_h7 => k0_hw701 k0_h7

def k0_chk702 (i : grid0.Coords) (k0_t4 : Fin (k0_t4_loop i).trips) (v83 : IVec S16 32) (v654 : IVec S16 32) : Prop :=
  (∀ (k0_h7 : k0_cond7 i k0_t4 = 1#1), ∀ a x, ((![v83, v654] : Fin 2 → IVec S16 32) a x).toNat < S160x240.size a)
theorem k0_idx824_inb : ∀ (i : grid0.Coords) (k0_t4 : Fin (k0_t4_loop i).trips) (v83 : IVec S16 32) (v654 : IVec S16 32) (k0_hw702 : k0_chk702 i k0_t4 v83 v654), ∀ (k0_h7 : k0_cond7 i k0_t4 = 1#1), ∀ a x, ((![v83, v654] : Fin 2 → IVec S16 32) a x).toNat < S160x240.size a := fun i k0_t4 v83 v654 k0_hw702 k0_h7 => k0_hw702 k0_h7

def k0_chk703 (i : grid0.Coords) (k0_t4 : Fin (k0_t4_loop i).trips) (v83 : IVec S16 32) (v658 : IVec S16 32) : Prop :=
  (∀ (k0_h7 : k0_cond7 i k0_t4 = 1#1), ∀ a x, ((![v83, v658] : Fin 2 → IVec S16 32) a x).toNat < S160x240.size a)
theorem k0_idx825_inb : ∀ (i : grid0.Coords) (k0_t4 : Fin (k0_t4_loop i).trips) (v83 : IVec S16 32) (v658 : IVec S16 32) (k0_hw703 : k0_chk703 i k0_t4 v83 v658), ∀ (k0_h7 : k0_cond7 i k0_t4 = 1#1), ∀ a x, ((![v83, v658] : Fin 2 → IVec S16 32) a x).toNat < S160x240.size a := fun i k0_t4 v83 v658 k0_hw703 k0_h7 => k0_hw703 k0_h7

def k0_chk704 (i : grid0.Coords) (k0_t4 : Fin (k0_t4_loop i).trips) (v83 : IVec S16 32) (v662 : IVec S16 32) : Prop :=
  (∀ (k0_h7 : k0_cond7 i k0_t4 = 1#1), ∀ a x, ((![v83, v662] : Fin 2 → IVec S16 32) a x).toNat < S160x240.size a)
theorem k0_idx826_inb : ∀ (i : grid0.Coords) (k0_t4 : Fin (k0_t4_loop i).trips) (v83 : IVec S16 32) (v662 : IVec S16 32) (k0_hw704 : k0_chk704 i k0_t4 v83 v662), ∀ (k0_h7 : k0_cond7 i k0_t4 = 1#1), ∀ a x, ((![v83, v662] : Fin 2 → IVec S16 32) a x).toNat < S160x240.size a := fun i k0_t4 v83 v662 k0_hw704 k0_h7 => k0_hw704 k0_h7

def k0_chk705 (i : grid0.Coords) (k0_t4 : Fin (k0_t4_loop i).trips) (v83 : IVec S16 32) (v666 : IVec S16 32) : Prop :=
  (∀ (k0_h7 : k0_cond7 i k0_t4 = 1#1), ∀ a x, ((![v83, v666] : Fin 2 → IVec S16 32) a x).toNat < S160x240.size a)
theorem k0_idx827_inb : ∀ (i : grid0.Coords) (k0_t4 : Fin (k0_t4_loop i).trips) (v83 : IVec S16 32) (v666 : IVec S16 32) (k0_hw705 : k0_chk705 i k0_t4 v83 v666), ∀ (k0_h7 : k0_cond7 i k0_t4 = 1#1), ∀ a x, ((![v83, v666] : Fin 2 → IVec S16 32) a x).toNat < S160x240.size a := fun i k0_t4 v83 v666 k0_hw705 k0_h7 => k0_hw705 k0_h7

def k0_chk706 (i : grid0.Coords) (k0_t4 : Fin (k0_t4_loop i).trips) (v83 : IVec S16 32) (v651 : IVec S16 32) : Prop :=
  (∀ (k0_h7 : k0_cond7 i k0_t4 = 1#1), ∀ a x, ((![v651] : Fin 1 → IVec S16 32) a x).toNat < S48.size a) ∧
  (∀ (k0_h7 : k0_cond7 i k0_t4 = 1#1), ∀ a x, ((![v83, v651] : Fin 2 → IVec S16 32) a x).toNat < S160x48.size a)
theorem k0_idx828_inb : ∀ (i : grid0.Coords) (k0_t4 : Fin (k0_t4_loop i).trips) (v83 : IVec S16 32) (v651 : IVec S16 32) (k0_hw706 : k0_chk706 i k0_t4 v83 v651), ∀ (k0_h7 : k0_cond7 i k0_t4 = 1#1), ∀ a x, ((![v651] : Fin 1 → IVec S16 32) a x).toNat < S48.size a := fun i k0_t4 v83 v651 k0_hw706 k0_h7 => k0_hw706.1 k0_h7
theorem k0_idx829_inb : ∀ (i : grid0.Coords) (k0_t4 : Fin (k0_t4_loop i).trips) (v83 : IVec S16 32) (v651 : IVec S16 32) (k0_hw706 : k0_chk706 i k0_t4 v83 v651), ∀ (k0_h7 : k0_cond7 i k0_t4 = 1#1), ∀ a x, ((![v83, v651] : Fin 2 → IVec S16 32) a x).toNat < S160x48.size a := fun i k0_t4 v83 v651 k0_hw706 k0_h7 => k0_hw706.2 k0_h7

def k0_chk707 (i : grid0.Coords) (k0_t4 : Fin (k0_t4_loop i).trips) (v83 : IVec S16 32) (v670 : IVec S16 32) : Prop :=
  (∀ (k0_h7 : k0_cond7 i k0_t4 = 1#1), ∀ a x, ((![v83, v670] : Fin 2 → IVec S16 32) a x).toNat < S160x240.size a)
theorem k0_idx830_inb : ∀ (i : grid0.Coords) (k0_t4 : Fin (k0_t4_loop i).trips) (v83 : IVec S16 32) (v670 : IVec S16 32) (k0_hw707 : k0_chk707 i k0_t4 v83 v670), ∀ (k0_h7 : k0_cond7 i k0_t4 = 1#1), ∀ a x, ((![v83, v670] : Fin 2 → IVec S16 32) a x).toNat < S160x240.size a := fun i k0_t4 v83 v670 k0_hw707 k0_h7 => k0_hw707 k0_h7

def k0_chk708 (i : grid0.Coords) (k0_t4 : Fin (k0_t4_loop i).trips) (v83 : IVec S16 32) (v682 : IVec S16 32) : Prop :=
  (∀ (k0_h7 : k0_cond7 i k0_t4 = 1#1), ∀ a x, ((![v83, v682] : Fin 2 → IVec S16 32) a x).toNat < S160x240.size a)
theorem k0_idx831_inb : ∀ (i : grid0.Coords) (k0_t4 : Fin (k0_t4_loop i).trips) (v83 : IVec S16 32) (v682 : IVec S16 32) (k0_hw708 : k0_chk708 i k0_t4 v83 v682), ∀ (k0_h7 : k0_cond7 i k0_t4 = 1#1), ∀ a x, ((![v83, v682] : Fin 2 → IVec S16 32) a x).toNat < S160x240.size a := fun i k0_t4 v83 v682 k0_hw708 k0_h7 => k0_hw708 k0_h7

def k0_chk709 (i : grid0.Coords) (k0_t4 : Fin (k0_t4_loop i).trips) (v83 : IVec S16 32) (v686 : IVec S16 32) : Prop :=
  (∀ (k0_h7 : k0_cond7 i k0_t4 = 1#1), ∀ a x, ((![v83, v686] : Fin 2 → IVec S16 32) a x).toNat < S160x240.size a)
theorem k0_idx832_inb : ∀ (i : grid0.Coords) (k0_t4 : Fin (k0_t4_loop i).trips) (v83 : IVec S16 32) (v686 : IVec S16 32) (k0_hw709 : k0_chk709 i k0_t4 v83 v686), ∀ (k0_h7 : k0_cond7 i k0_t4 = 1#1), ∀ a x, ((![v83, v686] : Fin 2 → IVec S16 32) a x).toNat < S160x240.size a := fun i k0_t4 v83 v686 k0_hw709 k0_h7 => k0_hw709 k0_h7

def k0_chk710 (i : grid0.Coords) (k0_t4 : Fin (k0_t4_loop i).trips) (v83 : IVec S16 32) (v690 : IVec S16 32) : Prop :=
  (∀ (k0_h7 : k0_cond7 i k0_t4 = 1#1), ∀ a x, ((![v83, v690] : Fin 2 → IVec S16 32) a x).toNat < S160x240.size a)
theorem k0_idx833_inb : ∀ (i : grid0.Coords) (k0_t4 : Fin (k0_t4_loop i).trips) (v83 : IVec S16 32) (v690 : IVec S16 32) (k0_hw710 : k0_chk710 i k0_t4 v83 v690), ∀ (k0_h7 : k0_cond7 i k0_t4 = 1#1), ∀ a x, ((![v83, v690] : Fin 2 → IVec S16 32) a x).toNat < S160x240.size a := fun i k0_t4 v83 v690 k0_hw710 k0_h7 => k0_hw710 k0_h7

def k0_chk711 (i : grid0.Coords) (k0_t4 : Fin (k0_t4_loop i).trips) (v83 : IVec S16 32) (v694 : IVec S16 32) : Prop :=
  (∀ (k0_h7 : k0_cond7 i k0_t4 = 1#1), ∀ a x, ((![v83, v694] : Fin 2 → IVec S16 32) a x).toNat < S160x240.size a)
theorem k0_idx834_inb : ∀ (i : grid0.Coords) (k0_t4 : Fin (k0_t4_loop i).trips) (v83 : IVec S16 32) (v694 : IVec S16 32) (k0_hw711 : k0_chk711 i k0_t4 v83 v694), ∀ (k0_h7 : k0_cond7 i k0_t4 = 1#1), ∀ a x, ((![v83, v694] : Fin 2 → IVec S16 32) a x).toNat < S160x240.size a := fun i k0_t4 v83 v694 k0_hw711 k0_h7 => k0_hw711 k0_h7

def k0_chk712 (i : grid0.Coords) (k0_t4 : Fin (k0_t4_loop i).trips) (v83 : IVec S16 32) (v679 : IVec S16 32) : Prop :=
  (∀ (k0_h7 : k0_cond7 i k0_t4 = 1#1), ∀ a x, ((![v679] : Fin 1 → IVec S16 32) a x).toNat < S48.size a) ∧
  (∀ (k0_h7 : k0_cond7 i k0_t4 = 1#1), ∀ a x, ((![v83, v679] : Fin 2 → IVec S16 32) a x).toNat < S160x48.size a)
theorem k0_idx835_inb : ∀ (i : grid0.Coords) (k0_t4 : Fin (k0_t4_loop i).trips) (v83 : IVec S16 32) (v679 : IVec S16 32) (k0_hw712 : k0_chk712 i k0_t4 v83 v679), ∀ (k0_h7 : k0_cond7 i k0_t4 = 1#1), ∀ a x, ((![v679] : Fin 1 → IVec S16 32) a x).toNat < S48.size a := fun i k0_t4 v83 v679 k0_hw712 k0_h7 => k0_hw712.1 k0_h7
theorem k0_idx836_inb : ∀ (i : grid0.Coords) (k0_t4 : Fin (k0_t4_loop i).trips) (v83 : IVec S16 32) (v679 : IVec S16 32) (k0_hw712 : k0_chk712 i k0_t4 v83 v679), ∀ (k0_h7 : k0_cond7 i k0_t4 = 1#1), ∀ a x, ((![v83, v679] : Fin 2 → IVec S16 32) a x).toNat < S160x48.size a := fun i k0_t4 v83 v679 k0_hw712 k0_h7 => k0_hw712.2 k0_h7

def k0_chk713 (i : grid0.Coords) (k0_t4 : Fin (k0_t4_loop i).trips) (v83 : IVec S16 32) (v698 : IVec S16 32) : Prop :=
  (∀ (k0_h7 : k0_cond7 i k0_t4 = 1#1), ∀ a x, ((![v83, v698] : Fin 2 → IVec S16 32) a x).toNat < S160x240.size a)
theorem k0_idx837_inb : ∀ (i : grid0.Coords) (k0_t4 : Fin (k0_t4_loop i).trips) (v83 : IVec S16 32) (v698 : IVec S16 32) (k0_hw713 : k0_chk713 i k0_t4 v83 v698), ∀ (k0_h7 : k0_cond7 i k0_t4 = 1#1), ∀ a x, ((![v83, v698] : Fin 2 → IVec S16 32) a x).toNat < S160x240.size a := fun i k0_t4 v83 v698 k0_hw713 k0_h7 => k0_hw713 k0_h7

def k0_chk714 (i : grid0.Coords) (k0_t4 : Fin (k0_t4_loop i).trips) (v83 : IVec S16 32) (v710 : IVec S16 32) : Prop :=
  (∀ (k0_h7 : k0_cond7 i k0_t4 = 1#1), ∀ a x, ((![v83, v710] : Fin 2 → IVec S16 32) a x).toNat < S160x240.size a)
theorem k0_idx838_inb : ∀ (i : grid0.Coords) (k0_t4 : Fin (k0_t4_loop i).trips) (v83 : IVec S16 32) (v710 : IVec S16 32) (k0_hw714 : k0_chk714 i k0_t4 v83 v710), ∀ (k0_h7 : k0_cond7 i k0_t4 = 1#1), ∀ a x, ((![v83, v710] : Fin 2 → IVec S16 32) a x).toNat < S160x240.size a := fun i k0_t4 v83 v710 k0_hw714 k0_h7 => k0_hw714 k0_h7

def k0_chk715 (i : grid0.Coords) (k0_t4 : Fin (k0_t4_loop i).trips) (v83 : IVec S16 32) (v714 : IVec S16 32) : Prop :=
  (∀ (k0_h7 : k0_cond7 i k0_t4 = 1#1), ∀ a x, ((![v83, v714] : Fin 2 → IVec S16 32) a x).toNat < S160x240.size a)
theorem k0_idx839_inb : ∀ (i : grid0.Coords) (k0_t4 : Fin (k0_t4_loop i).trips) (v83 : IVec S16 32) (v714 : IVec S16 32) (k0_hw715 : k0_chk715 i k0_t4 v83 v714), ∀ (k0_h7 : k0_cond7 i k0_t4 = 1#1), ∀ a x, ((![v83, v714] : Fin 2 → IVec S16 32) a x).toNat < S160x240.size a := fun i k0_t4 v83 v714 k0_hw715 k0_h7 => k0_hw715 k0_h7

def k0_chk716 (i : grid0.Coords) (k0_t4 : Fin (k0_t4_loop i).trips) (v83 : IVec S16 32) (v718 : IVec S16 32) : Prop :=
  (∀ (k0_h7 : k0_cond7 i k0_t4 = 1#1), ∀ a x, ((![v83, v718] : Fin 2 → IVec S16 32) a x).toNat < S160x240.size a)
theorem k0_idx840_inb : ∀ (i : grid0.Coords) (k0_t4 : Fin (k0_t4_loop i).trips) (v83 : IVec S16 32) (v718 : IVec S16 32) (k0_hw716 : k0_chk716 i k0_t4 v83 v718), ∀ (k0_h7 : k0_cond7 i k0_t4 = 1#1), ∀ a x, ((![v83, v718] : Fin 2 → IVec S16 32) a x).toNat < S160x240.size a := fun i k0_t4 v83 v718 k0_hw716 k0_h7 => k0_hw716 k0_h7

def k0_chk717 (i : grid0.Coords) (k0_t4 : Fin (k0_t4_loop i).trips) (v83 : IVec S16 32) (v722 : IVec S16 32) : Prop :=
  (∀ (k0_h7 : k0_cond7 i k0_t4 = 1#1), ∀ a x, ((![v83, v722] : Fin 2 → IVec S16 32) a x).toNat < S160x240.size a)
theorem k0_idx841_inb : ∀ (i : grid0.Coords) (k0_t4 : Fin (k0_t4_loop i).trips) (v83 : IVec S16 32) (v722 : IVec S16 32) (k0_hw717 : k0_chk717 i k0_t4 v83 v722), ∀ (k0_h7 : k0_cond7 i k0_t4 = 1#1), ∀ a x, ((![v83, v722] : Fin 2 → IVec S16 32) a x).toNat < S160x240.size a := fun i k0_t4 v83 v722 k0_hw717 k0_h7 => k0_hw717 k0_h7

def k0_chk718 (i : grid0.Coords) (k0_t4 : Fin (k0_t4_loop i).trips) (v83 : IVec S16 32) (v707 : IVec S16 32) : Prop :=
  (∀ (k0_h7 : k0_cond7 i k0_t4 = 1#1), ∀ a x, ((![v707] : Fin 1 → IVec S16 32) a x).toNat < S48.size a) ∧
  (∀ (k0_h7 : k0_cond7 i k0_t4 = 1#1), ∀ a x, ((![v83, v707] : Fin 2 → IVec S16 32) a x).toNat < S160x48.size a)
theorem k0_idx842_inb : ∀ (i : grid0.Coords) (k0_t4 : Fin (k0_t4_loop i).trips) (v83 : IVec S16 32) (v707 : IVec S16 32) (k0_hw718 : k0_chk718 i k0_t4 v83 v707), ∀ (k0_h7 : k0_cond7 i k0_t4 = 1#1), ∀ a x, ((![v707] : Fin 1 → IVec S16 32) a x).toNat < S48.size a := fun i k0_t4 v83 v707 k0_hw718 k0_h7 => k0_hw718.1 k0_h7
theorem k0_idx843_inb : ∀ (i : grid0.Coords) (k0_t4 : Fin (k0_t4_loop i).trips) (v83 : IVec S16 32) (v707 : IVec S16 32) (k0_hw718 : k0_chk718 i k0_t4 v83 v707), ∀ (k0_h7 : k0_cond7 i k0_t4 = 1#1), ∀ a x, ((![v83, v707] : Fin 2 → IVec S16 32) a x).toNat < S160x48.size a := fun i k0_t4 v83 v707 k0_hw718 k0_h7 => k0_hw718.2 k0_h7

def k0_chk719 (i : grid0.Coords) (k0_t4 : Fin (k0_t4_loop i).trips) (v83 : IVec S16 32) (v726 : IVec S16 32) : Prop :=
  (∀ (k0_h7 : k0_cond7 i k0_t4 = 1#1), ∀ a x, ((![v83, v726] : Fin 2 → IVec S16 32) a x).toNat < S160x240.size a)
theorem k0_idx844_inb : ∀ (i : grid0.Coords) (k0_t4 : Fin (k0_t4_loop i).trips) (v83 : IVec S16 32) (v726 : IVec S16 32) (k0_hw719 : k0_chk719 i k0_t4 v83 v726), ∀ (k0_h7 : k0_cond7 i k0_t4 = 1#1), ∀ a x, ((![v83, v726] : Fin 2 → IVec S16 32) a x).toNat < S160x240.size a := fun i k0_t4 v83 v726 k0_hw719 k0_h7 => k0_hw719 k0_h7

def k0_chk720 (i : grid0.Coords) (k0_t4 : Fin (k0_t4_loop i).trips) (v83 : IVec S16 32) (v738 : IVec S16 32) : Prop :=
  (∀ (k0_h7 : k0_cond7 i k0_t4 = 1#1), ∀ a x, ((![v83, v738] : Fin 2 → IVec S16 32) a x).toNat < S160x240.size a)
theorem k0_idx845_inb : ∀ (i : grid0.Coords) (k0_t4 : Fin (k0_t4_loop i).trips) (v83 : IVec S16 32) (v738 : IVec S16 32) (k0_hw720 : k0_chk720 i k0_t4 v83 v738), ∀ (k0_h7 : k0_cond7 i k0_t4 = 1#1), ∀ a x, ((![v83, v738] : Fin 2 → IVec S16 32) a x).toNat < S160x240.size a := fun i k0_t4 v83 v738 k0_hw720 k0_h7 => k0_hw720 k0_h7

def k0_chk721 (i : grid0.Coords) (k0_t4 : Fin (k0_t4_loop i).trips) (v83 : IVec S16 32) (v742 : IVec S16 32) : Prop :=
  (∀ (k0_h7 : k0_cond7 i k0_t4 = 1#1), ∀ a x, ((![v83, v742] : Fin 2 → IVec S16 32) a x).toNat < S160x240.size a)
theorem k0_idx846_inb : ∀ (i : grid0.Coords) (k0_t4 : Fin (k0_t4_loop i).trips) (v83 : IVec S16 32) (v742 : IVec S16 32) (k0_hw721 : k0_chk721 i k0_t4 v83 v742), ∀ (k0_h7 : k0_cond7 i k0_t4 = 1#1), ∀ a x, ((![v83, v742] : Fin 2 → IVec S16 32) a x).toNat < S160x240.size a := fun i k0_t4 v83 v742 k0_hw721 k0_h7 => k0_hw721 k0_h7

def k0_chk722 (i : grid0.Coords) (k0_t4 : Fin (k0_t4_loop i).trips) (v83 : IVec S16 32) (v746 : IVec S16 32) : Prop :=
  (∀ (k0_h7 : k0_cond7 i k0_t4 = 1#1), ∀ a x, ((![v83, v746] : Fin 2 → IVec S16 32) a x).toNat < S160x240.size a)
theorem k0_idx847_inb : ∀ (i : grid0.Coords) (k0_t4 : Fin (k0_t4_loop i).trips) (v83 : IVec S16 32) (v746 : IVec S16 32) (k0_hw722 : k0_chk722 i k0_t4 v83 v746), ∀ (k0_h7 : k0_cond7 i k0_t4 = 1#1), ∀ a x, ((![v83, v746] : Fin 2 → IVec S16 32) a x).toNat < S160x240.size a := fun i k0_t4 v83 v746 k0_hw722 k0_h7 => k0_hw722 k0_h7

def k0_chk723 (i : grid0.Coords) (k0_t4 : Fin (k0_t4_loop i).trips) (v83 : IVec S16 32) (v750 : IVec S16 32) : Prop :=
  (∀ (k0_h7 : k0_cond7 i k0_t4 = 1#1), ∀ a x, ((![v83, v750] : Fin 2 → IVec S16 32) a x).toNat < S160x240.size a)
theorem k0_idx848_inb : ∀ (i : grid0.Coords) (k0_t4 : Fin (k0_t4_loop i).trips) (v83 : IVec S16 32) (v750 : IVec S16 32) (k0_hw723 : k0_chk723 i k0_t4 v83 v750), ∀ (k0_h7 : k0_cond7 i k0_t4 = 1#1), ∀ a x, ((![v83, v750] : Fin 2 → IVec S16 32) a x).toNat < S160x240.size a := fun i k0_t4 v83 v750 k0_hw723 k0_h7 => k0_hw723 k0_h7

def k0_chk724 (i : grid0.Coords) (k0_t4 : Fin (k0_t4_loop i).trips) (v83 : IVec S16 32) (v735 : IVec S16 32) : Prop :=
  (∀ (k0_h7 : k0_cond7 i k0_t4 = 1#1), ∀ a x, ((![v735] : Fin 1 → IVec S16 32) a x).toNat < S48.size a) ∧
  (∀ (k0_h7 : k0_cond7 i k0_t4 = 1#1), ∀ a x, ((![v83, v735] : Fin 2 → IVec S16 32) a x).toNat < S160x48.size a)
theorem k0_idx849_inb : ∀ (i : grid0.Coords) (k0_t4 : Fin (k0_t4_loop i).trips) (v83 : IVec S16 32) (v735 : IVec S16 32) (k0_hw724 : k0_chk724 i k0_t4 v83 v735), ∀ (k0_h7 : k0_cond7 i k0_t4 = 1#1), ∀ a x, ((![v735] : Fin 1 → IVec S16 32) a x).toNat < S48.size a := fun i k0_t4 v83 v735 k0_hw724 k0_h7 => k0_hw724.1 k0_h7
theorem k0_idx850_inb : ∀ (i : grid0.Coords) (k0_t4 : Fin (k0_t4_loop i).trips) (v83 : IVec S16 32) (v735 : IVec S16 32) (k0_hw724 : k0_chk724 i k0_t4 v83 v735), ∀ (k0_h7 : k0_cond7 i k0_t4 = 1#1), ∀ a x, ((![v83, v735] : Fin 2 → IVec S16 32) a x).toNat < S160x48.size a := fun i k0_t4 v83 v735 k0_hw724 k0_h7 => k0_hw724.2 k0_h7

def k0_chk725 (i : grid0.Coords) (k0_t4 : Fin (k0_t4_loop i).trips) (v83 : IVec S16 32) (v754 : IVec S16 32) : Prop :=
  (∀ (k0_h7 : k0_cond7 i k0_t4 = 1#1), ∀ a x, ((![v83, v754] : Fin 2 → IVec S16 32) a x).toNat < S160x240.size a)
theorem k0_idx851_inb : ∀ (i : grid0.Coords) (k0_t4 : Fin (k0_t4_loop i).trips) (v83 : IVec S16 32) (v754 : IVec S16 32) (k0_hw725 : k0_chk725 i k0_t4 v83 v754), ∀ (k0_h7 : k0_cond7 i k0_t4 = 1#1), ∀ a x, ((![v83, v754] : Fin 2 → IVec S16 32) a x).toNat < S160x240.size a := fun i k0_t4 v83 v754 k0_hw725 k0_h7 => k0_hw725 k0_h7

def k0_chk726 (i : grid0.Coords) (k0_t4 : Fin (k0_t4_loop i).trips) (v83 : IVec S16 32) (v766 : IVec S16 32) : Prop :=
  (∀ (k0_h7 : k0_cond7 i k0_t4 = 1#1), ∀ a x, ((![v83, v766] : Fin 2 → IVec S16 32) a x).toNat < S160x240.size a)
theorem k0_idx852_inb : ∀ (i : grid0.Coords) (k0_t4 : Fin (k0_t4_loop i).trips) (v83 : IVec S16 32) (v766 : IVec S16 32) (k0_hw726 : k0_chk726 i k0_t4 v83 v766), ∀ (k0_h7 : k0_cond7 i k0_t4 = 1#1), ∀ a x, ((![v83, v766] : Fin 2 → IVec S16 32) a x).toNat < S160x240.size a := fun i k0_t4 v83 v766 k0_hw726 k0_h7 => k0_hw726 k0_h7

def k0_chk727 (i : grid0.Coords) (k0_t4 : Fin (k0_t4_loop i).trips) (v83 : IVec S16 32) (v770 : IVec S16 32) : Prop :=
  (∀ (k0_h7 : k0_cond7 i k0_t4 = 1#1), ∀ a x, ((![v83, v770] : Fin 2 → IVec S16 32) a x).toNat < S160x240.size a)
theorem k0_idx853_inb : ∀ (i : grid0.Coords) (k0_t4 : Fin (k0_t4_loop i).trips) (v83 : IVec S16 32) (v770 : IVec S16 32) (k0_hw727 : k0_chk727 i k0_t4 v83 v770), ∀ (k0_h7 : k0_cond7 i k0_t4 = 1#1), ∀ a x, ((![v83, v770] : Fin 2 → IVec S16 32) a x).toNat < S160x240.size a := fun i k0_t4 v83 v770 k0_hw727 k0_h7 => k0_hw727 k0_h7

def k0_chk728 (i : grid0.Coords) (k0_t4 : Fin (k0_t4_loop i).trips) (v83 : IVec S16 32) (v774 : IVec S16 32) : Prop :=
  (∀ (k0_h7 : k0_cond7 i k0_t4 = 1#1), ∀ a x, ((![v83, v774] : Fin 2 → IVec S16 32) a x).toNat < S160x240.size a)
theorem k0_idx854_inb : ∀ (i : grid0.Coords) (k0_t4 : Fin (k0_t4_loop i).trips) (v83 : IVec S16 32) (v774 : IVec S16 32) (k0_hw728 : k0_chk728 i k0_t4 v83 v774), ∀ (k0_h7 : k0_cond7 i k0_t4 = 1#1), ∀ a x, ((![v83, v774] : Fin 2 → IVec S16 32) a x).toNat < S160x240.size a := fun i k0_t4 v83 v774 k0_hw728 k0_h7 => k0_hw728 k0_h7

def k0_chk729 (i : grid0.Coords) (k0_t4 : Fin (k0_t4_loop i).trips) (v83 : IVec S16 32) (v778 : IVec S16 32) : Prop :=
  (∀ (k0_h7 : k0_cond7 i k0_t4 = 1#1), ∀ a x, ((![v83, v778] : Fin 2 → IVec S16 32) a x).toNat < S160x240.size a)
theorem k0_idx855_inb : ∀ (i : grid0.Coords) (k0_t4 : Fin (k0_t4_loop i).trips) (v83 : IVec S16 32) (v778 : IVec S16 32) (k0_hw729 : k0_chk729 i k0_t4 v83 v778), ∀ (k0_h7 : k0_cond7 i k0_t4 = 1#1), ∀ a x, ((![v83, v778] : Fin 2 → IVec S16 32) a x).toNat < S160x240.size a := fun i k0_t4 v83 v778 k0_hw729 k0_h7 => k0_hw729 k0_h7

def k0_chk730 (i : grid0.Coords) (k0_t4 : Fin (k0_t4_loop i).trips) (v83 : IVec S16 32) (v763 : IVec S16 32) : Prop :=
  (∀ (k0_h7 : k0_cond7 i k0_t4 = 1#1), ∀ a x, ((![v763] : Fin 1 → IVec S16 32) a x).toNat < S48.size a) ∧
  (∀ (k0_h7 : k0_cond7 i k0_t4 = 1#1), ∀ a x, ((![v83, v763] : Fin 2 → IVec S16 32) a x).toNat < S160x48.size a)
theorem k0_idx856_inb : ∀ (i : grid0.Coords) (k0_t4 : Fin (k0_t4_loop i).trips) (v83 : IVec S16 32) (v763 : IVec S16 32) (k0_hw730 : k0_chk730 i k0_t4 v83 v763), ∀ (k0_h7 : k0_cond7 i k0_t4 = 1#1), ∀ a x, ((![v763] : Fin 1 → IVec S16 32) a x).toNat < S48.size a := fun i k0_t4 v83 v763 k0_hw730 k0_h7 => k0_hw730.1 k0_h7
theorem k0_idx857_inb : ∀ (i : grid0.Coords) (k0_t4 : Fin (k0_t4_loop i).trips) (v83 : IVec S16 32) (v763 : IVec S16 32) (k0_hw730 : k0_chk730 i k0_t4 v83 v763), ∀ (k0_h7 : k0_cond7 i k0_t4 = 1#1), ∀ a x, ((![v83, v763] : Fin 2 → IVec S16 32) a x).toNat < S160x48.size a := fun i k0_t4 v83 v763 k0_hw730 k0_h7 => k0_hw730.2 k0_h7

def k0_chk731 (i : grid0.Coords) (k0_t4 : Fin (k0_t4_loop i).trips) (v83 : IVec S16 32) (v782 : IVec S16 32) : Prop :=
  (∀ (k0_h7 : k0_cond7 i k0_t4 = 1#1), ∀ a x, ((![v83, v782] : Fin 2 → IVec S16 32) a x).toNat < S160x240.size a)
theorem k0_idx858_inb : ∀ (i : grid0.Coords) (k0_t4 : Fin (k0_t4_loop i).trips) (v83 : IVec S16 32) (v782 : IVec S16 32) (k0_hw731 : k0_chk731 i k0_t4 v83 v782), ∀ (k0_h7 : k0_cond7 i k0_t4 = 1#1), ∀ a x, ((![v83, v782] : Fin 2 → IVec S16 32) a x).toNat < S160x240.size a := fun i k0_t4 v83 v782 k0_hw731 k0_h7 => k0_hw731 k0_h7

def k0_chk732 (i : grid0.Coords) (k0_t4 : Fin (k0_t4_loop i).trips) (v83 : IVec S16 32) (v794 : IVec S16 32) : Prop :=
  (∀ (k0_h7 : k0_cond7 i k0_t4 = 1#1), ∀ a x, ((![v83, v794] : Fin 2 → IVec S16 32) a x).toNat < S160x240.size a)
theorem k0_idx859_inb : ∀ (i : grid0.Coords) (k0_t4 : Fin (k0_t4_loop i).trips) (v83 : IVec S16 32) (v794 : IVec S16 32) (k0_hw732 : k0_chk732 i k0_t4 v83 v794), ∀ (k0_h7 : k0_cond7 i k0_t4 = 1#1), ∀ a x, ((![v83, v794] : Fin 2 → IVec S16 32) a x).toNat < S160x240.size a := fun i k0_t4 v83 v794 k0_hw732 k0_h7 => k0_hw732 k0_h7

def k0_chk733 (i : grid0.Coords) (k0_t4 : Fin (k0_t4_loop i).trips) (v83 : IVec S16 32) (v798 : IVec S16 32) : Prop :=
  (∀ (k0_h7 : k0_cond7 i k0_t4 = 1#1), ∀ a x, ((![v83, v798] : Fin 2 → IVec S16 32) a x).toNat < S160x240.size a)
theorem k0_idx860_inb : ∀ (i : grid0.Coords) (k0_t4 : Fin (k0_t4_loop i).trips) (v83 : IVec S16 32) (v798 : IVec S16 32) (k0_hw733 : k0_chk733 i k0_t4 v83 v798), ∀ (k0_h7 : k0_cond7 i k0_t4 = 1#1), ∀ a x, ((![v83, v798] : Fin 2 → IVec S16 32) a x).toNat < S160x240.size a := fun i k0_t4 v83 v798 k0_hw733 k0_h7 => k0_hw733 k0_h7

def k0_chk734 (i : grid0.Coords) (k0_t4 : Fin (k0_t4_loop i).trips) (v83 : IVec S16 32) (v802 : IVec S16 32) : Prop :=
  (∀ (k0_h7 : k0_cond7 i k0_t4 = 1#1), ∀ a x, ((![v83, v802] : Fin 2 → IVec S16 32) a x).toNat < S160x240.size a)
theorem k0_idx861_inb : ∀ (i : grid0.Coords) (k0_t4 : Fin (k0_t4_loop i).trips) (v83 : IVec S16 32) (v802 : IVec S16 32) (k0_hw734 : k0_chk734 i k0_t4 v83 v802), ∀ (k0_h7 : k0_cond7 i k0_t4 = 1#1), ∀ a x, ((![v83, v802] : Fin 2 → IVec S16 32) a x).toNat < S160x240.size a := fun i k0_t4 v83 v802 k0_hw734 k0_h7 => k0_hw734 k0_h7

def k0_chk735 (i : grid0.Coords) (k0_t4 : Fin (k0_t4_loop i).trips) (v83 : IVec S16 32) (v806 : IVec S16 32) : Prop :=
  (∀ (k0_h7 : k0_cond7 i k0_t4 = 1#1), ∀ a x, ((![v83, v806] : Fin 2 → IVec S16 32) a x).toNat < S160x240.size a)
theorem k0_idx862_inb : ∀ (i : grid0.Coords) (k0_t4 : Fin (k0_t4_loop i).trips) (v83 : IVec S16 32) (v806 : IVec S16 32) (k0_hw735 : k0_chk735 i k0_t4 v83 v806), ∀ (k0_h7 : k0_cond7 i k0_t4 = 1#1), ∀ a x, ((![v83, v806] : Fin 2 → IVec S16 32) a x).toNat < S160x240.size a := fun i k0_t4 v83 v806 k0_hw735 k0_h7 => k0_hw735 k0_h7

def k0_chk736 (i : grid0.Coords) (k0_t4 : Fin (k0_t4_loop i).trips) (v83 : IVec S16 32) (v791 : IVec S16 32) : Prop :=
  (∀ (k0_h7 : k0_cond7 i k0_t4 = 1#1), ∀ a x, ((![v791] : Fin 1 → IVec S16 32) a x).toNat < S48.size a) ∧
  (∀ (k0_h7 : k0_cond7 i k0_t4 = 1#1), ∀ a x, ((![v83, v791] : Fin 2 → IVec S16 32) a x).toNat < S160x48.size a)
theorem k0_idx863_inb : ∀ (i : grid0.Coords) (k0_t4 : Fin (k0_t4_loop i).trips) (v83 : IVec S16 32) (v791 : IVec S16 32) (k0_hw736 : k0_chk736 i k0_t4 v83 v791), ∀ (k0_h7 : k0_cond7 i k0_t4 = 1#1), ∀ a x, ((![v791] : Fin 1 → IVec S16 32) a x).toNat < S48.size a := fun i k0_t4 v83 v791 k0_hw736 k0_h7 => k0_hw736.1 k0_h7
theorem k0_idx864_inb : ∀ (i : grid0.Coords) (k0_t4 : Fin (k0_t4_loop i).trips) (v83 : IVec S16 32) (v791 : IVec S16 32) (k0_hw736 : k0_chk736 i k0_t4 v83 v791), ∀ (k0_h7 : k0_cond7 i k0_t4 = 1#1), ∀ a x, ((![v83, v791] : Fin 2 → IVec S16 32) a x).toNat < S160x48.size a := fun i k0_t4 v83 v791 k0_hw736 k0_h7 => k0_hw736.2 k0_h7

def k0_chk737 (i : grid0.Coords) (k0_t4 : Fin (k0_t4_loop i).trips) (v83 : IVec S16 32) (v810 : IVec S16 32) : Prop :=
  (∀ (k0_h7 : k0_cond7 i k0_t4 = 1#1), ∀ a x, ((![v83, v810] : Fin 2 → IVec S16 32) a x).toNat < S160x240.size a)
theorem k0_idx865_inb : ∀ (i : grid0.Coords) (k0_t4 : Fin (k0_t4_loop i).trips) (v83 : IVec S16 32) (v810 : IVec S16 32) (k0_hw737 : k0_chk737 i k0_t4 v83 v810), ∀ (k0_h7 : k0_cond7 i k0_t4 = 1#1), ∀ a x, ((![v83, v810] : Fin 2 → IVec S16 32) a x).toNat < S160x240.size a := fun i k0_t4 v83 v810 k0_hw737 k0_h7 => k0_hw737 k0_h7

def k0_chk738 (i : grid0.Coords) (k0_t4 : Fin (k0_t4_loop i).trips) (v83 : IVec S16 32) (v822 : IVec S16 32) : Prop :=
  (∀ (k0_h7 : k0_cond7 i k0_t4 = 1#1), ∀ a x, ((![v83, v822] : Fin 2 → IVec S16 32) a x).toNat < S160x240.size a)
theorem k0_idx866_inb : ∀ (i : grid0.Coords) (k0_t4 : Fin (k0_t4_loop i).trips) (v83 : IVec S16 32) (v822 : IVec S16 32) (k0_hw738 : k0_chk738 i k0_t4 v83 v822), ∀ (k0_h7 : k0_cond7 i k0_t4 = 1#1), ∀ a x, ((![v83, v822] : Fin 2 → IVec S16 32) a x).toNat < S160x240.size a := fun i k0_t4 v83 v822 k0_hw738 k0_h7 => k0_hw738 k0_h7

def k0_chk739 (i : grid0.Coords) (k0_t4 : Fin (k0_t4_loop i).trips) (v83 : IVec S16 32) (v826 : IVec S16 32) : Prop :=
  (∀ (k0_h7 : k0_cond7 i k0_t4 = 1#1), ∀ a x, ((![v83, v826] : Fin 2 → IVec S16 32) a x).toNat < S160x240.size a)
theorem k0_idx867_inb : ∀ (i : grid0.Coords) (k0_t4 : Fin (k0_t4_loop i).trips) (v83 : IVec S16 32) (v826 : IVec S16 32) (k0_hw739 : k0_chk739 i k0_t4 v83 v826), ∀ (k0_h7 : k0_cond7 i k0_t4 = 1#1), ∀ a x, ((![v83, v826] : Fin 2 → IVec S16 32) a x).toNat < S160x240.size a := fun i k0_t4 v83 v826 k0_hw739 k0_h7 => k0_hw739 k0_h7

def k0_chk740 (i : grid0.Coords) (k0_t4 : Fin (k0_t4_loop i).trips) (v83 : IVec S16 32) (v830 : IVec S16 32) : Prop :=
  (∀ (k0_h7 : k0_cond7 i k0_t4 = 1#1), ∀ a x, ((![v83, v830] : Fin 2 → IVec S16 32) a x).toNat < S160x240.size a)
theorem k0_idx868_inb : ∀ (i : grid0.Coords) (k0_t4 : Fin (k0_t4_loop i).trips) (v83 : IVec S16 32) (v830 : IVec S16 32) (k0_hw740 : k0_chk740 i k0_t4 v83 v830), ∀ (k0_h7 : k0_cond7 i k0_t4 = 1#1), ∀ a x, ((![v83, v830] : Fin 2 → IVec S16 32) a x).toNat < S160x240.size a := fun i k0_t4 v83 v830 k0_hw740 k0_h7 => k0_hw740 k0_h7

def k0_chk741 (i : grid0.Coords) (k0_t4 : Fin (k0_t4_loop i).trips) (v83 : IVec S16 32) (v834 : IVec S16 32) : Prop :=
  (∀ (k0_h7 : k0_cond7 i k0_t4 = 1#1), ∀ a x, ((![v83, v834] : Fin 2 → IVec S16 32) a x).toNat < S160x240.size a)
theorem k0_idx869_inb : ∀ (i : grid0.Coords) (k0_t4 : Fin (k0_t4_loop i).trips) (v83 : IVec S16 32) (v834 : IVec S16 32) (k0_hw741 : k0_chk741 i k0_t4 v83 v834), ∀ (k0_h7 : k0_cond7 i k0_t4 = 1#1), ∀ a x, ((![v83, v834] : Fin 2 → IVec S16 32) a x).toNat < S160x240.size a := fun i k0_t4 v83 v834 k0_hw741 k0_h7 => k0_hw741 k0_h7

def k0_chk742 (i : grid0.Coords) (k0_t4 : Fin (k0_t4_loop i).trips) (v83 : IVec S16 32) (v838 : IVec S16 32) : Prop :=
  (∀ (k0_h7 : k0_cond7 i k0_t4 = 1#1), ∀ a x, ((![v83, v838] : Fin 2 → IVec S16 32) a x).toNat < S160x240.size a)
theorem k0_idx870_inb : ∀ (i : grid0.Coords) (k0_t4 : Fin (k0_t4_loop i).trips) (v83 : IVec S16 32) (v838 : IVec S16 32) (k0_hw742 : k0_chk742 i k0_t4 v83 v838), ∀ (k0_h7 : k0_cond7 i k0_t4 = 1#1), ∀ a x, ((![v83, v838] : Fin 2 → IVec S16 32) a x).toNat < S160x240.size a := fun i k0_t4 v83 v838 k0_hw742 k0_h7 => k0_hw742 k0_h7

def k0_chk743 (i : grid0.Coords) (k0_t4 : Fin (k0_t4_loop i).trips) (v83 : IVec S16 32) (v842 : IVec S16 32) : Prop :=
  (∀ (k0_h7 : k0_cond7 i k0_t4 = 1#1), ∀ a x, ((![v83, v842] : Fin 2 → IVec S16 32) a x).toNat < S160x240.size a)
theorem k0_idx871_inb : ∀ (i : grid0.Coords) (k0_t4 : Fin (k0_t4_loop i).trips) (v83 : IVec S16 32) (v842 : IVec S16 32) (k0_hw743 : k0_chk743 i k0_t4 v83 v842), ∀ (k0_h7 : k0_cond7 i k0_t4 = 1#1), ∀ a x, ((![v83, v842] : Fin 2 → IVec S16 32) a x).toNat < S160x240.size a := fun i k0_t4 v83 v842 k0_hw743 k0_h7 => k0_hw743 k0_h7

def k0_chk744 (i : grid0.Coords) (k0_t4 : Fin (k0_t4_loop i).trips) (v83 : IVec S16 32) (v819 : IVec S16 32) : Prop :=
  (∀ (k0_h7 : k0_cond7 i k0_t4 = 1#1), ∀ a x, ((![v819] : Fin 1 → IVec S16 32) a x).toNat < S48.size a) ∧
  (∀ (k0_h7 : k0_cond7 i k0_t4 = 1#1), ∀ a x, ((![v83, v819] : Fin 2 → IVec S16 32) a x).toNat < S160x48.size a)
theorem k0_idx872_inb : ∀ (i : grid0.Coords) (k0_t4 : Fin (k0_t4_loop i).trips) (v83 : IVec S16 32) (v819 : IVec S16 32) (k0_hw744 : k0_chk744 i k0_t4 v83 v819), ∀ (k0_h7 : k0_cond7 i k0_t4 = 1#1), ∀ a x, ((![v819] : Fin 1 → IVec S16 32) a x).toNat < S48.size a := fun i k0_t4 v83 v819 k0_hw744 k0_h7 => k0_hw744.1 k0_h7
theorem k0_idx873_inb : ∀ (i : grid0.Coords) (k0_t4 : Fin (k0_t4_loop i).trips) (v83 : IVec S16 32) (v819 : IVec S16 32) (k0_hw744 : k0_chk744 i k0_t4 v83 v819), ∀ (k0_h7 : k0_cond7 i k0_t4 = 1#1), ∀ a x, ((![v83, v819] : Fin 2 → IVec S16 32) a x).toNat < S160x48.size a := fun i k0_t4 v83 v819 k0_hw744 k0_h7 => k0_hw744.2 k0_h7

def k0_chk745 (i : grid0.Coords) (k0_t4 : Fin (k0_t4_loop i).trips) (v83 : IVec S16 32) (v846 : IVec S16 32) : Prop :=
  (∀ (k0_h7 : k0_cond7 i k0_t4 = 1#1), ∀ a x, ((![v83, v846] : Fin 2 → IVec S16 32) a x).toNat < S160x240.size a)
theorem k0_idx874_inb : ∀ (i : grid0.Coords) (k0_t4 : Fin (k0_t4_loop i).trips) (v83 : IVec S16 32) (v846 : IVec S16 32) (k0_hw745 : k0_chk745 i k0_t4 v83 v846), ∀ (k0_h7 : k0_cond7 i k0_t4 = 1#1), ∀ a x, ((![v83, v846] : Fin 2 → IVec S16 32) a x).toNat < S160x240.size a := fun i k0_t4 v83 v846 k0_hw745 k0_h7 => k0_hw745 k0_h7

def k0_chk746 (i : grid0.Coords) (k0_t4 : Fin (k0_t4_loop i).trips) (v83 : IVec S16 32) (v860 : IVec S16 32) : Prop :=
  (∀ (k0_h7 : k0_cond7 i k0_t4 = 1#1), ∀ a x, ((![v83, v860] : Fin 2 → IVec S16 32) a x).toNat < S160x240.size a)
theorem k0_idx875_inb : ∀ (i : grid0.Coords) (k0_t4 : Fin (k0_t4_loop i).trips) (v83 : IVec S16 32) (v860 : IVec S16 32) (k0_hw746 : k0_chk746 i k0_t4 v83 v860), ∀ (k0_h7 : k0_cond7 i k0_t4 = 1#1), ∀ a x, ((![v83, v860] : Fin 2 → IVec S16 32) a x).toNat < S160x240.size a := fun i k0_t4 v83 v860 k0_hw746 k0_h7 => k0_hw746 k0_h7

def k0_chk747 (i : grid0.Coords) (k0_t4 : Fin (k0_t4_loop i).trips) (v83 : IVec S16 32) (v864 : IVec S16 32) : Prop :=
  (∀ (k0_h7 : k0_cond7 i k0_t4 = 1#1), ∀ a x, ((![v83, v864] : Fin 2 → IVec S16 32) a x).toNat < S160x240.size a)
theorem k0_idx876_inb : ∀ (i : grid0.Coords) (k0_t4 : Fin (k0_t4_loop i).trips) (v83 : IVec S16 32) (v864 : IVec S16 32) (k0_hw747 : k0_chk747 i k0_t4 v83 v864), ∀ (k0_h7 : k0_cond7 i k0_t4 = 1#1), ∀ a x, ((![v83, v864] : Fin 2 → IVec S16 32) a x).toNat < S160x240.size a := fun i k0_t4 v83 v864 k0_hw747 k0_h7 => k0_hw747 k0_h7

def k0_chk748 (i : grid0.Coords) (k0_t4 : Fin (k0_t4_loop i).trips) (v83 : IVec S16 32) (v868 : IVec S16 32) : Prop :=
  (∀ (k0_h7 : k0_cond7 i k0_t4 = 1#1), ∀ a x, ((![v83, v868] : Fin 2 → IVec S16 32) a x).toNat < S160x240.size a)
theorem k0_idx877_inb : ∀ (i : grid0.Coords) (k0_t4 : Fin (k0_t4_loop i).trips) (v83 : IVec S16 32) (v868 : IVec S16 32) (k0_hw748 : k0_chk748 i k0_t4 v83 v868), ∀ (k0_h7 : k0_cond7 i k0_t4 = 1#1), ∀ a x, ((![v83, v868] : Fin 2 → IVec S16 32) a x).toNat < S160x240.size a := fun i k0_t4 v83 v868 k0_hw748 k0_h7 => k0_hw748 k0_h7

def k0_chk749 (i : grid0.Coords) (k0_t4 : Fin (k0_t4_loop i).trips) (v83 : IVec S16 32) (v872 : IVec S16 32) : Prop :=
  (∀ (k0_h7 : k0_cond7 i k0_t4 = 1#1), ∀ a x, ((![v83, v872] : Fin 2 → IVec S16 32) a x).toNat < S160x240.size a)
theorem k0_idx878_inb : ∀ (i : grid0.Coords) (k0_t4 : Fin (k0_t4_loop i).trips) (v83 : IVec S16 32) (v872 : IVec S16 32) (k0_hw749 : k0_chk749 i k0_t4 v83 v872), ∀ (k0_h7 : k0_cond7 i k0_t4 = 1#1), ∀ a x, ((![v83, v872] : Fin 2 → IVec S16 32) a x).toNat < S160x240.size a := fun i k0_t4 v83 v872 k0_hw749 k0_h7 => k0_hw749 k0_h7

def k0_chk750 (i : grid0.Coords) (k0_t4 : Fin (k0_t4_loop i).trips) (v83 : IVec S16 32) (v876 : IVec S16 32) : Prop :=
  (∀ (k0_h7 : k0_cond7 i k0_t4 = 1#1), ∀ a x, ((![v83, v876] : Fin 2 → IVec S16 32) a x).toNat < S160x240.size a)
theorem k0_idx879_inb : ∀ (i : grid0.Coords) (k0_t4 : Fin (k0_t4_loop i).trips) (v83 : IVec S16 32) (v876 : IVec S16 32) (k0_hw750 : k0_chk750 i k0_t4 v83 v876), ∀ (k0_h7 : k0_cond7 i k0_t4 = 1#1), ∀ a x, ((![v83, v876] : Fin 2 → IVec S16 32) a x).toNat < S160x240.size a := fun i k0_t4 v83 v876 k0_hw750 k0_h7 => k0_hw750 k0_h7

def k0_chk751 (i : grid0.Coords) (k0_t4 : Fin (k0_t4_loop i).trips) (v83 : IVec S16 32) (v880 : IVec S16 32) : Prop :=
  (∀ (k0_h7 : k0_cond7 i k0_t4 = 1#1), ∀ a x, ((![v83, v880] : Fin 2 → IVec S16 32) a x).toNat < S160x240.size a)
theorem k0_idx880_inb : ∀ (i : grid0.Coords) (k0_t4 : Fin (k0_t4_loop i).trips) (v83 : IVec S16 32) (v880 : IVec S16 32) (k0_hw751 : k0_chk751 i k0_t4 v83 v880), ∀ (k0_h7 : k0_cond7 i k0_t4 = 1#1), ∀ a x, ((![v83, v880] : Fin 2 → IVec S16 32) a x).toNat < S160x240.size a := fun i k0_t4 v83 v880 k0_hw751 k0_h7 => k0_hw751 k0_h7

def k0_chk752 (i : grid0.Coords) (k0_t4 : Fin (k0_t4_loop i).trips) (v83 : IVec S16 32) (v857 : IVec S16 32) : Prop :=
  (∀ (k0_h7 : k0_cond7 i k0_t4 = 1#1), ∀ a x, ((![v857] : Fin 1 → IVec S16 32) a x).toNat < S48.size a) ∧
  (∀ (k0_h7 : k0_cond7 i k0_t4 = 1#1), ∀ a x, ((![v83, v857] : Fin 2 → IVec S16 32) a x).toNat < S160x48.size a)
theorem k0_idx881_inb : ∀ (i : grid0.Coords) (k0_t4 : Fin (k0_t4_loop i).trips) (v83 : IVec S16 32) (v857 : IVec S16 32) (k0_hw752 : k0_chk752 i k0_t4 v83 v857), ∀ (k0_h7 : k0_cond7 i k0_t4 = 1#1), ∀ a x, ((![v857] : Fin 1 → IVec S16 32) a x).toNat < S48.size a := fun i k0_t4 v83 v857 k0_hw752 k0_h7 => k0_hw752.1 k0_h7
theorem k0_idx882_inb : ∀ (i : grid0.Coords) (k0_t4 : Fin (k0_t4_loop i).trips) (v83 : IVec S16 32) (v857 : IVec S16 32) (k0_hw752 : k0_chk752 i k0_t4 v83 v857), ∀ (k0_h7 : k0_cond7 i k0_t4 = 1#1), ∀ a x, ((![v83, v857] : Fin 2 → IVec S16 32) a x).toNat < S160x48.size a := fun i k0_t4 v83 v857 k0_hw752 k0_h7 => k0_hw752.2 k0_h7

def k0_chk753 (i : grid0.Coords) (k0_t4 : Fin (k0_t4_loop i).trips) (v83 : IVec S16 32) (v884 : IVec S16 32) : Prop :=
  (∀ (k0_h7 : k0_cond7 i k0_t4 = 1#1), ∀ a x, ((![v83, v884] : Fin 2 → IVec S16 32) a x).toNat < S160x240.size a)
theorem k0_idx883_inb : ∀ (i : grid0.Coords) (k0_t4 : Fin (k0_t4_loop i).trips) (v83 : IVec S16 32) (v884 : IVec S16 32) (k0_hw753 : k0_chk753 i k0_t4 v83 v884), ∀ (k0_h7 : k0_cond7 i k0_t4 = 1#1), ∀ a x, ((![v83, v884] : Fin 2 → IVec S16 32) a x).toNat < S160x240.size a := fun i k0_t4 v83 v884 k0_hw753 k0_h7 => k0_hw753 k0_h7

def k0_chk754 (i : grid0.Coords) (k0_t4 : Fin (k0_t4_loop i).trips) (v83 : IVec S16 32) (v898 : IVec S16 32) : Prop :=
  (∀ (k0_h7 : k0_cond7 i k0_t4 = 1#1), ∀ a x, ((![v83, v898] : Fin 2 → IVec S16 32) a x).toNat < S160x240.size a)
theorem k0_idx884_inb : ∀ (i : grid0.Coords) (k0_t4 : Fin (k0_t4_loop i).trips) (v83 : IVec S16 32) (v898 : IVec S16 32) (k0_hw754 : k0_chk754 i k0_t4 v83 v898), ∀ (k0_h7 : k0_cond7 i k0_t4 = 1#1), ∀ a x, ((![v83, v898] : Fin 2 → IVec S16 32) a x).toNat < S160x240.size a := fun i k0_t4 v83 v898 k0_hw754 k0_h7 => k0_hw754 k0_h7

def k0_chk755 (i : grid0.Coords) (k0_t4 : Fin (k0_t4_loop i).trips) (v83 : IVec S16 32) (v902 : IVec S16 32) : Prop :=
  (∀ (k0_h7 : k0_cond7 i k0_t4 = 1#1), ∀ a x, ((![v83, v902] : Fin 2 → IVec S16 32) a x).toNat < S160x240.size a)
theorem k0_idx885_inb : ∀ (i : grid0.Coords) (k0_t4 : Fin (k0_t4_loop i).trips) (v83 : IVec S16 32) (v902 : IVec S16 32) (k0_hw755 : k0_chk755 i k0_t4 v83 v902), ∀ (k0_h7 : k0_cond7 i k0_t4 = 1#1), ∀ a x, ((![v83, v902] : Fin 2 → IVec S16 32) a x).toNat < S160x240.size a := fun i k0_t4 v83 v902 k0_hw755 k0_h7 => k0_hw755 k0_h7

def k0_chk756 (i : grid0.Coords) (k0_t4 : Fin (k0_t4_loop i).trips) (v83 : IVec S16 32) (v906 : IVec S16 32) : Prop :=
  (∀ (k0_h7 : k0_cond7 i k0_t4 = 1#1), ∀ a x, ((![v83, v906] : Fin 2 → IVec S16 32) a x).toNat < S160x240.size a)
theorem k0_idx886_inb : ∀ (i : grid0.Coords) (k0_t4 : Fin (k0_t4_loop i).trips) (v83 : IVec S16 32) (v906 : IVec S16 32) (k0_hw756 : k0_chk756 i k0_t4 v83 v906), ∀ (k0_h7 : k0_cond7 i k0_t4 = 1#1), ∀ a x, ((![v83, v906] : Fin 2 → IVec S16 32) a x).toNat < S160x240.size a := fun i k0_t4 v83 v906 k0_hw756 k0_h7 => k0_hw756 k0_h7

def k0_chk757 (i : grid0.Coords) (k0_t4 : Fin (k0_t4_loop i).trips) (v83 : IVec S16 32) (v910 : IVec S16 32) : Prop :=
  (∀ (k0_h7 : k0_cond7 i k0_t4 = 1#1), ∀ a x, ((![v83, v910] : Fin 2 → IVec S16 32) a x).toNat < S160x240.size a)
theorem k0_idx887_inb : ∀ (i : grid0.Coords) (k0_t4 : Fin (k0_t4_loop i).trips) (v83 : IVec S16 32) (v910 : IVec S16 32) (k0_hw757 : k0_chk757 i k0_t4 v83 v910), ∀ (k0_h7 : k0_cond7 i k0_t4 = 1#1), ∀ a x, ((![v83, v910] : Fin 2 → IVec S16 32) a x).toNat < S160x240.size a := fun i k0_t4 v83 v910 k0_hw757 k0_h7 => k0_hw757 k0_h7

def k0_chk758 (i : grid0.Coords) (k0_t4 : Fin (k0_t4_loop i).trips) (v83 : IVec S16 32) (v914 : IVec S16 32) : Prop :=
  (∀ (k0_h7 : k0_cond7 i k0_t4 = 1#1), ∀ a x, ((![v83, v914] : Fin 2 → IVec S16 32) a x).toNat < S160x240.size a)
theorem k0_idx888_inb : ∀ (i : grid0.Coords) (k0_t4 : Fin (k0_t4_loop i).trips) (v83 : IVec S16 32) (v914 : IVec S16 32) (k0_hw758 : k0_chk758 i k0_t4 v83 v914), ∀ (k0_h7 : k0_cond7 i k0_t4 = 1#1), ∀ a x, ((![v83, v914] : Fin 2 → IVec S16 32) a x).toNat < S160x240.size a := fun i k0_t4 v83 v914 k0_hw758 k0_h7 => k0_hw758 k0_h7

def k0_chk759 (i : grid0.Coords) (k0_t4 : Fin (k0_t4_loop i).trips) (v83 : IVec S16 32) (v918 : IVec S16 32) : Prop :=
  (∀ (k0_h7 : k0_cond7 i k0_t4 = 1#1), ∀ a x, ((![v83, v918] : Fin 2 → IVec S16 32) a x).toNat < S160x240.size a)
theorem k0_idx889_inb : ∀ (i : grid0.Coords) (k0_t4 : Fin (k0_t4_loop i).trips) (v83 : IVec S16 32) (v918 : IVec S16 32) (k0_hw759 : k0_chk759 i k0_t4 v83 v918), ∀ (k0_h7 : k0_cond7 i k0_t4 = 1#1), ∀ a x, ((![v83, v918] : Fin 2 → IVec S16 32) a x).toNat < S160x240.size a := fun i k0_t4 v83 v918 k0_hw759 k0_h7 => k0_hw759 k0_h7

def k0_chk760 (i : grid0.Coords) (k0_t4 : Fin (k0_t4_loop i).trips) (v83 : IVec S16 32) (v895 : IVec S16 32) : Prop :=
  (∀ (k0_h7 : k0_cond7 i k0_t4 = 1#1), ∀ a x, ((![v895] : Fin 1 → IVec S16 32) a x).toNat < S48.size a) ∧
  (∀ (k0_h7 : k0_cond7 i k0_t4 = 1#1), ∀ a x, ((![v83, v895] : Fin 2 → IVec S16 32) a x).toNat < S160x48.size a)
theorem k0_idx890_inb : ∀ (i : grid0.Coords) (k0_t4 : Fin (k0_t4_loop i).trips) (v83 : IVec S16 32) (v895 : IVec S16 32) (k0_hw760 : k0_chk760 i k0_t4 v83 v895), ∀ (k0_h7 : k0_cond7 i k0_t4 = 1#1), ∀ a x, ((![v895] : Fin 1 → IVec S16 32) a x).toNat < S48.size a := fun i k0_t4 v83 v895 k0_hw760 k0_h7 => k0_hw760.1 k0_h7
theorem k0_idx891_inb : ∀ (i : grid0.Coords) (k0_t4 : Fin (k0_t4_loop i).trips) (v83 : IVec S16 32) (v895 : IVec S16 32) (k0_hw760 : k0_chk760 i k0_t4 v83 v895), ∀ (k0_h7 : k0_cond7 i k0_t4 = 1#1), ∀ a x, ((![v83, v895] : Fin 2 → IVec S16 32) a x).toNat < S160x48.size a := fun i k0_t4 v83 v895 k0_hw760 k0_h7 => k0_hw760.2 k0_h7

def k0_chk761 (i : grid0.Coords) (k0_t4 : Fin (k0_t4_loop i).trips) (v83 : IVec S16 32) (v922 : IVec S16 32) : Prop :=
  (∀ (k0_h7 : k0_cond7 i k0_t4 = 1#1), ∀ a x, ((![v83, v922] : Fin 2 → IVec S16 32) a x).toNat < S160x240.size a)
theorem k0_idx892_inb : ∀ (i : grid0.Coords) (k0_t4 : Fin (k0_t4_loop i).trips) (v83 : IVec S16 32) (v922 : IVec S16 32) (k0_hw761 : k0_chk761 i k0_t4 v83 v922), ∀ (k0_h7 : k0_cond7 i k0_t4 = 1#1), ∀ a x, ((![v83, v922] : Fin 2 → IVec S16 32) a x).toNat < S160x240.size a := fun i k0_t4 v83 v922 k0_hw761 k0_h7 => k0_hw761 k0_h7

def k0_chk762 (i : grid0.Coords) (k0_t4 : Fin (k0_t4_loop i).trips) (v83 : IVec S16 32) (v936 : IVec S16 32) : Prop :=
  (∀ (k0_h7 : k0_cond7 i k0_t4 = 1#1), ∀ a x, ((![v83, v936] : Fin 2 → IVec S16 32) a x).toNat < S160x240.size a)
theorem k0_idx893_inb : ∀ (i : grid0.Coords) (k0_t4 : Fin (k0_t4_loop i).trips) (v83 : IVec S16 32) (v936 : IVec S16 32) (k0_hw762 : k0_chk762 i k0_t4 v83 v936), ∀ (k0_h7 : k0_cond7 i k0_t4 = 1#1), ∀ a x, ((![v83, v936] : Fin 2 → IVec S16 32) a x).toNat < S160x240.size a := fun i k0_t4 v83 v936 k0_hw762 k0_h7 => k0_hw762 k0_h7

def k0_chk763 (i : grid0.Coords) (k0_t4 : Fin (k0_t4_loop i).trips) (v83 : IVec S16 32) (v940 : IVec S16 32) : Prop :=
  (∀ (k0_h7 : k0_cond7 i k0_t4 = 1#1), ∀ a x, ((![v83, v940] : Fin 2 → IVec S16 32) a x).toNat < S160x240.size a)
theorem k0_idx894_inb : ∀ (i : grid0.Coords) (k0_t4 : Fin (k0_t4_loop i).trips) (v83 : IVec S16 32) (v940 : IVec S16 32) (k0_hw763 : k0_chk763 i k0_t4 v83 v940), ∀ (k0_h7 : k0_cond7 i k0_t4 = 1#1), ∀ a x, ((![v83, v940] : Fin 2 → IVec S16 32) a x).toNat < S160x240.size a := fun i k0_t4 v83 v940 k0_hw763 k0_h7 => k0_hw763 k0_h7

def k0_chk764 (i : grid0.Coords) (k0_t4 : Fin (k0_t4_loop i).trips) (v83 : IVec S16 32) (v944 : IVec S16 32) : Prop :=
  (∀ (k0_h7 : k0_cond7 i k0_t4 = 1#1), ∀ a x, ((![v83, v944] : Fin 2 → IVec S16 32) a x).toNat < S160x240.size a)
theorem k0_idx895_inb : ∀ (i : grid0.Coords) (k0_t4 : Fin (k0_t4_loop i).trips) (v83 : IVec S16 32) (v944 : IVec S16 32) (k0_hw764 : k0_chk764 i k0_t4 v83 v944), ∀ (k0_h7 : k0_cond7 i k0_t4 = 1#1), ∀ a x, ((![v83, v944] : Fin 2 → IVec S16 32) a x).toNat < S160x240.size a := fun i k0_t4 v83 v944 k0_hw764 k0_h7 => k0_hw764 k0_h7

def k0_chk765 (i : grid0.Coords) (k0_t4 : Fin (k0_t4_loop i).trips) (v83 : IVec S16 32) (v948 : IVec S16 32) : Prop :=
  (∀ (k0_h7 : k0_cond7 i k0_t4 = 1#1), ∀ a x, ((![v83, v948] : Fin 2 → IVec S16 32) a x).toNat < S160x240.size a)
theorem k0_idx896_inb : ∀ (i : grid0.Coords) (k0_t4 : Fin (k0_t4_loop i).trips) (v83 : IVec S16 32) (v948 : IVec S16 32) (k0_hw765 : k0_chk765 i k0_t4 v83 v948), ∀ (k0_h7 : k0_cond7 i k0_t4 = 1#1), ∀ a x, ((![v83, v948] : Fin 2 → IVec S16 32) a x).toNat < S160x240.size a := fun i k0_t4 v83 v948 k0_hw765 k0_h7 => k0_hw765 k0_h7

def k0_chk766 (i : grid0.Coords) (k0_t4 : Fin (k0_t4_loop i).trips) (v83 : IVec S16 32) (v952 : IVec S16 32) : Prop :=
  (∀ (k0_h7 : k0_cond7 i k0_t4 = 1#1), ∀ a x, ((![v83, v952] : Fin 2 → IVec S16 32) a x).toNat < S160x240.size a)
theorem k0_idx897_inb : ∀ (i : grid0.Coords) (k0_t4 : Fin (k0_t4_loop i).trips) (v83 : IVec S16 32) (v952 : IVec S16 32) (k0_hw766 : k0_chk766 i k0_t4 v83 v952), ∀ (k0_h7 : k0_cond7 i k0_t4 = 1#1), ∀ a x, ((![v83, v952] : Fin 2 → IVec S16 32) a x).toNat < S160x240.size a := fun i k0_t4 v83 v952 k0_hw766 k0_h7 => k0_hw766 k0_h7

def k0_chk767 (i : grid0.Coords) (k0_t4 : Fin (k0_t4_loop i).trips) (v83 : IVec S16 32) (v956 : IVec S16 32) : Prop :=
  (∀ (k0_h7 : k0_cond7 i k0_t4 = 1#1), ∀ a x, ((![v83, v956] : Fin 2 → IVec S16 32) a x).toNat < S160x240.size a)
theorem k0_idx898_inb : ∀ (i : grid0.Coords) (k0_t4 : Fin (k0_t4_loop i).trips) (v83 : IVec S16 32) (v956 : IVec S16 32) (k0_hw767 : k0_chk767 i k0_t4 v83 v956), ∀ (k0_h7 : k0_cond7 i k0_t4 = 1#1), ∀ a x, ((![v83, v956] : Fin 2 → IVec S16 32) a x).toNat < S160x240.size a := fun i k0_t4 v83 v956 k0_hw767 k0_h7 => k0_hw767 k0_h7

def k0_chk768 (i : grid0.Coords) (k0_t4 : Fin (k0_t4_loop i).trips) (v83 : IVec S16 32) (v933 : IVec S16 32) : Prop :=
  (∀ (k0_h7 : k0_cond7 i k0_t4 = 1#1), ∀ a x, ((![v933] : Fin 1 → IVec S16 32) a x).toNat < S48.size a) ∧
  (∀ (k0_h7 : k0_cond7 i k0_t4 = 1#1), ∀ a x, ((![v83, v933] : Fin 2 → IVec S16 32) a x).toNat < S160x48.size a)
theorem k0_idx899_inb : ∀ (i : grid0.Coords) (k0_t4 : Fin (k0_t4_loop i).trips) (v83 : IVec S16 32) (v933 : IVec S16 32) (k0_hw768 : k0_chk768 i k0_t4 v83 v933), ∀ (k0_h7 : k0_cond7 i k0_t4 = 1#1), ∀ a x, ((![v933] : Fin 1 → IVec S16 32) a x).toNat < S48.size a := fun i k0_t4 v83 v933 k0_hw768 k0_h7 => k0_hw768.1 k0_h7
theorem k0_idx900_inb : ∀ (i : grid0.Coords) (k0_t4 : Fin (k0_t4_loop i).trips) (v83 : IVec S16 32) (v933 : IVec S16 32) (k0_hw768 : k0_chk768 i k0_t4 v83 v933), ∀ (k0_h7 : k0_cond7 i k0_t4 = 1#1), ∀ a x, ((![v83, v933] : Fin 2 → IVec S16 32) a x).toNat < S160x48.size a := fun i k0_t4 v83 v933 k0_hw768 k0_h7 => k0_hw768.2 k0_h7

def k0_chk769 (i : grid0.Coords) (k0_t4 : Fin (k0_t4_loop i).trips) (v83 : IVec S16 32) (v960 : IVec S16 32) : Prop :=
  (∀ (k0_h7 : k0_cond7 i k0_t4 = 1#1), ∀ a x, ((![v83, v960] : Fin 2 → IVec S16 32) a x).toNat < S160x240.size a)
theorem k0_idx901_inb : ∀ (i : grid0.Coords) (k0_t4 : Fin (k0_t4_loop i).trips) (v83 : IVec S16 32) (v960 : IVec S16 32) (k0_hw769 : k0_chk769 i k0_t4 v83 v960), ∀ (k0_h7 : k0_cond7 i k0_t4 = 1#1), ∀ a x, ((![v83, v960] : Fin 2 → IVec S16 32) a x).toNat < S160x240.size a := fun i k0_t4 v83 v960 k0_hw769 k0_h7 => k0_hw769 k0_h7

def k0_chk770 (i : grid0.Coords) (k0_t4 : Fin (k0_t4_loop i).trips) (v83 : IVec S16 32) (v974 : IVec S16 32) : Prop :=
  (∀ (k0_h7 : k0_cond7 i k0_t4 = 1#1), ∀ a x, ((![v83, v974] : Fin 2 → IVec S16 32) a x).toNat < S160x240.size a)
theorem k0_idx902_inb : ∀ (i : grid0.Coords) (k0_t4 : Fin (k0_t4_loop i).trips) (v83 : IVec S16 32) (v974 : IVec S16 32) (k0_hw770 : k0_chk770 i k0_t4 v83 v974), ∀ (k0_h7 : k0_cond7 i k0_t4 = 1#1), ∀ a x, ((![v83, v974] : Fin 2 → IVec S16 32) a x).toNat < S160x240.size a := fun i k0_t4 v83 v974 k0_hw770 k0_h7 => k0_hw770 k0_h7

def k0_chk771 (i : grid0.Coords) (k0_t4 : Fin (k0_t4_loop i).trips) (v83 : IVec S16 32) (v978 : IVec S16 32) : Prop :=
  (∀ (k0_h7 : k0_cond7 i k0_t4 = 1#1), ∀ a x, ((![v83, v978] : Fin 2 → IVec S16 32) a x).toNat < S160x240.size a)
theorem k0_idx903_inb : ∀ (i : grid0.Coords) (k0_t4 : Fin (k0_t4_loop i).trips) (v83 : IVec S16 32) (v978 : IVec S16 32) (k0_hw771 : k0_chk771 i k0_t4 v83 v978), ∀ (k0_h7 : k0_cond7 i k0_t4 = 1#1), ∀ a x, ((![v83, v978] : Fin 2 → IVec S16 32) a x).toNat < S160x240.size a := fun i k0_t4 v83 v978 k0_hw771 k0_h7 => k0_hw771 k0_h7

def k0_chk772 (i : grid0.Coords) (k0_t4 : Fin (k0_t4_loop i).trips) (v83 : IVec S16 32) (v982 : IVec S16 32) : Prop :=
  (∀ (k0_h7 : k0_cond7 i k0_t4 = 1#1), ∀ a x, ((![v83, v982] : Fin 2 → IVec S16 32) a x).toNat < S160x240.size a)
theorem k0_idx904_inb : ∀ (i : grid0.Coords) (k0_t4 : Fin (k0_t4_loop i).trips) (v83 : IVec S16 32) (v982 : IVec S16 32) (k0_hw772 : k0_chk772 i k0_t4 v83 v982), ∀ (k0_h7 : k0_cond7 i k0_t4 = 1#1), ∀ a x, ((![v83, v982] : Fin 2 → IVec S16 32) a x).toNat < S160x240.size a := fun i k0_t4 v83 v982 k0_hw772 k0_h7 => k0_hw772 k0_h7

def k0_chk773 (i : grid0.Coords) (k0_t4 : Fin (k0_t4_loop i).trips) (v83 : IVec S16 32) (v986 : IVec S16 32) : Prop :=
  (∀ (k0_h7 : k0_cond7 i k0_t4 = 1#1), ∀ a x, ((![v83, v986] : Fin 2 → IVec S16 32) a x).toNat < S160x240.size a)
theorem k0_idx905_inb : ∀ (i : grid0.Coords) (k0_t4 : Fin (k0_t4_loop i).trips) (v83 : IVec S16 32) (v986 : IVec S16 32) (k0_hw773 : k0_chk773 i k0_t4 v83 v986), ∀ (k0_h7 : k0_cond7 i k0_t4 = 1#1), ∀ a x, ((![v83, v986] : Fin 2 → IVec S16 32) a x).toNat < S160x240.size a := fun i k0_t4 v83 v986 k0_hw773 k0_h7 => k0_hw773 k0_h7

def k0_chk774 (i : grid0.Coords) (k0_t4 : Fin (k0_t4_loop i).trips) (v83 : IVec S16 32) (v990 : IVec S16 32) : Prop :=
  (∀ (k0_h7 : k0_cond7 i k0_t4 = 1#1), ∀ a x, ((![v83, v990] : Fin 2 → IVec S16 32) a x).toNat < S160x240.size a)
theorem k0_idx906_inb : ∀ (i : grid0.Coords) (k0_t4 : Fin (k0_t4_loop i).trips) (v83 : IVec S16 32) (v990 : IVec S16 32) (k0_hw774 : k0_chk774 i k0_t4 v83 v990), ∀ (k0_h7 : k0_cond7 i k0_t4 = 1#1), ∀ a x, ((![v83, v990] : Fin 2 → IVec S16 32) a x).toNat < S160x240.size a := fun i k0_t4 v83 v990 k0_hw774 k0_h7 => k0_hw774 k0_h7

def k0_chk775 (i : grid0.Coords) (k0_t4 : Fin (k0_t4_loop i).trips) (v83 : IVec S16 32) (v994 : IVec S16 32) : Prop :=
  (∀ (k0_h7 : k0_cond7 i k0_t4 = 1#1), ∀ a x, ((![v83, v994] : Fin 2 → IVec S16 32) a x).toNat < S160x240.size a)
theorem k0_idx907_inb : ∀ (i : grid0.Coords) (k0_t4 : Fin (k0_t4_loop i).trips) (v83 : IVec S16 32) (v994 : IVec S16 32) (k0_hw775 : k0_chk775 i k0_t4 v83 v994), ∀ (k0_h7 : k0_cond7 i k0_t4 = 1#1), ∀ a x, ((![v83, v994] : Fin 2 → IVec S16 32) a x).toNat < S160x240.size a := fun i k0_t4 v83 v994 k0_hw775 k0_h7 => k0_hw775 k0_h7

def k0_chk776 (i : grid0.Coords) (k0_t4 : Fin (k0_t4_loop i).trips) (v83 : IVec S16 32) (v971 : IVec S16 32) : Prop :=
  (∀ (k0_h7 : k0_cond7 i k0_t4 = 1#1), ∀ a x, ((![v971] : Fin 1 → IVec S16 32) a x).toNat < S48.size a) ∧
  (∀ (k0_h7 : k0_cond7 i k0_t4 = 1#1), ∀ a x, ((![v83, v971] : Fin 2 → IVec S16 32) a x).toNat < S160x48.size a)
theorem k0_idx908_inb : ∀ (i : grid0.Coords) (k0_t4 : Fin (k0_t4_loop i).trips) (v83 : IVec S16 32) (v971 : IVec S16 32) (k0_hw776 : k0_chk776 i k0_t4 v83 v971), ∀ (k0_h7 : k0_cond7 i k0_t4 = 1#1), ∀ a x, ((![v971] : Fin 1 → IVec S16 32) a x).toNat < S48.size a := fun i k0_t4 v83 v971 k0_hw776 k0_h7 => k0_hw776.1 k0_h7
theorem k0_idx909_inb : ∀ (i : grid0.Coords) (k0_t4 : Fin (k0_t4_loop i).trips) (v83 : IVec S16 32) (v971 : IVec S16 32) (k0_hw776 : k0_chk776 i k0_t4 v83 v971), ∀ (k0_h7 : k0_cond7 i k0_t4 = 1#1), ∀ a x, ((![v83, v971] : Fin 2 → IVec S16 32) a x).toNat < S160x48.size a := fun i k0_t4 v83 v971 k0_hw776 k0_h7 => k0_hw776.2 k0_h7

def k0_chk777 (i : grid0.Coords) (k0_t4 : Fin (k0_t4_loop i).trips) (v83 : IVec S16 32) (v998 : IVec S16 32) : Prop :=
  (∀ (k0_h7 : k0_cond7 i k0_t4 = 1#1), ∀ a x, ((![v83, v998] : Fin 2 → IVec S16 32) a x).toNat < S160x240.size a)
theorem k0_idx910_inb : ∀ (i : grid0.Coords) (k0_t4 : Fin (k0_t4_loop i).trips) (v83 : IVec S16 32) (v998 : IVec S16 32) (k0_hw777 : k0_chk777 i k0_t4 v83 v998), ∀ (k0_h7 : k0_cond7 i k0_t4 = 1#1), ∀ a x, ((![v83, v998] : Fin 2 → IVec S16 32) a x).toNat < S160x240.size a := fun i k0_t4 v83 v998 k0_hw777 k0_h7 => k0_hw777 k0_h7

def k0_chk778 (i : grid0.Coords) (k0_t4 : Fin (k0_t4_loop i).trips) (v83 : IVec S16 32) (v1012 : IVec S16 32) : Prop :=
  (∀ (k0_h7 : k0_cond7 i k0_t4 = 1#1), ∀ a x, ((![v83, v1012] : Fin 2 → IVec S16 32) a x).toNat < S160x240.size a)
theorem k0_idx911_inb : ∀ (i : grid0.Coords) (k0_t4 : Fin (k0_t4_loop i).trips) (v83 : IVec S16 32) (v1012 : IVec S16 32) (k0_hw778 : k0_chk778 i k0_t4 v83 v1012), ∀ (k0_h7 : k0_cond7 i k0_t4 = 1#1), ∀ a x, ((![v83, v1012] : Fin 2 → IVec S16 32) a x).toNat < S160x240.size a := fun i k0_t4 v83 v1012 k0_hw778 k0_h7 => k0_hw778 k0_h7

def k0_chk779 (i : grid0.Coords) (k0_t4 : Fin (k0_t4_loop i).trips) (v83 : IVec S16 32) (v1016 : IVec S16 32) : Prop :=
  (∀ (k0_h7 : k0_cond7 i k0_t4 = 1#1), ∀ a x, ((![v83, v1016] : Fin 2 → IVec S16 32) a x).toNat < S160x240.size a)
theorem k0_idx912_inb : ∀ (i : grid0.Coords) (k0_t4 : Fin (k0_t4_loop i).trips) (v83 : IVec S16 32) (v1016 : IVec S16 32) (k0_hw779 : k0_chk779 i k0_t4 v83 v1016), ∀ (k0_h7 : k0_cond7 i k0_t4 = 1#1), ∀ a x, ((![v83, v1016] : Fin 2 → IVec S16 32) a x).toNat < S160x240.size a := fun i k0_t4 v83 v1016 k0_hw779 k0_h7 => k0_hw779 k0_h7

def k0_chk780 (i : grid0.Coords) (k0_t4 : Fin (k0_t4_loop i).trips) (v83 : IVec S16 32) (v1020 : IVec S16 32) : Prop :=
  (∀ (k0_h7 : k0_cond7 i k0_t4 = 1#1), ∀ a x, ((![v83, v1020] : Fin 2 → IVec S16 32) a x).toNat < S160x240.size a)
theorem k0_idx913_inb : ∀ (i : grid0.Coords) (k0_t4 : Fin (k0_t4_loop i).trips) (v83 : IVec S16 32) (v1020 : IVec S16 32) (k0_hw780 : k0_chk780 i k0_t4 v83 v1020), ∀ (k0_h7 : k0_cond7 i k0_t4 = 1#1), ∀ a x, ((![v83, v1020] : Fin 2 → IVec S16 32) a x).toNat < S160x240.size a := fun i k0_t4 v83 v1020 k0_hw780 k0_h7 => k0_hw780 k0_h7

def k0_chk781 (i : grid0.Coords) (k0_t4 : Fin (k0_t4_loop i).trips) (v83 : IVec S16 32) (v1024 : IVec S16 32) : Prop :=
  (∀ (k0_h7 : k0_cond7 i k0_t4 = 1#1), ∀ a x, ((![v83, v1024] : Fin 2 → IVec S16 32) a x).toNat < S160x240.size a)
theorem k0_idx914_inb : ∀ (i : grid0.Coords) (k0_t4 : Fin (k0_t4_loop i).trips) (v83 : IVec S16 32) (v1024 : IVec S16 32) (k0_hw781 : k0_chk781 i k0_t4 v83 v1024), ∀ (k0_h7 : k0_cond7 i k0_t4 = 1#1), ∀ a x, ((![v83, v1024] : Fin 2 → IVec S16 32) a x).toNat < S160x240.size a := fun i k0_t4 v83 v1024 k0_hw781 k0_h7 => k0_hw781 k0_h7

def k0_chk782 (i : grid0.Coords) (k0_t4 : Fin (k0_t4_loop i).trips) (v83 : IVec S16 32) (v1028 : IVec S16 32) : Prop :=
  (∀ (k0_h7 : k0_cond7 i k0_t4 = 1#1), ∀ a x, ((![v83, v1028] : Fin 2 → IVec S16 32) a x).toNat < S160x240.size a)
theorem k0_idx915_inb : ∀ (i : grid0.Coords) (k0_t4 : Fin (k0_t4_loop i).trips) (v83 : IVec S16 32) (v1028 : IVec S16 32) (k0_hw782 : k0_chk782 i k0_t4 v83 v1028), ∀ (k0_h7 : k0_cond7 i k0_t4 = 1#1), ∀ a x, ((![v83, v1028] : Fin 2 → IVec S16 32) a x).toNat < S160x240.size a := fun i k0_t4 v83 v1028 k0_hw782 k0_h7 => k0_hw782 k0_h7

def k0_chk783 (i : grid0.Coords) (k0_t4 : Fin (k0_t4_loop i).trips) (v83 : IVec S16 32) (v1032 : IVec S16 32) : Prop :=
  (∀ (k0_h7 : k0_cond7 i k0_t4 = 1#1), ∀ a x, ((![v83, v1032] : Fin 2 → IVec S16 32) a x).toNat < S160x240.size a)
theorem k0_idx916_inb : ∀ (i : grid0.Coords) (k0_t4 : Fin (k0_t4_loop i).trips) (v83 : IVec S16 32) (v1032 : IVec S16 32) (k0_hw783 : k0_chk783 i k0_t4 v83 v1032), ∀ (k0_h7 : k0_cond7 i k0_t4 = 1#1), ∀ a x, ((![v83, v1032] : Fin 2 → IVec S16 32) a x).toNat < S160x240.size a := fun i k0_t4 v83 v1032 k0_hw783 k0_h7 => k0_hw783 k0_h7

def k0_chk784 (i : grid0.Coords) (k0_t4 : Fin (k0_t4_loop i).trips) (v83 : IVec S16 32) (v1009 : IVec S16 32) : Prop :=
  (∀ (k0_h7 : k0_cond7 i k0_t4 = 1#1), ∀ a x, ((![v1009] : Fin 1 → IVec S16 32) a x).toNat < S48.size a) ∧
  (∀ (k0_h7 : k0_cond7 i k0_t4 = 1#1), ∀ a x, ((![v83, v1009] : Fin 2 → IVec S16 32) a x).toNat < S160x48.size a)
theorem k0_idx917_inb : ∀ (i : grid0.Coords) (k0_t4 : Fin (k0_t4_loop i).trips) (v83 : IVec S16 32) (v1009 : IVec S16 32) (k0_hw784 : k0_chk784 i k0_t4 v83 v1009), ∀ (k0_h7 : k0_cond7 i k0_t4 = 1#1), ∀ a x, ((![v1009] : Fin 1 → IVec S16 32) a x).toNat < S48.size a := fun i k0_t4 v83 v1009 k0_hw784 k0_h7 => k0_hw784.1 k0_h7
theorem k0_idx918_inb : ∀ (i : grid0.Coords) (k0_t4 : Fin (k0_t4_loop i).trips) (v83 : IVec S16 32) (v1009 : IVec S16 32) (k0_hw784 : k0_chk784 i k0_t4 v83 v1009), ∀ (k0_h7 : k0_cond7 i k0_t4 = 1#1), ∀ a x, ((![v83, v1009] : Fin 2 → IVec S16 32) a x).toNat < S160x48.size a := fun i k0_t4 v83 v1009 k0_hw784 k0_h7 => k0_hw784.2 k0_h7

def k0_chk785 (i : grid0.Coords) (k0_t4 : Fin (k0_t4_loop i).trips) (v83 : IVec S16 32) (v1036 : IVec S16 32) : Prop :=
  (∀ (k0_h7 : k0_cond7 i k0_t4 = 1#1), ∀ a x, ((![v83, v1036] : Fin 2 → IVec S16 32) a x).toNat < S160x240.size a)
theorem k0_idx919_inb : ∀ (i : grid0.Coords) (k0_t4 : Fin (k0_t4_loop i).trips) (v83 : IVec S16 32) (v1036 : IVec S16 32) (k0_hw785 : k0_chk785 i k0_t4 v83 v1036), ∀ (k0_h7 : k0_cond7 i k0_t4 = 1#1), ∀ a x, ((![v83, v1036] : Fin 2 → IVec S16 32) a x).toNat < S160x240.size a := fun i k0_t4 v83 v1036 k0_hw785 k0_h7 => k0_hw785 k0_h7

def k0_chk786 (i : grid0.Coords) (k0_t4 : Fin (k0_t4_loop i).trips) (v83 : IVec S16 32) (v1050 : IVec S16 32) : Prop :=
  (∀ (k0_h7 : k0_cond7 i k0_t4 = 1#1), ∀ a x, ((![v83, v1050] : Fin 2 → IVec S16 32) a x).toNat < S160x240.size a)
theorem k0_idx920_inb : ∀ (i : grid0.Coords) (k0_t4 : Fin (k0_t4_loop i).trips) (v83 : IVec S16 32) (v1050 : IVec S16 32) (k0_hw786 : k0_chk786 i k0_t4 v83 v1050), ∀ (k0_h7 : k0_cond7 i k0_t4 = 1#1), ∀ a x, ((![v83, v1050] : Fin 2 → IVec S16 32) a x).toNat < S160x240.size a := fun i k0_t4 v83 v1050 k0_hw786 k0_h7 => k0_hw786 k0_h7

def k0_chk787 (i : grid0.Coords) (k0_t4 : Fin (k0_t4_loop i).trips) (v83 : IVec S16 32) (v1054 : IVec S16 32) : Prop :=
  (∀ (k0_h7 : k0_cond7 i k0_t4 = 1#1), ∀ a x, ((![v83, v1054] : Fin 2 → IVec S16 32) a x).toNat < S160x240.size a)
theorem k0_idx921_inb : ∀ (i : grid0.Coords) (k0_t4 : Fin (k0_t4_loop i).trips) (v83 : IVec S16 32) (v1054 : IVec S16 32) (k0_hw787 : k0_chk787 i k0_t4 v83 v1054), ∀ (k0_h7 : k0_cond7 i k0_t4 = 1#1), ∀ a x, ((![v83, v1054] : Fin 2 → IVec S16 32) a x).toNat < S160x240.size a := fun i k0_t4 v83 v1054 k0_hw787 k0_h7 => k0_hw787 k0_h7

def k0_chk788 (i : grid0.Coords) (k0_t4 : Fin (k0_t4_loop i).trips) (v83 : IVec S16 32) (v1058 : IVec S16 32) : Prop :=
  (∀ (k0_h7 : k0_cond7 i k0_t4 = 1#1), ∀ a x, ((![v83, v1058] : Fin 2 → IVec S16 32) a x).toNat < S160x240.size a)
theorem k0_idx922_inb : ∀ (i : grid0.Coords) (k0_t4 : Fin (k0_t4_loop i).trips) (v83 : IVec S16 32) (v1058 : IVec S16 32) (k0_hw788 : k0_chk788 i k0_t4 v83 v1058), ∀ (k0_h7 : k0_cond7 i k0_t4 = 1#1), ∀ a x, ((![v83, v1058] : Fin 2 → IVec S16 32) a x).toNat < S160x240.size a := fun i k0_t4 v83 v1058 k0_hw788 k0_h7 => k0_hw788 k0_h7

def k0_chk789 (i : grid0.Coords) (k0_t4 : Fin (k0_t4_loop i).trips) (v83 : IVec S16 32) (v1062 : IVec S16 32) : Prop :=
  (∀ (k0_h7 : k0_cond7 i k0_t4 = 1#1), ∀ a x, ((![v83, v1062] : Fin 2 → IVec S16 32) a x).toNat < S160x240.size a)
theorem k0_idx923_inb : ∀ (i : grid0.Coords) (k0_t4 : Fin (k0_t4_loop i).trips) (v83 : IVec S16 32) (v1062 : IVec S16 32) (k0_hw789 : k0_chk789 i k0_t4 v83 v1062), ∀ (k0_h7 : k0_cond7 i k0_t4 = 1#1), ∀ a x, ((![v83, v1062] : Fin 2 → IVec S16 32) a x).toNat < S160x240.size a := fun i k0_t4 v83 v1062 k0_hw789 k0_h7 => k0_hw789 k0_h7

def k0_chk790 (i : grid0.Coords) (k0_t4 : Fin (k0_t4_loop i).trips) (v83 : IVec S16 32) (v1066 : IVec S16 32) : Prop :=
  (∀ (k0_h7 : k0_cond7 i k0_t4 = 1#1), ∀ a x, ((![v83, v1066] : Fin 2 → IVec S16 32) a x).toNat < S160x240.size a)
theorem k0_idx924_inb : ∀ (i : grid0.Coords) (k0_t4 : Fin (k0_t4_loop i).trips) (v83 : IVec S16 32) (v1066 : IVec S16 32) (k0_hw790 : k0_chk790 i k0_t4 v83 v1066), ∀ (k0_h7 : k0_cond7 i k0_t4 = 1#1), ∀ a x, ((![v83, v1066] : Fin 2 → IVec S16 32) a x).toNat < S160x240.size a := fun i k0_t4 v83 v1066 k0_hw790 k0_h7 => k0_hw790 k0_h7

def k0_chk791 (i : grid0.Coords) (k0_t4 : Fin (k0_t4_loop i).trips) (v83 : IVec S16 32) (v1070 : IVec S16 32) : Prop :=
  (∀ (k0_h7 : k0_cond7 i k0_t4 = 1#1), ∀ a x, ((![v83, v1070] : Fin 2 → IVec S16 32) a x).toNat < S160x240.size a)
theorem k0_idx925_inb : ∀ (i : grid0.Coords) (k0_t4 : Fin (k0_t4_loop i).trips) (v83 : IVec S16 32) (v1070 : IVec S16 32) (k0_hw791 : k0_chk791 i k0_t4 v83 v1070), ∀ (k0_h7 : k0_cond7 i k0_t4 = 1#1), ∀ a x, ((![v83, v1070] : Fin 2 → IVec S16 32) a x).toNat < S160x240.size a := fun i k0_t4 v83 v1070 k0_hw791 k0_h7 => k0_hw791 k0_h7

def k0_chk792 (i : grid0.Coords) (k0_t4 : Fin (k0_t4_loop i).trips) (v83 : IVec S16 32) (v1047 : IVec S16 32) : Prop :=
  (∀ (k0_h7 : k0_cond7 i k0_t4 = 1#1), ∀ a x, ((![v1047] : Fin 1 → IVec S16 32) a x).toNat < S48.size a) ∧
  (∀ (k0_h7 : k0_cond7 i k0_t4 = 1#1), ∀ a x, ((![v83, v1047] : Fin 2 → IVec S16 32) a x).toNat < S160x48.size a)
theorem k0_idx926_inb : ∀ (i : grid0.Coords) (k0_t4 : Fin (k0_t4_loop i).trips) (v83 : IVec S16 32) (v1047 : IVec S16 32) (k0_hw792 : k0_chk792 i k0_t4 v83 v1047), ∀ (k0_h7 : k0_cond7 i k0_t4 = 1#1), ∀ a x, ((![v1047] : Fin 1 → IVec S16 32) a x).toNat < S48.size a := fun i k0_t4 v83 v1047 k0_hw792 k0_h7 => k0_hw792.1 k0_h7
theorem k0_idx927_inb : ∀ (i : grid0.Coords) (k0_t4 : Fin (k0_t4_loop i).trips) (v83 : IVec S16 32) (v1047 : IVec S16 32) (k0_hw792 : k0_chk792 i k0_t4 v83 v1047), ∀ (k0_h7 : k0_cond7 i k0_t4 = 1#1), ∀ a x, ((![v83, v1047] : Fin 2 → IVec S16 32) a x).toNat < S160x48.size a := fun i k0_t4 v83 v1047 k0_hw792 k0_h7 => k0_hw792.2 k0_h7

def k0_chk793 (i : grid0.Coords) (k0_t4 : Fin (k0_t4_loop i).trips) (v83 : IVec S16 32) (v1074 : IVec S16 32) : Prop :=
  (∀ (k0_h7 : k0_cond7 i k0_t4 = 1#1), ∀ a x, ((![v83, v1074] : Fin 2 → IVec S16 32) a x).toNat < S160x240.size a)
theorem k0_idx928_inb : ∀ (i : grid0.Coords) (k0_t4 : Fin (k0_t4_loop i).trips) (v83 : IVec S16 32) (v1074 : IVec S16 32) (k0_hw793 : k0_chk793 i k0_t4 v83 v1074), ∀ (k0_h7 : k0_cond7 i k0_t4 = 1#1), ∀ a x, ((![v83, v1074] : Fin 2 → IVec S16 32) a x).toNat < S160x240.size a := fun i k0_t4 v83 v1074 k0_hw793 k0_h7 => k0_hw793 k0_h7

def k0_chk794 (i : grid0.Coords) (k0_t4 : Fin (k0_t4_loop i).trips) (v83 : IVec S16 32) (v1088 : IVec S16 32) : Prop :=
  (∀ (k0_h7 : k0_cond7 i k0_t4 = 1#1), ∀ a x, ((![v83, v1088] : Fin 2 → IVec S16 32) a x).toNat < S160x240.size a)
theorem k0_idx929_inb : ∀ (i : grid0.Coords) (k0_t4 : Fin (k0_t4_loop i).trips) (v83 : IVec S16 32) (v1088 : IVec S16 32) (k0_hw794 : k0_chk794 i k0_t4 v83 v1088), ∀ (k0_h7 : k0_cond7 i k0_t4 = 1#1), ∀ a x, ((![v83, v1088] : Fin 2 → IVec S16 32) a x).toNat < S160x240.size a := fun i k0_t4 v83 v1088 k0_hw794 k0_h7 => k0_hw794 k0_h7

def k0_chk795 (i : grid0.Coords) (k0_t4 : Fin (k0_t4_loop i).trips) (v83 : IVec S16 32) (v1092 : IVec S16 32) : Prop :=
  (∀ (k0_h7 : k0_cond7 i k0_t4 = 1#1), ∀ a x, ((![v83, v1092] : Fin 2 → IVec S16 32) a x).toNat < S160x240.size a)
theorem k0_idx930_inb : ∀ (i : grid0.Coords) (k0_t4 : Fin (k0_t4_loop i).trips) (v83 : IVec S16 32) (v1092 : IVec S16 32) (k0_hw795 : k0_chk795 i k0_t4 v83 v1092), ∀ (k0_h7 : k0_cond7 i k0_t4 = 1#1), ∀ a x, ((![v83, v1092] : Fin 2 → IVec S16 32) a x).toNat < S160x240.size a := fun i k0_t4 v83 v1092 k0_hw795 k0_h7 => k0_hw795 k0_h7

def k0_chk796 (i : grid0.Coords) (k0_t4 : Fin (k0_t4_loop i).trips) (v83 : IVec S16 32) (v1096 : IVec S16 32) : Prop :=
  (∀ (k0_h7 : k0_cond7 i k0_t4 = 1#1), ∀ a x, ((![v83, v1096] : Fin 2 → IVec S16 32) a x).toNat < S160x240.size a)
theorem k0_idx931_inb : ∀ (i : grid0.Coords) (k0_t4 : Fin (k0_t4_loop i).trips) (v83 : IVec S16 32) (v1096 : IVec S16 32) (k0_hw796 : k0_chk796 i k0_t4 v83 v1096), ∀ (k0_h7 : k0_cond7 i k0_t4 = 1#1), ∀ a x, ((![v83, v1096] : Fin 2 → IVec S16 32) a x).toNat < S160x240.size a := fun i k0_t4 v83 v1096 k0_hw796 k0_h7 => k0_hw796 k0_h7

def k0_chk797 (i : grid0.Coords) (k0_t4 : Fin (k0_t4_loop i).trips) (v83 : IVec S16 32) (v1100 : IVec S16 32) : Prop :=
  (∀ (k0_h7 : k0_cond7 i k0_t4 = 1#1), ∀ a x, ((![v83, v1100] : Fin 2 → IVec S16 32) a x).toNat < S160x240.size a)
theorem k0_idx932_inb : ∀ (i : grid0.Coords) (k0_t4 : Fin (k0_t4_loop i).trips) (v83 : IVec S16 32) (v1100 : IVec S16 32) (k0_hw797 : k0_chk797 i k0_t4 v83 v1100), ∀ (k0_h7 : k0_cond7 i k0_t4 = 1#1), ∀ a x, ((![v83, v1100] : Fin 2 → IVec S16 32) a x).toNat < S160x240.size a := fun i k0_t4 v83 v1100 k0_hw797 k0_h7 => k0_hw797 k0_h7

def k0_chk798 (i : grid0.Coords) (k0_t4 : Fin (k0_t4_loop i).trips) (v83 : IVec S16 32) (v1104 : IVec S16 32) : Prop :=
  (∀ (k0_h7 : k0_cond7 i k0_t4 = 1#1), ∀ a x, ((![v83, v1104] : Fin 2 → IVec S16 32) a x).toNat < S160x240.size a)
theorem k0_idx933_inb : ∀ (i : grid0.Coords) (k0_t4 : Fin (k0_t4_loop i).trips) (v83 : IVec S16 32) (v1104 : IVec S16 32) (k0_hw798 : k0_chk798 i k0_t4 v83 v1104), ∀ (k0_h7 : k0_cond7 i k0_t4 = 1#1), ∀ a x, ((![v83, v1104] : Fin 2 → IVec S16 32) a x).toNat < S160x240.size a := fun i k0_t4 v83 v1104 k0_hw798 k0_h7 => k0_hw798 k0_h7

def k0_chk799 (i : grid0.Coords) (k0_t4 : Fin (k0_t4_loop i).trips) (v83 : IVec S16 32) (v1108 : IVec S16 32) : Prop :=
  (∀ (k0_h7 : k0_cond7 i k0_t4 = 1#1), ∀ a x, ((![v83, v1108] : Fin 2 → IVec S16 32) a x).toNat < S160x240.size a)
theorem k0_idx934_inb : ∀ (i : grid0.Coords) (k0_t4 : Fin (k0_t4_loop i).trips) (v83 : IVec S16 32) (v1108 : IVec S16 32) (k0_hw799 : k0_chk799 i k0_t4 v83 v1108), ∀ (k0_h7 : k0_cond7 i k0_t4 = 1#1), ∀ a x, ((![v83, v1108] : Fin 2 → IVec S16 32) a x).toNat < S160x240.size a := fun i k0_t4 v83 v1108 k0_hw799 k0_h7 => k0_hw799 k0_h7

def k0_chk800 (i : grid0.Coords) (k0_t4 : Fin (k0_t4_loop i).trips) (v83 : IVec S16 32) (v1085 : IVec S16 32) : Prop :=
  (∀ (k0_h7 : k0_cond7 i k0_t4 = 1#1), ∀ a x, ((![v1085] : Fin 1 → IVec S16 32) a x).toNat < S48.size a) ∧
  (∀ (k0_h7 : k0_cond7 i k0_t4 = 1#1), ∀ a x, ((![v83, v1085] : Fin 2 → IVec S16 32) a x).toNat < S160x48.size a)
theorem k0_idx935_inb : ∀ (i : grid0.Coords) (k0_t4 : Fin (k0_t4_loop i).trips) (v83 : IVec S16 32) (v1085 : IVec S16 32) (k0_hw800 : k0_chk800 i k0_t4 v83 v1085), ∀ (k0_h7 : k0_cond7 i k0_t4 = 1#1), ∀ a x, ((![v1085] : Fin 1 → IVec S16 32) a x).toNat < S48.size a := fun i k0_t4 v83 v1085 k0_hw800 k0_h7 => k0_hw800.1 k0_h7
theorem k0_idx936_inb : ∀ (i : grid0.Coords) (k0_t4 : Fin (k0_t4_loop i).trips) (v83 : IVec S16 32) (v1085 : IVec S16 32) (k0_hw800 : k0_chk800 i k0_t4 v83 v1085), ∀ (k0_h7 : k0_cond7 i k0_t4 = 1#1), ∀ a x, ((![v83, v1085] : Fin 2 → IVec S16 32) a x).toNat < S160x48.size a := fun i k0_t4 v83 v1085 k0_hw800 k0_h7 => k0_hw800.2 k0_h7

def k0_chk801 (i : grid0.Coords) (k0_t4 : Fin (k0_t4_loop i).trips) (v83 : IVec S16 32) (v1112 : IVec S16 32) : Prop :=
  (∀ (k0_h7 : k0_cond7 i k0_t4 = 1#1), ∀ a x, ((![v83, v1112] : Fin 2 → IVec S16 32) a x).toNat < S160x240.size a)
theorem k0_idx937_inb : ∀ (i : grid0.Coords) (k0_t4 : Fin (k0_t4_loop i).trips) (v83 : IVec S16 32) (v1112 : IVec S16 32) (k0_hw801 : k0_chk801 i k0_t4 v83 v1112), ∀ (k0_h7 : k0_cond7 i k0_t4 = 1#1), ∀ a x, ((![v83, v1112] : Fin 2 → IVec S16 32) a x).toNat < S160x240.size a := fun i k0_t4 v83 v1112 k0_hw801 k0_h7 => k0_hw801 k0_h7

def k0_chk802 (i : grid0.Coords) (k0_t4 : Fin (k0_t4_loop i).trips) (v83 : IVec S16 32) (v1126 : IVec S16 32) : Prop :=
  (∀ (k0_h7 : k0_cond7 i k0_t4 = 1#1), ∀ a x, ((![v83, v1126] : Fin 2 → IVec S16 32) a x).toNat < S160x240.size a)
theorem k0_idx938_inb : ∀ (i : grid0.Coords) (k0_t4 : Fin (k0_t4_loop i).trips) (v83 : IVec S16 32) (v1126 : IVec S16 32) (k0_hw802 : k0_chk802 i k0_t4 v83 v1126), ∀ (k0_h7 : k0_cond7 i k0_t4 = 1#1), ∀ a x, ((![v83, v1126] : Fin 2 → IVec S16 32) a x).toNat < S160x240.size a := fun i k0_t4 v83 v1126 k0_hw802 k0_h7 => k0_hw802 k0_h7

def k0_chk803 (i : grid0.Coords) (k0_t4 : Fin (k0_t4_loop i).trips) (v83 : IVec S16 32) (v1130 : IVec S16 32) : Prop :=
  (∀ (k0_h7 : k0_cond7 i k0_t4 = 1#1), ∀ a x, ((![v83, v1130] : Fin 2 → IVec S16 32) a x).toNat < S160x240.size a)
theorem k0_idx939_inb : ∀ (i : grid0.Coords) (k0_t4 : Fin (k0_t4_loop i).trips) (v83 : IVec S16 32) (v1130 : IVec S16 32) (k0_hw803 : k0_chk803 i k0_t4 v83 v1130), ∀ (k0_h7 : k0_cond7 i k0_t4 = 1#1), ∀ a x, ((![v83, v1130] : Fin 2 → IVec S16 32) a x).toNat < S160x240.size a := fun i k0_t4 v83 v1130 k0_hw803 k0_h7 => k0_hw803 k0_h7

def k0_chk804 (i : grid0.Coords) (k0_t4 : Fin (k0_t4_loop i).trips) (v83 : IVec S16 32) (v1134 : IVec S16 32) : Prop :=
  (∀ (k0_h7 : k0_cond7 i k0_t4 = 1#1), ∀ a x, ((![v83, v1134] : Fin 2 → IVec S16 32) a x).toNat < S160x240.size a)
theorem k0_idx940_inb : ∀ (i : grid0.Coords) (k0_t4 : Fin (k0_t4_loop i).trips) (v83 : IVec S16 32) (v1134 : IVec S16 32) (k0_hw804 : k0_chk804 i k0_t4 v83 v1134), ∀ (k0_h7 : k0_cond7 i k0_t4 = 1#1), ∀ a x, ((![v83, v1134] : Fin 2 → IVec S16 32) a x).toNat < S160x240.size a := fun i k0_t4 v83 v1134 k0_hw804 k0_h7 => k0_hw804 k0_h7

def k0_chk805 (i : grid0.Coords) (k0_t4 : Fin (k0_t4_loop i).trips) (v83 : IVec S16 32) (v1138 : IVec S16 32) : Prop :=
  (∀ (k0_h7 : k0_cond7 i k0_t4 = 1#1), ∀ a x, ((![v83, v1138] : Fin 2 → IVec S16 32) a x).toNat < S160x240.size a)
theorem k0_idx941_inb : ∀ (i : grid0.Coords) (k0_t4 : Fin (k0_t4_loop i).trips) (v83 : IVec S16 32) (v1138 : IVec S16 32) (k0_hw805 : k0_chk805 i k0_t4 v83 v1138), ∀ (k0_h7 : k0_cond7 i k0_t4 = 1#1), ∀ a x, ((![v83, v1138] : Fin 2 → IVec S16 32) a x).toNat < S160x240.size a := fun i k0_t4 v83 v1138 k0_hw805 k0_h7 => k0_hw805 k0_h7

def k0_chk806 (i : grid0.Coords) (k0_t4 : Fin (k0_t4_loop i).trips) (v83 : IVec S16 32) (v1142 : IVec S16 32) : Prop :=
  (∀ (k0_h7 : k0_cond7 i k0_t4 = 1#1), ∀ a x, ((![v83, v1142] : Fin 2 → IVec S16 32) a x).toNat < S160x240.size a)
theorem k0_idx942_inb : ∀ (i : grid0.Coords) (k0_t4 : Fin (k0_t4_loop i).trips) (v83 : IVec S16 32) (v1142 : IVec S16 32) (k0_hw806 : k0_chk806 i k0_t4 v83 v1142), ∀ (k0_h7 : k0_cond7 i k0_t4 = 1#1), ∀ a x, ((![v83, v1142] : Fin 2 → IVec S16 32) a x).toNat < S160x240.size a := fun i k0_t4 v83 v1142 k0_hw806 k0_h7 => k0_hw806 k0_h7

def k0_chk807 (i : grid0.Coords) (k0_t4 : Fin (k0_t4_loop i).trips) (v83 : IVec S16 32) (v1146 : IVec S16 32) : Prop :=
  (∀ (k0_h7 : k0_cond7 i k0_t4 = 1#1), ∀ a x, ((![v83, v1146] : Fin 2 → IVec S16 32) a x).toNat < S160x240.size a)
theorem k0_idx943_inb : ∀ (i : grid0.Coords) (k0_t4 : Fin (k0_t4_loop i).trips) (v83 : IVec S16 32) (v1146 : IVec S16 32) (k0_hw807 : k0_chk807 i k0_t4 v83 v1146), ∀ (k0_h7 : k0_cond7 i k0_t4 = 1#1), ∀ a x, ((![v83, v1146] : Fin 2 → IVec S16 32) a x).toNat < S160x240.size a := fun i k0_t4 v83 v1146 k0_hw807 k0_h7 => k0_hw807 k0_h7

def k0_chk808 (i : grid0.Coords) (k0_t4 : Fin (k0_t4_loop i).trips) (v83 : IVec S16 32) (v1123 : IVec S16 32) : Prop :=
  (∀ (k0_h7 : k0_cond7 i k0_t4 = 1#1), ∀ a x, ((![v1123] : Fin 1 → IVec S16 32) a x).toNat < S48.size a) ∧
  (∀ (k0_h7 : k0_cond7 i k0_t4 = 1#1), ∀ a x, ((![v83, v1123] : Fin 2 → IVec S16 32) a x).toNat < S160x48.size a)
theorem k0_idx944_inb : ∀ (i : grid0.Coords) (k0_t4 : Fin (k0_t4_loop i).trips) (v83 : IVec S16 32) (v1123 : IVec S16 32) (k0_hw808 : k0_chk808 i k0_t4 v83 v1123), ∀ (k0_h7 : k0_cond7 i k0_t4 = 1#1), ∀ a x, ((![v1123] : Fin 1 → IVec S16 32) a x).toNat < S48.size a := fun i k0_t4 v83 v1123 k0_hw808 k0_h7 => k0_hw808.1 k0_h7
theorem k0_idx945_inb : ∀ (i : grid0.Coords) (k0_t4 : Fin (k0_t4_loop i).trips) (v83 : IVec S16 32) (v1123 : IVec S16 32) (k0_hw808 : k0_chk808 i k0_t4 v83 v1123), ∀ (k0_h7 : k0_cond7 i k0_t4 = 1#1), ∀ a x, ((![v83, v1123] : Fin 2 → IVec S16 32) a x).toNat < S160x48.size a := fun i k0_t4 v83 v1123 k0_hw808 k0_h7 => k0_hw808.2 k0_h7

def k0_chk809 (i : grid0.Coords) (k0_t4 : Fin (k0_t4_loop i).trips) (v83 : IVec S16 32) (v1150 : IVec S16 32) : Prop :=
  (∀ (k0_h7 : k0_cond7 i k0_t4 = 1#1), ∀ a x, ((![v83, v1150] : Fin 2 → IVec S16 32) a x).toNat < S160x240.size a)
theorem k0_idx946_inb : ∀ (i : grid0.Coords) (k0_t4 : Fin (k0_t4_loop i).trips) (v83 : IVec S16 32) (v1150 : IVec S16 32) (k0_hw809 : k0_chk809 i k0_t4 v83 v1150), ∀ (k0_h7 : k0_cond7 i k0_t4 = 1#1), ∀ a x, ((![v83, v1150] : Fin 2 → IVec S16 32) a x).toNat < S160x240.size a := fun i k0_t4 v83 v1150 k0_hw809 k0_h7 => k0_hw809 k0_h7

def k0_chk810 (i : grid0.Coords) (k0_t4 : Fin (k0_t4_loop i).trips) (v83 : IVec S16 32) (v1164 : IVec S16 32) : Prop :=
  (∀ (k0_h7 : k0_cond7 i k0_t4 = 1#1), ∀ a x, ((![v83, v1164] : Fin 2 → IVec S16 32) a x).toNat < S160x240.size a)
theorem k0_idx947_inb : ∀ (i : grid0.Coords) (k0_t4 : Fin (k0_t4_loop i).trips) (v83 : IVec S16 32) (v1164 : IVec S16 32) (k0_hw810 : k0_chk810 i k0_t4 v83 v1164), ∀ (k0_h7 : k0_cond7 i k0_t4 = 1#1), ∀ a x, ((![v83, v1164] : Fin 2 → IVec S16 32) a x).toNat < S160x240.size a := fun i k0_t4 v83 v1164 k0_hw810 k0_h7 => k0_hw810 k0_h7

def k0_chk811 (i : grid0.Coords) (k0_t4 : Fin (k0_t4_loop i).trips) (v83 : IVec S16 32) (v1168 : IVec S16 32) : Prop :=
  (∀ (k0_h7 : k0_cond7 i k0_t4 = 1#1), ∀ a x, ((![v83, v1168] : Fin 2 → IVec S16 32) a x).toNat < S160x240.size a)
theorem k0_idx948_inb : ∀ (i : grid0.Coords) (k0_t4 : Fin (k0_t4_loop i).trips) (v83 : IVec S16 32) (v1168 : IVec S16 32) (k0_hw811 : k0_chk811 i k0_t4 v83 v1168), ∀ (k0_h7 : k0_cond7 i k0_t4 = 1#1), ∀ a x, ((![v83, v1168] : Fin 2 → IVec S16 32) a x).toNat < S160x240.size a := fun i k0_t4 v83 v1168 k0_hw811 k0_h7 => k0_hw811 k0_h7

def k0_chk812 (i : grid0.Coords) (k0_t4 : Fin (k0_t4_loop i).trips) (v83 : IVec S16 32) (v1172 : IVec S16 32) : Prop :=
  (∀ (k0_h7 : k0_cond7 i k0_t4 = 1#1), ∀ a x, ((![v83, v1172] : Fin 2 → IVec S16 32) a x).toNat < S160x240.size a)
theorem k0_idx949_inb : ∀ (i : grid0.Coords) (k0_t4 : Fin (k0_t4_loop i).trips) (v83 : IVec S16 32) (v1172 : IVec S16 32) (k0_hw812 : k0_chk812 i k0_t4 v83 v1172), ∀ (k0_h7 : k0_cond7 i k0_t4 = 1#1), ∀ a x, ((![v83, v1172] : Fin 2 → IVec S16 32) a x).toNat < S160x240.size a := fun i k0_t4 v83 v1172 k0_hw812 k0_h7 => k0_hw812 k0_h7

def k0_chk813 (i : grid0.Coords) (k0_t4 : Fin (k0_t4_loop i).trips) (v83 : IVec S16 32) (v1176 : IVec S16 32) : Prop :=
  (∀ (k0_h7 : k0_cond7 i k0_t4 = 1#1), ∀ a x, ((![v83, v1176] : Fin 2 → IVec S16 32) a x).toNat < S160x240.size a)
theorem k0_idx950_inb : ∀ (i : grid0.Coords) (k0_t4 : Fin (k0_t4_loop i).trips) (v83 : IVec S16 32) (v1176 : IVec S16 32) (k0_hw813 : k0_chk813 i k0_t4 v83 v1176), ∀ (k0_h7 : k0_cond7 i k0_t4 = 1#1), ∀ a x, ((![v83, v1176] : Fin 2 → IVec S16 32) a x).toNat < S160x240.size a := fun i k0_t4 v83 v1176 k0_hw813 k0_h7 => k0_hw813 k0_h7

def k0_chk814 (i : grid0.Coords) (k0_t4 : Fin (k0_t4_loop i).trips) (v83 : IVec S16 32) (v1180 : IVec S16 32) : Prop :=
  (∀ (k0_h7 : k0_cond7 i k0_t4 = 1#1), ∀ a x, ((![v83, v1180] : Fin 2 → IVec S16 32) a x).toNat < S160x240.size a)
theorem k0_idx951_inb : ∀ (i : grid0.Coords) (k0_t4 : Fin (k0_t4_loop i).trips) (v83 : IVec S16 32) (v1180 : IVec S16 32) (k0_hw814 : k0_chk814 i k0_t4 v83 v1180), ∀ (k0_h7 : k0_cond7 i k0_t4 = 1#1), ∀ a x, ((![v83, v1180] : Fin 2 → IVec S16 32) a x).toNat < S160x240.size a := fun i k0_t4 v83 v1180 k0_hw814 k0_h7 => k0_hw814 k0_h7

def k0_chk815 (i : grid0.Coords) (k0_t4 : Fin (k0_t4_loop i).trips) (v83 : IVec S16 32) (v1184 : IVec S16 32) : Prop :=
  (∀ (k0_h7 : k0_cond7 i k0_t4 = 1#1), ∀ a x, ((![v83, v1184] : Fin 2 → IVec S16 32) a x).toNat < S160x240.size a)
theorem k0_idx952_inb : ∀ (i : grid0.Coords) (k0_t4 : Fin (k0_t4_loop i).trips) (v83 : IVec S16 32) (v1184 : IVec S16 32) (k0_hw815 : k0_chk815 i k0_t4 v83 v1184), ∀ (k0_h7 : k0_cond7 i k0_t4 = 1#1), ∀ a x, ((![v83, v1184] : Fin 2 → IVec S16 32) a x).toNat < S160x240.size a := fun i k0_t4 v83 v1184 k0_hw815 k0_h7 => k0_hw815 k0_h7

def k0_chk816 (i : grid0.Coords) (k0_t4 : Fin (k0_t4_loop i).trips) (v83 : IVec S16 32) (v1161 : IVec S16 32) : Prop :=
  (∀ (k0_h7 : k0_cond7 i k0_t4 = 1#1), ∀ a x, ((![v1161] : Fin 1 → IVec S16 32) a x).toNat < S48.size a) ∧
  (∀ (k0_h7 : k0_cond7 i k0_t4 = 1#1), ∀ a x, ((![v83, v1161] : Fin 2 → IVec S16 32) a x).toNat < S160x48.size a)
theorem k0_idx953_inb : ∀ (i : grid0.Coords) (k0_t4 : Fin (k0_t4_loop i).trips) (v83 : IVec S16 32) (v1161 : IVec S16 32) (k0_hw816 : k0_chk816 i k0_t4 v83 v1161), ∀ (k0_h7 : k0_cond7 i k0_t4 = 1#1), ∀ a x, ((![v1161] : Fin 1 → IVec S16 32) a x).toNat < S48.size a := fun i k0_t4 v83 v1161 k0_hw816 k0_h7 => k0_hw816.1 k0_h7
theorem k0_idx954_inb : ∀ (i : grid0.Coords) (k0_t4 : Fin (k0_t4_loop i).trips) (v83 : IVec S16 32) (v1161 : IVec S16 32) (k0_hw816 : k0_chk816 i k0_t4 v83 v1161), ∀ (k0_h7 : k0_cond7 i k0_t4 = 1#1), ∀ a x, ((![v83, v1161] : Fin 2 → IVec S16 32) a x).toNat < S160x48.size a := fun i k0_t4 v83 v1161 k0_hw816 k0_h7 => k0_hw816.2 k0_h7

def k0_chk817 (i : grid0.Coords) (k0_t4 : Fin (k0_t4_loop i).trips) (v83 : IVec S16 32) (v1188 : IVec S16 32) : Prop :=
  (∀ (k0_h7 : k0_cond7 i k0_t4 = 1#1), ∀ a x, ((![v83, v1188] : Fin 2 → IVec S16 32) a x).toNat < S160x240.size a)
theorem k0_idx955_inb : ∀ (i : grid0.Coords) (k0_t4 : Fin (k0_t4_loop i).trips) (v83 : IVec S16 32) (v1188 : IVec S16 32) (k0_hw817 : k0_chk817 i k0_t4 v83 v1188), ∀ (k0_h7 : k0_cond7 i k0_t4 = 1#1), ∀ a x, ((![v83, v1188] : Fin 2 → IVec S16 32) a x).toNat < S160x240.size a := fun i k0_t4 v83 v1188 k0_hw817 k0_h7 => k0_hw817 k0_h7

def k0_chk818 (i : grid0.Coords) (k0_t4 : Fin (k0_t4_loop i).trips) (v83 : IVec S16 32) (v1202 : IVec S16 32) : Prop :=
  (∀ (k0_h7 : k0_cond7 i k0_t4 = 1#1), ∀ a x, ((![v83, v1202] : Fin 2 → IVec S16 32) a x).toNat < S160x240.size a)
theorem k0_idx956_inb : ∀ (i : grid0.Coords) (k0_t4 : Fin (k0_t4_loop i).trips) (v83 : IVec S16 32) (v1202 : IVec S16 32) (k0_hw818 : k0_chk818 i k0_t4 v83 v1202), ∀ (k0_h7 : k0_cond7 i k0_t4 = 1#1), ∀ a x, ((![v83, v1202] : Fin 2 → IVec S16 32) a x).toNat < S160x240.size a := fun i k0_t4 v83 v1202 k0_hw818 k0_h7 => k0_hw818 k0_h7

def k0_chk819 (i : grid0.Coords) (k0_t4 : Fin (k0_t4_loop i).trips) (v83 : IVec S16 32) (v1206 : IVec S16 32) : Prop :=
  (∀ (k0_h7 : k0_cond7 i k0_t4 = 1#1), ∀ a x, ((![v83, v1206] : Fin 2 → IVec S16 32) a x).toNat < S160x240.size a)
theorem k0_idx957_inb : ∀ (i : grid0.Coords) (k0_t4 : Fin (k0_t4_loop i).trips) (v83 : IVec S16 32) (v1206 : IVec S16 32) (k0_hw819 : k0_chk819 i k0_t4 v83 v1206), ∀ (k0_h7 : k0_cond7 i k0_t4 = 1#1), ∀ a x, ((![v83, v1206] : Fin 2 → IVec S16 32) a x).toNat < S160x240.size a := fun i k0_t4 v83 v1206 k0_hw819 k0_h7 => k0_hw819 k0_h7

def k0_chk820 (i : grid0.Coords) (k0_t4 : Fin (k0_t4_loop i).trips) (v83 : IVec S16 32) (v1210 : IVec S16 32) : Prop :=
  (∀ (k0_h7 : k0_cond7 i k0_t4 = 1#1), ∀ a x, ((![v83, v1210] : Fin 2 → IVec S16 32) a x).toNat < S160x240.size a)
theorem k0_idx958_inb : ∀ (i : grid0.Coords) (k0_t4 : Fin (k0_t4_loop i).trips) (v83 : IVec S16 32) (v1210 : IVec S16 32) (k0_hw820 : k0_chk820 i k0_t4 v83 v1210), ∀ (k0_h7 : k0_cond7 i k0_t4 = 1#1), ∀ a x, ((![v83, v1210] : Fin 2 → IVec S16 32) a x).toNat < S160x240.size a := fun i k0_t4 v83 v1210 k0_hw820 k0_h7 => k0_hw820 k0_h7

def k0_chk821 (i : grid0.Coords) (k0_t4 : Fin (k0_t4_loop i).trips) (v83 : IVec S16 32) (v1214 : IVec S16 32) : Prop :=
  (∀ (k0_h7 : k0_cond7 i k0_t4 = 1#1), ∀ a x, ((![v83, v1214] : Fin 2 → IVec S16 32) a x).toNat < S160x240.size a)
theorem k0_idx959_inb : ∀ (i : grid0.Coords) (k0_t4 : Fin (k0_t4_loop i).trips) (v83 : IVec S16 32) (v1214 : IVec S16 32) (k0_hw821 : k0_chk821 i k0_t4 v83 v1214), ∀ (k0_h7 : k0_cond7 i k0_t4 = 1#1), ∀ a x, ((![v83, v1214] : Fin 2 → IVec S16 32) a x).toNat < S160x240.size a := fun i k0_t4 v83 v1214 k0_hw821 k0_h7 => k0_hw821 k0_h7

def k0_chk822 (i : grid0.Coords) (k0_t4 : Fin (k0_t4_loop i).trips) (v83 : IVec S16 32) (v1218 : IVec S16 32) : Prop :=
  (∀ (k0_h7 : k0_cond7 i k0_t4 = 1#1), ∀ a x, ((![v83, v1218] : Fin 2 → IVec S16 32) a x).toNat < S160x240.size a)
theorem k0_idx960_inb : ∀ (i : grid0.Coords) (k0_t4 : Fin (k0_t4_loop i).trips) (v83 : IVec S16 32) (v1218 : IVec S16 32) (k0_hw822 : k0_chk822 i k0_t4 v83 v1218), ∀ (k0_h7 : k0_cond7 i k0_t4 = 1#1), ∀ a x, ((![v83, v1218] : Fin 2 → IVec S16 32) a x).toNat < S160x240.size a := fun i k0_t4 v83 v1218 k0_hw822 k0_h7 => k0_hw822 k0_h7

def k0_chk823 (i : grid0.Coords) (k0_t4 : Fin (k0_t4_loop i).trips) (v83 : IVec S16 32) (v1222 : IVec S16 32) : Prop :=
  (∀ (k0_h7 : k0_cond7 i k0_t4 = 1#1), ∀ a x, ((![v83, v1222] : Fin 2 → IVec S16 32) a x).toNat < S160x240.size a)
theorem k0_idx961_inb : ∀ (i : grid0.Coords) (k0_t4 : Fin (k0_t4_loop i).trips) (v83 : IVec S16 32) (v1222 : IVec S16 32) (k0_hw823 : k0_chk823 i k0_t4 v83 v1222), ∀ (k0_h7 : k0_cond7 i k0_t4 = 1#1), ∀ a x, ((![v83, v1222] : Fin 2 → IVec S16 32) a x).toNat < S160x240.size a := fun i k0_t4 v83 v1222 k0_hw823 k0_h7 => k0_hw823 k0_h7

def k0_chk824 (i : grid0.Coords) (k0_t4 : Fin (k0_t4_loop i).trips) (v83 : IVec S16 32) (v1199 : IVec S16 32) : Prop :=
  (∀ (k0_h7 : k0_cond7 i k0_t4 = 1#1), ∀ a x, ((![v1199] : Fin 1 → IVec S16 32) a x).toNat < S48.size a) ∧
  (∀ (k0_h7 : k0_cond7 i k0_t4 = 1#1), ∀ a x, ((![v83, v1199] : Fin 2 → IVec S16 32) a x).toNat < S160x48.size a)
theorem k0_idx962_inb : ∀ (i : grid0.Coords) (k0_t4 : Fin (k0_t4_loop i).trips) (v83 : IVec S16 32) (v1199 : IVec S16 32) (k0_hw824 : k0_chk824 i k0_t4 v83 v1199), ∀ (k0_h7 : k0_cond7 i k0_t4 = 1#1), ∀ a x, ((![v1199] : Fin 1 → IVec S16 32) a x).toNat < S48.size a := fun i k0_t4 v83 v1199 k0_hw824 k0_h7 => k0_hw824.1 k0_h7
theorem k0_idx963_inb : ∀ (i : grid0.Coords) (k0_t4 : Fin (k0_t4_loop i).trips) (v83 : IVec S16 32) (v1199 : IVec S16 32) (k0_hw824 : k0_chk824 i k0_t4 v83 v1199), ∀ (k0_h7 : k0_cond7 i k0_t4 = 1#1), ∀ a x, ((![v83, v1199] : Fin 2 → IVec S16 32) a x).toNat < S160x48.size a := fun i k0_t4 v83 v1199 k0_hw824 k0_h7 => k0_hw824.2 k0_h7

def k0_chk825 (i : grid0.Coords) (k0_t4 : Fin (k0_t4_loop i).trips) (v83 : IVec S16 32) (v1226 : IVec S16 32) : Prop :=
  (∀ (k0_h7 : k0_cond7 i k0_t4 = 1#1), ∀ a x, ((![v83, v1226] : Fin 2 → IVec S16 32) a x).toNat < S160x240.size a)
theorem k0_idx964_inb : ∀ (i : grid0.Coords) (k0_t4 : Fin (k0_t4_loop i).trips) (v83 : IVec S16 32) (v1226 : IVec S16 32) (k0_hw825 : k0_chk825 i k0_t4 v83 v1226), ∀ (k0_h7 : k0_cond7 i k0_t4 = 1#1), ∀ a x, ((![v83, v1226] : Fin 2 → IVec S16 32) a x).toNat < S160x240.size a := fun i k0_t4 v83 v1226 k0_hw825 k0_h7 => k0_hw825 k0_h7

def k0_chk826 (i : grid0.Coords) (k0_t4 : Fin (k0_t4_loop i).trips) (v83 : IVec S16 32) (v1240 : IVec S16 32) : Prop :=
  (∀ (k0_h7 : k0_cond7 i k0_t4 = 1#1), ∀ a x, ((![v83, v1240] : Fin 2 → IVec S16 32) a x).toNat < S160x240.size a)
theorem k0_idx965_inb : ∀ (i : grid0.Coords) (k0_t4 : Fin (k0_t4_loop i).trips) (v83 : IVec S16 32) (v1240 : IVec S16 32) (k0_hw826 : k0_chk826 i k0_t4 v83 v1240), ∀ (k0_h7 : k0_cond7 i k0_t4 = 1#1), ∀ a x, ((![v83, v1240] : Fin 2 → IVec S16 32) a x).toNat < S160x240.size a := fun i k0_t4 v83 v1240 k0_hw826 k0_h7 => k0_hw826 k0_h7

def k0_chk827 (i : grid0.Coords) (k0_t4 : Fin (k0_t4_loop i).trips) (v83 : IVec S16 32) (v1244 : IVec S16 32) : Prop :=
  (∀ (k0_h7 : k0_cond7 i k0_t4 = 1#1), ∀ a x, ((![v83, v1244] : Fin 2 → IVec S16 32) a x).toNat < S160x240.size a)
theorem k0_idx966_inb : ∀ (i : grid0.Coords) (k0_t4 : Fin (k0_t4_loop i).trips) (v83 : IVec S16 32) (v1244 : IVec S16 32) (k0_hw827 : k0_chk827 i k0_t4 v83 v1244), ∀ (k0_h7 : k0_cond7 i k0_t4 = 1#1), ∀ a x, ((![v83, v1244] : Fin 2 → IVec S16 32) a x).toNat < S160x240.size a := fun i k0_t4 v83 v1244 k0_hw827 k0_h7 => k0_hw827 k0_h7

def k0_chk828 (i : grid0.Coords) (k0_t4 : Fin (k0_t4_loop i).trips) (v83 : IVec S16 32) (v1248 : IVec S16 32) : Prop :=
  (∀ (k0_h7 : k0_cond7 i k0_t4 = 1#1), ∀ a x, ((![v83, v1248] : Fin 2 → IVec S16 32) a x).toNat < S160x240.size a)
theorem k0_idx967_inb : ∀ (i : grid0.Coords) (k0_t4 : Fin (k0_t4_loop i).trips) (v83 : IVec S16 32) (v1248 : IVec S16 32) (k0_hw828 : k0_chk828 i k0_t4 v83 v1248), ∀ (k0_h7 : k0_cond7 i k0_t4 = 1#1), ∀ a x, ((![v83, v1248] : Fin 2 → IVec S16 32) a x).toNat < S160x240.size a := fun i k0_t4 v83 v1248 k0_hw828 k0_h7 => k0_hw828 k0_h7

def k0_chk829 (i : grid0.Coords) (k0_t4 : Fin (k0_t4_loop i).trips) (v83 : IVec S16 32) (v1252 : IVec S16 32) : Prop :=
  (∀ (k0_h7 : k0_cond7 i k0_t4 = 1#1), ∀ a x, ((![v83, v1252] : Fin 2 → IVec S16 32) a x).toNat < S160x240.size a)
theorem k0_idx968_inb : ∀ (i : grid0.Coords) (k0_t4 : Fin (k0_t4_loop i).trips) (v83 : IVec S16 32) (v1252 : IVec S16 32) (k0_hw829 : k0_chk829 i k0_t4 v83 v1252), ∀ (k0_h7 : k0_cond7 i k0_t4 = 1#1), ∀ a x, ((![v83, v1252] : Fin 2 → IVec S16 32) a x).toNat < S160x240.size a := fun i k0_t4 v83 v1252 k0_hw829 k0_h7 => k0_hw829 k0_h7

def k0_chk830 (i : grid0.Coords) (k0_t4 : Fin (k0_t4_loop i).trips) (v83 : IVec S16 32) (v1256 : IVec S16 32) : Prop :=
  (∀ (k0_h7 : k0_cond7 i k0_t4 = 1#1), ∀ a x, ((![v83, v1256] : Fin 2 → IVec S16 32) a x).toNat < S160x240.size a)
theorem k0_idx969_inb : ∀ (i : grid0.Coords) (k0_t4 : Fin (k0_t4_loop i).trips) (v83 : IVec S16 32) (v1256 : IVec S16 32) (k0_hw830 : k0_chk830 i k0_t4 v83 v1256), ∀ (k0_h7 : k0_cond7 i k0_t4 = 1#1), ∀ a x, ((![v83, v1256] : Fin 2 → IVec S16 32) a x).toNat < S160x240.size a := fun i k0_t4 v83 v1256 k0_hw830 k0_h7 => k0_hw830 k0_h7

def k0_chk831 (i : grid0.Coords) (k0_t4 : Fin (k0_t4_loop i).trips) (v83 : IVec S16 32) (v1260 : IVec S16 32) : Prop :=
  (∀ (k0_h7 : k0_cond7 i k0_t4 = 1#1), ∀ a x, ((![v83, v1260] : Fin 2 → IVec S16 32) a x).toNat < S160x240.size a)
theorem k0_idx970_inb : ∀ (i : grid0.Coords) (k0_t4 : Fin (k0_t4_loop i).trips) (v83 : IVec S16 32) (v1260 : IVec S16 32) (k0_hw831 : k0_chk831 i k0_t4 v83 v1260), ∀ (k0_h7 : k0_cond7 i k0_t4 = 1#1), ∀ a x, ((![v83, v1260] : Fin 2 → IVec S16 32) a x).toNat < S160x240.size a := fun i k0_t4 v83 v1260 k0_hw831 k0_h7 => k0_hw831 k0_h7

def k0_chk832 (i : grid0.Coords) (k0_t4 : Fin (k0_t4_loop i).trips) (v83 : IVec S16 32) (v1237 : IVec S16 32) : Prop :=
  (∀ (k0_h7 : k0_cond7 i k0_t4 = 1#1), ∀ a x, ((![v1237] : Fin 1 → IVec S16 32) a x).toNat < S48.size a) ∧
  (∀ (k0_h7 : k0_cond7 i k0_t4 = 1#1), ∀ a x, ((![v83, v1237] : Fin 2 → IVec S16 32) a x).toNat < S160x48.size a)
theorem k0_idx971_inb : ∀ (i : grid0.Coords) (k0_t4 : Fin (k0_t4_loop i).trips) (v83 : IVec S16 32) (v1237 : IVec S16 32) (k0_hw832 : k0_chk832 i k0_t4 v83 v1237), ∀ (k0_h7 : k0_cond7 i k0_t4 = 1#1), ∀ a x, ((![v1237] : Fin 1 → IVec S16 32) a x).toNat < S48.size a := fun i k0_t4 v83 v1237 k0_hw832 k0_h7 => k0_hw832.1 k0_h7
theorem k0_idx972_inb : ∀ (i : grid0.Coords) (k0_t4 : Fin (k0_t4_loop i).trips) (v83 : IVec S16 32) (v1237 : IVec S16 32) (k0_hw832 : k0_chk832 i k0_t4 v83 v1237), ∀ (k0_h7 : k0_cond7 i k0_t4 = 1#1), ∀ a x, ((![v83, v1237] : Fin 2 → IVec S16 32) a x).toNat < S160x48.size a := fun i k0_t4 v83 v1237 k0_hw832 k0_h7 => k0_hw832.2 k0_h7

def k0_chk833 (i : grid0.Coords) (k0_t4 : Fin (k0_t4_loop i).trips) (v83 : IVec S16 32) (v1264 : IVec S16 32) : Prop :=
  (∀ (k0_h7 : k0_cond7 i k0_t4 = 1#1), ∀ a x, ((![v83, v1264] : Fin 2 → IVec S16 32) a x).toNat < S160x240.size a)
theorem k0_idx973_inb : ∀ (i : grid0.Coords) (k0_t4 : Fin (k0_t4_loop i).trips) (v83 : IVec S16 32) (v1264 : IVec S16 32) (k0_hw833 : k0_chk833 i k0_t4 v83 v1264), ∀ (k0_h7 : k0_cond7 i k0_t4 = 1#1), ∀ a x, ((![v83, v1264] : Fin 2 → IVec S16 32) a x).toNat < S160x240.size a := fun i k0_t4 v83 v1264 k0_hw833 k0_h7 => k0_hw833 k0_h7

def k0_chk834 (i : grid0.Coords) (k0_t4 : Fin (k0_t4_loop i).trips) (v83 : IVec S16 32) (v1278 : IVec S16 32) : Prop :=
  (∀ (k0_h7 : k0_cond7 i k0_t4 = 1#1), ∀ a x, ((![v83, v1278] : Fin 2 → IVec S16 32) a x).toNat < S160x240.size a)
theorem k0_idx974_inb : ∀ (i : grid0.Coords) (k0_t4 : Fin (k0_t4_loop i).trips) (v83 : IVec S16 32) (v1278 : IVec S16 32) (k0_hw834 : k0_chk834 i k0_t4 v83 v1278), ∀ (k0_h7 : k0_cond7 i k0_t4 = 1#1), ∀ a x, ((![v83, v1278] : Fin 2 → IVec S16 32) a x).toNat < S160x240.size a := fun i k0_t4 v83 v1278 k0_hw834 k0_h7 => k0_hw834 k0_h7

def k0_chk835 (i : grid0.Coords) (k0_t4 : Fin (k0_t4_loop i).trips) (v83 : IVec S16 32) (v1282 : IVec S16 32) : Prop :=
  (∀ (k0_h7 : k0_cond7 i k0_t4 = 1#1), ∀ a x, ((![v83, v1282] : Fin 2 → IVec S16 32) a x).toNat < S160x240.size a)
theorem k0_idx975_inb : ∀ (i : grid0.Coords) (k0_t4 : Fin (k0_t4_loop i).trips) (v83 : IVec S16 32) (v1282 : IVec S16 32) (k0_hw835 : k0_chk835 i k0_t4 v83 v1282), ∀ (k0_h7 : k0_cond7 i k0_t4 = 1#1), ∀ a x, ((![v83, v1282] : Fin 2 → IVec S16 32) a x).toNat < S160x240.size a := fun i k0_t4 v83 v1282 k0_hw835 k0_h7 => k0_hw835 k0_h7

def k0_chk836 (i : grid0.Coords) (k0_t4 : Fin (k0_t4_loop i).trips) (v83 : IVec S16 32) (v1286 : IVec S16 32) : Prop :=
  (∀ (k0_h7 : k0_cond7 i k0_t4 = 1#1), ∀ a x, ((![v83, v1286] : Fin 2 → IVec S16 32) a x).toNat < S160x240.size a)
theorem k0_idx976_inb : ∀ (i : grid0.Coords) (k0_t4 : Fin (k0_t4_loop i).trips) (v83 : IVec S16 32) (v1286 : IVec S16 32) (k0_hw836 : k0_chk836 i k0_t4 v83 v1286), ∀ (k0_h7 : k0_cond7 i k0_t4 = 1#1), ∀ a x, ((![v83, v1286] : Fin 2 → IVec S16 32) a x).toNat < S160x240.size a := fun i k0_t4 v83 v1286 k0_hw836 k0_h7 => k0_hw836 k0_h7

def k0_chk837 (i : grid0.Coords) (k0_t4 : Fin (k0_t4_loop i).trips) (v83 : IVec S16 32) (v1290 : IVec S16 32) : Prop :=
  (∀ (k0_h7 : k0_cond7 i k0_t4 = 1#1), ∀ a x, ((![v83, v1290] : Fin 2 → IVec S16 32) a x).toNat < S160x240.size a)
theorem k0_idx977_inb : ∀ (i : grid0.Coords) (k0_t4 : Fin (k0_t4_loop i).trips) (v83 : IVec S16 32) (v1290 : IVec S16 32) (k0_hw837 : k0_chk837 i k0_t4 v83 v1290), ∀ (k0_h7 : k0_cond7 i k0_t4 = 1#1), ∀ a x, ((![v83, v1290] : Fin 2 → IVec S16 32) a x).toNat < S160x240.size a := fun i k0_t4 v83 v1290 k0_hw837 k0_h7 => k0_hw837 k0_h7

def k0_chk838 (i : grid0.Coords) (k0_t4 : Fin (k0_t4_loop i).trips) (v83 : IVec S16 32) (v1294 : IVec S16 32) : Prop :=
  (∀ (k0_h7 : k0_cond7 i k0_t4 = 1#1), ∀ a x, ((![v83, v1294] : Fin 2 → IVec S16 32) a x).toNat < S160x240.size a)
theorem k0_idx978_inb : ∀ (i : grid0.Coords) (k0_t4 : Fin (k0_t4_loop i).trips) (v83 : IVec S16 32) (v1294 : IVec S16 32) (k0_hw838 : k0_chk838 i k0_t4 v83 v1294), ∀ (k0_h7 : k0_cond7 i k0_t4 = 1#1), ∀ a x, ((![v83, v1294] : Fin 2 → IVec S16 32) a x).toNat < S160x240.size a := fun i k0_t4 v83 v1294 k0_hw838 k0_h7 => k0_hw838 k0_h7

def k0_chk839 (i : grid0.Coords) (k0_t4 : Fin (k0_t4_loop i).trips) (v83 : IVec S16 32) (v1298 : IVec S16 32) : Prop :=
  (∀ (k0_h7 : k0_cond7 i k0_t4 = 1#1), ∀ a x, ((![v83, v1298] : Fin 2 → IVec S16 32) a x).toNat < S160x240.size a)
theorem k0_idx979_inb : ∀ (i : grid0.Coords) (k0_t4 : Fin (k0_t4_loop i).trips) (v83 : IVec S16 32) (v1298 : IVec S16 32) (k0_hw839 : k0_chk839 i k0_t4 v83 v1298), ∀ (k0_h7 : k0_cond7 i k0_t4 = 1#1), ∀ a x, ((![v83, v1298] : Fin 2 → IVec S16 32) a x).toNat < S160x240.size a := fun i k0_t4 v83 v1298 k0_hw839 k0_h7 => k0_hw839 k0_h7

def k0_chk840 (i : grid0.Coords) (k0_t4 : Fin (k0_t4_loop i).trips) (v83 : IVec S16 32) (v1275 : IVec S16 32) : Prop :=
  (∀ (k0_h7 : k0_cond7 i k0_t4 = 1#1), ∀ a x, ((![v1275] : Fin 1 → IVec S16 32) a x).toNat < S48.size a) ∧
  (∀ (k0_h7 : k0_cond7 i k0_t4 = 1#1), ∀ a x, ((![v83, v1275] : Fin 2 → IVec S16 32) a x).toNat < S160x48.size a)
theorem k0_idx980_inb : ∀ (i : grid0.Coords) (k0_t4 : Fin (k0_t4_loop i).trips) (v83 : IVec S16 32) (v1275 : IVec S16 32) (k0_hw840 : k0_chk840 i k0_t4 v83 v1275), ∀ (k0_h7 : k0_cond7 i k0_t4 = 1#1), ∀ a x, ((![v1275] : Fin 1 → IVec S16 32) a x).toNat < S48.size a := fun i k0_t4 v83 v1275 k0_hw840 k0_h7 => k0_hw840.1 k0_h7
theorem k0_idx981_inb : ∀ (i : grid0.Coords) (k0_t4 : Fin (k0_t4_loop i).trips) (v83 : IVec S16 32) (v1275 : IVec S16 32) (k0_hw840 : k0_chk840 i k0_t4 v83 v1275), ∀ (k0_h7 : k0_cond7 i k0_t4 = 1#1), ∀ a x, ((![v83, v1275] : Fin 2 → IVec S16 32) a x).toNat < S160x48.size a := fun i k0_t4 v83 v1275 k0_hw840 k0_h7 => k0_hw840.2 k0_h7

def k0_chk841 (i : grid0.Coords) (k0_t4 : Fin (k0_t4_loop i).trips) (v83 : IVec S16 32) (v1302 : IVec S16 32) : Prop :=
  (∀ (k0_h7 : k0_cond7 i k0_t4 = 1#1), ∀ a x, ((![v83, v1302] : Fin 2 → IVec S16 32) a x).toNat < S160x240.size a)
theorem k0_idx982_inb : ∀ (i : grid0.Coords) (k0_t4 : Fin (k0_t4_loop i).trips) (v83 : IVec S16 32) (v1302 : IVec S16 32) (k0_hw841 : k0_chk841 i k0_t4 v83 v1302), ∀ (k0_h7 : k0_cond7 i k0_t4 = 1#1), ∀ a x, ((![v83, v1302] : Fin 2 → IVec S16 32) a x).toNat < S160x240.size a := fun i k0_t4 v83 v1302 k0_hw841 k0_h7 => k0_hw841 k0_h7

def k0_chk842 (i : grid0.Coords) (k0_t4 : Fin (k0_t4_loop i).trips) (v83 : IVec S16 32) (v1316 : IVec S16 32) : Prop :=
  (∀ (k0_h7 : k0_cond7 i k0_t4 = 1#1), ∀ a x, ((![v83, v1316] : Fin 2 → IVec S16 32) a x).toNat < S160x240.size a)
theorem k0_idx983_inb : ∀ (i : grid0.Coords) (k0_t4 : Fin (k0_t4_loop i).trips) (v83 : IVec S16 32) (v1316 : IVec S16 32) (k0_hw842 : k0_chk842 i k0_t4 v83 v1316), ∀ (k0_h7 : k0_cond7 i k0_t4 = 1#1), ∀ a x, ((![v83, v1316] : Fin 2 → IVec S16 32) a x).toNat < S160x240.size a := fun i k0_t4 v83 v1316 k0_hw842 k0_h7 => k0_hw842 k0_h7

def k0_chk843 (i : grid0.Coords) (k0_t4 : Fin (k0_t4_loop i).trips) (v83 : IVec S16 32) (v1320 : IVec S16 32) : Prop :=
  (∀ (k0_h7 : k0_cond7 i k0_t4 = 1#1), ∀ a x, ((![v83, v1320] : Fin 2 → IVec S16 32) a x).toNat < S160x240.size a)
theorem k0_idx984_inb : ∀ (i : grid0.Coords) (k0_t4 : Fin (k0_t4_loop i).trips) (v83 : IVec S16 32) (v1320 : IVec S16 32) (k0_hw843 : k0_chk843 i k0_t4 v83 v1320), ∀ (k0_h7 : k0_cond7 i k0_t4 = 1#1), ∀ a x, ((![v83, v1320] : Fin 2 → IVec S16 32) a x).toNat < S160x240.size a := fun i k0_t4 v83 v1320 k0_hw843 k0_h7 => k0_hw843 k0_h7

def k0_chk844 (i : grid0.Coords) (k0_t4 : Fin (k0_t4_loop i).trips) (v83 : IVec S16 32) (v1324 : IVec S16 32) : Prop :=
  (∀ (k0_h7 : k0_cond7 i k0_t4 = 1#1), ∀ a x, ((![v83, v1324] : Fin 2 → IVec S16 32) a x).toNat < S160x240.size a)
theorem k0_idx985_inb : ∀ (i : grid0.Coords) (k0_t4 : Fin (k0_t4_loop i).trips) (v83 : IVec S16 32) (v1324 : IVec S16 32) (k0_hw844 : k0_chk844 i k0_t4 v83 v1324), ∀ (k0_h7 : k0_cond7 i k0_t4 = 1#1), ∀ a x, ((![v83, v1324] : Fin 2 → IVec S16 32) a x).toNat < S160x240.size a := fun i k0_t4 v83 v1324 k0_hw844 k0_h7 => k0_hw844 k0_h7

def k0_chk845 (i : grid0.Coords) (k0_t4 : Fin (k0_t4_loop i).trips) (v83 : IVec S16 32) (v1328 : IVec S16 32) : Prop :=
  (∀ (k0_h7 : k0_cond7 i k0_t4 = 1#1), ∀ a x, ((![v83, v1328] : Fin 2 → IVec S16 32) a x).toNat < S160x240.size a)
theorem k0_idx986_inb : ∀ (i : grid0.Coords) (k0_t4 : Fin (k0_t4_loop i).trips) (v83 : IVec S16 32) (v1328 : IVec S16 32) (k0_hw845 : k0_chk845 i k0_t4 v83 v1328), ∀ (k0_h7 : k0_cond7 i k0_t4 = 1#1), ∀ a x, ((![v83, v1328] : Fin 2 → IVec S16 32) a x).toNat < S160x240.size a := fun i k0_t4 v83 v1328 k0_hw845 k0_h7 => k0_hw845 k0_h7

def k0_chk846 (i : grid0.Coords) (k0_t4 : Fin (k0_t4_loop i).trips) (v83 : IVec S16 32) (v1332 : IVec S16 32) : Prop :=
  (∀ (k0_h7 : k0_cond7 i k0_t4 = 1#1), ∀ a x, ((![v83, v1332] : Fin 2 → IVec S16 32) a x).toNat < S160x240.size a)
theorem k0_idx987_inb : ∀ (i : grid0.Coords) (k0_t4 : Fin (k0_t4_loop i).trips) (v83 : IVec S16 32) (v1332 : IVec S16 32) (k0_hw846 : k0_chk846 i k0_t4 v83 v1332), ∀ (k0_h7 : k0_cond7 i k0_t4 = 1#1), ∀ a x, ((![v83, v1332] : Fin 2 → IVec S16 32) a x).toNat < S160x240.size a := fun i k0_t4 v83 v1332 k0_hw846 k0_h7 => k0_hw846 k0_h7

def k0_chk847 (i : grid0.Coords) (k0_t4 : Fin (k0_t4_loop i).trips) (v83 : IVec S16 32) (v1336 : IVec S16 32) : Prop :=
  (∀ (k0_h7 : k0_cond7 i k0_t4 = 1#1), ∀ a x, ((![v83, v1336] : Fin 2 → IVec S16 32) a x).toNat < S160x240.size a)
theorem k0_idx988_inb : ∀ (i : grid0.Coords) (k0_t4 : Fin (k0_t4_loop i).trips) (v83 : IVec S16 32) (v1336 : IVec S16 32) (k0_hw847 : k0_chk847 i k0_t4 v83 v1336), ∀ (k0_h7 : k0_cond7 i k0_t4 = 1#1), ∀ a x, ((![v83, v1336] : Fin 2 → IVec S16 32) a x).toNat < S160x240.size a := fun i k0_t4 v83 v1336 k0_hw847 k0_h7 => k0_hw847 k0_h7

def k0_chk848 (i : grid0.Coords) (k0_t4 : Fin (k0_t4_loop i).trips) (v83 : IVec S16 32) (v1313 : IVec S16 32) : Prop :=
  (∀ (k0_h7 : k0_cond7 i k0_t4 = 1#1), ∀ a x, ((![v1313] : Fin 1 → IVec S16 32) a x).toNat < S48.size a) ∧
  (∀ (k0_h7 : k0_cond7 i k0_t4 = 1#1), ∀ a x, ((![v83, v1313] : Fin 2 → IVec S16 32) a x).toNat < S160x48.size a)
theorem k0_idx989_inb : ∀ (i : grid0.Coords) (k0_t4 : Fin (k0_t4_loop i).trips) (v83 : IVec S16 32) (v1313 : IVec S16 32) (k0_hw848 : k0_chk848 i k0_t4 v83 v1313), ∀ (k0_h7 : k0_cond7 i k0_t4 = 1#1), ∀ a x, ((![v1313] : Fin 1 → IVec S16 32) a x).toNat < S48.size a := fun i k0_t4 v83 v1313 k0_hw848 k0_h7 => k0_hw848.1 k0_h7
theorem k0_idx990_inb : ∀ (i : grid0.Coords) (k0_t4 : Fin (k0_t4_loop i).trips) (v83 : IVec S16 32) (v1313 : IVec S16 32) (k0_hw848 : k0_chk848 i k0_t4 v83 v1313), ∀ (k0_h7 : k0_cond7 i k0_t4 = 1#1), ∀ a x, ((![v83, v1313] : Fin 2 → IVec S16 32) a x).toNat < S160x48.size a := fun i k0_t4 v83 v1313 k0_hw848 k0_h7 => k0_hw848.2 k0_h7

def k0_chk849 (i : grid0.Coords) (k0_t4 : Fin (k0_t4_loop i).trips) (v83 : IVec S16 32) (v1340 : IVec S16 32) : Prop :=
  (∀ (k0_h7 : k0_cond7 i k0_t4 = 1#1), ∀ a x, ((![v83, v1340] : Fin 2 → IVec S16 32) a x).toNat < S160x240.size a)
theorem k0_idx991_inb : ∀ (i : grid0.Coords) (k0_t4 : Fin (k0_t4_loop i).trips) (v83 : IVec S16 32) (v1340 : IVec S16 32) (k0_hw849 : k0_chk849 i k0_t4 v83 v1340), ∀ (k0_h7 : k0_cond7 i k0_t4 = 1#1), ∀ a x, ((![v83, v1340] : Fin 2 → IVec S16 32) a x).toNat < S160x240.size a := fun i k0_t4 v83 v1340 k0_hw849 k0_h7 => k0_hw849 k0_h7

def k0_chk850 (i : grid0.Coords) (k0_t4 : Fin (k0_t4_loop i).trips) (v83 : IVec S16 32) (v1354 : IVec S16 32) : Prop :=
  (∀ (k0_h7 : k0_cond7 i k0_t4 = 1#1), ∀ a x, ((![v83, v1354] : Fin 2 → IVec S16 32) a x).toNat < S160x240.size a)
theorem k0_idx992_inb : ∀ (i : grid0.Coords) (k0_t4 : Fin (k0_t4_loop i).trips) (v83 : IVec S16 32) (v1354 : IVec S16 32) (k0_hw850 : k0_chk850 i k0_t4 v83 v1354), ∀ (k0_h7 : k0_cond7 i k0_t4 = 1#1), ∀ a x, ((![v83, v1354] : Fin 2 → IVec S16 32) a x).toNat < S160x240.size a := fun i k0_t4 v83 v1354 k0_hw850 k0_h7 => k0_hw850 k0_h7

def k0_chk851 (i : grid0.Coords) (k0_t4 : Fin (k0_t4_loop i).trips) (v83 : IVec S16 32) (v1358 : IVec S16 32) : Prop :=
  (∀ (k0_h7 : k0_cond7 i k0_t4 = 1#1), ∀ a x, ((![v83, v1358] : Fin 2 → IVec S16 32) a x).toNat < S160x240.size a)
theorem k0_idx993_inb : ∀ (i : grid0.Coords) (k0_t4 : Fin (k0_t4_loop i).trips) (v83 : IVec S16 32) (v1358 : IVec S16 32) (k0_hw851 : k0_chk851 i k0_t4 v83 v1358), ∀ (k0_h7 : k0_cond7 i k0_t4 = 1#1), ∀ a x, ((![v83, v1358] : Fin 2 → IVec S16 32) a x).toNat < S160x240.size a := fun i k0_t4 v83 v1358 k0_hw851 k0_h7 => k0_hw851 k0_h7

def k0_chk852 (i : grid0.Coords) (k0_t4 : Fin (k0_t4_loop i).trips) (v83 : IVec S16 32) (v1362 : IVec S16 32) : Prop :=
  (∀ (k0_h7 : k0_cond7 i k0_t4 = 1#1), ∀ a x, ((![v83, v1362] : Fin 2 → IVec S16 32) a x).toNat < S160x240.size a)
theorem k0_idx994_inb : ∀ (i : grid0.Coords) (k0_t4 : Fin (k0_t4_loop i).trips) (v83 : IVec S16 32) (v1362 : IVec S16 32) (k0_hw852 : k0_chk852 i k0_t4 v83 v1362), ∀ (k0_h7 : k0_cond7 i k0_t4 = 1#1), ∀ a x, ((![v83, v1362] : Fin 2 → IVec S16 32) a x).toNat < S160x240.size a := fun i k0_t4 v83 v1362 k0_hw852 k0_h7 => k0_hw852 k0_h7

def k0_chk853 (i : grid0.Coords) (k0_t4 : Fin (k0_t4_loop i).trips) (v83 : IVec S16 32) (v1366 : IVec S16 32) : Prop :=
  (∀ (k0_h7 : k0_cond7 i k0_t4 = 1#1), ∀ a x, ((![v83, v1366] : Fin 2 → IVec S16 32) a x).toNat < S160x240.size a)
theorem k0_idx995_inb : ∀ (i : grid0.Coords) (k0_t4 : Fin (k0_t4_loop i).trips) (v83 : IVec S16 32) (v1366 : IVec S16 32) (k0_hw853 : k0_chk853 i k0_t4 v83 v1366), ∀ (k0_h7 : k0_cond7 i k0_t4 = 1#1), ∀ a x, ((![v83, v1366] : Fin 2 → IVec S16 32) a x).toNat < S160x240.size a := fun i k0_t4 v83 v1366 k0_hw853 k0_h7 => k0_hw853 k0_h7

def k0_chk854 (i : grid0.Coords) (k0_t4 : Fin (k0_t4_loop i).trips) (v83 : IVec S16 32) (v1370 : IVec S16 32) : Prop :=
  (∀ (k0_h7 : k0_cond7 i k0_t4 = 1#1), ∀ a x, ((![v83, v1370] : Fin 2 → IVec S16 32) a x).toNat < S160x240.size a)
theorem k0_idx996_inb : ∀ (i : grid0.Coords) (k0_t4 : Fin (k0_t4_loop i).trips) (v83 : IVec S16 32) (v1370 : IVec S16 32) (k0_hw854 : k0_chk854 i k0_t4 v83 v1370), ∀ (k0_h7 : k0_cond7 i k0_t4 = 1#1), ∀ a x, ((![v83, v1370] : Fin 2 → IVec S16 32) a x).toNat < S160x240.size a := fun i k0_t4 v83 v1370 k0_hw854 k0_h7 => k0_hw854 k0_h7

def k0_chk855 (i : grid0.Coords) (k0_t4 : Fin (k0_t4_loop i).trips) (v83 : IVec S16 32) (v1374 : IVec S16 32) : Prop :=
  (∀ (k0_h7 : k0_cond7 i k0_t4 = 1#1), ∀ a x, ((![v83, v1374] : Fin 2 → IVec S16 32) a x).toNat < S160x240.size a)
theorem k0_idx997_inb : ∀ (i : grid0.Coords) (k0_t4 : Fin (k0_t4_loop i).trips) (v83 : IVec S16 32) (v1374 : IVec S16 32) (k0_hw855 : k0_chk855 i k0_t4 v83 v1374), ∀ (k0_h7 : k0_cond7 i k0_t4 = 1#1), ∀ a x, ((![v83, v1374] : Fin 2 → IVec S16 32) a x).toNat < S160x240.size a := fun i k0_t4 v83 v1374 k0_hw855 k0_h7 => k0_hw855 k0_h7

def k0_chk856 (i : grid0.Coords) (k0_t4 : Fin (k0_t4_loop i).trips) (v83 : IVec S16 32) (v1351 : IVec S16 32) : Prop :=
  (∀ (k0_h7 : k0_cond7 i k0_t4 = 1#1), ∀ a x, ((![v1351] : Fin 1 → IVec S16 32) a x).toNat < S48.size a) ∧
  (∀ (k0_h7 : k0_cond7 i k0_t4 = 1#1), ∀ a x, ((![v83, v1351] : Fin 2 → IVec S16 32) a x).toNat < S160x48.size a)
theorem k0_idx998_inb : ∀ (i : grid0.Coords) (k0_t4 : Fin (k0_t4_loop i).trips) (v83 : IVec S16 32) (v1351 : IVec S16 32) (k0_hw856 : k0_chk856 i k0_t4 v83 v1351), ∀ (k0_h7 : k0_cond7 i k0_t4 = 1#1), ∀ a x, ((![v1351] : Fin 1 → IVec S16 32) a x).toNat < S48.size a := fun i k0_t4 v83 v1351 k0_hw856 k0_h7 => k0_hw856.1 k0_h7
theorem k0_idx999_inb : ∀ (i : grid0.Coords) (k0_t4 : Fin (k0_t4_loop i).trips) (v83 : IVec S16 32) (v1351 : IVec S16 32) (k0_hw856 : k0_chk856 i k0_t4 v83 v1351), ∀ (k0_h7 : k0_cond7 i k0_t4 = 1#1), ∀ a x, ((![v83, v1351] : Fin 2 → IVec S16 32) a x).toNat < S160x48.size a := fun i k0_t4 v83 v1351 k0_hw856 k0_h7 => k0_hw856.2 k0_h7

def k0_chk857 (i : grid0.Coords) (k0_t4 : Fin (k0_t4_loop i).trips) (v83 : IVec S16 32) (v1378 : IVec S16 32) : Prop :=
  (∀ (k0_h7 : k0_cond7 i k0_t4 = 1#1), ∀ a x, ((![v83, v1378] : Fin 2 → IVec S16 32) a x).toNat < S160x240.size a)
theorem k0_idx1000_inb : ∀ (i : grid0.Coords) (k0_t4 : Fin (k0_t4_loop i).trips) (v83 : IVec S16 32) (v1378 : IVec S16 32) (k0_hw857 : k0_chk857 i k0_t4 v83 v1378), ∀ (k0_h7 : k0_cond7 i k0_t4 = 1#1), ∀ a x, ((![v83, v1378] : Fin 2 → IVec S16 32) a x).toNat < S160x240.size a := fun i k0_t4 v83 v1378 k0_hw857 k0_h7 => k0_hw857 k0_h7

def k0_chk858 (i : grid0.Coords) (k0_t4 : Fin (k0_t4_loop i).trips) (v83 : IVec S16 32) (v1392 : IVec S16 32) : Prop :=
  (∀ (k0_h7 : k0_cond7 i k0_t4 = 1#1), ∀ a x, ((![v83, v1392] : Fin 2 → IVec S16 32) a x).toNat < S160x240.size a)
theorem k0_idx1001_inb : ∀ (i : grid0.Coords) (k0_t4 : Fin (k0_t4_loop i).trips) (v83 : IVec S16 32) (v1392 : IVec S16 32) (k0_hw858 : k0_chk858 i k0_t4 v83 v1392), ∀ (k0_h7 : k0_cond7 i k0_t4 = 1#1), ∀ a x, ((![v83, v1392] : Fin 2 → IVec S16 32) a x).toNat < S160x240.size a := fun i k0_t4 v83 v1392 k0_hw858 k0_h7 => k0_hw858 k0_h7

def k0_chk859 (i : grid0.Coords) (k0_t4 : Fin (k0_t4_loop i).trips) (v83 : IVec S16 32) (v1396 : IVec S16 32) : Prop :=
  (∀ (k0_h7 : k0_cond7 i k0_t4 = 1#1), ∀ a x, ((![v83, v1396] : Fin 2 → IVec S16 32) a x).toNat < S160x240.size a)
theorem k0_idx1002_inb : ∀ (i : grid0.Coords) (k0_t4 : Fin (k0_t4_loop i).trips) (v83 : IVec S16 32) (v1396 : IVec S16 32) (k0_hw859 : k0_chk859 i k0_t4 v83 v1396), ∀ (k0_h7 : k0_cond7 i k0_t4 = 1#1), ∀ a x, ((![v83, v1396] : Fin 2 → IVec S16 32) a x).toNat < S160x240.size a := fun i k0_t4 v83 v1396 k0_hw859 k0_h7 => k0_hw859 k0_h7

def k0_chk860 (i : grid0.Coords) (k0_t4 : Fin (k0_t4_loop i).trips) (v83 : IVec S16 32) (v1400 : IVec S16 32) : Prop :=
  (∀ (k0_h7 : k0_cond7 i k0_t4 = 1#1), ∀ a x, ((![v83, v1400] : Fin 2 → IVec S16 32) a x).toNat < S160x240.size a)
theorem k0_idx1003_inb : ∀ (i : grid0.Coords) (k0_t4 : Fin (k0_t4_loop i).trips) (v83 : IVec S16 32) (v1400 : IVec S16 32) (k0_hw860 : k0_chk860 i k0_t4 v83 v1400), ∀ (k0_h7 : k0_cond7 i k0_t4 = 1#1), ∀ a x, ((![v83, v1400] : Fin 2 → IVec S16 32) a x).toNat < S160x240.size a := fun i k0_t4 v83 v1400 k0_hw860 k0_h7 => k0_hw860 k0_h7

def k0_chk861 (i : grid0.Coords) (k0_t4 : Fin (k0_t4_loop i).trips) (v83 : IVec S16 32) (v1404 : IVec S16 32) : Prop :=
  (∀ (k0_h7 : k0_cond7 i k0_t4 = 1#1), ∀ a x, ((![v83, v1404] : Fin 2 → IVec S16 32) a x).toNat < S160x240.size a)
theorem k0_idx1004_inb : ∀ (i : grid0.Coords) (k0_t4 : Fin (k0_t4_loop i).trips) (v83 : IVec S16 32) (v1404 : IVec S16 32) (k0_hw861 : k0_chk861 i k0_t4 v83 v1404), ∀ (k0_h7 : k0_cond7 i k0_t4 = 1#1), ∀ a x, ((![v83, v1404] : Fin 2 → IVec S16 32) a x).toNat < S160x240.size a := fun i k0_t4 v83 v1404 k0_hw861 k0_h7 => k0_hw861 k0_h7

def k0_chk862 (i : grid0.Coords) (k0_t4 : Fin (k0_t4_loop i).trips) (v83 : IVec S16 32) (v1408 : IVec S16 32) : Prop :=
  (∀ (k0_h7 : k0_cond7 i k0_t4 = 1#1), ∀ a x, ((![v83, v1408] : Fin 2 → IVec S16 32) a x).toNat < S160x240.size a)
theorem k0_idx1005_inb : ∀ (i : grid0.Coords) (k0_t4 : Fin (k0_t4_loop i).trips) (v83 : IVec S16 32) (v1408 : IVec S16 32) (k0_hw862 : k0_chk862 i k0_t4 v83 v1408), ∀ (k0_h7 : k0_cond7 i k0_t4 = 1#1), ∀ a x, ((![v83, v1408] : Fin 2 → IVec S16 32) a x).toNat < S160x240.size a := fun i k0_t4 v83 v1408 k0_hw862 k0_h7 => k0_hw862 k0_h7

def k0_chk863 (i : grid0.Coords) (k0_t4 : Fin (k0_t4_loop i).trips) (v83 : IVec S16 32) (v1412 : IVec S16 32) : Prop :=
  (∀ (k0_h7 : k0_cond7 i k0_t4 = 1#1), ∀ a x, ((![v83, v1412] : Fin 2 → IVec S16 32) a x).toNat < S160x240.size a)
theorem k0_idx1006_inb : ∀ (i : grid0.Coords) (k0_t4 : Fin (k0_t4_loop i).trips) (v83 : IVec S16 32) (v1412 : IVec S16 32) (k0_hw863 : k0_chk863 i k0_t4 v83 v1412), ∀ (k0_h7 : k0_cond7 i k0_t4 = 1#1), ∀ a x, ((![v83, v1412] : Fin 2 → IVec S16 32) a x).toNat < S160x240.size a := fun i k0_t4 v83 v1412 k0_hw863 k0_h7 => k0_hw863 k0_h7

def k0_chk864 (i : grid0.Coords) (k0_t4 : Fin (k0_t4_loop i).trips) (v83 : IVec S16 32) (v1389 : IVec S16 32) : Prop :=
  (∀ (k0_h7 : k0_cond7 i k0_t4 = 1#1), ∀ a x, ((![v1389] : Fin 1 → IVec S16 32) a x).toNat < S48.size a) ∧
  (∀ (k0_h7 : k0_cond7 i k0_t4 = 1#1), ∀ a x, ((![v83, v1389] : Fin 2 → IVec S16 32) a x).toNat < S160x48.size a)
theorem k0_idx1007_inb : ∀ (i : grid0.Coords) (k0_t4 : Fin (k0_t4_loop i).trips) (v83 : IVec S16 32) (v1389 : IVec S16 32) (k0_hw864 : k0_chk864 i k0_t4 v83 v1389), ∀ (k0_h7 : k0_cond7 i k0_t4 = 1#1), ∀ a x, ((![v1389] : Fin 1 → IVec S16 32) a x).toNat < S48.size a := fun i k0_t4 v83 v1389 k0_hw864 k0_h7 => k0_hw864.1 k0_h7
theorem k0_idx1008_inb : ∀ (i : grid0.Coords) (k0_t4 : Fin (k0_t4_loop i).trips) (v83 : IVec S16 32) (v1389 : IVec S16 32) (k0_hw864 : k0_chk864 i k0_t4 v83 v1389), ∀ (k0_h7 : k0_cond7 i k0_t4 = 1#1), ∀ a x, ((![v83, v1389] : Fin 2 → IVec S16 32) a x).toNat < S160x48.size a := fun i k0_t4 v83 v1389 k0_hw864 k0_h7 => k0_hw864.2 k0_h7
def k0_off10 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c60_i32 : BitVec 32 := 60#32
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_21 : BitVec 32 := 2#32
  let v49 : BitVec 32 := Scalar.muli arg12 c2_i32_21
  let c0_i32_22 : BitVec 32 := 0#32
  let v50 : BitVec 32 := Scalar.addi v49 c0_i32_22
  let c32_i32_38 : BitVec 32 := 32#32
  let v74 : BitVec 32 := Scalar.muli v50 c32_i32_38
  let v75 : BitVec 32 := Scalar.addi v1 v74
  let c160_i32_39 : BitVec 32 := 160#32
  let v76 : BitVec 32 := Scalar.muli v75 c160_i32_39
  let c0_i32_40 : BitVec 32 := 0#32
  ![v76.toNat, 0]
def k0_cond8 (i : grid0.Coords) (k0_t4 : Fin (k0_t4_loop i).trips) : BitVec 1 :=
  let c0_i32_17 : BitVec 32 := 0#32
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_26 : BitVec 32 := 2#32
  let v58 : BitVec 32 := Scalar.muli arg12 c2_i32_26
  let c1_i32_27 : BitVec 32 := 1#32
  let v59 : BitVec 32 := Scalar.addi v58 c1_i32_27
  let c1_i32_28 : BitVec 32 := 1#32
  let v60 : BitVec 32 := Scalar.addi v59 c1_i32_28
  let v61 : BitVec 1 := Scalar.cmpi .slt v60 v21
  let v62 : BitVec 32 := Scalar.extui v61
  let c0_i32_29 : BitVec 32 := 0#32
  let v63 : BitVec 1 := Scalar.cmpi .ne v62 c0_i32_29
  v63

def k0_off11 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c60_i32 : BitVec 32 := 60#32
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_26 : BitVec 32 := 2#32
  let v58 : BitVec 32 := Scalar.muli arg12 c2_i32_26
  let c1_i32_27 : BitVec 32 := 1#32
  let v59 : BitVec 32 := Scalar.addi v58 c1_i32_27
  let c1_i32_28 : BitVec 32 := 1#32
  let v60 : BitVec 32 := Scalar.addi v59 c1_i32_28
  let c32_i32_31 : BitVec 32 := 32#32
  let v67 : BitVec 32 := Scalar.muli v60 c32_i32_31
  let v68 : BitVec 32 := Scalar.addi v1 v67
  let c160_i32 : BitVec 32 := 160#32
  let v69 : BitVec 32 := Scalar.muli v68 c160_i32
  let c0_i32_32 : BitVec 32 := 0#32
  ![v69.toNat, 0]
def k0_cond9 (i : grid0.Coords) (k0_t4 : Fin (k0_t4_loop i).trips) : BitVec 1 :=
  let c0_i32_17 : BitVec 32 := 0#32
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_26 : BitVec 32 := 2#32
  let v58 : BitVec 32 := Scalar.muli arg12 c2_i32_26
  let c1_i32_27 : BitVec 32 := 1#32
  let v59 : BitVec 32 := Scalar.addi v58 c1_i32_27
  let v64 : BitVec 1 := Scalar.cmpi .slt v59 v21
  let v65 : BitVec 32 := Scalar.extui v64
  let c0_i32_30 : BitVec 32 := 0#32
  let v66 : BitVec 1 := Scalar.cmpi .ne v65 c0_i32_30
  v66

def k0_off12 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c60_i32 : BitVec 32 := 60#32
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_26 : BitVec 32 := 2#32
  let v58 : BitVec 32 := Scalar.muli arg12 c2_i32_26
  let c1_i32_27 : BitVec 32 := 1#32
  let v59 : BitVec 32 := Scalar.addi v58 c1_i32_27
  let c32_i32_31 : BitVec 32 := 32#32
  let v67 : BitVec 32 := Scalar.muli v59 c32_i32_31
  let v68 : BitVec 32 := Scalar.addi v1 v67
  let c160_i32 : BitVec 32 := 160#32
  let v69 : BitVec 32 := Scalar.muli v68 c160_i32
  let c0_i32_32 : BitVec 32 := 0#32
  ![v69.toNat, 0]
@[reducible] def k0_t6_loop : Scf.Loop 32 :=
  let c0_i32_35 : BitVec 32 := 0#32
  let c10_i32 : BitVec 32 := 10#32
  let v73 : BitVec 32 := Scalar.addi c0_i32_35 c10_i32
  let c1_i32_36 : BitVec 32 := 1#32
  ⟨c0_i32_35, v73, c1_i32_36⟩

def k0_chk866 (i : grid0.Coords) (k0_t4 : Fin (k0_t4_loop i).trips) (v83 : IVec S16 32) (v86 : IVec S16 32) : Prop :=
  (∀ (k0_h9 : k0_cond9 i k0_t4 = 1#1), ∀ a x, ((![v83, v86] : Fin 2 → IVec S16 32) a x).toNat < S160x240.size a)
theorem k0_idx1010_inb : ∀ (i : grid0.Coords) (k0_t4 : Fin (k0_t4_loop i).trips) (v83 : IVec S16 32) (v86 : IVec S16 32) (k0_hw866 : k0_chk866 i k0_t4 v83 v86), ∀ (k0_h9 : k0_cond9 i k0_t4 = 1#1), ∀ a x, ((![v83, v86] : Fin 2 → IVec S16 32) a x).toNat < S160x240.size a := fun i k0_t4 v83 v86 k0_hw866 k0_h9 => k0_hw866 k0_h9

def k0_chk867 (i : grid0.Coords) (k0_t4 : Fin (k0_t4_loop i).trips) (v83 : IVec S16 32) (v90 : IVec S16 32) : Prop :=
  (∀ (k0_h9 : k0_cond9 i k0_t4 = 1#1), ∀ a x, ((![v83, v90] : Fin 2 → IVec S16 32) a x).toNat < S160x240.size a)
theorem k0_idx1011_inb : ∀ (i : grid0.Coords) (k0_t4 : Fin (k0_t4_loop i).trips) (v83 : IVec S16 32) (v90 : IVec S16 32) (k0_hw867 : k0_chk867 i k0_t4 v83 v90), ∀ (k0_h9 : k0_cond9 i k0_t4 = 1#1), ∀ a x, ((![v83, v90] : Fin 2 → IVec S16 32) a x).toNat < S160x240.size a := fun i k0_t4 v83 v90 k0_hw867 k0_h9 => k0_hw867 k0_h9

def k0_chk868 (i : grid0.Coords) (k0_t4 : Fin (k0_t4_loop i).trips) (v72 : IVec S16 32) : Prop :=
  (∀ (k0_h9 : k0_cond9 i k0_t4 = 1#1), ∀ a x, ((![v72] : Fin 1 → IVec S16 32) a x).toNat < S48.size a)
theorem k0_idx1012_inb : ∀ (i : grid0.Coords) (k0_t4 : Fin (k0_t4_loop i).trips) (v72 : IVec S16 32) (k0_hw868 : k0_chk868 i k0_t4 v72), ∀ (k0_h9 : k0_cond9 i k0_t4 = 1#1), ∀ a x, ((![v72] : Fin 1 → IVec S16 32) a x).toNat < S48.size a := fun i k0_t4 v72 k0_hw868 k0_h9 => k0_hw868 k0_h9

def k0_chk865 (i : grid0.Coords) (k0_t4 : Fin (k0_t4_loop i).trips) (v72 : IVec S16 32) (v83 : IVec S16 32) : Prop :=
  (∀ (k0_h9 : k0_cond9 i k0_t4 = 1#1), ∀ a x, ((![v83, v72] : Fin 2 → IVec S16 32) a x).toNat < S160x240.size a) ∧
  (∀ (k0_h9 : k0_cond9 i k0_t4 = 1#1), ∀ a x, ((![v83, v72] : Fin 2 → IVec S16 32) a x).toNat < S160x48.size a)
theorem k0_idx1009_inb : ∀ (i : grid0.Coords) (k0_t4 : Fin (k0_t4_loop i).trips) (v72 : IVec S16 32) (v83 : IVec S16 32) (k0_hw865 : k0_chk865 i k0_t4 v72 v83), ∀ (k0_h9 : k0_cond9 i k0_t4 = 1#1), ∀ a x, ((![v83, v72] : Fin 2 → IVec S16 32) a x).toNat < S160x240.size a := fun i k0_t4 v72 v83 k0_hw865 k0_h9 => k0_hw865.1 k0_h9
theorem k0_idx1013_inb : ∀ (i : grid0.Coords) (k0_t4 : Fin (k0_t4_loop i).trips) (v72 : IVec S16 32) (v83 : IVec S16 32) (k0_hw865 : k0_chk865 i k0_t4 v72 v83), ∀ (k0_h9 : k0_cond9 i k0_t4 = 1#1), ∀ a x, ((![v83, v72] : Fin 2 → IVec S16 32) a x).toNat < S160x48.size a := fun i k0_t4 v72 v83 k0_hw865 k0_h9 => k0_hw865.2 k0_h9

def k0_chk869 (i : grid0.Coords) (k0_t4 : Fin (k0_t4_loop i).trips) (v83 : IVec S16 32) (v94 : IVec S16 32) : Prop :=
  (∀ (k0_h9 : k0_cond9 i k0_t4 = 1#1), ∀ a x, ((![v83, v94] : Fin 2 → IVec S16 32) a x).toNat < S160x240.size a)
theorem k0_idx1014_inb : ∀ (i : grid0.Coords) (k0_t4 : Fin (k0_t4_loop i).trips) (v83 : IVec S16 32) (v94 : IVec S16 32) (k0_hw869 : k0_chk869 i k0_t4 v83 v94), ∀ (k0_h9 : k0_cond9 i k0_t4 = 1#1), ∀ a x, ((![v83, v94] : Fin 2 → IVec S16 32) a x).toNat < S160x240.size a := fun i k0_t4 v83 v94 k0_hw869 k0_h9 => k0_hw869 k0_h9

def k0_chk870 (i : grid0.Coords) (k0_t4 : Fin (k0_t4_loop i).trips) (v83 : IVec S16 32) (v104 : IVec S16 32) : Prop :=
  (∀ (k0_h9 : k0_cond9 i k0_t4 = 1#1), ∀ a x, ((![v83, v104] : Fin 2 → IVec S16 32) a x).toNat < S160x240.size a)
theorem k0_idx1015_inb : ∀ (i : grid0.Coords) (k0_t4 : Fin (k0_t4_loop i).trips) (v83 : IVec S16 32) (v104 : IVec S16 32) (k0_hw870 : k0_chk870 i k0_t4 v83 v104), ∀ (k0_h9 : k0_cond9 i k0_t4 = 1#1), ∀ a x, ((![v83, v104] : Fin 2 → IVec S16 32) a x).toNat < S160x240.size a := fun i k0_t4 v83 v104 k0_hw870 k0_h9 => k0_hw870 k0_h9

def k0_chk871 (i : grid0.Coords) (k0_t4 : Fin (k0_t4_loop i).trips) (v83 : IVec S16 32) (v108 : IVec S16 32) : Prop :=
  (∀ (k0_h9 : k0_cond9 i k0_t4 = 1#1), ∀ a x, ((![v83, v108] : Fin 2 → IVec S16 32) a x).toNat < S160x240.size a)
theorem k0_idx1016_inb : ∀ (i : grid0.Coords) (k0_t4 : Fin (k0_t4_loop i).trips) (v83 : IVec S16 32) (v108 : IVec S16 32) (k0_hw871 : k0_chk871 i k0_t4 v83 v108), ∀ (k0_h9 : k0_cond9 i k0_t4 = 1#1), ∀ a x, ((![v83, v108] : Fin 2 → IVec S16 32) a x).toNat < S160x240.size a := fun i k0_t4 v83 v108 k0_hw871 k0_h9 => k0_hw871 k0_h9

def k0_chk872 (i : grid0.Coords) (k0_t4 : Fin (k0_t4_loop i).trips) (v83 : IVec S16 32) (v101 : IVec S16 32) : Prop :=
  (∀ (k0_h9 : k0_cond9 i k0_t4 = 1#1), ∀ a x, ((![v101] : Fin 1 → IVec S16 32) a x).toNat < S48.size a) ∧
  (∀ (k0_h9 : k0_cond9 i k0_t4 = 1#1), ∀ a x, ((![v83, v101] : Fin 2 → IVec S16 32) a x).toNat < S160x48.size a)
theorem k0_idx1017_inb : ∀ (i : grid0.Coords) (k0_t4 : Fin (k0_t4_loop i).trips) (v83 : IVec S16 32) (v101 : IVec S16 32) (k0_hw872 : k0_chk872 i k0_t4 v83 v101), ∀ (k0_h9 : k0_cond9 i k0_t4 = 1#1), ∀ a x, ((![v101] : Fin 1 → IVec S16 32) a x).toNat < S48.size a := fun i k0_t4 v83 v101 k0_hw872 k0_h9 => k0_hw872.1 k0_h9
theorem k0_idx1018_inb : ∀ (i : grid0.Coords) (k0_t4 : Fin (k0_t4_loop i).trips) (v83 : IVec S16 32) (v101 : IVec S16 32) (k0_hw872 : k0_chk872 i k0_t4 v83 v101), ∀ (k0_h9 : k0_cond9 i k0_t4 = 1#1), ∀ a x, ((![v83, v101] : Fin 2 → IVec S16 32) a x).toNat < S160x48.size a := fun i k0_t4 v83 v101 k0_hw872 k0_h9 => k0_hw872.2 k0_h9

def k0_chk873 (i : grid0.Coords) (k0_t4 : Fin (k0_t4_loop i).trips) (v83 : IVec S16 32) (v112 : IVec S16 32) : Prop :=
  (∀ (k0_h9 : k0_cond9 i k0_t4 = 1#1), ∀ a x, ((![v83, v112] : Fin 2 → IVec S16 32) a x).toNat < S160x240.size a)
theorem k0_idx1019_inb : ∀ (i : grid0.Coords) (k0_t4 : Fin (k0_t4_loop i).trips) (v83 : IVec S16 32) (v112 : IVec S16 32) (k0_hw873 : k0_chk873 i k0_t4 v83 v112), ∀ (k0_h9 : k0_cond9 i k0_t4 = 1#1), ∀ a x, ((![v83, v112] : Fin 2 → IVec S16 32) a x).toNat < S160x240.size a := fun i k0_t4 v83 v112 k0_hw873 k0_h9 => k0_hw873 k0_h9

def k0_chk874 (i : grid0.Coords) (k0_t4 : Fin (k0_t4_loop i).trips) (v83 : IVec S16 32) (v122 : IVec S16 32) : Prop :=
  (∀ (k0_h9 : k0_cond9 i k0_t4 = 1#1), ∀ a x, ((![v83, v122] : Fin 2 → IVec S16 32) a x).toNat < S160x240.size a)
theorem k0_idx1020_inb : ∀ (i : grid0.Coords) (k0_t4 : Fin (k0_t4_loop i).trips) (v83 : IVec S16 32) (v122 : IVec S16 32) (k0_hw874 : k0_chk874 i k0_t4 v83 v122), ∀ (k0_h9 : k0_cond9 i k0_t4 = 1#1), ∀ a x, ((![v83, v122] : Fin 2 → IVec S16 32) a x).toNat < S160x240.size a := fun i k0_t4 v83 v122 k0_hw874 k0_h9 => k0_hw874 k0_h9

def k0_chk875 (i : grid0.Coords) (k0_t4 : Fin (k0_t4_loop i).trips) (v83 : IVec S16 32) (v126 : IVec S16 32) : Prop :=
  (∀ (k0_h9 : k0_cond9 i k0_t4 = 1#1), ∀ a x, ((![v83, v126] : Fin 2 → IVec S16 32) a x).toNat < S160x240.size a)
theorem k0_idx1021_inb : ∀ (i : grid0.Coords) (k0_t4 : Fin (k0_t4_loop i).trips) (v83 : IVec S16 32) (v126 : IVec S16 32) (k0_hw875 : k0_chk875 i k0_t4 v83 v126), ∀ (k0_h9 : k0_cond9 i k0_t4 = 1#1), ∀ a x, ((![v83, v126] : Fin 2 → IVec S16 32) a x).toNat < S160x240.size a := fun i k0_t4 v83 v126 k0_hw875 k0_h9 => k0_hw875 k0_h9

def k0_chk876 (i : grid0.Coords) (k0_t4 : Fin (k0_t4_loop i).trips) (v83 : IVec S16 32) (v119 : IVec S16 32) : Prop :=
  (∀ (k0_h9 : k0_cond9 i k0_t4 = 1#1), ∀ a x, ((![v119] : Fin 1 → IVec S16 32) a x).toNat < S48.size a) ∧
  (∀ (k0_h9 : k0_cond9 i k0_t4 = 1#1), ∀ a x, ((![v83, v119] : Fin 2 → IVec S16 32) a x).toNat < S160x48.size a)
theorem k0_idx1022_inb : ∀ (i : grid0.Coords) (k0_t4 : Fin (k0_t4_loop i).trips) (v83 : IVec S16 32) (v119 : IVec S16 32) (k0_hw876 : k0_chk876 i k0_t4 v83 v119), ∀ (k0_h9 : k0_cond9 i k0_t4 = 1#1), ∀ a x, ((![v119] : Fin 1 → IVec S16 32) a x).toNat < S48.size a := fun i k0_t4 v83 v119 k0_hw876 k0_h9 => k0_hw876.1 k0_h9
theorem k0_idx1023_inb : ∀ (i : grid0.Coords) (k0_t4 : Fin (k0_t4_loop i).trips) (v83 : IVec S16 32) (v119 : IVec S16 32) (k0_hw876 : k0_chk876 i k0_t4 v83 v119), ∀ (k0_h9 : k0_cond9 i k0_t4 = 1#1), ∀ a x, ((![v83, v119] : Fin 2 → IVec S16 32) a x).toNat < S160x48.size a := fun i k0_t4 v83 v119 k0_hw876 k0_h9 => k0_hw876.2 k0_h9

def k0_chk877 (i : grid0.Coords) (k0_t4 : Fin (k0_t4_loop i).trips) (v83 : IVec S16 32) (v130 : IVec S16 32) : Prop :=
  (∀ (k0_h9 : k0_cond9 i k0_t4 = 1#1), ∀ a x, ((![v83, v130] : Fin 2 → IVec S16 32) a x).toNat < S160x240.size a)
theorem k0_idx1024_inb : ∀ (i : grid0.Coords) (k0_t4 : Fin (k0_t4_loop i).trips) (v83 : IVec S16 32) (v130 : IVec S16 32) (k0_hw877 : k0_chk877 i k0_t4 v83 v130), ∀ (k0_h9 : k0_cond9 i k0_t4 = 1#1), ∀ a x, ((![v83, v130] : Fin 2 → IVec S16 32) a x).toNat < S160x240.size a := fun i k0_t4 v83 v130 k0_hw877 k0_h9 => k0_hw877 k0_h9

def k0_chk878 (i : grid0.Coords) (k0_t4 : Fin (k0_t4_loop i).trips) (v83 : IVec S16 32) (v140 : IVec S16 32) : Prop :=
  (∀ (k0_h9 : k0_cond9 i k0_t4 = 1#1), ∀ a x, ((![v83, v140] : Fin 2 → IVec S16 32) a x).toNat < S160x240.size a)
theorem k0_idx1025_inb : ∀ (i : grid0.Coords) (k0_t4 : Fin (k0_t4_loop i).trips) (v83 : IVec S16 32) (v140 : IVec S16 32) (k0_hw878 : k0_chk878 i k0_t4 v83 v140), ∀ (k0_h9 : k0_cond9 i k0_t4 = 1#1), ∀ a x, ((![v83, v140] : Fin 2 → IVec S16 32) a x).toNat < S160x240.size a := fun i k0_t4 v83 v140 k0_hw878 k0_h9 => k0_hw878 k0_h9

def k0_chk879 (i : grid0.Coords) (k0_t4 : Fin (k0_t4_loop i).trips) (v83 : IVec S16 32) (v144 : IVec S16 32) : Prop :=
  (∀ (k0_h9 : k0_cond9 i k0_t4 = 1#1), ∀ a x, ((![v83, v144] : Fin 2 → IVec S16 32) a x).toNat < S160x240.size a)
theorem k0_idx1026_inb : ∀ (i : grid0.Coords) (k0_t4 : Fin (k0_t4_loop i).trips) (v83 : IVec S16 32) (v144 : IVec S16 32) (k0_hw879 : k0_chk879 i k0_t4 v83 v144), ∀ (k0_h9 : k0_cond9 i k0_t4 = 1#1), ∀ a x, ((![v83, v144] : Fin 2 → IVec S16 32) a x).toNat < S160x240.size a := fun i k0_t4 v83 v144 k0_hw879 k0_h9 => k0_hw879 k0_h9

def k0_chk880 (i : grid0.Coords) (k0_t4 : Fin (k0_t4_loop i).trips) (v83 : IVec S16 32) (v137 : IVec S16 32) : Prop :=
  (∀ (k0_h9 : k0_cond9 i k0_t4 = 1#1), ∀ a x, ((![v137] : Fin 1 → IVec S16 32) a x).toNat < S48.size a) ∧
  (∀ (k0_h9 : k0_cond9 i k0_t4 = 1#1), ∀ a x, ((![v83, v137] : Fin 2 → IVec S16 32) a x).toNat < S160x48.size a)
theorem k0_idx1027_inb : ∀ (i : grid0.Coords) (k0_t4 : Fin (k0_t4_loop i).trips) (v83 : IVec S16 32) (v137 : IVec S16 32) (k0_hw880 : k0_chk880 i k0_t4 v83 v137), ∀ (k0_h9 : k0_cond9 i k0_t4 = 1#1), ∀ a x, ((![v137] : Fin 1 → IVec S16 32) a x).toNat < S48.size a := fun i k0_t4 v83 v137 k0_hw880 k0_h9 => k0_hw880.1 k0_h9
theorem k0_idx1028_inb : ∀ (i : grid0.Coords) (k0_t4 : Fin (k0_t4_loop i).trips) (v83 : IVec S16 32) (v137 : IVec S16 32) (k0_hw880 : k0_chk880 i k0_t4 v83 v137), ∀ (k0_h9 : k0_cond9 i k0_t4 = 1#1), ∀ a x, ((![v83, v137] : Fin 2 → IVec S16 32) a x).toNat < S160x48.size a := fun i k0_t4 v83 v137 k0_hw880 k0_h9 => k0_hw880.2 k0_h9

def k0_chk881 (i : grid0.Coords) (k0_t4 : Fin (k0_t4_loop i).trips) (v83 : IVec S16 32) (v148 : IVec S16 32) : Prop :=
  (∀ (k0_h9 : k0_cond9 i k0_t4 = 1#1), ∀ a x, ((![v83, v148] : Fin 2 → IVec S16 32) a x).toNat < S160x240.size a)
theorem k0_idx1029_inb : ∀ (i : grid0.Coords) (k0_t4 : Fin (k0_t4_loop i).trips) (v83 : IVec S16 32) (v148 : IVec S16 32) (k0_hw881 : k0_chk881 i k0_t4 v83 v148), ∀ (k0_h9 : k0_cond9 i k0_t4 = 1#1), ∀ a x, ((![v83, v148] : Fin 2 → IVec S16 32) a x).toNat < S160x240.size a := fun i k0_t4 v83 v148 k0_hw881 k0_h9 => k0_hw881 k0_h9

def k0_chk882 (i : grid0.Coords) (k0_t4 : Fin (k0_t4_loop i).trips) (v83 : IVec S16 32) (v158 : IVec S16 32) : Prop :=
  (∀ (k0_h9 : k0_cond9 i k0_t4 = 1#1), ∀ a x, ((![v83, v158] : Fin 2 → IVec S16 32) a x).toNat < S160x240.size a)
theorem k0_idx1030_inb : ∀ (i : grid0.Coords) (k0_t4 : Fin (k0_t4_loop i).trips) (v83 : IVec S16 32) (v158 : IVec S16 32) (k0_hw882 : k0_chk882 i k0_t4 v83 v158), ∀ (k0_h9 : k0_cond9 i k0_t4 = 1#1), ∀ a x, ((![v83, v158] : Fin 2 → IVec S16 32) a x).toNat < S160x240.size a := fun i k0_t4 v83 v158 k0_hw882 k0_h9 => k0_hw882 k0_h9

def k0_chk883 (i : grid0.Coords) (k0_t4 : Fin (k0_t4_loop i).trips) (v83 : IVec S16 32) (v162 : IVec S16 32) : Prop :=
  (∀ (k0_h9 : k0_cond9 i k0_t4 = 1#1), ∀ a x, ((![v83, v162] : Fin 2 → IVec S16 32) a x).toNat < S160x240.size a)
theorem k0_idx1031_inb : ∀ (i : grid0.Coords) (k0_t4 : Fin (k0_t4_loop i).trips) (v83 : IVec S16 32) (v162 : IVec S16 32) (k0_hw883 : k0_chk883 i k0_t4 v83 v162), ∀ (k0_h9 : k0_cond9 i k0_t4 = 1#1), ∀ a x, ((![v83, v162] : Fin 2 → IVec S16 32) a x).toNat < S160x240.size a := fun i k0_t4 v83 v162 k0_hw883 k0_h9 => k0_hw883 k0_h9

def k0_chk884 (i : grid0.Coords) (k0_t4 : Fin (k0_t4_loop i).trips) (v83 : IVec S16 32) (v155 : IVec S16 32) : Prop :=
  (∀ (k0_h9 : k0_cond9 i k0_t4 = 1#1), ∀ a x, ((![v155] : Fin 1 → IVec S16 32) a x).toNat < S48.size a) ∧
  (∀ (k0_h9 : k0_cond9 i k0_t4 = 1#1), ∀ a x, ((![v83, v155] : Fin 2 → IVec S16 32) a x).toNat < S160x48.size a)
theorem k0_idx1032_inb : ∀ (i : grid0.Coords) (k0_t4 : Fin (k0_t4_loop i).trips) (v83 : IVec S16 32) (v155 : IVec S16 32) (k0_hw884 : k0_chk884 i k0_t4 v83 v155), ∀ (k0_h9 : k0_cond9 i k0_t4 = 1#1), ∀ a x, ((![v155] : Fin 1 → IVec S16 32) a x).toNat < S48.size a := fun i k0_t4 v83 v155 k0_hw884 k0_h9 => k0_hw884.1 k0_h9
theorem k0_idx1033_inb : ∀ (i : grid0.Coords) (k0_t4 : Fin (k0_t4_loop i).trips) (v83 : IVec S16 32) (v155 : IVec S16 32) (k0_hw884 : k0_chk884 i k0_t4 v83 v155), ∀ (k0_h9 : k0_cond9 i k0_t4 = 1#1), ∀ a x, ((![v83, v155] : Fin 2 → IVec S16 32) a x).toNat < S160x48.size a := fun i k0_t4 v83 v155 k0_hw884 k0_h9 => k0_hw884.2 k0_h9

def k0_chk885 (i : grid0.Coords) (k0_t4 : Fin (k0_t4_loop i).trips) (v83 : IVec S16 32) (v166 : IVec S16 32) : Prop :=
  (∀ (k0_h9 : k0_cond9 i k0_t4 = 1#1), ∀ a x, ((![v83, v166] : Fin 2 → IVec S16 32) a x).toNat < S160x240.size a)
theorem k0_idx1034_inb : ∀ (i : grid0.Coords) (k0_t4 : Fin (k0_t4_loop i).trips) (v83 : IVec S16 32) (v166 : IVec S16 32) (k0_hw885 : k0_chk885 i k0_t4 v83 v166), ∀ (k0_h9 : k0_cond9 i k0_t4 = 1#1), ∀ a x, ((![v83, v166] : Fin 2 → IVec S16 32) a x).toNat < S160x240.size a := fun i k0_t4 v83 v166 k0_hw885 k0_h9 => k0_hw885 k0_h9

def k0_chk886 (i : grid0.Coords) (k0_t4 : Fin (k0_t4_loop i).trips) (v83 : IVec S16 32) (v176 : IVec S16 32) : Prop :=
  (∀ (k0_h9 : k0_cond9 i k0_t4 = 1#1), ∀ a x, ((![v83, v176] : Fin 2 → IVec S16 32) a x).toNat < S160x240.size a)
theorem k0_idx1035_inb : ∀ (i : grid0.Coords) (k0_t4 : Fin (k0_t4_loop i).trips) (v83 : IVec S16 32) (v176 : IVec S16 32) (k0_hw886 : k0_chk886 i k0_t4 v83 v176), ∀ (k0_h9 : k0_cond9 i k0_t4 = 1#1), ∀ a x, ((![v83, v176] : Fin 2 → IVec S16 32) a x).toNat < S160x240.size a := fun i k0_t4 v83 v176 k0_hw886 k0_h9 => k0_hw886 k0_h9

def k0_chk887 (i : grid0.Coords) (k0_t4 : Fin (k0_t4_loop i).trips) (v83 : IVec S16 32) (v180 : IVec S16 32) : Prop :=
  (∀ (k0_h9 : k0_cond9 i k0_t4 = 1#1), ∀ a x, ((![v83, v180] : Fin 2 → IVec S16 32) a x).toNat < S160x240.size a)
theorem k0_idx1036_inb : ∀ (i : grid0.Coords) (k0_t4 : Fin (k0_t4_loop i).trips) (v83 : IVec S16 32) (v180 : IVec S16 32) (k0_hw887 : k0_chk887 i k0_t4 v83 v180), ∀ (k0_h9 : k0_cond9 i k0_t4 = 1#1), ∀ a x, ((![v83, v180] : Fin 2 → IVec S16 32) a x).toNat < S160x240.size a := fun i k0_t4 v83 v180 k0_hw887 k0_h9 => k0_hw887 k0_h9

def k0_chk888 (i : grid0.Coords) (k0_t4 : Fin (k0_t4_loop i).trips) (v83 : IVec S16 32) (v173 : IVec S16 32) : Prop :=
  (∀ (k0_h9 : k0_cond9 i k0_t4 = 1#1), ∀ a x, ((![v173] : Fin 1 → IVec S16 32) a x).toNat < S48.size a) ∧
  (∀ (k0_h9 : k0_cond9 i k0_t4 = 1#1), ∀ a x, ((![v83, v173] : Fin 2 → IVec S16 32) a x).toNat < S160x48.size a)
theorem k0_idx1037_inb : ∀ (i : grid0.Coords) (k0_t4 : Fin (k0_t4_loop i).trips) (v83 : IVec S16 32) (v173 : IVec S16 32) (k0_hw888 : k0_chk888 i k0_t4 v83 v173), ∀ (k0_h9 : k0_cond9 i k0_t4 = 1#1), ∀ a x, ((![v173] : Fin 1 → IVec S16 32) a x).toNat < S48.size a := fun i k0_t4 v83 v173 k0_hw888 k0_h9 => k0_hw888.1 k0_h9
theorem k0_idx1038_inb : ∀ (i : grid0.Coords) (k0_t4 : Fin (k0_t4_loop i).trips) (v83 : IVec S16 32) (v173 : IVec S16 32) (k0_hw888 : k0_chk888 i k0_t4 v83 v173), ∀ (k0_h9 : k0_cond9 i k0_t4 = 1#1), ∀ a x, ((![v83, v173] : Fin 2 → IVec S16 32) a x).toNat < S160x48.size a := fun i k0_t4 v83 v173 k0_hw888 k0_h9 => k0_hw888.2 k0_h9

def k0_chk889 (i : grid0.Coords) (k0_t4 : Fin (k0_t4_loop i).trips) (v83 : IVec S16 32) (v184 : IVec S16 32) : Prop :=
  (∀ (k0_h9 : k0_cond9 i k0_t4 = 1#1), ∀ a x, ((![v83, v184] : Fin 2 → IVec S16 32) a x).toNat < S160x240.size a)
theorem k0_idx1039_inb : ∀ (i : grid0.Coords) (k0_t4 : Fin (k0_t4_loop i).trips) (v83 : IVec S16 32) (v184 : IVec S16 32) (k0_hw889 : k0_chk889 i k0_t4 v83 v184), ∀ (k0_h9 : k0_cond9 i k0_t4 = 1#1), ∀ a x, ((![v83, v184] : Fin 2 → IVec S16 32) a x).toNat < S160x240.size a := fun i k0_t4 v83 v184 k0_hw889 k0_h9 => k0_hw889 k0_h9

def k0_chk890 (i : grid0.Coords) (k0_t4 : Fin (k0_t4_loop i).trips) (v83 : IVec S16 32) (v194 : IVec S16 32) : Prop :=
  (∀ (k0_h9 : k0_cond9 i k0_t4 = 1#1), ∀ a x, ((![v83, v194] : Fin 2 → IVec S16 32) a x).toNat < S160x240.size a)
theorem k0_idx1040_inb : ∀ (i : grid0.Coords) (k0_t4 : Fin (k0_t4_loop i).trips) (v83 : IVec S16 32) (v194 : IVec S16 32) (k0_hw890 : k0_chk890 i k0_t4 v83 v194), ∀ (k0_h9 : k0_cond9 i k0_t4 = 1#1), ∀ a x, ((![v83, v194] : Fin 2 → IVec S16 32) a x).toNat < S160x240.size a := fun i k0_t4 v83 v194 k0_hw890 k0_h9 => k0_hw890 k0_h9

def k0_chk891 (i : grid0.Coords) (k0_t4 : Fin (k0_t4_loop i).trips) (v83 : IVec S16 32) (v198 : IVec S16 32) : Prop :=
  (∀ (k0_h9 : k0_cond9 i k0_t4 = 1#1), ∀ a x, ((![v83, v198] : Fin 2 → IVec S16 32) a x).toNat < S160x240.size a)
theorem k0_idx1041_inb : ∀ (i : grid0.Coords) (k0_t4 : Fin (k0_t4_loop i).trips) (v83 : IVec S16 32) (v198 : IVec S16 32) (k0_hw891 : k0_chk891 i k0_t4 v83 v198), ∀ (k0_h9 : k0_cond9 i k0_t4 = 1#1), ∀ a x, ((![v83, v198] : Fin 2 → IVec S16 32) a x).toNat < S160x240.size a := fun i k0_t4 v83 v198 k0_hw891 k0_h9 => k0_hw891 k0_h9

def k0_chk892 (i : grid0.Coords) (k0_t4 : Fin (k0_t4_loop i).trips) (v83 : IVec S16 32) (v191 : IVec S16 32) : Prop :=
  (∀ (k0_h9 : k0_cond9 i k0_t4 = 1#1), ∀ a x, ((![v191] : Fin 1 → IVec S16 32) a x).toNat < S48.size a) ∧
  (∀ (k0_h9 : k0_cond9 i k0_t4 = 1#1), ∀ a x, ((![v83, v191] : Fin 2 → IVec S16 32) a x).toNat < S160x48.size a)
theorem k0_idx1042_inb : ∀ (i : grid0.Coords) (k0_t4 : Fin (k0_t4_loop i).trips) (v83 : IVec S16 32) (v191 : IVec S16 32) (k0_hw892 : k0_chk892 i k0_t4 v83 v191), ∀ (k0_h9 : k0_cond9 i k0_t4 = 1#1), ∀ a x, ((![v191] : Fin 1 → IVec S16 32) a x).toNat < S48.size a := fun i k0_t4 v83 v191 k0_hw892 k0_h9 => k0_hw892.1 k0_h9
theorem k0_idx1043_inb : ∀ (i : grid0.Coords) (k0_t4 : Fin (k0_t4_loop i).trips) (v83 : IVec S16 32) (v191 : IVec S16 32) (k0_hw892 : k0_chk892 i k0_t4 v83 v191), ∀ (k0_h9 : k0_cond9 i k0_t4 = 1#1), ∀ a x, ((![v83, v191] : Fin 2 → IVec S16 32) a x).toNat < S160x48.size a := fun i k0_t4 v83 v191 k0_hw892 k0_h9 => k0_hw892.2 k0_h9

def k0_chk893 (i : grid0.Coords) (k0_t4 : Fin (k0_t4_loop i).trips) (v83 : IVec S16 32) (v202 : IVec S16 32) : Prop :=
  (∀ (k0_h9 : k0_cond9 i k0_t4 = 1#1), ∀ a x, ((![v83, v202] : Fin 2 → IVec S16 32) a x).toNat < S160x240.size a)
theorem k0_idx1044_inb : ∀ (i : grid0.Coords) (k0_t4 : Fin (k0_t4_loop i).trips) (v83 : IVec S16 32) (v202 : IVec S16 32) (k0_hw893 : k0_chk893 i k0_t4 v83 v202), ∀ (k0_h9 : k0_cond9 i k0_t4 = 1#1), ∀ a x, ((![v83, v202] : Fin 2 → IVec S16 32) a x).toNat < S160x240.size a := fun i k0_t4 v83 v202 k0_hw893 k0_h9 => k0_hw893 k0_h9

def k0_chk894 (i : grid0.Coords) (k0_t4 : Fin (k0_t4_loop i).trips) (v83 : IVec S16 32) (v212 : IVec S16 32) : Prop :=
  (∀ (k0_h9 : k0_cond9 i k0_t4 = 1#1), ∀ a x, ((![v83, v212] : Fin 2 → IVec S16 32) a x).toNat < S160x240.size a)
theorem k0_idx1045_inb : ∀ (i : grid0.Coords) (k0_t4 : Fin (k0_t4_loop i).trips) (v83 : IVec S16 32) (v212 : IVec S16 32) (k0_hw894 : k0_chk894 i k0_t4 v83 v212), ∀ (k0_h9 : k0_cond9 i k0_t4 = 1#1), ∀ a x, ((![v83, v212] : Fin 2 → IVec S16 32) a x).toNat < S160x240.size a := fun i k0_t4 v83 v212 k0_hw894 k0_h9 => k0_hw894 k0_h9

def k0_chk895 (i : grid0.Coords) (k0_t4 : Fin (k0_t4_loop i).trips) (v83 : IVec S16 32) (v216 : IVec S16 32) : Prop :=
  (∀ (k0_h9 : k0_cond9 i k0_t4 = 1#1), ∀ a x, ((![v83, v216] : Fin 2 → IVec S16 32) a x).toNat < S160x240.size a)
theorem k0_idx1046_inb : ∀ (i : grid0.Coords) (k0_t4 : Fin (k0_t4_loop i).trips) (v83 : IVec S16 32) (v216 : IVec S16 32) (k0_hw895 : k0_chk895 i k0_t4 v83 v216), ∀ (k0_h9 : k0_cond9 i k0_t4 = 1#1), ∀ a x, ((![v83, v216] : Fin 2 → IVec S16 32) a x).toNat < S160x240.size a := fun i k0_t4 v83 v216 k0_hw895 k0_h9 => k0_hw895 k0_h9

def k0_chk896 (i : grid0.Coords) (k0_t4 : Fin (k0_t4_loop i).trips) (v83 : IVec S16 32) (v209 : IVec S16 32) : Prop :=
  (∀ (k0_h9 : k0_cond9 i k0_t4 = 1#1), ∀ a x, ((![v209] : Fin 1 → IVec S16 32) a x).toNat < S48.size a) ∧
  (∀ (k0_h9 : k0_cond9 i k0_t4 = 1#1), ∀ a x, ((![v83, v209] : Fin 2 → IVec S16 32) a x).toNat < S160x48.size a)
theorem k0_idx1047_inb : ∀ (i : grid0.Coords) (k0_t4 : Fin (k0_t4_loop i).trips) (v83 : IVec S16 32) (v209 : IVec S16 32) (k0_hw896 : k0_chk896 i k0_t4 v83 v209), ∀ (k0_h9 : k0_cond9 i k0_t4 = 1#1), ∀ a x, ((![v209] : Fin 1 → IVec S16 32) a x).toNat < S48.size a := fun i k0_t4 v83 v209 k0_hw896 k0_h9 => k0_hw896.1 k0_h9
theorem k0_idx1048_inb : ∀ (i : grid0.Coords) (k0_t4 : Fin (k0_t4_loop i).trips) (v83 : IVec S16 32) (v209 : IVec S16 32) (k0_hw896 : k0_chk896 i k0_t4 v83 v209), ∀ (k0_h9 : k0_cond9 i k0_t4 = 1#1), ∀ a x, ((![v83, v209] : Fin 2 → IVec S16 32) a x).toNat < S160x48.size a := fun i k0_t4 v83 v209 k0_hw896 k0_h9 => k0_hw896.2 k0_h9

def k0_chk897 (i : grid0.Coords) (k0_t4 : Fin (k0_t4_loop i).trips) (v83 : IVec S16 32) (v220 : IVec S16 32) : Prop :=
  (∀ (k0_h9 : k0_cond9 i k0_t4 = 1#1), ∀ a x, ((![v83, v220] : Fin 2 → IVec S16 32) a x).toNat < S160x240.size a)
theorem k0_idx1049_inb : ∀ (i : grid0.Coords) (k0_t4 : Fin (k0_t4_loop i).trips) (v83 : IVec S16 32) (v220 : IVec S16 32) (k0_hw897 : k0_chk897 i k0_t4 v83 v220), ∀ (k0_h9 : k0_cond9 i k0_t4 = 1#1), ∀ a x, ((![v83, v220] : Fin 2 → IVec S16 32) a x).toNat < S160x240.size a := fun i k0_t4 v83 v220 k0_hw897 k0_h9 => k0_hw897 k0_h9

def k0_chk898 (i : grid0.Coords) (k0_t4 : Fin (k0_t4_loop i).trips) (v83 : IVec S16 32) (v230 : IVec S16 32) : Prop :=
  (∀ (k0_h9 : k0_cond9 i k0_t4 = 1#1), ∀ a x, ((![v83, v230] : Fin 2 → IVec S16 32) a x).toNat < S160x240.size a)
theorem k0_idx1050_inb : ∀ (i : grid0.Coords) (k0_t4 : Fin (k0_t4_loop i).trips) (v83 : IVec S16 32) (v230 : IVec S16 32) (k0_hw898 : k0_chk898 i k0_t4 v83 v230), ∀ (k0_h9 : k0_cond9 i k0_t4 = 1#1), ∀ a x, ((![v83, v230] : Fin 2 → IVec S16 32) a x).toNat < S160x240.size a := fun i k0_t4 v83 v230 k0_hw898 k0_h9 => k0_hw898 k0_h9

def k0_chk899 (i : grid0.Coords) (k0_t4 : Fin (k0_t4_loop i).trips) (v83 : IVec S16 32) (v234 : IVec S16 32) : Prop :=
  (∀ (k0_h9 : k0_cond9 i k0_t4 = 1#1), ∀ a x, ((![v83, v234] : Fin 2 → IVec S16 32) a x).toNat < S160x240.size a)
theorem k0_idx1051_inb : ∀ (i : grid0.Coords) (k0_t4 : Fin (k0_t4_loop i).trips) (v83 : IVec S16 32) (v234 : IVec S16 32) (k0_hw899 : k0_chk899 i k0_t4 v83 v234), ∀ (k0_h9 : k0_cond9 i k0_t4 = 1#1), ∀ a x, ((![v83, v234] : Fin 2 → IVec S16 32) a x).toNat < S160x240.size a := fun i k0_t4 v83 v234 k0_hw899 k0_h9 => k0_hw899 k0_h9

def k0_chk900 (i : grid0.Coords) (k0_t4 : Fin (k0_t4_loop i).trips) (v83 : IVec S16 32) (v227 : IVec S16 32) : Prop :=
  (∀ (k0_h9 : k0_cond9 i k0_t4 = 1#1), ∀ a x, ((![v227] : Fin 1 → IVec S16 32) a x).toNat < S48.size a) ∧
  (∀ (k0_h9 : k0_cond9 i k0_t4 = 1#1), ∀ a x, ((![v83, v227] : Fin 2 → IVec S16 32) a x).toNat < S160x48.size a)
theorem k0_idx1052_inb : ∀ (i : grid0.Coords) (k0_t4 : Fin (k0_t4_loop i).trips) (v83 : IVec S16 32) (v227 : IVec S16 32) (k0_hw900 : k0_chk900 i k0_t4 v83 v227), ∀ (k0_h9 : k0_cond9 i k0_t4 = 1#1), ∀ a x, ((![v227] : Fin 1 → IVec S16 32) a x).toNat < S48.size a := fun i k0_t4 v83 v227 k0_hw900 k0_h9 => k0_hw900.1 k0_h9
theorem k0_idx1053_inb : ∀ (i : grid0.Coords) (k0_t4 : Fin (k0_t4_loop i).trips) (v83 : IVec S16 32) (v227 : IVec S16 32) (k0_hw900 : k0_chk900 i k0_t4 v83 v227), ∀ (k0_h9 : k0_cond9 i k0_t4 = 1#1), ∀ a x, ((![v83, v227] : Fin 2 → IVec S16 32) a x).toNat < S160x48.size a := fun i k0_t4 v83 v227 k0_hw900 k0_h9 => k0_hw900.2 k0_h9

def k0_chk901 (i : grid0.Coords) (k0_t4 : Fin (k0_t4_loop i).trips) (v83 : IVec S16 32) (v238 : IVec S16 32) : Prop :=
  (∀ (k0_h9 : k0_cond9 i k0_t4 = 1#1), ∀ a x, ((![v83, v238] : Fin 2 → IVec S16 32) a x).toNat < S160x240.size a)
theorem k0_idx1054_inb : ∀ (i : grid0.Coords) (k0_t4 : Fin (k0_t4_loop i).trips) (v83 : IVec S16 32) (v238 : IVec S16 32) (k0_hw901 : k0_chk901 i k0_t4 v83 v238), ∀ (k0_h9 : k0_cond9 i k0_t4 = 1#1), ∀ a x, ((![v83, v238] : Fin 2 → IVec S16 32) a x).toNat < S160x240.size a := fun i k0_t4 v83 v238 k0_hw901 k0_h9 => k0_hw901 k0_h9

def k0_chk902 (i : grid0.Coords) (k0_t4 : Fin (k0_t4_loop i).trips) (v83 : IVec S16 32) (v248 : IVec S16 32) : Prop :=
  (∀ (k0_h9 : k0_cond9 i k0_t4 = 1#1), ∀ a x, ((![v83, v248] : Fin 2 → IVec S16 32) a x).toNat < S160x240.size a)
theorem k0_idx1055_inb : ∀ (i : grid0.Coords) (k0_t4 : Fin (k0_t4_loop i).trips) (v83 : IVec S16 32) (v248 : IVec S16 32) (k0_hw902 : k0_chk902 i k0_t4 v83 v248), ∀ (k0_h9 : k0_cond9 i k0_t4 = 1#1), ∀ a x, ((![v83, v248] : Fin 2 → IVec S16 32) a x).toNat < S160x240.size a := fun i k0_t4 v83 v248 k0_hw902 k0_h9 => k0_hw902 k0_h9

def k0_chk903 (i : grid0.Coords) (k0_t4 : Fin (k0_t4_loop i).trips) (v83 : IVec S16 32) (v252 : IVec S16 32) : Prop :=
  (∀ (k0_h9 : k0_cond9 i k0_t4 = 1#1), ∀ a x, ((![v83, v252] : Fin 2 → IVec S16 32) a x).toNat < S160x240.size a)
theorem k0_idx1056_inb : ∀ (i : grid0.Coords) (k0_t4 : Fin (k0_t4_loop i).trips) (v83 : IVec S16 32) (v252 : IVec S16 32) (k0_hw903 : k0_chk903 i k0_t4 v83 v252), ∀ (k0_h9 : k0_cond9 i k0_t4 = 1#1), ∀ a x, ((![v83, v252] : Fin 2 → IVec S16 32) a x).toNat < S160x240.size a := fun i k0_t4 v83 v252 k0_hw903 k0_h9 => k0_hw903 k0_h9

def k0_chk904 (i : grid0.Coords) (k0_t4 : Fin (k0_t4_loop i).trips) (v83 : IVec S16 32) (v245 : IVec S16 32) : Prop :=
  (∀ (k0_h9 : k0_cond9 i k0_t4 = 1#1), ∀ a x, ((![v245] : Fin 1 → IVec S16 32) a x).toNat < S48.size a) ∧
  (∀ (k0_h9 : k0_cond9 i k0_t4 = 1#1), ∀ a x, ((![v83, v245] : Fin 2 → IVec S16 32) a x).toNat < S160x48.size a)
theorem k0_idx1057_inb : ∀ (i : grid0.Coords) (k0_t4 : Fin (k0_t4_loop i).trips) (v83 : IVec S16 32) (v245 : IVec S16 32) (k0_hw904 : k0_chk904 i k0_t4 v83 v245), ∀ (k0_h9 : k0_cond9 i k0_t4 = 1#1), ∀ a x, ((![v245] : Fin 1 → IVec S16 32) a x).toNat < S48.size a := fun i k0_t4 v83 v245 k0_hw904 k0_h9 => k0_hw904.1 k0_h9
theorem k0_idx1058_inb : ∀ (i : grid0.Coords) (k0_t4 : Fin (k0_t4_loop i).trips) (v83 : IVec S16 32) (v245 : IVec S16 32) (k0_hw904 : k0_chk904 i k0_t4 v83 v245), ∀ (k0_h9 : k0_cond9 i k0_t4 = 1#1), ∀ a x, ((![v83, v245] : Fin 2 → IVec S16 32) a x).toNat < S160x48.size a := fun i k0_t4 v83 v245 k0_hw904 k0_h9 => k0_hw904.2 k0_h9

def k0_chk905 (i : grid0.Coords) (k0_t4 : Fin (k0_t4_loop i).trips) (v83 : IVec S16 32) (v256 : IVec S16 32) : Prop :=
  (∀ (k0_h9 : k0_cond9 i k0_t4 = 1#1), ∀ a x, ((![v83, v256] : Fin 2 → IVec S16 32) a x).toNat < S160x240.size a)
theorem k0_idx1059_inb : ∀ (i : grid0.Coords) (k0_t4 : Fin (k0_t4_loop i).trips) (v83 : IVec S16 32) (v256 : IVec S16 32) (k0_hw905 : k0_chk905 i k0_t4 v83 v256), ∀ (k0_h9 : k0_cond9 i k0_t4 = 1#1), ∀ a x, ((![v83, v256] : Fin 2 → IVec S16 32) a x).toNat < S160x240.size a := fun i k0_t4 v83 v256 k0_hw905 k0_h9 => k0_hw905 k0_h9

def k0_chk906 (i : grid0.Coords) (k0_t4 : Fin (k0_t4_loop i).trips) (v83 : IVec S16 32) (v266 : IVec S16 32) : Prop :=
  (∀ (k0_h9 : k0_cond9 i k0_t4 = 1#1), ∀ a x, ((![v83, v266] : Fin 2 → IVec S16 32) a x).toNat < S160x240.size a)
theorem k0_idx1060_inb : ∀ (i : grid0.Coords) (k0_t4 : Fin (k0_t4_loop i).trips) (v83 : IVec S16 32) (v266 : IVec S16 32) (k0_hw906 : k0_chk906 i k0_t4 v83 v266), ∀ (k0_h9 : k0_cond9 i k0_t4 = 1#1), ∀ a x, ((![v83, v266] : Fin 2 → IVec S16 32) a x).toNat < S160x240.size a := fun i k0_t4 v83 v266 k0_hw906 k0_h9 => k0_hw906 k0_h9

def k0_chk907 (i : grid0.Coords) (k0_t4 : Fin (k0_t4_loop i).trips) (v83 : IVec S16 32) (v270 : IVec S16 32) : Prop :=
  (∀ (k0_h9 : k0_cond9 i k0_t4 = 1#1), ∀ a x, ((![v83, v270] : Fin 2 → IVec S16 32) a x).toNat < S160x240.size a)
theorem k0_idx1061_inb : ∀ (i : grid0.Coords) (k0_t4 : Fin (k0_t4_loop i).trips) (v83 : IVec S16 32) (v270 : IVec S16 32) (k0_hw907 : k0_chk907 i k0_t4 v83 v270), ∀ (k0_h9 : k0_cond9 i k0_t4 = 1#1), ∀ a x, ((![v83, v270] : Fin 2 → IVec S16 32) a x).toNat < S160x240.size a := fun i k0_t4 v83 v270 k0_hw907 k0_h9 => k0_hw907 k0_h9

def k0_chk908 (i : grid0.Coords) (k0_t4 : Fin (k0_t4_loop i).trips) (v83 : IVec S16 32) (v263 : IVec S16 32) : Prop :=
  (∀ (k0_h9 : k0_cond9 i k0_t4 = 1#1), ∀ a x, ((![v263] : Fin 1 → IVec S16 32) a x).toNat < S48.size a) ∧
  (∀ (k0_h9 : k0_cond9 i k0_t4 = 1#1), ∀ a x, ((![v83, v263] : Fin 2 → IVec S16 32) a x).toNat < S160x48.size a)
theorem k0_idx1062_inb : ∀ (i : grid0.Coords) (k0_t4 : Fin (k0_t4_loop i).trips) (v83 : IVec S16 32) (v263 : IVec S16 32) (k0_hw908 : k0_chk908 i k0_t4 v83 v263), ∀ (k0_h9 : k0_cond9 i k0_t4 = 1#1), ∀ a x, ((![v263] : Fin 1 → IVec S16 32) a x).toNat < S48.size a := fun i k0_t4 v83 v263 k0_hw908 k0_h9 => k0_hw908.1 k0_h9
theorem k0_idx1063_inb : ∀ (i : grid0.Coords) (k0_t4 : Fin (k0_t4_loop i).trips) (v83 : IVec S16 32) (v263 : IVec S16 32) (k0_hw908 : k0_chk908 i k0_t4 v83 v263), ∀ (k0_h9 : k0_cond9 i k0_t4 = 1#1), ∀ a x, ((![v83, v263] : Fin 2 → IVec S16 32) a x).toNat < S160x48.size a := fun i k0_t4 v83 v263 k0_hw908 k0_h9 => k0_hw908.2 k0_h9

def k0_chk909 (i : grid0.Coords) (k0_t4 : Fin (k0_t4_loop i).trips) (v83 : IVec S16 32) (v274 : IVec S16 32) : Prop :=
  (∀ (k0_h9 : k0_cond9 i k0_t4 = 1#1), ∀ a x, ((![v83, v274] : Fin 2 → IVec S16 32) a x).toNat < S160x240.size a)
theorem k0_idx1064_inb : ∀ (i : grid0.Coords) (k0_t4 : Fin (k0_t4_loop i).trips) (v83 : IVec S16 32) (v274 : IVec S16 32) (k0_hw909 : k0_chk909 i k0_t4 v83 v274), ∀ (k0_h9 : k0_cond9 i k0_t4 = 1#1), ∀ a x, ((![v83, v274] : Fin 2 → IVec S16 32) a x).toNat < S160x240.size a := fun i k0_t4 v83 v274 k0_hw909 k0_h9 => k0_hw909 k0_h9

def k0_chk910 (i : grid0.Coords) (k0_t4 : Fin (k0_t4_loop i).trips) (v83 : IVec S16 32) (v284 : IVec S16 32) : Prop :=
  (∀ (k0_h9 : k0_cond9 i k0_t4 = 1#1), ∀ a x, ((![v83, v284] : Fin 2 → IVec S16 32) a x).toNat < S160x240.size a)
theorem k0_idx1065_inb : ∀ (i : grid0.Coords) (k0_t4 : Fin (k0_t4_loop i).trips) (v83 : IVec S16 32) (v284 : IVec S16 32) (k0_hw910 : k0_chk910 i k0_t4 v83 v284), ∀ (k0_h9 : k0_cond9 i k0_t4 = 1#1), ∀ a x, ((![v83, v284] : Fin 2 → IVec S16 32) a x).toNat < S160x240.size a := fun i k0_t4 v83 v284 k0_hw910 k0_h9 => k0_hw910 k0_h9

def k0_chk911 (i : grid0.Coords) (k0_t4 : Fin (k0_t4_loop i).trips) (v83 : IVec S16 32) (v288 : IVec S16 32) : Prop :=
  (∀ (k0_h9 : k0_cond9 i k0_t4 = 1#1), ∀ a x, ((![v83, v288] : Fin 2 → IVec S16 32) a x).toNat < S160x240.size a)
theorem k0_idx1066_inb : ∀ (i : grid0.Coords) (k0_t4 : Fin (k0_t4_loop i).trips) (v83 : IVec S16 32) (v288 : IVec S16 32) (k0_hw911 : k0_chk911 i k0_t4 v83 v288), ∀ (k0_h9 : k0_cond9 i k0_t4 = 1#1), ∀ a x, ((![v83, v288] : Fin 2 → IVec S16 32) a x).toNat < S160x240.size a := fun i k0_t4 v83 v288 k0_hw911 k0_h9 => k0_hw911 k0_h9

def k0_chk912 (i : grid0.Coords) (k0_t4 : Fin (k0_t4_loop i).trips) (v83 : IVec S16 32) (v281 : IVec S16 32) : Prop :=
  (∀ (k0_h9 : k0_cond9 i k0_t4 = 1#1), ∀ a x, ((![v281] : Fin 1 → IVec S16 32) a x).toNat < S48.size a) ∧
  (∀ (k0_h9 : k0_cond9 i k0_t4 = 1#1), ∀ a x, ((![v83, v281] : Fin 2 → IVec S16 32) a x).toNat < S160x48.size a)
theorem k0_idx1067_inb : ∀ (i : grid0.Coords) (k0_t4 : Fin (k0_t4_loop i).trips) (v83 : IVec S16 32) (v281 : IVec S16 32) (k0_hw912 : k0_chk912 i k0_t4 v83 v281), ∀ (k0_h9 : k0_cond9 i k0_t4 = 1#1), ∀ a x, ((![v281] : Fin 1 → IVec S16 32) a x).toNat < S48.size a := fun i k0_t4 v83 v281 k0_hw912 k0_h9 => k0_hw912.1 k0_h9
theorem k0_idx1068_inb : ∀ (i : grid0.Coords) (k0_t4 : Fin (k0_t4_loop i).trips) (v83 : IVec S16 32) (v281 : IVec S16 32) (k0_hw912 : k0_chk912 i k0_t4 v83 v281), ∀ (k0_h9 : k0_cond9 i k0_t4 = 1#1), ∀ a x, ((![v83, v281] : Fin 2 → IVec S16 32) a x).toNat < S160x48.size a := fun i k0_t4 v83 v281 k0_hw912 k0_h9 => k0_hw912.2 k0_h9

def k0_chk913 (i : grid0.Coords) (k0_t4 : Fin (k0_t4_loop i).trips) (v83 : IVec S16 32) (v292 : IVec S16 32) : Prop :=
  (∀ (k0_h9 : k0_cond9 i k0_t4 = 1#1), ∀ a x, ((![v83, v292] : Fin 2 → IVec S16 32) a x).toNat < S160x240.size a)
theorem k0_idx1069_inb : ∀ (i : grid0.Coords) (k0_t4 : Fin (k0_t4_loop i).trips) (v83 : IVec S16 32) (v292 : IVec S16 32) (k0_hw913 : k0_chk913 i k0_t4 v83 v292), ∀ (k0_h9 : k0_cond9 i k0_t4 = 1#1), ∀ a x, ((![v83, v292] : Fin 2 → IVec S16 32) a x).toNat < S160x240.size a := fun i k0_t4 v83 v292 k0_hw913 k0_h9 => k0_hw913 k0_h9

def k0_chk914 (i : grid0.Coords) (k0_t4 : Fin (k0_t4_loop i).trips) (v83 : IVec S16 32) (v302 : IVec S16 32) : Prop :=
  (∀ (k0_h9 : k0_cond9 i k0_t4 = 1#1), ∀ a x, ((![v83, v302] : Fin 2 → IVec S16 32) a x).toNat < S160x240.size a)
theorem k0_idx1070_inb : ∀ (i : grid0.Coords) (k0_t4 : Fin (k0_t4_loop i).trips) (v83 : IVec S16 32) (v302 : IVec S16 32) (k0_hw914 : k0_chk914 i k0_t4 v83 v302), ∀ (k0_h9 : k0_cond9 i k0_t4 = 1#1), ∀ a x, ((![v83, v302] : Fin 2 → IVec S16 32) a x).toNat < S160x240.size a := fun i k0_t4 v83 v302 k0_hw914 k0_h9 => k0_hw914 k0_h9

def k0_chk915 (i : grid0.Coords) (k0_t4 : Fin (k0_t4_loop i).trips) (v83 : IVec S16 32) (v306 : IVec S16 32) : Prop :=
  (∀ (k0_h9 : k0_cond9 i k0_t4 = 1#1), ∀ a x, ((![v83, v306] : Fin 2 → IVec S16 32) a x).toNat < S160x240.size a)
theorem k0_idx1071_inb : ∀ (i : grid0.Coords) (k0_t4 : Fin (k0_t4_loop i).trips) (v83 : IVec S16 32) (v306 : IVec S16 32) (k0_hw915 : k0_chk915 i k0_t4 v83 v306), ∀ (k0_h9 : k0_cond9 i k0_t4 = 1#1), ∀ a x, ((![v83, v306] : Fin 2 → IVec S16 32) a x).toNat < S160x240.size a := fun i k0_t4 v83 v306 k0_hw915 k0_h9 => k0_hw915 k0_h9

def k0_chk916 (i : grid0.Coords) (k0_t4 : Fin (k0_t4_loop i).trips) (v83 : IVec S16 32) (v299 : IVec S16 32) : Prop :=
  (∀ (k0_h9 : k0_cond9 i k0_t4 = 1#1), ∀ a x, ((![v299] : Fin 1 → IVec S16 32) a x).toNat < S48.size a) ∧
  (∀ (k0_h9 : k0_cond9 i k0_t4 = 1#1), ∀ a x, ((![v83, v299] : Fin 2 → IVec S16 32) a x).toNat < S160x48.size a)
theorem k0_idx1072_inb : ∀ (i : grid0.Coords) (k0_t4 : Fin (k0_t4_loop i).trips) (v83 : IVec S16 32) (v299 : IVec S16 32) (k0_hw916 : k0_chk916 i k0_t4 v83 v299), ∀ (k0_h9 : k0_cond9 i k0_t4 = 1#1), ∀ a x, ((![v299] : Fin 1 → IVec S16 32) a x).toNat < S48.size a := fun i k0_t4 v83 v299 k0_hw916 k0_h9 => k0_hw916.1 k0_h9
theorem k0_idx1073_inb : ∀ (i : grid0.Coords) (k0_t4 : Fin (k0_t4_loop i).trips) (v83 : IVec S16 32) (v299 : IVec S16 32) (k0_hw916 : k0_chk916 i k0_t4 v83 v299), ∀ (k0_h9 : k0_cond9 i k0_t4 = 1#1), ∀ a x, ((![v83, v299] : Fin 2 → IVec S16 32) a x).toNat < S160x48.size a := fun i k0_t4 v83 v299 k0_hw916 k0_h9 => k0_hw916.2 k0_h9

def k0_chk917 (i : grid0.Coords) (k0_t4 : Fin (k0_t4_loop i).trips) (v83 : IVec S16 32) (v310 : IVec S16 32) : Prop :=
  (∀ (k0_h9 : k0_cond9 i k0_t4 = 1#1), ∀ a x, ((![v83, v310] : Fin 2 → IVec S16 32) a x).toNat < S160x240.size a)
theorem k0_idx1074_inb : ∀ (i : grid0.Coords) (k0_t4 : Fin (k0_t4_loop i).trips) (v83 : IVec S16 32) (v310 : IVec S16 32) (k0_hw917 : k0_chk917 i k0_t4 v83 v310), ∀ (k0_h9 : k0_cond9 i k0_t4 = 1#1), ∀ a x, ((![v83, v310] : Fin 2 → IVec S16 32) a x).toNat < S160x240.size a := fun i k0_t4 v83 v310 k0_hw917 k0_h9 => k0_hw917 k0_h9

def k0_chk918 (i : grid0.Coords) (k0_t4 : Fin (k0_t4_loop i).trips) (v83 : IVec S16 32) (v320 : IVec S16 32) : Prop :=
  (∀ (k0_h9 : k0_cond9 i k0_t4 = 1#1), ∀ a x, ((![v83, v320] : Fin 2 → IVec S16 32) a x).toNat < S160x240.size a)
theorem k0_idx1075_inb : ∀ (i : grid0.Coords) (k0_t4 : Fin (k0_t4_loop i).trips) (v83 : IVec S16 32) (v320 : IVec S16 32) (k0_hw918 : k0_chk918 i k0_t4 v83 v320), ∀ (k0_h9 : k0_cond9 i k0_t4 = 1#1), ∀ a x, ((![v83, v320] : Fin 2 → IVec S16 32) a x).toNat < S160x240.size a := fun i k0_t4 v83 v320 k0_hw918 k0_h9 => k0_hw918 k0_h9

def k0_chk919 (i : grid0.Coords) (k0_t4 : Fin (k0_t4_loop i).trips) (v83 : IVec S16 32) (v324 : IVec S16 32) : Prop :=
  (∀ (k0_h9 : k0_cond9 i k0_t4 = 1#1), ∀ a x, ((![v83, v324] : Fin 2 → IVec S16 32) a x).toNat < S160x240.size a)
theorem k0_idx1076_inb : ∀ (i : grid0.Coords) (k0_t4 : Fin (k0_t4_loop i).trips) (v83 : IVec S16 32) (v324 : IVec S16 32) (k0_hw919 : k0_chk919 i k0_t4 v83 v324), ∀ (k0_h9 : k0_cond9 i k0_t4 = 1#1), ∀ a x, ((![v83, v324] : Fin 2 → IVec S16 32) a x).toNat < S160x240.size a := fun i k0_t4 v83 v324 k0_hw919 k0_h9 => k0_hw919 k0_h9

def k0_chk920 (i : grid0.Coords) (k0_t4 : Fin (k0_t4_loop i).trips) (v83 : IVec S16 32) (v317 : IVec S16 32) : Prop :=
  (∀ (k0_h9 : k0_cond9 i k0_t4 = 1#1), ∀ a x, ((![v317] : Fin 1 → IVec S16 32) a x).toNat < S48.size a) ∧
  (∀ (k0_h9 : k0_cond9 i k0_t4 = 1#1), ∀ a x, ((![v83, v317] : Fin 2 → IVec S16 32) a x).toNat < S160x48.size a)
theorem k0_idx1077_inb : ∀ (i : grid0.Coords) (k0_t4 : Fin (k0_t4_loop i).trips) (v83 : IVec S16 32) (v317 : IVec S16 32) (k0_hw920 : k0_chk920 i k0_t4 v83 v317), ∀ (k0_h9 : k0_cond9 i k0_t4 = 1#1), ∀ a x, ((![v317] : Fin 1 → IVec S16 32) a x).toNat < S48.size a := fun i k0_t4 v83 v317 k0_hw920 k0_h9 => k0_hw920.1 k0_h9
theorem k0_idx1078_inb : ∀ (i : grid0.Coords) (k0_t4 : Fin (k0_t4_loop i).trips) (v83 : IVec S16 32) (v317 : IVec S16 32) (k0_hw920 : k0_chk920 i k0_t4 v83 v317), ∀ (k0_h9 : k0_cond9 i k0_t4 = 1#1), ∀ a x, ((![v83, v317] : Fin 2 → IVec S16 32) a x).toNat < S160x48.size a := fun i k0_t4 v83 v317 k0_hw920 k0_h9 => k0_hw920.2 k0_h9

def k0_chk921 (i : grid0.Coords) (k0_t4 : Fin (k0_t4_loop i).trips) (v83 : IVec S16 32) (v328 : IVec S16 32) : Prop :=
  (∀ (k0_h9 : k0_cond9 i k0_t4 = 1#1), ∀ a x, ((![v83, v328] : Fin 2 → IVec S16 32) a x).toNat < S160x240.size a)
theorem k0_idx1079_inb : ∀ (i : grid0.Coords) (k0_t4 : Fin (k0_t4_loop i).trips) (v83 : IVec S16 32) (v328 : IVec S16 32) (k0_hw921 : k0_chk921 i k0_t4 v83 v328), ∀ (k0_h9 : k0_cond9 i k0_t4 = 1#1), ∀ a x, ((![v83, v328] : Fin 2 → IVec S16 32) a x).toNat < S160x240.size a := fun i k0_t4 v83 v328 k0_hw921 k0_h9 => k0_hw921 k0_h9

def k0_chk922 (i : grid0.Coords) (k0_t4 : Fin (k0_t4_loop i).trips) (v83 : IVec S16 32) (v338 : IVec S16 32) : Prop :=
  (∀ (k0_h9 : k0_cond9 i k0_t4 = 1#1), ∀ a x, ((![v83, v338] : Fin 2 → IVec S16 32) a x).toNat < S160x240.size a)
theorem k0_idx1080_inb : ∀ (i : grid0.Coords) (k0_t4 : Fin (k0_t4_loop i).trips) (v83 : IVec S16 32) (v338 : IVec S16 32) (k0_hw922 : k0_chk922 i k0_t4 v83 v338), ∀ (k0_h9 : k0_cond9 i k0_t4 = 1#1), ∀ a x, ((![v83, v338] : Fin 2 → IVec S16 32) a x).toNat < S160x240.size a := fun i k0_t4 v83 v338 k0_hw922 k0_h9 => k0_hw922 k0_h9

def k0_chk923 (i : grid0.Coords) (k0_t4 : Fin (k0_t4_loop i).trips) (v83 : IVec S16 32) (v342 : IVec S16 32) : Prop :=
  (∀ (k0_h9 : k0_cond9 i k0_t4 = 1#1), ∀ a x, ((![v83, v342] : Fin 2 → IVec S16 32) a x).toNat < S160x240.size a)
theorem k0_idx1081_inb : ∀ (i : grid0.Coords) (k0_t4 : Fin (k0_t4_loop i).trips) (v83 : IVec S16 32) (v342 : IVec S16 32) (k0_hw923 : k0_chk923 i k0_t4 v83 v342), ∀ (k0_h9 : k0_cond9 i k0_t4 = 1#1), ∀ a x, ((![v83, v342] : Fin 2 → IVec S16 32) a x).toNat < S160x240.size a := fun i k0_t4 v83 v342 k0_hw923 k0_h9 => k0_hw923 k0_h9

def k0_chk924 (i : grid0.Coords) (k0_t4 : Fin (k0_t4_loop i).trips) (v83 : IVec S16 32) (v335 : IVec S16 32) : Prop :=
  (∀ (k0_h9 : k0_cond9 i k0_t4 = 1#1), ∀ a x, ((![v335] : Fin 1 → IVec S16 32) a x).toNat < S48.size a) ∧
  (∀ (k0_h9 : k0_cond9 i k0_t4 = 1#1), ∀ a x, ((![v83, v335] : Fin 2 → IVec S16 32) a x).toNat < S160x48.size a)
theorem k0_idx1082_inb : ∀ (i : grid0.Coords) (k0_t4 : Fin (k0_t4_loop i).trips) (v83 : IVec S16 32) (v335 : IVec S16 32) (k0_hw924 : k0_chk924 i k0_t4 v83 v335), ∀ (k0_h9 : k0_cond9 i k0_t4 = 1#1), ∀ a x, ((![v335] : Fin 1 → IVec S16 32) a x).toNat < S48.size a := fun i k0_t4 v83 v335 k0_hw924 k0_h9 => k0_hw924.1 k0_h9
theorem k0_idx1083_inb : ∀ (i : grid0.Coords) (k0_t4 : Fin (k0_t4_loop i).trips) (v83 : IVec S16 32) (v335 : IVec S16 32) (k0_hw924 : k0_chk924 i k0_t4 v83 v335), ∀ (k0_h9 : k0_cond9 i k0_t4 = 1#1), ∀ a x, ((![v83, v335] : Fin 2 → IVec S16 32) a x).toNat < S160x48.size a := fun i k0_t4 v83 v335 k0_hw924 k0_h9 => k0_hw924.2 k0_h9

def k0_chk925 (i : grid0.Coords) (k0_t4 : Fin (k0_t4_loop i).trips) (v83 : IVec S16 32) (v346 : IVec S16 32) : Prop :=
  (∀ (k0_h9 : k0_cond9 i k0_t4 = 1#1), ∀ a x, ((![v83, v346] : Fin 2 → IVec S16 32) a x).toNat < S160x240.size a)
theorem k0_idx1084_inb : ∀ (i : grid0.Coords) (k0_t4 : Fin (k0_t4_loop i).trips) (v83 : IVec S16 32) (v346 : IVec S16 32) (k0_hw925 : k0_chk925 i k0_t4 v83 v346), ∀ (k0_h9 : k0_cond9 i k0_t4 = 1#1), ∀ a x, ((![v83, v346] : Fin 2 → IVec S16 32) a x).toNat < S160x240.size a := fun i k0_t4 v83 v346 k0_hw925 k0_h9 => k0_hw925 k0_h9

def k0_chk926 (i : grid0.Coords) (k0_t4 : Fin (k0_t4_loop i).trips) (v83 : IVec S16 32) (v356 : IVec S16 32) : Prop :=
  (∀ (k0_h9 : k0_cond9 i k0_t4 = 1#1), ∀ a x, ((![v83, v356] : Fin 2 → IVec S16 32) a x).toNat < S160x240.size a)
theorem k0_idx1085_inb : ∀ (i : grid0.Coords) (k0_t4 : Fin (k0_t4_loop i).trips) (v83 : IVec S16 32) (v356 : IVec S16 32) (k0_hw926 : k0_chk926 i k0_t4 v83 v356), ∀ (k0_h9 : k0_cond9 i k0_t4 = 1#1), ∀ a x, ((![v83, v356] : Fin 2 → IVec S16 32) a x).toNat < S160x240.size a := fun i k0_t4 v83 v356 k0_hw926 k0_h9 => k0_hw926 k0_h9

def k0_chk927 (i : grid0.Coords) (k0_t4 : Fin (k0_t4_loop i).trips) (v83 : IVec S16 32) (v360 : IVec S16 32) : Prop :=
  (∀ (k0_h9 : k0_cond9 i k0_t4 = 1#1), ∀ a x, ((![v83, v360] : Fin 2 → IVec S16 32) a x).toNat < S160x240.size a)
theorem k0_idx1086_inb : ∀ (i : grid0.Coords) (k0_t4 : Fin (k0_t4_loop i).trips) (v83 : IVec S16 32) (v360 : IVec S16 32) (k0_hw927 : k0_chk927 i k0_t4 v83 v360), ∀ (k0_h9 : k0_cond9 i k0_t4 = 1#1), ∀ a x, ((![v83, v360] : Fin 2 → IVec S16 32) a x).toNat < S160x240.size a := fun i k0_t4 v83 v360 k0_hw927 k0_h9 => k0_hw927 k0_h9

def k0_chk928 (i : grid0.Coords) (k0_t4 : Fin (k0_t4_loop i).trips) (v83 : IVec S16 32) (v353 : IVec S16 32) : Prop :=
  (∀ (k0_h9 : k0_cond9 i k0_t4 = 1#1), ∀ a x, ((![v353] : Fin 1 → IVec S16 32) a x).toNat < S48.size a) ∧
  (∀ (k0_h9 : k0_cond9 i k0_t4 = 1#1), ∀ a x, ((![v83, v353] : Fin 2 → IVec S16 32) a x).toNat < S160x48.size a)
theorem k0_idx1087_inb : ∀ (i : grid0.Coords) (k0_t4 : Fin (k0_t4_loop i).trips) (v83 : IVec S16 32) (v353 : IVec S16 32) (k0_hw928 : k0_chk928 i k0_t4 v83 v353), ∀ (k0_h9 : k0_cond9 i k0_t4 = 1#1), ∀ a x, ((![v353] : Fin 1 → IVec S16 32) a x).toNat < S48.size a := fun i k0_t4 v83 v353 k0_hw928 k0_h9 => k0_hw928.1 k0_h9
theorem k0_idx1088_inb : ∀ (i : grid0.Coords) (k0_t4 : Fin (k0_t4_loop i).trips) (v83 : IVec S16 32) (v353 : IVec S16 32) (k0_hw928 : k0_chk928 i k0_t4 v83 v353), ∀ (k0_h9 : k0_cond9 i k0_t4 = 1#1), ∀ a x, ((![v83, v353] : Fin 2 → IVec S16 32) a x).toNat < S160x48.size a := fun i k0_t4 v83 v353 k0_hw928 k0_h9 => k0_hw928.2 k0_h9

def k0_chk929 (i : grid0.Coords) (k0_t4 : Fin (k0_t4_loop i).trips) (v83 : IVec S16 32) (v364 : IVec S16 32) : Prop :=
  (∀ (k0_h9 : k0_cond9 i k0_t4 = 1#1), ∀ a x, ((![v83, v364] : Fin 2 → IVec S16 32) a x).toNat < S160x240.size a)
theorem k0_idx1089_inb : ∀ (i : grid0.Coords) (k0_t4 : Fin (k0_t4_loop i).trips) (v83 : IVec S16 32) (v364 : IVec S16 32) (k0_hw929 : k0_chk929 i k0_t4 v83 v364), ∀ (k0_h9 : k0_cond9 i k0_t4 = 1#1), ∀ a x, ((![v83, v364] : Fin 2 → IVec S16 32) a x).toNat < S160x240.size a := fun i k0_t4 v83 v364 k0_hw929 k0_h9 => k0_hw929 k0_h9

def k0_chk930 (i : grid0.Coords) (k0_t4 : Fin (k0_t4_loop i).trips) (v83 : IVec S16 32) (v374 : IVec S16 32) : Prop :=
  (∀ (k0_h9 : k0_cond9 i k0_t4 = 1#1), ∀ a x, ((![v83, v374] : Fin 2 → IVec S16 32) a x).toNat < S160x240.size a)
theorem k0_idx1090_inb : ∀ (i : grid0.Coords) (k0_t4 : Fin (k0_t4_loop i).trips) (v83 : IVec S16 32) (v374 : IVec S16 32) (k0_hw930 : k0_chk930 i k0_t4 v83 v374), ∀ (k0_h9 : k0_cond9 i k0_t4 = 1#1), ∀ a x, ((![v83, v374] : Fin 2 → IVec S16 32) a x).toNat < S160x240.size a := fun i k0_t4 v83 v374 k0_hw930 k0_h9 => k0_hw930 k0_h9

def k0_chk931 (i : grid0.Coords) (k0_t4 : Fin (k0_t4_loop i).trips) (v83 : IVec S16 32) (v378 : IVec S16 32) : Prop :=
  (∀ (k0_h9 : k0_cond9 i k0_t4 = 1#1), ∀ a x, ((![v83, v378] : Fin 2 → IVec S16 32) a x).toNat < S160x240.size a)
theorem k0_idx1091_inb : ∀ (i : grid0.Coords) (k0_t4 : Fin (k0_t4_loop i).trips) (v83 : IVec S16 32) (v378 : IVec S16 32) (k0_hw931 : k0_chk931 i k0_t4 v83 v378), ∀ (k0_h9 : k0_cond9 i k0_t4 = 1#1), ∀ a x, ((![v83, v378] : Fin 2 → IVec S16 32) a x).toNat < S160x240.size a := fun i k0_t4 v83 v378 k0_hw931 k0_h9 => k0_hw931 k0_h9

def k0_chk932 (i : grid0.Coords) (k0_t4 : Fin (k0_t4_loop i).trips) (v83 : IVec S16 32) (v382 : IVec S16 32) : Prop :=
  (∀ (k0_h9 : k0_cond9 i k0_t4 = 1#1), ∀ a x, ((![v83, v382] : Fin 2 → IVec S16 32) a x).toNat < S160x240.size a)
theorem k0_idx1092_inb : ∀ (i : grid0.Coords) (k0_t4 : Fin (k0_t4_loop i).trips) (v83 : IVec S16 32) (v382 : IVec S16 32) (k0_hw932 : k0_chk932 i k0_t4 v83 v382), ∀ (k0_h9 : k0_cond9 i k0_t4 = 1#1), ∀ a x, ((![v83, v382] : Fin 2 → IVec S16 32) a x).toNat < S160x240.size a := fun i k0_t4 v83 v382 k0_hw932 k0_h9 => k0_hw932 k0_h9

def k0_chk933 (i : grid0.Coords) (k0_t4 : Fin (k0_t4_loop i).trips) (v83 : IVec S16 32) (v386 : IVec S16 32) : Prop :=
  (∀ (k0_h9 : k0_cond9 i k0_t4 = 1#1), ∀ a x, ((![v83, v386] : Fin 2 → IVec S16 32) a x).toNat < S160x240.size a)
theorem k0_idx1093_inb : ∀ (i : grid0.Coords) (k0_t4 : Fin (k0_t4_loop i).trips) (v83 : IVec S16 32) (v386 : IVec S16 32) (k0_hw933 : k0_chk933 i k0_t4 v83 v386), ∀ (k0_h9 : k0_cond9 i k0_t4 = 1#1), ∀ a x, ((![v83, v386] : Fin 2 → IVec S16 32) a x).toNat < S160x240.size a := fun i k0_t4 v83 v386 k0_hw933 k0_h9 => k0_hw933 k0_h9

def k0_chk934 (i : grid0.Coords) (k0_t4 : Fin (k0_t4_loop i).trips) (v83 : IVec S16 32) (v371 : IVec S16 32) : Prop :=
  (∀ (k0_h9 : k0_cond9 i k0_t4 = 1#1), ∀ a x, ((![v371] : Fin 1 → IVec S16 32) a x).toNat < S48.size a) ∧
  (∀ (k0_h9 : k0_cond9 i k0_t4 = 1#1), ∀ a x, ((![v83, v371] : Fin 2 → IVec S16 32) a x).toNat < S160x48.size a)
theorem k0_idx1094_inb : ∀ (i : grid0.Coords) (k0_t4 : Fin (k0_t4_loop i).trips) (v83 : IVec S16 32) (v371 : IVec S16 32) (k0_hw934 : k0_chk934 i k0_t4 v83 v371), ∀ (k0_h9 : k0_cond9 i k0_t4 = 1#1), ∀ a x, ((![v371] : Fin 1 → IVec S16 32) a x).toNat < S48.size a := fun i k0_t4 v83 v371 k0_hw934 k0_h9 => k0_hw934.1 k0_h9
theorem k0_idx1095_inb : ∀ (i : grid0.Coords) (k0_t4 : Fin (k0_t4_loop i).trips) (v83 : IVec S16 32) (v371 : IVec S16 32) (k0_hw934 : k0_chk934 i k0_t4 v83 v371), ∀ (k0_h9 : k0_cond9 i k0_t4 = 1#1), ∀ a x, ((![v83, v371] : Fin 2 → IVec S16 32) a x).toNat < S160x48.size a := fun i k0_t4 v83 v371 k0_hw934 k0_h9 => k0_hw934.2 k0_h9

def k0_chk935 (i : grid0.Coords) (k0_t4 : Fin (k0_t4_loop i).trips) (v83 : IVec S16 32) (v390 : IVec S16 32) : Prop :=
  (∀ (k0_h9 : k0_cond9 i k0_t4 = 1#1), ∀ a x, ((![v83, v390] : Fin 2 → IVec S16 32) a x).toNat < S160x240.size a)
theorem k0_idx1096_inb : ∀ (i : grid0.Coords) (k0_t4 : Fin (k0_t4_loop i).trips) (v83 : IVec S16 32) (v390 : IVec S16 32) (k0_hw935 : k0_chk935 i k0_t4 v83 v390), ∀ (k0_h9 : k0_cond9 i k0_t4 = 1#1), ∀ a x, ((![v83, v390] : Fin 2 → IVec S16 32) a x).toNat < S160x240.size a := fun i k0_t4 v83 v390 k0_hw935 k0_h9 => k0_hw935 k0_h9

def k0_chk936 (i : grid0.Coords) (k0_t4 : Fin (k0_t4_loop i).trips) (v83 : IVec S16 32) (v402 : IVec S16 32) : Prop :=
  (∀ (k0_h9 : k0_cond9 i k0_t4 = 1#1), ∀ a x, ((![v83, v402] : Fin 2 → IVec S16 32) a x).toNat < S160x240.size a)
theorem k0_idx1097_inb : ∀ (i : grid0.Coords) (k0_t4 : Fin (k0_t4_loop i).trips) (v83 : IVec S16 32) (v402 : IVec S16 32) (k0_hw936 : k0_chk936 i k0_t4 v83 v402), ∀ (k0_h9 : k0_cond9 i k0_t4 = 1#1), ∀ a x, ((![v83, v402] : Fin 2 → IVec S16 32) a x).toNat < S160x240.size a := fun i k0_t4 v83 v402 k0_hw936 k0_h9 => k0_hw936 k0_h9

def k0_chk937 (i : grid0.Coords) (k0_t4 : Fin (k0_t4_loop i).trips) (v83 : IVec S16 32) (v406 : IVec S16 32) : Prop :=
  (∀ (k0_h9 : k0_cond9 i k0_t4 = 1#1), ∀ a x, ((![v83, v406] : Fin 2 → IVec S16 32) a x).toNat < S160x240.size a)
theorem k0_idx1098_inb : ∀ (i : grid0.Coords) (k0_t4 : Fin (k0_t4_loop i).trips) (v83 : IVec S16 32) (v406 : IVec S16 32) (k0_hw937 : k0_chk937 i k0_t4 v83 v406), ∀ (k0_h9 : k0_cond9 i k0_t4 = 1#1), ∀ a x, ((![v83, v406] : Fin 2 → IVec S16 32) a x).toNat < S160x240.size a := fun i k0_t4 v83 v406 k0_hw937 k0_h9 => k0_hw937 k0_h9

def k0_chk938 (i : grid0.Coords) (k0_t4 : Fin (k0_t4_loop i).trips) (v83 : IVec S16 32) (v410 : IVec S16 32) : Prop :=
  (∀ (k0_h9 : k0_cond9 i k0_t4 = 1#1), ∀ a x, ((![v83, v410] : Fin 2 → IVec S16 32) a x).toNat < S160x240.size a)
theorem k0_idx1099_inb : ∀ (i : grid0.Coords) (k0_t4 : Fin (k0_t4_loop i).trips) (v83 : IVec S16 32) (v410 : IVec S16 32) (k0_hw938 : k0_chk938 i k0_t4 v83 v410), ∀ (k0_h9 : k0_cond9 i k0_t4 = 1#1), ∀ a x, ((![v83, v410] : Fin 2 → IVec S16 32) a x).toNat < S160x240.size a := fun i k0_t4 v83 v410 k0_hw938 k0_h9 => k0_hw938 k0_h9

def k0_chk939 (i : grid0.Coords) (k0_t4 : Fin (k0_t4_loop i).trips) (v83 : IVec S16 32) (v414 : IVec S16 32) : Prop :=
  (∀ (k0_h9 : k0_cond9 i k0_t4 = 1#1), ∀ a x, ((![v83, v414] : Fin 2 → IVec S16 32) a x).toNat < S160x240.size a)
theorem k0_idx1100_inb : ∀ (i : grid0.Coords) (k0_t4 : Fin (k0_t4_loop i).trips) (v83 : IVec S16 32) (v414 : IVec S16 32) (k0_hw939 : k0_chk939 i k0_t4 v83 v414), ∀ (k0_h9 : k0_cond9 i k0_t4 = 1#1), ∀ a x, ((![v83, v414] : Fin 2 → IVec S16 32) a x).toNat < S160x240.size a := fun i k0_t4 v83 v414 k0_hw939 k0_h9 => k0_hw939 k0_h9

def k0_chk940 (i : grid0.Coords) (k0_t4 : Fin (k0_t4_loop i).trips) (v83 : IVec S16 32) (v399 : IVec S16 32) : Prop :=
  (∀ (k0_h9 : k0_cond9 i k0_t4 = 1#1), ∀ a x, ((![v399] : Fin 1 → IVec S16 32) a x).toNat < S48.size a) ∧
  (∀ (k0_h9 : k0_cond9 i k0_t4 = 1#1), ∀ a x, ((![v83, v399] : Fin 2 → IVec S16 32) a x).toNat < S160x48.size a)
theorem k0_idx1101_inb : ∀ (i : grid0.Coords) (k0_t4 : Fin (k0_t4_loop i).trips) (v83 : IVec S16 32) (v399 : IVec S16 32) (k0_hw940 : k0_chk940 i k0_t4 v83 v399), ∀ (k0_h9 : k0_cond9 i k0_t4 = 1#1), ∀ a x, ((![v399] : Fin 1 → IVec S16 32) a x).toNat < S48.size a := fun i k0_t4 v83 v399 k0_hw940 k0_h9 => k0_hw940.1 k0_h9
theorem k0_idx1102_inb : ∀ (i : grid0.Coords) (k0_t4 : Fin (k0_t4_loop i).trips) (v83 : IVec S16 32) (v399 : IVec S16 32) (k0_hw940 : k0_chk940 i k0_t4 v83 v399), ∀ (k0_h9 : k0_cond9 i k0_t4 = 1#1), ∀ a x, ((![v83, v399] : Fin 2 → IVec S16 32) a x).toNat < S160x48.size a := fun i k0_t4 v83 v399 k0_hw940 k0_h9 => k0_hw940.2 k0_h9

def k0_chk941 (i : grid0.Coords) (k0_t4 : Fin (k0_t4_loop i).trips) (v83 : IVec S16 32) (v418 : IVec S16 32) : Prop :=
  (∀ (k0_h9 : k0_cond9 i k0_t4 = 1#1), ∀ a x, ((![v83, v418] : Fin 2 → IVec S16 32) a x).toNat < S160x240.size a)
theorem k0_idx1103_inb : ∀ (i : grid0.Coords) (k0_t4 : Fin (k0_t4_loop i).trips) (v83 : IVec S16 32) (v418 : IVec S16 32) (k0_hw941 : k0_chk941 i k0_t4 v83 v418), ∀ (k0_h9 : k0_cond9 i k0_t4 = 1#1), ∀ a x, ((![v83, v418] : Fin 2 → IVec S16 32) a x).toNat < S160x240.size a := fun i k0_t4 v83 v418 k0_hw941 k0_h9 => k0_hw941 k0_h9

def k0_chk942 (i : grid0.Coords) (k0_t4 : Fin (k0_t4_loop i).trips) (v83 : IVec S16 32) (v430 : IVec S16 32) : Prop :=
  (∀ (k0_h9 : k0_cond9 i k0_t4 = 1#1), ∀ a x, ((![v83, v430] : Fin 2 → IVec S16 32) a x).toNat < S160x240.size a)
theorem k0_idx1104_inb : ∀ (i : grid0.Coords) (k0_t4 : Fin (k0_t4_loop i).trips) (v83 : IVec S16 32) (v430 : IVec S16 32) (k0_hw942 : k0_chk942 i k0_t4 v83 v430), ∀ (k0_h9 : k0_cond9 i k0_t4 = 1#1), ∀ a x, ((![v83, v430] : Fin 2 → IVec S16 32) a x).toNat < S160x240.size a := fun i k0_t4 v83 v430 k0_hw942 k0_h9 => k0_hw942 k0_h9

def k0_chk943 (i : grid0.Coords) (k0_t4 : Fin (k0_t4_loop i).trips) (v83 : IVec S16 32) (v434 : IVec S16 32) : Prop :=
  (∀ (k0_h9 : k0_cond9 i k0_t4 = 1#1), ∀ a x, ((![v83, v434] : Fin 2 → IVec S16 32) a x).toNat < S160x240.size a)
theorem k0_idx1105_inb : ∀ (i : grid0.Coords) (k0_t4 : Fin (k0_t4_loop i).trips) (v83 : IVec S16 32) (v434 : IVec S16 32) (k0_hw943 : k0_chk943 i k0_t4 v83 v434), ∀ (k0_h9 : k0_cond9 i k0_t4 = 1#1), ∀ a x, ((![v83, v434] : Fin 2 → IVec S16 32) a x).toNat < S160x240.size a := fun i k0_t4 v83 v434 k0_hw943 k0_h9 => k0_hw943 k0_h9

def k0_chk944 (i : grid0.Coords) (k0_t4 : Fin (k0_t4_loop i).trips) (v83 : IVec S16 32) (v438 : IVec S16 32) : Prop :=
  (∀ (k0_h9 : k0_cond9 i k0_t4 = 1#1), ∀ a x, ((![v83, v438] : Fin 2 → IVec S16 32) a x).toNat < S160x240.size a)
theorem k0_idx1106_inb : ∀ (i : grid0.Coords) (k0_t4 : Fin (k0_t4_loop i).trips) (v83 : IVec S16 32) (v438 : IVec S16 32) (k0_hw944 : k0_chk944 i k0_t4 v83 v438), ∀ (k0_h9 : k0_cond9 i k0_t4 = 1#1), ∀ a x, ((![v83, v438] : Fin 2 → IVec S16 32) a x).toNat < S160x240.size a := fun i k0_t4 v83 v438 k0_hw944 k0_h9 => k0_hw944 k0_h9

def k0_chk945 (i : grid0.Coords) (k0_t4 : Fin (k0_t4_loop i).trips) (v83 : IVec S16 32) (v442 : IVec S16 32) : Prop :=
  (∀ (k0_h9 : k0_cond9 i k0_t4 = 1#1), ∀ a x, ((![v83, v442] : Fin 2 → IVec S16 32) a x).toNat < S160x240.size a)
theorem k0_idx1107_inb : ∀ (i : grid0.Coords) (k0_t4 : Fin (k0_t4_loop i).trips) (v83 : IVec S16 32) (v442 : IVec S16 32) (k0_hw945 : k0_chk945 i k0_t4 v83 v442), ∀ (k0_h9 : k0_cond9 i k0_t4 = 1#1), ∀ a x, ((![v83, v442] : Fin 2 → IVec S16 32) a x).toNat < S160x240.size a := fun i k0_t4 v83 v442 k0_hw945 k0_h9 => k0_hw945 k0_h9

def k0_chk946 (i : grid0.Coords) (k0_t4 : Fin (k0_t4_loop i).trips) (v83 : IVec S16 32) (v427 : IVec S16 32) : Prop :=
  (∀ (k0_h9 : k0_cond9 i k0_t4 = 1#1), ∀ a x, ((![v427] : Fin 1 → IVec S16 32) a x).toNat < S48.size a) ∧
  (∀ (k0_h9 : k0_cond9 i k0_t4 = 1#1), ∀ a x, ((![v83, v427] : Fin 2 → IVec S16 32) a x).toNat < S160x48.size a)
theorem k0_idx1108_inb : ∀ (i : grid0.Coords) (k0_t4 : Fin (k0_t4_loop i).trips) (v83 : IVec S16 32) (v427 : IVec S16 32) (k0_hw946 : k0_chk946 i k0_t4 v83 v427), ∀ (k0_h9 : k0_cond9 i k0_t4 = 1#1), ∀ a x, ((![v427] : Fin 1 → IVec S16 32) a x).toNat < S48.size a := fun i k0_t4 v83 v427 k0_hw946 k0_h9 => k0_hw946.1 k0_h9
theorem k0_idx1109_inb : ∀ (i : grid0.Coords) (k0_t4 : Fin (k0_t4_loop i).trips) (v83 : IVec S16 32) (v427 : IVec S16 32) (k0_hw946 : k0_chk946 i k0_t4 v83 v427), ∀ (k0_h9 : k0_cond9 i k0_t4 = 1#1), ∀ a x, ((![v83, v427] : Fin 2 → IVec S16 32) a x).toNat < S160x48.size a := fun i k0_t4 v83 v427 k0_hw946 k0_h9 => k0_hw946.2 k0_h9

def k0_chk947 (i : grid0.Coords) (k0_t4 : Fin (k0_t4_loop i).trips) (v83 : IVec S16 32) (v446 : IVec S16 32) : Prop :=
  (∀ (k0_h9 : k0_cond9 i k0_t4 = 1#1), ∀ a x, ((![v83, v446] : Fin 2 → IVec S16 32) a x).toNat < S160x240.size a)
theorem k0_idx1110_inb : ∀ (i : grid0.Coords) (k0_t4 : Fin (k0_t4_loop i).trips) (v83 : IVec S16 32) (v446 : IVec S16 32) (k0_hw947 : k0_chk947 i k0_t4 v83 v446), ∀ (k0_h9 : k0_cond9 i k0_t4 = 1#1), ∀ a x, ((![v83, v446] : Fin 2 → IVec S16 32) a x).toNat < S160x240.size a := fun i k0_t4 v83 v446 k0_hw947 k0_h9 => k0_hw947 k0_h9

def k0_chk948 (i : grid0.Coords) (k0_t4 : Fin (k0_t4_loop i).trips) (v83 : IVec S16 32) (v458 : IVec S16 32) : Prop :=
  (∀ (k0_h9 : k0_cond9 i k0_t4 = 1#1), ∀ a x, ((![v83, v458] : Fin 2 → IVec S16 32) a x).toNat < S160x240.size a)
theorem k0_idx1111_inb : ∀ (i : grid0.Coords) (k0_t4 : Fin (k0_t4_loop i).trips) (v83 : IVec S16 32) (v458 : IVec S16 32) (k0_hw948 : k0_chk948 i k0_t4 v83 v458), ∀ (k0_h9 : k0_cond9 i k0_t4 = 1#1), ∀ a x, ((![v83, v458] : Fin 2 → IVec S16 32) a x).toNat < S160x240.size a := fun i k0_t4 v83 v458 k0_hw948 k0_h9 => k0_hw948 k0_h9

def k0_chk949 (i : grid0.Coords) (k0_t4 : Fin (k0_t4_loop i).trips) (v83 : IVec S16 32) (v462 : IVec S16 32) : Prop :=
  (∀ (k0_h9 : k0_cond9 i k0_t4 = 1#1), ∀ a x, ((![v83, v462] : Fin 2 → IVec S16 32) a x).toNat < S160x240.size a)
theorem k0_idx1112_inb : ∀ (i : grid0.Coords) (k0_t4 : Fin (k0_t4_loop i).trips) (v83 : IVec S16 32) (v462 : IVec S16 32) (k0_hw949 : k0_chk949 i k0_t4 v83 v462), ∀ (k0_h9 : k0_cond9 i k0_t4 = 1#1), ∀ a x, ((![v83, v462] : Fin 2 → IVec S16 32) a x).toNat < S160x240.size a := fun i k0_t4 v83 v462 k0_hw949 k0_h9 => k0_hw949 k0_h9

def k0_chk950 (i : grid0.Coords) (k0_t4 : Fin (k0_t4_loop i).trips) (v83 : IVec S16 32) (v466 : IVec S16 32) : Prop :=
  (∀ (k0_h9 : k0_cond9 i k0_t4 = 1#1), ∀ a x, ((![v83, v466] : Fin 2 → IVec S16 32) a x).toNat < S160x240.size a)
theorem k0_idx1113_inb : ∀ (i : grid0.Coords) (k0_t4 : Fin (k0_t4_loop i).trips) (v83 : IVec S16 32) (v466 : IVec S16 32) (k0_hw950 : k0_chk950 i k0_t4 v83 v466), ∀ (k0_h9 : k0_cond9 i k0_t4 = 1#1), ∀ a x, ((![v83, v466] : Fin 2 → IVec S16 32) a x).toNat < S160x240.size a := fun i k0_t4 v83 v466 k0_hw950 k0_h9 => k0_hw950 k0_h9

def k0_chk951 (i : grid0.Coords) (k0_t4 : Fin (k0_t4_loop i).trips) (v83 : IVec S16 32) (v470 : IVec S16 32) : Prop :=
  (∀ (k0_h9 : k0_cond9 i k0_t4 = 1#1), ∀ a x, ((![v83, v470] : Fin 2 → IVec S16 32) a x).toNat < S160x240.size a)
theorem k0_idx1114_inb : ∀ (i : grid0.Coords) (k0_t4 : Fin (k0_t4_loop i).trips) (v83 : IVec S16 32) (v470 : IVec S16 32) (k0_hw951 : k0_chk951 i k0_t4 v83 v470), ∀ (k0_h9 : k0_cond9 i k0_t4 = 1#1), ∀ a x, ((![v83, v470] : Fin 2 → IVec S16 32) a x).toNat < S160x240.size a := fun i k0_t4 v83 v470 k0_hw951 k0_h9 => k0_hw951 k0_h9

def k0_chk952 (i : grid0.Coords) (k0_t4 : Fin (k0_t4_loop i).trips) (v83 : IVec S16 32) (v455 : IVec S16 32) : Prop :=
  (∀ (k0_h9 : k0_cond9 i k0_t4 = 1#1), ∀ a x, ((![v455] : Fin 1 → IVec S16 32) a x).toNat < S48.size a) ∧
  (∀ (k0_h9 : k0_cond9 i k0_t4 = 1#1), ∀ a x, ((![v83, v455] : Fin 2 → IVec S16 32) a x).toNat < S160x48.size a)
theorem k0_idx1115_inb : ∀ (i : grid0.Coords) (k0_t4 : Fin (k0_t4_loop i).trips) (v83 : IVec S16 32) (v455 : IVec S16 32) (k0_hw952 : k0_chk952 i k0_t4 v83 v455), ∀ (k0_h9 : k0_cond9 i k0_t4 = 1#1), ∀ a x, ((![v455] : Fin 1 → IVec S16 32) a x).toNat < S48.size a := fun i k0_t4 v83 v455 k0_hw952 k0_h9 => k0_hw952.1 k0_h9
theorem k0_idx1116_inb : ∀ (i : grid0.Coords) (k0_t4 : Fin (k0_t4_loop i).trips) (v83 : IVec S16 32) (v455 : IVec S16 32) (k0_hw952 : k0_chk952 i k0_t4 v83 v455), ∀ (k0_h9 : k0_cond9 i k0_t4 = 1#1), ∀ a x, ((![v83, v455] : Fin 2 → IVec S16 32) a x).toNat < S160x48.size a := fun i k0_t4 v83 v455 k0_hw952 k0_h9 => k0_hw952.2 k0_h9

def k0_chk953 (i : grid0.Coords) (k0_t4 : Fin (k0_t4_loop i).trips) (v83 : IVec S16 32) (v474 : IVec S16 32) : Prop :=
  (∀ (k0_h9 : k0_cond9 i k0_t4 = 1#1), ∀ a x, ((![v83, v474] : Fin 2 → IVec S16 32) a x).toNat < S160x240.size a)
theorem k0_idx1117_inb : ∀ (i : grid0.Coords) (k0_t4 : Fin (k0_t4_loop i).trips) (v83 : IVec S16 32) (v474 : IVec S16 32) (k0_hw953 : k0_chk953 i k0_t4 v83 v474), ∀ (k0_h9 : k0_cond9 i k0_t4 = 1#1), ∀ a x, ((![v83, v474] : Fin 2 → IVec S16 32) a x).toNat < S160x240.size a := fun i k0_t4 v83 v474 k0_hw953 k0_h9 => k0_hw953 k0_h9

def k0_chk954 (i : grid0.Coords) (k0_t4 : Fin (k0_t4_loop i).trips) (v83 : IVec S16 32) (v486 : IVec S16 32) : Prop :=
  (∀ (k0_h9 : k0_cond9 i k0_t4 = 1#1), ∀ a x, ((![v83, v486] : Fin 2 → IVec S16 32) a x).toNat < S160x240.size a)
theorem k0_idx1118_inb : ∀ (i : grid0.Coords) (k0_t4 : Fin (k0_t4_loop i).trips) (v83 : IVec S16 32) (v486 : IVec S16 32) (k0_hw954 : k0_chk954 i k0_t4 v83 v486), ∀ (k0_h9 : k0_cond9 i k0_t4 = 1#1), ∀ a x, ((![v83, v486] : Fin 2 → IVec S16 32) a x).toNat < S160x240.size a := fun i k0_t4 v83 v486 k0_hw954 k0_h9 => k0_hw954 k0_h9

def k0_chk955 (i : grid0.Coords) (k0_t4 : Fin (k0_t4_loop i).trips) (v83 : IVec S16 32) (v490 : IVec S16 32) : Prop :=
  (∀ (k0_h9 : k0_cond9 i k0_t4 = 1#1), ∀ a x, ((![v83, v490] : Fin 2 → IVec S16 32) a x).toNat < S160x240.size a)
theorem k0_idx1119_inb : ∀ (i : grid0.Coords) (k0_t4 : Fin (k0_t4_loop i).trips) (v83 : IVec S16 32) (v490 : IVec S16 32) (k0_hw955 : k0_chk955 i k0_t4 v83 v490), ∀ (k0_h9 : k0_cond9 i k0_t4 = 1#1), ∀ a x, ((![v83, v490] : Fin 2 → IVec S16 32) a x).toNat < S160x240.size a := fun i k0_t4 v83 v490 k0_hw955 k0_h9 => k0_hw955 k0_h9

def k0_chk956 (i : grid0.Coords) (k0_t4 : Fin (k0_t4_loop i).trips) (v83 : IVec S16 32) (v494 : IVec S16 32) : Prop :=
  (∀ (k0_h9 : k0_cond9 i k0_t4 = 1#1), ∀ a x, ((![v83, v494] : Fin 2 → IVec S16 32) a x).toNat < S160x240.size a)
theorem k0_idx1120_inb : ∀ (i : grid0.Coords) (k0_t4 : Fin (k0_t4_loop i).trips) (v83 : IVec S16 32) (v494 : IVec S16 32) (k0_hw956 : k0_chk956 i k0_t4 v83 v494), ∀ (k0_h9 : k0_cond9 i k0_t4 = 1#1), ∀ a x, ((![v83, v494] : Fin 2 → IVec S16 32) a x).toNat < S160x240.size a := fun i k0_t4 v83 v494 k0_hw956 k0_h9 => k0_hw956 k0_h9

def k0_chk957 (i : grid0.Coords) (k0_t4 : Fin (k0_t4_loop i).trips) (v83 : IVec S16 32) (v498 : IVec S16 32) : Prop :=
  (∀ (k0_h9 : k0_cond9 i k0_t4 = 1#1), ∀ a x, ((![v83, v498] : Fin 2 → IVec S16 32) a x).toNat < S160x240.size a)
theorem k0_idx1121_inb : ∀ (i : grid0.Coords) (k0_t4 : Fin (k0_t4_loop i).trips) (v83 : IVec S16 32) (v498 : IVec S16 32) (k0_hw957 : k0_chk957 i k0_t4 v83 v498), ∀ (k0_h9 : k0_cond9 i k0_t4 = 1#1), ∀ a x, ((![v83, v498] : Fin 2 → IVec S16 32) a x).toNat < S160x240.size a := fun i k0_t4 v83 v498 k0_hw957 k0_h9 => k0_hw957 k0_h9

def k0_chk958 (i : grid0.Coords) (k0_t4 : Fin (k0_t4_loop i).trips) (v83 : IVec S16 32) (v483 : IVec S16 32) : Prop :=
  (∀ (k0_h9 : k0_cond9 i k0_t4 = 1#1), ∀ a x, ((![v483] : Fin 1 → IVec S16 32) a x).toNat < S48.size a) ∧
  (∀ (k0_h9 : k0_cond9 i k0_t4 = 1#1), ∀ a x, ((![v83, v483] : Fin 2 → IVec S16 32) a x).toNat < S160x48.size a)
theorem k0_idx1122_inb : ∀ (i : grid0.Coords) (k0_t4 : Fin (k0_t4_loop i).trips) (v83 : IVec S16 32) (v483 : IVec S16 32) (k0_hw958 : k0_chk958 i k0_t4 v83 v483), ∀ (k0_h9 : k0_cond9 i k0_t4 = 1#1), ∀ a x, ((![v483] : Fin 1 → IVec S16 32) a x).toNat < S48.size a := fun i k0_t4 v83 v483 k0_hw958 k0_h9 => k0_hw958.1 k0_h9
theorem k0_idx1123_inb : ∀ (i : grid0.Coords) (k0_t4 : Fin (k0_t4_loop i).trips) (v83 : IVec S16 32) (v483 : IVec S16 32) (k0_hw958 : k0_chk958 i k0_t4 v83 v483), ∀ (k0_h9 : k0_cond9 i k0_t4 = 1#1), ∀ a x, ((![v83, v483] : Fin 2 → IVec S16 32) a x).toNat < S160x48.size a := fun i k0_t4 v83 v483 k0_hw958 k0_h9 => k0_hw958.2 k0_h9

def k0_chk959 (i : grid0.Coords) (k0_t4 : Fin (k0_t4_loop i).trips) (v83 : IVec S16 32) (v502 : IVec S16 32) : Prop :=
  (∀ (k0_h9 : k0_cond9 i k0_t4 = 1#1), ∀ a x, ((![v83, v502] : Fin 2 → IVec S16 32) a x).toNat < S160x240.size a)
theorem k0_idx1124_inb : ∀ (i : grid0.Coords) (k0_t4 : Fin (k0_t4_loop i).trips) (v83 : IVec S16 32) (v502 : IVec S16 32) (k0_hw959 : k0_chk959 i k0_t4 v83 v502), ∀ (k0_h9 : k0_cond9 i k0_t4 = 1#1), ∀ a x, ((![v83, v502] : Fin 2 → IVec S16 32) a x).toNat < S160x240.size a := fun i k0_t4 v83 v502 k0_hw959 k0_h9 => k0_hw959 k0_h9

def k0_chk960 (i : grid0.Coords) (k0_t4 : Fin (k0_t4_loop i).trips) (v83 : IVec S16 32) (v514 : IVec S16 32) : Prop :=
  (∀ (k0_h9 : k0_cond9 i k0_t4 = 1#1), ∀ a x, ((![v83, v514] : Fin 2 → IVec S16 32) a x).toNat < S160x240.size a)
theorem k0_idx1125_inb : ∀ (i : grid0.Coords) (k0_t4 : Fin (k0_t4_loop i).trips) (v83 : IVec S16 32) (v514 : IVec S16 32) (k0_hw960 : k0_chk960 i k0_t4 v83 v514), ∀ (k0_h9 : k0_cond9 i k0_t4 = 1#1), ∀ a x, ((![v83, v514] : Fin 2 → IVec S16 32) a x).toNat < S160x240.size a := fun i k0_t4 v83 v514 k0_hw960 k0_h9 => k0_hw960 k0_h9

def k0_chk961 (i : grid0.Coords) (k0_t4 : Fin (k0_t4_loop i).trips) (v83 : IVec S16 32) (v518 : IVec S16 32) : Prop :=
  (∀ (k0_h9 : k0_cond9 i k0_t4 = 1#1), ∀ a x, ((![v83, v518] : Fin 2 → IVec S16 32) a x).toNat < S160x240.size a)
theorem k0_idx1126_inb : ∀ (i : grid0.Coords) (k0_t4 : Fin (k0_t4_loop i).trips) (v83 : IVec S16 32) (v518 : IVec S16 32) (k0_hw961 : k0_chk961 i k0_t4 v83 v518), ∀ (k0_h9 : k0_cond9 i k0_t4 = 1#1), ∀ a x, ((![v83, v518] : Fin 2 → IVec S16 32) a x).toNat < S160x240.size a := fun i k0_t4 v83 v518 k0_hw961 k0_h9 => k0_hw961 k0_h9

def k0_chk962 (i : grid0.Coords) (k0_t4 : Fin (k0_t4_loop i).trips) (v83 : IVec S16 32) (v522 : IVec S16 32) : Prop :=
  (∀ (k0_h9 : k0_cond9 i k0_t4 = 1#1), ∀ a x, ((![v83, v522] : Fin 2 → IVec S16 32) a x).toNat < S160x240.size a)
theorem k0_idx1127_inb : ∀ (i : grid0.Coords) (k0_t4 : Fin (k0_t4_loop i).trips) (v83 : IVec S16 32) (v522 : IVec S16 32) (k0_hw962 : k0_chk962 i k0_t4 v83 v522), ∀ (k0_h9 : k0_cond9 i k0_t4 = 1#1), ∀ a x, ((![v83, v522] : Fin 2 → IVec S16 32) a x).toNat < S160x240.size a := fun i k0_t4 v83 v522 k0_hw962 k0_h9 => k0_hw962 k0_h9

def k0_chk963 (i : grid0.Coords) (k0_t4 : Fin (k0_t4_loop i).trips) (v83 : IVec S16 32) (v526 : IVec S16 32) : Prop :=
  (∀ (k0_h9 : k0_cond9 i k0_t4 = 1#1), ∀ a x, ((![v83, v526] : Fin 2 → IVec S16 32) a x).toNat < S160x240.size a)
theorem k0_idx1128_inb : ∀ (i : grid0.Coords) (k0_t4 : Fin (k0_t4_loop i).trips) (v83 : IVec S16 32) (v526 : IVec S16 32) (k0_hw963 : k0_chk963 i k0_t4 v83 v526), ∀ (k0_h9 : k0_cond9 i k0_t4 = 1#1), ∀ a x, ((![v83, v526] : Fin 2 → IVec S16 32) a x).toNat < S160x240.size a := fun i k0_t4 v83 v526 k0_hw963 k0_h9 => k0_hw963 k0_h9

def k0_chk964 (i : grid0.Coords) (k0_t4 : Fin (k0_t4_loop i).trips) (v83 : IVec S16 32) (v511 : IVec S16 32) : Prop :=
  (∀ (k0_h9 : k0_cond9 i k0_t4 = 1#1), ∀ a x, ((![v511] : Fin 1 → IVec S16 32) a x).toNat < S48.size a) ∧
  (∀ (k0_h9 : k0_cond9 i k0_t4 = 1#1), ∀ a x, ((![v83, v511] : Fin 2 → IVec S16 32) a x).toNat < S160x48.size a)
theorem k0_idx1129_inb : ∀ (i : grid0.Coords) (k0_t4 : Fin (k0_t4_loop i).trips) (v83 : IVec S16 32) (v511 : IVec S16 32) (k0_hw964 : k0_chk964 i k0_t4 v83 v511), ∀ (k0_h9 : k0_cond9 i k0_t4 = 1#1), ∀ a x, ((![v511] : Fin 1 → IVec S16 32) a x).toNat < S48.size a := fun i k0_t4 v83 v511 k0_hw964 k0_h9 => k0_hw964.1 k0_h9
theorem k0_idx1130_inb : ∀ (i : grid0.Coords) (k0_t4 : Fin (k0_t4_loop i).trips) (v83 : IVec S16 32) (v511 : IVec S16 32) (k0_hw964 : k0_chk964 i k0_t4 v83 v511), ∀ (k0_h9 : k0_cond9 i k0_t4 = 1#1), ∀ a x, ((![v83, v511] : Fin 2 → IVec S16 32) a x).toNat < S160x48.size a := fun i k0_t4 v83 v511 k0_hw964 k0_h9 => k0_hw964.2 k0_h9

def k0_chk965 (i : grid0.Coords) (k0_t4 : Fin (k0_t4_loop i).trips) (v83 : IVec S16 32) (v530 : IVec S16 32) : Prop :=
  (∀ (k0_h9 : k0_cond9 i k0_t4 = 1#1), ∀ a x, ((![v83, v530] : Fin 2 → IVec S16 32) a x).toNat < S160x240.size a)
theorem k0_idx1131_inb : ∀ (i : grid0.Coords) (k0_t4 : Fin (k0_t4_loop i).trips) (v83 : IVec S16 32) (v530 : IVec S16 32) (k0_hw965 : k0_chk965 i k0_t4 v83 v530), ∀ (k0_h9 : k0_cond9 i k0_t4 = 1#1), ∀ a x, ((![v83, v530] : Fin 2 → IVec S16 32) a x).toNat < S160x240.size a := fun i k0_t4 v83 v530 k0_hw965 k0_h9 => k0_hw965 k0_h9

def k0_chk966 (i : grid0.Coords) (k0_t4 : Fin (k0_t4_loop i).trips) (v83 : IVec S16 32) (v542 : IVec S16 32) : Prop :=
  (∀ (k0_h9 : k0_cond9 i k0_t4 = 1#1), ∀ a x, ((![v83, v542] : Fin 2 → IVec S16 32) a x).toNat < S160x240.size a)
theorem k0_idx1132_inb : ∀ (i : grid0.Coords) (k0_t4 : Fin (k0_t4_loop i).trips) (v83 : IVec S16 32) (v542 : IVec S16 32) (k0_hw966 : k0_chk966 i k0_t4 v83 v542), ∀ (k0_h9 : k0_cond9 i k0_t4 = 1#1), ∀ a x, ((![v83, v542] : Fin 2 → IVec S16 32) a x).toNat < S160x240.size a := fun i k0_t4 v83 v542 k0_hw966 k0_h9 => k0_hw966 k0_h9

def k0_chk967 (i : grid0.Coords) (k0_t4 : Fin (k0_t4_loop i).trips) (v83 : IVec S16 32) (v546 : IVec S16 32) : Prop :=
  (∀ (k0_h9 : k0_cond9 i k0_t4 = 1#1), ∀ a x, ((![v83, v546] : Fin 2 → IVec S16 32) a x).toNat < S160x240.size a)
theorem k0_idx1133_inb : ∀ (i : grid0.Coords) (k0_t4 : Fin (k0_t4_loop i).trips) (v83 : IVec S16 32) (v546 : IVec S16 32) (k0_hw967 : k0_chk967 i k0_t4 v83 v546), ∀ (k0_h9 : k0_cond9 i k0_t4 = 1#1), ∀ a x, ((![v83, v546] : Fin 2 → IVec S16 32) a x).toNat < S160x240.size a := fun i k0_t4 v83 v546 k0_hw967 k0_h9 => k0_hw967 k0_h9

def k0_chk968 (i : grid0.Coords) (k0_t4 : Fin (k0_t4_loop i).trips) (v83 : IVec S16 32) (v550 : IVec S16 32) : Prop :=
  (∀ (k0_h9 : k0_cond9 i k0_t4 = 1#1), ∀ a x, ((![v83, v550] : Fin 2 → IVec S16 32) a x).toNat < S160x240.size a)
theorem k0_idx1134_inb : ∀ (i : grid0.Coords) (k0_t4 : Fin (k0_t4_loop i).trips) (v83 : IVec S16 32) (v550 : IVec S16 32) (k0_hw968 : k0_chk968 i k0_t4 v83 v550), ∀ (k0_h9 : k0_cond9 i k0_t4 = 1#1), ∀ a x, ((![v83, v550] : Fin 2 → IVec S16 32) a x).toNat < S160x240.size a := fun i k0_t4 v83 v550 k0_hw968 k0_h9 => k0_hw968 k0_h9

def k0_chk969 (i : grid0.Coords) (k0_t4 : Fin (k0_t4_loop i).trips) (v83 : IVec S16 32) (v554 : IVec S16 32) : Prop :=
  (∀ (k0_h9 : k0_cond9 i k0_t4 = 1#1), ∀ a x, ((![v83, v554] : Fin 2 → IVec S16 32) a x).toNat < S160x240.size a)
theorem k0_idx1135_inb : ∀ (i : grid0.Coords) (k0_t4 : Fin (k0_t4_loop i).trips) (v83 : IVec S16 32) (v554 : IVec S16 32) (k0_hw969 : k0_chk969 i k0_t4 v83 v554), ∀ (k0_h9 : k0_cond9 i k0_t4 = 1#1), ∀ a x, ((![v83, v554] : Fin 2 → IVec S16 32) a x).toNat < S160x240.size a := fun i k0_t4 v83 v554 k0_hw969 k0_h9 => k0_hw969 k0_h9

def k0_chk970 (i : grid0.Coords) (k0_t4 : Fin (k0_t4_loop i).trips) (v83 : IVec S16 32) (v539 : IVec S16 32) : Prop :=
  (∀ (k0_h9 : k0_cond9 i k0_t4 = 1#1), ∀ a x, ((![v539] : Fin 1 → IVec S16 32) a x).toNat < S48.size a) ∧
  (∀ (k0_h9 : k0_cond9 i k0_t4 = 1#1), ∀ a x, ((![v83, v539] : Fin 2 → IVec S16 32) a x).toNat < S160x48.size a)
theorem k0_idx1136_inb : ∀ (i : grid0.Coords) (k0_t4 : Fin (k0_t4_loop i).trips) (v83 : IVec S16 32) (v539 : IVec S16 32) (k0_hw970 : k0_chk970 i k0_t4 v83 v539), ∀ (k0_h9 : k0_cond9 i k0_t4 = 1#1), ∀ a x, ((![v539] : Fin 1 → IVec S16 32) a x).toNat < S48.size a := fun i k0_t4 v83 v539 k0_hw970 k0_h9 => k0_hw970.1 k0_h9
theorem k0_idx1137_inb : ∀ (i : grid0.Coords) (k0_t4 : Fin (k0_t4_loop i).trips) (v83 : IVec S16 32) (v539 : IVec S16 32) (k0_hw970 : k0_chk970 i k0_t4 v83 v539), ∀ (k0_h9 : k0_cond9 i k0_t4 = 1#1), ∀ a x, ((![v83, v539] : Fin 2 → IVec S16 32) a x).toNat < S160x48.size a := fun i k0_t4 v83 v539 k0_hw970 k0_h9 => k0_hw970.2 k0_h9

def k0_chk971 (i : grid0.Coords) (k0_t4 : Fin (k0_t4_loop i).trips) (v83 : IVec S16 32) (v558 : IVec S16 32) : Prop :=
  (∀ (k0_h9 : k0_cond9 i k0_t4 = 1#1), ∀ a x, ((![v83, v558] : Fin 2 → IVec S16 32) a x).toNat < S160x240.size a)
theorem k0_idx1138_inb : ∀ (i : grid0.Coords) (k0_t4 : Fin (k0_t4_loop i).trips) (v83 : IVec S16 32) (v558 : IVec S16 32) (k0_hw971 : k0_chk971 i k0_t4 v83 v558), ∀ (k0_h9 : k0_cond9 i k0_t4 = 1#1), ∀ a x, ((![v83, v558] : Fin 2 → IVec S16 32) a x).toNat < S160x240.size a := fun i k0_t4 v83 v558 k0_hw971 k0_h9 => k0_hw971 k0_h9

def k0_chk972 (i : grid0.Coords) (k0_t4 : Fin (k0_t4_loop i).trips) (v83 : IVec S16 32) (v570 : IVec S16 32) : Prop :=
  (∀ (k0_h9 : k0_cond9 i k0_t4 = 1#1), ∀ a x, ((![v83, v570] : Fin 2 → IVec S16 32) a x).toNat < S160x240.size a)
theorem k0_idx1139_inb : ∀ (i : grid0.Coords) (k0_t4 : Fin (k0_t4_loop i).trips) (v83 : IVec S16 32) (v570 : IVec S16 32) (k0_hw972 : k0_chk972 i k0_t4 v83 v570), ∀ (k0_h9 : k0_cond9 i k0_t4 = 1#1), ∀ a x, ((![v83, v570] : Fin 2 → IVec S16 32) a x).toNat < S160x240.size a := fun i k0_t4 v83 v570 k0_hw972 k0_h9 => k0_hw972 k0_h9

def k0_chk973 (i : grid0.Coords) (k0_t4 : Fin (k0_t4_loop i).trips) (v83 : IVec S16 32) (v574 : IVec S16 32) : Prop :=
  (∀ (k0_h9 : k0_cond9 i k0_t4 = 1#1), ∀ a x, ((![v83, v574] : Fin 2 → IVec S16 32) a x).toNat < S160x240.size a)
theorem k0_idx1140_inb : ∀ (i : grid0.Coords) (k0_t4 : Fin (k0_t4_loop i).trips) (v83 : IVec S16 32) (v574 : IVec S16 32) (k0_hw973 : k0_chk973 i k0_t4 v83 v574), ∀ (k0_h9 : k0_cond9 i k0_t4 = 1#1), ∀ a x, ((![v83, v574] : Fin 2 → IVec S16 32) a x).toNat < S160x240.size a := fun i k0_t4 v83 v574 k0_hw973 k0_h9 => k0_hw973 k0_h9

def k0_chk974 (i : grid0.Coords) (k0_t4 : Fin (k0_t4_loop i).trips) (v83 : IVec S16 32) (v578 : IVec S16 32) : Prop :=
  (∀ (k0_h9 : k0_cond9 i k0_t4 = 1#1), ∀ a x, ((![v83, v578] : Fin 2 → IVec S16 32) a x).toNat < S160x240.size a)
theorem k0_idx1141_inb : ∀ (i : grid0.Coords) (k0_t4 : Fin (k0_t4_loop i).trips) (v83 : IVec S16 32) (v578 : IVec S16 32) (k0_hw974 : k0_chk974 i k0_t4 v83 v578), ∀ (k0_h9 : k0_cond9 i k0_t4 = 1#1), ∀ a x, ((![v83, v578] : Fin 2 → IVec S16 32) a x).toNat < S160x240.size a := fun i k0_t4 v83 v578 k0_hw974 k0_h9 => k0_hw974 k0_h9

def k0_chk975 (i : grid0.Coords) (k0_t4 : Fin (k0_t4_loop i).trips) (v83 : IVec S16 32) (v582 : IVec S16 32) : Prop :=
  (∀ (k0_h9 : k0_cond9 i k0_t4 = 1#1), ∀ a x, ((![v83, v582] : Fin 2 → IVec S16 32) a x).toNat < S160x240.size a)
theorem k0_idx1142_inb : ∀ (i : grid0.Coords) (k0_t4 : Fin (k0_t4_loop i).trips) (v83 : IVec S16 32) (v582 : IVec S16 32) (k0_hw975 : k0_chk975 i k0_t4 v83 v582), ∀ (k0_h9 : k0_cond9 i k0_t4 = 1#1), ∀ a x, ((![v83, v582] : Fin 2 → IVec S16 32) a x).toNat < S160x240.size a := fun i k0_t4 v83 v582 k0_hw975 k0_h9 => k0_hw975 k0_h9

def k0_chk976 (i : grid0.Coords) (k0_t4 : Fin (k0_t4_loop i).trips) (v83 : IVec S16 32) (v567 : IVec S16 32) : Prop :=
  (∀ (k0_h9 : k0_cond9 i k0_t4 = 1#1), ∀ a x, ((![v567] : Fin 1 → IVec S16 32) a x).toNat < S48.size a) ∧
  (∀ (k0_h9 : k0_cond9 i k0_t4 = 1#1), ∀ a x, ((![v83, v567] : Fin 2 → IVec S16 32) a x).toNat < S160x48.size a)
theorem k0_idx1143_inb : ∀ (i : grid0.Coords) (k0_t4 : Fin (k0_t4_loop i).trips) (v83 : IVec S16 32) (v567 : IVec S16 32) (k0_hw976 : k0_chk976 i k0_t4 v83 v567), ∀ (k0_h9 : k0_cond9 i k0_t4 = 1#1), ∀ a x, ((![v567] : Fin 1 → IVec S16 32) a x).toNat < S48.size a := fun i k0_t4 v83 v567 k0_hw976 k0_h9 => k0_hw976.1 k0_h9
theorem k0_idx1144_inb : ∀ (i : grid0.Coords) (k0_t4 : Fin (k0_t4_loop i).trips) (v83 : IVec S16 32) (v567 : IVec S16 32) (k0_hw976 : k0_chk976 i k0_t4 v83 v567), ∀ (k0_h9 : k0_cond9 i k0_t4 = 1#1), ∀ a x, ((![v83, v567] : Fin 2 → IVec S16 32) a x).toNat < S160x48.size a := fun i k0_t4 v83 v567 k0_hw976 k0_h9 => k0_hw976.2 k0_h9

def k0_chk977 (i : grid0.Coords) (k0_t4 : Fin (k0_t4_loop i).trips) (v83 : IVec S16 32) (v586 : IVec S16 32) : Prop :=
  (∀ (k0_h9 : k0_cond9 i k0_t4 = 1#1), ∀ a x, ((![v83, v586] : Fin 2 → IVec S16 32) a x).toNat < S160x240.size a)
theorem k0_idx1145_inb : ∀ (i : grid0.Coords) (k0_t4 : Fin (k0_t4_loop i).trips) (v83 : IVec S16 32) (v586 : IVec S16 32) (k0_hw977 : k0_chk977 i k0_t4 v83 v586), ∀ (k0_h9 : k0_cond9 i k0_t4 = 1#1), ∀ a x, ((![v83, v586] : Fin 2 → IVec S16 32) a x).toNat < S160x240.size a := fun i k0_t4 v83 v586 k0_hw977 k0_h9 => k0_hw977 k0_h9

def k0_chk978 (i : grid0.Coords) (k0_t4 : Fin (k0_t4_loop i).trips) (v83 : IVec S16 32) (v598 : IVec S16 32) : Prop :=
  (∀ (k0_h9 : k0_cond9 i k0_t4 = 1#1), ∀ a x, ((![v83, v598] : Fin 2 → IVec S16 32) a x).toNat < S160x240.size a)
theorem k0_idx1146_inb : ∀ (i : grid0.Coords) (k0_t4 : Fin (k0_t4_loop i).trips) (v83 : IVec S16 32) (v598 : IVec S16 32) (k0_hw978 : k0_chk978 i k0_t4 v83 v598), ∀ (k0_h9 : k0_cond9 i k0_t4 = 1#1), ∀ a x, ((![v83, v598] : Fin 2 → IVec S16 32) a x).toNat < S160x240.size a := fun i k0_t4 v83 v598 k0_hw978 k0_h9 => k0_hw978 k0_h9

def k0_chk979 (i : grid0.Coords) (k0_t4 : Fin (k0_t4_loop i).trips) (v83 : IVec S16 32) (v602 : IVec S16 32) : Prop :=
  (∀ (k0_h9 : k0_cond9 i k0_t4 = 1#1), ∀ a x, ((![v83, v602] : Fin 2 → IVec S16 32) a x).toNat < S160x240.size a)
theorem k0_idx1147_inb : ∀ (i : grid0.Coords) (k0_t4 : Fin (k0_t4_loop i).trips) (v83 : IVec S16 32) (v602 : IVec S16 32) (k0_hw979 : k0_chk979 i k0_t4 v83 v602), ∀ (k0_h9 : k0_cond9 i k0_t4 = 1#1), ∀ a x, ((![v83, v602] : Fin 2 → IVec S16 32) a x).toNat < S160x240.size a := fun i k0_t4 v83 v602 k0_hw979 k0_h9 => k0_hw979 k0_h9

def k0_chk980 (i : grid0.Coords) (k0_t4 : Fin (k0_t4_loop i).trips) (v83 : IVec S16 32) (v606 : IVec S16 32) : Prop :=
  (∀ (k0_h9 : k0_cond9 i k0_t4 = 1#1), ∀ a x, ((![v83, v606] : Fin 2 → IVec S16 32) a x).toNat < S160x240.size a)
theorem k0_idx1148_inb : ∀ (i : grid0.Coords) (k0_t4 : Fin (k0_t4_loop i).trips) (v83 : IVec S16 32) (v606 : IVec S16 32) (k0_hw980 : k0_chk980 i k0_t4 v83 v606), ∀ (k0_h9 : k0_cond9 i k0_t4 = 1#1), ∀ a x, ((![v83, v606] : Fin 2 → IVec S16 32) a x).toNat < S160x240.size a := fun i k0_t4 v83 v606 k0_hw980 k0_h9 => k0_hw980 k0_h9

def k0_chk981 (i : grid0.Coords) (k0_t4 : Fin (k0_t4_loop i).trips) (v83 : IVec S16 32) (v610 : IVec S16 32) : Prop :=
  (∀ (k0_h9 : k0_cond9 i k0_t4 = 1#1), ∀ a x, ((![v83, v610] : Fin 2 → IVec S16 32) a x).toNat < S160x240.size a)
theorem k0_idx1149_inb : ∀ (i : grid0.Coords) (k0_t4 : Fin (k0_t4_loop i).trips) (v83 : IVec S16 32) (v610 : IVec S16 32) (k0_hw981 : k0_chk981 i k0_t4 v83 v610), ∀ (k0_h9 : k0_cond9 i k0_t4 = 1#1), ∀ a x, ((![v83, v610] : Fin 2 → IVec S16 32) a x).toNat < S160x240.size a := fun i k0_t4 v83 v610 k0_hw981 k0_h9 => k0_hw981 k0_h9

def k0_chk982 (i : grid0.Coords) (k0_t4 : Fin (k0_t4_loop i).trips) (v83 : IVec S16 32) (v595 : IVec S16 32) : Prop :=
  (∀ (k0_h9 : k0_cond9 i k0_t4 = 1#1), ∀ a x, ((![v595] : Fin 1 → IVec S16 32) a x).toNat < S48.size a) ∧
  (∀ (k0_h9 : k0_cond9 i k0_t4 = 1#1), ∀ a x, ((![v83, v595] : Fin 2 → IVec S16 32) a x).toNat < S160x48.size a)
theorem k0_idx1150_inb : ∀ (i : grid0.Coords) (k0_t4 : Fin (k0_t4_loop i).trips) (v83 : IVec S16 32) (v595 : IVec S16 32) (k0_hw982 : k0_chk982 i k0_t4 v83 v595), ∀ (k0_h9 : k0_cond9 i k0_t4 = 1#1), ∀ a x, ((![v595] : Fin 1 → IVec S16 32) a x).toNat < S48.size a := fun i k0_t4 v83 v595 k0_hw982 k0_h9 => k0_hw982.1 k0_h9
theorem k0_idx1151_inb : ∀ (i : grid0.Coords) (k0_t4 : Fin (k0_t4_loop i).trips) (v83 : IVec S16 32) (v595 : IVec S16 32) (k0_hw982 : k0_chk982 i k0_t4 v83 v595), ∀ (k0_h9 : k0_cond9 i k0_t4 = 1#1), ∀ a x, ((![v83, v595] : Fin 2 → IVec S16 32) a x).toNat < S160x48.size a := fun i k0_t4 v83 v595 k0_hw982 k0_h9 => k0_hw982.2 k0_h9

def k0_chk983 (i : grid0.Coords) (k0_t4 : Fin (k0_t4_loop i).trips) (v83 : IVec S16 32) (v614 : IVec S16 32) : Prop :=
  (∀ (k0_h9 : k0_cond9 i k0_t4 = 1#1), ∀ a x, ((![v83, v614] : Fin 2 → IVec S16 32) a x).toNat < S160x240.size a)
theorem k0_idx1152_inb : ∀ (i : grid0.Coords) (k0_t4 : Fin (k0_t4_loop i).trips) (v83 : IVec S16 32) (v614 : IVec S16 32) (k0_hw983 : k0_chk983 i k0_t4 v83 v614), ∀ (k0_h9 : k0_cond9 i k0_t4 = 1#1), ∀ a x, ((![v83, v614] : Fin 2 → IVec S16 32) a x).toNat < S160x240.size a := fun i k0_t4 v83 v614 k0_hw983 k0_h9 => k0_hw983 k0_h9

def k0_chk984 (i : grid0.Coords) (k0_t4 : Fin (k0_t4_loop i).trips) (v83 : IVec S16 32) (v626 : IVec S16 32) : Prop :=
  (∀ (k0_h9 : k0_cond9 i k0_t4 = 1#1), ∀ a x, ((![v83, v626] : Fin 2 → IVec S16 32) a x).toNat < S160x240.size a)
theorem k0_idx1153_inb : ∀ (i : grid0.Coords) (k0_t4 : Fin (k0_t4_loop i).trips) (v83 : IVec S16 32) (v626 : IVec S16 32) (k0_hw984 : k0_chk984 i k0_t4 v83 v626), ∀ (k0_h9 : k0_cond9 i k0_t4 = 1#1), ∀ a x, ((![v83, v626] : Fin 2 → IVec S16 32) a x).toNat < S160x240.size a := fun i k0_t4 v83 v626 k0_hw984 k0_h9 => k0_hw984 k0_h9

def k0_chk985 (i : grid0.Coords) (k0_t4 : Fin (k0_t4_loop i).trips) (v83 : IVec S16 32) (v630 : IVec S16 32) : Prop :=
  (∀ (k0_h9 : k0_cond9 i k0_t4 = 1#1), ∀ a x, ((![v83, v630] : Fin 2 → IVec S16 32) a x).toNat < S160x240.size a)
theorem k0_idx1154_inb : ∀ (i : grid0.Coords) (k0_t4 : Fin (k0_t4_loop i).trips) (v83 : IVec S16 32) (v630 : IVec S16 32) (k0_hw985 : k0_chk985 i k0_t4 v83 v630), ∀ (k0_h9 : k0_cond9 i k0_t4 = 1#1), ∀ a x, ((![v83, v630] : Fin 2 → IVec S16 32) a x).toNat < S160x240.size a := fun i k0_t4 v83 v630 k0_hw985 k0_h9 => k0_hw985 k0_h9

def k0_chk986 (i : grid0.Coords) (k0_t4 : Fin (k0_t4_loop i).trips) (v83 : IVec S16 32) (v634 : IVec S16 32) : Prop :=
  (∀ (k0_h9 : k0_cond9 i k0_t4 = 1#1), ∀ a x, ((![v83, v634] : Fin 2 → IVec S16 32) a x).toNat < S160x240.size a)
theorem k0_idx1155_inb : ∀ (i : grid0.Coords) (k0_t4 : Fin (k0_t4_loop i).trips) (v83 : IVec S16 32) (v634 : IVec S16 32) (k0_hw986 : k0_chk986 i k0_t4 v83 v634), ∀ (k0_h9 : k0_cond9 i k0_t4 = 1#1), ∀ a x, ((![v83, v634] : Fin 2 → IVec S16 32) a x).toNat < S160x240.size a := fun i k0_t4 v83 v634 k0_hw986 k0_h9 => k0_hw986 k0_h9

def k0_chk987 (i : grid0.Coords) (k0_t4 : Fin (k0_t4_loop i).trips) (v83 : IVec S16 32) (v638 : IVec S16 32) : Prop :=
  (∀ (k0_h9 : k0_cond9 i k0_t4 = 1#1), ∀ a x, ((![v83, v638] : Fin 2 → IVec S16 32) a x).toNat < S160x240.size a)
theorem k0_idx1156_inb : ∀ (i : grid0.Coords) (k0_t4 : Fin (k0_t4_loop i).trips) (v83 : IVec S16 32) (v638 : IVec S16 32) (k0_hw987 : k0_chk987 i k0_t4 v83 v638), ∀ (k0_h9 : k0_cond9 i k0_t4 = 1#1), ∀ a x, ((![v83, v638] : Fin 2 → IVec S16 32) a x).toNat < S160x240.size a := fun i k0_t4 v83 v638 k0_hw987 k0_h9 => k0_hw987 k0_h9

def k0_chk988 (i : grid0.Coords) (k0_t4 : Fin (k0_t4_loop i).trips) (v83 : IVec S16 32) (v623 : IVec S16 32) : Prop :=
  (∀ (k0_h9 : k0_cond9 i k0_t4 = 1#1), ∀ a x, ((![v623] : Fin 1 → IVec S16 32) a x).toNat < S48.size a) ∧
  (∀ (k0_h9 : k0_cond9 i k0_t4 = 1#1), ∀ a x, ((![v83, v623] : Fin 2 → IVec S16 32) a x).toNat < S160x48.size a)
theorem k0_idx1157_inb : ∀ (i : grid0.Coords) (k0_t4 : Fin (k0_t4_loop i).trips) (v83 : IVec S16 32) (v623 : IVec S16 32) (k0_hw988 : k0_chk988 i k0_t4 v83 v623), ∀ (k0_h9 : k0_cond9 i k0_t4 = 1#1), ∀ a x, ((![v623] : Fin 1 → IVec S16 32) a x).toNat < S48.size a := fun i k0_t4 v83 v623 k0_hw988 k0_h9 => k0_hw988.1 k0_h9
theorem k0_idx1158_inb : ∀ (i : grid0.Coords) (k0_t4 : Fin (k0_t4_loop i).trips) (v83 : IVec S16 32) (v623 : IVec S16 32) (k0_hw988 : k0_chk988 i k0_t4 v83 v623), ∀ (k0_h9 : k0_cond9 i k0_t4 = 1#1), ∀ a x, ((![v83, v623] : Fin 2 → IVec S16 32) a x).toNat < S160x48.size a := fun i k0_t4 v83 v623 k0_hw988 k0_h9 => k0_hw988.2 k0_h9

def k0_chk989 (i : grid0.Coords) (k0_t4 : Fin (k0_t4_loop i).trips) (v83 : IVec S16 32) (v642 : IVec S16 32) : Prop :=
  (∀ (k0_h9 : k0_cond9 i k0_t4 = 1#1), ∀ a x, ((![v83, v642] : Fin 2 → IVec S16 32) a x).toNat < S160x240.size a)
theorem k0_idx1159_inb : ∀ (i : grid0.Coords) (k0_t4 : Fin (k0_t4_loop i).trips) (v83 : IVec S16 32) (v642 : IVec S16 32) (k0_hw989 : k0_chk989 i k0_t4 v83 v642), ∀ (k0_h9 : k0_cond9 i k0_t4 = 1#1), ∀ a x, ((![v83, v642] : Fin 2 → IVec S16 32) a x).toNat < S160x240.size a := fun i k0_t4 v83 v642 k0_hw989 k0_h9 => k0_hw989 k0_h9

def k0_chk990 (i : grid0.Coords) (k0_t4 : Fin (k0_t4_loop i).trips) (v83 : IVec S16 32) (v654 : IVec S16 32) : Prop :=
  (∀ (k0_h9 : k0_cond9 i k0_t4 = 1#1), ∀ a x, ((![v83, v654] : Fin 2 → IVec S16 32) a x).toNat < S160x240.size a)
theorem k0_idx1160_inb : ∀ (i : grid0.Coords) (k0_t4 : Fin (k0_t4_loop i).trips) (v83 : IVec S16 32) (v654 : IVec S16 32) (k0_hw990 : k0_chk990 i k0_t4 v83 v654), ∀ (k0_h9 : k0_cond9 i k0_t4 = 1#1), ∀ a x, ((![v83, v654] : Fin 2 → IVec S16 32) a x).toNat < S160x240.size a := fun i k0_t4 v83 v654 k0_hw990 k0_h9 => k0_hw990 k0_h9

def k0_chk991 (i : grid0.Coords) (k0_t4 : Fin (k0_t4_loop i).trips) (v83 : IVec S16 32) (v658 : IVec S16 32) : Prop :=
  (∀ (k0_h9 : k0_cond9 i k0_t4 = 1#1), ∀ a x, ((![v83, v658] : Fin 2 → IVec S16 32) a x).toNat < S160x240.size a)
theorem k0_idx1161_inb : ∀ (i : grid0.Coords) (k0_t4 : Fin (k0_t4_loop i).trips) (v83 : IVec S16 32) (v658 : IVec S16 32) (k0_hw991 : k0_chk991 i k0_t4 v83 v658), ∀ (k0_h9 : k0_cond9 i k0_t4 = 1#1), ∀ a x, ((![v83, v658] : Fin 2 → IVec S16 32) a x).toNat < S160x240.size a := fun i k0_t4 v83 v658 k0_hw991 k0_h9 => k0_hw991 k0_h9

def k0_chk992 (i : grid0.Coords) (k0_t4 : Fin (k0_t4_loop i).trips) (v83 : IVec S16 32) (v662 : IVec S16 32) : Prop :=
  (∀ (k0_h9 : k0_cond9 i k0_t4 = 1#1), ∀ a x, ((![v83, v662] : Fin 2 → IVec S16 32) a x).toNat < S160x240.size a)
theorem k0_idx1162_inb : ∀ (i : grid0.Coords) (k0_t4 : Fin (k0_t4_loop i).trips) (v83 : IVec S16 32) (v662 : IVec S16 32) (k0_hw992 : k0_chk992 i k0_t4 v83 v662), ∀ (k0_h9 : k0_cond9 i k0_t4 = 1#1), ∀ a x, ((![v83, v662] : Fin 2 → IVec S16 32) a x).toNat < S160x240.size a := fun i k0_t4 v83 v662 k0_hw992 k0_h9 => k0_hw992 k0_h9

def k0_chk993 (i : grid0.Coords) (k0_t4 : Fin (k0_t4_loop i).trips) (v83 : IVec S16 32) (v666 : IVec S16 32) : Prop :=
  (∀ (k0_h9 : k0_cond9 i k0_t4 = 1#1), ∀ a x, ((![v83, v666] : Fin 2 → IVec S16 32) a x).toNat < S160x240.size a)
theorem k0_idx1163_inb : ∀ (i : grid0.Coords) (k0_t4 : Fin (k0_t4_loop i).trips) (v83 : IVec S16 32) (v666 : IVec S16 32) (k0_hw993 : k0_chk993 i k0_t4 v83 v666), ∀ (k0_h9 : k0_cond9 i k0_t4 = 1#1), ∀ a x, ((![v83, v666] : Fin 2 → IVec S16 32) a x).toNat < S160x240.size a := fun i k0_t4 v83 v666 k0_hw993 k0_h9 => k0_hw993 k0_h9

def k0_chk994 (i : grid0.Coords) (k0_t4 : Fin (k0_t4_loop i).trips) (v83 : IVec S16 32) (v651 : IVec S16 32) : Prop :=
  (∀ (k0_h9 : k0_cond9 i k0_t4 = 1#1), ∀ a x, ((![v651] : Fin 1 → IVec S16 32) a x).toNat < S48.size a) ∧
  (∀ (k0_h9 : k0_cond9 i k0_t4 = 1#1), ∀ a x, ((![v83, v651] : Fin 2 → IVec S16 32) a x).toNat < S160x48.size a)
theorem k0_idx1164_inb : ∀ (i : grid0.Coords) (k0_t4 : Fin (k0_t4_loop i).trips) (v83 : IVec S16 32) (v651 : IVec S16 32) (k0_hw994 : k0_chk994 i k0_t4 v83 v651), ∀ (k0_h9 : k0_cond9 i k0_t4 = 1#1), ∀ a x, ((![v651] : Fin 1 → IVec S16 32) a x).toNat < S48.size a := fun i k0_t4 v83 v651 k0_hw994 k0_h9 => k0_hw994.1 k0_h9
theorem k0_idx1165_inb : ∀ (i : grid0.Coords) (k0_t4 : Fin (k0_t4_loop i).trips) (v83 : IVec S16 32) (v651 : IVec S16 32) (k0_hw994 : k0_chk994 i k0_t4 v83 v651), ∀ (k0_h9 : k0_cond9 i k0_t4 = 1#1), ∀ a x, ((![v83, v651] : Fin 2 → IVec S16 32) a x).toNat < S160x48.size a := fun i k0_t4 v83 v651 k0_hw994 k0_h9 => k0_hw994.2 k0_h9

def k0_chk995 (i : grid0.Coords) (k0_t4 : Fin (k0_t4_loop i).trips) (v83 : IVec S16 32) (v670 : IVec S16 32) : Prop :=
  (∀ (k0_h9 : k0_cond9 i k0_t4 = 1#1), ∀ a x, ((![v83, v670] : Fin 2 → IVec S16 32) a x).toNat < S160x240.size a)
theorem k0_idx1166_inb : ∀ (i : grid0.Coords) (k0_t4 : Fin (k0_t4_loop i).trips) (v83 : IVec S16 32) (v670 : IVec S16 32) (k0_hw995 : k0_chk995 i k0_t4 v83 v670), ∀ (k0_h9 : k0_cond9 i k0_t4 = 1#1), ∀ a x, ((![v83, v670] : Fin 2 → IVec S16 32) a x).toNat < S160x240.size a := fun i k0_t4 v83 v670 k0_hw995 k0_h9 => k0_hw995 k0_h9

def k0_chk996 (i : grid0.Coords) (k0_t4 : Fin (k0_t4_loop i).trips) (v83 : IVec S16 32) (v682 : IVec S16 32) : Prop :=
  (∀ (k0_h9 : k0_cond9 i k0_t4 = 1#1), ∀ a x, ((![v83, v682] : Fin 2 → IVec S16 32) a x).toNat < S160x240.size a)
theorem k0_idx1167_inb : ∀ (i : grid0.Coords) (k0_t4 : Fin (k0_t4_loop i).trips) (v83 : IVec S16 32) (v682 : IVec S16 32) (k0_hw996 : k0_chk996 i k0_t4 v83 v682), ∀ (k0_h9 : k0_cond9 i k0_t4 = 1#1), ∀ a x, ((![v83, v682] : Fin 2 → IVec S16 32) a x).toNat < S160x240.size a := fun i k0_t4 v83 v682 k0_hw996 k0_h9 => k0_hw996 k0_h9

def k0_chk997 (i : grid0.Coords) (k0_t4 : Fin (k0_t4_loop i).trips) (v83 : IVec S16 32) (v686 : IVec S16 32) : Prop :=
  (∀ (k0_h9 : k0_cond9 i k0_t4 = 1#1), ∀ a x, ((![v83, v686] : Fin 2 → IVec S16 32) a x).toNat < S160x240.size a)
theorem k0_idx1168_inb : ∀ (i : grid0.Coords) (k0_t4 : Fin (k0_t4_loop i).trips) (v83 : IVec S16 32) (v686 : IVec S16 32) (k0_hw997 : k0_chk997 i k0_t4 v83 v686), ∀ (k0_h9 : k0_cond9 i k0_t4 = 1#1), ∀ a x, ((![v83, v686] : Fin 2 → IVec S16 32) a x).toNat < S160x240.size a := fun i k0_t4 v83 v686 k0_hw997 k0_h9 => k0_hw997 k0_h9

def k0_chk998 (i : grid0.Coords) (k0_t4 : Fin (k0_t4_loop i).trips) (v83 : IVec S16 32) (v690 : IVec S16 32) : Prop :=
  (∀ (k0_h9 : k0_cond9 i k0_t4 = 1#1), ∀ a x, ((![v83, v690] : Fin 2 → IVec S16 32) a x).toNat < S160x240.size a)
theorem k0_idx1169_inb : ∀ (i : grid0.Coords) (k0_t4 : Fin (k0_t4_loop i).trips) (v83 : IVec S16 32) (v690 : IVec S16 32) (k0_hw998 : k0_chk998 i k0_t4 v83 v690), ∀ (k0_h9 : k0_cond9 i k0_t4 = 1#1), ∀ a x, ((![v83, v690] : Fin 2 → IVec S16 32) a x).toNat < S160x240.size a := fun i k0_t4 v83 v690 k0_hw998 k0_h9 => k0_hw998 k0_h9

def k0_chk999 (i : grid0.Coords) (k0_t4 : Fin (k0_t4_loop i).trips) (v83 : IVec S16 32) (v694 : IVec S16 32) : Prop :=
  (∀ (k0_h9 : k0_cond9 i k0_t4 = 1#1), ∀ a x, ((![v83, v694] : Fin 2 → IVec S16 32) a x).toNat < S160x240.size a)
theorem k0_idx1170_inb : ∀ (i : grid0.Coords) (k0_t4 : Fin (k0_t4_loop i).trips) (v83 : IVec S16 32) (v694 : IVec S16 32) (k0_hw999 : k0_chk999 i k0_t4 v83 v694), ∀ (k0_h9 : k0_cond9 i k0_t4 = 1#1), ∀ a x, ((![v83, v694] : Fin 2 → IVec S16 32) a x).toNat < S160x240.size a := fun i k0_t4 v83 v694 k0_hw999 k0_h9 => k0_hw999 k0_h9

def k0_chk1000 (i : grid0.Coords) (k0_t4 : Fin (k0_t4_loop i).trips) (v83 : IVec S16 32) (v679 : IVec S16 32) : Prop :=
  (∀ (k0_h9 : k0_cond9 i k0_t4 = 1#1), ∀ a x, ((![v679] : Fin 1 → IVec S16 32) a x).toNat < S48.size a) ∧
  (∀ (k0_h9 : k0_cond9 i k0_t4 = 1#1), ∀ a x, ((![v83, v679] : Fin 2 → IVec S16 32) a x).toNat < S160x48.size a)
theorem k0_idx1171_inb : ∀ (i : grid0.Coords) (k0_t4 : Fin (k0_t4_loop i).trips) (v83 : IVec S16 32) (v679 : IVec S16 32) (k0_hw1000 : k0_chk1000 i k0_t4 v83 v679), ∀ (k0_h9 : k0_cond9 i k0_t4 = 1#1), ∀ a x, ((![v679] : Fin 1 → IVec S16 32) a x).toNat < S48.size a := fun i k0_t4 v83 v679 k0_hw1000 k0_h9 => k0_hw1000.1 k0_h9
theorem k0_idx1172_inb : ∀ (i : grid0.Coords) (k0_t4 : Fin (k0_t4_loop i).trips) (v83 : IVec S16 32) (v679 : IVec S16 32) (k0_hw1000 : k0_chk1000 i k0_t4 v83 v679), ∀ (k0_h9 : k0_cond9 i k0_t4 = 1#1), ∀ a x, ((![v83, v679] : Fin 2 → IVec S16 32) a x).toNat < S160x48.size a := fun i k0_t4 v83 v679 k0_hw1000 k0_h9 => k0_hw1000.2 k0_h9

def k0_chk1001 (i : grid0.Coords) (k0_t4 : Fin (k0_t4_loop i).trips) (v83 : IVec S16 32) (v698 : IVec S16 32) : Prop :=
  (∀ (k0_h9 : k0_cond9 i k0_t4 = 1#1), ∀ a x, ((![v83, v698] : Fin 2 → IVec S16 32) a x).toNat < S160x240.size a)
theorem k0_idx1173_inb : ∀ (i : grid0.Coords) (k0_t4 : Fin (k0_t4_loop i).trips) (v83 : IVec S16 32) (v698 : IVec S16 32) (k0_hw1001 : k0_chk1001 i k0_t4 v83 v698), ∀ (k0_h9 : k0_cond9 i k0_t4 = 1#1), ∀ a x, ((![v83, v698] : Fin 2 → IVec S16 32) a x).toNat < S160x240.size a := fun i k0_t4 v83 v698 k0_hw1001 k0_h9 => k0_hw1001 k0_h9

def k0_chk1002 (i : grid0.Coords) (k0_t4 : Fin (k0_t4_loop i).trips) (v83 : IVec S16 32) (v710 : IVec S16 32) : Prop :=
  (∀ (k0_h9 : k0_cond9 i k0_t4 = 1#1), ∀ a x, ((![v83, v710] : Fin 2 → IVec S16 32) a x).toNat < S160x240.size a)
theorem k0_idx1174_inb : ∀ (i : grid0.Coords) (k0_t4 : Fin (k0_t4_loop i).trips) (v83 : IVec S16 32) (v710 : IVec S16 32) (k0_hw1002 : k0_chk1002 i k0_t4 v83 v710), ∀ (k0_h9 : k0_cond9 i k0_t4 = 1#1), ∀ a x, ((![v83, v710] : Fin 2 → IVec S16 32) a x).toNat < S160x240.size a := fun i k0_t4 v83 v710 k0_hw1002 k0_h9 => k0_hw1002 k0_h9

def k0_chk1003 (i : grid0.Coords) (k0_t4 : Fin (k0_t4_loop i).trips) (v83 : IVec S16 32) (v714 : IVec S16 32) : Prop :=
  (∀ (k0_h9 : k0_cond9 i k0_t4 = 1#1), ∀ a x, ((![v83, v714] : Fin 2 → IVec S16 32) a x).toNat < S160x240.size a)
theorem k0_idx1175_inb : ∀ (i : grid0.Coords) (k0_t4 : Fin (k0_t4_loop i).trips) (v83 : IVec S16 32) (v714 : IVec S16 32) (k0_hw1003 : k0_chk1003 i k0_t4 v83 v714), ∀ (k0_h9 : k0_cond9 i k0_t4 = 1#1), ∀ a x, ((![v83, v714] : Fin 2 → IVec S16 32) a x).toNat < S160x240.size a := fun i k0_t4 v83 v714 k0_hw1003 k0_h9 => k0_hw1003 k0_h9

def k0_chk1004 (i : grid0.Coords) (k0_t4 : Fin (k0_t4_loop i).trips) (v83 : IVec S16 32) (v718 : IVec S16 32) : Prop :=
  (∀ (k0_h9 : k0_cond9 i k0_t4 = 1#1), ∀ a x, ((![v83, v718] : Fin 2 → IVec S16 32) a x).toNat < S160x240.size a)
theorem k0_idx1176_inb : ∀ (i : grid0.Coords) (k0_t4 : Fin (k0_t4_loop i).trips) (v83 : IVec S16 32) (v718 : IVec S16 32) (k0_hw1004 : k0_chk1004 i k0_t4 v83 v718), ∀ (k0_h9 : k0_cond9 i k0_t4 = 1#1), ∀ a x, ((![v83, v718] : Fin 2 → IVec S16 32) a x).toNat < S160x240.size a := fun i k0_t4 v83 v718 k0_hw1004 k0_h9 => k0_hw1004 k0_h9

def k0_chk1005 (i : grid0.Coords) (k0_t4 : Fin (k0_t4_loop i).trips) (v83 : IVec S16 32) (v722 : IVec S16 32) : Prop :=
  (∀ (k0_h9 : k0_cond9 i k0_t4 = 1#1), ∀ a x, ((![v83, v722] : Fin 2 → IVec S16 32) a x).toNat < S160x240.size a)
theorem k0_idx1177_inb : ∀ (i : grid0.Coords) (k0_t4 : Fin (k0_t4_loop i).trips) (v83 : IVec S16 32) (v722 : IVec S16 32) (k0_hw1005 : k0_chk1005 i k0_t4 v83 v722), ∀ (k0_h9 : k0_cond9 i k0_t4 = 1#1), ∀ a x, ((![v83, v722] : Fin 2 → IVec S16 32) a x).toNat < S160x240.size a := fun i k0_t4 v83 v722 k0_hw1005 k0_h9 => k0_hw1005 k0_h9

def k0_chk1006 (i : grid0.Coords) (k0_t4 : Fin (k0_t4_loop i).trips) (v83 : IVec S16 32) (v707 : IVec S16 32) : Prop :=
  (∀ (k0_h9 : k0_cond9 i k0_t4 = 1#1), ∀ a x, ((![v707] : Fin 1 → IVec S16 32) a x).toNat < S48.size a) ∧
  (∀ (k0_h9 : k0_cond9 i k0_t4 = 1#1), ∀ a x, ((![v83, v707] : Fin 2 → IVec S16 32) a x).toNat < S160x48.size a)
theorem k0_idx1178_inb : ∀ (i : grid0.Coords) (k0_t4 : Fin (k0_t4_loop i).trips) (v83 : IVec S16 32) (v707 : IVec S16 32) (k0_hw1006 : k0_chk1006 i k0_t4 v83 v707), ∀ (k0_h9 : k0_cond9 i k0_t4 = 1#1), ∀ a x, ((![v707] : Fin 1 → IVec S16 32) a x).toNat < S48.size a := fun i k0_t4 v83 v707 k0_hw1006 k0_h9 => k0_hw1006.1 k0_h9
theorem k0_idx1179_inb : ∀ (i : grid0.Coords) (k0_t4 : Fin (k0_t4_loop i).trips) (v83 : IVec S16 32) (v707 : IVec S16 32) (k0_hw1006 : k0_chk1006 i k0_t4 v83 v707), ∀ (k0_h9 : k0_cond9 i k0_t4 = 1#1), ∀ a x, ((![v83, v707] : Fin 2 → IVec S16 32) a x).toNat < S160x48.size a := fun i k0_t4 v83 v707 k0_hw1006 k0_h9 => k0_hw1006.2 k0_h9

def k0_chk1007 (i : grid0.Coords) (k0_t4 : Fin (k0_t4_loop i).trips) (v83 : IVec S16 32) (v726 : IVec S16 32) : Prop :=
  (∀ (k0_h9 : k0_cond9 i k0_t4 = 1#1), ∀ a x, ((![v83, v726] : Fin 2 → IVec S16 32) a x).toNat < S160x240.size a)
theorem k0_idx1180_inb : ∀ (i : grid0.Coords) (k0_t4 : Fin (k0_t4_loop i).trips) (v83 : IVec S16 32) (v726 : IVec S16 32) (k0_hw1007 : k0_chk1007 i k0_t4 v83 v726), ∀ (k0_h9 : k0_cond9 i k0_t4 = 1#1), ∀ a x, ((![v83, v726] : Fin 2 → IVec S16 32) a x).toNat < S160x240.size a := fun i k0_t4 v83 v726 k0_hw1007 k0_h9 => k0_hw1007 k0_h9

def k0_chk1008 (i : grid0.Coords) (k0_t4 : Fin (k0_t4_loop i).trips) (v83 : IVec S16 32) (v738 : IVec S16 32) : Prop :=
  (∀ (k0_h9 : k0_cond9 i k0_t4 = 1#1), ∀ a x, ((![v83, v738] : Fin 2 → IVec S16 32) a x).toNat < S160x240.size a)
theorem k0_idx1181_inb : ∀ (i : grid0.Coords) (k0_t4 : Fin (k0_t4_loop i).trips) (v83 : IVec S16 32) (v738 : IVec S16 32) (k0_hw1008 : k0_chk1008 i k0_t4 v83 v738), ∀ (k0_h9 : k0_cond9 i k0_t4 = 1#1), ∀ a x, ((![v83, v738] : Fin 2 → IVec S16 32) a x).toNat < S160x240.size a := fun i k0_t4 v83 v738 k0_hw1008 k0_h9 => k0_hw1008 k0_h9

def k0_chk1009 (i : grid0.Coords) (k0_t4 : Fin (k0_t4_loop i).trips) (v83 : IVec S16 32) (v742 : IVec S16 32) : Prop :=
  (∀ (k0_h9 : k0_cond9 i k0_t4 = 1#1), ∀ a x, ((![v83, v742] : Fin 2 → IVec S16 32) a x).toNat < S160x240.size a)
theorem k0_idx1182_inb : ∀ (i : grid0.Coords) (k0_t4 : Fin (k0_t4_loop i).trips) (v83 : IVec S16 32) (v742 : IVec S16 32) (k0_hw1009 : k0_chk1009 i k0_t4 v83 v742), ∀ (k0_h9 : k0_cond9 i k0_t4 = 1#1), ∀ a x, ((![v83, v742] : Fin 2 → IVec S16 32) a x).toNat < S160x240.size a := fun i k0_t4 v83 v742 k0_hw1009 k0_h9 => k0_hw1009 k0_h9

def k0_chk1010 (i : grid0.Coords) (k0_t4 : Fin (k0_t4_loop i).trips) (v83 : IVec S16 32) (v746 : IVec S16 32) : Prop :=
  (∀ (k0_h9 : k0_cond9 i k0_t4 = 1#1), ∀ a x, ((![v83, v746] : Fin 2 → IVec S16 32) a x).toNat < S160x240.size a)
theorem k0_idx1183_inb : ∀ (i : grid0.Coords) (k0_t4 : Fin (k0_t4_loop i).trips) (v83 : IVec S16 32) (v746 : IVec S16 32) (k0_hw1010 : k0_chk1010 i k0_t4 v83 v746), ∀ (k0_h9 : k0_cond9 i k0_t4 = 1#1), ∀ a x, ((![v83, v746] : Fin 2 → IVec S16 32) a x).toNat < S160x240.size a := fun i k0_t4 v83 v746 k0_hw1010 k0_h9 => k0_hw1010 k0_h9

def k0_chk1011 (i : grid0.Coords) (k0_t4 : Fin (k0_t4_loop i).trips) (v83 : IVec S16 32) (v750 : IVec S16 32) : Prop :=
  (∀ (k0_h9 : k0_cond9 i k0_t4 = 1#1), ∀ a x, ((![v83, v750] : Fin 2 → IVec S16 32) a x).toNat < S160x240.size a)
theorem k0_idx1184_inb : ∀ (i : grid0.Coords) (k0_t4 : Fin (k0_t4_loop i).trips) (v83 : IVec S16 32) (v750 : IVec S16 32) (k0_hw1011 : k0_chk1011 i k0_t4 v83 v750), ∀ (k0_h9 : k0_cond9 i k0_t4 = 1#1), ∀ a x, ((![v83, v750] : Fin 2 → IVec S16 32) a x).toNat < S160x240.size a := fun i k0_t4 v83 v750 k0_hw1011 k0_h9 => k0_hw1011 k0_h9

def k0_chk1012 (i : grid0.Coords) (k0_t4 : Fin (k0_t4_loop i).trips) (v83 : IVec S16 32) (v735 : IVec S16 32) : Prop :=
  (∀ (k0_h9 : k0_cond9 i k0_t4 = 1#1), ∀ a x, ((![v735] : Fin 1 → IVec S16 32) a x).toNat < S48.size a) ∧
  (∀ (k0_h9 : k0_cond9 i k0_t4 = 1#1), ∀ a x, ((![v83, v735] : Fin 2 → IVec S16 32) a x).toNat < S160x48.size a)
theorem k0_idx1185_inb : ∀ (i : grid0.Coords) (k0_t4 : Fin (k0_t4_loop i).trips) (v83 : IVec S16 32) (v735 : IVec S16 32) (k0_hw1012 : k0_chk1012 i k0_t4 v83 v735), ∀ (k0_h9 : k0_cond9 i k0_t4 = 1#1), ∀ a x, ((![v735] : Fin 1 → IVec S16 32) a x).toNat < S48.size a := fun i k0_t4 v83 v735 k0_hw1012 k0_h9 => k0_hw1012.1 k0_h9
theorem k0_idx1186_inb : ∀ (i : grid0.Coords) (k0_t4 : Fin (k0_t4_loop i).trips) (v83 : IVec S16 32) (v735 : IVec S16 32) (k0_hw1012 : k0_chk1012 i k0_t4 v83 v735), ∀ (k0_h9 : k0_cond9 i k0_t4 = 1#1), ∀ a x, ((![v83, v735] : Fin 2 → IVec S16 32) a x).toNat < S160x48.size a := fun i k0_t4 v83 v735 k0_hw1012 k0_h9 => k0_hw1012.2 k0_h9

def k0_chk1013 (i : grid0.Coords) (k0_t4 : Fin (k0_t4_loop i).trips) (v83 : IVec S16 32) (v754 : IVec S16 32) : Prop :=
  (∀ (k0_h9 : k0_cond9 i k0_t4 = 1#1), ∀ a x, ((![v83, v754] : Fin 2 → IVec S16 32) a x).toNat < S160x240.size a)
theorem k0_idx1187_inb : ∀ (i : grid0.Coords) (k0_t4 : Fin (k0_t4_loop i).trips) (v83 : IVec S16 32) (v754 : IVec S16 32) (k0_hw1013 : k0_chk1013 i k0_t4 v83 v754), ∀ (k0_h9 : k0_cond9 i k0_t4 = 1#1), ∀ a x, ((![v83, v754] : Fin 2 → IVec S16 32) a x).toNat < S160x240.size a := fun i k0_t4 v83 v754 k0_hw1013 k0_h9 => k0_hw1013 k0_h9

def k0_chk1014 (i : grid0.Coords) (k0_t4 : Fin (k0_t4_loop i).trips) (v83 : IVec S16 32) (v766 : IVec S16 32) : Prop :=
  (∀ (k0_h9 : k0_cond9 i k0_t4 = 1#1), ∀ a x, ((![v83, v766] : Fin 2 → IVec S16 32) a x).toNat < S160x240.size a)
theorem k0_idx1188_inb : ∀ (i : grid0.Coords) (k0_t4 : Fin (k0_t4_loop i).trips) (v83 : IVec S16 32) (v766 : IVec S16 32) (k0_hw1014 : k0_chk1014 i k0_t4 v83 v766), ∀ (k0_h9 : k0_cond9 i k0_t4 = 1#1), ∀ a x, ((![v83, v766] : Fin 2 → IVec S16 32) a x).toNat < S160x240.size a := fun i k0_t4 v83 v766 k0_hw1014 k0_h9 => k0_hw1014 k0_h9

def k0_chk1015 (i : grid0.Coords) (k0_t4 : Fin (k0_t4_loop i).trips) (v83 : IVec S16 32) (v770 : IVec S16 32) : Prop :=
  (∀ (k0_h9 : k0_cond9 i k0_t4 = 1#1), ∀ a x, ((![v83, v770] : Fin 2 → IVec S16 32) a x).toNat < S160x240.size a)
theorem k0_idx1189_inb : ∀ (i : grid0.Coords) (k0_t4 : Fin (k0_t4_loop i).trips) (v83 : IVec S16 32) (v770 : IVec S16 32) (k0_hw1015 : k0_chk1015 i k0_t4 v83 v770), ∀ (k0_h9 : k0_cond9 i k0_t4 = 1#1), ∀ a x, ((![v83, v770] : Fin 2 → IVec S16 32) a x).toNat < S160x240.size a := fun i k0_t4 v83 v770 k0_hw1015 k0_h9 => k0_hw1015 k0_h9

def k0_chk1016 (i : grid0.Coords) (k0_t4 : Fin (k0_t4_loop i).trips) (v83 : IVec S16 32) (v774 : IVec S16 32) : Prop :=
  (∀ (k0_h9 : k0_cond9 i k0_t4 = 1#1), ∀ a x, ((![v83, v774] : Fin 2 → IVec S16 32) a x).toNat < S160x240.size a)
theorem k0_idx1190_inb : ∀ (i : grid0.Coords) (k0_t4 : Fin (k0_t4_loop i).trips) (v83 : IVec S16 32) (v774 : IVec S16 32) (k0_hw1016 : k0_chk1016 i k0_t4 v83 v774), ∀ (k0_h9 : k0_cond9 i k0_t4 = 1#1), ∀ a x, ((![v83, v774] : Fin 2 → IVec S16 32) a x).toNat < S160x240.size a := fun i k0_t4 v83 v774 k0_hw1016 k0_h9 => k0_hw1016 k0_h9

def k0_chk1017 (i : grid0.Coords) (k0_t4 : Fin (k0_t4_loop i).trips) (v83 : IVec S16 32) (v778 : IVec S16 32) : Prop :=
  (∀ (k0_h9 : k0_cond9 i k0_t4 = 1#1), ∀ a x, ((![v83, v778] : Fin 2 → IVec S16 32) a x).toNat < S160x240.size a)
theorem k0_idx1191_inb : ∀ (i : grid0.Coords) (k0_t4 : Fin (k0_t4_loop i).trips) (v83 : IVec S16 32) (v778 : IVec S16 32) (k0_hw1017 : k0_chk1017 i k0_t4 v83 v778), ∀ (k0_h9 : k0_cond9 i k0_t4 = 1#1), ∀ a x, ((![v83, v778] : Fin 2 → IVec S16 32) a x).toNat < S160x240.size a := fun i k0_t4 v83 v778 k0_hw1017 k0_h9 => k0_hw1017 k0_h9

def k0_chk1018 (i : grid0.Coords) (k0_t4 : Fin (k0_t4_loop i).trips) (v83 : IVec S16 32) (v763 : IVec S16 32) : Prop :=
  (∀ (k0_h9 : k0_cond9 i k0_t4 = 1#1), ∀ a x, ((![v763] : Fin 1 → IVec S16 32) a x).toNat < S48.size a) ∧
  (∀ (k0_h9 : k0_cond9 i k0_t4 = 1#1), ∀ a x, ((![v83, v763] : Fin 2 → IVec S16 32) a x).toNat < S160x48.size a)
theorem k0_idx1192_inb : ∀ (i : grid0.Coords) (k0_t4 : Fin (k0_t4_loop i).trips) (v83 : IVec S16 32) (v763 : IVec S16 32) (k0_hw1018 : k0_chk1018 i k0_t4 v83 v763), ∀ (k0_h9 : k0_cond9 i k0_t4 = 1#1), ∀ a x, ((![v763] : Fin 1 → IVec S16 32) a x).toNat < S48.size a := fun i k0_t4 v83 v763 k0_hw1018 k0_h9 => k0_hw1018.1 k0_h9
theorem k0_idx1193_inb : ∀ (i : grid0.Coords) (k0_t4 : Fin (k0_t4_loop i).trips) (v83 : IVec S16 32) (v763 : IVec S16 32) (k0_hw1018 : k0_chk1018 i k0_t4 v83 v763), ∀ (k0_h9 : k0_cond9 i k0_t4 = 1#1), ∀ a x, ((![v83, v763] : Fin 2 → IVec S16 32) a x).toNat < S160x48.size a := fun i k0_t4 v83 v763 k0_hw1018 k0_h9 => k0_hw1018.2 k0_h9

def k0_chk1019 (i : grid0.Coords) (k0_t4 : Fin (k0_t4_loop i).trips) (v83 : IVec S16 32) (v782 : IVec S16 32) : Prop :=
  (∀ (k0_h9 : k0_cond9 i k0_t4 = 1#1), ∀ a x, ((![v83, v782] : Fin 2 → IVec S16 32) a x).toNat < S160x240.size a)
theorem k0_idx1194_inb : ∀ (i : grid0.Coords) (k0_t4 : Fin (k0_t4_loop i).trips) (v83 : IVec S16 32) (v782 : IVec S16 32) (k0_hw1019 : k0_chk1019 i k0_t4 v83 v782), ∀ (k0_h9 : k0_cond9 i k0_t4 = 1#1), ∀ a x, ((![v83, v782] : Fin 2 → IVec S16 32) a x).toNat < S160x240.size a := fun i k0_t4 v83 v782 k0_hw1019 k0_h9 => k0_hw1019 k0_h9

def k0_chk1020 (i : grid0.Coords) (k0_t4 : Fin (k0_t4_loop i).trips) (v83 : IVec S16 32) (v794 : IVec S16 32) : Prop :=
  (∀ (k0_h9 : k0_cond9 i k0_t4 = 1#1), ∀ a x, ((![v83, v794] : Fin 2 → IVec S16 32) a x).toNat < S160x240.size a)
theorem k0_idx1195_inb : ∀ (i : grid0.Coords) (k0_t4 : Fin (k0_t4_loop i).trips) (v83 : IVec S16 32) (v794 : IVec S16 32) (k0_hw1020 : k0_chk1020 i k0_t4 v83 v794), ∀ (k0_h9 : k0_cond9 i k0_t4 = 1#1), ∀ a x, ((![v83, v794] : Fin 2 → IVec S16 32) a x).toNat < S160x240.size a := fun i k0_t4 v83 v794 k0_hw1020 k0_h9 => k0_hw1020 k0_h9

def k0_chk1021 (i : grid0.Coords) (k0_t4 : Fin (k0_t4_loop i).trips) (v83 : IVec S16 32) (v798 : IVec S16 32) : Prop :=
  (∀ (k0_h9 : k0_cond9 i k0_t4 = 1#1), ∀ a x, ((![v83, v798] : Fin 2 → IVec S16 32) a x).toNat < S160x240.size a)
theorem k0_idx1196_inb : ∀ (i : grid0.Coords) (k0_t4 : Fin (k0_t4_loop i).trips) (v83 : IVec S16 32) (v798 : IVec S16 32) (k0_hw1021 : k0_chk1021 i k0_t4 v83 v798), ∀ (k0_h9 : k0_cond9 i k0_t4 = 1#1), ∀ a x, ((![v83, v798] : Fin 2 → IVec S16 32) a x).toNat < S160x240.size a := fun i k0_t4 v83 v798 k0_hw1021 k0_h9 => k0_hw1021 k0_h9

def k0_chk1022 (i : grid0.Coords) (k0_t4 : Fin (k0_t4_loop i).trips) (v83 : IVec S16 32) (v802 : IVec S16 32) : Prop :=
  (∀ (k0_h9 : k0_cond9 i k0_t4 = 1#1), ∀ a x, ((![v83, v802] : Fin 2 → IVec S16 32) a x).toNat < S160x240.size a)
theorem k0_idx1197_inb : ∀ (i : grid0.Coords) (k0_t4 : Fin (k0_t4_loop i).trips) (v83 : IVec S16 32) (v802 : IVec S16 32) (k0_hw1022 : k0_chk1022 i k0_t4 v83 v802), ∀ (k0_h9 : k0_cond9 i k0_t4 = 1#1), ∀ a x, ((![v83, v802] : Fin 2 → IVec S16 32) a x).toNat < S160x240.size a := fun i k0_t4 v83 v802 k0_hw1022 k0_h9 => k0_hw1022 k0_h9

def k0_chk1023 (i : grid0.Coords) (k0_t4 : Fin (k0_t4_loop i).trips) (v83 : IVec S16 32) (v806 : IVec S16 32) : Prop :=
  (∀ (k0_h9 : k0_cond9 i k0_t4 = 1#1), ∀ a x, ((![v83, v806] : Fin 2 → IVec S16 32) a x).toNat < S160x240.size a)
theorem k0_idx1198_inb : ∀ (i : grid0.Coords) (k0_t4 : Fin (k0_t4_loop i).trips) (v83 : IVec S16 32) (v806 : IVec S16 32) (k0_hw1023 : k0_chk1023 i k0_t4 v83 v806), ∀ (k0_h9 : k0_cond9 i k0_t4 = 1#1), ∀ a x, ((![v83, v806] : Fin 2 → IVec S16 32) a x).toNat < S160x240.size a := fun i k0_t4 v83 v806 k0_hw1023 k0_h9 => k0_hw1023 k0_h9

def k0_chk1024 (i : grid0.Coords) (k0_t4 : Fin (k0_t4_loop i).trips) (v83 : IVec S16 32) (v791 : IVec S16 32) : Prop :=
  (∀ (k0_h9 : k0_cond9 i k0_t4 = 1#1), ∀ a x, ((![v791] : Fin 1 → IVec S16 32) a x).toNat < S48.size a) ∧
  (∀ (k0_h9 : k0_cond9 i k0_t4 = 1#1), ∀ a x, ((![v83, v791] : Fin 2 → IVec S16 32) a x).toNat < S160x48.size a)
theorem k0_idx1199_inb : ∀ (i : grid0.Coords) (k0_t4 : Fin (k0_t4_loop i).trips) (v83 : IVec S16 32) (v791 : IVec S16 32) (k0_hw1024 : k0_chk1024 i k0_t4 v83 v791), ∀ (k0_h9 : k0_cond9 i k0_t4 = 1#1), ∀ a x, ((![v791] : Fin 1 → IVec S16 32) a x).toNat < S48.size a := fun i k0_t4 v83 v791 k0_hw1024 k0_h9 => k0_hw1024.1 k0_h9
theorem k0_idx1200_inb : ∀ (i : grid0.Coords) (k0_t4 : Fin (k0_t4_loop i).trips) (v83 : IVec S16 32) (v791 : IVec S16 32) (k0_hw1024 : k0_chk1024 i k0_t4 v83 v791), ∀ (k0_h9 : k0_cond9 i k0_t4 = 1#1), ∀ a x, ((![v83, v791] : Fin 2 → IVec S16 32) a x).toNat < S160x48.size a := fun i k0_t4 v83 v791 k0_hw1024 k0_h9 => k0_hw1024.2 k0_h9

def k0_chk1025 (i : grid0.Coords) (k0_t4 : Fin (k0_t4_loop i).trips) (v83 : IVec S16 32) (v810 : IVec S16 32) : Prop :=
  (∀ (k0_h9 : k0_cond9 i k0_t4 = 1#1), ∀ a x, ((![v83, v810] : Fin 2 → IVec S16 32) a x).toNat < S160x240.size a)
theorem k0_idx1201_inb : ∀ (i : grid0.Coords) (k0_t4 : Fin (k0_t4_loop i).trips) (v83 : IVec S16 32) (v810 : IVec S16 32) (k0_hw1025 : k0_chk1025 i k0_t4 v83 v810), ∀ (k0_h9 : k0_cond9 i k0_t4 = 1#1), ∀ a x, ((![v83, v810] : Fin 2 → IVec S16 32) a x).toNat < S160x240.size a := fun i k0_t4 v83 v810 k0_hw1025 k0_h9 => k0_hw1025 k0_h9

def k0_chk1026 (i : grid0.Coords) (k0_t4 : Fin (k0_t4_loop i).trips) (v83 : IVec S16 32) (v822 : IVec S16 32) : Prop :=
  (∀ (k0_h9 : k0_cond9 i k0_t4 = 1#1), ∀ a x, ((![v83, v822] : Fin 2 → IVec S16 32) a x).toNat < S160x240.size a)
theorem k0_idx1202_inb : ∀ (i : grid0.Coords) (k0_t4 : Fin (k0_t4_loop i).trips) (v83 : IVec S16 32) (v822 : IVec S16 32) (k0_hw1026 : k0_chk1026 i k0_t4 v83 v822), ∀ (k0_h9 : k0_cond9 i k0_t4 = 1#1), ∀ a x, ((![v83, v822] : Fin 2 → IVec S16 32) a x).toNat < S160x240.size a := fun i k0_t4 v83 v822 k0_hw1026 k0_h9 => k0_hw1026 k0_h9

def k0_chk1027 (i : grid0.Coords) (k0_t4 : Fin (k0_t4_loop i).trips) (v83 : IVec S16 32) (v826 : IVec S16 32) : Prop :=
  (∀ (k0_h9 : k0_cond9 i k0_t4 = 1#1), ∀ a x, ((![v83, v826] : Fin 2 → IVec S16 32) a x).toNat < S160x240.size a)
theorem k0_idx1203_inb : ∀ (i : grid0.Coords) (k0_t4 : Fin (k0_t4_loop i).trips) (v83 : IVec S16 32) (v826 : IVec S16 32) (k0_hw1027 : k0_chk1027 i k0_t4 v83 v826), ∀ (k0_h9 : k0_cond9 i k0_t4 = 1#1), ∀ a x, ((![v83, v826] : Fin 2 → IVec S16 32) a x).toNat < S160x240.size a := fun i k0_t4 v83 v826 k0_hw1027 k0_h9 => k0_hw1027 k0_h9

def k0_chk1028 (i : grid0.Coords) (k0_t4 : Fin (k0_t4_loop i).trips) (v83 : IVec S16 32) (v830 : IVec S16 32) : Prop :=
  (∀ (k0_h9 : k0_cond9 i k0_t4 = 1#1), ∀ a x, ((![v83, v830] : Fin 2 → IVec S16 32) a x).toNat < S160x240.size a)
theorem k0_idx1204_inb : ∀ (i : grid0.Coords) (k0_t4 : Fin (k0_t4_loop i).trips) (v83 : IVec S16 32) (v830 : IVec S16 32) (k0_hw1028 : k0_chk1028 i k0_t4 v83 v830), ∀ (k0_h9 : k0_cond9 i k0_t4 = 1#1), ∀ a x, ((![v83, v830] : Fin 2 → IVec S16 32) a x).toNat < S160x240.size a := fun i k0_t4 v83 v830 k0_hw1028 k0_h9 => k0_hw1028 k0_h9

def k0_chk1029 (i : grid0.Coords) (k0_t4 : Fin (k0_t4_loop i).trips) (v83 : IVec S16 32) (v834 : IVec S16 32) : Prop :=
  (∀ (k0_h9 : k0_cond9 i k0_t4 = 1#1), ∀ a x, ((![v83, v834] : Fin 2 → IVec S16 32) a x).toNat < S160x240.size a)
theorem k0_idx1205_inb : ∀ (i : grid0.Coords) (k0_t4 : Fin (k0_t4_loop i).trips) (v83 : IVec S16 32) (v834 : IVec S16 32) (k0_hw1029 : k0_chk1029 i k0_t4 v83 v834), ∀ (k0_h9 : k0_cond9 i k0_t4 = 1#1), ∀ a x, ((![v83, v834] : Fin 2 → IVec S16 32) a x).toNat < S160x240.size a := fun i k0_t4 v83 v834 k0_hw1029 k0_h9 => k0_hw1029 k0_h9

def k0_chk1030 (i : grid0.Coords) (k0_t4 : Fin (k0_t4_loop i).trips) (v83 : IVec S16 32) (v838 : IVec S16 32) : Prop :=
  (∀ (k0_h9 : k0_cond9 i k0_t4 = 1#1), ∀ a x, ((![v83, v838] : Fin 2 → IVec S16 32) a x).toNat < S160x240.size a)
theorem k0_idx1206_inb : ∀ (i : grid0.Coords) (k0_t4 : Fin (k0_t4_loop i).trips) (v83 : IVec S16 32) (v838 : IVec S16 32) (k0_hw1030 : k0_chk1030 i k0_t4 v83 v838), ∀ (k0_h9 : k0_cond9 i k0_t4 = 1#1), ∀ a x, ((![v83, v838] : Fin 2 → IVec S16 32) a x).toNat < S160x240.size a := fun i k0_t4 v83 v838 k0_hw1030 k0_h9 => k0_hw1030 k0_h9

def k0_chk1031 (i : grid0.Coords) (k0_t4 : Fin (k0_t4_loop i).trips) (v83 : IVec S16 32) (v842 : IVec S16 32) : Prop :=
  (∀ (k0_h9 : k0_cond9 i k0_t4 = 1#1), ∀ a x, ((![v83, v842] : Fin 2 → IVec S16 32) a x).toNat < S160x240.size a)
theorem k0_idx1207_inb : ∀ (i : grid0.Coords) (k0_t4 : Fin (k0_t4_loop i).trips) (v83 : IVec S16 32) (v842 : IVec S16 32) (k0_hw1031 : k0_chk1031 i k0_t4 v83 v842), ∀ (k0_h9 : k0_cond9 i k0_t4 = 1#1), ∀ a x, ((![v83, v842] : Fin 2 → IVec S16 32) a x).toNat < S160x240.size a := fun i k0_t4 v83 v842 k0_hw1031 k0_h9 => k0_hw1031 k0_h9

def k0_chk1032 (i : grid0.Coords) (k0_t4 : Fin (k0_t4_loop i).trips) (v83 : IVec S16 32) (v819 : IVec S16 32) : Prop :=
  (∀ (k0_h9 : k0_cond9 i k0_t4 = 1#1), ∀ a x, ((![v819] : Fin 1 → IVec S16 32) a x).toNat < S48.size a) ∧
  (∀ (k0_h9 : k0_cond9 i k0_t4 = 1#1), ∀ a x, ((![v83, v819] : Fin 2 → IVec S16 32) a x).toNat < S160x48.size a)
theorem k0_idx1208_inb : ∀ (i : grid0.Coords) (k0_t4 : Fin (k0_t4_loop i).trips) (v83 : IVec S16 32) (v819 : IVec S16 32) (k0_hw1032 : k0_chk1032 i k0_t4 v83 v819), ∀ (k0_h9 : k0_cond9 i k0_t4 = 1#1), ∀ a x, ((![v819] : Fin 1 → IVec S16 32) a x).toNat < S48.size a := fun i k0_t4 v83 v819 k0_hw1032 k0_h9 => k0_hw1032.1 k0_h9
theorem k0_idx1209_inb : ∀ (i : grid0.Coords) (k0_t4 : Fin (k0_t4_loop i).trips) (v83 : IVec S16 32) (v819 : IVec S16 32) (k0_hw1032 : k0_chk1032 i k0_t4 v83 v819), ∀ (k0_h9 : k0_cond9 i k0_t4 = 1#1), ∀ a x, ((![v83, v819] : Fin 2 → IVec S16 32) a x).toNat < S160x48.size a := fun i k0_t4 v83 v819 k0_hw1032 k0_h9 => k0_hw1032.2 k0_h9

def k0_chk1033 (i : grid0.Coords) (k0_t4 : Fin (k0_t4_loop i).trips) (v83 : IVec S16 32) (v846 : IVec S16 32) : Prop :=
  (∀ (k0_h9 : k0_cond9 i k0_t4 = 1#1), ∀ a x, ((![v83, v846] : Fin 2 → IVec S16 32) a x).toNat < S160x240.size a)
theorem k0_idx1210_inb : ∀ (i : grid0.Coords) (k0_t4 : Fin (k0_t4_loop i).trips) (v83 : IVec S16 32) (v846 : IVec S16 32) (k0_hw1033 : k0_chk1033 i k0_t4 v83 v846), ∀ (k0_h9 : k0_cond9 i k0_t4 = 1#1), ∀ a x, ((![v83, v846] : Fin 2 → IVec S16 32) a x).toNat < S160x240.size a := fun i k0_t4 v83 v846 k0_hw1033 k0_h9 => k0_hw1033 k0_h9

def k0_chk1034 (i : grid0.Coords) (k0_t4 : Fin (k0_t4_loop i).trips) (v83 : IVec S16 32) (v860 : IVec S16 32) : Prop :=
  (∀ (k0_h9 : k0_cond9 i k0_t4 = 1#1), ∀ a x, ((![v83, v860] : Fin 2 → IVec S16 32) a x).toNat < S160x240.size a)
theorem k0_idx1211_inb : ∀ (i : grid0.Coords) (k0_t4 : Fin (k0_t4_loop i).trips) (v83 : IVec S16 32) (v860 : IVec S16 32) (k0_hw1034 : k0_chk1034 i k0_t4 v83 v860), ∀ (k0_h9 : k0_cond9 i k0_t4 = 1#1), ∀ a x, ((![v83, v860] : Fin 2 → IVec S16 32) a x).toNat < S160x240.size a := fun i k0_t4 v83 v860 k0_hw1034 k0_h9 => k0_hw1034 k0_h9

def k0_chk1035 (i : grid0.Coords) (k0_t4 : Fin (k0_t4_loop i).trips) (v83 : IVec S16 32) (v864 : IVec S16 32) : Prop :=
  (∀ (k0_h9 : k0_cond9 i k0_t4 = 1#1), ∀ a x, ((![v83, v864] : Fin 2 → IVec S16 32) a x).toNat < S160x240.size a)
theorem k0_idx1212_inb : ∀ (i : grid0.Coords) (k0_t4 : Fin (k0_t4_loop i).trips) (v83 : IVec S16 32) (v864 : IVec S16 32) (k0_hw1035 : k0_chk1035 i k0_t4 v83 v864), ∀ (k0_h9 : k0_cond9 i k0_t4 = 1#1), ∀ a x, ((![v83, v864] : Fin 2 → IVec S16 32) a x).toNat < S160x240.size a := fun i k0_t4 v83 v864 k0_hw1035 k0_h9 => k0_hw1035 k0_h9

def k0_chk1036 (i : grid0.Coords) (k0_t4 : Fin (k0_t4_loop i).trips) (v83 : IVec S16 32) (v868 : IVec S16 32) : Prop :=
  (∀ (k0_h9 : k0_cond9 i k0_t4 = 1#1), ∀ a x, ((![v83, v868] : Fin 2 → IVec S16 32) a x).toNat < S160x240.size a)
theorem k0_idx1213_inb : ∀ (i : grid0.Coords) (k0_t4 : Fin (k0_t4_loop i).trips) (v83 : IVec S16 32) (v868 : IVec S16 32) (k0_hw1036 : k0_chk1036 i k0_t4 v83 v868), ∀ (k0_h9 : k0_cond9 i k0_t4 = 1#1), ∀ a x, ((![v83, v868] : Fin 2 → IVec S16 32) a x).toNat < S160x240.size a := fun i k0_t4 v83 v868 k0_hw1036 k0_h9 => k0_hw1036 k0_h9

def k0_chk1037 (i : grid0.Coords) (k0_t4 : Fin (k0_t4_loop i).trips) (v83 : IVec S16 32) (v872 : IVec S16 32) : Prop :=
  (∀ (k0_h9 : k0_cond9 i k0_t4 = 1#1), ∀ a x, ((![v83, v872] : Fin 2 → IVec S16 32) a x).toNat < S160x240.size a)
theorem k0_idx1214_inb : ∀ (i : grid0.Coords) (k0_t4 : Fin (k0_t4_loop i).trips) (v83 : IVec S16 32) (v872 : IVec S16 32) (k0_hw1037 : k0_chk1037 i k0_t4 v83 v872), ∀ (k0_h9 : k0_cond9 i k0_t4 = 1#1), ∀ a x, ((![v83, v872] : Fin 2 → IVec S16 32) a x).toNat < S160x240.size a := fun i k0_t4 v83 v872 k0_hw1037 k0_h9 => k0_hw1037 k0_h9

def k0_chk1038 (i : grid0.Coords) (k0_t4 : Fin (k0_t4_loop i).trips) (v83 : IVec S16 32) (v876 : IVec S16 32) : Prop :=
  (∀ (k0_h9 : k0_cond9 i k0_t4 = 1#1), ∀ a x, ((![v83, v876] : Fin 2 → IVec S16 32) a x).toNat < S160x240.size a)
theorem k0_idx1215_inb : ∀ (i : grid0.Coords) (k0_t4 : Fin (k0_t4_loop i).trips) (v83 : IVec S16 32) (v876 : IVec S16 32) (k0_hw1038 : k0_chk1038 i k0_t4 v83 v876), ∀ (k0_h9 : k0_cond9 i k0_t4 = 1#1), ∀ a x, ((![v83, v876] : Fin 2 → IVec S16 32) a x).toNat < S160x240.size a := fun i k0_t4 v83 v876 k0_hw1038 k0_h9 => k0_hw1038 k0_h9

def k0_chk1039 (i : grid0.Coords) (k0_t4 : Fin (k0_t4_loop i).trips) (v83 : IVec S16 32) (v880 : IVec S16 32) : Prop :=
  (∀ (k0_h9 : k0_cond9 i k0_t4 = 1#1), ∀ a x, ((![v83, v880] : Fin 2 → IVec S16 32) a x).toNat < S160x240.size a)
theorem k0_idx1216_inb : ∀ (i : grid0.Coords) (k0_t4 : Fin (k0_t4_loop i).trips) (v83 : IVec S16 32) (v880 : IVec S16 32) (k0_hw1039 : k0_chk1039 i k0_t4 v83 v880), ∀ (k0_h9 : k0_cond9 i k0_t4 = 1#1), ∀ a x, ((![v83, v880] : Fin 2 → IVec S16 32) a x).toNat < S160x240.size a := fun i k0_t4 v83 v880 k0_hw1039 k0_h9 => k0_hw1039 k0_h9

def k0_chk1040 (i : grid0.Coords) (k0_t4 : Fin (k0_t4_loop i).trips) (v83 : IVec S16 32) (v857 : IVec S16 32) : Prop :=
  (∀ (k0_h9 : k0_cond9 i k0_t4 = 1#1), ∀ a x, ((![v857] : Fin 1 → IVec S16 32) a x).toNat < S48.size a) ∧
  (∀ (k0_h9 : k0_cond9 i k0_t4 = 1#1), ∀ a x, ((![v83, v857] : Fin 2 → IVec S16 32) a x).toNat < S160x48.size a)
theorem k0_idx1217_inb : ∀ (i : grid0.Coords) (k0_t4 : Fin (k0_t4_loop i).trips) (v83 : IVec S16 32) (v857 : IVec S16 32) (k0_hw1040 : k0_chk1040 i k0_t4 v83 v857), ∀ (k0_h9 : k0_cond9 i k0_t4 = 1#1), ∀ a x, ((![v857] : Fin 1 → IVec S16 32) a x).toNat < S48.size a := fun i k0_t4 v83 v857 k0_hw1040 k0_h9 => k0_hw1040.1 k0_h9
theorem k0_idx1218_inb : ∀ (i : grid0.Coords) (k0_t4 : Fin (k0_t4_loop i).trips) (v83 : IVec S16 32) (v857 : IVec S16 32) (k0_hw1040 : k0_chk1040 i k0_t4 v83 v857), ∀ (k0_h9 : k0_cond9 i k0_t4 = 1#1), ∀ a x, ((![v83, v857] : Fin 2 → IVec S16 32) a x).toNat < S160x48.size a := fun i k0_t4 v83 v857 k0_hw1040 k0_h9 => k0_hw1040.2 k0_h9

def k0_chk1041 (i : grid0.Coords) (k0_t4 : Fin (k0_t4_loop i).trips) (v83 : IVec S16 32) (v884 : IVec S16 32) : Prop :=
  (∀ (k0_h9 : k0_cond9 i k0_t4 = 1#1), ∀ a x, ((![v83, v884] : Fin 2 → IVec S16 32) a x).toNat < S160x240.size a)
theorem k0_idx1219_inb : ∀ (i : grid0.Coords) (k0_t4 : Fin (k0_t4_loop i).trips) (v83 : IVec S16 32) (v884 : IVec S16 32) (k0_hw1041 : k0_chk1041 i k0_t4 v83 v884), ∀ (k0_h9 : k0_cond9 i k0_t4 = 1#1), ∀ a x, ((![v83, v884] : Fin 2 → IVec S16 32) a x).toNat < S160x240.size a := fun i k0_t4 v83 v884 k0_hw1041 k0_h9 => k0_hw1041 k0_h9

def k0_chk1042 (i : grid0.Coords) (k0_t4 : Fin (k0_t4_loop i).trips) (v83 : IVec S16 32) (v898 : IVec S16 32) : Prop :=
  (∀ (k0_h9 : k0_cond9 i k0_t4 = 1#1), ∀ a x, ((![v83, v898] : Fin 2 → IVec S16 32) a x).toNat < S160x240.size a)
theorem k0_idx1220_inb : ∀ (i : grid0.Coords) (k0_t4 : Fin (k0_t4_loop i).trips) (v83 : IVec S16 32) (v898 : IVec S16 32) (k0_hw1042 : k0_chk1042 i k0_t4 v83 v898), ∀ (k0_h9 : k0_cond9 i k0_t4 = 1#1), ∀ a x, ((![v83, v898] : Fin 2 → IVec S16 32) a x).toNat < S160x240.size a := fun i k0_t4 v83 v898 k0_hw1042 k0_h9 => k0_hw1042 k0_h9

def k0_chk1043 (i : grid0.Coords) (k0_t4 : Fin (k0_t4_loop i).trips) (v83 : IVec S16 32) (v902 : IVec S16 32) : Prop :=
  (∀ (k0_h9 : k0_cond9 i k0_t4 = 1#1), ∀ a x, ((![v83, v902] : Fin 2 → IVec S16 32) a x).toNat < S160x240.size a)
theorem k0_idx1221_inb : ∀ (i : grid0.Coords) (k0_t4 : Fin (k0_t4_loop i).trips) (v83 : IVec S16 32) (v902 : IVec S16 32) (k0_hw1043 : k0_chk1043 i k0_t4 v83 v902), ∀ (k0_h9 : k0_cond9 i k0_t4 = 1#1), ∀ a x, ((![v83, v902] : Fin 2 → IVec S16 32) a x).toNat < S160x240.size a := fun i k0_t4 v83 v902 k0_hw1043 k0_h9 => k0_hw1043 k0_h9

def k0_chk1044 (i : grid0.Coords) (k0_t4 : Fin (k0_t4_loop i).trips) (v83 : IVec S16 32) (v906 : IVec S16 32) : Prop :=
  (∀ (k0_h9 : k0_cond9 i k0_t4 = 1#1), ∀ a x, ((![v83, v906] : Fin 2 → IVec S16 32) a x).toNat < S160x240.size a)
theorem k0_idx1222_inb : ∀ (i : grid0.Coords) (k0_t4 : Fin (k0_t4_loop i).trips) (v83 : IVec S16 32) (v906 : IVec S16 32) (k0_hw1044 : k0_chk1044 i k0_t4 v83 v906), ∀ (k0_h9 : k0_cond9 i k0_t4 = 1#1), ∀ a x, ((![v83, v906] : Fin 2 → IVec S16 32) a x).toNat < S160x240.size a := fun i k0_t4 v83 v906 k0_hw1044 k0_h9 => k0_hw1044 k0_h9

def k0_chk1045 (i : grid0.Coords) (k0_t4 : Fin (k0_t4_loop i).trips) (v83 : IVec S16 32) (v910 : IVec S16 32) : Prop :=
  (∀ (k0_h9 : k0_cond9 i k0_t4 = 1#1), ∀ a x, ((![v83, v910] : Fin 2 → IVec S16 32) a x).toNat < S160x240.size a)
theorem k0_idx1223_inb : ∀ (i : grid0.Coords) (k0_t4 : Fin (k0_t4_loop i).trips) (v83 : IVec S16 32) (v910 : IVec S16 32) (k0_hw1045 : k0_chk1045 i k0_t4 v83 v910), ∀ (k0_h9 : k0_cond9 i k0_t4 = 1#1), ∀ a x, ((![v83, v910] : Fin 2 → IVec S16 32) a x).toNat < S160x240.size a := fun i k0_t4 v83 v910 k0_hw1045 k0_h9 => k0_hw1045 k0_h9

def k0_chk1046 (i : grid0.Coords) (k0_t4 : Fin (k0_t4_loop i).trips) (v83 : IVec S16 32) (v914 : IVec S16 32) : Prop :=
  (∀ (k0_h9 : k0_cond9 i k0_t4 = 1#1), ∀ a x, ((![v83, v914] : Fin 2 → IVec S16 32) a x).toNat < S160x240.size a)
theorem k0_idx1224_inb : ∀ (i : grid0.Coords) (k0_t4 : Fin (k0_t4_loop i).trips) (v83 : IVec S16 32) (v914 : IVec S16 32) (k0_hw1046 : k0_chk1046 i k0_t4 v83 v914), ∀ (k0_h9 : k0_cond9 i k0_t4 = 1#1), ∀ a x, ((![v83, v914] : Fin 2 → IVec S16 32) a x).toNat < S160x240.size a := fun i k0_t4 v83 v914 k0_hw1046 k0_h9 => k0_hw1046 k0_h9

def k0_chk1047 (i : grid0.Coords) (k0_t4 : Fin (k0_t4_loop i).trips) (v83 : IVec S16 32) (v918 : IVec S16 32) : Prop :=
  (∀ (k0_h9 : k0_cond9 i k0_t4 = 1#1), ∀ a x, ((![v83, v918] : Fin 2 → IVec S16 32) a x).toNat < S160x240.size a)
theorem k0_idx1225_inb : ∀ (i : grid0.Coords) (k0_t4 : Fin (k0_t4_loop i).trips) (v83 : IVec S16 32) (v918 : IVec S16 32) (k0_hw1047 : k0_chk1047 i k0_t4 v83 v918), ∀ (k0_h9 : k0_cond9 i k0_t4 = 1#1), ∀ a x, ((![v83, v918] : Fin 2 → IVec S16 32) a x).toNat < S160x240.size a := fun i k0_t4 v83 v918 k0_hw1047 k0_h9 => k0_hw1047 k0_h9

def k0_chk1048 (i : grid0.Coords) (k0_t4 : Fin (k0_t4_loop i).trips) (v83 : IVec S16 32) (v895 : IVec S16 32) : Prop :=
  (∀ (k0_h9 : k0_cond9 i k0_t4 = 1#1), ∀ a x, ((![v895] : Fin 1 → IVec S16 32) a x).toNat < S48.size a) ∧
  (∀ (k0_h9 : k0_cond9 i k0_t4 = 1#1), ∀ a x, ((![v83, v895] : Fin 2 → IVec S16 32) a x).toNat < S160x48.size a)
theorem k0_idx1226_inb : ∀ (i : grid0.Coords) (k0_t4 : Fin (k0_t4_loop i).trips) (v83 : IVec S16 32) (v895 : IVec S16 32) (k0_hw1048 : k0_chk1048 i k0_t4 v83 v895), ∀ (k0_h9 : k0_cond9 i k0_t4 = 1#1), ∀ a x, ((![v895] : Fin 1 → IVec S16 32) a x).toNat < S48.size a := fun i k0_t4 v83 v895 k0_hw1048 k0_h9 => k0_hw1048.1 k0_h9
theorem k0_idx1227_inb : ∀ (i : grid0.Coords) (k0_t4 : Fin (k0_t4_loop i).trips) (v83 : IVec S16 32) (v895 : IVec S16 32) (k0_hw1048 : k0_chk1048 i k0_t4 v83 v895), ∀ (k0_h9 : k0_cond9 i k0_t4 = 1#1), ∀ a x, ((![v83, v895] : Fin 2 → IVec S16 32) a x).toNat < S160x48.size a := fun i k0_t4 v83 v895 k0_hw1048 k0_h9 => k0_hw1048.2 k0_h9

def k0_chk1049 (i : grid0.Coords) (k0_t4 : Fin (k0_t4_loop i).trips) (v83 : IVec S16 32) (v922 : IVec S16 32) : Prop :=
  (∀ (k0_h9 : k0_cond9 i k0_t4 = 1#1), ∀ a x, ((![v83, v922] : Fin 2 → IVec S16 32) a x).toNat < S160x240.size a)
theorem k0_idx1228_inb : ∀ (i : grid0.Coords) (k0_t4 : Fin (k0_t4_loop i).trips) (v83 : IVec S16 32) (v922 : IVec S16 32) (k0_hw1049 : k0_chk1049 i k0_t4 v83 v922), ∀ (k0_h9 : k0_cond9 i k0_t4 = 1#1), ∀ a x, ((![v83, v922] : Fin 2 → IVec S16 32) a x).toNat < S160x240.size a := fun i k0_t4 v83 v922 k0_hw1049 k0_h9 => k0_hw1049 k0_h9

def k0_chk1050 (i : grid0.Coords) (k0_t4 : Fin (k0_t4_loop i).trips) (v83 : IVec S16 32) (v936 : IVec S16 32) : Prop :=
  (∀ (k0_h9 : k0_cond9 i k0_t4 = 1#1), ∀ a x, ((![v83, v936] : Fin 2 → IVec S16 32) a x).toNat < S160x240.size a)
theorem k0_idx1229_inb : ∀ (i : grid0.Coords) (k0_t4 : Fin (k0_t4_loop i).trips) (v83 : IVec S16 32) (v936 : IVec S16 32) (k0_hw1050 : k0_chk1050 i k0_t4 v83 v936), ∀ (k0_h9 : k0_cond9 i k0_t4 = 1#1), ∀ a x, ((![v83, v936] : Fin 2 → IVec S16 32) a x).toNat < S160x240.size a := fun i k0_t4 v83 v936 k0_hw1050 k0_h9 => k0_hw1050 k0_h9

def k0_chk1051 (i : grid0.Coords) (k0_t4 : Fin (k0_t4_loop i).trips) (v83 : IVec S16 32) (v940 : IVec S16 32) : Prop :=
  (∀ (k0_h9 : k0_cond9 i k0_t4 = 1#1), ∀ a x, ((![v83, v940] : Fin 2 → IVec S16 32) a x).toNat < S160x240.size a)
theorem k0_idx1230_inb : ∀ (i : grid0.Coords) (k0_t4 : Fin (k0_t4_loop i).trips) (v83 : IVec S16 32) (v940 : IVec S16 32) (k0_hw1051 : k0_chk1051 i k0_t4 v83 v940), ∀ (k0_h9 : k0_cond9 i k0_t4 = 1#1), ∀ a x, ((![v83, v940] : Fin 2 → IVec S16 32) a x).toNat < S160x240.size a := fun i k0_t4 v83 v940 k0_hw1051 k0_h9 => k0_hw1051 k0_h9

def k0_chk1052 (i : grid0.Coords) (k0_t4 : Fin (k0_t4_loop i).trips) (v83 : IVec S16 32) (v944 : IVec S16 32) : Prop :=
  (∀ (k0_h9 : k0_cond9 i k0_t4 = 1#1), ∀ a x, ((![v83, v944] : Fin 2 → IVec S16 32) a x).toNat < S160x240.size a)
theorem k0_idx1231_inb : ∀ (i : grid0.Coords) (k0_t4 : Fin (k0_t4_loop i).trips) (v83 : IVec S16 32) (v944 : IVec S16 32) (k0_hw1052 : k0_chk1052 i k0_t4 v83 v944), ∀ (k0_h9 : k0_cond9 i k0_t4 = 1#1), ∀ a x, ((![v83, v944] : Fin 2 → IVec S16 32) a x).toNat < S160x240.size a := fun i k0_t4 v83 v944 k0_hw1052 k0_h9 => k0_hw1052 k0_h9

def k0_chk1053 (i : grid0.Coords) (k0_t4 : Fin (k0_t4_loop i).trips) (v83 : IVec S16 32) (v948 : IVec S16 32) : Prop :=
  (∀ (k0_h9 : k0_cond9 i k0_t4 = 1#1), ∀ a x, ((![v83, v948] : Fin 2 → IVec S16 32) a x).toNat < S160x240.size a)
theorem k0_idx1232_inb : ∀ (i : grid0.Coords) (k0_t4 : Fin (k0_t4_loop i).trips) (v83 : IVec S16 32) (v948 : IVec S16 32) (k0_hw1053 : k0_chk1053 i k0_t4 v83 v948), ∀ (k0_h9 : k0_cond9 i k0_t4 = 1#1), ∀ a x, ((![v83, v948] : Fin 2 → IVec S16 32) a x).toNat < S160x240.size a := fun i k0_t4 v83 v948 k0_hw1053 k0_h9 => k0_hw1053 k0_h9

def k0_chk1054 (i : grid0.Coords) (k0_t4 : Fin (k0_t4_loop i).trips) (v83 : IVec S16 32) (v952 : IVec S16 32) : Prop :=
  (∀ (k0_h9 : k0_cond9 i k0_t4 = 1#1), ∀ a x, ((![v83, v952] : Fin 2 → IVec S16 32) a x).toNat < S160x240.size a)
theorem k0_idx1233_inb : ∀ (i : grid0.Coords) (k0_t4 : Fin (k0_t4_loop i).trips) (v83 : IVec S16 32) (v952 : IVec S16 32) (k0_hw1054 : k0_chk1054 i k0_t4 v83 v952), ∀ (k0_h9 : k0_cond9 i k0_t4 = 1#1), ∀ a x, ((![v83, v952] : Fin 2 → IVec S16 32) a x).toNat < S160x240.size a := fun i k0_t4 v83 v952 k0_hw1054 k0_h9 => k0_hw1054 k0_h9

def k0_chk1055 (i : grid0.Coords) (k0_t4 : Fin (k0_t4_loop i).trips) (v83 : IVec S16 32) (v956 : IVec S16 32) : Prop :=
  (∀ (k0_h9 : k0_cond9 i k0_t4 = 1#1), ∀ a x, ((![v83, v956] : Fin 2 → IVec S16 32) a x).toNat < S160x240.size a)
theorem k0_idx1234_inb : ∀ (i : grid0.Coords) (k0_t4 : Fin (k0_t4_loop i).trips) (v83 : IVec S16 32) (v956 : IVec S16 32) (k0_hw1055 : k0_chk1055 i k0_t4 v83 v956), ∀ (k0_h9 : k0_cond9 i k0_t4 = 1#1), ∀ a x, ((![v83, v956] : Fin 2 → IVec S16 32) a x).toNat < S160x240.size a := fun i k0_t4 v83 v956 k0_hw1055 k0_h9 => k0_hw1055 k0_h9

def k0_chk1056 (i : grid0.Coords) (k0_t4 : Fin (k0_t4_loop i).trips) (v83 : IVec S16 32) (v933 : IVec S16 32) : Prop :=
  (∀ (k0_h9 : k0_cond9 i k0_t4 = 1#1), ∀ a x, ((![v933] : Fin 1 → IVec S16 32) a x).toNat < S48.size a) ∧
  (∀ (k0_h9 : k0_cond9 i k0_t4 = 1#1), ∀ a x, ((![v83, v933] : Fin 2 → IVec S16 32) a x).toNat < S160x48.size a)
theorem k0_idx1235_inb : ∀ (i : grid0.Coords) (k0_t4 : Fin (k0_t4_loop i).trips) (v83 : IVec S16 32) (v933 : IVec S16 32) (k0_hw1056 : k0_chk1056 i k0_t4 v83 v933), ∀ (k0_h9 : k0_cond9 i k0_t4 = 1#1), ∀ a x, ((![v933] : Fin 1 → IVec S16 32) a x).toNat < S48.size a := fun i k0_t4 v83 v933 k0_hw1056 k0_h9 => k0_hw1056.1 k0_h9
theorem k0_idx1236_inb : ∀ (i : grid0.Coords) (k0_t4 : Fin (k0_t4_loop i).trips) (v83 : IVec S16 32) (v933 : IVec S16 32) (k0_hw1056 : k0_chk1056 i k0_t4 v83 v933), ∀ (k0_h9 : k0_cond9 i k0_t4 = 1#1), ∀ a x, ((![v83, v933] : Fin 2 → IVec S16 32) a x).toNat < S160x48.size a := fun i k0_t4 v83 v933 k0_hw1056 k0_h9 => k0_hw1056.2 k0_h9

def k0_chk1057 (i : grid0.Coords) (k0_t4 : Fin (k0_t4_loop i).trips) (v83 : IVec S16 32) (v960 : IVec S16 32) : Prop :=
  (∀ (k0_h9 : k0_cond9 i k0_t4 = 1#1), ∀ a x, ((![v83, v960] : Fin 2 → IVec S16 32) a x).toNat < S160x240.size a)
theorem k0_idx1237_inb : ∀ (i : grid0.Coords) (k0_t4 : Fin (k0_t4_loop i).trips) (v83 : IVec S16 32) (v960 : IVec S16 32) (k0_hw1057 : k0_chk1057 i k0_t4 v83 v960), ∀ (k0_h9 : k0_cond9 i k0_t4 = 1#1), ∀ a x, ((![v83, v960] : Fin 2 → IVec S16 32) a x).toNat < S160x240.size a := fun i k0_t4 v83 v960 k0_hw1057 k0_h9 => k0_hw1057 k0_h9

def k0_chk1058 (i : grid0.Coords) (k0_t4 : Fin (k0_t4_loop i).trips) (v83 : IVec S16 32) (v974 : IVec S16 32) : Prop :=
  (∀ (k0_h9 : k0_cond9 i k0_t4 = 1#1), ∀ a x, ((![v83, v974] : Fin 2 → IVec S16 32) a x).toNat < S160x240.size a)
theorem k0_idx1238_inb : ∀ (i : grid0.Coords) (k0_t4 : Fin (k0_t4_loop i).trips) (v83 : IVec S16 32) (v974 : IVec S16 32) (k0_hw1058 : k0_chk1058 i k0_t4 v83 v974), ∀ (k0_h9 : k0_cond9 i k0_t4 = 1#1), ∀ a x, ((![v83, v974] : Fin 2 → IVec S16 32) a x).toNat < S160x240.size a := fun i k0_t4 v83 v974 k0_hw1058 k0_h9 => k0_hw1058 k0_h9

def k0_chk1059 (i : grid0.Coords) (k0_t4 : Fin (k0_t4_loop i).trips) (v83 : IVec S16 32) (v978 : IVec S16 32) : Prop :=
  (∀ (k0_h9 : k0_cond9 i k0_t4 = 1#1), ∀ a x, ((![v83, v978] : Fin 2 → IVec S16 32) a x).toNat < S160x240.size a)
theorem k0_idx1239_inb : ∀ (i : grid0.Coords) (k0_t4 : Fin (k0_t4_loop i).trips) (v83 : IVec S16 32) (v978 : IVec S16 32) (k0_hw1059 : k0_chk1059 i k0_t4 v83 v978), ∀ (k0_h9 : k0_cond9 i k0_t4 = 1#1), ∀ a x, ((![v83, v978] : Fin 2 → IVec S16 32) a x).toNat < S160x240.size a := fun i k0_t4 v83 v978 k0_hw1059 k0_h9 => k0_hw1059 k0_h9

def k0_chk1060 (i : grid0.Coords) (k0_t4 : Fin (k0_t4_loop i).trips) (v83 : IVec S16 32) (v982 : IVec S16 32) : Prop :=
  (∀ (k0_h9 : k0_cond9 i k0_t4 = 1#1), ∀ a x, ((![v83, v982] : Fin 2 → IVec S16 32) a x).toNat < S160x240.size a)
theorem k0_idx1240_inb : ∀ (i : grid0.Coords) (k0_t4 : Fin (k0_t4_loop i).trips) (v83 : IVec S16 32) (v982 : IVec S16 32) (k0_hw1060 : k0_chk1060 i k0_t4 v83 v982), ∀ (k0_h9 : k0_cond9 i k0_t4 = 1#1), ∀ a x, ((![v83, v982] : Fin 2 → IVec S16 32) a x).toNat < S160x240.size a := fun i k0_t4 v83 v982 k0_hw1060 k0_h9 => k0_hw1060 k0_h9

def k0_chk1061 (i : grid0.Coords) (k0_t4 : Fin (k0_t4_loop i).trips) (v83 : IVec S16 32) (v986 : IVec S16 32) : Prop :=
  (∀ (k0_h9 : k0_cond9 i k0_t4 = 1#1), ∀ a x, ((![v83, v986] : Fin 2 → IVec S16 32) a x).toNat < S160x240.size a)
theorem k0_idx1241_inb : ∀ (i : grid0.Coords) (k0_t4 : Fin (k0_t4_loop i).trips) (v83 : IVec S16 32) (v986 : IVec S16 32) (k0_hw1061 : k0_chk1061 i k0_t4 v83 v986), ∀ (k0_h9 : k0_cond9 i k0_t4 = 1#1), ∀ a x, ((![v83, v986] : Fin 2 → IVec S16 32) a x).toNat < S160x240.size a := fun i k0_t4 v83 v986 k0_hw1061 k0_h9 => k0_hw1061 k0_h9

def k0_chk1062 (i : grid0.Coords) (k0_t4 : Fin (k0_t4_loop i).trips) (v83 : IVec S16 32) (v990 : IVec S16 32) : Prop :=
  (∀ (k0_h9 : k0_cond9 i k0_t4 = 1#1), ∀ a x, ((![v83, v990] : Fin 2 → IVec S16 32) a x).toNat < S160x240.size a)
theorem k0_idx1242_inb : ∀ (i : grid0.Coords) (k0_t4 : Fin (k0_t4_loop i).trips) (v83 : IVec S16 32) (v990 : IVec S16 32) (k0_hw1062 : k0_chk1062 i k0_t4 v83 v990), ∀ (k0_h9 : k0_cond9 i k0_t4 = 1#1), ∀ a x, ((![v83, v990] : Fin 2 → IVec S16 32) a x).toNat < S160x240.size a := fun i k0_t4 v83 v990 k0_hw1062 k0_h9 => k0_hw1062 k0_h9

def k0_chk1063 (i : grid0.Coords) (k0_t4 : Fin (k0_t4_loop i).trips) (v83 : IVec S16 32) (v994 : IVec S16 32) : Prop :=
  (∀ (k0_h9 : k0_cond9 i k0_t4 = 1#1), ∀ a x, ((![v83, v994] : Fin 2 → IVec S16 32) a x).toNat < S160x240.size a)
theorem k0_idx1243_inb : ∀ (i : grid0.Coords) (k0_t4 : Fin (k0_t4_loop i).trips) (v83 : IVec S16 32) (v994 : IVec S16 32) (k0_hw1063 : k0_chk1063 i k0_t4 v83 v994), ∀ (k0_h9 : k0_cond9 i k0_t4 = 1#1), ∀ a x, ((![v83, v994] : Fin 2 → IVec S16 32) a x).toNat < S160x240.size a := fun i k0_t4 v83 v994 k0_hw1063 k0_h9 => k0_hw1063 k0_h9

def k0_chk1064 (i : grid0.Coords) (k0_t4 : Fin (k0_t4_loop i).trips) (v83 : IVec S16 32) (v971 : IVec S16 32) : Prop :=
  (∀ (k0_h9 : k0_cond9 i k0_t4 = 1#1), ∀ a x, ((![v971] : Fin 1 → IVec S16 32) a x).toNat < S48.size a) ∧
  (∀ (k0_h9 : k0_cond9 i k0_t4 = 1#1), ∀ a x, ((![v83, v971] : Fin 2 → IVec S16 32) a x).toNat < S160x48.size a)
theorem k0_idx1244_inb : ∀ (i : grid0.Coords) (k0_t4 : Fin (k0_t4_loop i).trips) (v83 : IVec S16 32) (v971 : IVec S16 32) (k0_hw1064 : k0_chk1064 i k0_t4 v83 v971), ∀ (k0_h9 : k0_cond9 i k0_t4 = 1#1), ∀ a x, ((![v971] : Fin 1 → IVec S16 32) a x).toNat < S48.size a := fun i k0_t4 v83 v971 k0_hw1064 k0_h9 => k0_hw1064.1 k0_h9
theorem k0_idx1245_inb : ∀ (i : grid0.Coords) (k0_t4 : Fin (k0_t4_loop i).trips) (v83 : IVec S16 32) (v971 : IVec S16 32) (k0_hw1064 : k0_chk1064 i k0_t4 v83 v971), ∀ (k0_h9 : k0_cond9 i k0_t4 = 1#1), ∀ a x, ((![v83, v971] : Fin 2 → IVec S16 32) a x).toNat < S160x48.size a := fun i k0_t4 v83 v971 k0_hw1064 k0_h9 => k0_hw1064.2 k0_h9

def k0_chk1065 (i : grid0.Coords) (k0_t4 : Fin (k0_t4_loop i).trips) (v83 : IVec S16 32) (v998 : IVec S16 32) : Prop :=
  (∀ (k0_h9 : k0_cond9 i k0_t4 = 1#1), ∀ a x, ((![v83, v998] : Fin 2 → IVec S16 32) a x).toNat < S160x240.size a)
theorem k0_idx1246_inb : ∀ (i : grid0.Coords) (k0_t4 : Fin (k0_t4_loop i).trips) (v83 : IVec S16 32) (v998 : IVec S16 32) (k0_hw1065 : k0_chk1065 i k0_t4 v83 v998), ∀ (k0_h9 : k0_cond9 i k0_t4 = 1#1), ∀ a x, ((![v83, v998] : Fin 2 → IVec S16 32) a x).toNat < S160x240.size a := fun i k0_t4 v83 v998 k0_hw1065 k0_h9 => k0_hw1065 k0_h9

def k0_chk1066 (i : grid0.Coords) (k0_t4 : Fin (k0_t4_loop i).trips) (v83 : IVec S16 32) (v1012 : IVec S16 32) : Prop :=
  (∀ (k0_h9 : k0_cond9 i k0_t4 = 1#1), ∀ a x, ((![v83, v1012] : Fin 2 → IVec S16 32) a x).toNat < S160x240.size a)
theorem k0_idx1247_inb : ∀ (i : grid0.Coords) (k0_t4 : Fin (k0_t4_loop i).trips) (v83 : IVec S16 32) (v1012 : IVec S16 32) (k0_hw1066 : k0_chk1066 i k0_t4 v83 v1012), ∀ (k0_h9 : k0_cond9 i k0_t4 = 1#1), ∀ a x, ((![v83, v1012] : Fin 2 → IVec S16 32) a x).toNat < S160x240.size a := fun i k0_t4 v83 v1012 k0_hw1066 k0_h9 => k0_hw1066 k0_h9

def k0_chk1067 (i : grid0.Coords) (k0_t4 : Fin (k0_t4_loop i).trips) (v83 : IVec S16 32) (v1016 : IVec S16 32) : Prop :=
  (∀ (k0_h9 : k0_cond9 i k0_t4 = 1#1), ∀ a x, ((![v83, v1016] : Fin 2 → IVec S16 32) a x).toNat < S160x240.size a)
theorem k0_idx1248_inb : ∀ (i : grid0.Coords) (k0_t4 : Fin (k0_t4_loop i).trips) (v83 : IVec S16 32) (v1016 : IVec S16 32) (k0_hw1067 : k0_chk1067 i k0_t4 v83 v1016), ∀ (k0_h9 : k0_cond9 i k0_t4 = 1#1), ∀ a x, ((![v83, v1016] : Fin 2 → IVec S16 32) a x).toNat < S160x240.size a := fun i k0_t4 v83 v1016 k0_hw1067 k0_h9 => k0_hw1067 k0_h9

def k0_chk1068 (i : grid0.Coords) (k0_t4 : Fin (k0_t4_loop i).trips) (v83 : IVec S16 32) (v1020 : IVec S16 32) : Prop :=
  (∀ (k0_h9 : k0_cond9 i k0_t4 = 1#1), ∀ a x, ((![v83, v1020] : Fin 2 → IVec S16 32) a x).toNat < S160x240.size a)
theorem k0_idx1249_inb : ∀ (i : grid0.Coords) (k0_t4 : Fin (k0_t4_loop i).trips) (v83 : IVec S16 32) (v1020 : IVec S16 32) (k0_hw1068 : k0_chk1068 i k0_t4 v83 v1020), ∀ (k0_h9 : k0_cond9 i k0_t4 = 1#1), ∀ a x, ((![v83, v1020] : Fin 2 → IVec S16 32) a x).toNat < S160x240.size a := fun i k0_t4 v83 v1020 k0_hw1068 k0_h9 => k0_hw1068 k0_h9

def k0_chk1069 (i : grid0.Coords) (k0_t4 : Fin (k0_t4_loop i).trips) (v83 : IVec S16 32) (v1024 : IVec S16 32) : Prop :=
  (∀ (k0_h9 : k0_cond9 i k0_t4 = 1#1), ∀ a x, ((![v83, v1024] : Fin 2 → IVec S16 32) a x).toNat < S160x240.size a)
theorem k0_idx1250_inb : ∀ (i : grid0.Coords) (k0_t4 : Fin (k0_t4_loop i).trips) (v83 : IVec S16 32) (v1024 : IVec S16 32) (k0_hw1069 : k0_chk1069 i k0_t4 v83 v1024), ∀ (k0_h9 : k0_cond9 i k0_t4 = 1#1), ∀ a x, ((![v83, v1024] : Fin 2 → IVec S16 32) a x).toNat < S160x240.size a := fun i k0_t4 v83 v1024 k0_hw1069 k0_h9 => k0_hw1069 k0_h9

def k0_chk1070 (i : grid0.Coords) (k0_t4 : Fin (k0_t4_loop i).trips) (v83 : IVec S16 32) (v1028 : IVec S16 32) : Prop :=
  (∀ (k0_h9 : k0_cond9 i k0_t4 = 1#1), ∀ a x, ((![v83, v1028] : Fin 2 → IVec S16 32) a x).toNat < S160x240.size a)
theorem k0_idx1251_inb : ∀ (i : grid0.Coords) (k0_t4 : Fin (k0_t4_loop i).trips) (v83 : IVec S16 32) (v1028 : IVec S16 32) (k0_hw1070 : k0_chk1070 i k0_t4 v83 v1028), ∀ (k0_h9 : k0_cond9 i k0_t4 = 1#1), ∀ a x, ((![v83, v1028] : Fin 2 → IVec S16 32) a x).toNat < S160x240.size a := fun i k0_t4 v83 v1028 k0_hw1070 k0_h9 => k0_hw1070 k0_h9

def k0_chk1071 (i : grid0.Coords) (k0_t4 : Fin (k0_t4_loop i).trips) (v83 : IVec S16 32) (v1032 : IVec S16 32) : Prop :=
  (∀ (k0_h9 : k0_cond9 i k0_t4 = 1#1), ∀ a x, ((![v83, v1032] : Fin 2 → IVec S16 32) a x).toNat < S160x240.size a)
theorem k0_idx1252_inb : ∀ (i : grid0.Coords) (k0_t4 : Fin (k0_t4_loop i).trips) (v83 : IVec S16 32) (v1032 : IVec S16 32) (k0_hw1071 : k0_chk1071 i k0_t4 v83 v1032), ∀ (k0_h9 : k0_cond9 i k0_t4 = 1#1), ∀ a x, ((![v83, v1032] : Fin 2 → IVec S16 32) a x).toNat < S160x240.size a := fun i k0_t4 v83 v1032 k0_hw1071 k0_h9 => k0_hw1071 k0_h9

def k0_chk1072 (i : grid0.Coords) (k0_t4 : Fin (k0_t4_loop i).trips) (v83 : IVec S16 32) (v1009 : IVec S16 32) : Prop :=
  (∀ (k0_h9 : k0_cond9 i k0_t4 = 1#1), ∀ a x, ((![v1009] : Fin 1 → IVec S16 32) a x).toNat < S48.size a) ∧
  (∀ (k0_h9 : k0_cond9 i k0_t4 = 1#1), ∀ a x, ((![v83, v1009] : Fin 2 → IVec S16 32) a x).toNat < S160x48.size a)
theorem k0_idx1253_inb : ∀ (i : grid0.Coords) (k0_t4 : Fin (k0_t4_loop i).trips) (v83 : IVec S16 32) (v1009 : IVec S16 32) (k0_hw1072 : k0_chk1072 i k0_t4 v83 v1009), ∀ (k0_h9 : k0_cond9 i k0_t4 = 1#1), ∀ a x, ((![v1009] : Fin 1 → IVec S16 32) a x).toNat < S48.size a := fun i k0_t4 v83 v1009 k0_hw1072 k0_h9 => k0_hw1072.1 k0_h9
theorem k0_idx1254_inb : ∀ (i : grid0.Coords) (k0_t4 : Fin (k0_t4_loop i).trips) (v83 : IVec S16 32) (v1009 : IVec S16 32) (k0_hw1072 : k0_chk1072 i k0_t4 v83 v1009), ∀ (k0_h9 : k0_cond9 i k0_t4 = 1#1), ∀ a x, ((![v83, v1009] : Fin 2 → IVec S16 32) a x).toNat < S160x48.size a := fun i k0_t4 v83 v1009 k0_hw1072 k0_h9 => k0_hw1072.2 k0_h9

def k0_chk1073 (i : grid0.Coords) (k0_t4 : Fin (k0_t4_loop i).trips) (v83 : IVec S16 32) (v1036 : IVec S16 32) : Prop :=
  (∀ (k0_h9 : k0_cond9 i k0_t4 = 1#1), ∀ a x, ((![v83, v1036] : Fin 2 → IVec S16 32) a x).toNat < S160x240.size a)
theorem k0_idx1255_inb : ∀ (i : grid0.Coords) (k0_t4 : Fin (k0_t4_loop i).trips) (v83 : IVec S16 32) (v1036 : IVec S16 32) (k0_hw1073 : k0_chk1073 i k0_t4 v83 v1036), ∀ (k0_h9 : k0_cond9 i k0_t4 = 1#1), ∀ a x, ((![v83, v1036] : Fin 2 → IVec S16 32) a x).toNat < S160x240.size a := fun i k0_t4 v83 v1036 k0_hw1073 k0_h9 => k0_hw1073 k0_h9

def k0_chk1074 (i : grid0.Coords) (k0_t4 : Fin (k0_t4_loop i).trips) (v83 : IVec S16 32) (v1050 : IVec S16 32) : Prop :=
  (∀ (k0_h9 : k0_cond9 i k0_t4 = 1#1), ∀ a x, ((![v83, v1050] : Fin 2 → IVec S16 32) a x).toNat < S160x240.size a)
theorem k0_idx1256_inb : ∀ (i : grid0.Coords) (k0_t4 : Fin (k0_t4_loop i).trips) (v83 : IVec S16 32) (v1050 : IVec S16 32) (k0_hw1074 : k0_chk1074 i k0_t4 v83 v1050), ∀ (k0_h9 : k0_cond9 i k0_t4 = 1#1), ∀ a x, ((![v83, v1050] : Fin 2 → IVec S16 32) a x).toNat < S160x240.size a := fun i k0_t4 v83 v1050 k0_hw1074 k0_h9 => k0_hw1074 k0_h9

def k0_chk1075 (i : grid0.Coords) (k0_t4 : Fin (k0_t4_loop i).trips) (v83 : IVec S16 32) (v1054 : IVec S16 32) : Prop :=
  (∀ (k0_h9 : k0_cond9 i k0_t4 = 1#1), ∀ a x, ((![v83, v1054] : Fin 2 → IVec S16 32) a x).toNat < S160x240.size a)
theorem k0_idx1257_inb : ∀ (i : grid0.Coords) (k0_t4 : Fin (k0_t4_loop i).trips) (v83 : IVec S16 32) (v1054 : IVec S16 32) (k0_hw1075 : k0_chk1075 i k0_t4 v83 v1054), ∀ (k0_h9 : k0_cond9 i k0_t4 = 1#1), ∀ a x, ((![v83, v1054] : Fin 2 → IVec S16 32) a x).toNat < S160x240.size a := fun i k0_t4 v83 v1054 k0_hw1075 k0_h9 => k0_hw1075 k0_h9

def k0_chk1076 (i : grid0.Coords) (k0_t4 : Fin (k0_t4_loop i).trips) (v83 : IVec S16 32) (v1058 : IVec S16 32) : Prop :=
  (∀ (k0_h9 : k0_cond9 i k0_t4 = 1#1), ∀ a x, ((![v83, v1058] : Fin 2 → IVec S16 32) a x).toNat < S160x240.size a)
theorem k0_idx1258_inb : ∀ (i : grid0.Coords) (k0_t4 : Fin (k0_t4_loop i).trips) (v83 : IVec S16 32) (v1058 : IVec S16 32) (k0_hw1076 : k0_chk1076 i k0_t4 v83 v1058), ∀ (k0_h9 : k0_cond9 i k0_t4 = 1#1), ∀ a x, ((![v83, v1058] : Fin 2 → IVec S16 32) a x).toNat < S160x240.size a := fun i k0_t4 v83 v1058 k0_hw1076 k0_h9 => k0_hw1076 k0_h9

def k0_chk1077 (i : grid0.Coords) (k0_t4 : Fin (k0_t4_loop i).trips) (v83 : IVec S16 32) (v1062 : IVec S16 32) : Prop :=
  (∀ (k0_h9 : k0_cond9 i k0_t4 = 1#1), ∀ a x, ((![v83, v1062] : Fin 2 → IVec S16 32) a x).toNat < S160x240.size a)
theorem k0_idx1259_inb : ∀ (i : grid0.Coords) (k0_t4 : Fin (k0_t4_loop i).trips) (v83 : IVec S16 32) (v1062 : IVec S16 32) (k0_hw1077 : k0_chk1077 i k0_t4 v83 v1062), ∀ (k0_h9 : k0_cond9 i k0_t4 = 1#1), ∀ a x, ((![v83, v1062] : Fin 2 → IVec S16 32) a x).toNat < S160x240.size a := fun i k0_t4 v83 v1062 k0_hw1077 k0_h9 => k0_hw1077 k0_h9

def k0_chk1078 (i : grid0.Coords) (k0_t4 : Fin (k0_t4_loop i).trips) (v83 : IVec S16 32) (v1066 : IVec S16 32) : Prop :=
  (∀ (k0_h9 : k0_cond9 i k0_t4 = 1#1), ∀ a x, ((![v83, v1066] : Fin 2 → IVec S16 32) a x).toNat < S160x240.size a)
theorem k0_idx1260_inb : ∀ (i : grid0.Coords) (k0_t4 : Fin (k0_t4_loop i).trips) (v83 : IVec S16 32) (v1066 : IVec S16 32) (k0_hw1078 : k0_chk1078 i k0_t4 v83 v1066), ∀ (k0_h9 : k0_cond9 i k0_t4 = 1#1), ∀ a x, ((![v83, v1066] : Fin 2 → IVec S16 32) a x).toNat < S160x240.size a := fun i k0_t4 v83 v1066 k0_hw1078 k0_h9 => k0_hw1078 k0_h9

def k0_chk1079 (i : grid0.Coords) (k0_t4 : Fin (k0_t4_loop i).trips) (v83 : IVec S16 32) (v1070 : IVec S16 32) : Prop :=
  (∀ (k0_h9 : k0_cond9 i k0_t4 = 1#1), ∀ a x, ((![v83, v1070] : Fin 2 → IVec S16 32) a x).toNat < S160x240.size a)
theorem k0_idx1261_inb : ∀ (i : grid0.Coords) (k0_t4 : Fin (k0_t4_loop i).trips) (v83 : IVec S16 32) (v1070 : IVec S16 32) (k0_hw1079 : k0_chk1079 i k0_t4 v83 v1070), ∀ (k0_h9 : k0_cond9 i k0_t4 = 1#1), ∀ a x, ((![v83, v1070] : Fin 2 → IVec S16 32) a x).toNat < S160x240.size a := fun i k0_t4 v83 v1070 k0_hw1079 k0_h9 => k0_hw1079 k0_h9

def k0_chk1080 (i : grid0.Coords) (k0_t4 : Fin (k0_t4_loop i).trips) (v83 : IVec S16 32) (v1047 : IVec S16 32) : Prop :=
  (∀ (k0_h9 : k0_cond9 i k0_t4 = 1#1), ∀ a x, ((![v1047] : Fin 1 → IVec S16 32) a x).toNat < S48.size a) ∧
  (∀ (k0_h9 : k0_cond9 i k0_t4 = 1#1), ∀ a x, ((![v83, v1047] : Fin 2 → IVec S16 32) a x).toNat < S160x48.size a)
theorem k0_idx1262_inb : ∀ (i : grid0.Coords) (k0_t4 : Fin (k0_t4_loop i).trips) (v83 : IVec S16 32) (v1047 : IVec S16 32) (k0_hw1080 : k0_chk1080 i k0_t4 v83 v1047), ∀ (k0_h9 : k0_cond9 i k0_t4 = 1#1), ∀ a x, ((![v1047] : Fin 1 → IVec S16 32) a x).toNat < S48.size a := fun i k0_t4 v83 v1047 k0_hw1080 k0_h9 => k0_hw1080.1 k0_h9
theorem k0_idx1263_inb : ∀ (i : grid0.Coords) (k0_t4 : Fin (k0_t4_loop i).trips) (v83 : IVec S16 32) (v1047 : IVec S16 32) (k0_hw1080 : k0_chk1080 i k0_t4 v83 v1047), ∀ (k0_h9 : k0_cond9 i k0_t4 = 1#1), ∀ a x, ((![v83, v1047] : Fin 2 → IVec S16 32) a x).toNat < S160x48.size a := fun i k0_t4 v83 v1047 k0_hw1080 k0_h9 => k0_hw1080.2 k0_h9

def k0_chk1081 (i : grid0.Coords) (k0_t4 : Fin (k0_t4_loop i).trips) (v83 : IVec S16 32) (v1074 : IVec S16 32) : Prop :=
  (∀ (k0_h9 : k0_cond9 i k0_t4 = 1#1), ∀ a x, ((![v83, v1074] : Fin 2 → IVec S16 32) a x).toNat < S160x240.size a)
theorem k0_idx1264_inb : ∀ (i : grid0.Coords) (k0_t4 : Fin (k0_t4_loop i).trips) (v83 : IVec S16 32) (v1074 : IVec S16 32) (k0_hw1081 : k0_chk1081 i k0_t4 v83 v1074), ∀ (k0_h9 : k0_cond9 i k0_t4 = 1#1), ∀ a x, ((![v83, v1074] : Fin 2 → IVec S16 32) a x).toNat < S160x240.size a := fun i k0_t4 v83 v1074 k0_hw1081 k0_h9 => k0_hw1081 k0_h9

def k0_chk1082 (i : grid0.Coords) (k0_t4 : Fin (k0_t4_loop i).trips) (v83 : IVec S16 32) (v1088 : IVec S16 32) : Prop :=
  (∀ (k0_h9 : k0_cond9 i k0_t4 = 1#1), ∀ a x, ((![v83, v1088] : Fin 2 → IVec S16 32) a x).toNat < S160x240.size a)
theorem k0_idx1265_inb : ∀ (i : grid0.Coords) (k0_t4 : Fin (k0_t4_loop i).trips) (v83 : IVec S16 32) (v1088 : IVec S16 32) (k0_hw1082 : k0_chk1082 i k0_t4 v83 v1088), ∀ (k0_h9 : k0_cond9 i k0_t4 = 1#1), ∀ a x, ((![v83, v1088] : Fin 2 → IVec S16 32) a x).toNat < S160x240.size a := fun i k0_t4 v83 v1088 k0_hw1082 k0_h9 => k0_hw1082 k0_h9

def k0_chk1083 (i : grid0.Coords) (k0_t4 : Fin (k0_t4_loop i).trips) (v83 : IVec S16 32) (v1092 : IVec S16 32) : Prop :=
  (∀ (k0_h9 : k0_cond9 i k0_t4 = 1#1), ∀ a x, ((![v83, v1092] : Fin 2 → IVec S16 32) a x).toNat < S160x240.size a)
theorem k0_idx1266_inb : ∀ (i : grid0.Coords) (k0_t4 : Fin (k0_t4_loop i).trips) (v83 : IVec S16 32) (v1092 : IVec S16 32) (k0_hw1083 : k0_chk1083 i k0_t4 v83 v1092), ∀ (k0_h9 : k0_cond9 i k0_t4 = 1#1), ∀ a x, ((![v83, v1092] : Fin 2 → IVec S16 32) a x).toNat < S160x240.size a := fun i k0_t4 v83 v1092 k0_hw1083 k0_h9 => k0_hw1083 k0_h9

def k0_chk1084 (i : grid0.Coords) (k0_t4 : Fin (k0_t4_loop i).trips) (v83 : IVec S16 32) (v1096 : IVec S16 32) : Prop :=
  (∀ (k0_h9 : k0_cond9 i k0_t4 = 1#1), ∀ a x, ((![v83, v1096] : Fin 2 → IVec S16 32) a x).toNat < S160x240.size a)
theorem k0_idx1267_inb : ∀ (i : grid0.Coords) (k0_t4 : Fin (k0_t4_loop i).trips) (v83 : IVec S16 32) (v1096 : IVec S16 32) (k0_hw1084 : k0_chk1084 i k0_t4 v83 v1096), ∀ (k0_h9 : k0_cond9 i k0_t4 = 1#1), ∀ a x, ((![v83, v1096] : Fin 2 → IVec S16 32) a x).toNat < S160x240.size a := fun i k0_t4 v83 v1096 k0_hw1084 k0_h9 => k0_hw1084 k0_h9

def k0_chk1085 (i : grid0.Coords) (k0_t4 : Fin (k0_t4_loop i).trips) (v83 : IVec S16 32) (v1100 : IVec S16 32) : Prop :=
  (∀ (k0_h9 : k0_cond9 i k0_t4 = 1#1), ∀ a x, ((![v83, v1100] : Fin 2 → IVec S16 32) a x).toNat < S160x240.size a)
theorem k0_idx1268_inb : ∀ (i : grid0.Coords) (k0_t4 : Fin (k0_t4_loop i).trips) (v83 : IVec S16 32) (v1100 : IVec S16 32) (k0_hw1085 : k0_chk1085 i k0_t4 v83 v1100), ∀ (k0_h9 : k0_cond9 i k0_t4 = 1#1), ∀ a x, ((![v83, v1100] : Fin 2 → IVec S16 32) a x).toNat < S160x240.size a := fun i k0_t4 v83 v1100 k0_hw1085 k0_h9 => k0_hw1085 k0_h9

def k0_chk1086 (i : grid0.Coords) (k0_t4 : Fin (k0_t4_loop i).trips) (v83 : IVec S16 32) (v1104 : IVec S16 32) : Prop :=
  (∀ (k0_h9 : k0_cond9 i k0_t4 = 1#1), ∀ a x, ((![v83, v1104] : Fin 2 → IVec S16 32) a x).toNat < S160x240.size a)
theorem k0_idx1269_inb : ∀ (i : grid0.Coords) (k0_t4 : Fin (k0_t4_loop i).trips) (v83 : IVec S16 32) (v1104 : IVec S16 32) (k0_hw1086 : k0_chk1086 i k0_t4 v83 v1104), ∀ (k0_h9 : k0_cond9 i k0_t4 = 1#1), ∀ a x, ((![v83, v1104] : Fin 2 → IVec S16 32) a x).toNat < S160x240.size a := fun i k0_t4 v83 v1104 k0_hw1086 k0_h9 => k0_hw1086 k0_h9

def k0_chk1087 (i : grid0.Coords) (k0_t4 : Fin (k0_t4_loop i).trips) (v83 : IVec S16 32) (v1108 : IVec S16 32) : Prop :=
  (∀ (k0_h9 : k0_cond9 i k0_t4 = 1#1), ∀ a x, ((![v83, v1108] : Fin 2 → IVec S16 32) a x).toNat < S160x240.size a)
theorem k0_idx1270_inb : ∀ (i : grid0.Coords) (k0_t4 : Fin (k0_t4_loop i).trips) (v83 : IVec S16 32) (v1108 : IVec S16 32) (k0_hw1087 : k0_chk1087 i k0_t4 v83 v1108), ∀ (k0_h9 : k0_cond9 i k0_t4 = 1#1), ∀ a x, ((![v83, v1108] : Fin 2 → IVec S16 32) a x).toNat < S160x240.size a := fun i k0_t4 v83 v1108 k0_hw1087 k0_h9 => k0_hw1087 k0_h9

def k0_chk1088 (i : grid0.Coords) (k0_t4 : Fin (k0_t4_loop i).trips) (v83 : IVec S16 32) (v1085 : IVec S16 32) : Prop :=
  (∀ (k0_h9 : k0_cond9 i k0_t4 = 1#1), ∀ a x, ((![v1085] : Fin 1 → IVec S16 32) a x).toNat < S48.size a) ∧
  (∀ (k0_h9 : k0_cond9 i k0_t4 = 1#1), ∀ a x, ((![v83, v1085] : Fin 2 → IVec S16 32) a x).toNat < S160x48.size a)
theorem k0_idx1271_inb : ∀ (i : grid0.Coords) (k0_t4 : Fin (k0_t4_loop i).trips) (v83 : IVec S16 32) (v1085 : IVec S16 32) (k0_hw1088 : k0_chk1088 i k0_t4 v83 v1085), ∀ (k0_h9 : k0_cond9 i k0_t4 = 1#1), ∀ a x, ((![v1085] : Fin 1 → IVec S16 32) a x).toNat < S48.size a := fun i k0_t4 v83 v1085 k0_hw1088 k0_h9 => k0_hw1088.1 k0_h9
theorem k0_idx1272_inb : ∀ (i : grid0.Coords) (k0_t4 : Fin (k0_t4_loop i).trips) (v83 : IVec S16 32) (v1085 : IVec S16 32) (k0_hw1088 : k0_chk1088 i k0_t4 v83 v1085), ∀ (k0_h9 : k0_cond9 i k0_t4 = 1#1), ∀ a x, ((![v83, v1085] : Fin 2 → IVec S16 32) a x).toNat < S160x48.size a := fun i k0_t4 v83 v1085 k0_hw1088 k0_h9 => k0_hw1088.2 k0_h9

def k0_chk1089 (i : grid0.Coords) (k0_t4 : Fin (k0_t4_loop i).trips) (v83 : IVec S16 32) (v1112 : IVec S16 32) : Prop :=
  (∀ (k0_h9 : k0_cond9 i k0_t4 = 1#1), ∀ a x, ((![v83, v1112] : Fin 2 → IVec S16 32) a x).toNat < S160x240.size a)
theorem k0_idx1273_inb : ∀ (i : grid0.Coords) (k0_t4 : Fin (k0_t4_loop i).trips) (v83 : IVec S16 32) (v1112 : IVec S16 32) (k0_hw1089 : k0_chk1089 i k0_t4 v83 v1112), ∀ (k0_h9 : k0_cond9 i k0_t4 = 1#1), ∀ a x, ((![v83, v1112] : Fin 2 → IVec S16 32) a x).toNat < S160x240.size a := fun i k0_t4 v83 v1112 k0_hw1089 k0_h9 => k0_hw1089 k0_h9

def k0_chk1090 (i : grid0.Coords) (k0_t4 : Fin (k0_t4_loop i).trips) (v83 : IVec S16 32) (v1126 : IVec S16 32) : Prop :=
  (∀ (k0_h9 : k0_cond9 i k0_t4 = 1#1), ∀ a x, ((![v83, v1126] : Fin 2 → IVec S16 32) a x).toNat < S160x240.size a)
theorem k0_idx1274_inb : ∀ (i : grid0.Coords) (k0_t4 : Fin (k0_t4_loop i).trips) (v83 : IVec S16 32) (v1126 : IVec S16 32) (k0_hw1090 : k0_chk1090 i k0_t4 v83 v1126), ∀ (k0_h9 : k0_cond9 i k0_t4 = 1#1), ∀ a x, ((![v83, v1126] : Fin 2 → IVec S16 32) a x).toNat < S160x240.size a := fun i k0_t4 v83 v1126 k0_hw1090 k0_h9 => k0_hw1090 k0_h9

def k0_chk1091 (i : grid0.Coords) (k0_t4 : Fin (k0_t4_loop i).trips) (v83 : IVec S16 32) (v1130 : IVec S16 32) : Prop :=
  (∀ (k0_h9 : k0_cond9 i k0_t4 = 1#1), ∀ a x, ((![v83, v1130] : Fin 2 → IVec S16 32) a x).toNat < S160x240.size a)
theorem k0_idx1275_inb : ∀ (i : grid0.Coords) (k0_t4 : Fin (k0_t4_loop i).trips) (v83 : IVec S16 32) (v1130 : IVec S16 32) (k0_hw1091 : k0_chk1091 i k0_t4 v83 v1130), ∀ (k0_h9 : k0_cond9 i k0_t4 = 1#1), ∀ a x, ((![v83, v1130] : Fin 2 → IVec S16 32) a x).toNat < S160x240.size a := fun i k0_t4 v83 v1130 k0_hw1091 k0_h9 => k0_hw1091 k0_h9

def k0_chk1092 (i : grid0.Coords) (k0_t4 : Fin (k0_t4_loop i).trips) (v83 : IVec S16 32) (v1134 : IVec S16 32) : Prop :=
  (∀ (k0_h9 : k0_cond9 i k0_t4 = 1#1), ∀ a x, ((![v83, v1134] : Fin 2 → IVec S16 32) a x).toNat < S160x240.size a)
theorem k0_idx1276_inb : ∀ (i : grid0.Coords) (k0_t4 : Fin (k0_t4_loop i).trips) (v83 : IVec S16 32) (v1134 : IVec S16 32) (k0_hw1092 : k0_chk1092 i k0_t4 v83 v1134), ∀ (k0_h9 : k0_cond9 i k0_t4 = 1#1), ∀ a x, ((![v83, v1134] : Fin 2 → IVec S16 32) a x).toNat < S160x240.size a := fun i k0_t4 v83 v1134 k0_hw1092 k0_h9 => k0_hw1092 k0_h9

def k0_chk1093 (i : grid0.Coords) (k0_t4 : Fin (k0_t4_loop i).trips) (v83 : IVec S16 32) (v1138 : IVec S16 32) : Prop :=
  (∀ (k0_h9 : k0_cond9 i k0_t4 = 1#1), ∀ a x, ((![v83, v1138] : Fin 2 → IVec S16 32) a x).toNat < S160x240.size a)
theorem k0_idx1277_inb : ∀ (i : grid0.Coords) (k0_t4 : Fin (k0_t4_loop i).trips) (v83 : IVec S16 32) (v1138 : IVec S16 32) (k0_hw1093 : k0_chk1093 i k0_t4 v83 v1138), ∀ (k0_h9 : k0_cond9 i k0_t4 = 1#1), ∀ a x, ((![v83, v1138] : Fin 2 → IVec S16 32) a x).toNat < S160x240.size a := fun i k0_t4 v83 v1138 k0_hw1093 k0_h9 => k0_hw1093 k0_h9

def k0_chk1094 (i : grid0.Coords) (k0_t4 : Fin (k0_t4_loop i).trips) (v83 : IVec S16 32) (v1142 : IVec S16 32) : Prop :=
  (∀ (k0_h9 : k0_cond9 i k0_t4 = 1#1), ∀ a x, ((![v83, v1142] : Fin 2 → IVec S16 32) a x).toNat < S160x240.size a)
theorem k0_idx1278_inb : ∀ (i : grid0.Coords) (k0_t4 : Fin (k0_t4_loop i).trips) (v83 : IVec S16 32) (v1142 : IVec S16 32) (k0_hw1094 : k0_chk1094 i k0_t4 v83 v1142), ∀ (k0_h9 : k0_cond9 i k0_t4 = 1#1), ∀ a x, ((![v83, v1142] : Fin 2 → IVec S16 32) a x).toNat < S160x240.size a := fun i k0_t4 v83 v1142 k0_hw1094 k0_h9 => k0_hw1094 k0_h9

def k0_chk1095 (i : grid0.Coords) (k0_t4 : Fin (k0_t4_loop i).trips) (v83 : IVec S16 32) (v1146 : IVec S16 32) : Prop :=
  (∀ (k0_h9 : k0_cond9 i k0_t4 = 1#1), ∀ a x, ((![v83, v1146] : Fin 2 → IVec S16 32) a x).toNat < S160x240.size a)
theorem k0_idx1279_inb : ∀ (i : grid0.Coords) (k0_t4 : Fin (k0_t4_loop i).trips) (v83 : IVec S16 32) (v1146 : IVec S16 32) (k0_hw1095 : k0_chk1095 i k0_t4 v83 v1146), ∀ (k0_h9 : k0_cond9 i k0_t4 = 1#1), ∀ a x, ((![v83, v1146] : Fin 2 → IVec S16 32) a x).toNat < S160x240.size a := fun i k0_t4 v83 v1146 k0_hw1095 k0_h9 => k0_hw1095 k0_h9

def k0_chk1096 (i : grid0.Coords) (k0_t4 : Fin (k0_t4_loop i).trips) (v83 : IVec S16 32) (v1123 : IVec S16 32) : Prop :=
  (∀ (k0_h9 : k0_cond9 i k0_t4 = 1#1), ∀ a x, ((![v1123] : Fin 1 → IVec S16 32) a x).toNat < S48.size a) ∧
  (∀ (k0_h9 : k0_cond9 i k0_t4 = 1#1), ∀ a x, ((![v83, v1123] : Fin 2 → IVec S16 32) a x).toNat < S160x48.size a)
theorem k0_idx1280_inb : ∀ (i : grid0.Coords) (k0_t4 : Fin (k0_t4_loop i).trips) (v83 : IVec S16 32) (v1123 : IVec S16 32) (k0_hw1096 : k0_chk1096 i k0_t4 v83 v1123), ∀ (k0_h9 : k0_cond9 i k0_t4 = 1#1), ∀ a x, ((![v1123] : Fin 1 → IVec S16 32) a x).toNat < S48.size a := fun i k0_t4 v83 v1123 k0_hw1096 k0_h9 => k0_hw1096.1 k0_h9
theorem k0_idx1281_inb : ∀ (i : grid0.Coords) (k0_t4 : Fin (k0_t4_loop i).trips) (v83 : IVec S16 32) (v1123 : IVec S16 32) (k0_hw1096 : k0_chk1096 i k0_t4 v83 v1123), ∀ (k0_h9 : k0_cond9 i k0_t4 = 1#1), ∀ a x, ((![v83, v1123] : Fin 2 → IVec S16 32) a x).toNat < S160x48.size a := fun i k0_t4 v83 v1123 k0_hw1096 k0_h9 => k0_hw1096.2 k0_h9

def k0_chk1097 (i : grid0.Coords) (k0_t4 : Fin (k0_t4_loop i).trips) (v83 : IVec S16 32) (v1150 : IVec S16 32) : Prop :=
  (∀ (k0_h9 : k0_cond9 i k0_t4 = 1#1), ∀ a x, ((![v83, v1150] : Fin 2 → IVec S16 32) a x).toNat < S160x240.size a)
theorem k0_idx1282_inb : ∀ (i : grid0.Coords) (k0_t4 : Fin (k0_t4_loop i).trips) (v83 : IVec S16 32) (v1150 : IVec S16 32) (k0_hw1097 : k0_chk1097 i k0_t4 v83 v1150), ∀ (k0_h9 : k0_cond9 i k0_t4 = 1#1), ∀ a x, ((![v83, v1150] : Fin 2 → IVec S16 32) a x).toNat < S160x240.size a := fun i k0_t4 v83 v1150 k0_hw1097 k0_h9 => k0_hw1097 k0_h9

def k0_chk1098 (i : grid0.Coords) (k0_t4 : Fin (k0_t4_loop i).trips) (v83 : IVec S16 32) (v1164 : IVec S16 32) : Prop :=
  (∀ (k0_h9 : k0_cond9 i k0_t4 = 1#1), ∀ a x, ((![v83, v1164] : Fin 2 → IVec S16 32) a x).toNat < S160x240.size a)
theorem k0_idx1283_inb : ∀ (i : grid0.Coords) (k0_t4 : Fin (k0_t4_loop i).trips) (v83 : IVec S16 32) (v1164 : IVec S16 32) (k0_hw1098 : k0_chk1098 i k0_t4 v83 v1164), ∀ (k0_h9 : k0_cond9 i k0_t4 = 1#1), ∀ a x, ((![v83, v1164] : Fin 2 → IVec S16 32) a x).toNat < S160x240.size a := fun i k0_t4 v83 v1164 k0_hw1098 k0_h9 => k0_hw1098 k0_h9

def k0_chk1099 (i : grid0.Coords) (k0_t4 : Fin (k0_t4_loop i).trips) (v83 : IVec S16 32) (v1168 : IVec S16 32) : Prop :=
  (∀ (k0_h9 : k0_cond9 i k0_t4 = 1#1), ∀ a x, ((![v83, v1168] : Fin 2 → IVec S16 32) a x).toNat < S160x240.size a)
theorem k0_idx1284_inb : ∀ (i : grid0.Coords) (k0_t4 : Fin (k0_t4_loop i).trips) (v83 : IVec S16 32) (v1168 : IVec S16 32) (k0_hw1099 : k0_chk1099 i k0_t4 v83 v1168), ∀ (k0_h9 : k0_cond9 i k0_t4 = 1#1), ∀ a x, ((![v83, v1168] : Fin 2 → IVec S16 32) a x).toNat < S160x240.size a := fun i k0_t4 v83 v1168 k0_hw1099 k0_h9 => k0_hw1099 k0_h9

def k0_chk1100 (i : grid0.Coords) (k0_t4 : Fin (k0_t4_loop i).trips) (v83 : IVec S16 32) (v1172 : IVec S16 32) : Prop :=
  (∀ (k0_h9 : k0_cond9 i k0_t4 = 1#1), ∀ a x, ((![v83, v1172] : Fin 2 → IVec S16 32) a x).toNat < S160x240.size a)
theorem k0_idx1285_inb : ∀ (i : grid0.Coords) (k0_t4 : Fin (k0_t4_loop i).trips) (v83 : IVec S16 32) (v1172 : IVec S16 32) (k0_hw1100 : k0_chk1100 i k0_t4 v83 v1172), ∀ (k0_h9 : k0_cond9 i k0_t4 = 1#1), ∀ a x, ((![v83, v1172] : Fin 2 → IVec S16 32) a x).toNat < S160x240.size a := fun i k0_t4 v83 v1172 k0_hw1100 k0_h9 => k0_hw1100 k0_h9

def k0_chk1101 (i : grid0.Coords) (k0_t4 : Fin (k0_t4_loop i).trips) (v83 : IVec S16 32) (v1176 : IVec S16 32) : Prop :=
  (∀ (k0_h9 : k0_cond9 i k0_t4 = 1#1), ∀ a x, ((![v83, v1176] : Fin 2 → IVec S16 32) a x).toNat < S160x240.size a)
theorem k0_idx1286_inb : ∀ (i : grid0.Coords) (k0_t4 : Fin (k0_t4_loop i).trips) (v83 : IVec S16 32) (v1176 : IVec S16 32) (k0_hw1101 : k0_chk1101 i k0_t4 v83 v1176), ∀ (k0_h9 : k0_cond9 i k0_t4 = 1#1), ∀ a x, ((![v83, v1176] : Fin 2 → IVec S16 32) a x).toNat < S160x240.size a := fun i k0_t4 v83 v1176 k0_hw1101 k0_h9 => k0_hw1101 k0_h9

def k0_chk1102 (i : grid0.Coords) (k0_t4 : Fin (k0_t4_loop i).trips) (v83 : IVec S16 32) (v1180 : IVec S16 32) : Prop :=
  (∀ (k0_h9 : k0_cond9 i k0_t4 = 1#1), ∀ a x, ((![v83, v1180] : Fin 2 → IVec S16 32) a x).toNat < S160x240.size a)
theorem k0_idx1287_inb : ∀ (i : grid0.Coords) (k0_t4 : Fin (k0_t4_loop i).trips) (v83 : IVec S16 32) (v1180 : IVec S16 32) (k0_hw1102 : k0_chk1102 i k0_t4 v83 v1180), ∀ (k0_h9 : k0_cond9 i k0_t4 = 1#1), ∀ a x, ((![v83, v1180] : Fin 2 → IVec S16 32) a x).toNat < S160x240.size a := fun i k0_t4 v83 v1180 k0_hw1102 k0_h9 => k0_hw1102 k0_h9

def k0_chk1103 (i : grid0.Coords) (k0_t4 : Fin (k0_t4_loop i).trips) (v83 : IVec S16 32) (v1184 : IVec S16 32) : Prop :=
  (∀ (k0_h9 : k0_cond9 i k0_t4 = 1#1), ∀ a x, ((![v83, v1184] : Fin 2 → IVec S16 32) a x).toNat < S160x240.size a)
theorem k0_idx1288_inb : ∀ (i : grid0.Coords) (k0_t4 : Fin (k0_t4_loop i).trips) (v83 : IVec S16 32) (v1184 : IVec S16 32) (k0_hw1103 : k0_chk1103 i k0_t4 v83 v1184), ∀ (k0_h9 : k0_cond9 i k0_t4 = 1#1), ∀ a x, ((![v83, v1184] : Fin 2 → IVec S16 32) a x).toNat < S160x240.size a := fun i k0_t4 v83 v1184 k0_hw1103 k0_h9 => k0_hw1103 k0_h9

def k0_chk1104 (i : grid0.Coords) (k0_t4 : Fin (k0_t4_loop i).trips) (v83 : IVec S16 32) (v1161 : IVec S16 32) : Prop :=
  (∀ (k0_h9 : k0_cond9 i k0_t4 = 1#1), ∀ a x, ((![v1161] : Fin 1 → IVec S16 32) a x).toNat < S48.size a) ∧
  (∀ (k0_h9 : k0_cond9 i k0_t4 = 1#1), ∀ a x, ((![v83, v1161] : Fin 2 → IVec S16 32) a x).toNat < S160x48.size a)
theorem k0_idx1289_inb : ∀ (i : grid0.Coords) (k0_t4 : Fin (k0_t4_loop i).trips) (v83 : IVec S16 32) (v1161 : IVec S16 32) (k0_hw1104 : k0_chk1104 i k0_t4 v83 v1161), ∀ (k0_h9 : k0_cond9 i k0_t4 = 1#1), ∀ a x, ((![v1161] : Fin 1 → IVec S16 32) a x).toNat < S48.size a := fun i k0_t4 v83 v1161 k0_hw1104 k0_h9 => k0_hw1104.1 k0_h9
theorem k0_idx1290_inb : ∀ (i : grid0.Coords) (k0_t4 : Fin (k0_t4_loop i).trips) (v83 : IVec S16 32) (v1161 : IVec S16 32) (k0_hw1104 : k0_chk1104 i k0_t4 v83 v1161), ∀ (k0_h9 : k0_cond9 i k0_t4 = 1#1), ∀ a x, ((![v83, v1161] : Fin 2 → IVec S16 32) a x).toNat < S160x48.size a := fun i k0_t4 v83 v1161 k0_hw1104 k0_h9 => k0_hw1104.2 k0_h9

def k0_chk1105 (i : grid0.Coords) (k0_t4 : Fin (k0_t4_loop i).trips) (v83 : IVec S16 32) (v1188 : IVec S16 32) : Prop :=
  (∀ (k0_h9 : k0_cond9 i k0_t4 = 1#1), ∀ a x, ((![v83, v1188] : Fin 2 → IVec S16 32) a x).toNat < S160x240.size a)
theorem k0_idx1291_inb : ∀ (i : grid0.Coords) (k0_t4 : Fin (k0_t4_loop i).trips) (v83 : IVec S16 32) (v1188 : IVec S16 32) (k0_hw1105 : k0_chk1105 i k0_t4 v83 v1188), ∀ (k0_h9 : k0_cond9 i k0_t4 = 1#1), ∀ a x, ((![v83, v1188] : Fin 2 → IVec S16 32) a x).toNat < S160x240.size a := fun i k0_t4 v83 v1188 k0_hw1105 k0_h9 => k0_hw1105 k0_h9

def k0_chk1106 (i : grid0.Coords) (k0_t4 : Fin (k0_t4_loop i).trips) (v83 : IVec S16 32) (v1202 : IVec S16 32) : Prop :=
  (∀ (k0_h9 : k0_cond9 i k0_t4 = 1#1), ∀ a x, ((![v83, v1202] : Fin 2 → IVec S16 32) a x).toNat < S160x240.size a)
theorem k0_idx1292_inb : ∀ (i : grid0.Coords) (k0_t4 : Fin (k0_t4_loop i).trips) (v83 : IVec S16 32) (v1202 : IVec S16 32) (k0_hw1106 : k0_chk1106 i k0_t4 v83 v1202), ∀ (k0_h9 : k0_cond9 i k0_t4 = 1#1), ∀ a x, ((![v83, v1202] : Fin 2 → IVec S16 32) a x).toNat < S160x240.size a := fun i k0_t4 v83 v1202 k0_hw1106 k0_h9 => k0_hw1106 k0_h9

def k0_chk1107 (i : grid0.Coords) (k0_t4 : Fin (k0_t4_loop i).trips) (v83 : IVec S16 32) (v1206 : IVec S16 32) : Prop :=
  (∀ (k0_h9 : k0_cond9 i k0_t4 = 1#1), ∀ a x, ((![v83, v1206] : Fin 2 → IVec S16 32) a x).toNat < S160x240.size a)
theorem k0_idx1293_inb : ∀ (i : grid0.Coords) (k0_t4 : Fin (k0_t4_loop i).trips) (v83 : IVec S16 32) (v1206 : IVec S16 32) (k0_hw1107 : k0_chk1107 i k0_t4 v83 v1206), ∀ (k0_h9 : k0_cond9 i k0_t4 = 1#1), ∀ a x, ((![v83, v1206] : Fin 2 → IVec S16 32) a x).toNat < S160x240.size a := fun i k0_t4 v83 v1206 k0_hw1107 k0_h9 => k0_hw1107 k0_h9

def k0_chk1108 (i : grid0.Coords) (k0_t4 : Fin (k0_t4_loop i).trips) (v83 : IVec S16 32) (v1210 : IVec S16 32) : Prop :=
  (∀ (k0_h9 : k0_cond9 i k0_t4 = 1#1), ∀ a x, ((![v83, v1210] : Fin 2 → IVec S16 32) a x).toNat < S160x240.size a)
theorem k0_idx1294_inb : ∀ (i : grid0.Coords) (k0_t4 : Fin (k0_t4_loop i).trips) (v83 : IVec S16 32) (v1210 : IVec S16 32) (k0_hw1108 : k0_chk1108 i k0_t4 v83 v1210), ∀ (k0_h9 : k0_cond9 i k0_t4 = 1#1), ∀ a x, ((![v83, v1210] : Fin 2 → IVec S16 32) a x).toNat < S160x240.size a := fun i k0_t4 v83 v1210 k0_hw1108 k0_h9 => k0_hw1108 k0_h9

def k0_chk1109 (i : grid0.Coords) (k0_t4 : Fin (k0_t4_loop i).trips) (v83 : IVec S16 32) (v1214 : IVec S16 32) : Prop :=
  (∀ (k0_h9 : k0_cond9 i k0_t4 = 1#1), ∀ a x, ((![v83, v1214] : Fin 2 → IVec S16 32) a x).toNat < S160x240.size a)
theorem k0_idx1295_inb : ∀ (i : grid0.Coords) (k0_t4 : Fin (k0_t4_loop i).trips) (v83 : IVec S16 32) (v1214 : IVec S16 32) (k0_hw1109 : k0_chk1109 i k0_t4 v83 v1214), ∀ (k0_h9 : k0_cond9 i k0_t4 = 1#1), ∀ a x, ((![v83, v1214] : Fin 2 → IVec S16 32) a x).toNat < S160x240.size a := fun i k0_t4 v83 v1214 k0_hw1109 k0_h9 => k0_hw1109 k0_h9

def k0_chk1110 (i : grid0.Coords) (k0_t4 : Fin (k0_t4_loop i).trips) (v83 : IVec S16 32) (v1218 : IVec S16 32) : Prop :=
  (∀ (k0_h9 : k0_cond9 i k0_t4 = 1#1), ∀ a x, ((![v83, v1218] : Fin 2 → IVec S16 32) a x).toNat < S160x240.size a)
theorem k0_idx1296_inb : ∀ (i : grid0.Coords) (k0_t4 : Fin (k0_t4_loop i).trips) (v83 : IVec S16 32) (v1218 : IVec S16 32) (k0_hw1110 : k0_chk1110 i k0_t4 v83 v1218), ∀ (k0_h9 : k0_cond9 i k0_t4 = 1#1), ∀ a x, ((![v83, v1218] : Fin 2 → IVec S16 32) a x).toNat < S160x240.size a := fun i k0_t4 v83 v1218 k0_hw1110 k0_h9 => k0_hw1110 k0_h9

def k0_chk1111 (i : grid0.Coords) (k0_t4 : Fin (k0_t4_loop i).trips) (v83 : IVec S16 32) (v1222 : IVec S16 32) : Prop :=
  (∀ (k0_h9 : k0_cond9 i k0_t4 = 1#1), ∀ a x, ((![v83, v1222] : Fin 2 → IVec S16 32) a x).toNat < S160x240.size a)
theorem k0_idx1297_inb : ∀ (i : grid0.Coords) (k0_t4 : Fin (k0_t4_loop i).trips) (v83 : IVec S16 32) (v1222 : IVec S16 32) (k0_hw1111 : k0_chk1111 i k0_t4 v83 v1222), ∀ (k0_h9 : k0_cond9 i k0_t4 = 1#1), ∀ a x, ((![v83, v1222] : Fin 2 → IVec S16 32) a x).toNat < S160x240.size a := fun i k0_t4 v83 v1222 k0_hw1111 k0_h9 => k0_hw1111 k0_h9

def k0_chk1112 (i : grid0.Coords) (k0_t4 : Fin (k0_t4_loop i).trips) (v83 : IVec S16 32) (v1199 : IVec S16 32) : Prop :=
  (∀ (k0_h9 : k0_cond9 i k0_t4 = 1#1), ∀ a x, ((![v1199] : Fin 1 → IVec S16 32) a x).toNat < S48.size a) ∧
  (∀ (k0_h9 : k0_cond9 i k0_t4 = 1#1), ∀ a x, ((![v83, v1199] : Fin 2 → IVec S16 32) a x).toNat < S160x48.size a)
theorem k0_idx1298_inb : ∀ (i : grid0.Coords) (k0_t4 : Fin (k0_t4_loop i).trips) (v83 : IVec S16 32) (v1199 : IVec S16 32) (k0_hw1112 : k0_chk1112 i k0_t4 v83 v1199), ∀ (k0_h9 : k0_cond9 i k0_t4 = 1#1), ∀ a x, ((![v1199] : Fin 1 → IVec S16 32) a x).toNat < S48.size a := fun i k0_t4 v83 v1199 k0_hw1112 k0_h9 => k0_hw1112.1 k0_h9
theorem k0_idx1299_inb : ∀ (i : grid0.Coords) (k0_t4 : Fin (k0_t4_loop i).trips) (v83 : IVec S16 32) (v1199 : IVec S16 32) (k0_hw1112 : k0_chk1112 i k0_t4 v83 v1199), ∀ (k0_h9 : k0_cond9 i k0_t4 = 1#1), ∀ a x, ((![v83, v1199] : Fin 2 → IVec S16 32) a x).toNat < S160x48.size a := fun i k0_t4 v83 v1199 k0_hw1112 k0_h9 => k0_hw1112.2 k0_h9

def k0_chk1113 (i : grid0.Coords) (k0_t4 : Fin (k0_t4_loop i).trips) (v83 : IVec S16 32) (v1226 : IVec S16 32) : Prop :=
  (∀ (k0_h9 : k0_cond9 i k0_t4 = 1#1), ∀ a x, ((![v83, v1226] : Fin 2 → IVec S16 32) a x).toNat < S160x240.size a)
theorem k0_idx1300_inb : ∀ (i : grid0.Coords) (k0_t4 : Fin (k0_t4_loop i).trips) (v83 : IVec S16 32) (v1226 : IVec S16 32) (k0_hw1113 : k0_chk1113 i k0_t4 v83 v1226), ∀ (k0_h9 : k0_cond9 i k0_t4 = 1#1), ∀ a x, ((![v83, v1226] : Fin 2 → IVec S16 32) a x).toNat < S160x240.size a := fun i k0_t4 v83 v1226 k0_hw1113 k0_h9 => k0_hw1113 k0_h9

def k0_chk1114 (i : grid0.Coords) (k0_t4 : Fin (k0_t4_loop i).trips) (v83 : IVec S16 32) (v1240 : IVec S16 32) : Prop :=
  (∀ (k0_h9 : k0_cond9 i k0_t4 = 1#1), ∀ a x, ((![v83, v1240] : Fin 2 → IVec S16 32) a x).toNat < S160x240.size a)
theorem k0_idx1301_inb : ∀ (i : grid0.Coords) (k0_t4 : Fin (k0_t4_loop i).trips) (v83 : IVec S16 32) (v1240 : IVec S16 32) (k0_hw1114 : k0_chk1114 i k0_t4 v83 v1240), ∀ (k0_h9 : k0_cond9 i k0_t4 = 1#1), ∀ a x, ((![v83, v1240] : Fin 2 → IVec S16 32) a x).toNat < S160x240.size a := fun i k0_t4 v83 v1240 k0_hw1114 k0_h9 => k0_hw1114 k0_h9

def k0_chk1115 (i : grid0.Coords) (k0_t4 : Fin (k0_t4_loop i).trips) (v83 : IVec S16 32) (v1244 : IVec S16 32) : Prop :=
  (∀ (k0_h9 : k0_cond9 i k0_t4 = 1#1), ∀ a x, ((![v83, v1244] : Fin 2 → IVec S16 32) a x).toNat < S160x240.size a)
theorem k0_idx1302_inb : ∀ (i : grid0.Coords) (k0_t4 : Fin (k0_t4_loop i).trips) (v83 : IVec S16 32) (v1244 : IVec S16 32) (k0_hw1115 : k0_chk1115 i k0_t4 v83 v1244), ∀ (k0_h9 : k0_cond9 i k0_t4 = 1#1), ∀ a x, ((![v83, v1244] : Fin 2 → IVec S16 32) a x).toNat < S160x240.size a := fun i k0_t4 v83 v1244 k0_hw1115 k0_h9 => k0_hw1115 k0_h9

def k0_chk1116 (i : grid0.Coords) (k0_t4 : Fin (k0_t4_loop i).trips) (v83 : IVec S16 32) (v1248 : IVec S16 32) : Prop :=
  (∀ (k0_h9 : k0_cond9 i k0_t4 = 1#1), ∀ a x, ((![v83, v1248] : Fin 2 → IVec S16 32) a x).toNat < S160x240.size a)
theorem k0_idx1303_inb : ∀ (i : grid0.Coords) (k0_t4 : Fin (k0_t4_loop i).trips) (v83 : IVec S16 32) (v1248 : IVec S16 32) (k0_hw1116 : k0_chk1116 i k0_t4 v83 v1248), ∀ (k0_h9 : k0_cond9 i k0_t4 = 1#1), ∀ a x, ((![v83, v1248] : Fin 2 → IVec S16 32) a x).toNat < S160x240.size a := fun i k0_t4 v83 v1248 k0_hw1116 k0_h9 => k0_hw1116 k0_h9

def k0_chk1117 (i : grid0.Coords) (k0_t4 : Fin (k0_t4_loop i).trips) (v83 : IVec S16 32) (v1252 : IVec S16 32) : Prop :=
  (∀ (k0_h9 : k0_cond9 i k0_t4 = 1#1), ∀ a x, ((![v83, v1252] : Fin 2 → IVec S16 32) a x).toNat < S160x240.size a)
theorem k0_idx1304_inb : ∀ (i : grid0.Coords) (k0_t4 : Fin (k0_t4_loop i).trips) (v83 : IVec S16 32) (v1252 : IVec S16 32) (k0_hw1117 : k0_chk1117 i k0_t4 v83 v1252), ∀ (k0_h9 : k0_cond9 i k0_t4 = 1#1), ∀ a x, ((![v83, v1252] : Fin 2 → IVec S16 32) a x).toNat < S160x240.size a := fun i k0_t4 v83 v1252 k0_hw1117 k0_h9 => k0_hw1117 k0_h9

def k0_chk1118 (i : grid0.Coords) (k0_t4 : Fin (k0_t4_loop i).trips) (v83 : IVec S16 32) (v1256 : IVec S16 32) : Prop :=
  (∀ (k0_h9 : k0_cond9 i k0_t4 = 1#1), ∀ a x, ((![v83, v1256] : Fin 2 → IVec S16 32) a x).toNat < S160x240.size a)
theorem k0_idx1305_inb : ∀ (i : grid0.Coords) (k0_t4 : Fin (k0_t4_loop i).trips) (v83 : IVec S16 32) (v1256 : IVec S16 32) (k0_hw1118 : k0_chk1118 i k0_t4 v83 v1256), ∀ (k0_h9 : k0_cond9 i k0_t4 = 1#1), ∀ a x, ((![v83, v1256] : Fin 2 → IVec S16 32) a x).toNat < S160x240.size a := fun i k0_t4 v83 v1256 k0_hw1118 k0_h9 => k0_hw1118 k0_h9

def k0_chk1119 (i : grid0.Coords) (k0_t4 : Fin (k0_t4_loop i).trips) (v83 : IVec S16 32) (v1260 : IVec S16 32) : Prop :=
  (∀ (k0_h9 : k0_cond9 i k0_t4 = 1#1), ∀ a x, ((![v83, v1260] : Fin 2 → IVec S16 32) a x).toNat < S160x240.size a)
theorem k0_idx1306_inb : ∀ (i : grid0.Coords) (k0_t4 : Fin (k0_t4_loop i).trips) (v83 : IVec S16 32) (v1260 : IVec S16 32) (k0_hw1119 : k0_chk1119 i k0_t4 v83 v1260), ∀ (k0_h9 : k0_cond9 i k0_t4 = 1#1), ∀ a x, ((![v83, v1260] : Fin 2 → IVec S16 32) a x).toNat < S160x240.size a := fun i k0_t4 v83 v1260 k0_hw1119 k0_h9 => k0_hw1119 k0_h9

def k0_chk1120 (i : grid0.Coords) (k0_t4 : Fin (k0_t4_loop i).trips) (v83 : IVec S16 32) (v1237 : IVec S16 32) : Prop :=
  (∀ (k0_h9 : k0_cond9 i k0_t4 = 1#1), ∀ a x, ((![v1237] : Fin 1 → IVec S16 32) a x).toNat < S48.size a) ∧
  (∀ (k0_h9 : k0_cond9 i k0_t4 = 1#1), ∀ a x, ((![v83, v1237] : Fin 2 → IVec S16 32) a x).toNat < S160x48.size a)
theorem k0_idx1307_inb : ∀ (i : grid0.Coords) (k0_t4 : Fin (k0_t4_loop i).trips) (v83 : IVec S16 32) (v1237 : IVec S16 32) (k0_hw1120 : k0_chk1120 i k0_t4 v83 v1237), ∀ (k0_h9 : k0_cond9 i k0_t4 = 1#1), ∀ a x, ((![v1237] : Fin 1 → IVec S16 32) a x).toNat < S48.size a := fun i k0_t4 v83 v1237 k0_hw1120 k0_h9 => k0_hw1120.1 k0_h9
theorem k0_idx1308_inb : ∀ (i : grid0.Coords) (k0_t4 : Fin (k0_t4_loop i).trips) (v83 : IVec S16 32) (v1237 : IVec S16 32) (k0_hw1120 : k0_chk1120 i k0_t4 v83 v1237), ∀ (k0_h9 : k0_cond9 i k0_t4 = 1#1), ∀ a x, ((![v83, v1237] : Fin 2 → IVec S16 32) a x).toNat < S160x48.size a := fun i k0_t4 v83 v1237 k0_hw1120 k0_h9 => k0_hw1120.2 k0_h9

def k0_chk1121 (i : grid0.Coords) (k0_t4 : Fin (k0_t4_loop i).trips) (v83 : IVec S16 32) (v1264 : IVec S16 32) : Prop :=
  (∀ (k0_h9 : k0_cond9 i k0_t4 = 1#1), ∀ a x, ((![v83, v1264] : Fin 2 → IVec S16 32) a x).toNat < S160x240.size a)
theorem k0_idx1309_inb : ∀ (i : grid0.Coords) (k0_t4 : Fin (k0_t4_loop i).trips) (v83 : IVec S16 32) (v1264 : IVec S16 32) (k0_hw1121 : k0_chk1121 i k0_t4 v83 v1264), ∀ (k0_h9 : k0_cond9 i k0_t4 = 1#1), ∀ a x, ((![v83, v1264] : Fin 2 → IVec S16 32) a x).toNat < S160x240.size a := fun i k0_t4 v83 v1264 k0_hw1121 k0_h9 => k0_hw1121 k0_h9

def k0_chk1122 (i : grid0.Coords) (k0_t4 : Fin (k0_t4_loop i).trips) (v83 : IVec S16 32) (v1278 : IVec S16 32) : Prop :=
  (∀ (k0_h9 : k0_cond9 i k0_t4 = 1#1), ∀ a x, ((![v83, v1278] : Fin 2 → IVec S16 32) a x).toNat < S160x240.size a)
theorem k0_idx1310_inb : ∀ (i : grid0.Coords) (k0_t4 : Fin (k0_t4_loop i).trips) (v83 : IVec S16 32) (v1278 : IVec S16 32) (k0_hw1122 : k0_chk1122 i k0_t4 v83 v1278), ∀ (k0_h9 : k0_cond9 i k0_t4 = 1#1), ∀ a x, ((![v83, v1278] : Fin 2 → IVec S16 32) a x).toNat < S160x240.size a := fun i k0_t4 v83 v1278 k0_hw1122 k0_h9 => k0_hw1122 k0_h9

def k0_chk1123 (i : grid0.Coords) (k0_t4 : Fin (k0_t4_loop i).trips) (v83 : IVec S16 32) (v1282 : IVec S16 32) : Prop :=
  (∀ (k0_h9 : k0_cond9 i k0_t4 = 1#1), ∀ a x, ((![v83, v1282] : Fin 2 → IVec S16 32) a x).toNat < S160x240.size a)
theorem k0_idx1311_inb : ∀ (i : grid0.Coords) (k0_t4 : Fin (k0_t4_loop i).trips) (v83 : IVec S16 32) (v1282 : IVec S16 32) (k0_hw1123 : k0_chk1123 i k0_t4 v83 v1282), ∀ (k0_h9 : k0_cond9 i k0_t4 = 1#1), ∀ a x, ((![v83, v1282] : Fin 2 → IVec S16 32) a x).toNat < S160x240.size a := fun i k0_t4 v83 v1282 k0_hw1123 k0_h9 => k0_hw1123 k0_h9

def k0_chk1124 (i : grid0.Coords) (k0_t4 : Fin (k0_t4_loop i).trips) (v83 : IVec S16 32) (v1286 : IVec S16 32) : Prop :=
  (∀ (k0_h9 : k0_cond9 i k0_t4 = 1#1), ∀ a x, ((![v83, v1286] : Fin 2 → IVec S16 32) a x).toNat < S160x240.size a)
theorem k0_idx1312_inb : ∀ (i : grid0.Coords) (k0_t4 : Fin (k0_t4_loop i).trips) (v83 : IVec S16 32) (v1286 : IVec S16 32) (k0_hw1124 : k0_chk1124 i k0_t4 v83 v1286), ∀ (k0_h9 : k0_cond9 i k0_t4 = 1#1), ∀ a x, ((![v83, v1286] : Fin 2 → IVec S16 32) a x).toNat < S160x240.size a := fun i k0_t4 v83 v1286 k0_hw1124 k0_h9 => k0_hw1124 k0_h9

def k0_chk1125 (i : grid0.Coords) (k0_t4 : Fin (k0_t4_loop i).trips) (v83 : IVec S16 32) (v1290 : IVec S16 32) : Prop :=
  (∀ (k0_h9 : k0_cond9 i k0_t4 = 1#1), ∀ a x, ((![v83, v1290] : Fin 2 → IVec S16 32) a x).toNat < S160x240.size a)
theorem k0_idx1313_inb : ∀ (i : grid0.Coords) (k0_t4 : Fin (k0_t4_loop i).trips) (v83 : IVec S16 32) (v1290 : IVec S16 32) (k0_hw1125 : k0_chk1125 i k0_t4 v83 v1290), ∀ (k0_h9 : k0_cond9 i k0_t4 = 1#1), ∀ a x, ((![v83, v1290] : Fin 2 → IVec S16 32) a x).toNat < S160x240.size a := fun i k0_t4 v83 v1290 k0_hw1125 k0_h9 => k0_hw1125 k0_h9

def k0_chk1126 (i : grid0.Coords) (k0_t4 : Fin (k0_t4_loop i).trips) (v83 : IVec S16 32) (v1294 : IVec S16 32) : Prop :=
  (∀ (k0_h9 : k0_cond9 i k0_t4 = 1#1), ∀ a x, ((![v83, v1294] : Fin 2 → IVec S16 32) a x).toNat < S160x240.size a)
theorem k0_idx1314_inb : ∀ (i : grid0.Coords) (k0_t4 : Fin (k0_t4_loop i).trips) (v83 : IVec S16 32) (v1294 : IVec S16 32) (k0_hw1126 : k0_chk1126 i k0_t4 v83 v1294), ∀ (k0_h9 : k0_cond9 i k0_t4 = 1#1), ∀ a x, ((![v83, v1294] : Fin 2 → IVec S16 32) a x).toNat < S160x240.size a := fun i k0_t4 v83 v1294 k0_hw1126 k0_h9 => k0_hw1126 k0_h9

def k0_chk1127 (i : grid0.Coords) (k0_t4 : Fin (k0_t4_loop i).trips) (v83 : IVec S16 32) (v1298 : IVec S16 32) : Prop :=
  (∀ (k0_h9 : k0_cond9 i k0_t4 = 1#1), ∀ a x, ((![v83, v1298] : Fin 2 → IVec S16 32) a x).toNat < S160x240.size a)
theorem k0_idx1315_inb : ∀ (i : grid0.Coords) (k0_t4 : Fin (k0_t4_loop i).trips) (v83 : IVec S16 32) (v1298 : IVec S16 32) (k0_hw1127 : k0_chk1127 i k0_t4 v83 v1298), ∀ (k0_h9 : k0_cond9 i k0_t4 = 1#1), ∀ a x, ((![v83, v1298] : Fin 2 → IVec S16 32) a x).toNat < S160x240.size a := fun i k0_t4 v83 v1298 k0_hw1127 k0_h9 => k0_hw1127 k0_h9

def k0_chk1128 (i : grid0.Coords) (k0_t4 : Fin (k0_t4_loop i).trips) (v83 : IVec S16 32) (v1275 : IVec S16 32) : Prop :=
  (∀ (k0_h9 : k0_cond9 i k0_t4 = 1#1), ∀ a x, ((![v1275] : Fin 1 → IVec S16 32) a x).toNat < S48.size a) ∧
  (∀ (k0_h9 : k0_cond9 i k0_t4 = 1#1), ∀ a x, ((![v83, v1275] : Fin 2 → IVec S16 32) a x).toNat < S160x48.size a)
theorem k0_idx1316_inb : ∀ (i : grid0.Coords) (k0_t4 : Fin (k0_t4_loop i).trips) (v83 : IVec S16 32) (v1275 : IVec S16 32) (k0_hw1128 : k0_chk1128 i k0_t4 v83 v1275), ∀ (k0_h9 : k0_cond9 i k0_t4 = 1#1), ∀ a x, ((![v1275] : Fin 1 → IVec S16 32) a x).toNat < S48.size a := fun i k0_t4 v83 v1275 k0_hw1128 k0_h9 => k0_hw1128.1 k0_h9
theorem k0_idx1317_inb : ∀ (i : grid0.Coords) (k0_t4 : Fin (k0_t4_loop i).trips) (v83 : IVec S16 32) (v1275 : IVec S16 32) (k0_hw1128 : k0_chk1128 i k0_t4 v83 v1275), ∀ (k0_h9 : k0_cond9 i k0_t4 = 1#1), ∀ a x, ((![v83, v1275] : Fin 2 → IVec S16 32) a x).toNat < S160x48.size a := fun i k0_t4 v83 v1275 k0_hw1128 k0_h9 => k0_hw1128.2 k0_h9

def k0_chk1129 (i : grid0.Coords) (k0_t4 : Fin (k0_t4_loop i).trips) (v83 : IVec S16 32) (v1302 : IVec S16 32) : Prop :=
  (∀ (k0_h9 : k0_cond9 i k0_t4 = 1#1), ∀ a x, ((![v83, v1302] : Fin 2 → IVec S16 32) a x).toNat < S160x240.size a)
theorem k0_idx1318_inb : ∀ (i : grid0.Coords) (k0_t4 : Fin (k0_t4_loop i).trips) (v83 : IVec S16 32) (v1302 : IVec S16 32) (k0_hw1129 : k0_chk1129 i k0_t4 v83 v1302), ∀ (k0_h9 : k0_cond9 i k0_t4 = 1#1), ∀ a x, ((![v83, v1302] : Fin 2 → IVec S16 32) a x).toNat < S160x240.size a := fun i k0_t4 v83 v1302 k0_hw1129 k0_h9 => k0_hw1129 k0_h9

def k0_chk1130 (i : grid0.Coords) (k0_t4 : Fin (k0_t4_loop i).trips) (v83 : IVec S16 32) (v1316 : IVec S16 32) : Prop :=
  (∀ (k0_h9 : k0_cond9 i k0_t4 = 1#1), ∀ a x, ((![v83, v1316] : Fin 2 → IVec S16 32) a x).toNat < S160x240.size a)
theorem k0_idx1319_inb : ∀ (i : grid0.Coords) (k0_t4 : Fin (k0_t4_loop i).trips) (v83 : IVec S16 32) (v1316 : IVec S16 32) (k0_hw1130 : k0_chk1130 i k0_t4 v83 v1316), ∀ (k0_h9 : k0_cond9 i k0_t4 = 1#1), ∀ a x, ((![v83, v1316] : Fin 2 → IVec S16 32) a x).toNat < S160x240.size a := fun i k0_t4 v83 v1316 k0_hw1130 k0_h9 => k0_hw1130 k0_h9

def k0_chk1131 (i : grid0.Coords) (k0_t4 : Fin (k0_t4_loop i).trips) (v83 : IVec S16 32) (v1320 : IVec S16 32) : Prop :=
  (∀ (k0_h9 : k0_cond9 i k0_t4 = 1#1), ∀ a x, ((![v83, v1320] : Fin 2 → IVec S16 32) a x).toNat < S160x240.size a)
theorem k0_idx1320_inb : ∀ (i : grid0.Coords) (k0_t4 : Fin (k0_t4_loop i).trips) (v83 : IVec S16 32) (v1320 : IVec S16 32) (k0_hw1131 : k0_chk1131 i k0_t4 v83 v1320), ∀ (k0_h9 : k0_cond9 i k0_t4 = 1#1), ∀ a x, ((![v83, v1320] : Fin 2 → IVec S16 32) a x).toNat < S160x240.size a := fun i k0_t4 v83 v1320 k0_hw1131 k0_h9 => k0_hw1131 k0_h9

def k0_chk1132 (i : grid0.Coords) (k0_t4 : Fin (k0_t4_loop i).trips) (v83 : IVec S16 32) (v1324 : IVec S16 32) : Prop :=
  (∀ (k0_h9 : k0_cond9 i k0_t4 = 1#1), ∀ a x, ((![v83, v1324] : Fin 2 → IVec S16 32) a x).toNat < S160x240.size a)
theorem k0_idx1321_inb : ∀ (i : grid0.Coords) (k0_t4 : Fin (k0_t4_loop i).trips) (v83 : IVec S16 32) (v1324 : IVec S16 32) (k0_hw1132 : k0_chk1132 i k0_t4 v83 v1324), ∀ (k0_h9 : k0_cond9 i k0_t4 = 1#1), ∀ a x, ((![v83, v1324] : Fin 2 → IVec S16 32) a x).toNat < S160x240.size a := fun i k0_t4 v83 v1324 k0_hw1132 k0_h9 => k0_hw1132 k0_h9

def k0_chk1133 (i : grid0.Coords) (k0_t4 : Fin (k0_t4_loop i).trips) (v83 : IVec S16 32) (v1328 : IVec S16 32) : Prop :=
  (∀ (k0_h9 : k0_cond9 i k0_t4 = 1#1), ∀ a x, ((![v83, v1328] : Fin 2 → IVec S16 32) a x).toNat < S160x240.size a)
theorem k0_idx1322_inb : ∀ (i : grid0.Coords) (k0_t4 : Fin (k0_t4_loop i).trips) (v83 : IVec S16 32) (v1328 : IVec S16 32) (k0_hw1133 : k0_chk1133 i k0_t4 v83 v1328), ∀ (k0_h9 : k0_cond9 i k0_t4 = 1#1), ∀ a x, ((![v83, v1328] : Fin 2 → IVec S16 32) a x).toNat < S160x240.size a := fun i k0_t4 v83 v1328 k0_hw1133 k0_h9 => k0_hw1133 k0_h9

def k0_chk1134 (i : grid0.Coords) (k0_t4 : Fin (k0_t4_loop i).trips) (v83 : IVec S16 32) (v1332 : IVec S16 32) : Prop :=
  (∀ (k0_h9 : k0_cond9 i k0_t4 = 1#1), ∀ a x, ((![v83, v1332] : Fin 2 → IVec S16 32) a x).toNat < S160x240.size a)
theorem k0_idx1323_inb : ∀ (i : grid0.Coords) (k0_t4 : Fin (k0_t4_loop i).trips) (v83 : IVec S16 32) (v1332 : IVec S16 32) (k0_hw1134 : k0_chk1134 i k0_t4 v83 v1332), ∀ (k0_h9 : k0_cond9 i k0_t4 = 1#1), ∀ a x, ((![v83, v1332] : Fin 2 → IVec S16 32) a x).toNat < S160x240.size a := fun i k0_t4 v83 v1332 k0_hw1134 k0_h9 => k0_hw1134 k0_h9

def k0_chk1135 (i : grid0.Coords) (k0_t4 : Fin (k0_t4_loop i).trips) (v83 : IVec S16 32) (v1336 : IVec S16 32) : Prop :=
  (∀ (k0_h9 : k0_cond9 i k0_t4 = 1#1), ∀ a x, ((![v83, v1336] : Fin 2 → IVec S16 32) a x).toNat < S160x240.size a)
theorem k0_idx1324_inb : ∀ (i : grid0.Coords) (k0_t4 : Fin (k0_t4_loop i).trips) (v83 : IVec S16 32) (v1336 : IVec S16 32) (k0_hw1135 : k0_chk1135 i k0_t4 v83 v1336), ∀ (k0_h9 : k0_cond9 i k0_t4 = 1#1), ∀ a x, ((![v83, v1336] : Fin 2 → IVec S16 32) a x).toNat < S160x240.size a := fun i k0_t4 v83 v1336 k0_hw1135 k0_h9 => k0_hw1135 k0_h9

def k0_chk1136 (i : grid0.Coords) (k0_t4 : Fin (k0_t4_loop i).trips) (v83 : IVec S16 32) (v1313 : IVec S16 32) : Prop :=
  (∀ (k0_h9 : k0_cond9 i k0_t4 = 1#1), ∀ a x, ((![v1313] : Fin 1 → IVec S16 32) a x).toNat < S48.size a) ∧
  (∀ (k0_h9 : k0_cond9 i k0_t4 = 1#1), ∀ a x, ((![v83, v1313] : Fin 2 → IVec S16 32) a x).toNat < S160x48.size a)
theorem k0_idx1325_inb : ∀ (i : grid0.Coords) (k0_t4 : Fin (k0_t4_loop i).trips) (v83 : IVec S16 32) (v1313 : IVec S16 32) (k0_hw1136 : k0_chk1136 i k0_t4 v83 v1313), ∀ (k0_h9 : k0_cond9 i k0_t4 = 1#1), ∀ a x, ((![v1313] : Fin 1 → IVec S16 32) a x).toNat < S48.size a := fun i k0_t4 v83 v1313 k0_hw1136 k0_h9 => k0_hw1136.1 k0_h9
theorem k0_idx1326_inb : ∀ (i : grid0.Coords) (k0_t4 : Fin (k0_t4_loop i).trips) (v83 : IVec S16 32) (v1313 : IVec S16 32) (k0_hw1136 : k0_chk1136 i k0_t4 v83 v1313), ∀ (k0_h9 : k0_cond9 i k0_t4 = 1#1), ∀ a x, ((![v83, v1313] : Fin 2 → IVec S16 32) a x).toNat < S160x48.size a := fun i k0_t4 v83 v1313 k0_hw1136 k0_h9 => k0_hw1136.2 k0_h9

def k0_chk1137 (i : grid0.Coords) (k0_t4 : Fin (k0_t4_loop i).trips) (v83 : IVec S16 32) (v1340 : IVec S16 32) : Prop :=
  (∀ (k0_h9 : k0_cond9 i k0_t4 = 1#1), ∀ a x, ((![v83, v1340] : Fin 2 → IVec S16 32) a x).toNat < S160x240.size a)
theorem k0_idx1327_inb : ∀ (i : grid0.Coords) (k0_t4 : Fin (k0_t4_loop i).trips) (v83 : IVec S16 32) (v1340 : IVec S16 32) (k0_hw1137 : k0_chk1137 i k0_t4 v83 v1340), ∀ (k0_h9 : k0_cond9 i k0_t4 = 1#1), ∀ a x, ((![v83, v1340] : Fin 2 → IVec S16 32) a x).toNat < S160x240.size a := fun i k0_t4 v83 v1340 k0_hw1137 k0_h9 => k0_hw1137 k0_h9

def k0_chk1138 (i : grid0.Coords) (k0_t4 : Fin (k0_t4_loop i).trips) (v83 : IVec S16 32) (v1354 : IVec S16 32) : Prop :=
  (∀ (k0_h9 : k0_cond9 i k0_t4 = 1#1), ∀ a x, ((![v83, v1354] : Fin 2 → IVec S16 32) a x).toNat < S160x240.size a)
theorem k0_idx1328_inb : ∀ (i : grid0.Coords) (k0_t4 : Fin (k0_t4_loop i).trips) (v83 : IVec S16 32) (v1354 : IVec S16 32) (k0_hw1138 : k0_chk1138 i k0_t4 v83 v1354), ∀ (k0_h9 : k0_cond9 i k0_t4 = 1#1), ∀ a x, ((![v83, v1354] : Fin 2 → IVec S16 32) a x).toNat < S160x240.size a := fun i k0_t4 v83 v1354 k0_hw1138 k0_h9 => k0_hw1138 k0_h9

def k0_chk1139 (i : grid0.Coords) (k0_t4 : Fin (k0_t4_loop i).trips) (v83 : IVec S16 32) (v1358 : IVec S16 32) : Prop :=
  (∀ (k0_h9 : k0_cond9 i k0_t4 = 1#1), ∀ a x, ((![v83, v1358] : Fin 2 → IVec S16 32) a x).toNat < S160x240.size a)
theorem k0_idx1329_inb : ∀ (i : grid0.Coords) (k0_t4 : Fin (k0_t4_loop i).trips) (v83 : IVec S16 32) (v1358 : IVec S16 32) (k0_hw1139 : k0_chk1139 i k0_t4 v83 v1358), ∀ (k0_h9 : k0_cond9 i k0_t4 = 1#1), ∀ a x, ((![v83, v1358] : Fin 2 → IVec S16 32) a x).toNat < S160x240.size a := fun i k0_t4 v83 v1358 k0_hw1139 k0_h9 => k0_hw1139 k0_h9

def k0_chk1140 (i : grid0.Coords) (k0_t4 : Fin (k0_t4_loop i).trips) (v83 : IVec S16 32) (v1362 : IVec S16 32) : Prop :=
  (∀ (k0_h9 : k0_cond9 i k0_t4 = 1#1), ∀ a x, ((![v83, v1362] : Fin 2 → IVec S16 32) a x).toNat < S160x240.size a)
theorem k0_idx1330_inb : ∀ (i : grid0.Coords) (k0_t4 : Fin (k0_t4_loop i).trips) (v83 : IVec S16 32) (v1362 : IVec S16 32) (k0_hw1140 : k0_chk1140 i k0_t4 v83 v1362), ∀ (k0_h9 : k0_cond9 i k0_t4 = 1#1), ∀ a x, ((![v83, v1362] : Fin 2 → IVec S16 32) a x).toNat < S160x240.size a := fun i k0_t4 v83 v1362 k0_hw1140 k0_h9 => k0_hw1140 k0_h9

def k0_chk1141 (i : grid0.Coords) (k0_t4 : Fin (k0_t4_loop i).trips) (v83 : IVec S16 32) (v1366 : IVec S16 32) : Prop :=
  (∀ (k0_h9 : k0_cond9 i k0_t4 = 1#1), ∀ a x, ((![v83, v1366] : Fin 2 → IVec S16 32) a x).toNat < S160x240.size a)
theorem k0_idx1331_inb : ∀ (i : grid0.Coords) (k0_t4 : Fin (k0_t4_loop i).trips) (v83 : IVec S16 32) (v1366 : IVec S16 32) (k0_hw1141 : k0_chk1141 i k0_t4 v83 v1366), ∀ (k0_h9 : k0_cond9 i k0_t4 = 1#1), ∀ a x, ((![v83, v1366] : Fin 2 → IVec S16 32) a x).toNat < S160x240.size a := fun i k0_t4 v83 v1366 k0_hw1141 k0_h9 => k0_hw1141 k0_h9

def k0_chk1142 (i : grid0.Coords) (k0_t4 : Fin (k0_t4_loop i).trips) (v83 : IVec S16 32) (v1370 : IVec S16 32) : Prop :=
  (∀ (k0_h9 : k0_cond9 i k0_t4 = 1#1), ∀ a x, ((![v83, v1370] : Fin 2 → IVec S16 32) a x).toNat < S160x240.size a)
theorem k0_idx1332_inb : ∀ (i : grid0.Coords) (k0_t4 : Fin (k0_t4_loop i).trips) (v83 : IVec S16 32) (v1370 : IVec S16 32) (k0_hw1142 : k0_chk1142 i k0_t4 v83 v1370), ∀ (k0_h9 : k0_cond9 i k0_t4 = 1#1), ∀ a x, ((![v83, v1370] : Fin 2 → IVec S16 32) a x).toNat < S160x240.size a := fun i k0_t4 v83 v1370 k0_hw1142 k0_h9 => k0_hw1142 k0_h9

def k0_chk1143 (i : grid0.Coords) (k0_t4 : Fin (k0_t4_loop i).trips) (v83 : IVec S16 32) (v1374 : IVec S16 32) : Prop :=
  (∀ (k0_h9 : k0_cond9 i k0_t4 = 1#1), ∀ a x, ((![v83, v1374] : Fin 2 → IVec S16 32) a x).toNat < S160x240.size a)
theorem k0_idx1333_inb : ∀ (i : grid0.Coords) (k0_t4 : Fin (k0_t4_loop i).trips) (v83 : IVec S16 32) (v1374 : IVec S16 32) (k0_hw1143 : k0_chk1143 i k0_t4 v83 v1374), ∀ (k0_h9 : k0_cond9 i k0_t4 = 1#1), ∀ a x, ((![v83, v1374] : Fin 2 → IVec S16 32) a x).toNat < S160x240.size a := fun i k0_t4 v83 v1374 k0_hw1143 k0_h9 => k0_hw1143 k0_h9

def k0_chk1144 (i : grid0.Coords) (k0_t4 : Fin (k0_t4_loop i).trips) (v83 : IVec S16 32) (v1351 : IVec S16 32) : Prop :=
  (∀ (k0_h9 : k0_cond9 i k0_t4 = 1#1), ∀ a x, ((![v1351] : Fin 1 → IVec S16 32) a x).toNat < S48.size a) ∧
  (∀ (k0_h9 : k0_cond9 i k0_t4 = 1#1), ∀ a x, ((![v83, v1351] : Fin 2 → IVec S16 32) a x).toNat < S160x48.size a)
theorem k0_idx1334_inb : ∀ (i : grid0.Coords) (k0_t4 : Fin (k0_t4_loop i).trips) (v83 : IVec S16 32) (v1351 : IVec S16 32) (k0_hw1144 : k0_chk1144 i k0_t4 v83 v1351), ∀ (k0_h9 : k0_cond9 i k0_t4 = 1#1), ∀ a x, ((![v1351] : Fin 1 → IVec S16 32) a x).toNat < S48.size a := fun i k0_t4 v83 v1351 k0_hw1144 k0_h9 => k0_hw1144.1 k0_h9
theorem k0_idx1335_inb : ∀ (i : grid0.Coords) (k0_t4 : Fin (k0_t4_loop i).trips) (v83 : IVec S16 32) (v1351 : IVec S16 32) (k0_hw1144 : k0_chk1144 i k0_t4 v83 v1351), ∀ (k0_h9 : k0_cond9 i k0_t4 = 1#1), ∀ a x, ((![v83, v1351] : Fin 2 → IVec S16 32) a x).toNat < S160x48.size a := fun i k0_t4 v83 v1351 k0_hw1144 k0_h9 => k0_hw1144.2 k0_h9

def k0_chk1145 (i : grid0.Coords) (k0_t4 : Fin (k0_t4_loop i).trips) (v83 : IVec S16 32) (v1378 : IVec S16 32) : Prop :=
  (∀ (k0_h9 : k0_cond9 i k0_t4 = 1#1), ∀ a x, ((![v83, v1378] : Fin 2 → IVec S16 32) a x).toNat < S160x240.size a)
theorem k0_idx1336_inb : ∀ (i : grid0.Coords) (k0_t4 : Fin (k0_t4_loop i).trips) (v83 : IVec S16 32) (v1378 : IVec S16 32) (k0_hw1145 : k0_chk1145 i k0_t4 v83 v1378), ∀ (k0_h9 : k0_cond9 i k0_t4 = 1#1), ∀ a x, ((![v83, v1378] : Fin 2 → IVec S16 32) a x).toNat < S160x240.size a := fun i k0_t4 v83 v1378 k0_hw1145 k0_h9 => k0_hw1145 k0_h9

def k0_chk1146 (i : grid0.Coords) (k0_t4 : Fin (k0_t4_loop i).trips) (v83 : IVec S16 32) (v1392 : IVec S16 32) : Prop :=
  (∀ (k0_h9 : k0_cond9 i k0_t4 = 1#1), ∀ a x, ((![v83, v1392] : Fin 2 → IVec S16 32) a x).toNat < S160x240.size a)
theorem k0_idx1337_inb : ∀ (i : grid0.Coords) (k0_t4 : Fin (k0_t4_loop i).trips) (v83 : IVec S16 32) (v1392 : IVec S16 32) (k0_hw1146 : k0_chk1146 i k0_t4 v83 v1392), ∀ (k0_h9 : k0_cond9 i k0_t4 = 1#1), ∀ a x, ((![v83, v1392] : Fin 2 → IVec S16 32) a x).toNat < S160x240.size a := fun i k0_t4 v83 v1392 k0_hw1146 k0_h9 => k0_hw1146 k0_h9

def k0_chk1147 (i : grid0.Coords) (k0_t4 : Fin (k0_t4_loop i).trips) (v83 : IVec S16 32) (v1396 : IVec S16 32) : Prop :=
  (∀ (k0_h9 : k0_cond9 i k0_t4 = 1#1), ∀ a x, ((![v83, v1396] : Fin 2 → IVec S16 32) a x).toNat < S160x240.size a)
theorem k0_idx1338_inb : ∀ (i : grid0.Coords) (k0_t4 : Fin (k0_t4_loop i).trips) (v83 : IVec S16 32) (v1396 : IVec S16 32) (k0_hw1147 : k0_chk1147 i k0_t4 v83 v1396), ∀ (k0_h9 : k0_cond9 i k0_t4 = 1#1), ∀ a x, ((![v83, v1396] : Fin 2 → IVec S16 32) a x).toNat < S160x240.size a := fun i k0_t4 v83 v1396 k0_hw1147 k0_h9 => k0_hw1147 k0_h9

def k0_chk1148 (i : grid0.Coords) (k0_t4 : Fin (k0_t4_loop i).trips) (v83 : IVec S16 32) (v1400 : IVec S16 32) : Prop :=
  (∀ (k0_h9 : k0_cond9 i k0_t4 = 1#1), ∀ a x, ((![v83, v1400] : Fin 2 → IVec S16 32) a x).toNat < S160x240.size a)
theorem k0_idx1339_inb : ∀ (i : grid0.Coords) (k0_t4 : Fin (k0_t4_loop i).trips) (v83 : IVec S16 32) (v1400 : IVec S16 32) (k0_hw1148 : k0_chk1148 i k0_t4 v83 v1400), ∀ (k0_h9 : k0_cond9 i k0_t4 = 1#1), ∀ a x, ((![v83, v1400] : Fin 2 → IVec S16 32) a x).toNat < S160x240.size a := fun i k0_t4 v83 v1400 k0_hw1148 k0_h9 => k0_hw1148 k0_h9

def k0_chk1149 (i : grid0.Coords) (k0_t4 : Fin (k0_t4_loop i).trips) (v83 : IVec S16 32) (v1404 : IVec S16 32) : Prop :=
  (∀ (k0_h9 : k0_cond9 i k0_t4 = 1#1), ∀ a x, ((![v83, v1404] : Fin 2 → IVec S16 32) a x).toNat < S160x240.size a)
theorem k0_idx1340_inb : ∀ (i : grid0.Coords) (k0_t4 : Fin (k0_t4_loop i).trips) (v83 : IVec S16 32) (v1404 : IVec S16 32) (k0_hw1149 : k0_chk1149 i k0_t4 v83 v1404), ∀ (k0_h9 : k0_cond9 i k0_t4 = 1#1), ∀ a x, ((![v83, v1404] : Fin 2 → IVec S16 32) a x).toNat < S160x240.size a := fun i k0_t4 v83 v1404 k0_hw1149 k0_h9 => k0_hw1149 k0_h9

def k0_chk1150 (i : grid0.Coords) (k0_t4 : Fin (k0_t4_loop i).trips) (v83 : IVec S16 32) (v1408 : IVec S16 32) : Prop :=
  (∀ (k0_h9 : k0_cond9 i k0_t4 = 1#1), ∀ a x, ((![v83, v1408] : Fin 2 → IVec S16 32) a x).toNat < S160x240.size a)
theorem k0_idx1341_inb : ∀ (i : grid0.Coords) (k0_t4 : Fin (k0_t4_loop i).trips) (v83 : IVec S16 32) (v1408 : IVec S16 32) (k0_hw1150 : k0_chk1150 i k0_t4 v83 v1408), ∀ (k0_h9 : k0_cond9 i k0_t4 = 1#1), ∀ a x, ((![v83, v1408] : Fin 2 → IVec S16 32) a x).toNat < S160x240.size a := fun i k0_t4 v83 v1408 k0_hw1150 k0_h9 => k0_hw1150 k0_h9

def k0_chk1151 (i : grid0.Coords) (k0_t4 : Fin (k0_t4_loop i).trips) (v83 : IVec S16 32) (v1412 : IVec S16 32) : Prop :=
  (∀ (k0_h9 : k0_cond9 i k0_t4 = 1#1), ∀ a x, ((![v83, v1412] : Fin 2 → IVec S16 32) a x).toNat < S160x240.size a)
theorem k0_idx1342_inb : ∀ (i : grid0.Coords) (k0_t4 : Fin (k0_t4_loop i).trips) (v83 : IVec S16 32) (v1412 : IVec S16 32) (k0_hw1151 : k0_chk1151 i k0_t4 v83 v1412), ∀ (k0_h9 : k0_cond9 i k0_t4 = 1#1), ∀ a x, ((![v83, v1412] : Fin 2 → IVec S16 32) a x).toNat < S160x240.size a := fun i k0_t4 v83 v1412 k0_hw1151 k0_h9 => k0_hw1151 k0_h9

def k0_chk1152 (i : grid0.Coords) (k0_t4 : Fin (k0_t4_loop i).trips) (v83 : IVec S16 32) (v1389 : IVec S16 32) : Prop :=
  (∀ (k0_h9 : k0_cond9 i k0_t4 = 1#1), ∀ a x, ((![v1389] : Fin 1 → IVec S16 32) a x).toNat < S48.size a) ∧
  (∀ (k0_h9 : k0_cond9 i k0_t4 = 1#1), ∀ a x, ((![v83, v1389] : Fin 2 → IVec S16 32) a x).toNat < S160x48.size a)
theorem k0_idx1343_inb : ∀ (i : grid0.Coords) (k0_t4 : Fin (k0_t4_loop i).trips) (v83 : IVec S16 32) (v1389 : IVec S16 32) (k0_hw1152 : k0_chk1152 i k0_t4 v83 v1389), ∀ (k0_h9 : k0_cond9 i k0_t4 = 1#1), ∀ a x, ((![v1389] : Fin 1 → IVec S16 32) a x).toNat < S48.size a := fun i k0_t4 v83 v1389 k0_hw1152 k0_h9 => k0_hw1152.1 k0_h9
theorem k0_idx1344_inb : ∀ (i : grid0.Coords) (k0_t4 : Fin (k0_t4_loop i).trips) (v83 : IVec S16 32) (v1389 : IVec S16 32) (k0_hw1152 : k0_chk1152 i k0_t4 v83 v1389), ∀ (k0_h9 : k0_cond9 i k0_t4 = 1#1), ∀ a x, ((![v83, v1389] : Fin 2 → IVec S16 32) a x).toNat < S160x48.size a := fun i k0_t4 v83 v1389 k0_hw1152 k0_h9 => k0_hw1152.2 k0_h9
def k0_off13 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c60_i32 : BitVec 32 := 60#32
  let v2 : BitVec 32 := Scalar.subi c60_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_8 : BitVec 32 := 1#32
  let v26 : BitVec 32 := Scalar.addi v21 c1_i32_8
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32_9 : BitVec 32 := 2#32
  let c0_i32_12 : BitVec 32 := 0#32
  let v33 : BitVec 1 := Scalar.cmpi .sgt c2_i32_9 c0_i32_12
  let v34 : BitVec 32 := Scalar.extui v33
  let c0_i32_13 : BitVec 32 := 0#32
  let v35 : BitVec 1 := Scalar.cmpi .slt c2_i32_9 c0_i32_13
  let v36 : BitVec 32 := Scalar.extui v35
  let v37 : BitVec 32 := Scalar.subi v34 v36
  let v38 : BitVec 1 := Scalar.cmpi .ne v32 v37
  let v39 : BitVec 32 := Scalar.remsi v26 c2_i32_9
  let c0_i32_14 : BitVec 32 := 0#32
  let v40 : BitVec 1 := Scalar.cmpi .ne v39 c0_i32_14
  let v41 : BitVec 1 := Scalar.andi v38 v40
  let v27 : BitVec 32 := Scalar.divsi v26 c2_i32_9
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t4
  let c2_i32_26 : BitVec 32 := 2#32
  let v58 : BitVec 32 := Scalar.muli arg12 c2_i32_26
  let c1_i32_27 : BitVec 32 := 1#32
  let v59 : BitVec 32 := Scalar.addi v58 c1_i32_27
  let c32_i32_38 : BitVec 32 := 32#32
  let v74 : BitVec 32 := Scalar.muli v59 c32_i32_38
  let v75 : BitVec 32 := Scalar.addi v1 v74
  let c160_i32_39 : BitVec 32 := 160#32
  let v76 : BitVec 32 := Scalar.muli v75 c160_i32_39
  let c0_i32_40 : BitVec 32 := 0#32
  ![v76.toNat, 0]
abbrev grid1 : Pipeline.Grid := ⟨1, ![113], ![false]⟩

def cc1_transform_0 (i : grid1.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

abbrev stage1_0 : Fin 2 → Memref sig .tc .vmem S800x240 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S240x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S800x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x240 : Shape := ⟨2, ![100000, 240]⟩
abbrev S240 : Shape := ⟨1, ![240]⟩
abbrev S1x240 : Shape := ⟨2, ![1, 240]⟩
abbrev S24000000 : Shape := ⟨1, ![24000000]⟩
abbrev S100000 : Shape := ⟨1, ![100000]⟩
abbrev S_ : Shape := ⟨0, ![]⟩
abbrev S4800000 : Shape := ⟨1, ![4800000]⟩
abbrev S24000000x1 : Shape := ⟨2, ![24000000, 1]⟩
abbrev S100000x48 : Shape := ⟨2, ![100000, 48]⟩

abbrev nBuf : Space → Nat
  | .hbm => 23
  | .vmem => 0
  | .smem => 0
  | _ => 0

abbrev bufTy : (tb : Table) → Fin (tcTables nBuf tb) → BufTy
  | .hbm, ⟨0, _⟩ => ⟨S100000x240, .f32⟩
  | .hbm, ⟨1, _⟩ => ⟨S240, .f32⟩
  | .hbm, ⟨2, _⟩ => ⟨S240, .i32⟩
  | .hbm, ⟨3, _⟩ => ⟨S100000x240, .f32⟩
  | .hbm, ⟨4, _⟩ => ⟨S1x240, .f32⟩
  | .hbm, ⟨5, _⟩ => ⟨S100000x240, .f32⟩
  | .hbm, ⟨6, _⟩ => ⟨S100000x240, .f32⟩
  | .hbm, ⟨7, _⟩ => ⟨S24000000, .f32⟩
  | .hbm, ⟨8, _⟩ => ⟨S100000, .i32⟩
  | .hbm, ⟨9, _⟩ => ⟨S100000x240, .i32⟩
  | .hbm, ⟨10, _⟩ => ⟨S24000000, .i32⟩
  | .hbm, ⟨11, _⟩ => ⟨S1x240, .i32⟩
  | .hbm, ⟨12, _⟩ => ⟨S100000x240, .i32⟩
  | .hbm, ⟨13, _⟩ => ⟨S24000000, .i32⟩
  | .hbm, ⟨14, _⟩ => ⟨S_, .i32⟩
  | .hbm, ⟨15, _⟩ => ⟨S24000000, .i32⟩
  | .hbm, ⟨16, _⟩ => ⟨S24000000, .i32⟩
  | .hbm, ⟨17, _⟩ => ⟨S24000000, .i32⟩
  | .hbm, ⟨18, _⟩ => ⟨S_, .f32⟩
  | .hbm, ⟨19, _⟩ => ⟨S4800000, .f32⟩
  | .hbm, ⟨20, _⟩ => ⟨S24000000x1, .i32⟩
  | .hbm, ⟨21, _⟩ => ⟨S4800000, .f32⟩
  | .hbm, ⟨22, _⟩ => ⟨S100000x48, .f32⟩
  | _, _ => ⟨S100000x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Proof.Group.lean ====
module

public import proofs.«01_k».proof.Proof.Gen.KernelIdeal.Skeleton

@[expose] public section

noncomputable section

namespace Cert.KernelIdeal.Seg

open Idealize.ShloMosaic Idealize.ShloMosaic.TcCoe Idealize.SL.Sem
open Cert.KernelIdeal.Gen

variable {F : FTy → Type} [FloatOps F]

/-! ## The sum of a segment's squares, in the tree the kernel adds them in -/

/-- One level of the tree: neighbours added in pairs, a last one left over carried up. -/
def pairs {α : Type} (op : α → α → α) : List α → List α
  | a :: b :: l => op a b :: pairs op l
  | [a] => [a]
  | [] => []

/-- The sum of at most eight terms, pair by pair. -/
def tsum {α : Type} (op : α → α → α) (z : α) (l : List α) : α := (pairs op (pairs op (pairs op l))).headD z

/-! ## One group of sixteen rows, as a recursion over the segments' widths -/

/-- What tile `i` runs. -/
abbrev TP (F : FTy → Type) (i : grid0.Coords) : Type 1 :=
  Prog (TpuEff nD τ sig (Elt F) Λ₀ (.scVector ((i 0).castLE hcore0) ((i 1).castLE hsub0))) PUnit

/-- Row `r`, column `v` lies in the block of `x`, whenever the branch `b` is taken. -/
def okX (b : BitVec 1) (r v : IVec S16 32) : Prop :=
  (∀ (_ : b = 1#1), ∀ a x, ((![r, v] : Fin 2 → IVec S16 32) a x).toNat < S160x240.size a)

instance okX.dec (b : BitVec 1) (r v : IVec S16 32) : Decidable (okX b r v) := decidable_of_iff' _ (Iff.of_eq (okX.eq_1 b r v))

/-- Segment `n` lies in the weights, and row `r`, segment `n` in the block of the result. -/
def okS (b : BitVec 1) (r n : IVec S16 32) : Prop :=
  (∀ (_ : b = 1#1), ∀ a x, ((![n] : Fin 1 → IVec S16 32) a x).toNat < S48.size a) ∧
  (∀ (_ : b = 1#1), ∀ a x, ((![r, n] : Fin 2 → IVec S16 32) a x).toNat < S160x48.size a)

instance okS.dec (b : BitVec 1) (r n : IVec S16 32) : Decidable (okS b r n) := decidable_of_iff' _ (Iff.of_eq (okS.eq_1 b r n))

/-- The first column and segment of a row. -/
def okZ (b : BitVec 1) (z r : IVec S16 32) : Prop :=
  (∀ (_ : b = 1#1), ∀ a x, ((![r, z] : Fin 2 → IVec S16 32) a x).toNat < S160x240.size a) ∧
  (∀ (_ : b = 1#1), ∀ a x, ((![r, z] : Fin 2 → IVec S16 32) a x).toNat < S160x48.size a)

instance okZ.dec (b : BitVec 1) (z r : IVec S16 32) : Decidable (okZ b z r) := decidable_of_iff' _ (Iff.of_eq (okZ.eq_1 b z r))

section Prog

variable {i : grid0.Coords} (b : BitVec 1) (hb : b = 1#1)
variable (xb : Memref sig .scVector .vmem S160x240 .f32) (ob : Memref sig .scVector .vmem S160x48 .f32)
variable (cb : Memref sig .scVector .vmem S48 .f32) (r : IVec S16 32)

/-- Assume `P`, then go on with it. -/
def ask (P : Prop) (d : Decidable P) (k : P → TP F i) : TP F i := Prog.lift (TpuEff.assume P d) >>= fun h => k h.down

/-- The next column or segment. -/
abbrev next (v : IVec S16 32) : IVec S16 32 := addi v (broadcast S16 1#32)

/-- The squares of `w` further columns from `v` on, appended to `sq`. -/
def squares : (w : ℕ) → (v : IVec S16 32) → okX b r v → (sq : List (FVec F S16 .f32)) →
    ((v : IVec S16 32) → okX b r v → List (FVec F S16 .f32) → TP F i) → TP F i
  | 0, v, hv, sq, k => k v hv sq
  | w + 1, v, hv, sq, k =>
    SparseCore.vectorLoadIdx xb ![r, v] (hv hb) (View.loads_vmem h_S160x240) >>= fun x =>
      ask (okX b r (next v)) (okX.dec b r (next v)) fun hv' => squares w (next v) hv' (sq ++ [mulf x x]) k

/-- The rest of a group: the segment of width `w + 1` at column `v`, number `n`, then the segments of widths `ws`
    (each less one). The last column of a segment is read ahead of the check of the column after it. -/
def segs : (ws : List ℕ) → (w : ℕ) → (v : IVec S16 32) → okX b r v → (n : IVec S16 32) → okS b r n → TP F i
  | [], w, v, hv, n, hn =>
    squares b hb xb r w v hv [] fun v hv sq =>
      SparseCore.vectorLoadIdx xb ![r, v] (hv hb) (View.loads_vmem h_S160x240) >>= fun x =>
        SparseCore.vectorLoadIdx cb ![n] (hn.1 hb) (View.loads_vmem h_S48) >>= fun c =>
          SparseCore.vectorStoreIdx ob ![r, n] (mulf (tsum addf x (sq ++ [mulf x x])) c) (fun _ => 1#1) false (hn.2 hb)
            (View.stores_vmem_bits_univ h_S160x48 rfl) >>= fun _ => pure ⟨⟩
  | w' :: ws, w, v, hv, n, hn =>
    squares b hb xb r w v hv [] fun v hv sq =>
      SparseCore.vectorLoadIdx xb ![r, v] (hv hb) (View.loads_vmem h_S160x240) >>= fun x =>
        ask (okX b r (next v)) (okX.dec b r (next v)) fun hv' =>
          SparseCore.vectorLoadIdx cb ![n] (hn.1 hb) (View.loads_vmem h_S48) >>= fun c =>
            SparseCore.vectorStoreIdx ob ![r, n] (mulf (tsum addf x (sq ++ [mulf x x])) c) (fun _ => 1#1) false (hn.2 hb)
              (View.stores_vmem_bits_univ h_S160x48 rfl) >>= fun _ =>
              ask (okS b r (next n)) (okS.dec b r (next n)) fun hn' => segs ws w' (next v) hv' (next n) hn'

/-- The segments' widths, less one, in order. -/
def widths : List ℕ := List.replicate 15 2 ++ List.replicate 16 4 ++ List.replicate 16 6

/-- Group `t` of sixteen rows of a block. -/
def group (v22 z : IVec S16 32) (hz : ∀ (_ : b = 1#1), ∀ a x, ((![z] : Fin 1 → IVec S16 32) a x).toNat < S48.size a) (t : ℕ) : TP F i :=
  let r : IVec S16 32 := addi v22 (broadcast S16 (Scalar.muli (Scf.iv 0#32 1#32 t) 16#32))
  ask (okZ b z r) (okZ.dec b z r) fun h => segs b hb xb ob cb r widths 2 z h.1 z ⟨hz, h.2⟩

end Prog

end Cert.KernelIdeal.Seg

end
-- ==== Proof.GroupEq.lean ====
module

public import proofs.«01_k».proof.Proof.Group

@[expose] public section

noncomputable section

namespace Cert.KernelIdeal.Seg

open Idealize.ShloMosaic Idealize.ShloMosaic.TcCoe Idealize.SL.Sem
open Cert.KernelIdeal.Gen

variable {F : FTy → Type} [FloatOps F]

set_option maxRecDepth 1000000 in
set_option maxHeartbeats 4000000 in
/-- The first copy of the group's text. -/
theorem t2_eq (i : grid0.Coords) (arg2 : Memref sig .scVector .hbm S100000x240 .f32) (harg2 : arg2.IsWhole) (arg3 : Memref sig .scVector .hbm S48 .f32) (harg3 : arg3.IsWhole) (arg4 : Memref sig .scVector .hbm S9600x48 .f32) (harg4 : arg4.IsWhole) (arg5 : Memref sig .scVector .vmem S160x240 .f32) (harg5 : arg5.IsWhole) (arg6 : Memref sig .scVector .vmem S160x240 .f32) (harg6 : arg6.IsWhole) (arg7 : Memref sig .scVector .vmem S160x48 .f32) (harg7 : arg7.IsWhole) (arg8 : Memref sig .scVector .vmem S48 .f32) (harg8 : arg8.IsWhole) (arg9 : DmaSems sig S_) (arg10 : DmaSems sig S_) (arg11 : DmaSems sig S_) (v49_r0 : DmaSems sig S_)
    (v22 : IVec S16 32) (k0_t1 : Fin (k0_t1_loop i).trips) (h3 : k0_cond3 i k0_t1 = 1#1) (v72 : IVec S16 32) (hw4 : k0_chk4 i k0_t1 v72) (t : Fin k0_t2_loop.trips) :
    k0_t2_body (F := F) i arg2 harg2 arg3 harg3 arg4 harg4 arg5 harg5 arg6 harg6 arg7 harg7 arg8 harg8 arg9 arg10 arg11 v49_r0 v22 k0_t1 h3 v72 hw4 t ⟨⟩
      = group (k0_cond3 i k0_t1) h3 arg5 arg7 arg8 v22 v72 hw4 t.val := by
  rfl

set_option maxRecDepth 1000000 in
set_option maxHeartbeats 4000000 in
/-- The second copy of the group's text. -/
theorem t3_eq (i : grid0.Coords) (arg2 : Memref sig .scVector .hbm S100000x240 .f32) (harg2 : arg2.IsWhole) (arg3 : Memref sig .scVector .hbm S48 .f32) (harg3 : arg3.IsWhole) (arg4 : Memref sig .scVector .hbm S9600x48 .f32) (harg4 : arg4.IsWhole) (arg5 : Memref sig .scVector .vmem S160x240 .f32) (harg5 : arg5.IsWhole) (arg6 : Memref sig .scVector .vmem S160x240 .f32) (harg6 : arg6.IsWhole) (arg7 : Memref sig .scVector .vmem S160x48 .f32) (harg7 : arg7.IsWhole) (arg8 : Memref sig .scVector .vmem S48 .f32) (harg8 : arg8.IsWhole) (arg9 : DmaSems sig S_) (arg10 : DmaSems sig S_) (arg11 : DmaSems sig S_) (v49_r0 : DmaSems sig S_)
    (v22 : IVec S16 32) (k0_t1 : Fin (k0_t1_loop i).trips) (h5 : k0_cond5 i k0_t1 = 1#1) (v72 : IVec S16 32) (hw292 : k0_chk292 i k0_t1 v72) (t : Fin k0_t3_loop.trips) :
    k0_t3_body (F := F) i arg2 harg2 arg3 harg3 arg4 harg4 arg5 harg5 arg6 harg6 arg7 harg7 arg8 harg8 arg9 arg10 arg11 v49_r0 v22 k0_t1 h5 v72 hw292 t ⟨⟩
      = group (k0_cond5 i k0_t1) h5 arg6 arg7 arg8 v22 v72 hw292 t.val := by
  rfl

end Cert.KernelIdeal.Seg

end
-- ==== Proof.Setup.lean ====
module

public import proofs.«01_k».proof.Proof.GroupEq
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pointwise.Index
public import proofs.«01_k».proof.Proof.Gen.KernelIdeal.Launch

@[expose] public section

noncomputable section

namespace Cert.KernelIdeal.Seg

open Idealize.ShloMosaic Idealize.ShloMosaic.TcCoe Idealize.SL.Sem
open Idealize.ShloMosaic.SparseCore (S V T)
open Idealize.ShloMosaic.SparseCore.Cfg (HIx Pay)
open Idealize.SL Idealize.SL.RA Idealize.SL.BI
open Idealize.ShloMosaic.Rounds
open Cert.KernelIdeal.Gen

/-! ## The program as the launch theorem sees it -/

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores and the shared buffers are as the launch asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

/-- The handshakes' rounds; the copies' counters are the right factor. -/
abbrev EH : Emb UH (MT nD τ sig (HIx 1) (Elt F) ℕ UU ℕ) := embL

/-- The rounds of the TensorCore's staging cells. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-- The two SparseCores and their tiles, as the program's grid counts them. -/
abbrev cV (L : grid0.Coords) : Fin τ.nSC := (L 0).castLE hcore0
abbrev jV (L : grid0.Coords) : Fin τ.nSub := (L 1).castLE hsub0

end Cert.KernelIdeal.Seg

end
-- ==== Proof.GroupVal.lean ====
module

public import proofs.«01_k».proof.Proof.Group
public import Idealize.ShloMosaic.Lib.Pointwise.Index

@[expose] public section

noncomputable section

namespace Cert.KernelIdeal.Seg

open Idealize.ShloMosaic Idealize.ShloMosaic.TcCoe Idealize.SL.Sem
open Cert.KernelIdeal.Gen

/-! ## The tree of a segment's squares, lane by lane -/

theorem pairs_map {α β : Type} (f : α → β) (op : α → α → α) (op' : β → β → β) (h : ∀ a b, f (op a b) = op' (f a) (f b)) :
    ∀ l : List α, (pairs op l).map f = pairs op' (l.map f)
  | a :: b :: l => by simp only [pairs, List.map_cons, h, pairs_map f op op' h l]
  | [_] => rfl
  | [] => rfl

theorem tsum_map {α β : Type} (f : α → β) (op : α → α → α) (op' : β → β → β) (h : ∀ a b, f (op a b) = op' (f a) (f b)) (z : α)
    (l : List α) : f (tsum op z l) = tsum op' (f z) (l.map f) := by
  unfold tsum
  rw [← pairs_map f op op' h, ← pairs_map f op op' h, ← pairs_map f op op' h]
  cases pairs op (pairs op (pairs op l)) <;> rfl

variable {F : FTy → Type} [FloatOps F]

/-! ## What a segment contributes to its row -/

/-- The width of segment `n`, less one. -/
def wid (n : ℕ) : ℕ := if n < 16 then 2 else if n < 32 then 4 else 6

/-- The first column of segment `n`. -/
def start (n : ℕ) : ℕ := if n < 16 then 3 * n else if n < 32 then 48 + 5 * (n - 16) else 128 + 7 * (n - 32)

theorem start_succ (n : ℕ) : start (n + 1) = start n + wid n + 1 := by
  unfold start wid
  split_ifs <;> omega

theorem start_lt {n : ℕ} (h : n < 48) : start n + wid n < 240 := by
  unfold start wid
  split_ifs <;> omega

theorem widths_eq : 2 :: widths = (List.range 48).map wid := by decide

/-- The squares of `w` terms of `x` from `c` on. -/
def sqs {α : Type} (mul : α → α → α) (x : ℕ → α) : ℕ → ℕ → List α
  | _, 0 => []
  | c, w + 1 => mul (x c) (x c) :: sqs mul x (c + 1) w

theorem sqs_snoc {α : Type} (mul : α → α → α) (x : ℕ → α) : ∀ c w : ℕ, sqs mul x c w ++ [mul (x (c + w)) (x (c + w))] = sqs mul x c (w + 1)
  | _, 0 => rfl
  | c, w + 1 => by
    have := sqs_snoc mul x (c + 1) w
    rw [sqs, List.cons_append, show c + (w + 1) = c + 1 + w by omega, this]
    rfl

theorem sqs_map {α β : Type} (f : α → β) (mul : α → α → α) (mul' : β → β → β) (h : ∀ a b, f (mul a b) = mul' (f a) (f b)) (x : ℕ → α) :
    ∀ c w : ℕ, (sqs mul x c w).map f = sqs mul' (fun j => f (x j)) c w
  | _, 0 => rfl
  | c, w + 1 => by simp only [sqs, List.map_cons, h, sqs_map f mul mul' h x (c + 1) w]

/-- The weighted sum of the squares of segment `n` of the row `x`. -/
def segVal (x : ℕ → F .f32) (g : F .f32) (n : ℕ) : F .f32 :=
  FloatOps.mulf (tsum FloatOps.addf (x (start n + wid n)) (sqs FloatOps.mulf x (start n) (wid n + 1))) g

/-- Row `ρ` of a block, column by column. -/
def rowOf {N : ℕ} [NeZero N] (X : (⟨2, ![N, 240]⟩ : Shape).Idx → F .f32) (ρ : ℕ) (j : ℕ) : F .f32 := X (ix2 (Fin.ofNat N ρ) (Fin.ofNat 240 j))

/-- The weight of segment `n`. -/
def wt (C : S48.Idx → F .f32) (n : ℕ) : F .f32 := C (ix1 (Fin.ofNat 48 n))

/-- Column `c` of sixteen rows from `16 t` on, as a register. -/
def colv (X : S160x240.Idx → F .f32) (t c : ℕ) : FVec F S16 .f32 := fun x => rowOf X (16 * t + (x 0).val) c

theorem loadIdx_col (X : S160x240.Idx → F .f32) {t c : ℕ} (ht : t < 10) (hc : c < 240) {r v : IVec S16 32}
    (hr : ∀ x, (r x).toNat = 16 * t + (x 0).val) (hv : ∀ x, (v x).toNat = c)
    (h : ∀ a x, ((![r, v] : Fin 2 → IVec S16 32) a x).toNat < S160x240.size a) :
    loadIdx (F := F) (e := .f32) X ![r, v] h = colv X t c := by
  funext x
  unfold loadIdx colv rowOf
  refine congrArg X (funext fun a => Fin.ext ?_)
  have hx : (x 0).val < 16 := (x 0).isLt
  match a with
  | ⟨0, _⟩ =>
    show (r x).toNat = (16 * t + (x 0).val) % 160
    rw [hr, Nat.mod_eq_of_lt (by omega)]
  | ⟨1, _⟩ =>
    show (v x).toNat = c % 240
    rw [hv, Nat.mod_eq_of_lt hc]

theorem loadIdx_wt (C : S48.Idx → F .f32) {n : ℕ} (hn : n < 48) {v : IVec S16 32} (hv : ∀ x, (v x).toNat = n)
    (h : ∀ a x, ((![v] : Fin 1 → IVec S16 32) a x).toNat < S48.size a) :
    loadIdx (F := F) (e := .f32) C ![v] h = fun _ => wt C n := by
  funext x
  unfold loadIdx wt
  refine congrArg C (funext fun a => Fin.ext ?_)
  match a with
  | ⟨0, _⟩ =>
    show (v x).toNat = n % 48
    rw [hv, Nat.mod_eq_of_lt hn]

/-! ## A store of one column of sixteen rows -/

theorem foldl_put_not {α β ι : Type} (p : ι → α → Prop) [∀ k j, Decidable (p k j)] (v : ι → β) (j : α) :
    ∀ (l : List ι) (f : α → β), (∀ k ∈ l, ¬ p k j) → (l.foldl (fun g k => fun j => if p k j then v k else g j) f) j = f j
  | [], _, _ => rfl
  | k :: l, f, h => by
    rw [List.foldl_cons, foldl_put_not p v j l _ fun k' hk' => h k' (List.mem_cons_of_mem _ hk')]
    exact if_neg (h k List.mem_cons_self)

theorem foldl_put_mem {α β ι : Type} (p : ι → α → Prop) [∀ k j, Decidable (p k j)] (v : ι → β) (j : α) (k₀ : ι) (h₀ : p k₀ j) (hu : ∀ k, p k j → k = k₀) :
    ∀ (l : List ι) (f : α → β), k₀ ∈ l ∨ f j = v k₀ → (l.foldl (fun g k => fun j => if p k j then v k else g j) f) j = v k₀
  | [], _, h => h.elim (fun h => by cases h) id
  | k :: l, f, h => by
    rw [List.foldl_cons]
    refine foldl_put_mem p v j k₀ h₀ hu l _ ?_
    by_cases hk : p k j
    · exact .inr ((if_pos hk).trans (by rw [hu k hk]))
    · rcases h with h | h
      · rcases List.mem_cons.mp h with rfl | h
        · exact absurd h₀ hk
        · exact .inl h
      · exact .inr ((if_neg hk).trans h)

/-- The store at row `r`, column `v` of sixteen rows: element `(16 t + x, n)` takes lane `x`, every other stays. -/
theorem storeIdx_col (f : S160x48.Idx → F .f32) {t n : ℕ} {r v : IVec S16 32}
    (hr : ∀ x, (r x).toNat = 16 * t + (x 0).val) (hv : ∀ x, (v x).toNat = n) (y : FVec F S16 .f32)
    (h : ∀ a x, ((![r, v] : Fin 2 → IVec S16 32) a x).toNat < S160x48.size a) (j : S160x48.Idx) :
    storeIdx (F := F) (s := S160x48) (e := .f32) f ![r, v] y (fun _ => 1#1) false h j
      = if (16 * t ≤ (j 0).val ∧ (j 0).val < 16 * t + 16) ∧ (j 1).val = n then y (ix1 (Fin.ofNat 16 ((j 0).val - 16 * t))) else f j := by
  have key : ∀ (k : Fin 16), (∀ a, (j a).val = (idxAt (s := S160x48) ![r, v] h (Shape.ofLane (d := ![16]) k) a).val)
      ↔ (j 0).val = 16 * t + k.val ∧ (j 1).val = n := by
    intro k
    constructor
    · intro hk
      exact ⟨(hk 0).trans (hr _), (hk 1).trans (hv _)⟩
    · rintro ⟨h0, h1⟩ a
      match a with
      | ⟨0, _⟩ => exact h0.trans (hr (Shape.ofLane (d := ![16]) k)).symm
      | ⟨1, _⟩ => exact h1.trans (hv (Shape.ofLane (d := ![16]) k)).symm
  unfold storeIdx
  simp only [Bool.false_eq_true, if_false, show ((1#1 : BitVec 1) = 1) from rfl, if_true]
  change ((List.finRange 16).foldl (fun g k => fun j => if (∀ a, (j a).val = (idxAt (s := S160x48) ![r, v] h (Shape.ofLane (d := ![16]) k) a).val)
    then y (Shape.ofLane (d := ![16]) k) else g j) f) j = _
  split_ifs with hc
  · obtain ⟨⟨h1, h2⟩, h3⟩ := hc
    have e : (Fin.ofNat 16 ((j 0).val - 16 * t)).val = (j 0).val - 16 * t := Nat.mod_eq_of_lt (by omega)
    refine (foldl_put_mem (fun (k : Fin 16) (j : S160x48.Idx) => ∀ a, (j a).val = (idxAt (s := S160x48) ![r, v] h (Shape.ofLane (d := ![16]) k) a).val)
      (fun k => y (Shape.ofLane (d := ![16]) k)) j (Fin.ofNat 16 ((j 0).val - 16 * t)) ((key _).mpr ⟨by omega, h3⟩)
      (fun k hk => Fin.ext (by have := ((key k).mp hk).1; omega)) _ f (.inl (List.mem_finRange _))).trans ?_
    exact congrArg y (funext fun a => by obtain rfl := Subsingleton.elim a 0; rfl)
  · refine foldl_put_not _ _ j _ f fun k _ hk => hc ?_
    have := (key k).mp hk
    have := k.isLt
    exact ⟨by omega, by omega⟩

/-- A segment's stored register, lane by lane. -/
theorem stored_at (X : S160x240.Idx → F .f32) (t n : ℕ) (g : F .f32) (x : S16.Idx) :
    mulf (tsum addf (colv X t (start n + wid n)) (sqs mulf (colv X t) (start n) (wid n + 1))) (fun _ => g) x
      = segVal (rowOf X (16 * t + (x 0).val)) g n := by
  show FloatOps.mulf _ _ = FloatOps.mulf _ _
  congr 1
  rw [tsum_map (fun (y : FVec F S16 .f32) => y x) addf FloatOps.addf (fun _ _ => rfl),
    sqs_map (fun (y : FVec F S16 .f32) => y x) mulf FloatOps.mulf (fun _ _ => rfl)]
  rfl

/-- The value of a block's result at row `ρ`, segment `n`. -/
abbrev outAt (X : S160x240.Idx → F .f32) (C : S48.Idx → F .f32) (ρ n : ℕ) : F .f32 := segVal (rowOf X ρ) (wt C n) n

/-- One more segment stored: sixteen rows now hold it too. -/
theorem put_at (X : S160x240.Idx → F .f32) (C : S48.Idx → F .f32) (O₀ f : S160x48.Idx → F .f32) {t n : ℕ} {r m : IVec S16 32}
    (hr : ∀ x, (r x).toNat = 16 * t + (x 0).val) (hm : ∀ x, (m x).toNat = n)
    (hf : ∀ j, f j = if (16 * t ≤ (j 0).val ∧ (j 0).val < 16 * t + 16) ∧ (j 1).val < n then outAt X C (j 0).val (j 1).val else O₀ j)
    (h : ∀ a x, ((![r, m] : Fin 2 → IVec S16 32) a x).toNat < S160x48.size a) (j : S160x48.Idx) :
    storeIdx (F := F) (s := S160x48) (e := .f32) f ![r, m]
        (mulf (tsum addf (colv X t (start n + wid n)) ([] ++ sqs mulf (colv X t) (start n) (wid n)
          ++ [mulf (colv X t (start n + wid n)) (colv X t (start n + wid n))])) (fun _ => wt C n)) (fun _ => 1#1) false h j
      = if (16 * t ≤ (j 0).val ∧ (j 0).val < 16 * t + 16) ∧ (j 1).val < n + 1 then outAt X C (j 0).val (j 1).val else O₀ j := by
  rw [List.nil_append, sqs_snoc, storeIdx_col f hr hm]
  split_ifs with h1 h2 h2
  · rw [stored_at]
    have e : (Fin.ofNat 16 ((j 0).val - 16 * t)).val = (j 0).val - 16 * t := Nat.mod_eq_of_lt (by omega)
    show segVal (rowOf X (16 * t + (Fin.ofNat 16 ((j 0).val - 16 * t)).val)) (wt C n) n = _
    rw [e, Nat.add_sub_cancel' h1.1.1, ← h1.2]
  · exact absurd ⟨h1.1, by omega⟩ h2
  · rw [hf, if_pos ⟨h2.1, by have := h2.2; rcases Nat.lt_succ_iff_lt_or_eq.mp this with h | h; exact h; exact absurd ⟨h2.1, h⟩ h1⟩]
  · rw [hf, if_neg fun h => h2 ⟨h.1, by have := h.2; omega⟩]

end Cert.KernelIdeal.Seg

end
-- ==== Proof.GroupWp.lean ====
module

public import proofs.«01_k».proof.Proof.Setup
public import proofs.«01_k».proof.Proof.GroupVal

@[expose] public section

noncomputable section

namespace Cert.KernelIdeal.Seg

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig (HIx 1) (Elt F) ℕ UU ℕ

/-! ## One group of sixteen rows, run -/

section Wp

variable (d : Dev nD) (L : grid0.Coords)

/-- Tile `L` of device `d`. -/
abbrev vt : Thread nD τ := V d (cV L) (jV L)

variable (b : BitVec 1) (hb : b = 1#1)
variable (xb : Memref sig .scVector .vmem S160x240 .f32) (ob : Memref sig .scVector .vmem S160x48 .f32)
variable (cb : Memref sig .scVector .vmem S48 .f32) (r : IVec S16 32)
variable {t : ℕ} (ht : t < 10) (hr : ∀ x, (r x).toNat = 16 * t + (x 0).val)

/-- A scratch buffer held whole, as an indexed load or store addresses it. -/
abbrev at_ {s : Shape} {e : EltTy} (B : Memref sig .scVector .vmem s e) (f : Buf (Elt F) ((B.access (.whole s)).loc (vt d L))) : sProp 𝕄 :=
  (B.access (.whole s)).loc (vt d L) ↦[(B.access (.whole s)).set]{fullShare} f

/-- What a scratch buffer reads. -/
abbrev rd {s : Shape} {e : EltTy} (B : Memref sig .scVector .vmem s e) (f : Buf (Elt F) ((B.access (.whole s)).loc (vt d L))) : Vec F s e :=
  (B.access (.whole s)).read (Elt F) f

variable (X : Buf (Elt F) ((xb.access (.whole _)).loc (vt d L))) (C : Buf (Elt F) ((cb.access (.whole _)).loc (vt d L)))

include ht hr in
theorem okX_of {v : IVec S16 32} {c : ℕ} (hv : ∀ x, (v x).toNat = c) (hc : c < 240) : okX b r v := by
  intro _ a x
  have hx : (x 0).val < 16 := (x 0).isLt
  match a with
  | ⟨0, _⟩ => show (r x).toNat < 160; rw [hr]; omega
  | ⟨1, _⟩ => show (v x).toNat < 240; rw [hv]; exact hc

include ht hr in
theorem okS_of {v : IVec S16 32} {c : ℕ} (hv : ∀ x, (v x).toNat = c) (hc : c < 48) : okS b r v := by
  refine ⟨fun _ a x => ?_, fun _ a x => ?_⟩
  · match a with
    | ⟨0, _⟩ => show (v x).toNat < 48; rw [hv]; exact hc
  · have hx : (x 0).val < 16 := (x 0).isLt
    match a with
    | ⟨0, _⟩ => show (r x).toNat < 160; rw [hr]; omega
    | ⟨1, _⟩ => show (v x).toNat < 48; rw [hv]; exact hc

theorem next_val {v : IVec S16 32} {c : ℕ} (hv : ∀ x, (v x).toNat = c) (hc : c < 240) (x : S16.Idx) : (next v x).toNat = c + 1 := by
  show (v x + 1#32).toNat = c + 1
  rw [BitVec.toNat_add, hv]
  show (c + 1) % 2 ^ 32 = c + 1
  exact Nat.mod_eq_of_lt (by omega)

variable {Q : PUnit.{1} → sProp (MT nD τ sig (HIx 1) (Elt F) ℕ UU ℕ)} {R : sProp (MT nD τ sig (HIx 1) (Elt F) ℕ UU ℕ)}

/-- An assumption that holds is passed. -/
theorem wp_ask {P : Prop} {dec : Decidable P} {k : P → TP F L} (h : P) :
    wp frame (wpE (defs₀ (F := F)) 𝒱₀ (vt d L) none) Set.univ (k h) Q
      ⊢ wp frame (wpE (defs₀ (F := F)) 𝒱₀ (vt d L) none) Set.univ (ask P dec k) Q :=
  Entails.of_eq (wp_assume_of (defs := defs₀ (F := F)) 𝒱₀ (vt d L) none Set.univ (d := dec) (k := fun h => k h.down) h).symm

include ht hr in
/-- The squares of `w` columns from `c` on. -/
theorem wp_squares : ∀ (w c : ℕ) (v : IVec S16 32) (hv : okX b r v) (_ : ∀ x, (v x).toNat = c) (_ : c + w < 240)
    (sq : List (FVec F S16 .f32)) (k : (v : IVec S16 32) → okX b r v → List (FVec F S16 .f32) → TP F L),
    (∀ (v' : IVec S16 32) (hv' : okX b r v'), (∀ x, (v' x).toNat = c + w) →
      (iprop(at_ d L xb X ∗ R)
        ⊢ wp frame (wpE (defs₀ (F := F)) 𝒱₀ (vt d L) none) Set.univ (k v' hv' (sq ++ sqs mulf (colv (rd d L xb X) t) c w)) Q)) →
    (iprop(at_ d L xb X ∗ R)
      ⊢ wp frame (wpE (defs₀ (F := F)) 𝒱₀ (vt d L) none) Set.univ (squares b hb xb r w v hv sq k) Q)
  | 0, c, v, hv, hc, _, sq, k, H => by
    have := H v hv hc
    rw [sqs, List.append_nil] at this
    exact this
  | w + 1, c, v, hv, hc, hw, sq, k, H => by
    have hc' := next_val hc (by omega)
    have hv' : okX b r (next v) := okX_of b r ht hr hc' (by omega)
    rw [squares]
    iintro ⟨Hx, HR⟩
    iapply (SparseCore.wp_vectorLoadIdx 𝒱₀ (vt d L) none Set.univ (base := xb) (q := fullShare) (f := X) subset_rfl) $$ Hx
    iintro Hx
    rw [loadIdx_col _ ht (by omega) hr hc]
    iapply (wp_ask d L hv')
    iapply (wp_squares w (c + 1) (next v) hv' hc' (by omega) _ k fun v'' hv'' h'' => by
      have := H v'' hv'' (fun x => (h'' x).trans (by omega))
      rw [List.append_assoc]
      exact this) $$ [Hx HR]
    isplitl [Hx] <;> iassumption

/-- One more segment stored, as the buffer reads. -/
theorem put_rd {n : ℕ} {m : IVec S16 32} (hr : ∀ x, (r x).toNat = 16 * t + (x 0).val) (hm : ∀ x, (m x).toNat = n) (O₀ : S160x48.Idx → F .f32)
    (f : Buf (Elt F) ((ob.access (.whole _)).loc (vt d L)))
    (hf : ∀ j, rd d L ob f j = if (16 * t ≤ (j 0).val ∧ (j 0).val < 16 * t + 16) ∧ (j 1).val < n
        then outAt (rd d L xb X) (rd d L cb C) (j 0).val (j 1).val else O₀ j)
    (h : ∀ a x, ((![r, m] : Fin 2 → IVec S16 32) a x).toNat < S160x48.size a) (j : S160x48.Idx) :
    rd d L ob ((ob.access (.whole _)).write (Elt F) f (storeIdx (F := F) (s := S160x48) (e := .f32) (rd d L ob f) ![r, m]
        (mulf (tsum addf (colv (rd d L xb X) t (start n + wid n)) ([] ++ sqs mulf (colv (rd d L xb X) t) (start n) (wid n)
          ++ [mulf (colv (rd d L xb X) t (start n + wid n)) (colv (rd d L xb X) t (start n + wid n))])) (fun _ => wt (rd d L cb C) n)) (fun _ => 1#1) false h) Finset.univ) j
      = if (16 * t ≤ (j 0).val ∧ (j 0).val < 16 * t + 16) ∧ (j 1).val < n + 1
        then outAt (rd d L xb X) (rd d L cb C) (j 0).val (j 1).val else O₀ j :=
  (congrFun (View.read_write_univ _ _) j).trans (put_at _ _ _ _ hr hm hf h j)

include ht hr in
/-- The segments from number `n` on of sixteen rows. -/
theorem wp_segs (O₀ : S160x48.Idx → F .f32)
    (H : ∀ f, (∀ j, rd d L ob f j = if 16 * t ≤ (j 0).val ∧ (j 0).val < 16 * t + 16 then outAt (rd d L xb X) (rd d L cb C) (j 0).val (j 1).val else O₀ j) →
      (iprop(at_ d L xb X ∗ at_ d L cb C ∗ at_ d L ob f ∗ R) ⊢ Q ⟨⟩)) :
    ∀ (ws : List ℕ) (w n : ℕ) (v : IVec S16 32) (hv : okX b r v) (_ : ∀ x, (v x).toNat = start n)
      (m : IVec S16 32) (hm : okS b r m) (_ : ∀ x, (m x).toNat = n) (_ : n + ws.length = 47) (_ : w :: ws = (List.range' n (48 - n)).map wid)
      (f : Buf (Elt F) ((ob.access (.whole _)).loc (vt d L)))
      (_ : ∀ j, rd d L ob f j = if (16 * t ≤ (j 0).val ∧ (j 0).val < 16 * t + 16) ∧ (j 1).val < n
        then outAt (rd d L xb X) (rd d L cb C) (j 0).val (j 1).val else O₀ j),
      (iprop(at_ d L xb X ∗ at_ d L cb C ∗ at_ d L ob f ∗ R)
        ⊢ wp frame (wpE (defs₀ (F := F)) 𝒱₀ (vt d L) none) Set.univ (segs b hb xb ob cb r ws w v hv m hm) Q)
  | ws, w, n, v, hv, hc, m, hm, hn, hlen, hws, f, hf => by
    have hn48 : n < 48 := by omega
    have hst := start_lt hn48
    obtain ⟨k, hk⟩ : ∃ k, 48 - n = k + 1 := ⟨47 - n, by omega⟩
    rw [hk, List.range'_succ, List.map_cons] at hws
    obtain ⟨hw, hws'⟩ := List.cons.inj hws
    subst hw
    have hv' : ∀ x, (v x).toNat = start n := hc
    have hn' : n + ws.length = 47 := hlen
    cases ws with
    | nil =>
      have hn47 : n = 47 := by simpa using hlen
      refine wp_squares d L b hb xb r ht hr X (wid n) (start n) v hv hc hst [] _ fun v' hv' hc' => ?_
      iintro ⟨Hx, Hc, Ho, HR⟩
      iapply (SparseCore.wp_vectorLoadIdx 𝒱₀ (vt d L) none Set.univ (base := xb) (q := fullShare) (f := X) subset_rfl) $$ Hx
      iintro Hx
      iapply (SparseCore.wp_vectorLoadIdx 𝒱₀ (vt d L) none Set.univ (base := cb) (q := fullShare) (f := C) subset_rfl) $$ Hc
      iintro Hc
      rw [loadIdx_col _ ht hst hr hc', loadIdx_wt _ hn48 hn]
      iapply (SparseCore.wp_vectorStoreIdx 𝒱₀ (vt d L) none Set.univ (base := ob) (f := f)) $$ Ho
      iintro Ho
      rw [Prog.pure_eq_ret, wp_ret]
      imodintro
      iapply (H _ fun j => (put_rd d L xb ob cb r X C hr hn O₀ f hf _ j).trans (by
        have hj : (j 1).val < 48 := (j 1).isLt
        simp only [show (j 1).val < n + 1 from by omega, and_true])) $$ [Hx Hc Ho HR]
      isplitl [Hx]; · iexact Hx
      isplitl [Hc]; · iexact Hc
      isplitl [Ho]; · iexact Ho
      iexact HR
    | cons w' ws =>
      have hn46 : n + 1 < 48 := by simp only [List.length_cons] at hlen; omega
      have hc1 : ∀ v' : IVec S16 32, (∀ x, (v' x).toNat = start n + wid n) → ∀ x, (next v' x).toNat = start (n + 1) :=
        fun v' hv' x => (next_val hv' hst x).trans (start_succ n).symm
      have hst1 := start_lt hn46
      have hn1 := next_val hn (by omega)
      refine wp_squares d L b hb xb r ht hr X (wid n) (start n) v hv hc hst [] _ fun v' hv' hc' => ?_
      iintro ⟨Hx, Hc, Ho, HR⟩
      iapply (SparseCore.wp_vectorLoadIdx 𝒱₀ (vt d L) none Set.univ (base := xb) (q := fullShare) (f := X) subset_rfl) $$ Hx
      iintro Hx
      iapply (wp_ask d L (okX_of b r ht hr (hc1 v' hc') (by omega)))
      iapply (SparseCore.wp_vectorLoadIdx 𝒱₀ (vt d L) none Set.univ (base := cb) (q := fullShare) (f := C) subset_rfl) $$ Hc
      iintro Hc
      rw [loadIdx_col _ ht hst hr hc', loadIdx_wt _ hn48 hn]
      iapply (SparseCore.wp_vectorStoreIdx 𝒱₀ (vt d L) none Set.univ (base := ob) (f := f)) $$ Ho
      iintro Ho
      iapply (wp_ask d L (okS_of b r ht hr hn1 hn46))
      iapply (wp_segs O₀ H ws w' (n + 1) (next v') (okX_of b r ht hr (hc1 v' hc') (by omega)) (hc1 v' hc') (next m) (okS_of b r ht hr hn1 hn46) hn1
        (by simp only [List.length_cons] at hlen; omega) (by rw [hws']; congr 2; omega) _
        fun j => put_rd d L xb ob cb r X C hr hn O₀ f hf _ j) $$ [Hx Hc Ho HR]
      isplitl [Hx]; · iexact Hx
      isplitl [Hc]; · iexact Hc
      isplitl [Ho]; · iexact Ho
      iexact HR

end Wp

end Cert.KernelIdeal.Seg

end
-- ==== Proof.Rows.lean ====
module

public import proofs.«01_k».proof.Proof.GroupWp

@[expose] public section

noncomputable section

namespace Cert.KernelIdeal.Seg

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig (HIx 1) (Elt F) ℕ UU ℕ

/-! ## The ten groups of a block -/

variable (d : Dev nD) (L : grid0.Coords)
variable (b : BitVec 1) (hb : b = 1#1)
variable (xb : Memref sig .scVector .vmem S160x240 .f32) (ob : Memref sig .scVector .vmem S160x48 .f32)
variable (cb : Memref sig .scVector .vmem S48 .f32)
variable (X : Buf (Elt F) ((xb.access (.whole _)).loc (vt d L))) (C : Buf (Elt F) ((cb.access (.whole _)).loc (vt d L)))

theorem row_val {t : ℕ} (ht : t < 10) {v22 : IVec S16 32} (h : ∀ x, (v22 x).toNat = (x 0).val) (x : S16.Idx) :
    (addi v22 (broadcast S16 (Scalar.muli (Scf.iv 0#32 1#32 t) 16#32)) x).toNat = 16 * t + (x 0).val := by
  have hx : (x 0).val < 16 := (x 0).isLt
  show (v22 x + (0#32 + BitVec.ofNat 32 t * 1#32) * 16#32).toNat = _
  simp only [BitVec.toNat_add, BitVec.toNat_mul, BitVec.toNat_ofNat, h]
  omega

variable {Q : PUnit.{1} → sProp (MT nD τ sig (HIx 1) (Elt F) ℕ UU ℕ)} {R : sProp (MT nD τ sig (HIx 1) (Elt F) ℕ UU ℕ)}

/-- A block's first `k` groups of rows are done. -/
def done (k : ℕ) (f : Buf (Elt F) ((ob.access (.whole _)).loc (vt d L))) : Prop :=
  ∀ j : S160x48.Idx, (j 0).val < 16 * k → rd d L ob f j = outAt (rd d L xb X) (rd d L cb C) (j 0).val (j 1).val

/-- A group takes `done t` to `done (t + 1)`. -/
theorem wp_group {t : ℕ} (ht : t < 10) {v22 z : IVec S16 32} (h : ∀ x, (v22 x).toNat = (x 0).val) (hz0 : ∀ x, (z x).toNat = 0)
    (hz : ∀ (_ : b = 1#1), ∀ a x, ((![z] : Fin 1 → IVec S16 32) a x).toNat < S48.size a)
    (f : Buf (Elt F) ((ob.access (.whole _)).loc (vt d L))) (hf : done d L xb ob cb X C t f)
    (H : ∀ f, done d L xb ob cb X C (t + 1) f → (iprop(at_ d L xb X ∗ at_ d L cb C ∗ at_ d L ob f ∗ R) ⊢ Q ⟨⟩)) :
    iprop(at_ d L xb X ∗ at_ d L cb C ∗ at_ d L ob f ∗ R)
      ⊢ wp frame (wpE (defs₀ (F := F)) 𝒱₀ (vt d L) none) Set.univ (group b hb xb ob cb v22 z hz t) Q := by
  have hr := row_val ht h
  unfold group
  have h0 := okX_of b _ ht hr hz0 (by omega)
  have h1 := okS_of b _ ht hr hz0 (by omega)
  have hZ : okZ b z (addi v22 (broadcast S16 (Scalar.muli (Scf.iv 0#32 1#32 t) 16#32))) := ⟨h0, h1.2⟩
  refine BI.Entails.trans ?_ (wp_ask d L hZ)
  refine wp_segs d L b hb xb ob cb _ ht hr X C (rd d L ob f) (fun g hg => H g fun j hj => ?_) widths 2 0 z _ hz0 z _ hz0
    (by decide) (by decide) f fun j => by rw [if_neg fun hh => absurd hh.2 (Nat.not_lt_zero _)]
  rw [hg]
  split_ifs with hh
  · rfl
  · exact hf j (by omega)

/-- A block's ten groups: the counted loop whose trips are the groups. -/
theorem wp_rows (l : Scf.Loop 32) (hok : l.OK) (hl : l.trips = 10) (body : Fin l.trips → Unit → TP F L)
    {v22 z : IVec S16 32} (h : ∀ x, (v22 x).toNat = (x 0).val) (hz0 : ∀ x, (z x).toNat = 0)
    (hz : ∀ (_ : b = 1#1), ∀ a x, ((![z] : Fin 1 → IVec S16 32) a x).toNat < S48.size a)
    (hbody : ∀ t, body t ⟨⟩ = group b hb xb ob cb v22 z hz t.val)
    (f : Buf (Elt F) ((ob.access (.whole _)).loc (vt d L)))
    {β : Type} {kk : Unit → Prog (TpuEff nD τ sig (Elt F) Λ₀ (.scVector ((L 0).castLE hcore0) ((L 1).castLE hsub0))) β}
    {Q : β → sProp (MT nD τ sig (HIx 1) (Elt F) ℕ UU ℕ)} :
    iprop(at_ d L xb X ∗ at_ d L cb C ∗ at_ d L ob f)
      ⊢ iprop((∀ f', ⌜done d L xb ob cb X C 10 f'⌝ -∗ at_ d L xb X -∗ at_ d L cb C -∗ at_ d L ob f' -∗
          wp frame (wpE (defs₀ (F := F)) 𝒱₀ (vt d L) none) Set.univ (kk ⟨⟩) Q)
        -∗ wp frame (wpE (defs₀ (F := F)) 𝒱₀ (vt d L) none) Set.univ (Scf.Loop.for l hok ⟨⟩ body >>= kk) Q) := by
  let I : ℕ → Unit → sProp 𝕄 := fun k _ => iprop(∃ f, ⌜done d L xb ob cb X C k f⌝ ∗ at_ d L xb X ∗ at_ d L cb C ∗ at_ d L ob f)
  have hstep : ∀ (k : Fin l.trips) (acc : Unit), I k acc ⊢ wp frame (wpE (defs₀ (F := F)) 𝒱₀ (vt d L) none) Set.univ (body k acc) (I (k.val + 1)) := by
    intro k acc
    obtain rfl : acc = ⟨⟩ := rfl
    rw [hbody k]
    iintro ⟨%f, %hf, Hx, Hc, Ho⟩
    iapply (wp_group (R := iprop(emp)) d L b hb xb ob cb X C (Nat.lt_of_lt_of_eq k.isLt hl) h hz0 hz f hf fun f' hf' => by
      iintro ⟨Hx, Hc, Ho, -⟩
      iexists f'
      isplitr; · ipureintro; exact hf'
      isplitl [Hx]; · iexact Hx
      isplitl [Hc] <;> iassumption) $$ [Hx Hc Ho]
    isplitl [Hx]; · iexact Hx
    isplitl [Hc]; · iexact Hc
    isplitl [Ho]; · iexact Ho
    iempintro
  iintro ⟨Hx, Hc, Ho⟩ Hk
  iapply (Scf.wp_for_bind frame (wpE (defs₀ (F := F)) 𝒱₀ (vt d L) none) Set.univ l.lb l.ub l.st hok ⟨⟩ body I hstep) $$ [Hx Hc Ho]
  · iexists f
    isplitr; · ipureintro; exact fun j hj => absurd hj (by omega)
    isplitl [Hx]; · iexact Hx
    isplitl [Hc] <;> iassumption
  iintro %acc ⟨%f', %hf', Hx, Hc, Ho⟩
  iapply Hk $$ %f' [] [Hx] [Hc] [Ho]
  · ipureintro; rw [← hl]; exact hf'
  · iexact Hx
  · iexact Hc
  · iexact Ho

end Cert.KernelIdeal.Seg

end
-- ==== Proof.Facts.lean ====
module

public import proofs.«01_k».proof.Proof.Rows

@[expose] public section

noncomputable section

namespace Cert.KernelIdeal.Seg

open Idealize.ShloMosaic Idealize.ShloMosaic.TcCoe
open Cert.KernelIdeal.Gen

/-! ## What a tile's counters come to -/

/-- A tile's first block. -/
def blk (L : grid0.Coords) : ℕ := 2 * (L 1).val + (L 0).val

theorem blk_lt : ∀ L : grid0.Coords, blk L < 32 := by decide +kernel

/-- Every tile has a first block, -/
theorem cond1_all : ∀ L : grid0.Coords, k0_cond1 L = 1#1 := by decide +kernel
/-- goes once round its paired loop, -/
theorem trips1 : ∀ L : grid0.Coords, (k0_t1_loop L).trips = 1 := by decide +kernel
/-- and has no odd block left over. -/
theorem trips4 : ∀ L : grid0.Coords, (k0_t4_loop L).trips = 0 := by decide +kernel
theorem cond3_all : ∀ (L : grid0.Coords) (t : Fin (k0_t1_loop L).trips), k0_cond3 L t = 1#1 := by decide +kernel
theorem cond4_none : ∀ (L : grid0.Coords) (t : Fin (k0_t1_loop L).trips), ¬ k0_cond4 L t = 1#1 := by decide +kernel
/-- The first twenty-eight tiles have a second block. -/
theorem cond2_iff : ∀ (L : grid0.Coords) (t : Fin (k0_t1_loop L).trips), k0_cond2 L t = 1#1 ↔ blk L < 28 := by decide +kernel
theorem cond5_iff : ∀ (L : grid0.Coords) (t : Fin (k0_t1_loop L).trips), k0_cond5 L t = 1#1 ↔ blk L < 28 := by decide +kernel
theorem trips2 : k0_t2_loop.trips = 10 := by decide +kernel
theorem trips3 : k0_t3_loop.trips = 10 := by decide +kernel

theorem lanes_val (x : S16.Idx) : (iota .scVector S16 32 [0] iota_S16_d0_w32_scVector x).toNat = (x 0).val := by
  revert x; decide +kernel

/-! ## The rows of a block -/

/-- Block `k`'s rows of the result. -/
def rows (k : ℕ) : Finset S9600x48.Idx := Finset.univ.filter fun j => (j 0).val / 160 = k

/-- The result's entry: the segment's sum of squares of the row, weighted. -/
def want {F : FTy → Type} [FloatOps F] (X : Vec F S100000x240 .f32) (C : Vec F S48 .f32) : Vec F S9600x48 .f32 :=
  fun j => segVal (rowOf (N := 100000) X (j 0).val) (wt C (j 1).val) (j 1).val

theorem mem_rect {off : Fin 2 → ℕ} {k : ℕ} (h : off = ![160 * k, 0]) (inb : ∀ a, off a + S160x48.size a ≤ S9600x48.size a) (j : S9600x48.Idx) :
    j ∈ (Rect.unit (s := S9600x48) off S160x48.size inb).set ↔ j ∈ rows k := by
  subst h
  have h0 : (j 0).val < 9600 := (j 0).isLt
  have h1 : (j 1).val < 48 := (j 1).isLt
  simp only [Rect.mem_set_unit, rows, Finset.mem_filter, Finset.mem_univ, true_and, Fin.forall_fin_two]
  show (160 * k ≤ (j 0).val ∧ (j 0).val < 160 * k + 160) ∧ (0 ≤ (j 1).val ∧ (j 1).val < 0 + 48) ↔ (j 0).val / 160 = k
  omega

end Cert.KernelIdeal.Seg

end
-- ==== Proof.Tile.lean ====
module

public import proofs.«01_k».proof.Proof.Facts
public import Idealize.ShloMosaic.Lib.Pipeline.TableIdle

@[expose] public section

noncomputable section

namespace Cert.KernelIdeal.Seg

open Idealize.ShloMosaic Idealize.ShloMosaic.TcCoe
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic
open Cert.KernelIdeal.Gen

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S100000x240 EltTy.f32)
local notation "cV'" => (Memref.whole Cert.KernelIdeal.main_v6_scv : Memref Cert.KernelIdeal.sig Kind.scVector Space.hbm Cert.KernelIdeal.S48 EltTy.f32)
local notation "oV" => (Memref.whole Cert.KernelIdeal.main_v7_scv : Memref Cert.KernelIdeal.sig Kind.scVector Space.hbm Cert.KernelIdeal.S9600x48 EltTy.f32)
local notation "sA" => (Memref.whole Cert.KernelIdeal.cc0_scratch0 : Memref Cert.KernelIdeal.sig Kind.scVector Space.vmem Cert.KernelIdeal.S160x240 EltTy.f32)
local notation "sB" => (Memref.whole Cert.KernelIdeal.cc0_scratch1 : Memref Cert.KernelIdeal.sig Kind.scVector Space.vmem Cert.KernelIdeal.S160x240 EltTy.f32)
local notation "sO" => (Memref.whole Cert.KernelIdeal.cc0_scratch2 : Memref Cert.KernelIdeal.sig Kind.scVector Space.vmem Cert.KernelIdeal.S160x48 EltTy.f32)
local notation "sC" => (Memref.whole Cert.KernelIdeal.cc0_scratch3 : Memref Cert.KernelIdeal.sig Kind.scVector Space.vmem Cert.KernelIdeal.S48 EltTy.f32)

section Tile

variable (d : Dev nD) (L : grid0.Coords)

abbrev xLoc (d : Dev nD) : Loc nD τ sig := (SparseCore.T d).loc main_arg0
abbrev gLoc (d : Dev nD) : Loc nD τ sig := (SparseCore.T d).loc main_v6
abbrev oLoc (d : Dev nD) : Loc nD τ sig := (SparseCore.T d).loc main_v7

/-- A tile's buffer, as the copies and as the indexed loads name it. -/
theorem at_A (f : Buf (Elt F) ((vt d L).loc cc0_scratch0)) : ((sA).view.loc (V d (cV L) (jV L)) ↦{fullShare} f : sProp 𝕄) = at_ d L sA f :=
  congrArg (fun S => (((sA).view.loc (V d (cV L) (jV L)) ↦[S]{fullShare} f : sProp 𝕄))) (Memref.set_access_whole cc0_scratch0).symm
theorem at_B (f : Buf (Elt F) ((vt d L).loc cc0_scratch1)) : ((sB).view.loc (V d (cV L) (jV L)) ↦{fullShare} f : sProp 𝕄) = at_ d L sB f :=
  congrArg (fun S => (((sB).view.loc (V d (cV L) (jV L)) ↦[S]{fullShare} f : sProp 𝕄))) (Memref.set_access_whole cc0_scratch1).symm
theorem at_O (f : Buf (Elt F) ((vt d L).loc cc0_scratch2)) : ((sO).view.loc (V d (cV L) (jV L)) ↦{fullShare} f : sProp 𝕄) = at_ d L sO f :=
  congrArg (fun S => (((sO).view.loc (V d (cV L) (jV L)) ↦[S]{fullShare} f : sProp 𝕄))) (Memref.set_access_whole cc0_scratch2).symm
theorem at_C (f : Buf (Elt F) ((vt d L).loc cc0_scratch3)) : ((sC).view.loc (V d (cV L) (jV L)) ↦{fullShare} f : sProp 𝕄) = at_ d L sC f :=
  congrArg (fun S => (((sC).view.loc (V d (cV L) (jV L)) ↦[S]{fullShare} f : sProp 𝕄))) (Memref.set_access_whole cc0_scratch3).symm

theorem rd_A (f : Buf (Elt F) ((vt d L).loc cc0_scratch0)) : rd d L sA f = f := Memref.read_access_whole (Elt F) cc0_scratch0 f
theorem rd_B (f : Buf (Elt F) ((vt d L).loc cc0_scratch1)) : rd d L sB f = f := Memref.read_access_whole (Elt F) cc0_scratch1 f
theorem rd_O (f : Buf (Elt F) ((vt d L).loc cc0_scratch2)) : rd d L sO f = f := Memref.read_access_whole (Elt F) cc0_scratch2 f
theorem rd_C (f : Buf (Elt F) ((vt d L).loc cc0_scratch3)) : rd d L sC f = f := Memref.read_access_whole (Elt F) cc0_scratch3 f

/-- A block's window of the argument and of the result. -/
abbrev xW (off : Fin 2 → ℕ) (h : ∀ a, off a + S160x240.size a ≤ S100000x240.size a) : Memref sig .scVector .hbm S160x240 .f32 :=
  (xV).slice (Rect.unit (s := S100000x240) off S160x240.size h) (fun _ => rfl)
abbrev oW (off : Fin 2 → ℕ) (h : ∀ a, off a + S160x48.size a ≤ S9600x48.size a) : Memref sig .scVector .hbm S160x48 .f32 :=
  (oV).slice (Rect.unit (s := S9600x48) off S160x48.size h) (fun _ => rfl)

theorem set_oW {off : Fin 2 → ℕ} {k : ℕ} (e : off = ![160 * k, 0]) (h : ∀ a, off a + S160x48.size a ≤ S9600x48.size a) :
    (oW off h).view.set = rows k := by
  ext j
  rw [← mem_rect e h]
  show j ∈ ((View.whole (main_v7_scv : Ref sig .scVector)).slice (Rect.unit (s := S9600x48) off S160x48.size h)).set ↔ _
  rw [View.set_slice]
  exact Iff.of_eq (congrArg (j ∈ ·) Finset.map_refl)

theorem row_xW {off : Fin 2 → ℕ} {k : ℕ} (e : off = ![160 * k, 0]) (h : ∀ a, off a + S160x240.size a ≤ S100000x240.size a) (hk : k < 60)
    (X : Buf (Elt F) (xLoc d)) {ρ : ℕ} (hρ : ρ < 160) :
    rowOf (N := 160) ((xW off h).view.read (Elt F) X) ρ = rowOf (N := 100000) X (160 * k + ρ) := by
  subst e
  funext j
  unfold rowOf
  refine congrArg X (funext fun a => Fin.ext ?_)
  match a with
  | 0 =>
    show 160 * k + 1 * (ρ % 160) = (160 * k + ρ) % 100000
    rw [Nat.mod_eq_of_lt hρ, Nat.mod_eq_of_lt (by omega)]; omega
  | 1 =>
    show 0 + 1 * (j % 240) = j % 240
    omega

theorem pts_oW {off : Fin 2 → ℕ} {k : ℕ} (e : off = ![160 * k, 0]) (h : ∀ a, off a + S160x48.size a ≤ S9600x48.size a) (f : Buf (Elt F) (oLoc d)) :
    ((oV).view.loc (V d (cV L) (jV L)) ↦[rows k]{fullShare} f : sProp 𝕄)
      = (((oV).slice (Rect.unit (s := S9600x48) off S160x48.size h) (fun _ => rfl)).view.loc (V d (cV L) (jV L))
          ↦[((oV).slice (Rect.unit (s := S9600x48) off S160x48.size h) (fun _ => rfl)).view.set]{fullShare} f) := by
  rw [← set_oW e h]

/-- A block written out is the result's rows. -/
theorem landed {off : Fin 2 → ℕ} {k : ℕ} (e : off = ![160 * k, 0]) (h : ∀ a, off a + S160x48.size a ≤ S9600x48.size a)
    {off' : Fin 2 → ℕ} (e' : off' = ![160 * k, 0]) (h' : ∀ a, off' a + S160x240.size a ≤ S100000x240.size a) (hk : k < 60)
    (X : Buf (Elt F) (xLoc d)) (C : Buf (Elt F) (gLoc d))
    (f : ((oV).slice (Rect.unit (s := S9600x48) off S160x48.size h) (fun _ => rfl)).view.ty.Contents (Elt F)) (B : S160x48.Idx → F .f32)
    (hB : ∀ j : S160x48.Idx, B j = outAt ((xW off' h').view.read (Elt F) X) C (j 0).val (j 1).val) :
    (((oV).slice (Rect.unit (s := S9600x48) off S160x48.size h) (fun _ => rfl)).view.loc (V d (cV L) (jV L))
          ↦[((oV).slice (Rect.unit (s := S9600x48) off S160x48.size h) (fun _ => rfl)).view.set]{fullShare}
        ((oV).slice (Rect.unit (s := S9600x48) off S160x48.size h) (fun _ => rfl)).view.writes (Elt F) f
          [⟨Rect.whole (Rect.unit (s := S9600x48) off S160x48.size h).shape, B⟩] : sProp 𝕄)
      = ((oV).view.loc (V d (cV L) (jV L)) ↦[rows k]{fullShare} want X C) := by
  rw [pts_oW d L e h]
  refine pointsTo_congr fun i hi => ?_
  obtain ⟨j, -, rfl⟩ := Finset.mem_map.mp hi
  have hj : (j 0).val < 160 := (j 0).isLt
  have hr := View.read_slice_write_emb (Val := Elt F) (v := ((oV).slice (Rect.unit (s := S9600x48) off S160x48.size h) (fun _ => rfl)).view)
    (Rect.whole (Rect.unit (s := S9600x48) off S160x48.size h).shape) f B (Finset.mem_univ j)
  have he : (Rect.whole (Rect.unit (s := S9600x48) off S160x48.size h).shape).emb j = j := Rect.emb_whole_apply _ _
  refine (((congrArg _ he.symm).trans hr : _ = B j)).trans ?_
  rw [hB, want, outAt, row_xW d e' h' hk X hj]
  subst e
  have e0 : ((oW ![160 * k, 0] h).view.emb j 0).val = 160 * k + 1 * (j 0).val := rfl
  have e1 : ((oW ![160 * k, 0] h).view.emb j 1).val = 0 + 1 * (j 1).val := rfl
  rw [Nat.one_mul] at e0
  rw [Nat.one_mul, Nat.zero_add] at e1
  show _ = segVal (rowOf (N := 100000) X ((oW ![160 * k, 0] h).view.emb j 0).val) (wt C ((oW ![160 * k, 0] h).view.emb j 1).val) ((oW ![160 * k, 0] h).view.emb j 1).val
  rw [e0, e1]

/-- A block written out is the result's rows, its payload described after. -/
theorem lands {off : Fin 2 → ℕ} {k : ℕ} (e : off = ![160 * k, 0]) (h : ∀ a, off a + S160x48.size a ≤ S9600x48.size a)
    {off' : Fin 2 → ℕ} (e' : off' = ![160 * k, 0]) (h' : ∀ a, off' a + S160x240.size a ≤ S100000x240.size a) (hk : k < 60)
    (X : Buf (Elt F) (xLoc d)) (C : Buf (Elt F) (gLoc d))
    (f : ((oV).slice (Rect.unit (s := S9600x48) off S160x48.size h) (fun _ => rfl)).view.ty.Contents (Elt F)) (B : S160x48.Idx → F .f32) :
    (((oV).slice (Rect.unit (s := S9600x48) off S160x48.size h) (fun _ => rfl)).view.loc (V d (cV L) (jV L))
          ↦[((oV).slice (Rect.unit (s := S9600x48) off S160x48.size h) (fun _ => rfl)).view.set]{fullShare}
        ((oV).slice (Rect.unit (s := S9600x48) off S160x48.size h) (fun _ => rfl)).view.writes (Elt F) f
          [⟨Rect.whole (Rect.unit (s := S9600x48) off S160x48.size h).shape, B⟩] : sProp 𝕄)
      ⊢ iprop(⌜∀ j : S160x48.Idx, B j = outAt ((xW off' h').view.read (Elt F) X) C (j 0).val (j 1).val⌝
          -∗ ((oV).view.loc (V d (cV L) (jV L)) ↦[rows k]{fullShare} want X C)) := by
  iintro H %hB
  iapply (Entails.of_eq (landed d L e h e' h' hk X C f B hB))
  iexact H

theorem zero_ok {b : BitVec 1} (_ : b = 1#1) : ∀ a x, ((![broadcast S16 0#32] : Fin 1 → IVec S16 32) a x).toNat < S48.size a := by
  intro a x
  match a with
  | 0 => exact show (0#32 : BitVec 32).toNat < 48 by decide

theorem off1_blk (L : grid0.Coords) : k0_off1 L = ![160 * blk L, 0] := by
  rw [k0_off1_eq]; unfold blk; congr 1; omega
theorem off2_blk (L : grid0.Coords) (t : Fin (k0_t1_loop L).trips) : k0_off2 L t = ![160 * (blk L + 32), 0] := by
  have := t.isLt; have := trips1 L
  rw [k0_off2_eq]; unfold blk; congr 1; omega
theorem off4_blk (L : grid0.Coords) (t : Fin (k0_t1_loop L).trips) : k0_off4 L t = ![160 * blk L, 0] := by
  have := t.isLt; have := trips1 L
  rw [k0_off4_eq]; unfold blk; congr 1; omega
theorem off7_blk (L : grid0.Coords) (t : Fin (k0_t1_loop L).trips) : k0_off7 L t = ![160 * (blk L + 32), 0] := by
  have := t.isLt; have := trips1 L
  rw [k0_off7_eq]; unfold blk; congr 1; omega

abbrev lanes : IVec S16 32 := iota .scVector S16 32 [0] iota_S16_d0_w32_scVector

/-- The loop over a block's groups, the block in the first buffer. -/
theorem run_rows2 (t : Fin (k0_t1_loop L).trips) (h : k0_cond3 L t = 1#1) (hk : k0_chk4 L t (broadcast S16 0#32))
    (fa : Buf (Elt F) ((vt d L).loc cc0_scratch0)) (fc : Buf (Elt F) ((vt d L).loc cc0_scratch3)) (fo : Buf (Elt F) ((vt d L).loc cc0_scratch2))
    {kk : Unit → Prog (TpuEff nD τ sig (Elt F) Λ₀ (.scVector ((L 0).castLE hcore0) ((L 1).castLE hsub0))) PUnit.{1}} {Q : PUnit.{1} → sProp 𝕄} :
    iprop((sA).view.loc (V d (cV L) (jV L)) ↦{fullShare} fa) ⊢ iprop(((sC).view.loc (V d (cV L) (jV L)) ↦{fullShare} fc)
        -∗ ((sO).view.loc (V d (cV L) (jV L)) ↦{fullShare} fo)
        -∗ (∀ f' : Buf (Elt F) ((vt d L).loc cc0_scratch2), ⌜∀ j : S160x48.Idx, f' j = outAt fa fc (j 0).val (j 1).val⌝
          -∗ ((sA).view.loc (V d (cV L) (jV L)) ↦{fullShare} fa) -∗ ((sC).view.loc (V d (cV L) (jV L)) ↦{fullShare} fc)
          -∗ ((sO).view.loc (V d (cV L) (jV L)) ↦{fullShare} f')
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
          (Scf.Loop.for k0_t2_loop (k0_t2_ok L t h) ⟨⟩ (k0_t2_body L xV (Memref.isWhole_whole _) cV' (Memref.isWhole_whole _) oV (Memref.isWhole_whole _)
            sA (Memref.isWhole_whole _) sB (Memref.isWhole_whole _) sO (Memref.isWhole_whole _) sC (Memref.isWhole_whole _)
            cc0_scratch4 cc0_scratch5 cc0_scratch6 cc0_scoped0 lanes t h (broadcast S16 0#32) hk) >>= kk) Q) := by
  iintro Ha Hc Ho Hk
  ihave Ha' := (Entails.of_eq (at_A d L _)) $$ Ha
  ihave Hc' := (Entails.of_eq (at_C d L _)) $$ Hc
  ihave Ho' := (Entails.of_eq (at_O d L _)) $$ Ho
  iapply (wp_rows d L (k0_cond3 L _) h sA sO sC _ _ k0_t2_loop _ trips2 _ lanes_val (fun _ => rfl) hk
    (fun i => t2_eq L _ _ _ _ _ _ _ _ _ _ _ _ _ _ _ _ _ _ _ _ h _ hk i) fo) $$ [Ha' Hc' Ho']
  · isplitl [Ha']; · iexact Ha'
    isplitl [Hc']; · iexact Hc'
    iexact Ho'
  iintro %f' %hf Ha' Hc' Ho'
  iapply Hk $$ %f' [] [Ha'] [Hc'] [Ho']
  · ipureintro
    intro j
    have h := hf j (show (j 0).val < 16 * 10 from (j 0).isLt)
    rw [rd_O, rd_A, rd_C] at h
    exact h
  · iapply (Entails.of_eq (at_A d L _).symm); iexact Ha'
  · iapply (Entails.of_eq (at_C d L _).symm); iexact Hc'
  · iapply (Entails.of_eq (at_O d L _).symm); iexact Ho'

/-- The loop over a block's groups, the block in the second buffer. -/
theorem run_rows3 (t : Fin (k0_t1_loop L).trips) (h : k0_cond5 L t = 1#1) (hk : k0_chk292 L t (broadcast S16 0#32))
    (fa : Buf (Elt F) ((vt d L).loc cc0_scratch1)) (fc : Buf (Elt F) ((vt d L).loc cc0_scratch3)) (fo : Buf (Elt F) ((vt d L).loc cc0_scratch2))
    {kk : Unit → Prog (TpuEff nD τ sig (Elt F) Λ₀ (.scVector ((L 0).castLE hcore0) ((L 1).castLE hsub0))) PUnit.{1}} {Q : PUnit.{1} → sProp 𝕄} :
    iprop((sB).view.loc (V d (cV L) (jV L)) ↦{fullShare} fa) ⊢ iprop(((sC).view.loc (V d (cV L) (jV L)) ↦{fullShare} fc)
        -∗ ((sO).view.loc (V d (cV L) (jV L)) ↦{fullShare} fo)
        -∗ (∀ f' : Buf (Elt F) ((vt d L).loc cc0_scratch2), ⌜∀ j : S160x48.Idx, f' j = outAt fa fc (j 0).val (j 1).val⌝
          -∗ ((sB).view.loc (V d (cV L) (jV L)) ↦{fullShare} fa) -∗ ((sC).view.loc (V d (cV L) (jV L)) ↦{fullShare} fc)
          -∗ ((sO).view.loc (V d (cV L) (jV L)) ↦{fullShare} f')
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
          (Scf.Loop.for k0_t3_loop (k0_t3_ok L t h) ⟨⟩ (k0_t3_body L xV (Memref.isWhole_whole _) cV' (Memref.isWhole_whole _) oV (Memref.isWhole_whole _)
            sA (Memref.isWhole_whole _) sB (Memref.isWhole_whole _) sO (Memref.isWhole_whole _) sC (Memref.isWhole_whole _)
            cc0_scratch4 cc0_scratch5 cc0_scratch6 cc0_scoped0 lanes t h (broadcast S16 0#32) hk) >>= kk) Q) := by
  iintro Ha Hc Ho Hk
  ihave Ha' := (Entails.of_eq (at_B d L _)) $$ Ha
  ihave Hc' := (Entails.of_eq (at_C d L _)) $$ Hc
  ihave Ho' := (Entails.of_eq (at_O d L _)) $$ Ho
  iapply (wp_rows d L (k0_cond5 L _) h sB sO sC _ _ k0_t3_loop _ trips3 _ lanes_val (fun _ => rfl) hk
    (fun i => t3_eq L _ _ _ _ _ _ _ _ _ _ _ _ _ _ _ _ _ _ _ _ h _ hk i) fo) $$ [Ha' Hc' Ho']
  · isplitl [Ha']; · iexact Ha'
    isplitl [Hc']; · iexact Hc'
    iexact Ho'
  iintro %f' %hf Ha' Hc' Ho'
  iapply Hk $$ %f' [] [Ha'] [Hc'] [Ho']
  · ipureintro
    intro j
    have h := hf j (show (j 0).val < 16 * 10 from (j 0).isLt)
    rw [rd_O, rd_B, rd_C] at h
    exact h
  · iapply (Entails.of_eq (at_B d L _).symm); iexact Ha'
  · iapply (Entails.of_eq (at_C d L _).symm); iexact Hc'
  · iapply (Entails.of_eq (at_O d L _).symm); iexact Ho'

/-- No row lies in a block past the last. -/
theorem rows_empty {k : ℕ} (h : 60 ≤ k) : rows k = ∅ := by
  refine Finset.filter_eq_empty_iff.mpr fun j _ e => ?_
  have : (j 0).val < 9600 := (j 0).isLt
  omega

/-- The block the groups leave, over what the fetches brought. -/
theorem filled {A : S160x240.Idx → F .f32} {G : S48.Idx → F .f32}
    {a : S160x240.Idx → F .f32} {g : S48.Idx → F .f32} (hA : A = a) (hG : G = g) {f : S160x48.Idx → F .f32}
    (hf : ∀ j : S160x48.Idx, f j = outAt A G (j 0).val (j 1).val) (j : S160x48.Idx) : f j = outAt a g (j 0).val (j 1).val := by
  rw [hf, hA, hG]

/-- What a tile holds, its two blocks of the result at `f`: read shares of the argument and of the weights, its buffers and its semaphores. -/
def holds (q q1 q2 : PosShare TreeShare) (X : Buf (Elt F) (xLoc d)) (C : Buf (Elt F) (gLoc d)) (f : Buf (Elt F) (oLoc d)) : sProp 𝕄 :=
  iprop(((xV).view.loc (V d (cV L) (jV L)) ↦{q1} X) ∗ ((xV).view.loc (V d (cV L) (jV L)) ↦{q2} X)
      ∗ ((cV').view.loc (V d (cV L) (jV L)) ↦{q} C)
      ∗ ((oV).view.loc (V d (cV L) (jV L)) ↦[rows (blk L)]{fullShare} f)
      ∗ ((oV).view.loc (V d (cV L) (jV L)) ↦[rows (blk L + 32)]{fullShare} f)
      ∗ (∃ f, (sA).view.loc (V d (cV L) (jV L)) ↦{fullShare} f)
      ∗ (∃ f, (sB).view.loc (V d (cV L) (jV L)) ↦{fullShare} f)
      ∗ (∃ f, (sO).view.loc (V d (cV L) (jV L)) ↦{fullShare} f)
      ∗ (∃ f, (sC).view.loc (V d (cV L) (jV L)) ↦{fullShare} f)
      ∗ semVal (V d (cV L) (jV L), SemLoc.dma cc0_scratch4.sem) 0
      ∗ semVal (V d (cV L) (jV L), SemLoc.dma cc0_scratch5.sem) 0
      ∗ semVal (V d (cV L) (jV L), SemLoc.dma cc0_scratch6.sem) 0
      ∗ semVal (V d (cV L) (jV L), SemLoc.dma cc0_scoped0.sem) 0)

/-- A tile's task: its blocks of the result end at what is wanted. -/
theorem tile_body (q q1 q2 : PosShare TreeShare) (X : Buf (Elt F) (xLoc d)) (C : Buf (Elt F) (gLoc d)) (f : Buf (Elt F) (oLoc d))
    (O : CellTallies nD τ sig (HIx 1)) (W : Waits sig (HIx 1)) (hO : ∀ g, O g none = 0) :
    iprop(levAts (K (F := F)).L (K (F := F)).lev ∗ holds d L q q1 q2 X C f ∗ owes (V d (cV L) (jV L)) O W)
      ⊢ wp frame (wpE (defs₀ (F := F)) 𝒱₀ (V d (cV L) (jV L)) none) Set.univ
          (cc0__sc_body L xV (Memref.isWhole_whole _) cV' (Memref.isWhole_whole _) oV (Memref.isWhole_whole _)
            sA (Memref.isWhole_whole _) sB (Memref.isWhole_whole _) sO (Memref.isWhole_whole _) sC (Memref.isWhole_whole _)
            cc0_scratch4 cc0_scratch5 cc0_scratch6 cc0_scoped0)
          fun _ => iprop(holds d L q q1 q2 X C (want X C) ∗ ∃ W', ⌜∀ p ∈ W', p ∈ W ∨ p.2 = none⌝ ∗ owes (V d (cV L) (jV L)) O W') := by
  unfold holds
  have hc1 := cond1_all L
  have ht1 := trips1 L
  have ht4 := trips4 L
  rw [cc0__sc_body_eq_skeleton]; unfold cc0__sc_body_skel
  rw [k0_part133_eq_skeleton]; unfold k0_part133_skel
  iintro ⟨#Hlv, ⟨Hx1, Hx2, Hg, Ho1, Ho2, ⟨%fa, Ha⟩, ⟨%fb, Hb⟩, ⟨%fo, Ho⟩, ⟨%fc, Hc⟩, Hs4, Hs5, Hs6, Hs0⟩, HO⟩
  ihave Hmw := ((K (F := F)).mayWaits_none (thr := V d (cV L) (jV L)) hO) $$ Hlv
  sl_exec
  rw [Scf.for_trips1_bind _ _ ht1]
  let t : Fin (k0_t1_loop L).trips := ⟨0, ht1 ▸ Nat.zero_lt_one⟩
  have hc3 := cond3_all L ⟨0, ht1 ▸ Nat.zero_lt_one⟩
  have hc4 := cond4_none L ⟨0, ht1 ▸ Nat.zero_lt_one⟩
  have hk4 : k0_chk4 L ⟨0, ht1 ▸ Nat.zero_lt_one⟩ (broadcast S16 0#32) := zero_ok
  have hk292 : k0_chk292 L ⟨0, ht1 ▸ Nat.zero_lt_one⟩ (broadcast S16 0#32) := zero_ok
  unfold k0_t1_body
  have hb := blk_lt L
  ihave Ho1 := (Entails.of_eq (pts_oW d L (off4_blk L _) (k0_off4_inb L ⟨0, ht1 ▸ Nat.zero_lt_one⟩ hc3) f)) $$ Ho1
  by_cases hL : blk L < 28
  · have hc2 := (cond2_iff L ⟨0, ht1 ▸ Nat.zero_lt_one⟩).mpr hL
    have hc5 := (cond5_iff L ⟨0, ht1 ▸ Nat.zero_lt_one⟩).mpr hL
    sl_exec
    rw [Prog.bind_assoc]
    iapply (run_rows2 d L ⟨0, ht1 ▸ Nat.zero_lt_one⟩ hc3 hk4 _ _ _) $$ Ha Hc Ho
    iintro %fo1 %hfo1 Ha Hc Ho
    sl_exec
    rw [Prog.bind_assoc]
    iapply (run_rows3 d L ⟨0, ht1 ▸ Nat.zero_lt_one⟩ hc5 hk292 _ _ _) $$ Hb Hc Ho
    iintro %fo2 %hfo2 Hb Hc Ho
    ihave Ho2 := (Entails.of_eq (pts_oW d L (off7_blk L _) (k0_off7_inb L ⟨0, ht1 ▸ Nat.zero_lt_one⟩ hc5) f)) $$ Ho2
    sl_exec
    sl_step
    ihave Ho1 := (lands d L (off4_blk L _) (k0_off4_inb L ⟨0, ht1 ▸ Nat.zero_lt_one⟩ hc3) (off1_blk L) (k0_off1_inb L hc1)
      (by omega) X C _ _) $$ Ho1 []
    · ipureintro; exact filled (View.write_whole_univ _ _ _) (View.write_whole_univ _ _ _) hfo1
    ihave Ho2 := (lands d L (off7_blk L _) (k0_off7_inb L ⟨0, ht1 ▸ Nat.zero_lt_one⟩ hc5) (off2_blk L ⟨0, ht1 ▸ Nat.zero_lt_one⟩)
      (k0_off2_inb L ⟨0, ht1 ▸ Nat.zero_lt_one⟩ hc2)
      (by omega) X C _ _) $$ Ho2 []
    · ipureintro; exact filled (View.write_whole_univ _ _ _) (View.write_whole_univ _ _ _) hfo2
    isplitr [HO]
    swap
    · iexists _; isplitr
      swap
      · iexact HO
      ipureintro
      intro p hp
      simp only [Finset.mem_insert] at hp
      repeat' rcases hp with hp | hp
      all_goals first | exact Or.inr rfl | exact Or.inl ‹_›
    isplitl [Hx1]; · iexact Hx1
    isplitl [Hx2]; · iexact Hx2
    isplitl [Hg]; · iexact Hg
    isplitl [Ho1]; · iexact Ho1
    isplitl [Ho2]; · iexact Ho2
    isplitl [Ha]; · iexists _; iexact Ha
    isplitl [Hb]; · iexists _; iexact Hb
    isplitl [Ho]; · iexists _; iexact Ho
    isplitl [Hc]; · iexists _; iexact Hc
    isplitl [Hs4]; · iexact Hs4
    isplitl [Hs5]; · iexact Hs5
    isplitl [Hs6]; · iexact Hs6
    iexact Hs0
  · have hc2 := fun h => hL ((cond2_iff L ⟨0, ht1 ▸ Nat.zero_lt_one⟩).mp h)
    have hc5 := fun h => hL ((cond5_iff L ⟨0, ht1 ▸ Nat.zero_lt_one⟩).mp h)
    sl_exec
    rw [Prog.bind_assoc]
    iapply (run_rows2 d L ⟨0, ht1 ▸ Nat.zero_lt_one⟩ hc3 hk4 _ _ _) $$ Ha Hc Ho
    iintro %fo1 %hfo1 Ha Hc Ho
    sl_exec
    sl_step
    ihave Ho1 := (lands d L (off4_blk L _) (k0_off4_inb L ⟨0, ht1 ▸ Nat.zero_lt_one⟩ hc3) (off1_blk L) (k0_off1_inb L hc1)
      (by omega) X C
      (View.junk ((oV).slice (Rect.unit (s := S9600x48) (k0_off4 L ⟨0, ht1 ▸ Nat.zero_lt_one⟩) S160x48.size (k0_off4_inb L ⟨0, ht1 ▸ Nat.zero_lt_one⟩ hc3)) (fun _ => rfl)).view)
      _) $$ Ho1 []
    · ipureintro; exact filled (View.write_whole_univ _ _ _) (View.write_whole_univ _ _ _) hfo1
    ihave Ho2 := (Entails.of_eq (pointsTo_congr (g := want X C) fun i hi => absurd (rows_empty (k := blk L + 32) (by omega) ▸ hi) (Finset.notMem_empty i))) $$ Ho2
    isplitr [HO]
    swap
    · iexists _; isplitr
      swap
      · iexact HO
      ipureintro
      intro p hp
      simp only [Finset.mem_insert] at hp
      repeat' rcases hp with hp | hp
      all_goals first | exact Or.inr rfl | exact Or.inl ‹_›
    isplitl [Hx1]; · iexact Hx1
    isplitl [Hx2]; · iexact Hx2
    isplitl [Hg]; · iexact Hg
    isplitl [Ho1]; · iexact Ho1
    isplitl [Ho2]; · iexact Ho2
    isplitl [Ha]; · iexists _; iexact Ha
    isplitl [Hb]; · iexists _; iexact Hb
    isplitl [Ho]; · iexists _; iexact Ho
    isplitl [Hc]; · iexists _; iexact Hc
    isplitl [Hs4]; · iexact Hs4
    isplitl [Hs5]; · iexact Hs5
    isplitl [Hs6]; · iexact Hs6
    iexact Hs0

end Tile

end Cert.KernelIdeal.Seg

end
-- ==== Proof.Deal.lean ====
module

public import proofs.«01_k».proof.Proof.Tile

@[expose] public section

noncomputable section

namespace Cert.KernelIdeal.Seg

open Idealize.ShloMosaic Idealize.ShloMosaic.TcCoe Idealize.SL.Sem
open Idealize.ShloMosaic.SparseCore (S V T)
open Idealize.ShloMosaic.SparseCore.Cfg (HIx Pay mem_ownCells)
open Idealize.ShloMosaic.Transfers (pointsTo_deal)
open Idealize.SL Idealize.SL.RA Idealize.SL.BI
open scoped Idealize.SL.BI
open Idealize.SL.BI.BIBase Idealize.SL.BI.Laws Idealize.SL.ProofMode
open Idealize.ShloMosaic.Rounds
open Cert.KernelIdeal.Gen

variable {F : FTy → Type} [FloatOps F]

local notation "𝕄" => MT nD τ sig (HIx 1) (Elt F) ℕ UU ℕ

/-! ## The arrays dealt to the SparseCores and their tiles -/

/-- The tile's coordinates in the kernel's grid. -/
def coords (c : Fin (grid0.bound 0)) (i : Fin (grid0.bound 1)) : grid0.Coords :=
  fun | 0 => c | 1 => i | ⟨_ + 2, h⟩ => absurd h (Nat.not_lt.2 (Nat.le_add_left _ _))

theorem blk_coords (c : Fin (grid0.bound 0)) (i : Fin (grid0.bound 1)) : blk (coords c i) = 2 * i.val + c.val := rfl

/-- The share of an operand a core reads under, and the share one of its tiles does. -/
abbrev coreShare (c : Fin 2) : PosShare TreeShare := Transfers.dealOf fullShare Finset.univ c
abbrev tileShare (c : Fin 2) (i : Fin 16) : PosShare TreeShare := Transfers.dealOf (coreShare c) Finset.univ i
abbrev fetchShare (c : Fin 2) (i : Fin 16) (k : Fin 2) : PosShare TreeShare := Transfers.dealOf (tileShare c i) Finset.univ k

/-- The rows of a core: every other block of 160. -/
def coreRows (c : ℕ) : Finset S9600x48.Idx := Finset.univ.filter fun j => (j 0).val / 160 % 2 = c

theorem rows_disjoint {a b : ℕ} (h : a ≠ b) : Disjoint (rows a) (rows b) :=
  Finset.disjoint_left.mpr fun j ha hb => h ((Finset.mem_filter.mp ha).2.symm.trans (Finset.mem_filter.mp hb).2)

/-- The block a core's tile takes on its `k`-th turn. -/
abbrev turn (c : ℕ) (p : Fin 16 × Fin 2) : ℕ := 2 * p.1.val + c + 32 * p.2.val

/-- A core's rows are its tiles' blocks, -/
theorem coreRows_eq (c : Fin 2) : coreRows c = (Finset.univ : Finset (Fin 16 × Fin 2)).biUnion fun p => rows (turn c p) := by
  ext j
  have hj : (j 0).val < 9600 := (j 0).isLt
  simp only [coreRows, rows, Finset.mem_filter, Finset.mem_univ, true_and, Finset.mem_biUnion]
  constructor
  · intro h
    refine ⟨(⟨(j 0).val / 160 / 2 % 16, Nat.mod_lt _ (by decide)⟩, ⟨(j 0).val / 160 / 2 / 16, by omega⟩), ?_⟩
    show _ = 2 * ((j 0).val / 160 / 2 % 16) + c.val + 32 * ((j 0).val / 160 / 2 / 16)
    omega
  · rintro ⟨p, h⟩
    have := c.isLt
    have h' : (j 0).val / 160 = 2 * p.1.val + c.val + 32 * p.2.val := h
    omega

/-- and the two cores' rows are all of them. -/
theorem cores_eq : (Finset.univ : Finset S9600x48.Idx) = (Finset.univ : Finset (Fin 2)).biUnion fun c => coreRows c.val := by
  ext j
  simp only [coreRows, Finset.mem_filter, Finset.mem_univ, true_and, Finset.mem_biUnion, true_iff]
  exact ⟨⟨(j 0).val / 160 % 2, Nat.mod_lt _ (by decide)⟩, rfl⟩

theorem turn_ne (c : ℕ) {p p' : Fin 16 × Fin 2} (h : p ≠ p') : turn c p ≠ turn c p' := by
  intro e
  have e' : 2 * p.1.val + c + 32 * p.2.val = 2 * p'.1.val + c + 32 * p'.2.val := e
  have h1 := p.1.isLt; have h2 := p'.1.isLt; have h3 := p.2.isLt; have h4 := p'.2.isLt
  exact h (Prod.ext (Fin.ext (by omega)) (Fin.ext (by omega)))

section Pay

variable (d : Dev nD) (X : Buf (Elt F) (xLoc d)) (C : Buf (Elt F) (gLoc d))

/-- What a core is handed, the result's rows at `f`. -/
def coreHolds (c : Fin 2) (f : Buf (Elt F) (oLoc d)) : sProp 𝕄 :=
  iprop((xLoc d ↦{coreShare c} X) ∗ (gLoc d ↦{coreShare c} C) ∗ (oLoc d ↦[coreRows c.val]{fullShare} f))

/-- What one of its tiles is. -/
def tileHolds (c : Fin 2) (i : Fin 16) (f : Buf (Elt F) (oLoc d)) : sProp 𝕄 :=
  iprop((xLoc d ↦{tileShare c i} X) ∗ (gLoc d ↦{tileShare c i} C)
    ∗ (bigSep Finset.univ fun k : Fin 2 => (oLoc d ↦[rows (turn c.val (i, k))]{fullShare} f)))

theorem rows_cores (f : Buf (Elt F) (oLoc d)) :
    (oLoc d ↦{fullShare} f : sProp 𝕄) = bigSep Finset.univ fun c : Fin 2 => (oLoc d ↦[coreRows c.val]{fullShare} f) := by
  have h := pointsTo_biUnion (ℓ := oLoc d) (q := fullShare) (f := f) (Ix := HIx 1) (Name := ℕ) (U := UU) (Lvl := ℕ) (Finset.univ : Finset (Fin 2))
    (fun c => coreRows c.val)
    (fun c _ c' _ h => Finset.disjoint_left.mpr fun j ha hb =>
      h (Fin.ext ((Finset.mem_filter.mp ha).2.symm.trans (Finset.mem_filter.mp hb).2)))
  refine (congrArg (fun S : Finset (Idx (oLoc d)) => (oLoc d ↦[S]{fullShare} f : sProp 𝕄)) ?_).trans h
  refine Finset.ext fun j => ?_
  rw [Finset.mem_biUnion]
  exact (Finset.ext_iff.mp cores_eq j).trans Finset.mem_biUnion

theorem rows_tiles (c : Fin 2) (f : Buf (Elt F) (oLoc d)) :
    (oLoc d ↦[coreRows c.val]{fullShare} f : sProp 𝕄)
      = bigSep Finset.univ fun i : Fin 16 => bigSep Finset.univ fun k : Fin 2 => (oLoc d ↦[rows (turn c.val (i, k))]{fullShare} f) := by
  have h := pointsTo_biUnion (ℓ := oLoc d) (q := fullShare) (f := f) (Ix := HIx 1) (Name := ℕ) (U := UU) (Lvl := ℕ)
    (Finset.univ : Finset (Fin 16 × Fin 2))
    (fun p => rows (turn c.val p)) (fun p _ p' _ h => rows_disjoint (turn_ne c.val h))
  refine ((congrArg (fun S : Finset (Idx (oLoc d)) => (oLoc d ↦[S]{fullShare} f : sProp 𝕄)) ?_).trans h).trans (bigSep_univ_prod _)
  refine Finset.ext fun j => ?_
  rw [Finset.mem_biUnion]
  exact (Finset.ext_iff.mp (coreRows_eq c) j).trans Finset.mem_biUnion

/-- The arrays go to the cores in shares and rows, and come back the same way. -/
theorem deal_cores (f : Buf (Elt F) (oLoc d)) :
    iprop((xLoc d ↦{fullShare} X) ∗ (gLoc d ↦{fullShare} C) ∗ (oLoc d ↦{fullShare} f))
      = (bigSep Finset.univ fun c : Fin 2 => coreHolds d X C c f : sProp 𝕄) := by
  unfold coreHolds
  rw [bigSep_sep', bigSep_sep', ← pointsTo_deal Finset.univ ⟨0, Finset.mem_univ _⟩, ← pointsTo_deal Finset.univ ⟨0, Finset.mem_univ _⟩,
    rows_cores]

/-- A core's holding goes to its tiles. -/
theorem deal_tiles (c : Fin 2) (f : Buf (Elt F) (oLoc d)) :
    coreHolds d X C c f = (bigSep Finset.univ fun i : Fin 16 => tileHolds d X C c i f : sProp 𝕄) := by
  unfold coreHolds tileHolds
  rw [bigSep_sep', bigSep_sep', ← pointsTo_deal Finset.univ ⟨0, Finset.mem_univ _⟩, ← pointsTo_deal Finset.univ ⟨0, Finset.mem_univ _⟩,
    rows_tiles]

/-- A tile's argument in the two shares its fetches read under, its two turns apart. -/
theorem tileHolds_eq (c : Fin 2) (i : Fin 16) (f : Buf (Elt F) (oLoc d)) :
    (tileHolds d X C c i f : sProp 𝕄)
      = iprop(((xLoc d ↦{fetchShare c i 0} X) ∗ (xLoc d ↦{fetchShare c i 1} X)) ∗ (gLoc d ↦{tileShare c i} C)
          ∗ (oLoc d ↦[rows (2 * i.val + c.val)]{fullShare} f) ∗ (oLoc d ↦[rows (2 * i.val + c.val + 32)]{fullShare} f)) := by
  unfold tileHolds
  rw [pointsTo_deal Finset.univ ⟨(0 : Fin 2), Finset.mem_univ _⟩ (tileShare c i) (f := X), bigSep_univ_two, bigSep_univ_two]
  rfl

end Pay

end Cert.KernelIdeal.Seg

end
-- ==== Proof.Launch.lean ====
module

public import proofs.«01_k».proof.Proof.Deal

@[expose] public section

noncomputable section

namespace Cert.KernelIdeal.Seg

open Idealize.ShloMosaic Idealize.ShloMosaic.TcCoe Idealize.SL.Sem
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode
open Idealize.ShloMosaic.Rounds
open Cert.KernelIdeal.Gen

variable {F : FTy → Type} [FloatOps F]

local notation "𝕄" => MT nD τ sig (HIx 1) (Elt F) ℕ UU ℕ

/-! ## A tile's own semaphores and buffers -/

section Own

variable (d : Dev nD) (L : grid0.Coords)

abbrev cell (d : Dev nD) (L : grid0.Coords) (s : DmaSem sig) : GSem nD τ sig := (V d (cV L) (jV L), SemLoc.dma s)

/-- The kernel's four semaphores are among the tile's own: they are them, at zero, and the rest. -/
theorem ownSems0_tile :
    (ownSems0 (V d (cV L) (jV L)) : sProp 𝕄)
      = iprop(semVal (cell d L cc0_scratch4.sem) 0 ∗ semVal (cell d L cc0_scratch5.sem) 0
          ∗ semVal (cell d L cc0_scratch6.sem) 0 ∗ semVal (cell d L cc0_scoped0.sem) 0
          ∗ bigSep (((((ownCells (V d (cV L) (jV L))).erase (cell d L cc0_scratch4.sem)).erase (cell d L cc0_scratch5.sem)).erase
              (cell d L cc0_scratch6.sem)).erase (cell d L cc0_scoped0.sem)) fun g => semVal g 0) := by
  have mem : ∀ s : DmaSem sig, (SemLoc.dma s : SemLoc sig).isScoped .scVector = true → cell d L s ∈ ownCells (V d (cV L) (jV L)) :=
    fun s h => mem_ownCells.mpr ⟨rfl, h⟩
  have ne : ∀ s s' : DmaSem sig, s ≠ s' → cell d L s ≠ cell d L s' := fun s s' h e => h (SemLoc.dma.inj (Prod.mk.inj e).2)
  unfold SparseCore.Cfg.ownSems0
  rw [SparseCore.bigSep_erase' (mem cc0_scratch4.sem (by decide)),
    SparseCore.bigSep_erase' (Finset.mem_erase.mpr ⟨ne cc0_scratch5.sem cc0_scratch4.sem (by decide), mem cc0_scratch5.sem (by decide)⟩),
    SparseCore.bigSep_erase' (Finset.mem_erase.mpr ⟨ne cc0_scratch6.sem cc0_scratch5.sem (by decide),
      Finset.mem_erase.mpr ⟨ne cc0_scratch6.sem cc0_scratch4.sem (by decide), mem cc0_scratch6.sem (by decide)⟩⟩),
    SparseCore.bigSep_erase' (Finset.mem_erase.mpr ⟨ne cc0_scoped0.sem cc0_scratch6.sem (by decide),
      Finset.mem_erase.mpr ⟨ne cc0_scoped0.sem cc0_scratch5.sem (by decide),
        Finset.mem_erase.mpr ⟨ne cc0_scoped0.sem cc0_scratch4.sem (by decide), mem cc0_scoped0.sem (by decide)⟩⟩⟩)]

abbrev own (L : grid0.Coords) (b : Ref sig .scVector) : DevRef τ sig := (Proc.scVector (cV L) (jV L)).devRef b

/-- The kernel's four scratch buffers are among the tile's own: they are them, at some contents, and the rest. -/
theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (own L cc0_scratch0)).erase (own L cc0_scratch1)).erase
              (own L cc0_scratch2)).erase (own L cc0_scratch3)) fun b => iprop(∃ f, ((d, b) : Loc nD τ sig) ↦{fullShare} f)) := by
  have ne : ∀ b b' : Ref sig .scVector, b ≠ b' → own L b ≠ own L b' := fun b b' h e => h (Proc.devRef_injective _ e)
  unfold SparseCore.Cfg.ownBufs
  refine (SparseCore.bigSep_erase' (SparseCore.Cfg.mem_ownRefs_of_owner (p := Proc.scVector (cV L) (jV L)) (b := own L cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := own L cc0_scratch1) rfl⟩),
    SparseCore.bigSep_erase' (Finset.mem_erase.mpr ⟨ne cc0_scratch2 cc0_scratch1 (by decide),
      Finset.mem_erase.mpr ⟨ne cc0_scratch2 cc0_scratch0 (by decide),
        SparseCore.Cfg.mem_ownRefs_of_owner (p := Proc.scVector (cV L) (jV L)) (b := own L cc0_scratch2) rfl⟩⟩),
    SparseCore.bigSep_erase' (Finset.mem_erase.mpr ⟨ne cc0_scratch3 cc0_scratch2 (by decide),
      Finset.mem_erase.mpr ⟨ne cc0_scratch3 cc0_scratch1 (by decide),
        Finset.mem_erase.mpr ⟨ne cc0_scratch3 cc0_scratch0 (by decide),
          SparseCore.Cfg.mem_ownRefs_of_owner (p := Proc.scVector (cV L) (jV L)) (b := own L cc0_scratch3) rfl⟩⟩⟩)]

end Own

/-! ## What the handshakes carry -/

theorem nSub_zero : (K (F := F)).nSub 0 = 16 := rfl
theorem nCore_zero : (K (F := F)).nCore 0 = 2 := rfl

section Pay

variable (X : (d : Dev nD) → Buf (Elt F) (xLoc d)) (C : (d : Dev nD) → Buf (Elt F) (gLoc d)) (f : (d : Dev nD) → Buf (Elt F) (oLoc d))

/-- The argument, the segments' factors and the result go out with the result at `f` and come back with it at what is wanted. -/
def P : (K (F := F)).Pay (nD := nD) (Val := Elt F) (Name := ℕ) (U := UU) where
  st := fun q d c => match q with | 0 => coreHolds d (X d) (C d) (Fin.cast nCore_zero c) (f d)
  dn := fun q d c => match q with | 0 => coreHolds d (X d) (C d) (Fin.cast nCore_zero c) (want (X d) (C d))
  go := fun q d c i => match q with | 0 => tileHolds d (X d) (C d) (Fin.cast nCore_zero c) (Fin.cast nSub_zero i) (f d)
  td := fun q d c i => match q with | 0 => tileHolds d (X d) (C d) (Fin.cast nCore_zero c) (Fin.cast nSub_zero i) (want (X d) (C d))
  x := fun _ _ => iprop(emp)

instance coreHolds_storable (d : Dev nD) (X : Buf (Elt F) (xLoc d)) (C : Buf (Elt F) (gLoc d)) (c : Fin 2) (f : Buf (Elt F) (oLoc d)) :
    BI.Storable (upEmb : UEmb _ 𝕄) (coreHolds d X C c f) := by unfold coreHolds; infer_instance
instance tileHolds_storable (d : Dev nD) (X : Buf (Elt F) (xLoc d)) (C : Buf (Elt F) (gLoc d)) (c : Fin 2) (i : Fin 16) (f : Buf (Elt F) (oLoc d)) :
    BI.Storable (upEmb : UEmb _ 𝕄) (tileHolds d X C c i f) := by rw [tileHolds_eq]; infer_instance

instance P_storable : (P X C f).IsStorable where
  st q d c := match q with | 0 => coreHolds_storable d _ _ _ _
  dn q d c := match q with | 0 => coreHolds_storable d _ _ _ _
  go q d c i := match q with | 0 => tileHolds_storable d _ _ _ _ _
  td q d c i := match q with | 0 => tileHolds_storable d _ _ _ _ _

/-! ## The tile's obligation -/

/-- A tile's task from what the launch hands it. -/
theorem tile_task (d : Dev nD) (c : Fin 2) (i : Fin 16) (X : Buf (Elt F) (xLoc d)) (C : Buf (Elt F) (gLoc d)) (f : Buf (Elt F) (oLoc d))
    (O : CellTallies nD τ sig (HIx 1)) (W : Waits sig (HIx 1)) (hO : ∀ g, O g none = 0) :
    iprop(levAts (K (F := F)).L (K (F := F)).lev ∗ emp ∗ tileHolds d X C c i f
        ∗ scopedBufs (V d (cV (coords c i)) (jV (coords c i))) ∗ scopedSems0 (V d (cV (coords c i)) (jV (coords c i)))
        ∗ owes (V d (cV (coords c i)) (jV (coords c i))) O W)
      ⊢ wp frame (wpE (defs₀ (F := F)) 𝒱₀ (V d (cV (coords c i)) (jV (coords c i))) none) Set.univ
          (cc0__sc_body (coords c i) (Memref.whole main_arg0_scv) (Memref.isWhole_whole _) (Memref.whole main_v6_scv) (Memref.isWhole_whole _)
            (Memref.whole main_v7_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scoped0)
          fun _ => iprop(tileHolds d X C c i (want X C)
            ∗ scopedBufs (V d (cV (coords c i)) (jV (coords c i))) ∗ scopedSems0 (V d (cV (coords c i)) (jV (coords c i)))
            ∗ ∃ W', ⌜∀ p ∈ W', p ∈ W ∨ p.2 = none ∨ p.2 = some 0⌝ ∗ owes (V d (cV (coords c i)) (jV (coords c i))) O W') := by
  rw [(K (F := F)).scopedBufs_V facts d (cV (coords c i)) (jV (coords c i)), SparseCore.Cfg.scopedSems0_V (Val := Elt F) d (cV (coords c i)) (jV (coords c i)),
    ownSems0_tile, ownBufs_tile, tileHolds_eq, tileHolds_eq]
  iintro ⟨#Hlv, -, ⟨⟨Hx1, Hx2⟩, Hg, Ho1, Ho2⟩, ⟨Ha, Hb, Ho, Hc, Hbufs⟩, ⟨H4, H5, H6, H0, Hsems⟩, HO⟩
  ihave Hw := (tile_body d (coords c i) (tileShare c i) (fetchShare c i 0) (fetchShare c i 1) X C f O W hO) $$ [Hx1 Hx2 Hg Ho1 Ho2 Ha Hb Ho Hc H4 H5 H6 H0 HO]
  · isplitr; · iexact Hlv
    isplitr [HO]
    · unfold holds
      isplitl [Hx1]; · iexact Hx1
      isplitl [Hx2]; · iexact Hx2
      isplitl [Hg]; · iexact Hg
      isplitl [Ho1]; · iexact Ho1
      isplitl [Ho2]; · iexact Ho2
      isplitl [Ha]; · iexact Ha
      isplitl [Hb]; · iexact Hb
      isplitl [Ho]; · iexact Ho
      isplitl [Hc]; · iexact Hc
      isplitl [H4]; · iexact H4
      isplitl [H5]; · iexact H5
      isplitl [H6]; · iexact H6
      iexact H0
    · iexact HO
  iapply (wp_wand frame _ _) $$ Hw
  iintro %u ⟨Hh, %W', %hW', HO⟩
  unfold holds
  icases Hh with ⟨Hx1, Hx2, Hg, Ho1, Ho2, Ha, Hb, Ho, Hc, H4, H5, H6, H0⟩
  isplitl [Hx1 Hx2 Hg Ho1 Ho2]
  · isplitl [Hx1 Hx2]
    · isplitl [Hx1]; · iexact Hx1
      iexact Hx2
    isplitl [Hg]; · iexact Hg
    isplitl [Ho1]; · iexact Ho1
    iexact Ho2
  isplitl [Ha Hb Ho Hc Hbufs]
  · isplitl [Ha]; · iexact Ha
    isplitl [Hb]; · iexact Hb
    isplitl [Ho]; · iexact Ho
    isplitl [Hc]; · iexact Hc
    iexact Hbufs
  isplitl [H4 H5 H6 H0 Hsems]
  · isplitl [H4]; · iexact H4
    isplitl [H5]; · iexact H5
    isplitl [H6]; · iexact H6
    isplitl [H0]; · iexact H0
    iexact Hsems
  iexists W'; isplitr
  · ipureintro; exact fun p hp => (hW' p hp).imp_right Or.inl
  iexact HO

theorem defs₀_tile (c : Fin τ.nSC) (s : Fin τ.nSub) :
    defs₀ (F := F) (.scVector c s) 0 ()
      = SparseCore.onTile hcore0 hsub0 (fun c s => cc0__sc_body (coords c s) (Memref.whole main_arg0_scv) (Memref.isWhole_whole _)
          (Memref.whole main_v6_scv) (Memref.isWhole_whole _)
          (Memref.whole main_v7_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scoped0) ⟨⟩ c s := rfl

theorem tileObl : (K (F := F)).TileObl (D (F := F)) 𝒱 (P X C f) v₀ 0 := by
  intro d c i O W hO _ _
  simp only [show (P X C f).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact tile_task d (Fin.cast nCore_zero c) (Fin.cast nSub_zero i) (X d) (C d) (f d) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P X C f) 0 := by
  intro d c
  show coreHolds d (X d) (C d) (Fin.cast nCore_zero c) (f d) ⊢ |={Set.univ}=> iprop(
      (bigSep Finset.univ fun i : Fin ((K (F := F)).nSub 0) => tileHolds d (X d) (C d) (Fin.cast nCore_zero c) (Fin.cast nSub_zero i) (f d))
      ∗ ((bigSep Finset.univ fun i : Fin ((K (F := F)).nSub 0) => tileHolds d (X d) (C d) (Fin.cast nCore_zero c) (Fin.cast nSub_zero i) (want (X d) (C d)))
          -∗ coreHolds d (X d) (C d) (Fin.cast nCore_zero c) (want (X d) (C d))))
  rw [bigSep_tasks (fun i => tileHolds d (X d) (C d) (Fin.cast nCore_zero c) i (f d)),
    bigSep_tasks (fun i => tileHolds d (X d) (C d) (Fin.cast nCore_zero c) i (want (X d) (C d))), ← deal_tiles, ← deal_tiles]
  iintro H; imodintro
  isplitl [H]; · iexact H
  iintro H; iexact H

/-- What the call takes of the TensorCore and gives back. -/
theorem st_eq (d : Dev nD) :
    (bigSep Finset.univ fun c : Fin ((K (F := F)).nCore 0) => (P X C f).st 0 d c)
      = (iprop((xLoc d ↦{fullShare} X d) ∗ (gLoc d ↦{fullShare} C d) ∗ (oLoc d ↦{fullShare} f d)) : sProp 𝕄) :=
  (bigSep_cores (fun c => coreHolds d (X d) (C d) c (f d))).trans (deal_cores d (X d) (C d) (f d)).symm
theorem dn_eq (d : Dev nD) :
    (bigSep Finset.univ fun c : Fin ((K (F := F)).nCore 0) => (P X C f).dn 0 d c)
      = (iprop((xLoc d ↦{fullShare} X d) ∗ (gLoc d ↦{fullShare} C d) ∗ (oLoc d ↦{fullShare} want (X d) (C d))) : sProp 𝕄) :=
  (bigSep_cores (fun c => coreHolds d (X d) (C d) c (want (X d) (C d)))).trans (deal_cores d (X d) (C d) (want (X d) (C d))).symm

/-! ## The launch element -/

abbrev adm : (p : Fin 1) → (pcfgs (F := F) p).Adm := fun p => (cfgs p).toPCfg_adm
abbrev pins : Fin 1 → Pipeline.Cfg sig Λ₀ := Pipeline.pin (pcfgs (F := F)) adm

/-- What a device's TensorCore region is funded with. -/
def G (d : Dev nD) : sProp 𝕄 :=
  iprop((bigSep Finset.univ fun p => Pipeline.cellsGhost (pins (F := F)) (EP (F := F)) p d) ∗ bigSep Finset.univ fun p => Pipeline.toksInit (pins (F := F)) (EP (F := F)) p d)

def u₀ : UU :=
  (initOf (K (F := F)).hsCells (K (F := F)).hsToks,
    (initOf (Pipeline.cells (pins (F := F)) cellOf_inj) (Pipeline.launchToks (pins (F := F)) cellOf_inj), 1))

theorem ownU_split (a : UH) (b : UP × Counters) : (ownU (a, b) : sProp 𝕄) ⊢ iprop(BI.own (EH a) ∗ BI.own ((embR : Emb (UP × Counters) 𝕄) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem bigSep_none {I : Type} (s : Finset I) : (bigSep s fun _ => iprop(emp)) = (iprop(emp) : sProp 𝕄) := bigSep_emp_const s

/-- The launch element gives the handshakes' cells and the regions' rounds. -/
theorem hu₀ : (ownU (u₀ (F := F)) : sProp 𝕄) ⊢ |={Set.univ}=> iprop(BI.own (EH (initOf (K (F := F)).hsCells (K (F := F)).hsToks))
      ∗ (bigSep Finset.univ G)
      ∗ bigSep Finset.univ fun thr : Thread nD τ => bigSep Finset.univ fun q : Fin 1 => (P X C f).x q thr) := by
  unfold u₀
  iintro H
  ihave H' := (ownU_split _ _) $$ H
  icases H' with ⟨HH, HR⟩
  ihave HR' := (own_pair_emb (embR : Emb (UP × Counters) 𝕄) _ _) $$ HR
  icases HR' with ⟨HP, -⟩
  imod (Pipeline.fund_ghost (pins (F := F)) (EP (F := F)) cellOf_inj) $$ HP with ⟨Hg, Ht⟩
  imodintro
  isplitl [HH]; · iexact HH
  isplitl [Hg Ht]
  · unfold G; rw [bigSep_sep']
    isplitl [Hg]; · iexact Hg
    iexact Ht
  · simp only [P, bigSep_none]
    iempintro

end Pay

end Cert.KernelIdeal.Seg

end
-- ==== Proof.Region.lean ====
module

public import proofs.«01_k».proof.Proof.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody

@[expose] public section

noncomputable section

namespace Cert.KernelIdeal.Seg

open Idealize.ShloMosaic Idealize.ShloMosaic.TcCoe Idealize.SL.Sem Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat BodyObligation ucRefs)
open Cert.KernelIdeal.Gen

variable {F : FTy → Type} [FloatOps F]

local notation "𝕄" => MT nD τ sig (HIx 1) (Elt F) ℕ UU ℕ

/-! ## The TensorCore's region -/

abbrev rX : Rect S800x240 := Rect.unit (s := S800x240) ![0, 0] S800x240.size inb_S800x240_S800x240_0_0
abbrev rP : Rect S240x48 := Rect.unit (s := S240x48) ![0, 0] S240x48.size inb_S240x48_S240x48_0_0
abbrev rO : Rect S800x48 := Rect.unit (s := S800x48) ![0, 0] S800x48.size inb_S800x48_S800x48_0_0

/-- What the body leaves in its result's buffer, from its operands' blocks. -/
def tcOut (x : Vec F S800x240 .f32) (p : Vec F S240x48 .f32) : Vec F S800x48 .f32 :=
  View.canon [⟨rO, k1_pay1 (View.ld x rX) (View.ld p rP)⟩]

/-- Its one store covers the buffer. -/
theorem tcOut_cover (p0 : Vec F S800x48 .f32) (y : S800x48.Idx) :
    ∃ pc ∈ ([⟨rO, p0⟩] : List (View.Piece (Elt F) S800x48 .f32)), y ∈ pc.1.set :=
  View.cover_of_tiled [⟨rO, p0⟩] S800x48.size (by rfl) y

/-- The body on whole buffers. -/
theorem tc_body (c : Dev nD) (i : grid1.Coords) (a1 : Memref sig .tc .vmem S800x240 .f32) (h1 : a1.IsWhole)
    (a2 : Memref sig .tc .vmem S240x48 .f32) (h2 : a2.IsWhole) (a3 : Memref sig .tc .vmem S800x48 .f32) (h3 : a3.IsWhole)
    (x : Vec F S800x240 .f32) (p : Vec F S240x48 .f32) (Q : PUnit.{1} → sProp 𝕄) :
    iprop(owns (c : Thread nD τ) a1 fullShare x ∗ owns (c : Thread nD τ) a2 fullShare p ∗ (∃ d, owns (c : Thread nD τ) a3 fullShare d)
        ∗ (iprop(owns (c : Thread nD τ) a1 fullShare x ∗ owns (c : Thread nD τ) a2 fullShare p ∗ owns (c : Thread nD τ) a3 fullShare (tcOut x p)) -∗ Q ⟨⟩))
      ⊢ wp frame (wpE (defs₀ (F := F)) 𝒱₀ c none) Set.univ (cc1__tc_body i a1 h1 a2 h2 a3 h3) Q := by
  rw [cc1__tc_body_eq_skeleton]; unfold cc1__tc_body_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tcOut_cover _)

section Dats

variable (W : Dev nD → Valuation τ sig (Elt F))

/-- An operand's block at a point, off the contents the region is entered with. -/
abbrev xBlk (c : Dev nD) (t : Fin cfg1.N) : Vec F S800x240 .f32 :=
  ((cfg1.win 0).blk t).view.read (Elt F) (W c (Proc.devRef .tc (Pipeline.arrRef spec1 0)))
abbrev pBlk (c : Dev nD) (t : Fin cfg1.N) : Vec F S240x48 .f32 :=
  ((cfg1.win 1).blk t).view.read (Elt F) (W c (Proc.devRef .tc (Pipeline.arrRef spec1 1)))

/-- The region's proof data: the operands' buffers at their blocks, the result's at the body's. -/
def dats (_ : Fin 1) (c : Dev nD) : Dat τ (Elt F) (HIx 1) ℕ UU ℕ cfg1 c where
  A w := W c (Proc.devRef .tc (Pipeline.arrRef spec1 w))
  after w t := match w with
    | ⟨0, _⟩ => xBlk W c t
    | ⟨1, _⟩ => pBlk W c t
    | ⟨2, _⟩ => tcOut (xBlk W c t) (pBlk W c t)
  Φ _ := iprop(emp)
  q _ := fullShare
  owed _ := 0

theorem A_eq (c : Dev nD) (w : Fin cfg1.W) : (dats W 0 c).A w = W c (Proc.devRef .tc (Pipeline.arrRef spec1 w)) := by dsimp only [dats]
theorem after_0 (c : Dev nD) (t : Fin cfg1.N) : (dats W 0 c).after 0 t = xBlk W c t := by dsimp only [dats]
theorem after_1 (c : Dev nD) (t : Fin cfg1.N) : (dats W 0 c).after 1 t = pBlk W c t := by dsimp only [dats]
theorem after_2 (c : Dev nD) (t : Fin cfg1.N) : (dats W 0 c).after 2 t = tcOut (xBlk W c t) (pBlk W c t) := by dsimp only [dats]

/-- The body finds the argument's block, -/
theorem before_0 (c : Dev nD) (t : Fin cfg1.N) (d) : (dats W 0 c).before 0 t d = xBlk W c t := by
  unfold Dat.before; rw [if_pos (fetch1_0 t)]
  show (dats W 0 c).blockOf 0 t = _
  unfold Dat.blockOf; rw [A_eq]

/-- and the whole of the projection, fetched at the first point and left there. -/
theorem before_1 (c : Dev nD) (t : Fin cfg1.N) (d) : (dats W 0 c).before 1 t d = pBlk W c t := by
  by_cases h : t.val = 0
  · unfold Dat.before; rw [if_pos ((fetch1_1 t).mpr (by rw [h]))]
    show (dats W 0 c).blockOf 1 t = _
    unfold Dat.blockOf; rw [A_eq]
  · have hN : t.val < 113 := t.isLt
    have hf : (cfg1.win 1).fetch t = false := by
      cases hb : (cfg1.win 1).fetch t with
      | false => rfl
      | true => exact absurd ((fetch1_1 t).mp hb) (by rw [Nat.mod_eq_of_lt hN]; exact h)
    rw [Dat.before_of_pos _ 1 t h hf]
    rw [if_neg (by intro hc; exact Bool.noConfusion ((Pipeline.Window.flush_in (cfg1.win 1) rfl _).symm.trans hc))]
    show (dats W 0 c).after 1 _ = _
    rw [after_1]
    rfl

/-- What the body is called with, and what it returns. -/
def tcPre (c : Dev nD) (t : Fin cfg1.N) : sProp 𝕄 :=
  iprop((dats W 0 c).Φ t.castSucc ∗ (dats W 0 c).owesAt none t.castSucc
    ∗ (∃ d, owns (c : Thread nD τ) (st1_0 t) fullShare ((dats W 0 c).before 0 t d))
    ∗ (∃ d, owns (c : Thread nD τ) (st1_1 t) fullShare ((dats W 0 c).before 1 t d))
    ∗ (∃ d, owns (c : Thread nD τ) (st1_2 t) fullShare ((dats W 0 c).before 2 t d)))
def tcPost (c : Dev nD) (t : Fin cfg1.N) : sProp 𝕄 :=
  iprop((dats W 0 c).Φ t.succ ∗ (dats W 0 c).owesAt none t.succ
    ∗ owns (c : Thread nD τ) (st1_0 t) fullShare ((dats W 0 c).after 0 t)
    ∗ owns (c : Thread nD τ) (st1_1 t) fullShare ((dats W 0 c).after 1 t)
    ∗ owns (c : Thread nD τ) (st1_2 t) fullShare ((dats W 0 c).after 2 t))

theorem tc_at (c : Dev nD) (t : Fin cfg1.N) :
    tcPre W c t ⊢ wp frame (wpE (defs₀ (F := F)) 𝒱₀ c none) Set.univ (bodyAt1 t) (fun _ => tcPost W c t) := by
  unfold tcPre tcPost bodyAt1
  simp only [before_0, before_1]
  rw [show (dats W 0 c).Φ t.succ = (dats W 0 c).Φ t.castSucc from rfl,
    show (dats W 0 c).owesAt none t.succ = (dats W 0 c).owesAt none t.castSucc from rfl,
    after_0, after_1, after_2]
  iintro ⟨HΦ, Ho, ⟨%d0, H0⟩, ⟨%d1, H1⟩, ⟨%d2, H2⟩⟩
  iapply (tc_body c _ _ _ _ _ _ _ (xBlk W c t) (pBlk W c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg1.N) : defs₀ (F := F) .tc cfg1.body (cfg1.bodyArgs t (cfg1.slots t)) = bodyAt1 t := rfl

theorem tc_obligation (c : Dev nD) : BodyObligation (dats W 0 c) (defs₀ (F := F)) 𝒱₀ none Set.univ := fun t => by
  rw [bigSep_W1, bigSep_W1, defs₀_row]
  exact triple_restated (tc_at W c t) rfl .rfl fun _ => .rfl

/-- The level the staging cells' waits sit at lies under all the core owes: nothing. -/
theorem levelCut : Pipeline.LevelCut (pcfgs (F := F)) adm (none : HIx 1) (K (F := F)).L (K (F := F)).lev 0 (fun _ : Dev nD => 0) (fun _ => 0) where
  hι c w s := by simp [SparseCore.Cfg.L]
  hιb c w s := le_rfl
  hD c g i h := absurd h (Nat.lt_irrefl 0)

/-- The region as a segment of the program, every other buffer riding by. -/
def region : Pipeline.RegionSeg (pcfgs (F := F)) adm (dats W) (none : HIx 1) defs₀ 𝒱₀ (K (F := F)).L (K (F := F)).lev 0 :=
  Pipeline.RegionSeg.ofHeldIn (pcfgs (F := F)) adm (dats W) none defs₀ 𝒱₀ (K (F := F)).L (K (F := F)).lev 0 (fun _ => 0)
    (ucRefs τ sig) (fun _ => iprop(emp)) (fun _ => iprop(emp)) launch1.toP rfl
    (fun c => (tc_obligation W c).loose) (fun _ _ => rfl) (fun _ => rfl) (fun c => (dats W 0 c).share_full fun _ => rfl)
    (fun c => by
      rw [show Pipeline.scopedRest (Pipeline.pin (pcfgs (F := F)) adm 0).spec c = (iprop(emp) : sProp 𝕄) from scopedRest1_eq c]
      iintro -; iempintro)
    (fun c => by
      rw [show Pipeline.scopedRest (Pipeline.pin (pcfgs (F := F)) adm 0).spec c = (iprop(emp) : sProp 𝕄) from scopedRest1_eq c]
      iintro -; isplitr <;> iempintro)
    (fun _ => 0) levelCut (fun _ => iprop(emp)) W (fun c w => A_eq W c w)

end Dats

end Cert.KernelIdeal.Seg

end
-- ==== Proof.Lines.lean ====
module

public import proofs.«01_k».proof.Proof.Region
public import Idealize.ShloMosaic.Lib.StableHlo.Run

@[expose] public section

noncomputable section

namespace Cert.KernelIdeal.Seg

open Idealize.ShloMosaic Idealize.ShloMosaic.TcCoe Idealize.SL.Sem
open Cert.KernelIdeal.Gen

variable {F : FTy → Type} [FloatOps F]

/-! ## The program's straight lines -/

/-- What the program computes before its SparseCore call: the weights of the segments, gathered at their starts. -/
def pre : List (HloOp τ sig (Elt F)) :=
  [StableHlo.nullary main_c (fun i => lit0 (S48.rowMajor i)),
   StableHlo.nullary main_c_0 (constantI S_ 32 0#32),
   StableHlo.unary main_c_0 main_v0 (broadcastInDim S48 ![] bcast_S_S48 : (⟨S_, .i32⟩ : BufTy).Contents (Elt F) → (⟨S48, .i32⟩ : BufTy).Contents (Elt F)),
   StableHlo.binary main_c main_v0 main_v1 (cmpi .slt : (⟨S48, .i32⟩ : BufTy).Contents (Elt F) → (⟨S48, .i32⟩ : BufTy).Contents (Elt F) → (⟨S48, .i1⟩ : BufTy).Contents (Elt F)),
   StableHlo.nullary main_c_1 (constantI S_ 32 240#32),
   StableHlo.unary main_c_1 main_v2 (broadcastInDim S48 ![] bcast_S_S48 : (⟨S_, .i32⟩ : BufTy).Contents (Elt F) → (⟨S48, .i32⟩ : BufTy).Contents (Elt F)),
   StableHlo.binary main_c main_v2 main_v3 (addi : (⟨S48, .i32⟩ : BufTy).Contents (Elt F) → (⟨S48, .i32⟩ : BufTy).Contents (Elt F) → (⟨S48, .i32⟩ : BufTy).Contents (Elt F)),
   StableHlo.ternary main_v1 main_v3 main_c main_v4 (select : (⟨S48, .i1⟩ : BufTy).Contents (Elt F) → (⟨S48, .i32⟩ : BufTy).Contents (Elt F) → (⟨S48, .i32⟩ : BufTy).Contents (Elt F) → (⟨S48, .i32⟩ : BufTy).Contents (Elt F)),
   StableHlo.unary main_v4 main_v5 (broadcastInDim S48x1 ![0] bcast_S48_S48x1_0 : (⟨S48, .i32⟩ : BufTy).Contents (Elt F) → (⟨S48x1, .i32⟩ : BufTy).Contents (Elt F)),
   StableHlo.binary main_arg1 main_v5 main_v6 ((fun x i => Host.gather gather_S240_S48x1_S48_n_0_n_n_0_1_1 x i) : (⟨S240, .f32⟩ : BufTy).Contents (Elt F) → (⟨S48x1, .i32⟩ : BufTy).Contents (Elt F) → (⟨S48, .f32⟩ : BufTy).Contents (Elt F))]

/-- Between the two calls: the projection. -/
def mid : List (HloOp τ sig (Elt F)) :=
  [StableHlo.unary main_arg2 main_v8 (broadcastInDim S240x1 ![0] bcast_S240_S240x1_0 : (⟨S240, .i32⟩ : BufTy).Contents (Elt F) → (⟨S240x1, .i32⟩ : BufTy).Contents (Elt F)),
   StableHlo.nullary main_v9 (iotaInDim S48 32 0),
   StableHlo.unary main_v9 main_v10 (broadcastInDim S1x48 ![1] bcast_S48_S1x48_1 : (⟨S48, .i32⟩ : BufTy).Contents (Elt F) → (⟨S1x48, .i32⟩ : BufTy).Contents (Elt F)),
   StableHlo.unary main_v8 main_v11 (broadcastInDim S240x48 ![0, 1] bcast_S240x1_S240x48_0_1 : (⟨S240x1, .i32⟩ : BufTy).Contents (Elt F) → (⟨S240x48, .i32⟩ : BufTy).Contents (Elt F)),
   StableHlo.unary main_v10 main_v12 (broadcastInDim S240x48 ![0, 1] bcast_S1x48_S240x48_0_1 : (⟨S1x48, .i32⟩ : BufTy).Contents (Elt F) → (⟨S240x48, .i32⟩ : BufTy).Contents (Elt F)),
   StableHlo.binary main_v11 main_v12 main_v13 (cmpi .eq : (⟨S240x48, .i32⟩ : BufTy).Contents (Elt F) → (⟨S240x48, .i32⟩ : BufTy).Contents (Elt F) → (⟨S240x48, .i1⟩ : BufTy).Contents (Elt F)),
   StableHlo.unary main_v13 main_v14 (uitofp .f32 : (⟨S240x48, .i1⟩ : BufTy).Contents (Elt F) → (⟨S240x48, .f32⟩ : BufTy).Contents (Elt F)),
   StableHlo.unary main_arg1 main_v15 (broadcastInDim S240x1 ![0] bcast_S240_S240x1_0 : (⟨S240, .f32⟩ : BufTy).Contents (Elt F) → (⟨S240x1, .f32⟩ : BufTy).Contents (Elt F)),
   StableHlo.unary main_v15 main_v16 (broadcastInDim S240x48 ![0, 1] bcast_S240x1_S240x48_0_1 : (⟨S240x1, .f32⟩ : BufTy).Contents (Elt F) → (⟨S240x48, .f32⟩ : BufTy).Contents (Elt F)),
   StableHlo.binary main_v14 main_v16 main_v17 (mulf : (⟨S240x48, .f32⟩ : BufTy).Contents (Elt F) → (⟨S240x48, .f32⟩ : BufTy).Contents (Elt F) → (⟨S240x48, .f32⟩ : BufTy).Contents (Elt F))]

/-- After them: the SparseCore's rows put over the first of the result. -/
def post : List (HloOp τ sig (Elt F)) :=
  [StableHlo.nullary main_c_2 (constantI S_ 32 0#32),
   StableHlo.nullary main_c_3 (constantI S_ 32 0#32),
   StableHlo.binaryIndexed main_v18 main_v7 ![main_c_2, main_c_3] ⟨S_, .i32⟩ main_v19 ((fun x u i => Host.dynamicUpdateSlice x u (fun k => (i k (Shape.Idx.first h_S_)).toInt) updateFits_S100000x48_S9600x48) : (⟨S100000x48, .f32⟩ : BufTy).Contents (Elt F) → (⟨S9600x48, .f32⟩ : BufTy).Contents (Elt F) → (Fin 2 → (⟨S_, .i32⟩ : BufTy).Contents (Elt F)) → (⟨S100000x48, .f32⟩ : BufTy).Contents (Elt F))]

theorem pre_fresh : ∀ op ∈ (pre : List (HloOp τ sig (Elt F))), op.fresh = ∅ :=
  List.forall_iff_forall_mem.mp (StableHlo.forall_fresh_of_map rfl)
theorem mid_fresh : ∀ op ∈ (mid : List (HloOp τ sig (Elt F))), op.fresh = ∅ :=
  List.forall_iff_forall_mem.mp (StableHlo.forall_fresh_of_map rfl)
theorem post_fresh : ∀ op ∈ (post : List (HloOp τ sig (Elt F))), op.fresh = ∅ :=
  List.forall_iff_forall_mem.mp (StableHlo.forall_fresh_of_map rfl)

/-- A builder's operation stays within the core's own buffers. -/
theorem sub_of_forall {ops : List (HloOp τ sig (Elt F))} (h : ops.Forall fun op => op.bufs ⊆ StableHlo.tcRefs τ sig) :
    ∀ op ∈ ops, op.bufs ⊆ Pipeline.ucRefs τ sig :=
  fun op ho => Pipeline.sub_ucRefs op (List.forall_iff_forall_mem.mp h op ho)

theorem pre_sub : ∀ op ∈ (pre : List (HloOp τ sig (Elt F))), op.bufs ⊆ Pipeline.ucRefs τ sig :=
  sub_of_forall (by unfold pre; simp only [List.forall_cons, List.Forall, StableHlo.nullary_bufs_sub, StableHlo.unary_bufs_sub, StableHlo.binary_bufs_sub, StableHlo.ternary_bufs_sub, and_self])
theorem mid_sub : ∀ op ∈ (mid : List (HloOp τ sig (Elt F))), op.bufs ⊆ Pipeline.ucRefs τ sig :=
  sub_of_forall (by unfold mid; simp only [List.forall_cons, List.Forall, StableHlo.nullary_bufs_sub, StableHlo.unary_bufs_sub, StableHlo.binary_bufs_sub, and_self])
theorem post_sub : ∀ op ∈ (post : List (HloOp τ sig (Elt F))), op.bufs ⊆ Pipeline.ucRefs τ sig :=
  sub_of_forall (by unfold post; simp only [List.forall_cons, List.Forall, StableHlo.nullary_bufs_sub, StableHlo.binaryIndexed_bufs_sub, and_self])

/-- The program is the three lines with the two calls between them. -/
theorem main_eq (d : Dev nD) : main (F := F) d
    = (StableHlo.seq pre >>= fun _ => sc.run d 0 >>= fun _ => StableHlo.seq mid >>= fun _ =>
        Prog.lift (.customCall (SparseCore.inner (Pipeline.entry 0)) ()) >>= fun _ => StableHlo.seq post >>= fun _ => pure ⟨⟩) := by
  simp only [StableHlo.seq_bind_seqK]
  rfl

end Cert.KernelIdeal.Seg

end
-- ==== Proof.Main.lean ====
module

public import proofs.«01_k».proof.Proof.Lines

@[expose] public section

noncomputable section

namespace Cert.KernelIdeal.Seg

open Idealize.ShloMosaic Idealize.ShloMosaic.TcCoe Idealize.SL.Sem Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode
open Idealize.ShloMosaic.Rounds
open Idealize.ShloMosaic.StableHlo (held after seq)
open Idealize.ShloMosaic.Pipeline (Dat ucRefs)
open Cert.KernelIdeal.Gen

variable {F : FTy → Type} [FloatOps F]

local notation "𝕄" => MT nD τ sig (HIx 1) (Elt F) ℕ UU ℕ

/-! ## The contents along the program -/

section
variable (m : (ℓ : Loc nD τ sig) → Buf (Elt F) ℓ)

/-- A reference of the core, as a buffer of its device. -/
abbrev dv (b : Ref sig .tc) : DevRef τ sig := Proc.devRef .tc b

/-- At the launch; -/
def V0 (d : Dev nD) : Valuation τ sig (Elt F) := fun b => m (d, b)
/-- at the SparseCore call; -/
def V1 (d : Dev nD) : Valuation τ sig (Elt F) := after pre (V0 m d)
/-- after it, its result where it was asked; -/
def V2 (d : Dev nD) : Valuation τ sig (Elt F) :=
  Function.update (V1 m d) (dv main_v7) (want (F := F) (V1 m d (dv main_arg0)) (V1 m d (dv main_v6)))
/-- at the TensorCore's region; -/
def V3 (d : Dev nD) : Valuation τ sig (Elt F) := after mid (V2 m d)
/-- after it; -/
def V4 (d : Dev nD) : Valuation τ sig (Elt F) := Pipeline.afterRegion (dats (V3 m) 0 d) (V3 m d)
/-- and at the end. -/
def V5 (d : Dev nD) : Valuation τ sig (Elt F) := after post (V4 m d)

/-- The call's operands and its result's buffer. -/
abbrev callX (d : Dev nD) : Buf (Elt F) (xLoc d) := V1 m d (dv main_arg0)
abbrev callC (d : Dev nD) : Buf (Elt F) (gLoc d) := V1 m d (dv main_v6)
abbrev callO (d : Dev nD) : Buf (Elt F) (oLoc d) := V1 m d (dv main_v7)

/-! ## The buffers the call takes, out of the core's and back -/

/-- The three buffers of the call. -/
abbrev callRefs : Finset (DevRef τ sig) := {dv main_arg0, dv main_v6, dv main_v7}

theorem callRefs_sub : callRefs ⊆ ucRefs τ sig := by
  intro b hb
  rcases Finset.mem_insert.mp hb with rfl | hb
  · exact Pipeline.devRef_mem_ucRefs rfl
  rcases Finset.mem_insert.mp hb with rfl | hb
  · exact Pipeline.devRef_mem_ucRefs rfl
  rw [Finset.mem_singleton] at hb
  subst hb
  exact Pipeline.devRef_mem_ucRefs rfl

theorem held_call (d : Dev nD) (V : Valuation τ sig (Elt F)) :
    (held (SparseCore.T d : Thread nD τ) callRefs V : sProp 𝕄)
      = iprop((xLoc d ↦{fullShare} V (dv main_arg0)) ∗ (gLoc d ↦{fullShare} V (dv main_v6)) ∗ (oLoc d ↦{fullShare} V (dv main_v7))) := by
  unfold held callRefs
  rw [SparseCore.bigSep_insert' (by decide), SparseCore.bigSep_insert' (by decide), bigSep_singleton]

/-- What the call leaves alone keeps its contents. -/
theorem held_rest (d : Dev nD) :
    (held (SparseCore.T d : Thread nD τ) (ucRefs τ sig \ callRefs) (V1 m d) : sProp 𝕄)
      = held (SparseCore.T d : Thread nD τ) (ucRefs τ sig \ callRefs) (V2 m d) := by
  refine StableHlo.held_congr _ fun b hb => ?_
  have h : b ≠ dv main_v7 := by
    rintro rfl
    exact (Finset.mem_sdiff.mp hb).2 (by decide)
  exact (Function.update_of_ne h _ _).symm

/-- The call's buffers after it. -/
theorem held_call_after (d : Dev nD) :
    (held (SparseCore.T d : Thread nD τ) callRefs (V2 m d) : sProp 𝕄)
      = iprop((xLoc d ↦{fullShare} callX m d) ∗ (gLoc d ↦{fullShare} callC m d)
          ∗ (oLoc d ↦{fullShare} want (callX m d) (callC m d))) := by
  rw [held_call]
  have h0 : V2 m d (dv main_arg0) = V1 m d (dv main_arg0) := Function.update_of_ne (by decide) _ _
  have h6 : V2 m d (dv main_v6) = V1 m d (dv main_v6) := Function.update_of_ne (by decide) _ _
  have h7 : V2 m d (dv main_v7) = want (F := F) (V1 m d (dv main_arg0)) (V1 m d (dv main_v6)) := Function.update_self _ _ _
  rw [h0, h6, h7]

/-- The region's program is the call's, lifted. -/
theorem lift_region : (Prog.lift (.customCall (SparseCore.inner (Pipeline.entry 0)) ())
      : Prog (TpuEff nD τ sig (Elt F) (SparseCore.Sig (ΛP (F := F)) 1) .tc) PUnit)
    = SparseCore.liftProg (Prog.lift (.customCall (Pipeline.entry (0 : Fin 1)) ())) := rfl

variable [∀ e, Nonempty (Elt F e)]

theorem arrRefs_sub : Pipeline.arrRefs (τ := τ) (pcfgs (F := F) 0).spec ⊆ ucRefs τ sig :=
  Pipeline.arrRefs_sub_ucRefs _ fun w => by fin_cases w <;> rfl

set_option backward.isDefEq.respectTransparency.types false in
/-- The region's rule at this program. -/
theorem region_wp (W : Dev nD → Valuation τ sig (Elt F)) (d : Dev nD) (Φ : PUnit.{1} → sProp 𝕄) :
    iprop((iprop(boundary (SparseCore.T d : Thread nD τ) ∗ (region W).post d) -∗ Φ ⟨⟩)
        ∗ boundary (SparseCore.T d : Thread nD τ) ∗ (region W).pre d ∗ levAts (K (F := F)).L (K (F := F)).lev
        ∗ Pipeline.cellsGhost (pins (F := F)) (EP (F := F)) 0 d ∗ Pipeline.toksInit (pins (F := F)) (EP (F := F)) 0 d)
      ⊢ wp frame (wpE (D (F := F)) 𝒱 (SparseCore.T d) none) Set.univ (Prog.lift (.customCall (Pipeline.entry (0 : Fin 1)) ())) Φ := by
  have h := Pipeline.RegionSeg.wp (pcfgs (F := F)) adm (dats W) (none : HIx 1) cellOf_inj (EP (F := F)) defs₀ 𝒱₀
    (K (F := F)).L (K (F := F)).lev (region W) d none (fun _ h => nomatch h) Prog.ret Φ
  rw [wp_ret] at h
  refine BI.Entails.trans ?_ h
  show iprop((iprop(boundary (SparseCore.T d : Thread nD τ) ∗ (region W).post d) -∗ Φ ⟨⟩)
        ∗ boundary (SparseCore.T d : Thread nD τ) ∗ (region W).pre d ∗ levAts (K (F := F)).L (K (F := F)).lev
        ∗ Pipeline.cellsGhost (pins (F := F)) (EP (F := F)) 0 d ∗ Pipeline.toksInit (pins (F := F)) (EP (F := F)) 0 d) ⊢ _
  iintro ⟨Hk, H⟩
  isplitl [Hk]
  · iintro Hp
    imodintro
    iapply Hk
    iexact Hp
  iexact H

/-- What the region is entered with, -/
theorem region_pre (W : Dev nD → Valuation τ sig (Elt F)) (d : Dev nD) :
    iprop(held (SparseCore.T d : Thread nD τ) (ucRefs τ sig) (W d) ∗ ((∃ Wd, owes (SparseCore.T d : Thread nD τ) 0 Wd) ∗ emp ∗ emp)) ⊢ (region W).pre d := by
  unfold region
  exact Pipeline.RegionSeg.ofHeldIn_pre (D := fun _ => 0) (W := W) (X := fun _ => iprop(emp)) (R := fun _ => iprop(emp)) arrRefs_sub d

/-- and what it is left with. -/
theorem region_post (W : Dev nD → Valuation τ sig (Elt F)) (d : Dev nD) :
    (region W).post d ⊢ iprop(held (SparseCore.T d : Thread nD τ) (ucRefs τ sig) (Pipeline.afterRegion (dats W 0 d) (W d))
      ∗ ((∃ Wd, owes (SparseCore.T d : Thread nD τ) 0 Wd) ∗ emp ∗ emp)) := by
  unfold region
  exact Pipeline.RegionSeg.ofHeldIn_post (D := fun _ => 0) (W := W) (Y := fun _ => iprop(emp)) (R := fun _ => iprop(emp)) arrRefs_sub d

/-- The TensorCore's call: from the core's buffers to what the region leaves of them. -/
theorem region_run (W : Dev nD → Valuation τ sig (Elt F)) (d : Dev nD) (Φ : PUnit.{1} → sProp 𝕄) :
    iprop(boundary (SparseCore.T d : Thread nD τ) ∗ held (SparseCore.T d : Thread nD τ) (ucRefs τ sig) (W d)
        ∗ (∃ Wd, owes (SparseCore.T d : Thread nD τ) 0 Wd) ∗ levAts (K (F := F)).L (K (F := F)).lev ∗ G d
        ∗ ((boundary (SparseCore.T d : Thread nD τ) ∗ held (SparseCore.T d : Thread nD τ) (ucRefs τ sig) (Pipeline.afterRegion (dats W 0 d) (W d))
              ∗ (∃ Wd, owes (SparseCore.T d : Thread nD τ) 0 Wd)) -∗ Φ ⟨⟩))
      ⊢ wp frame (wpE ((K (F := F)).defs (D (F := F))) 𝒱 (SparseCore.T d) none) Set.univ
          (Prog.lift (.customCall (SparseCore.inner (Pipeline.entry 0)) ())) Φ := by
  rw [lift_region]
  unfold G
  rw [show (Finset.univ : Finset (Fin 1)) = {0} from rfl, bigSep_singleton, bigSep_singleton]
  iintro ⟨Hb, Hh, HO, Hl, ⟨Hg, Ht⟩, Hk⟩
  iapply (SparseCore.Cfg.wp_liftProg (K := K (F := F)) (D (F := F)) 𝒱 (SparseCore.T d) Set.univ none _ Φ)
  iapply (region_wp W d Φ)
  isplitl [Hk]
  · iintro ⟨Hb, Hp⟩
    ihave Hp' := (region_post W d) $$ Hp
    icases Hp' with ⟨Hh, HO, -, -⟩
    iapply Hk
    isplitl [Hb]; · iexact Hb
    isplitl [Hh]; · iexact Hh
    iexact HO
  isplitl [Hb]; · iexact Hb
  isplitl [Hh HO]
  · iapply (region_pre W d)
    isplitl [Hh]; · iexact Hh
    isplitl [HO]; · iexact HO
    isplitr <;> iempintro
  isplitl [Hl]; · iexact Hl
  isplitl [Hg]; · iexact Hg
  iexact Ht

/-! ## The core's program -/

variable (ρ : Dev nD → PrngReg)

/-- What a device ends with: every buffer of the core's at its last contents. -/
abbrev FIN (d : Dev nD) : sProp 𝕄 := held (SparseCore.T d : Thread nD τ) (ucRefs τ sig) (V5 m d)

/-- After its one call the core owes nothing; whatever it may still raise lies below. -/
theorem owes_out (EH' : Emb UH 𝕄) (d : Dev nD) :
    (K (F := F)).tcSt EH' d 1 ⊢ iprop((∃ Wd, owes (SparseCore.T d : Thread nD τ) 0 Wd)
      ∗ ((∃ Wd, owes (SparseCore.T d : Thread nD τ) 0 Wd) -∗ (K (F := F)).tcSt EH' d 1)) := by
  have e : (K (F := F)).Otc d 1 = 0 := by
    unfold SparseCore.Cfg.Otc
    exact Finset.sum_eq_zero fun q _ => by simp
  unfold SparseCore.Cfg.tcSt
  rw [e]
  iintro ⟨⟨%Wd, -, HO⟩, Hrest⟩
  isplitl [HO]; · iexists Wd; iexact HO
  iintro ⟨%Wd', HO⟩
  isplitl [HO]
  · iexists Wd'
    isplitr
    · ipureintro
      intro p _
      rcases p with ⟨s, _ | q⟩
      · exact Nat.zero_le _
      · refine ((K (F := F)).lev_some_le _ q).trans ?_
        have := q.isLt
        show 8 * q.val + 7 ≤ 8 * 1
        omega
    iexact HO
  iexact Hrest

theorem hmain (κ : GSem nD τ sig → ℕ) (d : Dev nD) :
    iprop((K (F := F)).ctx EH (P (callX m) (callC m) (callO m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d fun b => m ((SparseCore.T d).loc b)) = (held (SparseCore.T d : Thread nD τ) (ucRefs τ sig) (V0 m d) : sProp 𝕄)
    from Pipeline.unscopedBufs_held d (V0 m d)]
  iintro ⟨#Hctx, Hst, ⟨Hb, Hh, Hts, -⟩, HG⟩
  iapply (StableHlo.wp_seq 𝒱 none Set.univ d (ucRefs τ sig) _ pre pre_sub pre_fresh (V0 m d)) $$ [Hb Hh]
  · isplitl [Hb] <;> iassumption
  rw [show after pre (V0 m d) = V1 m d from rfl]
  iintro ⟨Hb, Hh⟩
  rw [wp_bind]
  ihave Hh' := (Entails.of_eq (StableHlo.held_sub_split (SparseCore.T d : Thread nD τ) callRefs_sub (V1 m d))) $$ Hh
  icases Hh' with ⟨Hcall, Hrest⟩
  iapply ((K (F := F)).wp_run (D (F := F)) 𝒱 (EH := EH) (P := P (callX m) (callC m) (callO m)) κ d 0) $$ [Hst Hcall Hrest Hb Hts HG]
  isplitr; · iexact Hctx
  isplitl [Hst]; · iexact Hst
  isplitl [Hcall]
  · rw [st_eq]
    ihave Hc := (Entails.of_eq (held_call d (V1 m d))) $$ Hcall
    iexact Hc
  iintro ⟨Hst, Hdn⟩
  ihave Hdn' := (Entails.of_eq ((dn_eq (callX m) (callC m) (callO m) d).trans (held_call_after m d).symm)) $$ Hdn
  ihave Hrest' := (Entails.of_eq (held_rest m d)) $$ Hrest
  ihave Hh := (Entails.of_eq (StableHlo.held_sub_split (SparseCore.T d : Thread nD τ) callRefs_sub (V2 m d)).symm) $$ [Hdn' Hrest']
  · isplitl [Hdn'] <;> iassumption
  iapply (StableHlo.wp_seq 𝒱 none Set.univ d (ucRefs τ sig) _ mid mid_sub mid_fresh (V2 m d)) $$ [Hb Hh]
  · isplitl [Hb] <;> iassumption
  rw [show after mid (V2 m d) = V3 m d from rfl]
  iintro ⟨Hb, Hh⟩
  rw [wp_bind]
  ihave Hst' := (show (K (F := F)).tcSt EH d ((0 : Fin 1).val + 1) ⊢ _ from owes_out EH d) $$ Hst
  icases Hst' with ⟨HO, Hst⟩
  ihave Hlev := (SparseCore.Cfg.ctx_levAts κ) $$ Hctx
  iapply (region_run (V3 m) d)
  isplitl [Hb]; · iexact Hb
  isplitl [Hh]; · iexact Hh
  isplitl [HO]; · iexact HO
  isplitl [Hlev]; · iexact Hlev
  isplitl [HG]; · iexact HG
  iintro ⟨Hb, Hh, HO⟩
  iapply (StableHlo.wp_seq 𝒱 none Set.univ d (ucRefs τ sig) _ post post_sub post_fresh (V4 m d)) $$ [Hb Hh]
  · isplitl [Hb]; · iexact Hb
    iexact Hh
  rw [show after post (V4 m d) = V5 m d from rfl]
  iintro ⟨Hb, Hh⟩
  rw [wp_pure]
  imodintro
  isplitl [Hst HO]; · iapply Hst; iexact HO
  isplitl [Hh]; · iexact Hh
  isplitl [Hb] <;> iassumption

/-- Every buffer of the core's is found at its last contents. -/
def fq (d : Dev nD) (s' : Phys nD τ sig (Elt F)) : Prop := ∀ b : Ref sig .tc, b.isScoped = false → s'.mem.mem (d, dv b) = V5 m d (dv b)

theorem hfin (d : Dev nD) (s' : Phys nD τ sig (Elt F)) : iprop(FIN m d ∗ SI s') ⊢ (⌜fq m d s'⌝ : sProp 𝕄) := by
  have one (b : Ref sig .tc) (hb : b.isScoped = false) : iprop(FIN m d ∗ SI s') ⊢ (⌜s'.mem.mem (d, dv b) = V5 m d (dv b)⌝ : sProp 𝕄) := by
    rw [show FIN m d = (iprop(((d, dv b) ↦{fullShare} V5 m d (dv b)) ∗ bigSep ((ucRefs τ sig).erase (dv b)) fun b => (d, b) ↦{fullShare} V5 m d b) : sProp 𝕄)
      from SparseCore.bigSep_erase' (Pipeline.devRef_mem_ucRefs hb)]
    iintro ⟨⟨Hx, -⟩, HSI⟩
    ihave H := (SI_pointsTo_agree (st := s') (ℓ := (d, dv b)) (I := Finset.univ) (q := fullShare) (f := V5 m d (dv b))) $$ [HSI Hx]
    · isplitl [HSI] <;> iassumption
    icases H with %h
    ipureintro; exact funext fun i => h i (Finset.mem_univ i)
  unfold fq
  refine (Laws.forall_intro fun b => ?_).trans Laws.pure_forall.2
  by_cases hb : b.isScoped = false
  · exact (one b hb).trans (Laws.pure_mono fun h _ => h)
  · exact Laws.pure_intro fun h => absurd h hb

/-- The whole program, for any float values: it ends, every buffer of the cores' at its last contents and every
    counter at zero. -/
theorem run_main :
    θ_run (Cert.KernelIdeal.defs (F := F)) (Cert.KernelIdeal.threads (F := F)) ⟨m, fun _ => 0, ρ⟩
      (fun r => (∀ (d : Dev nD) (b : Ref sig .tc), b.isScoped = false → r.2.mem (d, dv b) = V5 m d (dv b)) ∧ r.2.sem = fun _ => 0) :=
  SparseCore.Cfg.θ_run_sc_quiescent (K := K (F := F)) (D := D (F := F)) (𝒱 := 𝒱) (EH := EH) (P := P (callX m) (callC m) (callO m)) (A := ∅) facts v₀
    (fun q hq => match q with | 0 => nomatch hq)
    (fun q _ => match q with | 0 => tileObl (callX m) (callC m) (callO m))
    (fun q _ => match q with | 0 => SparseCore.Cfg.VecSplit.of_plain (vecSplit (callX m) (callC m) (callO m)))
    m ρ main G (FIN m) (u₀ (F := F)) (sep_elim_left.trans (hu₀ (callX m) (callC m) (callO m))) (hmain m ρ) (fq m) (hfin m) _ (fun _ h hz => ⟨h, hz⟩)

end

end Cert.KernelIdeal.Seg

end
-- ==== Proof.Frames.lean ====
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.KernelIdeal.Seg

open Idealize.ShloMosaic Idealize.ShloMosaic.TcCoe Idealize.SL.Sem
open Idealize.ShloMosaic.StableHlo (held after seq)
open Cert.KernelIdeal.Gen

variable {F : FTy → Type} [FloatOps F]

/-! ## What no part of the program writes -/

section
variable (m : (ℓ : Loc nD τ sig) → Buf (Elt F) ℓ)

/-- The region leaves every buffer but its result's. -/
theorem V4_keeps (d : Dev nD) (b : Ref sig .tc) (h : b ≠ main_v18) : V4 m d (dv b) = V3 m d (dv b) := by
  refine Pipeline.afterRegion_keeps (dats (V3 m) 0 d) (V3 m d) launch1.win.arr_inj (fun w => A_eq (V3 m) d w) b fun w hw => ?_
  match w with
  | ⟨0, _⟩ => rfl
  | ⟨1, _⟩ => rfl
  | ⟨2, _⟩ => exact absurd hw.symm h

/-- The arguments are written by nothing. -/
theorem V5_arg (d : Dev nD) (b : Ref sig .tc) (h : b = main_arg0 ∨ b = main_arg1 ∨ b = main_arg2) :
    V5 m d (dv b) = m (d, dv b) := by
  have h5 : V5 m d (dv b) = V4 m d (dv b) := by
    unfold V5 post
    rcases h with rfl | rfl | rfl <;> (after_results <;> rfl)
  have h4 : V4 m d (dv b) = V3 m d (dv b) := V4_keeps m d b (by rcases h with rfl | rfl | rfl <;> decide)
  have h3 : V3 m d (dv b) = V2 m d (dv b) := by
    unfold V3 mid
    rcases h with rfl | rfl | rfl <;> (after_results <;> rfl)
  have h2 : V2 m d (dv b) = V1 m d (dv b) := Function.update_of_ne (by rcases h with rfl | rfl | rfl <;> decide) _ _
  have h1 : V1 m d (dv b) = V0 m d (dv b) := by
    unfold V1 pre
    rcases h with rfl | rfl | rfl <;> (after_results <;> rfl)
  exact h5.trans (h4.trans (h3.trans (h2.trans h1)))

end

/-- The program's run, its arguments kept, at any float values. -/
theorem run_frame [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run Cert.KernelIdeal.defs _ _).mono (fun _ h => ⟨fun c =>
    ⟨(h.1 c main_arg0 rfl).trans (V5_arg m c _ (.inl rfl)), (h.1 c main_arg1 rfl).trans (V5_arg m c _ (.inr (.inl rfl))),
      (h.1 c main_arg2 rfl).trans (V5_arg m c _ (.inr (.inr rfl)))⟩, h.2⟩) (run_main m ρ)

/-- The kernel and its idealization run the same bodies, -/
theorem bodies_eq : @Cert.Kernel.defs₀ Bits _ Cert.Kernel.Gen.facts = @Cert.KernelIdeal.defs₀ Bits _ Cert.KernelIdeal.Gen.facts := by
  funext κ ℓ a
  match κ, ℓ, a with
  | .scVector c s, 0, _ => rfl
  | .tc, 1, (t, s) => rfl
  | .scVector c s, 1, a => rfl
  | .tc, 0, a => rfl
  | .scScalar c, 0, a => rfl
  | .scScalar c, 1, a => rfl

/-- so the same program. -/
theorem defs_eq : @Cert.Kernel.defs Bits _ Cert.Kernel.Gen.facts = @Cert.KernelIdeal.defs Bits _ Cert.KernelIdeal.Gen.facts :=
  congrArg (fun D => (Cert.KernelIdeal.sc (F := Bits)).defs (Pipeline.defs (Cert.KernelIdeal.pcfgs (F := Bits)) D)) bodies_eq

/-- The kernel ends with its arguments kept and every counter at zero. -/
theorem frame_kernel : Cert.quiescent_Kernel (hKernel := Cert.Kernel.Gen.facts) := fun m ρ _ => by
  rw [defs_eq]
  exact run_frame (F := Bits) m ρ

/-- So does its idealization, -/
theorem frame_ideal : Cert.quiescent_KernelIdeal (hKernelIdeal := Cert.KernelIdeal.Gen.facts) := fun m ρ _ =>
  run_frame (F := Ideal) m ρ

/-- and the reference, which declares no counter. -/
theorem frame_ref : Cert.quiescent_ReferenceIdeal (hReferenceIdeal := Cert.ReferenceIdeal.Gen.facts) := fun m ρ _ =>
  (θ_run Cert.ReferenceIdeal.defs _ _).mono (fun _ h => ⟨fun c => (h c).2, funext fun ⟨_, s⟩ => by rcases s with s | s <;> exact s.elim0⟩)
    (Cert.ReferenceIdeal.Value.run (F := Ideal) m ρ)

end Cert.KernelIdeal.Seg

end
-- ==== Proof.Sums.lean ====
module

public import proofs.«01_k».proof.Proof.Facts
public import Idealize.ShloMosaic.Lib.IdealHost

@[expose] public section

noncomputable section

namespace Cert.KernelIdeal.Seg

open Idealize.ShloMosaic Idealize.ShloMosaic.TcCoe Idealize.SL.Sem
open Cert.KernelIdeal.Gen

/-! ## The sum every result entry is -/

/-- The segment of column `k`. -/
def segOf (k : ℕ) : ℕ := if k < 48 then k / 3 else if k < 128 then 16 + (k - 48) / 5 else 32 + (k - 128) / 7

theorem segOf_lt {k : ℕ} (h : k < 240) : segOf k < 48 := by
  unfold segOf
  split_ifs <;> omega

/-- A column is of segment `n` when it lies between the segment's first column and its last. -/
theorem segOf_eq_iff {k n : ℕ} (hk : k < 240) (hn : n < 48) : segOf k = n ↔ start n ≤ k ∧ k < start n + (wid n + 1) := by
  unfold segOf start wid
  split_ifs <;> omega

/-- Entry `(r, n)` of the result: the weighted squares of the row's columns of segment `n`, summed. -/
def entry (X : S100000x240.Idx → EReal) (g : S240.Idx → EReal) (r : Fin 100000) (n : ℕ) : EReal :=
  ∑ k : Fin 240, if segOf k.val = n then X (ix2 r k) * X (ix2 r k) * g (ix1 k) else 0

/-! ## The tree of pairs is the sum -/

theorem pairs_sum {M : Type} [AddCommMonoid M] : ∀ l : List M, (pairs (fun a b => a + b) l).sum = l.sum
  | a :: b :: l => by simp only [pairs, List.sum_cons, pairs_sum l, add_assoc]
  | [_] => rfl
  | [] => rfl

theorem pairs_length {α : Type} (op : α → α → α) : ∀ l : List α, (pairs op l).length = (l.length + 1) / 2
  | a :: b :: l => by simp only [pairs, List.length_cons, pairs_length op l]; omega
  | [_] => by simp [pairs]
  | [] => by simp [pairs]

theorem headD_eq_sum {M : Type} [AddCommMonoid M] (z : M) (l : List M) (h : l.length = 1) : l.headD z = l.sum := by
  obtain ⟨a, rfl⟩ := List.length_eq_one_iff.mp h
  simp

/-- Of one to eight terms. -/
theorem tsum_eq_sum {M : Type} [AddCommMonoid M] (z : M) (l : List M) (h1 : 0 < l.length) (h8 : l.length ≤ 8) :
    tsum (fun a b => a + b) z l = l.sum := by
  unfold tsum
  rw [headD_eq_sum, pairs_sum, pairs_sum, pairs_sum]
  rw [pairs_length, pairs_length, pairs_length]
  omega

theorem sqs_length {α : Type} (mul : α → α → α) (x : ℕ → α) : ∀ c w : ℕ, (sqs mul x c w).length = w
  | _, 0 => rfl
  | c, w + 1 => by rw [sqs, List.length_cons, sqs_length]

theorem sqs_sum {M : Type} [AddCommMonoid M] (mul : M → M → M) (x : ℕ → M) : ∀ c w : ℕ,
    (sqs mul x c w).sum = ∑ i ∈ Finset.range w, mul (x (c + i)) (x (c + i))
  | _, 0 => rfl
  | c, w + 1 => by
    rw [sqs, List.sum_cons, sqs_sum, Finset.sum_range_succ', add_comm]
    refine congrArg₂ _ (Finset.sum_congr rfl fun i _ => ?_) rfl
    rw [show c + 1 + i = c + (i + 1) by omega]

/-! ## The weight goes into the sum: squares are not negative -/

theorem sq_nonneg (a : EReal) : 0 ≤ a * a := by
  rcases le_total 0 a with h | h
  · exact mul_nonneg h h
  · rw [← neg_mul_neg]
    exact mul_nonneg (EReal.neg_nonneg.mpr h) (EReal.neg_nonneg.mpr h)

theorem sum_mul {ι : Type} (s : Finset ι) (f : ι → EReal) (h : ∀ i ∈ s, 0 ≤ f i) (g : EReal) :
    (∑ i ∈ s, f i) * g = ∑ i ∈ s, f i * g := by
  classical
  induction s using Finset.induction_on with
  | empty => simp
  | insert a s ha ih =>
    rw [Finset.sum_insert ha, Finset.sum_insert ha,
      EReal.right_distrib_of_nonneg (h a (Finset.mem_insert_self a s)) (Finset.sum_nonneg fun i hi => h i (Finset.mem_insert_of_mem hi)),
      ih fun i hi => h i (Finset.mem_insert_of_mem hi)]

/-- A sum over the columns between two bounds. -/
theorem sum_window {M : Type} [AddCommMonoid M] (f : ℕ → M) {N a w : ℕ} (h : a + w ≤ N) :
    (∑ k : Fin N, if a ≤ k.val ∧ k.val < a + w then f k.val else 0) = ∑ i ∈ Finset.range w, f (a + i) := by
  rw [Fin.sum_univ_eq_sum_range (fun k => if a ≤ k ∧ k < a + w then f k else 0) N, ← Finset.sum_filter]
  have e : (Finset.range N).filter (fun k => a ≤ k ∧ k < a + w) = Finset.Ico a (a + w) := by
    ext k
    simp only [Finset.mem_filter, Finset.mem_range, Finset.mem_Ico]
    omega
  rw [e, Finset.sum_Ico_eq_sum_range, Nat.add_sub_cancel_left]

/-! ## What the SparseCore leaves -/

/-- The kernel's value of a segment is the entry's sum, when the weight it takes is that of each of the segment's columns. -/
theorem segVal_eq (X : S100000x240.Idx → EReal) (g : S240.Idx → EReal) (r : Fin 100000) {n : ℕ} (hn : n < 48) (w : EReal)
    (hw : ∀ k : Fin 240, segOf k.val = n → g (ix1 k) = w) :
    segVal (F := Ideal) (rowOf (F := Ideal) (N := 100000) X r.val) w n = entry X g r n := by
  have hl : wid n + 1 ≤ 8 := by unfold wid; split_ifs <;> omega
  have hs := start_lt hn
  have hr : Fin.ofNat 100000 r.val = r := Fin.ext (Nat.mod_eq_of_lt r.isLt)
  have e : segVal (F := Ideal) (rowOf (F := Ideal) (N := 100000) X r.val) w n
      = (tsum (fun a b : EReal => a + b) (rowOf (F := Ideal) (N := 100000) X r.val (start n + wid n))
          (sqs (fun a b : EReal => a * b) (rowOf (F := Ideal) (N := 100000) X r.val) (start n) (wid n + 1))) * w := rfl
  rw [e, tsum_eq_sum _ _ (by rw [sqs_length]; omega) (by rw [sqs_length]; omega), sqs_sum,
    sum_mul _ _ (fun i _ => sq_nonneg _),
    ← sum_window (fun k => rowOf (F := Ideal) (N := 100000) X r.val k * rowOf (F := Ideal) (N := 100000) X r.val k * w) (N := 240) (by omega)]
  unfold entry
  refine Finset.sum_congr rfl fun k _ => ?_
  by_cases hk : segOf k.val = n
  · rw [if_pos hk, if_pos ((segOf_eq_iff k.isLt hn).mp hk), hw k hk]
    have hk' : Fin.ofNat 240 k.val = k := Fin.ext (Nat.mod_eq_of_lt k.isLt)
    unfold rowOf
    rw [hr, hk']
  · rw [if_neg hk, if_neg fun h => hk ((segOf_eq_iff k.isLt hn).mpr h)]

/-- So the result the SparseCore's call asks for is the entry. -/
theorem want_eq (X : S100000x240.Idx → EReal) (g : S240.Idx → EReal) (C : S48.Idx → EReal)
    (hC : ∀ (n : Fin 48) (k : Fin 240), segOf k.val = n.val → g (ix1 k) = C (ix1 n)) (r : Fin 100000) (hr : r.val < 9600) (n : Fin 48) :
    want (F := Ideal) X C (ix2 ⟨r.val, hr⟩ n) = entry X g r n.val := by
  refine segVal_eq X g r n.isLt (wt (F := Ideal) C n.val) fun k hk => ?_
  rw [hC n k hk]
  unfold wt
  rw [show Fin.ofNat 48 n.val = n from Fin.ext (Nat.mod_eq_of_lt n.isLt)]

end Cert.KernelIdeal.Seg

end
-- ==== Proof.Laid.lean ====
module

public import proofs.«01_k».proof.Defs
public import proofs.«01_k».proof.Proof.Sums
public import Idealize.ShloMosaic.Lib.Routing.Ops

@[expose] public section

noncomputable section

namespace Cert.Pre_segments_laid.Gen

open Cert.Pre_segments_laid

/-- The relations between shapes the precondition states. -/
theorem facts : Cert.Pre_segments_laid.Facts where
  bcast_S240_S240x1_0 := by decide
  bcast_S240_S1x240_1 := by decide
  bcast_S240x1_S240x240_0_1 := by decide
  bcast_S1x240_S240x240_0_1 := by decide

end Cert.Pre_segments_laid.Gen

namespace Cert.KernelIdeal.Seg

open Idealize.ShloMosaic Idealize.ShloMosaic.TcCoe Idealize.SL.Sem

/-! ## Broadcasts of the host, read at an entry -/

section
variable {α : Type}

theorem col_at {n : ℕ} (h₁ : (⟨1, ![n]⟩ : Shape).BroadcastsInDim ⟨2, ![n, 1]⟩ (![0] : Fin 1 → Fin 2)) (v : (⟨1, ![n]⟩ : Shape).Idx → α) (p : Fin n) :
    broadcastInDim ⟨2, ![n, 1]⟩ ![0] h₁ v (ix2 p (0 : Fin 1)) = v (ix1 p) := Routing.bcCol h₁ v p
theorem rows_at {n m : ℕ} (h₁ : (⟨1, ![n]⟩ : Shape).BroadcastsInDim ⟨2, ![n, 1]⟩ (![0] : Fin 1 → Fin 2))
    (h₂ : (⟨2, ![n, 1]⟩ : Shape).BroadcastsInDim ⟨2, ![n, m]⟩ (![0, 1] : Fin 2 → Fin 2)) (v : (⟨1, ![n]⟩ : Shape).Idx → α) (p : Fin n) (q : Fin m) :
    broadcastInDim ⟨2, ![n, m]⟩ ![0, 1] h₂ (broadcastInDim ⟨2, ![n, 1]⟩ ![0] h₁ v) (ix2 p q) = v (ix1 p) := Routing.bcRows h₁ h₂ v p q
theorem cols_at {n m : ℕ} (h₁ : (⟨1, ![m]⟩ : Shape).BroadcastsInDim ⟨2, ![1, m]⟩ (![1] : Fin 1 → Fin 2))
    (h₂ : (⟨2, ![1, m]⟩ : Shape).BroadcastsInDim ⟨2, ![n, m]⟩ (![0, 1] : Fin 2 → Fin 2)) (v : (⟨1, ![m]⟩ : Shape).Idx → α) (p : Fin n) (q : Fin m) :
    broadcastInDim ⟨2, ![n, m]⟩ ![0, 1] h₂ (broadcastInDim ⟨2, ![1, m]⟩ ![1] h₁ v) (ix2 p q) = v (ix1 q) := Routing.bcCols h₁ h₂ v p q

end

/-! ## What the precondition says -/

/-- Its table is the segments of the columns. -/
theorem lit_eq : ∀ k : Fin 240, Cert.Pre_segments_laid.lit0 k = BitVec.ofNat 32 (segOf k.val) := by decide +kernel

variable [Cert.Pre_segments_laid.Facts] (X : S100000x240.Idx → EReal) (g : S240.Idx → EReal) (s : S240.Idx → BitVec 32)

/-- The segment numbers are those of the columns in order. -/
theorem laid_seg (h : (Cert.Pre_segments_laid.fn (F := Ideal) X g s).1 = fun _ => 1#1) (k : Fin 240) :
    s (ix1 k) = BitVec.ofNat 32 (segOf k.val) := by
  have hk := congrFun h (ix1 k)
  have e : (Cert.Pre_segments_laid.fn (F := Ideal) X g s).1 (ix1 k)
      = IntOp.cmpi .eq (s (ix1 k)) (Cert.Pre_segments_laid.lit0 (Cert.Pre_segments_laid.S240.rowMajor (ix1 k))) := rfl
  rw [e, StableHlo.Predicate.cmpi_eq_iff] at hk
  rw [hk, show Cert.Pre_segments_laid.S240.rowMajor (ix1 k) = k from Fin.ext (Shape.rowMajor_val_one _)]
  exact lit_eq k

/-- Columns of one segment have one weight. -/
theorem laid_wt (h : (Cert.Pre_segments_laid.fn (F := Ideal) X g s).2 = fun _ => 1#1) (a b : Fin 240) (hs : s (ix1 a) = s (ix1 b)) :
    g (ix1 a) = g (ix1 b) := by
  have hk := congrFun h (ix2 a b)
  have e : (Cert.Pre_segments_laid.fn (F := Ideal) X g s).2 (ix2 a b)
      = IntOp.ori (~~~ (IntOp.cmpi .eq (s (ix1 a)) (s (ix1 b)))) (FloatOps.cmpf (F := Ideal) (φ := .f32) .oeq (g (ix1 a)) (g (ix1 b))) := by
    show IntOp.ori (~~~ (IntOp.cmpi .eq (broadcastInDim _ _ _ (broadcastInDim _ _ _ s) (ix2 a b)) (broadcastInDim _ _ _ (broadcastInDim _ _ _ s) (ix2 a b))))
      (FloatOps.cmpf (F := Ideal) (φ := .f32) .oeq (broadcastInDim _ _ _ (broadcastInDim _ _ _ g) (ix2 a b)) (broadcastInDim _ _ _ (broadcastInDim _ _ _ g) (ix2 a b))) = _
    rw [rows_at _ _ s, cols_at _ _ s, rows_at _ _ g, cols_at _ _ g]
  rw [e, hs] at hk
  have h1 : IntOp.cmpi .eq (s (ix1 b)) (s (ix1 b)) = 1#1 := StableHlo.Predicate.cmpi_eq_iff.mpr rfl
  rw [h1] at hk
  have h2 : BitVec.ofBool (decide (g (ix1 a) = g (ix1 b))) = 1#1 := by
    have h3 : ∀ v : BitVec 1, IntOp.ori (~~~ 1#1) v = v := by decide
    rw [h3] at hk
    exact hk
  exact of_decide_eq_true ((StableHlo.Predicate.ofBool_eq_one_iff _).mp h2)

end Cert.KernelIdeal.Seg

end
-- ==== Proof.HostVal.lean ====
module

public import proofs.«01_k».proof.Proof.Laid
public import proofs.«01_k».proof.Proof.Frames
public import Idealize.ShloMosaic.Lib.Routing.OpsSet
public import Idealize.ShloMosaic.Lib.Pointwise.ShapeOpsCore

@[expose] public section

noncomputable section

namespace Cert.KernelIdeal.Seg

open Idealize.ShloMosaic Idealize.ShloMosaic.TcCoe Idealize.SL.Sem
open Idealize.ShloMosaic.StableHlo (held after seq)
open Cert.KernelIdeal.Gen

/-! ## What the host computes, at an entry -/

section
variable {F : FTy → Type} [FloatOps F]

/-- The table of the segments' first columns, as the host adjusts it. -/
def startWords : IVec S48 32 :=
  select (cmpi .slt (fun i => lit0 (S48.rowMajor i)) (broadcastInDim S48 ![] bcast_S_S48 (constantI S_ 32 0#32)))
    (addi (fun i => lit0 (S48.rowMajor i)) (broadcastInDim S48 ![] bcast_S_S48 (constantI S_ 32 240#32))) (fun i => lit0 (S48.rowMajor i))

/-- No entry of the table is negative: it is left as it is. -/
theorem table_at : ∀ n : Fin 48,
    (if IntOp.cmpi .slt (lit0 n) 0#32 = 1#1 then IntOp.addi (lit0 n) 240#32 else lit0 n) = BitVec.ofNat 32 (start n.val) := by decide +kernel

theorem startWords_at (n : Fin 48) : startWords (ix1 n) = BitVec.ofNat 32 (start n.val) := by
  have e : S48.rowMajor (ix1 n) = n := Fin.ext (Shape.rowMajor_val_one _)
  have h : startWords (ix1 n)
      = if IntOp.cmpi .slt (lit0 (S48.rowMajor (ix1 n))) 0#32 = 1#1 then IntOp.addi (lit0 (S48.rowMajor (ix1 n))) 240#32 else lit0 (S48.rowMajor (ix1 n)) := rfl
  rw [h, e]
  exact table_at n

/-- The gathered weights. -/
def gathered (g : Vec F S240 .f32) : Vec F S48 .f32 :=
  Host.gather gather_S240_S48x1_S48_n_0_n_n_0_1_1 g (broadcastInDim S48x1 ![0] bcast_S48_S48x1_0 startWords)

/-- A segment's weight is gathered at its first column. -/
theorem gathered_at (g : Vec F S240 .f32) (n : Fin 48) (k : Fin 240) (hk : k.val = start n.val) : gathered g (ix1 n) = g (ix1 k) :=
  Routing.gather_take1 gather_S240_S48x1_S48_n_0_n_n_0_1_1 rfl rfl rfl rfl g _ n k
    (by rw [hk]; exact (col_at _ _ n).trans (startWords_at n)) (by norm_num)

/-- The projection. -/
def proj (g : Vec F S240 .f32) (s : IVec S240 32) : Vec F S240x48 .f32 :=
  mulf (uitofp .f32 (cmpi .eq (broadcastInDim S240x48 ![0, 1] bcast_S240x1_S240x48_0_1 (broadcastInDim S240x1 ![0] bcast_S240_S240x1_0 s))
      (broadcastInDim S240x48 ![0, 1] bcast_S1x48_S240x48_0_1 (broadcastInDim S1x48 ![1] bcast_S48_S1x48_1 (iotaInDim S48 32 0)))))
    (broadcastInDim S240x48 ![0, 1] bcast_S240x1_S240x48_0_1 (broadcastInDim S240x1 ![0] bcast_S240_S240x1_0 g))

/-- A table put over the first rows of a longer one. -/
theorem update_at {α : Type} {A B C : ℕ} (x : (⟨2, ![A, C]⟩ : Shape).Idx → α) (u : (⟨2, ![B, C]⟩ : Shape).Idx → α) (st : Fin 2 → ℤ) (hst : ∀ a, st a = 0)
    (h : Shape.Slices (⟨2, ![A, C]⟩ : Shape) (fun _ => 0) (⟨2, ![B, C]⟩ : Shape)) (r : Fin A) (n : Fin C) :
    Host.dynamicUpdateSlice x u st h (ix2 r n) = if hr : r.val < B then u (ix2 ⟨r.val, hr⟩ n) else x (ix2 r n) := by
  have hc : ∀ a, Host.clampedStart (⟨2, ![A, C]⟩ : Shape) (⟨2, ![B, C]⟩ : Shape) h.1 st a = 0 := by
    intro a
    unfold Host.clampedStart
    rw [hst a]
    simp
  rw [Host.dynamicUpdateSlice_apply]
  by_cases hr : r.val < B
  · have hin : ∀ a : Fin 2, Host.clampedStart (⟨2, ![A, C]⟩ : Shape) (⟨2, ![B, C]⟩ : Shape) h.1 st a ≤ (ix2 r n a).val
        ∧ (ix2 r n a).val < Host.clampedStart (⟨2, ![A, C]⟩ : Shape) (⟨2, ![B, C]⟩ : Shape) h.1 st a + (⟨2, ![B, C]⟩ : Shape).size (a.cast h.1.symm) := by
      intro a
      rw [hc a]
      refine ⟨Nat.zero_le _, ?_⟩
      rw [Nat.zero_add]
      match a with
      | ⟨0, _⟩ => exact hr
      | ⟨1, _⟩ => exact n.isLt
    rw [dif_pos hin, dif_pos hr]
    refine congrArg u (funext fun b => Fin.ext ?_)
    have hb := hc (b.cast h.1)
    show (ix2 r n (b.cast h.1)).val - Host.clampedStart (⟨2, ![A, C]⟩ : Shape) (⟨2, ![B, C]⟩ : Shape) h.1 st (b.cast h.1) = _
    rw [hb]
    match b with
    | ⟨0, _⟩ => rfl
    | ⟨1, _⟩ => rfl
  · rw [dif_neg hr, dif_neg]
    intro hin
    have h0 := (hin (0 : Fin 2)).2
    rw [hc] at h0
    exact hr ((Nat.zero_add B) ▸ h0)

end

/-- An entry of the projection: the column's weight under its segment, zero elsewhere. -/
theorem proj_at (g : S240.Idx → EReal) (s : IVec S240 32) (k : Fin 240) (n : Fin 48) :
    proj (F := Ideal) g s (ix2 k n) = (if s (ix1 k) = BitVec.ofNat 32 n.val then 1 else 0) * g (ix1 k) := by
  have e : proj (F := Ideal) g s (ix2 k n)
      = (FloatOps.uitofp (F := Ideal) .f32 (IntOp.cmpi .eq (s (ix1 k)) (BitVec.ofNat 32 n.val)) : EReal) * g (ix1 k) := by
    show (FloatOps.uitofp (F := Ideal) .f32 (IntOp.cmpi .eq (broadcastInDim _ _ _ (broadcastInDim _ _ _ s) (ix2 k n))
      (broadcastInDim _ _ _ (broadcastInDim _ _ _ _) (ix2 k n))) : EReal) * broadcastInDim _ _ _ (broadcastInDim _ _ _ g) (ix2 k n) = _
    rw [rows_at _ _ s, cols_at, rows_at _ _ g]
    rfl
  rw [e]
  congr 1
  by_cases h : s (ix1 k) = BitVec.ofNat 32 n.val
  · rw [if_pos h, StableHlo.Predicate.cmpi_eq_iff.mpr h]
    show (((1#1 : BitVec 1).toNat : ℝ) : EReal) = 1
    norm_num
  · rw [if_neg h, show IntOp.cmpi .eq (s (ix1 k)) (BitVec.ofNat 32 n.val) = 0#1 from
      (show ∀ v : BitVec 1, v ≠ 1#1 → v = 0#1 by decide) _ fun hh => h (StableHlo.Predicate.cmpi_eq_iff.mp hh)]
    show (((0#1 : BitVec 1).toNat : ℝ) : EReal) = 0
    norm_num

end Cert.KernelIdeal.Seg

end
-- ==== Proof.KerVal.lean ====
module

public import proofs.«01_k».proof.Proof.HostVal
public import Idealize.ShloMosaic.Lib.Pipeline.ValueKit
public import Idealize.ShloMosaic.Lib.MatmulPlain

@[expose] public section

noncomputable section

namespace Cert.KernelIdeal.Seg

open Idealize.ShloMosaic Idealize.ShloMosaic.TcCoe Idealize.SL.Sem Idealize.ShloMosaic.Tactic
open Idealize.ShloMosaic.StableHlo (held after seq)
open Cert.KernelIdeal.Gen

/-! ## The buffers along the program, read -/

section
variable {F : FTy → Type} [FloatOps F] (m : (ℓ : Loc nD τ sig) → Buf (Elt F) ℓ) (d : Dev nD)

/-- The call reads the argument and the gathered weights. -/
theorem V1_arg0 : V1 m d (dv main_arg0) = m (d, dv main_arg0) := by unfold V1 pre; after_results <;> rfl
theorem V1_v6 : V1 m d (dv main_v6) = gathered (F := F) (m (d, dv main_arg1)) := by unfold V1 pre; after_results <;> rfl

/-- The region reads the argument and the projection. -/
theorem V3_arg0 : V3 m d (dv main_arg0) = m (d, dv main_arg0) := by
  have h3 : V3 m d (dv main_arg0) = V2 m d (dv main_arg0) := by unfold V3 mid; after_results <;> rfl
  exact h3.trans ((Function.update_of_ne (by decide) _ _).trans (V1_arg0 m d))

theorem V2_arg1 : V2 m d (dv main_arg1) = m (d, dv main_arg1) := by
  have h1 : V1 m d (dv main_arg1) = m (d, dv main_arg1) := by unfold V1 pre; after_results <;> rfl
  exact (Function.update_of_ne (by decide) _ _).trans h1
theorem V2_arg2 : V2 m d (dv main_arg2) = m (d, dv main_arg2) := by
  have h1 : V1 m d (dv main_arg2) = m (d, dv main_arg2) := by unfold V1 pre; after_results <;> rfl
  exact (Function.update_of_ne (by decide) _ _).trans h1

theorem V3_v17 : V3 m d (dv main_v17) = proj (F := F) (m (d, dv main_arg1)) (m (d, dv main_arg2)) := by
  have h3 : V3 m d (dv main_v17) = proj (F := F) (V2 m d (dv main_arg1)) (V2 m d (dv main_arg2)) := by
    unfold V3 mid; after_results <;> rfl
  rw [h3, V2_arg1, V2_arg2]

/-- The call's result is left alone after it. -/
theorem V4_v7 : V4 m d (dv main_v7) = want (F := F) (m (d, dv main_arg0)) (gathered (F := F) (m (d, dv main_arg1))) := by
  have h3 : V3 m d (dv main_v7) = V2 m d (dv main_v7) := by unfold V3 mid; after_results <;> rfl
  have h2 : V2 m d (dv main_v7) = want (F := F) (V1 m d (dv main_arg0)) (V1 m d (dv main_v6)) := Function.update_self _ _ _
  rw [V4_keeps m d main_v7 (by decide), h3, h2, V1_arg0, V1_v6]

/-- The two numbers of the place where rows are put are zero. -/
theorem zero_row (W : Valuation τ sig (Elt F)) : (after [StableHlo.nullary main_c_2 (constantI S_ 32 0#32), StableHlo.nullary main_c_3 (constantI S_ 32 0#32)] W
    (dv main_c_2) : IVec S_ 32) = constantI S_ 32 0#32 := by
  after_results <;> rfl
theorem zero_col (W : Valuation τ sig (Elt F)) : (after [StableHlo.nullary main_c_2 (constantI S_ 32 0#32), StableHlo.nullary main_c_3 (constantI S_ 32 0#32)] W
    (dv main_c_3) : IVec S_ 32) = constantI S_ 32 0#32 := by
  after_results <;> rfl

/-- The last line: the SparseCore's rows put over the first of the TensorCore's. -/
theorem post_v19 (W : Valuation τ sig (Elt F)) : ∃ st : Fin 2 → ℤ, (∀ a, st a = 0) ∧ after post W (dv main_v19)
    = Host.dynamicUpdateSlice (W (dv main_v18) : Vec F S100000x48 .f32) (W (dv main_v7) : Vec F S9600x48 .f32) st updateFits_S100000x48_S9600x48 := by
  unfold post
  after_results
  refine ⟨_, fun a => ?_, rfl⟩
  match a with
  | ⟨0, _⟩ =>
    have h := congrFun (zero_row W) (Shape.Idx.first h_S_)
    exact congrArg BitVec.toInt h
  | ⟨1, _⟩ =>
    have h := congrFun (zero_col W) (Shape.Idx.first h_S_)
    exact congrArg BitVec.toInt h

/-- The result: the SparseCore's rows first, the TensorCore's after them. -/
theorem V5_v19 (r : Fin 100000) (n : Fin 48) : (V5 m d (dv main_v19) : Vec F S100000x48 .f32) (ix2 r n)
    = if hr : r.val < 9600 then (V4 m d (dv main_v7) : Vec F S9600x48 .f32) (ix2 ⟨r.val, hr⟩ n) else (V4 m d (dv main_v18) : Vec F S100000x48 .f32) (ix2 r n) := by
  obtain ⟨st, hst, h⟩ := post_v19 (V4 m d)
  exact (congrFun h (ix2 r n)).trans (update_at _ _ st hst _ r n)

end

/-! ## The TensorCore's rows -/

/-- The body's product at an entry of its block. -/
theorem pay_at (x : Vec Ideal S800x240 .f32) (p : Vec Ideal S240x48 .f32) (r : Fin 800) (n : Fin 48) :
    k1_pay1 (F := Ideal) x p (ix2 r n) = ∑ k : Fin 240, (x (ix2 r k) * x (ix2 r k)) * p (ix2 k n) := by
  have h : k1_pay1 (F := Ideal) x p
      = FloatOps.matmul (F := Ideal) (DotDims.plain 800 240 48) none (mulf x x) (shapeCast S240x48 p shapeCasts_S240x48_S240x48) (constant S800x48 .f32 0x00000000#32) := rfl
  have hz : (constant (F := Ideal) S800x48 .f32 0x00000000#32 : FVec Ideal S800x48 .f32) (ix2 r n) = (0 : EReal) := Ideal.ofBits_zero_f32
  have hm := Ideal.matmul_plain_apply (M := 800) (K := 240) (N := 48) none (mulf x x : FVec Ideal S800x240 .f32)
    (shapeCast S240x48 p shapeCasts_S240x48_S240x48 : FVec Ideal S240x48 .f32) (constant (F := Ideal) S800x48 .f32 0x00000000#32) r n
  refine (congrFun h _).trans (hm.trans ?_)
  refine (congrArg₂ (· + ·) hz (Finset.sum_congr rfl fun k _ => ?_)).trans (zero_add _)
  rw [shapeCast_self]
  rfl

end Cert.KernelIdeal.Seg

end
-- ==== Proof.TcVal.lean ====
module

public import proofs.«01_k».proof.Proof.KerVal

@[expose] public section

noncomputable section

namespace Cert.KernelIdeal.Seg

open Idealize.ShloMosaic Idealize.ShloMosaic.TcCoe Idealize.SL.Sem Idealize.ShloMosaic.Tactic
open Idealize.ShloMosaic.StableHlo (held after seq)
open Cert.KernelIdeal.Gen

/-! ## The TensorCore's result, whole -/

/-- What one entry of the TensorCore's result sums. -/
def tcSum (X : S100000x240.Idx → EReal) (P : S240x48.Idx → EReal) (r : Fin 100000) (n : Fin 48) : EReal :=
  ∑ k : Fin 240, (X (ix2 r k) * X (ix2 r k)) * P (ix2 k n)

/-- The blocks' places: -/
theorem idx_at : ∀ t : Fin cfg1.N, win1_0.index t = ![t.val + 12, 0] ∧ win1_1.index t = ![0, 0] ∧ win1_2.index t = ![t.val + 12, 0] :=
  (by decide +kernel : ∀ t : Fin grid1.N, _)

variable (W : Dev nD → Valuation τ sig (Elt Ideal)) (c : Dev nD)

/-- the argument's block holds its rows, -/
theorem xBlk_at (t : Fin cfg1.N) (r : Fin 800) (k : Fin 240) (h : 9600 + 800 * t.val + r.val < 100000) :
    (xBlk W c t : S800x240.Idx → EReal) (ix2 r k) = (W c (dv main_arg0) : S100000x240.Idx → EReal) (ix2 ⟨9600 + 800 * t.val + r.val, h⟩ k) := by
  obtain ⟨h0, -, -⟩ := idx_at t
  blk_ext [xBlk, h0]

/-- the projection's block is all of it. -/
theorem pBlk_at (t : Fin cfg1.N) (k : Fin 240) (n : Fin 48) :
    (pBlk W c t : S240x48.Idx → EReal) (ix2 k n) = (W c (dv main_v17) : S240x48.Idx → EReal) (ix2 k n) := by
  obtain ⟨-, h1, -⟩ := idx_at t
  blk_ext [pBlk, h1]

/-- What the body leaves, at an entry of its block. -/
theorem tcOut_at (x : Vec Ideal S800x240 .f32) (p : Vec Ideal S240x48 .f32) (y : S800x48.Idx) : tcOut x p y = k1_pay1 (F := Ideal) x p y := by
  unfold tcOut
  frame_out

/-- Every row from the twelfth block on is written, by its block's point. -/
theorem final : (dats W 0 c).arrAt 2 cfg1.N
    = fun i => if 9600 ≤ ((i : S100000x48.Idx) 0 : ℕ) then
        tcSum (W c (dv main_arg0) : S100000x240.Idx → EReal) (W c (dv main_v17) : S240x48.Idx → EReal) ((i : S100000x48.Idx) 0) ((i : S100000x48.Idx) 1)
      else (dats W 0 c).A 2 i := by
  refine (dats W 0 c).arrAt_eq_of_coversWhere 2 _ (fun β => 12 ≤ β (0 : Fin 2)) (by decide +kernel) (fun t hf y => ?_)
    (fun j => by blk_simp [Pipeline.Window.cell_apply]; omega)
  blk_simp
  rw [after_2, tcOut_at]
  have h := pay_at (xBlk W c t) (pBlk W c t) (y 0) (y 1)
  rw [← eq_ix2 (y : S800x48.Idx)] at h
  have ht : t.val < 113 := t.isLt
  have hy : ((y : S800x48.Idx) 0).val < 800 := ((y : S800x48.Idx) 0).isLt
  have hr : 9600 + 800 * t.val + ((y : S800x48.Idx) 0).val < 100000 := by omega
  obtain ⟨-, -, h2⟩ := idx_at t
  have e0 : (((win1_2.blk t).view.emb y : S100000x48.Idx) 0) = (⟨9600 + 800 * t.val + ((y : S800x48.Idx) 0).val, hr⟩ : Fin 100000) := by
    refine Fin.ext ?_
    blk_simp [h2]
    show (t.val + 12) * 800 + ((y : S800x48.Idx) 0).val = 9600 + 800 * t.val + ((y : S800x48.Idx) 0).val
    omega
  have e1 : (((win1_2.blk t).view.emb y : S100000x48.Idx) 1) = (y : S800x48.Idx) 1 := by
    refine Fin.ext ?_
    blk_simp [h2]
  refine h.trans ?_
  refine Eq.trans (b := tcSum (W c (dv main_arg0) : S100000x240.Idx → EReal) (W c (dv main_v17) : S240x48.Idx → EReal)
    ⟨9600 + 800 * t.val + ((y : S800x48.Idx) 0).val, hr⟩ ((y : S800x48.Idx) 1)) ?_ (congrArg₂ (tcSum _ _) e0 e1).symm
  unfold tcSum
  refine Finset.sum_congr rfl fun k _ => ?_
  rw [xBlk_at W c t ((y : S800x48.Idx) 0) k hr, pBlk_at W c t k ((y : S800x48.Idx) 1)]

end Cert.KernelIdeal.Seg

end
-- ==== Proof.RefVal.lean ====
module

public import proofs.«01_k».proof.Proof.Laid
public import proofs.«01_k».proof.Proof.Gen.ReferenceIdeal

@[expose] public section

noncomputable section

namespace Cert.ReferenceIdeal.Val

open Idealize.ShloMosaic Idealize.ShloMosaic.TcCoe Idealize.SL.Sem
open Cert.ReferenceIdeal Cert.ReferenceIdeal.Gen
open Cert.KernelIdeal.Seg (entry segOf segOf_lt col_at cols_at)

/-! ## The scatter's updates -/

abbrev dims : ScatterDims S4800000 S24000000x1 S24000000 := scatter_S4800000_S24000000x1_S24000000_n_0_0_1

/-- An update starts at its index word, read signed: -/
theorem start_at (idx : IVec S24000000x1 32) (j : S24000000.Idx) : dims.start j idx 0 = (idx (ix2 (j 0) (0 : Fin 1))).toInt := by
  have hm : (0 : Fin 1) ∈ dims.scatterDimsToOperandDims := List.mem_singleton.mpr rfl
  unfold ScatterDims.start
  rw [dif_pos hm]
  refine congrArg (fun i => (idx i).toInt) (funext fun b => Fin.ext ?_)
  match b with
  | ⟨0, _⟩ => rfl
  | ⟨1, _⟩ => rfl

/-- its window is the one element. -/
theorem window_at (j : S24000000.Idx) : dims.window j 0 = 0 := by
  unfold ScatterDims.window
  exact dif_neg fun h => (of_decide_eq_true (List.mem_filter.mp h).2) (List.mem_singleton.mpr rfl)

/-- So it lands at the element its index word names. -/
theorem lands (idx : IVec S24000000x1 32) (j : S24000000.Idx) (i : Fin 4800000) :
    dims.resultIdx? j idx = some (ix1 i) ↔ (idx (ix2 (j 0) (0 : Fin 1))).toInt = (i.val : Int) := by
  have hi := i.isLt
  have hs := start_at idx j
  have hw := window_at j
  unfold ScatterDims.resultIdx?
  constructor
  · intro h
    split at h
    · rename_i hin
      have h0 := congrArg Fin.val (congrFun (Option.some.inj h) 0)
      have h1 := hin 0
      change (dims.start j idx 0 + (dims.window j 0 : Int)).toNat = i.val at h0
      rw [hs, hw] at h0 h1
      omega
    · cases h
  · intro h
    have hin : ∀ a : Fin 1, 0 ≤ dims.start j idx a + (dims.window j a : Int) ∧ dims.start j idx a + (dims.window j a : Int) < (S4800000.size a : Int) := by
      intro a
      obtain rfl : a = 0 := Subsingleton.elim _ _
      rw [hs, hw, h]
      show _ ∧ _ < (4800000 : Int)
      omega
    rw [dif_pos hin]
    refine congrArg some (funext fun a => Fin.ext ?_)
    obtain rfl : a = 0 := Subsingleton.elim _ _
    show (dims.start j idx 0 + (dims.window j 0 : Int)).toNat = i.val
    rw [hs, hw, h]
    omega

/-! ## The reference's result at an entry -/

variable (X : S100000x240.Idx → EReal) (g : S240.Idx → EReal) (s : S240.Idx → BitVec 32)

/-- The weighted squares, -/
def upd : S100000x240.Idx → EReal :=
  mulf (F := Ideal) (φ := .f32) (mulf (F := Ideal) (φ := .f32) X X) (broadcastInDim S100000x240 ![0, 1] bcast_S1x240_S100000x240_0_1 (broadcastInDim S1x240 ![1] bcast_S240_S1x240_1 g))
/-- the number of a row, -/
def rowNo : IVec S100000x240 32 := broadcastInDim S100000x240 ![0] bcast_S100000_S100000x240_0 (iotaInDim S100000 32 0)
/-- the segment of a column, -/
def colNo : IVec S100000x240 32 := broadcastInDim S100000x240 ![0, 1] bcast_S1x240_S100000x240_0_1 (shapeCast S1x240 s shapeCasts_S240_S1x240)
/-- the words the updates are sent by, -/
def words : IVec S24000000 32 :=
  addi (muli (shapeCast S24000000 rowNo shapeCasts_S100000x240_S24000000) (broadcastInDim S24000000 ![] bcast_S_S24000000 (constantI S_ 32 48#32)))
    (shapeCast S24000000 (colNo s) shapeCasts_S100000x240_S24000000)
/-- and the result. -/
def result : S100000x48.Idx → EReal :=
  shapeCast S100000x48 (Host.scatterAdd (F := Ideal) (φ := .f32) dims (broadcastInDim S4800000 ![] bcast_S_S4800000 (constant S_ .f32 0x00000000#32))
    (broadcastInDim S24000000x1 ![0] bcast_S24000000_S24000000x1_0 (words s)) (shapeCast S24000000 (upd X g) shapeCasts_S100000x240_S24000000)) shapeCasts_S4800000_S100000x48

theorem upd_at (r : Fin 100000) (k : Fin 240) : upd X g (ix2 r k) = X (ix2 r k) * X (ix2 r k) * g (ix1 k) := by
  show X (ix2 r k) * X (ix2 r k) * broadcastInDim _ _ _ (broadcastInDim _ _ _ g) (ix2 r k) = _
  rw [cols_at _ _ g]

theorem rowNo_at (r : Fin 100000) (k : Fin 240) : rowNo (ix2 r k) = BitVec.ofNat 32 r.val := by
  unfold rowNo
  rw [broadcastInDim_apply _ _ _ _ (ix1 r) fun a => ?_]
  · rfl
  · obtain rfl : a = 0 := Subsingleton.elim _ _
    rfl

theorem colNo_at (r : Fin 100000) (k : Fin 240) : colNo s (ix2 r k) = s (ix1 k) := by
  unfold colNo
  rw [broadcastInDim_apply _ _ _ _ (ix2 (0 : Fin 1) k) fun a => ?_]
  · refine shapeCast_apply s _ _ _ ?_
    rw [Shape.rowMajor_val_two, Shape.rowMajor_val_one]
    show k.val = 0 * 240 + k.val
    omega
  · match a with
    | ⟨0, _⟩ => rfl
    | ⟨1, _⟩ => rfl

/-- The word of row `r` and column `k`. -/
theorem word_ix (hs : ∀ k : Fin 240, s (ix1 k) = BitVec.ofNat 32 (segOf k.val)) (r : Fin 100000) (k : Fin 240) :
    rowNo (ix2 r k) * 48#32 + colNo s (ix2 r k) = BitVec.ofNat 32 (r.val * 48 + segOf k.val) := by
  rw [rowNo_at, colNo_at, hs, BitVec.ofNat_add, BitVec.ofNat_mul]

/-- An update's word, by the row and the column it comes from. -/
theorem word_at (hs : ∀ k : Fin 240, s (ix1 k) = BitVec.ofNat 32 (segOf k.val)) (j : S24000000.Idx) (p : S100000x240.Idx)
    (hp : Shape.reshapeEquiv shapeCasts_S100000x240_S24000000 j = p) :
    (words s j).toInt = ((p 0).val * 48 + segOf (p 1).val : ℕ) := by
  have h0 : (p 0).val < 100000 := (p 0).isLt
  have h1 : segOf (p 1).val < 48 := segOf_lt (p 1).isLt
  have e : words s j = rowNo p * 48#32 + colNo s p := by
    rw [← hp]
    rfl
  have e' : rowNo p * 48#32 + colNo s p = BitVec.ofNat 32 ((p 0).val * 48 + segOf (p 1).val) := by
    have h := word_ix s hs (p 0) (p 1)
    rwa [← eq_ix2 p] at h
  rw [e, e', StableHlo.Predicate.toInt_ofNat_small _ (by omega)]

/-- A scatter's entry: what was there and the updates that land on it. -/
theorem scatterAdd_at {s si su : Shape} (d : ScatterDims s si su) (x : s.Idx → EReal) (idx : IVec si 32) (u : su.Idx → EReal) (i : s.Idx) :
    Host.scatterAdd (F := Ideal) (φ := .f32) d x idx u i = x i + ∑ j : su.Idx, if d.resultIdx? j idx = some i then u j else 0 := by
  rw [← Finset.sum_filter]
  rfl

/-- The updates of entry `(r, n)`: row `r`'s columns of segment `n`. -/
theorem landed (hs : ∀ k : Fin 240, s (ix1 k) = BitVec.ofNat 32 (segOf k.val)) (r : Fin 100000) (n : Fin 48) (i : Fin 4800000)
    (hi : i.val = r.val * 48 + n.val) (j : S24000000.Idx) :
    dims.resultIdx? j (broadcastInDim S24000000x1 ![0] bcast_S24000000_S24000000x1_0 (words s)) = some (ix1 i)
      ↔ (Shape.reshapeEquiv shapeCasts_S100000x240_S24000000 j 0).val = r.val
        ∧ segOf (Shape.reshapeEquiv shapeCasts_S100000x240_S24000000 j 1).val = n.val := by
  have h1 : segOf (Shape.reshapeEquiv shapeCasts_S100000x240_S24000000 j 1).val < 48 := segOf_lt (Shape.reshapeEquiv shapeCasts_S100000x240_S24000000 j 1).isLt
  have hn := n.isLt
  have h2 := word_at s hs j _ rfl
  have h3 : broadcastInDim S24000000x1 ![0] bcast_S24000000_S24000000x1_0 (words s) (ix2 (j 0) (0 : Fin 1)) = words s j :=
    (col_at bcast_S24000000_S24000000x1_0 (words s) (j 0)).trans (congrArg (words s) (eq_ix1 j).symm)
  rw [lands, h3, h2, hi]
  omega

/-- A sum over the rows and columns, of one row's columns of one segment. -/
theorem sum_row {M : Type} [AddCommMonoid M] {R K : ℕ} (f : (⟨2, ![R, K]⟩ : Shape).Idx → M) (P : ℕ → Prop) [DecidablePred P] (r : Fin R) :
    (∑ p : (⟨2, ![R, K]⟩ : Shape).Idx, if (p 0).val = r.val ∧ P (p 1).val then f p else 0) = ∑ k : Fin K, if P k.val then f (ix2 r k) else 0 := by
  rw [sum_idx2, Finset.sum_eq_single r]
  · exact Finset.sum_congr rfl fun k _ => if_congr ⟨fun h => h.2, fun h => ⟨rfl, h⟩⟩ rfl rfl
  · intro b _ hb
    exact Finset.sum_eq_zero fun k _ => if_neg fun h => hb (Fin.ext h.1)
  · exact fun h => absurd (Finset.mem_univ r) h

/-- **The reference's entry is the sum over its segment's columns.** -/
theorem result_at (hs : ∀ k : Fin 240, s (ix1 k) = BitVec.ofNat 32 (segOf k.val)) (r : Fin 100000) (n : Fin 48) :
    result X g s (ix2 r n) = entry X g r n.val := by
  have hr := r.isLt
  have hn := n.isLt
  have hlt : r.val * 48 + n.val < 4800000 := by omega
  unfold result
  refine (Routing.cast12 _ shapeCasts_S4800000_S100000x48 r n ⟨r.val * 48 + n.val, hlt⟩ rfl).trans ?_
  refine (scatterAdd_at dims _ _ _ _).trans ?_
  have e0 : broadcastInDim S4800000 ![] bcast_S_S4800000 (constant (F := Ideal) S_ .f32 0x00000000#32) (ix1 ⟨r.val * 48 + n.val, hlt⟩) = 0 :=
    (Routing.bc0 _ _ _).trans Ideal.ofBits_zero_f32
  refine (congrArg₂ (fun a b : EReal => a + b) e0 ((Finset.sum_congr rfl fun j _ => if_congr (landed s hs r n ⟨_, hlt⟩ rfl j) rfl rfl).trans
    (Equiv.sum_comp (Shape.reshapeEquiv shapeCasts_S100000x240_S24000000)
      fun p : S100000x240.Idx => if (p 0).val = r.val ∧ segOf (p 1).val = n.val then upd X g p else 0))).trans ?_
  rw [zero_add]
  refine (sum_row (upd X g) (fun k => segOf k = n.val) r).trans ?_
  unfold entry
  exact Finset.sum_congr rfl fun k _ => if_congr Iff.rfl (upd_at X g r k) rfl

end Cert.ReferenceIdeal.Val

end
-- ==== Proof.Value.lean ====
module

public import proofs.«01_k».proof.Proof.TcVal
public import proofs.«01_k».proof.Proof.RefVal

@[expose] public section

noncomputable section

namespace Cert.KernelIdeal.Seg

open Idealize.ShloMosaic Idealize.ShloMosaic.TcCoe Idealize.SL.Sem
open Cert.KernelIdeal.Gen

/-! ## The kernel's result, entry by entry -/

/-- Words of two segments agree when the segments do. -/
theorem word_eq_iff {a b : ℕ} (ha : a < 48) (hb : b < 48) : BitVec.ofNat 32 a = BitVec.ofNat 32 b ↔ a = b := by
  constructor
  · intro h
    have h' := congrArg BitVec.toNat h
    rw [BitVec.toNat_ofNat, BitVec.toNat_ofNat] at h'
    omega
  · rintro rfl
    rfl

/-- The TensorCore's sum, the projection holding the segments' weights, is the entry. -/
theorem tcSum_eq (X : S100000x240.Idx → EReal) (g : S240.Idx → EReal) (s : IVec S240 32)
    (hs : ∀ k : Fin 240, s (ix1 k) = BitVec.ofNat 32 (segOf k.val)) (r : Fin 100000) (n : Fin 48) :
    tcSum X (proj (F := Ideal) g s) r n = entry X g r n.val := by
  unfold tcSum entry
  refine Finset.sum_congr rfl fun k _ => ?_
  rw [proj_at, hs k]
  by_cases h : segOf k.val = n.val
  · rw [if_pos h, if_pos ((word_eq_iff (segOf_lt k.isLt) n.isLt).mpr h), one_mul]
  · rw [if_neg h, if_neg fun hh => h ((word_eq_iff (segOf_lt k.isLt) n.isLt).mp hh), zero_mul, mul_zero]

/-- A column's weight is the one gathered for its segment. -/
theorem gathered_eq (g : S240.Idx → EReal) (s : IVec S240 32) (hs : ∀ k : Fin 240, s (ix1 k) = BitVec.ofNat 32 (segOf k.val))
    (hw : ∀ a b : Fin 240, s (ix1 a) = s (ix1 b) → g (ix1 a) = g (ix1 b)) (n : Fin 48) (k : Fin 240) (h : segOf k.val = n.val) :
    g (ix1 k) = gathered (F := Ideal) g (ix1 n) := by
  have hlt := start_lt n.isLt
  have hst : start n.val < 240 := by omega
  have hseg : segOf (start n.val) = n.val := (segOf_eq_iff hst n.isLt).mpr ⟨le_rfl, by omega⟩
  rw [gathered_at (F := Ideal) g n ⟨start n.val, hst⟩ rfl]
  refine hw k ⟨start n.val, hst⟩ ?_
  rw [hs k, hs ⟨start n.val, hst⟩, h]
  exact congrArg (BitVec.ofNat 32) hseg.symm

section
variable (m : (ℓ : Loc nD τ sig) → Buf (Elt Ideal) ℓ) (d : Dev nD)

/-- The three arguments. -/
abbrev aX : S100000x240.Idx → EReal := m (d, dv main_arg0)
abbrev aG : S240.Idx → EReal := m (d, dv main_arg1)
abbrev aS : IVec S240 32 := m (d, dv main_arg2)

/-- A row of the TensorCore's part. -/
theorem V4_v18 (r : Fin 100000) (hr : 9600 ≤ r.val) (n : Fin 48) :
    (V4 m d (dv main_v18) : S100000x48.Idx → EReal) (ix2 r n) = tcSum (aX m d) (proj (F := Ideal) (aG m d) (aS m d)) r n := by
  have h : V4 m d (dv main_v18) = (dats (V3 m) 0 d).arrAt 2 cfg1.N :=
    Pipeline.afterRegion_arr (dats (V3 m) 0 d) (V3 m d) launch1.win.arr_inj 2
  have hf := congrFun (h.trans (final (V3 m) d)) (ix2 r n)
  refine hf.trans ((if_pos hr).trans ?_)
  rw [V3_arg0, V3_v17]
  rfl

/-- An entry of the result, under the precondition's two facts. -/
theorem V5_entry (hs : ∀ k : Fin 240, aS m d (ix1 k) = BitVec.ofNat 32 (segOf k.val))
    (hw : ∀ a b : Fin 240, aS m d (ix1 a) = aS m d (ix1 b) → aG m d (ix1 a) = aG m d (ix1 b)) (r : Fin 100000) (n : Fin 48) :
    (V5 m d (dv main_v19) : S100000x48.Idx → EReal) (ix2 r n) = entry (aX m d) (aG m d) r n.val := by
  refine (V5_v19 m d r n).trans ?_
  by_cases hr : r.val < 9600
  · rw [dif_pos hr, V4_v7]
    exact want_eq (aX m d) (aG m d) (gathered (F := Ideal) (aG m d)) (gathered_eq (aG m d) (aS m d) hs hw) r hr n
  · rw [dif_neg hr]
    exact (V4_v18 m d r (Nat.le_of_not_lt hr) n).trans (tcSum_eq _ _ _ hs r n)

/-- The whole result is the reference's. -/
theorem V5_result (hs : ∀ k : Fin 240, aS m d (ix1 k) = BitVec.ofNat 32 (segOf k.val))
    (hw : ∀ a b : Fin 240, aS m d (ix1 a) = aS m d (ix1 b) → aG m d (ix1 a) = aG m d (ix1 b)) :
    (V5 m d (dv main_v19) : S100000x48.Idx → EReal) = Cert.ReferenceIdeal.Val.result (aX m d) (aG m d) (aS m d) := by
  funext i
  have h1 := V5_entry m d hs hw (i 0) (i 1)
  have h2 := Cert.ReferenceIdeal.Val.result_at (aX m d) (aG m d) (aS m d) hs (i 0) (i 1)
  have h := h1.trans h2.symm
  rwa [← eq_ix2 i] at h

end

/-- Under the precondition the kernel's idealization and the reference's end at the same result, and keep their arguments. -/
theorem algebraic : Cert.algebraic_KernelIdeal_ReferenceIdeal_pre_segments_laid (hKernelIdeal := Cert.KernelIdeal.Gen.facts)
    (hReferenceIdeal := Cert.ReferenceIdeal.Gen.facts) (hPre_segments_laid := Cert.Pre_segments_laid.Gen.facts) := by
  intro m g m' g' hpre heq
  refine ⟨fun c => V5 m c (dv main_v19), ?_, ?_⟩
  · refine (θ_run Cert.KernelIdeal.defs _ _).mono (fun _ h c => ?_) (run_main m g)
    exact ⟨h.1 c main_v19 rfl, (h.1 c main_arg0 rfl).trans (V5_arg m c _ (.inl rfl)), (h.1 c main_arg1 rfl).trans (V5_arg m c _ (.inr (.inl rfl))),
      (h.1 c main_arg2 rfl).trans (V5_arg m c _ (.inr (.inr rfl)))⟩
  · refine (θ_run Cert.ReferenceIdeal.defs _ _).mono (fun _ h c => ?_) (Cert.ReferenceIdeal.Value.run (F := Ideal) m' g')
    obtain ⟨h0, h1, h2⟩ := heq c
    have hs := @laid_seg Cert.Pre_segments_laid.Gen.facts (aX m c) (aG m c) (aS m c) (hpre c).1
    have hw := @laid_wt Cert.Pre_segments_laid.Gen.facts (aX m c) (aG m c) (aS m c) (hpre c).2
    refine ⟨?_, (h c).2⟩
    refine (h c).1.trans ?_
    rw [h0, h1, h2]
    exact (V5_result m c hs hw).symm

end Cert.KernelIdeal.Seg

end
-- ==== Proof.lean ====
/- The proof of the certificate's claims: the frames (Proof/Frames.lean), and what the kernel computes (Proof/Value.lean). -/
module

public import proofs.«01_k».proof.Defs
public import proofs.«01_k».proof.Proof.Frames
public import proofs.«01_k».proof.Proof.Value

@[expose] public section

noncomputable section

namespace Cert.Proof

open Idealize.ShloMosaic Idealize.SL.Sem

/-- Every claim: the frames hold whatever the precondition, and the value is `Value.lean`'s. -/
theorem claim : Cert.Claim :=
  ⟨Cert.Kernel.Gen.facts, Cert.KernelIdeal.Gen.facts, Cert.ReferenceIdeal.Gen.facts, Cert.Pre_segments_laid.Gen.facts,
    Cert.KernelIdeal.Seg.frame_kernel, Cert.KernelIdeal.Seg.frame_ideal, fun m g _ => Cert.KernelIdeal.Seg.frame_ideal m g trivial,
    Cert.KernelIdeal.Seg.frame_ref, fun m g _ => Cert.KernelIdeal.Seg.frame_ref m g trivial, trivial, Cert.KernelIdeal.Seg.algebraic⟩

end Cert.Proof

end
